-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn_down_bwd [hPre_finite_ffn_down_bwd : Cert.Pre_finite_ffn_down_bwd.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn_down_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn_down_bwd [hPre_finite_ffn_down_bwd : Cert.Pre_finite_ffn_down_bwd.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn_down_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 [hPre_slots_w_attn_proj : Cert.Pre_slots_w_attn_proj.Facts] (m : (ℓ : Loc Cert.Kernel20.nD Cert.Kernel20.τ Cert.Kernel20.sig) → Buf (Elt Bits) ℓ) : Prop :=
  ∀ c : Dev Cert.Kernel20.nD,
    (Cert.Pre_slots_w_attn_proj.fn (F := Bits) (m ((c.tc : Thread Cert.Kernel20.nD Cert.Kernel20.τ).loc Cert.Kernel20.main_arg0)) (m ((c.tc : Thread Cert.Kernel20.nD Cert.Kernel20.τ).loc Cert.Kernel20.main_arg1)) (m ((c.tc : Thread Cert.Kernel20.nD Cert.Kernel20.τ).loc Cert.Kernel20.main_arg2)) (m ((c.tc : Thread Cert.Kernel20.nD Cert.Kernel20.τ).loc Cert.Kernel20.main_arg3)) (m ((c.tc : Thread Cert.Kernel20.nD Cert.Kernel20.τ).loc Cert.Kernel20.main_arg4)) (m ((c.tc : Thread Cert.Kernel20.nD Cert.Kernel20.τ).loc Cert.Kernel20.main_arg5)) (m ((c.tc : Thread Cert.Kernel20.nD Cert.Kernel20.τ).loc Cert.Kernel20.main_arg6))) = (fun _ => 1#1)

def Pre_Kernel20Ideal [hPre_slots_w_attn_proj : Cert.Pre_slots_w_attn_proj.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_slots_w_attn_proj.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_slots_w_attn_proj [hPre_slots_w_attn_proj : Cert.Pre_slots_w_attn_proj.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_slots_w_attn_proj.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6))) = (fun _ => 1#1)

def Pre_Kernel21 [hPre_slots_w_out : Cert.Pre_slots_w_out.Facts] (m : (ℓ : Loc Cert.Kernel21.nD Cert.Kernel21.τ Cert.Kernel21.sig) → Buf (Elt Bits) ℓ) : Prop :=
  ∀ c : Dev Cert.Kernel21.nD,
    (Cert.Pre_slots_w_out.fn (F := Bits) (m ((c.tc : Thread Cert.Kernel21.nD Cert.Kernel21.τ).loc Cert.Kernel21.main_arg0)) (m ((c.tc : Thread Cert.Kernel21.nD Cert.Kernel21.τ).loc Cert.Kernel21.main_arg1)) (m ((c.tc : Thread Cert.Kernel21.nD Cert.Kernel21.τ).loc Cert.Kernel21.main_arg2)) (m ((c.tc : Thread Cert.Kernel21.nD Cert.Kernel21.τ).loc Cert.Kernel21.main_arg3)) (m ((c.tc : Thread Cert.Kernel21.nD Cert.Kernel21.τ).loc Cert.Kernel21.main_arg4)) (m ((c.tc : Thread Cert.Kernel21.nD Cert.Kernel21.τ).loc Cert.Kernel21.main_arg5)) (m ((c.tc : Thread Cert.Kernel21.nD Cert.Kernel21.τ).loc Cert.Kernel21.main_arg6))) = (fun _ => 1#1)

def Pre_Kernel21Ideal [hPre_slots_w_out : Cert.Pre_slots_w_out.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_slots_w_out.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_slots_w_out [hPre_slots_w_out : Cert.Pre_slots_w_out.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_slots_w_out.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6))) = (fun _ => 1#1)

def Pre_Kernel22 [hPre_slots_w_ffn_down : Cert.Pre_slots_w_ffn_down.Facts] (m : (ℓ : Loc Cert.Kernel22.nD Cert.Kernel22.τ Cert.Kernel22.sig) → Buf (Elt Bits) ℓ) : Prop :=
  ∀ c : Dev Cert.Kernel22.nD,
    (Cert.Pre_slots_w_ffn_down.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2)) (m ((c.tc : Thread Cert.Kernel22.nD Cert.Kernel22.τ).loc Cert.Kernel22.main_arg3)) (m ((c.tc : Thread Cert.Kernel22.nD Cert.Kernel22.τ).loc Cert.Kernel22.main_arg4)) (m ((c.tc : Thread Cert.Kernel22.nD Cert.Kernel22.τ).loc Cert.Kernel22.main_arg5)) (m ((c.tc : Thread Cert.Kernel22.nD Cert.Kernel22.τ).loc Cert.Kernel22.main_arg6))) = (fun _ => 1#1)

def Pre_Kernel22Ideal [hPre_slots_w_ffn_down : Cert.Pre_slots_w_ffn_down.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_slots_w_ffn_down.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5)) (m ((c.tc : Thread Cert.Kernel22Ideal.nD Cert.Kernel22Ideal.τ).loc Cert.Kernel22Ideal.main_arg6))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_slots_w_ffn_down [hPre_slots_w_ffn_down : Cert.Pre_slots_w_ffn_down.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_slots_w_ffn_down.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5)) (m ((c.tc : Thread Cert.Reference22Ideal.nD Cert.Reference22Ideal.τ).loc Cert.Reference22Ideal.main_arg6))) = (fun _ => 1#1)

def Pre_Kernel23 [hPre_slots_w_ffn_in : Cert.Pre_slots_w_ffn_in.Facts] (m : (ℓ : Loc Cert.Kernel23.nD Cert.Kernel23.τ Cert.Kernel23.sig) → Buf (Elt Bits) ℓ) : Prop :=
  ∀ c : Dev Cert.Kernel23.nD,
    (Cert.Pre_slots_w_ffn_in.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2)) (m ((c.tc : Thread Cert.Kernel23.nD Cert.Kernel23.τ).loc Cert.Kernel23.main_arg3)) (m ((c.tc : Thread Cert.Kernel23.nD Cert.Kernel23.τ).loc Cert.Kernel23.main_arg4)) (m ((c.tc : Thread Cert.Kernel23.nD Cert.Kernel23.τ).loc Cert.Kernel23.main_arg5)) (m ((c.tc : Thread Cert.Kernel23.nD Cert.Kernel23.τ).loc Cert.Kernel23.main_arg6))) = (fun _ => 1#1)

def Pre_Kernel23Ideal [hPre_slots_w_ffn_in : Cert.Pre_slots_w_ffn_in.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_slots_w_ffn_in.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_slots_w_ffn_in [hPre_slots_w_ffn_in : Cert.Pre_slots_w_ffn_in.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_slots_w_ffn_in.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5)) (m ((c.tc : Thread Cert.Reference23Ideal.nD Cert.Reference23Ideal.τ).loc Cert.Reference23Ideal.main_arg6))) = (fun _ => 1#1)

def Pre_Kernel24 [hPre_slots_w_in : Cert.Pre_slots_w_in.Facts] (m : (ℓ : Loc Cert.Kernel24.nD Cert.Kernel24.τ Cert.Kernel24.sig) → Buf (Elt Bits) ℓ) : Prop :=
  ∀ c : Dev Cert.Kernel24.nD,
    (Cert.Pre_slots_w_in.fn (F := Bits) (m ((c.tc : Thread Cert.Kernel24.nD Cert.Kernel24.τ).loc Cert.Kernel24.main_arg0)) (m ((c.tc : Thread Cert.Kernel24.nD Cert.Kernel24.τ).loc Cert.Kernel24.main_arg1)) (m ((c.tc : Thread Cert.Kernel24.nD Cert.Kernel24.τ).loc Cert.Kernel24.main_arg2)) (m ((c.tc : Thread Cert.Kernel24.nD Cert.Kernel24.τ).loc Cert.Kernel24.main_arg3)) (m ((c.tc : Thread Cert.Kernel24.nD Cert.Kernel24.τ).loc Cert.Kernel24.main_arg4)) (m ((c.tc : Thread Cert.Kernel24.nD Cert.Kernel24.τ).loc Cert.Kernel24.main_arg5)) (m ((c.tc : Thread Cert.Kernel24.nD Cert.Kernel24.τ).loc Cert.Kernel24.main_arg6))) = (fun _ => 1#1)

def Pre_Kernel24Ideal [hPre_slots_w_in : Cert.Pre_slots_w_in.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_slots_w_in.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5)) (m ((c.tc : Thread Cert.Kernel24Ideal.nD Cert.Kernel24Ideal.τ).loc Cert.Kernel24Ideal.main_arg6))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_slots_w_in [hPre_slots_w_in : Cert.Pre_slots_w_in.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_slots_w_in.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4)) (m ((c.tc : Thread Cert.Reference24Ideal.nD Cert.Reference24Ideal.τ).loc Cert.Reference24Ideal.main_arg5)) (m ((c.tc : Thread Cert.Reference24Ideal.nD Cert.Reference24Ideal.τ).loc Cert.Reference24Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_ffn_down_bwd [hKernel2Ideal : Cert.Kernel2Ideal.Facts] [hPre_finite_ffn_down_bwd : Cert.Pre_finite_ffn_down_bwd.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn_down_bwd m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_ffn_down_bwd [hReference2Ideal : Cert.Reference2Ideal.Facts] [hPre_finite_ffn_down_bwd : Cert.Pre_finite_ffn_down_bwd.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn_down_bwd m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] [hPre_slots_w_attn_proj : Cert.Pre_slots_w_attn_proj.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] [hPre_slots_w_attn_proj : Cert.Pre_slots_w_attn_proj.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Reference20Ideal_pre_slots_w_attn_proj [hReference20Ideal : Cert.Reference20Ideal.Facts] [hPre_slots_w_attn_proj : Cert.Pre_slots_w_attn_proj.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_slots_w_attn_proj m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel21 [hKernel21 : Cert.Kernel21.Facts] [hPre_slots_w_out : Cert.Pre_slots_w_out.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] [hPre_slots_w_out : Cert.Pre_slots_w_out.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Reference21Ideal_pre_slots_w_out [hReference21Ideal : Cert.Reference21Ideal.Facts] [hPre_slots_w_out : Cert.Pre_slots_w_out.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_slots_w_out m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] [hPre_slots_w_ffn_down : Cert.Pre_slots_w_ffn_down.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] [hPre_slots_w_ffn_down : Cert.Pre_slots_w_ffn_down.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Reference22Ideal_pre_slots_w_ffn_down [hReference22Ideal : Cert.Reference22Ideal.Facts] [hPre_slots_w_ffn_down : Cert.Pre_slots_w_ffn_down.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_slots_w_ffn_down m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] [hPre_slots_w_ffn_in : Cert.Pre_slots_w_ffn_in.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6))
      ∧ r.2.sem = fun _ => 0)

def quiescent_Kernel23Ideal [hKernel23Ideal : Cert.Kernel23Ideal.Facts] [hPre_slots_w_ffn_in : Cert.Pre_slots_w_ffn_in.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6))
      ∧ r.2.sem = fun _ => 0)

def quiescent_Reference23Ideal_pre_slots_w_ffn_in [hReference23Ideal : Cert.Reference23Ideal.Facts] [hPre_slots_w_ffn_in : Cert.Pre_slots_w_ffn_in.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_slots_w_ffn_in m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6))
      ∧ r.2.sem = fun _ => 0)

def quiescent_Kernel24 [hKernel24 : Cert.Kernel24.Facts] [hPre_slots_w_in : Cert.Pre_slots_w_in.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6))
      ∧ r.2.sem = fun _ => 0)

def quiescent_Kernel24Ideal [hKernel24Ideal : Cert.Kernel24Ideal.Facts] [hPre_slots_w_in : Cert.Pre_slots_w_in.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6))
      ∧ r.2.sem = fun _ => 0)

def quiescent_Reference24Ideal_pre_slots_w_in [hReference24Ideal : Cert.Reference24Ideal.Facts] [hPre_slots_w_in : Cert.Pre_slots_w_in.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_slots_w_in m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_ffn_down_bwd [hKernel2Ideal : Cert.Kernel2Ideal.Facts] [hReference2Ideal : Cert.Reference2Ideal.Facts] [hPre_finite_ffn_down_bwd : Cert.Pre_finite_ffn_down_bwd.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn_down_bwd m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_v39) = v2 c
          ∧ r.2.mem ((c.tc : Thread Cert.Reference8Ideal.nD Cert.Reference8Ideal.τ).loc Cert.Reference8Ideal.main_v41) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v28) = v0 c
          ∧ r.2.mem ((c.tc : Thread Cert.Reference14Ideal.nD Cert.Reference14Ideal.τ).loc Cert.Reference14Ideal.main_v29) = v1 c
          ∧ r.2.mem ((c.tc : Thread Cert.Reference14Ideal.nD Cert.Reference14Ideal.τ).loc Cert.Reference14Ideal.main_v30) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v18) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v8_0)) (v1 : (c : Dev Cert.Kernel16Ideal.nD) → Buf (Elt Ideal) ((c.tc : Thread Cert.Kernel16Ideal.nD Cert.Kernel16Ideal.τ).loc Cert.Kernel16Ideal.main_v8_1)) (v2 : (c : Dev Cert.Kernel16Ideal.nD) → Buf (Elt Ideal) ((c.tc : Thread Cert.Kernel16Ideal.nD Cert.Kernel16Ideal.τ).loc Cert.Kernel16Ideal.main_v8_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v8_0) = v0 c
          ∧ r.2.mem ((c.tc : Thread Cert.Kernel16Ideal.nD Cert.Kernel16Ideal.τ).loc Cert.Kernel16Ideal.main_v8_1) = v1 c
          ∧ r.2.mem ((c.tc : Thread Cert.Kernel16Ideal.nD Cert.Kernel16Ideal.τ).loc Cert.Kernel16Ideal.main_v8_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v43) = v0 c
          ∧ r.2.mem ((c.tc : Thread Cert.Reference16Ideal.nD Cert.Reference16Ideal.τ).loc Cert.Reference16Ideal.main_v44) = v1 c
          ∧ r.2.mem ((c.tc : Thread Cert.Reference16Ideal.nD Cert.Reference16Ideal.τ).loc Cert.Reference16Ideal.main_v45) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v8_0)) (v1 : (c : Dev Cert.Kernel17Ideal.nD) → Buf (Elt Ideal) ((c.tc : Thread Cert.Kernel17Ideal.nD Cert.Kernel17Ideal.τ).loc Cert.Kernel17Ideal.main_v8_1)) (v2 : (c : Dev Cert.Kernel17Ideal.nD) → Buf (Elt Ideal) ((c.tc : Thread Cert.Kernel17Ideal.nD Cert.Kernel17Ideal.τ).loc Cert.Kernel17Ideal.main_v8_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v8_0) = v0 c
          ∧ r.2.mem ((c.tc : Thread Cert.Kernel17Ideal.nD Cert.Kernel17Ideal.τ).loc Cert.Kernel17Ideal.main_v8_1) = v1 c
          ∧ r.2.mem ((c.tc : Thread Cert.Kernel17Ideal.nD Cert.Kernel17Ideal.τ).loc Cert.Kernel17Ideal.main_v8_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v43) = v0 c
          ∧ r.2.mem ((c.tc : Thread Cert.Reference17Ideal.nD Cert.Reference17Ideal.τ).loc Cert.Reference17Ideal.main_v44) = v1 c
          ∧ r.2.mem ((c.tc : Thread Cert.Reference17Ideal.nD Cert.Reference17Ideal.τ).loc Cert.Reference17Ideal.main_v45) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v55) = v0 c
          ∧ r.2.mem ((c.tc : Thread Cert.Reference18Ideal.nD Cert.Reference18Ideal.τ).loc Cert.Reference18Ideal.main_v56) = v1 c
          ∧ r.2.mem ((c.tc : Thread Cert.Reference18Ideal.nD Cert.Reference18Ideal.τ).loc Cert.Reference18Ideal.main_v57) = v2 c
          ∧ r.2.mem ((c.tc : Thread Cert.Reference18Ideal.nD Cert.Reference18Ideal.τ).loc Cert.Reference18Ideal.main_v58) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] [hPre_slots_w_attn_proj : Cert.Pre_slots_w_attn_proj.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_v37) = v1 c
          ∧ r.2.mem ((c.tc : Thread Cert.Reference20Ideal.nD Cert.Reference20Ideal.τ).loc Cert.Reference20Ideal.main_v18) = v2 c
          ∧ r.2.mem ((c.tc : Thread Cert.Reference20Ideal.nD Cert.Reference20Ideal.τ).loc Cert.Reference20Ideal.main_v24) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel21_Kernel21Ideal : Prop :=
  True

def algebraic_Kernel21Ideal_Reference21Ideal [hKernel21Ideal : Cert.Kernel21Ideal.Facts] [hReference21Ideal : Cert.Reference21Ideal.Facts] [hPre_slots_w_out : Cert.Pre_slots_w_out.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v13) = v0 c
          ∧ r.2.mem ((c.tc : Thread Cert.Reference21Ideal.nD Cert.Reference21Ideal.τ).loc Cert.Reference21Ideal.main_v37) = v1 c
          ∧ r.2.mem ((c.tc : Thread Cert.Reference21Ideal.nD Cert.Reference21Ideal.τ).loc Cert.Reference21Ideal.main_v18) = v2 c
          ∧ r.2.mem ((c.tc : Thread Cert.Reference21Ideal.nD Cert.Reference21Ideal.τ).loc Cert.Reference21Ideal.main_v24) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] [hPre_slots_w_ffn_down : Cert.Pre_slots_w_ffn_down.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_v37) = v1 c
          ∧ r.2.mem ((c.tc : Thread Cert.Reference22Ideal.nD Cert.Reference22Ideal.τ).loc Cert.Reference22Ideal.main_v18) = v2 c
          ∧ r.2.mem ((c.tc : Thread Cert.Reference22Ideal.nD Cert.Reference22Ideal.τ).loc Cert.Reference22Ideal.main_v24) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] [hPre_slots_w_ffn_in : Cert.Pre_slots_w_ffn_in.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v13) = v0 c
          ∧ r.2.mem ((c.tc : Thread Cert.Reference23Ideal.nD Cert.Reference23Ideal.τ).loc Cert.Reference23Ideal.main_v37) = v1 c
          ∧ r.2.mem ((c.tc : Thread Cert.Reference23Ideal.nD Cert.Reference23Ideal.τ).loc Cert.Reference23Ideal.main_v18) = v2 c
          ∧ r.2.mem ((c.tc : Thread Cert.Reference23Ideal.nD Cert.Reference23Ideal.τ).loc Cert.Reference23Ideal.main_v24) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6))

def preserves_Kernel24_Kernel24Ideal : Prop :=
  True

def algebraic_Kernel24Ideal_Reference24Ideal [hKernel24Ideal : Cert.Kernel24Ideal.Facts] [hReference24Ideal : Cert.Reference24Ideal.Facts] [hPre_slots_w_in : Cert.Pre_slots_w_in.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v13) = v0 c
          ∧ r.2.mem ((c.tc : Thread Cert.Reference24Ideal.nD Cert.Reference24Ideal.τ).loc Cert.Reference24Ideal.main_v37) = v1 c
          ∧ r.2.mem ((c.tc : Thread Cert.Reference24Ideal.nD Cert.Reference24Ideal.τ).loc Cert.Reference24Ideal.main_v18) = v2 c
          ∧ r.2.mem ((c.tc : Thread Cert.Reference24Ideal.nD Cert.Reference24Ideal.τ).loc Cert.Reference24Ideal.main_v24) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_all_finite : Cert.Pre_all_finite.Facts) (hPre_finite_ffn_down_bwd : Cert.Pre_finite_ffn_down_bwd.Facts) (hPre_slots_w_attn_proj : Cert.Pre_slots_w_attn_proj.Facts) (hPre_slots_w_out : Cert.Pre_slots_w_out.Facts) (hPre_slots_w_ffn_down : Cert.Pre_slots_w_ffn_down.Facts) (hPre_slots_w_ffn_in : Cert.Pre_slots_w_ffn_in.Facts) (hPre_slots_w_in : Cert.Pre_slots_w_in.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_finite_ffn_down_bwd (hKernel2Ideal := hKernel2Ideal) (hPre_finite_ffn_down_bwd := hPre_finite_ffn_down_bwd)
    ∧ quiescent_Reference2Ideal (hReference2Ideal := hReference2Ideal)
    ∧ quiescent_Reference2Ideal_pre_finite_ffn_down_bwd (hReference2Ideal := hReference2Ideal) (hPre_finite_ffn_down_bwd := hPre_finite_ffn_down_bwd)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20) (hPre_slots_w_attn_proj := hPre_slots_w_attn_proj)
    ∧ quiescent_Kernel20Ideal (hKernel20Ideal := hKernel20Ideal) (hPre_slots_w_attn_proj := hPre_slots_w_attn_proj)
    ∧ quiescent_Reference20Ideal (hReference20Ideal := hReference20Ideal)
    ∧ quiescent_Reference20Ideal_pre_slots_w_attn_proj (hReference20Ideal := hReference20Ideal) (hPre_slots_w_attn_proj := hPre_slots_w_attn_proj)
    ∧ quiescent_Kernel21 (hKernel21 := hKernel21) (hPre_slots_w_out := hPre_slots_w_out)
    ∧ quiescent_Kernel21Ideal (hKernel21Ideal := hKernel21Ideal) (hPre_slots_w_out := hPre_slots_w_out)
    ∧ quiescent_Reference21Ideal (hReference21Ideal := hReference21Ideal)
    ∧ quiescent_Reference21Ideal_pre_slots_w_out (hReference21Ideal := hReference21Ideal) (hPre_slots_w_out := hPre_slots_w_out)
    ∧ quiescent_Kernel22 (hKernel22 := hKernel22) (hPre_slots_w_ffn_down := hPre_slots_w_ffn_down)
    ∧ quiescent_Kernel22Ideal (hKernel22Ideal := hKernel22Ideal) (hPre_slots_w_ffn_down := hPre_slots_w_ffn_down)
    ∧ quiescent_Reference22Ideal (hReference22Ideal := hReference22Ideal)
    ∧ quiescent_Reference22Ideal_pre_slots_w_ffn_down (hReference22Ideal := hReference22Ideal) (hPre_slots_w_ffn_down := hPre_slots_w_ffn_down)
    ∧ quiescent_Kernel23 (hKernel23 := hKernel23) (hPre_slots_w_ffn_in := hPre_slots_w_ffn_in)
    ∧ quiescent_Kernel23Ideal (hKernel23Ideal := hKernel23Ideal) (hPre_slots_w_ffn_in := hPre_slots_w_ffn_in)
    ∧ quiescent_Reference23Ideal (hReference23Ideal := hReference23Ideal)
    ∧ quiescent_Reference23Ideal_pre_slots_w_ffn_in (hReference23Ideal := hReference23Ideal) (hPre_slots_w_ffn_in := hPre_slots_w_ffn_in)
    ∧ quiescent_Kernel24 (hKernel24 := hKernel24) (hPre_slots_w_in := hPre_slots_w_in)
    ∧ quiescent_Kernel24Ideal (hKernel24Ideal := hKernel24Ideal) (hPre_slots_w_in := hPre_slots_w_in)
    ∧ quiescent_Reference24Ideal (hReference24Ideal := hReference24Ideal)
    ∧ quiescent_Reference24Ideal_pre_slots_w_in (hReference24Ideal := hReference24Ideal) (hPre_slots_w_in := hPre_slots_w_in)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_finite_ffn_down_bwd (hKernel2Ideal := hKernel2Ideal) (hReference2Ideal := hReference2Ideal) (hPre_finite_ffn_down_bwd := hPre_finite_ffn_down_bwd)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal) (hPre_slots_w_attn_proj := hPre_slots_w_attn_proj)
    ∧ preserves_Kernel21_Kernel21Ideal
    ∧ algebraic_Kernel21Ideal_Reference21Ideal (hKernel21Ideal := hKernel21Ideal) (hReference21Ideal := hReference21Ideal) (hPre_slots_w_out := hPre_slots_w_out)
    ∧ preserves_Kernel22_Kernel22Ideal
    ∧ algebraic_Kernel22Ideal_Reference22Ideal (hKernel22Ideal := hKernel22Ideal) (hReference22Ideal := hReference22Ideal) (hPre_slots_w_ffn_down := hPre_slots_w_ffn_down)
    ∧ preserves_Kernel23_Kernel23Ideal
    ∧ algebraic_Kernel23Ideal_Reference23Ideal (hKernel23Ideal := hKernel23Ideal) (hReference23Ideal := hReference23Ideal) (hPre_slots_w_ffn_in := hPre_slots_w_ffn_in)
    ∧ preserves_Kernel24_Kernel24Ideal
    ∧ algebraic_Kernel24Ideal_Reference24Ideal (hKernel24Ideal := hKernel24Ideal) (hReference24Ideal := hReference24Ideal) (hPre_slots_w_in := hPre_slots_w_in)
-- ==== Pre_all_finite.lean ====
abbrev S2048x3840 : Shape := ⟨2, ![2048, 3840]⟩
abbrev S2048x512 : Shape := ⟨2, ![2048, 512]⟩
abbrev S1x8 : Shape := ⟨2, ![1, 8]⟩
abbrev S2048x768 : Shape := ⟨2, ![2048, 768]⟩
abbrev S_ : Shape := ⟨0, ![]⟩

class Facts : Prop where
  slices_S2048x3840_S2048x768_0_0 : S2048x3840.Slices ![0, 0] S2048x768
  bitsLt_bf16_f32 : FTy.bits .bf16 < FTy.bits .f32
  bcast_S_S2048x768 : S_.BroadcastsInDim S2048x768 (![] : Fin 0 → Fin S2048x768.rank)
  reducesTo_S2048x768_S_d0_1 : S2048x768.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S2048x3840 .bf16) (main_arg1 : FVec F S2048x512 .bf16) (main_arg2 : FVec F S1x8 .f32) : IVec S_ 1 :=
  let main_v0 : FVec F S2048x768 .bf16 := (extractStridedSlice S2048x768 ![0, 0] · slices_S2048x3840_S2048x768_0_0) main_arg0
  let main_v1 : FVec F S2048x768 .f32 := (extf .f32 · bitsLt_bf16_f32) main_v0
  let main_v2 : FVec F S2048x768 .f32 := Host.absf main_v1
  let main_cst : FVec F S_ .f32 := constant S_ .f32 0x7F800000#32
  let main_v3 : FVec F S2048x768 .f32 := broadcastInDim S2048x768 ![] bcast_S_S2048x768 main_cst
  let main_v4 : IVec S2048x768 1 := cmpf .olt main_v2 main_v3
  let main_c : IVec S_ 1 := constantI S_ 1 1#1
  let main_v5 : IVec S_ 1 := (fun x v => Host.reduce IntOp.andi x v reducesTo_S2048x768_S_d0_1 h_S_) main_v4 main_c
  let main_v6 : FVec F S2048x512 .f32 := (extf .f32 · bitsLt_bf16_f32) main_arg1
  let main_v7 : FVec F S2048x512 .f32 := Host.absf main_v6
  let main_cst_0 : FVec F S_ .f32 := constant S_ .f32 0x7F800000#32
  let main_v8 : FVec F S2048x512 .f32 := broadcastInDim S2048x512 ![] bcast_S_S2048x512 main_cst_0
  let main_v9 : IVec S2048x512 1 := cmpf .olt main_v7 main_v8
  let main_c_1 : IVec S_ 1 := constantI S_ 1 1#1
  let main_v10 : IVec S_ 1 := (fun x v => Host.reduce IntOp.andi x v reducesTo_S2048x512_S_d0_1 h_S_) main_v9 main_c_1
  let main_v11 : IVec S_ 1 := andi main_v5 main_v10
  let main_v12 : FVec F S1x8 .f32 := Host.absf main_arg2
  let main_cst_2 : FVec F S_ .f32 := constant S_ .f32 0x7F800000#32
  let main_v13 : FVec F S1x8 .f32 := broadcastInDim S1x8 ![] bcast_S_S1x8 main_cst_2
  let main_v14 : IVec S1x8 1 := cmpf .olt main_v12 main_v13
  let main_c_3 : IVec S_ 1 := constantI S_ 1 1#1
  let main_v15 : IVec S_ 1 := (fun x v => Host.reduce IntOp.andi x v reducesTo_S1x8_S_d0_1 h_S_) main_v14 main_c_3
  let main_v16 : IVec S_ 1 := andi main_v11 main_v15
  main_v16
-- ==== Pre_finite_ffn_down_bwd.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn {F : FTy → Type} [FloatOps F] (main_arg0 : FVec F S2048x1024 .bf16) (main_arg1 : FVec F S2816x1024 .bf16) (main_arg2 : FVec F S2048x2816 .bf16) (main_arg3 : FVec F S2048x2816 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S2048x2816 .f32 := (extf .f32 · bitsLt_bf16_f32) main_arg3
  let main_v12 : FVec F S2048x2816 .f32 := Host.absf main_v11
  let main_cst_2 : FVec F S_ .f32 := constant S_ .f32 0x7F800000#32
  let main_v13 : FVec F S2048x2816 .f32 := broadcastInDim S2048x2816 ![] bcast_S_S2048x2816 main_cst_2
  let main_v14 : IVec S2048x2816 1 := cmpf .olt main_v12 main_v13
  let main_c_3 : IVec S_ 1 := constantI S_ 1 1#1
  let main_v15 : IVec S_ 1 := (fun x v => Host.reduce IntOp.andi x v reducesTo_S2048x2816_S_d0_1 h_S_) main_v14 main_c_3
  let main_v16 : IVec S_ 1 := andi main_v10 main_v15
  main_v16
-- ==== Pre_slots_w_attn_proj.lean ====
abbrev S2 : Shape := ⟨1, ![2]⟩
abbrev S8x128x512 : Shape := ⟨3, ![8, 128, 512]⟩
abbrev S4x128x512 : Shape := ⟨3, ![4, 128, 512]⟩
abbrev S3x128x512 : Shape := ⟨3, ![3, 128, 512]⟩
abbrev S128x512 : Shape := ⟨2, ![128, 512]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S8x128x512 .bf16) (main_arg2 : FVec F S4x128x512 .bf16) (main_arg3 : FVec F S3x128x512 .bf16) (main_arg4 : FVec F S128x512 .f32) (main_arg5 : FVec F S128x512 .f32) (main_arg6 : FVec F S128x512 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 8#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 4#32
  let main_v13 : IVec S_ 1 := cmpi .slt main_v12 main_c_2
  let main_v14 : IVec S_ 1 := andi main_v10 main_v13
  main_v14
-- ==== Pre_slots_w_ffn_down.lean ====
abbrev S2 : Shape := ⟨1, ![2]⟩
abbrev S8x352x1024 : Shape := ⟨3, ![8, 352, 1024]⟩
abbrev S4x352x1024 : Shape := ⟨3, ![4, 352, 1024]⟩
abbrev S3x352x1024 : Shape := ⟨3, ![3, 352, 1024]⟩
abbrev S352x1024 : Shape := ⟨2, ![352, 1024]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S8x352x1024 .bf16) (main_arg2 : FVec F S4x352x1024 .bf16) (main_arg3 : FVec F S3x352x1024 .bf16) (main_arg4 : FVec F S352x1024 .f32) (main_arg5 : FVec F S352x1024 .f32) (main_arg6 : FVec F S352x1024 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 8#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 4#32
  let main_v13 : IVec S_ 1 := cmpi .slt main_v12 main_c_2
  let main_v14 : IVec S_ 1 := andi main_v10 main_v13
  main_v14
-- ==== Pre_slots_w_ffn_in.lean ====
abbrev S2 : Shape := ⟨1, ![2]⟩
abbrev S8x704x1024 : Shape := ⟨3, ![8, 704, 1024]⟩
abbrev S4x704x1024 : Shape := ⟨3, ![4, 704, 1024]⟩
abbrev S3x704x1024 : Shape := ⟨3, ![3, 704, 1024]⟩
abbrev S704x1024 : Shape := ⟨2, ![704, 1024]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S8x704x1024 .bf16) (main_arg2 : FVec F S4x704x1024 .bf16) (main_arg3 : FVec F S3x704x1024 .bf16) (main_arg4 : FVec F S704x1024 .f32) (main_arg5 : FVec F S704x1024 .f32) (main_arg6 : FVec F S704x1024 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 8#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 4#32
  let main_v13 : IVec S_ 1 := cmpi .slt main_v12 main_c_2
  let main_v14 : IVec S_ 1 := andi main_v10 main_v13
  main_v14
-- ==== Pre_slots_w_in.lean ====
abbrev S2 : Shape := ⟨1, ![2]⟩
abbrev S8x480x1024 : Shape := ⟨3, ![8, 480, 1024]⟩
abbrev S4x480x1024 : Shape := ⟨3, ![4, 480, 1024]⟩
abbrev S3x480x1024 : Shape := ⟨3, ![3, 480, 1024]⟩
abbrev S480x1024 : Shape := ⟨2, ![480, 1024]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S8x480x1024 .bf16) (main_arg2 : FVec F S4x480x1024 .bf16) (main_arg3 : FVec F S3x480x1024 .bf16) (main_arg4 : FVec F S480x1024 .f32) (main_arg5 : FVec F S480x1024 .f32) (main_arg6 : FVec F S480x1024 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 8#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 4#32
  let main_v13 : IVec S_ 1 := cmpi .slt main_v12 main_c_2
  let main_v14 : IVec S_ 1 := andi main_v10 main_v13
  main_v14
-- ==== Pre_slots_w_out.lean ====
abbrev S2 : Shape := ⟨1, ![2]⟩
abbrev S8x128x1024 : Shape := ⟨3, ![8, 128, 1024]⟩
abbrev S4x128x1024 : Shape := ⟨3, ![4, 128, 1024]⟩
abbrev S3x128x1024 : Shape := ⟨3, ![3, 128, 1024]⟩
abbrev S128x1024 : Shape := ⟨2, ![128, 1024]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S8x128x1024 .bf16) (main_arg2 : FVec F S4x128x1024 .bf16) (main_arg3 : FVec F S3x128x1024 .bf16) (main_arg4 : FVec F S128x1024 .f32) (main_arg5 : FVec F S128x1024 .f32) (main_arg6 : FVec F S128x1024 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 8#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 4#32
  let main_v13 : IVec S_ 1 := cmpi .slt main_v12 main_c_2
  let main_v14 : IVec S_ 1 := andi main_v10 main_v13
  main_v14
-- ==== Kernel.lean ====
abbrev S2048x3840 : Shape := ⟨2, ![2048, 3840]⟩
abbrev S2048x512 : Shape := ⟨2, ![2048, 512]⟩
abbrev S1x8 : Shape := ⟨2, ![1, 8]⟩
abbrev S2048x768 : Shape := ⟨2, ![2048, 768]⟩
abbrev S1x128 : Shape := ⟨2, ![1, 128]⟩
abbrev S2048x128 : Shape := ⟨2, ![2048, 128]⟩
abbrev S128x128 : Shape := ⟨2, ![128, 128]⟩
abbrev S256x128 : Shape := ⟨2, ![256, 128]⟩
abbrev S512x128 : Shape := ⟨2, ![512, 128]⟩
abbrev S512x256 : Shape := ⟨2, ![512, 256]⟩
abbrev S512x1 : Shape := ⟨2, ![512, 1]⟩
abbrev S1x1 : Shape := ⟨2, ![1, 1]⟩
abbrev S512 : Shape := ⟨1, ![512]⟩
abbrev S128x1 : Shape := ⟨2, ![128, 1]⟩
abbrev S1 : Shape := ⟨1, ![1]⟩

abbrev nBuf : Space → Nat
  | .hbm => 5
  | .vmem => 6
  | .smem => 1
  | _ => 0

abbrev bufTy : (tb : Table) → Fin (tcTables nBuf tb) → BufTy
  | .hbm, ⟨0, _⟩ => ⟨S2048x3840, .bf16⟩
  | .hbm, ⟨1, _⟩ => ⟨S2048x512, .bf16⟩
  | .hbm, ⟨2, _⟩ => ⟨S1x8, .f32⟩
  | .hbm, ⟨3, _⟩ => ⟨S2048x768, .bf16⟩
  | .hbm, ⟨4, _⟩ => ⟨S1x128, .f32⟩
  | .local _ .vmem, ⟨0, _⟩ => ⟨S2048x768, .bf16⟩
  | .local _ .vmem, ⟨1, _⟩ => ⟨S2048x512, .bf16⟩
  | .local _ .vmem, ⟨2, _⟩ => ⟨S2048x768, .bf16⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .smem, ⟨0, _⟩ => ⟨S1x8, .f32⟩
  | _, _ => ⟨S2048x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  v17
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c1_i32_14 : BitVec 32 := 1#32
  let v19 : BitVec 32 := Scalar.subi arg8 c1_i32_14
  let c0_i32_15 : BitVec 32 := 0#32
  let v20 : BitVec 32 := Scalar.maxsi v19 c0_i32_15
  let c128_i32_16 : BitVec 32 := 128#32
  let v21 : BitVec 32 := Scalar.muli v20 c128_i32_16
  v21
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c1_i32_14 : BitVec 32 := 1#32
  let v19 : BitVec 32 := Scalar.subi arg8 c1_i32_14
  let c0_i32_15 : BitVec 32 := 0#32
  let v20 : BitVec 32 := Scalar.maxsi v19 c0_i32_15
  let c128_i32_16 : BitVec 32 := 128#32
  let v21 : BitVec 32 := Scalar.muli v20 c128_i32_16
  let v22 : BitVec 32 := v21
  let v23 : Index := Scalar.indexCast v22
  let c512_17 : Index := 512#32
  ![v23.toNat, 512]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v25 : Index := Scalar.indexCast v18
  let c512_18 : Index := 512#32
  ![v25.toNat, 512]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c1_i32_14 : BitVec 32 := 1#32
  let v19 : BitVec 32 := Scalar.subi arg8 c1_i32_14
  let c0_i32_15 : BitVec 32 := 0#32
  let v20 : BitVec 32 := Scalar.maxsi v19 c0_i32_15
  let c128_i32_16 : BitVec 32 := 128#32
  let v21 : BitVec 32 := Scalar.muli v20 c128_i32_16
  let v22 : BitVec 32 := v21
  let v28 : Index := Scalar.indexCast v22
  let c640_19 : Index := 640#32
  ![v28.toNat, 640]
def k0_off4 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v30 : Index := Scalar.indexCast v18
  let c640_20 : Index := 640#32
  ![v30.toNat, 640]
def k0_off5 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v33 : Index := Scalar.indexCast v18
  let c0_21 : Index := 0#32
  ![v33.toNat, 0]
def k0_off6 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v56 : Index := Scalar.indexCast v18
  let c128 : Index := 128#32
  ![v56.toNat, 128]
def k0_off7 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v154 : Index := Scalar.indexCast v18
  let c0_59 : Index := 0#32
  ![v154.toNat, 0]
def k0_off8 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v177 : Index := Scalar.indexCast v18
  let c128_68 : Index := 128#32
  ![v177.toNat, 128]
def k0_off9 (k0_t1 : Fin k0_t1_loop.trips) : Fin 2 → Nat :=
  let c0_i32 : BitVec 32 := 0#32
  let c1_i32 : BitVec 32 := 1#32
  let arg8 : BitVec 32 := Scf.iv c0_i32 c1_i32 k0_t1
  let c1_i32_14 : BitVec 32 := 1#32
  let v19 : BitVec 32 := Scalar.subi arg8 c1_i32_14
  let c0_i32_15 : BitVec 32 := 0#32
  let v20 : BitVec 32 := Scalar.maxsi v19 c0_i32_15
  let c128_i32_16 : BitVec 32 := 128#32
  let v21 : BitVec 32 := Scalar.muli v20 c128_i32_16
  let v22 : BitVec 32 := v21
  let v281 : Index := Scalar.indexCast v22
  let c0_113 : Index := 0#32
  ![v281.toNat, 0]
def k0_off10 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v289 : Index := Scalar.indexCast v18
  let c0_115 : Index := 0#32
  ![v289.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_135 : BitVec 32 := 128#32
  let v353 : BitVec 32 := Scalar.muli arg8 c128_i32_135
  v353
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c1_i32_136 : BitVec 32 := 1#32
  let v355 : BitVec 32 := Scalar.subi arg8 c1_i32_136
  let c0_i32_137 : BitVec 32 := 0#32
  let v356 : BitVec 32 := Scalar.maxsi v355 c0_i32_137
  let c128_i32_138 : BitVec 32 := 128#32
  let v357 : BitVec 32 := Scalar.muli v356 c128_i32_138
  v357
def k0_off11 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32_135 : BitVec 32 := 128#32
  let v353 : BitVec 32 := Scalar.muli arg8 c128_i32_135
  let v354 : BitVec 32 := v353
  let v369 : Index := Scalar.indexCast v354
  let c256 : Index := 256#32
  ![v369.toNat, 256]
def k0_off12 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32_135 : BitVec 32 := 128#32
  let v353 : BitVec 32 := Scalar.muli arg8 c128_i32_135
  let v354 : BitVec 32 := v353
  let v392 : Index := Scalar.indexCast v354
  let c384 : Index := 384#32
  ![v392.toNat, 384]
def k0_off13 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32_135 : BitVec 32 := 128#32
  let v353 : BitVec 32 := Scalar.muli arg8 c128_i32_135
  let v354 : BitVec 32 := v353
  let v490 : Index := Scalar.indexCast v354
  let c256_184 : Index := 256#32
  ![v490.toNat, 256]
def k0_off14 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32_135 : BitVec 32 := 128#32
  let v353 : BitVec 32 := Scalar.muli arg8 c128_i32_135
  let v354 : BitVec 32 := v353
  let v513 : Index := Scalar.indexCast v354
  let c384_193 : Index := 384#32
  ![v513.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x3840 : Shape := ⟨2, ![2048, 3840]⟩
abbrev S2048x512 : Shape := ⟨2, ![2048, 512]⟩
abbrev S1x8 : Shape := ⟨2, ![1, 8]⟩
abbrev S2048x768 : Shape := ⟨2, ![2048, 768]⟩
abbrev S1x2048x768 : Shape := ⟨3, ![1, 2048, 768]⟩
abbrev S1x2048x512 : Shape := ⟨3, ![1, 2048, 512]⟩
abbrev S1x2048x8x64 : Shape := ⟨4, ![1, 2048, 8, 64]⟩
abbrev S1x2048x128 : Shape := ⟨3, ![1, 2048, 128]⟩
abbrev S1x2048x2x64 : Shape := ⟨4, ![1, 2048, 2, 64]⟩
abbrev S8 : Shape := ⟨1, ![8]⟩
abbrev S1x16x128x2x4x64 : Shape := ⟨6, ![1, 16, 128, 2, 4, 64]⟩
abbrev S_ : Shape := ⟨0, ![]⟩
abbrev S1x128x2x64 : Shape := ⟨4, ![1, 128, 2, 64]⟩
abbrev S1x2176x2x64 : Shape := ⟨4, ![1, 2176, 2, 64]⟩
abbrev S1x16x128x2x64 : Shape := ⟨5, ![1, 16, 128, 2, 64]⟩
abbrev S1x16x256x2x64 : Shape := ⟨5, ![1, 16, 256, 2, 64]⟩
abbrev S1x16x2x256x128x4 : Shape := ⟨6, ![1, 16, 2, 256, 128, 4]⟩
abbrev S1x16x2x4x128x256 : Shape := ⟨6, ![1, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S1x1x2x4x1x1 : Shape := ⟨6, ![1, 1, 2, 4, 1, 1]⟩
abbrev S1x16x2x4x128x1 : Shape := ⟨6, ![1, 16, 2, 4, 128, 1]⟩
abbrev S1x16x2x4x128x257 : Shape := ⟨6, ![1, 16, 2, 4, 128, 257]⟩
abbrev S1x16x2x4x128 : Shape := ⟨5, ![1, 16, 2, 4, 128]⟩
abbrev S1x16x2x64x4x128 : Shape := ⟨6, ![1, 16, 2, 64, 4, 128]⟩
abbrev S1x16x2x64x256 : Shape := ⟨5, ![1, 16, 2, 64, 256]⟩
abbrev S16x2x4x128 : Shape := ⟨4, ![16, 2, 4, 128]⟩
abbrev S2x4 : Shape := ⟨2, ![2, 4]⟩
abbrev S1x16x2x128x4x64 : Shape := ⟨6, ![1, 16, 2, 128, 4, 64]⟩
abbrev S1x16x2x256x64 : Shape := ⟨5, ![1, 16, 2, 256, 64]⟩
abbrev S1x128 : Shape := ⟨2, ![1, 128]⟩

abbrev nBuf : Space → Nat
  | .hbm => 204
  | .vmem => 0
  | .smem => 0
  | _ => 0

abbrev hbmTy0_0 (i : Nat) : BufTy := match i % 128 with
  | 0 => ⟨S2048x3840, .bf16⟩
  | 1 => ⟨S2048x512, .bf16⟩
  | 2 => ⟨S1x8, .f32⟩
  | 3 => ⟨S2048x768, .bf16⟩
  | 4 => ⟨S1x2048x768, .bf16⟩
  | 5 => ⟨S1x2048x768, .f32⟩
  | 6 => ⟨S1x2048x512, .bf16⟩
  | 7 => ⟨S1x2048x512, .f32⟩
  | 8 => ⟨S1x2048x512, .f32⟩
  | 9 => ⟨S1x2048x8x64, .f32⟩
  | 10 => ⟨S1x2048x128, .f32⟩
  | 11 => ⟨S1x2048x2x64, .f32⟩
  | 12 => ⟨S1x2048x128, .f32⟩
  | 13 => ⟨S1x2048x2x64, .f32⟩
  | 14 => ⟨S8, .f32⟩
  | 15 => ⟨S1x16x128x2x4x64, .f32⟩
  | 16 => ⟨S_, .f32⟩
  | 17 => ⟨S1x128x2x64, .f32⟩
  | 18 => ⟨S1x2176x2x64, .f32⟩
  | 19 => ⟨S_, .f32⟩
  | 20 => ⟨S1x128x2x64, .f32⟩
  | 21 => ⟨S1x2048x2x64, .f32⟩
  | 22 => ⟨S1x16x128x2x64, .f32⟩
  | 23 => ⟨S1x16x128x2x64, .f32⟩
  | 24 => ⟨S1x16x256x2x64, .f32⟩
  | 25 => ⟨S_, .f32⟩
  | 26 => ⟨S1x128x2x64, .f32⟩
  | 27 => ⟨S1x2176x2x64, .f32⟩
  | 28 => ⟨S_, .f32⟩
  | 29 => ⟨S1x128x2x64, .f32⟩
  | 30 => ⟨S1x2048x2x64, .f32⟩
  | 31 => ⟨S1x16x128x2x64, .f32⟩
  | 32 => ⟨S1x16x128x2x64, .f32⟩
  | 33 => ⟨S1x16x256x2x64, .f32⟩
  | 34 => ⟨S1x16x2x256x128x4, .f32⟩
  | 35 => ⟨S1x16x2x4x128x256, .f32⟩
  | 36 => ⟨S_, .f32⟩
  | 37 => ⟨S1x16x2x4x128x256, .f32⟩
  | 38 => ⟨S1x16x2x4x128x256, .f32⟩
  | 39 => ⟨S128, .i32⟩
  | 40 => ⟨S128x1, .i32⟩
  | 41 => ⟨S256, .i32⟩
  | 42 => ⟨S1x256, .i32⟩
  | 43 => ⟨S_, .i32⟩
  | 44 => ⟨S128x1, .i32⟩
  | 45 => ⟨S128x1, .i32⟩
  | 46 => ⟨S128x256, .i32⟩
  | 47 => ⟨S128x256, .i32⟩
  | 48 => ⟨S128x256, .i32⟩
  | 49 => ⟨S16, .i32⟩
  | 50 => ⟨S16x1x1, .i32⟩
  | 51 => ⟨S_, .i32⟩
  | 52 => ⟨S16x1x1, .i32⟩
  | 53 => ⟨S16x1x1, .i32⟩
  | 54 => ⟨S_, .i32⟩
  | 55 => ⟨S16x1x1, .i32⟩
  | 56 => ⟨S16x1x1, .i32⟩
  | 57 => ⟨S1x1x256, .i32⟩
  | 58 => ⟨S16x1x256, .i32⟩
  | 59 => ⟨S16x1x256, .i32⟩
  | 60 => ⟨S16x1x256, .i32⟩
  | 61 => ⟨S_, .i32⟩
  | 62 => ⟨S128x256, .i32⟩
  | 63 => ⟨S128x256, .i1⟩
  | 64 => ⟨S1x128x256, .i1⟩
  | 65 => ⟨S_, .i32⟩
  | 66 => ⟨S128x256, .i32⟩
  | 67 => ⟨S128x256, .i1⟩
  | 68 => ⟨S1x128x256, .i1⟩
  | 69 => ⟨S1x128x256, .i1⟩
  | 70 => ⟨S_, .i32⟩
  | 71 => ⟨S16x1x256, .i32⟩
  | 72 => ⟨S16x1x256, .i1⟩
  | 73 => ⟨S16x128x256, .i1⟩
  | 74 => ⟨S16x128x256, .i1⟩
  | 75 => ⟨S16x128x256, .i1⟩
  | 76 => ⟨S1x16x1x1x128x256, .i1⟩
  | 77 => ⟨S_, .f32⟩
  | 78 => ⟨S_, .f32⟩
  | 79 => ⟨S1x16x2x4x128x256, .i1⟩
  | 80 => ⟨S1x16x2x4x128x256, .f32⟩
  | 81 => ⟨S1x16x2x4x128x256, .f32⟩
  | 82 => ⟨S_, .f32⟩
  | 83 => ⟨S1x16x2x4x128x256, .f32⟩
  | 84 => ⟨S1x1x2x4x1x1, .f32⟩
  | 85 => ⟨S1x16x2x4x128x1, .f32⟩
  | 86 => ⟨S1x16x2x4x128x257, .f32⟩
  | 87 => ⟨S_, .f32⟩
  | 88 => ⟨S1x16x2x4x128, .f32⟩
  | 89 => ⟨S1x16x2x4x128x1, .f32⟩
  | 90 => ⟨S1x16x2x4x128x257, .f32⟩
  | 91 => ⟨S1x16x2x4x128x257, .i1⟩
  | 92 => ⟨S1x16x2x4x128x257, .f32⟩
  | 93 => ⟨S_, .f32⟩
  | 94 => ⟨S1x16x2x4x128, .f32⟩
  | 95 => ⟨S_, .f32⟩
  | 96 => ⟨S1x16x2x4x128, .f32⟩
  | 97 => ⟨S1x16x2x4x128, .f32⟩
  | 98 => ⟨S_, .f32⟩
  | 99 => ⟨S1x16x2x4x128, .f32⟩
  | 100 => ⟨S1x16x2x4x128, .i1⟩
  | 101 => ⟨S_, .f32⟩
  | 102 => ⟨S1x16x2x4x128, .f32⟩
  | 103 => ⟨S1x16x2x4x128, .i1⟩
  | 104 => ⟨S_, .f32⟩
  | 105 => ⟨S1x16x2x4x128, .f32⟩
  | 106 => ⟨S_, .f32⟩
  | 107 => ⟨S1x16x2x4x128, .f32⟩
  | 108 => ⟨S_, .f32⟩
  | 109 => ⟨S1x16x2x4x128, .f32⟩
  | 110 => ⟨S1x16x2x4x128, .f32⟩
  | 111 => ⟨S1x16x2x4x128, .f32⟩
  | 112 => ⟨S1x16x2x4x128x1, .f32⟩
  | 113 => ⟨S1x16x2x4x128x257, .f32⟩
  | 114 => ⟨S1x16x2x4x128x257, .f32⟩
  | 115 => ⟨S1x16x2x4x128x257, .f32⟩
  | 116 => ⟨S_, .f32⟩
  | 117 => ⟨S1x16x2x4x128, .f32⟩
  | 118 => ⟨S1x16x2x4x128x1, .f32⟩
  | 119 => ⟨S1x16x2x4x128x257, .f32⟩
  | 120 => ⟨S1x16x2x4x128x257, .f32⟩
  | 121 => ⟨S1x16x2x4x128x1, .f32⟩
  | 122 => ⟨S_, .f32⟩
  | 123 => ⟨S1x16x2x4x128x1, .f32⟩
  | 124 => ⟨S1x16x2x4x128x1, .f32⟩
  | 125 => ⟨S1x16x2x4x128x256, .f32⟩
  | 126 => ⟨S1x16x2x64x4x128, .f32⟩
  | 127 => ⟨S1x16x128x2x4x64, .f32⟩
  | _ => ⟨S2048x3840, .bf16⟩

abbrev hbmTy0_1 (i : Nat) : BufTy := match i % 128 with
  | 0 => ⟨S1x2048x512, .f32⟩
  | 1 => ⟨S1x16x128x2x4x64, .f32⟩
  | 2 => ⟨S1x16x2x64x4x128, .f32⟩
  | 3 => ⟨S1x16x2x4x128x256, .f32⟩
  | 4 => ⟨S1x16x2x64x256, .f32⟩
  | 5 => ⟨S1x16x256x2x64, .f32⟩
  | 6 => ⟨S_, .f32⟩
  | 7 => ⟨S1x16x2x4x128x257, .f32⟩
  | 8 => ⟨S1x16x2x4x128x257, .f32⟩
  | 9 => ⟨S1x16x2x4x128x257, .f32⟩
  | 10 => ⟨S1x16x2x4x128x257, .f32⟩
  | 11 => ⟨S_, .f32⟩
  | 12 => ⟨S1x16x2x4x128, .f32⟩
  | 13 => ⟨S1x16x2x4x128x1, .f32⟩
  | 14 => ⟨S1x16x2x4x128x1, .f32⟩
  | 15 => ⟨S1x16x2x4x128x257, .f32⟩
  | 16 => ⟨S1x16x2x4x128x257, .f32⟩
  | 17 => ⟨S_, .f32⟩
  | 18 => ⟨S16x2x4x128, .f32⟩
  | 19 => ⟨S1x16x2x4x128, .f32⟩
  | 20 => ⟨S1x16x2x4x128x257, .f32⟩
  | 21 => ⟨S1x16x2x4x128x257, .f32⟩
  | 22 => ⟨S1x16x2x4x128x257, .f32⟩
  | 23 => ⟨S1x16x2x4x128x256, .f32⟩
  | 24 => ⟨S1x16x2x4x128x1, .f32⟩
  | 25 => ⟨S_, .f32⟩
  | 26 => ⟨S2x4, .f32⟩
  | 27 => ⟨S1x1x2x4x1x1, .f32⟩
  | 28 => ⟨S8, .f32⟩
  | 29 => ⟨S_, .f32⟩
  | 30 => ⟨S1x16x2x4x128x256, .f32⟩
  | 31 => ⟨S1x16x2x4x128x256, .f32⟩
  | 32 => ⟨S_, .f32⟩
  | 33 => ⟨S1x16x2x4x128x256, .f32⟩
  | 34 => ⟨S1x16x2x4x128x256, .f32⟩
  | 35 => ⟨S1x16x2x256x128x4, .f32⟩
  | 36 => ⟨S1x16x2x128x4x64, .f32⟩
  | 37 => ⟨S1x16x128x2x4x64, .f32⟩
  | 38 => ⟨S1x16x2x256x64, .f32⟩
  | 39 => ⟨S1x16x256x2x64, .f32⟩
  | 40 => ⟨S1x16x128x2x64, .f32⟩
  | 41 => ⟨S1x16x128x2x64, .f32⟩
  | 42 => ⟨S1x2048x2x64, .f32⟩
  | 43 => ⟨S1x2048x2x64, .f32⟩
  | 44 => ⟨S_, .f32⟩
  | 45 => ⟨S1x2176x2x64, .f32⟩
  | 46 => ⟨S1x128x2x64, .f32⟩
  | 47 => ⟨S1x2048x2x64, .f32⟩
  | 48 => ⟨S1x2048x2x64, .f32⟩
  | 49 => ⟨S1x16x128x2x64, .f32⟩
  | 50 => ⟨S1x16x128x2x64, .f32⟩
  | 51 => ⟨S1x2048x2x64, .f32⟩
  | 52 => ⟨S1x2048x2x64, .f32⟩
  | 53 => ⟨S_, .f32⟩
  | 54 => ⟨S1x2176x2x64, .f32⟩
  | 55 => ⟨S1x128x2x64, .f32⟩
  | 56 => ⟨S1x2048x2x64, .f32⟩
  | 57 => ⟨S1x2048x2x64, .f32⟩
  | 58 => ⟨S1x2048x8x64, .f32⟩
  | 59 => ⟨S1x8, .f32⟩
  | 60 => ⟨S1x2048x128, .f32⟩
  | 61 => ⟨S_, .f32⟩
  | 62 => ⟨S1x2048x768, .f32⟩
  | 63 => ⟨S1x2048x128, .f32⟩
  | 64 => ⟨S_, .f32⟩
  | 65 => ⟨S1x2048x768, .f32⟩
  | 66 => ⟨S1x2048x768, .f32⟩
  | 67 => ⟨S1x2048x512, .f32⟩
  | 68 => ⟨S_, .f32⟩
  | 69 => ⟨S1x2048x768, .f32⟩
  | 70 => ⟨S1x2048x768, .f32⟩
  | 71 => ⟨S2048x768, .f32⟩
  | 72 => ⟨S2048x768, .bf16⟩
  | 73 => ⟨S_, .i32⟩
  | 74 => ⟨S_, .f32⟩
  | 75 => ⟨S1x128, .f32⟩
  | _ => ⟨S2048x3840, .bf16⟩

abbrev hbmTy (i : Nat) : BufTy := match i / 128 with
  | 0 => hbmTy0_0 i
  | 1 => hbmTy0_1 i
  | _ => ⟨S2048x3840, .bf16⟩

abbrev bufTy : (tb : Table) → Fin (tcTables nBuf tb) → BufTy
  | .hbm, ⟨i, _⟩ => hbmTy i
  | _, _ => ⟨S2048x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_4 : Ref sig .tc := ⟨.hbm, 51, rfl⟩
abbrev main_v42 : Ref sig .tc := ⟨.hbm, 52, rfl⟩
abbrev main_v43 : Ref sig .tc := ⟨.hbm, 53, rfl⟩
abbrev main_c_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_9 : Ref sig .tc := ⟨.hbm, 77, rfl⟩
abbrev main_call0_v0 : Ref sig .tc := ⟨.hbm, 78, rfl⟩
abbrev main_v63_1 : Ref sig .tc := ⟨.hbm, 79, rfl⟩
abbrev main_call0_v2 : Ref sig .tc := ⟨.hbm, 80, rfl⟩
abbrev main_v63_0 : Ref sig .tc := ⟨.hbm, 81, rfl⟩
abbrev main_call0_cst : Ref sig .tc := ⟨.hbm, 82, rfl⟩
abbrev main_v63_2 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_18 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_19 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_20 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_21 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_22 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_23 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_call1_cst : Ref sig .tc := ⟨.hbm, 157, rfl⟩
abbrev main_call1_v0 : Ref sig .tc := ⟨.hbm, 158, rfl⟩
abbrev main_v123 : Ref sig .tc := ⟨.hbm, 159, rfl⟩
abbrev main_cst_24 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_25 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_26 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_27 : Ref sig .tc := ⟨.hbm, 189, rfl⟩
abbrev main_v150 : Ref sig .tc := ⟨.hbm, 190, rfl⟩
abbrev main_v151 : Ref sig .tc := ⟨.hbm, 191, rfl⟩
abbrev main_cst_28 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_cst_29 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_c_30 : Ref sig .tc := ⟨.hbm, 201, rfl⟩
abbrev main_call2_v0 : Ref sig .tc := ⟨.hbm, 202, rfl⟩
abbrev main_v159 : Ref sig .tc := ⟨.hbm, 203, rfl⟩

abbrev nD : Nat := 1
abbrev τ : Topo := Topo.v7x

variable {F : FTy → Type} [FloatOps F]
-- ==== Kernel2.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .hbm, ⟨3, _⟩ => ⟨S2048x2816, .bf16⟩
  | .hbm, ⟨4, _⟩ => ⟨S2048x2816, .bf16⟩
  | .hbm, ⟨5, _⟩ => ⟨S2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .hbm, ⟨3, _⟩ => ⟨S2048x2816, .bf16⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2816x1024, .f32⟩
  | .hbm, ⟨21, _⟩ => ⟨S2048x1024, .f32⟩
  | .hbm, ⟨22, _⟩ => ⟨S2048x1024, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .bf16⟩
  | .hbm, ⟨31, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S2048x2816 : Shape := ⟨2, ![2048, 2816]⟩
abbrev S2048x1024 : Shape := ⟨2, ![2048, 1024]⟩
abbrev S5632x1024 : Shape := ⟨2, ![5632, 1024]⟩
abbrev S1x5632 : Shape := ⟨2, ![1, 5632]⟩
abbrev S2048x1408 : Shape := ⟨2, ![2048, 1408]⟩
abbrev S1408x1024 : Shape := ⟨2, ![1408, 1024]⟩
abbrev S1x1408 : Shape := ⟨2, ![1, 1408]⟩
abbrev S1408 : Shape := ⟨1, ![1408]⟩

abbrev nBuf : Space → Nat
  | .hbm => 5
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S5632x1024, .bf16⟩
  | .hbm, ⟨4, _⟩ => ⟨S1x5632, .f32⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1x1408, .f32⟩
  | .local _ .vmem, ⟨8, _⟩ => ⟨S1x1408, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c4_i32 : BitVec 32 := 4#32
  let v6 : BitVec 1 := Scalar.cmpi .slt arg0 c4_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S2048x2816 : Shape := ⟨2, ![2048, 2816]⟩
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632 : Shape := ⟨1, ![5632]⟩
abbrev S1x5632 : Shape := ⟨2, ![1, 5632]⟩
abbrev S5632x1024 : Shape := ⟨2, ![5632, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S2048x5632, .bf16⟩
  | .hbm, ⟨4, _⟩ => ⟨S2048x5632, .f32⟩
  | .hbm, ⟨5, _⟩ => ⟨S_, .f32⟩
  | .hbm, ⟨6, _⟩ => ⟨S1024x5632, .f32⟩
  | .hbm, ⟨7, _⟩ => ⟨S_, .f32⟩
  | .hbm, ⟨8, _⟩ => ⟨S5632, .f32⟩
  | .hbm, ⟨9, _⟩ => ⟨S2048x1024, .f32⟩
  | .hbm, ⟨10, _⟩ => ⟨S2048x5632, .f32⟩
  | .hbm, ⟨11, _⟩ => ⟨S1x5632, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S5632, .f32⟩
  | .hbm, ⟨16, _⟩ => ⟨S1x5632, .f32⟩
  | .hbm, ⟨17, _⟩ => ⟨S_, .f32⟩
  | .hbm, ⟨18, _⟩ => ⟨S5632, .f32⟩
  | .hbm, ⟨19, _⟩ => ⟨S5632x1024, .f32⟩
  | .hbm, ⟨20, _⟩ => ⟨S1024x5632, .f32⟩
  | .hbm, ⟨21, _⟩ => ⟨S5632x1024, .f32⟩
  | .hbm, ⟨22, _⟩ => ⟨S5632x1024, .bf16⟩
  | .hbm, ⟨23, _⟩ => ⟨S1x5632, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S2048x768 : Shape := ⟨2, ![2048, 768]⟩
abbrev S2048x1024 : Shape := ⟨2, ![2048, 1024]⟩
abbrev S3840x1024 : Shape := ⟨2, ![3840, 1024]⟩
abbrev S1x3840 : Shape := ⟨2, ![1, 3840]⟩
abbrev S2048x256 : Shape := ⟨2, ![2048, 256]⟩
abbrev S256x1024 : Shape := ⟨2, ![256, 1024]⟩
abbrev S1x256 : Shape := ⟨2, ![1, 256]⟩
abbrev S256 : Shape := ⟨1, ![256]⟩

abbrev nBuf : Space → Nat
  | .hbm => 7
  | .vmem => 13
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S3840x1024, .bf16⟩
  | .hbm, ⟨6, _⟩ => ⟨S1x3840, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x1024, .bf16⟩
  | .local _ .vmem, ⟨9, _⟩ => ⟨S256x1024, .bf16⟩
  | .local _ .vmem, ⟨10, _⟩ => ⟨S256x1024, .bf16⟩
  | .local _ .vmem, ⟨11, _⟩ => ⟨S1x256, .f32⟩
  | .local _ .vmem, ⟨12, _⟩ => ⟨S1x256, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![15], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c3_i32 : BitVec 32 := 3#32
  let v1 : BitVec 1 := Scalar.cmpi .slt arg0 c3_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c3_i32_1 : BitVec 32 := 3#32
  let v5 : BitVec 1 := Scalar.cmpi .sge arg0 c3_i32_1
  let c7_i32 : BitVec 32 := 7#32
  let v6 : BitVec 1 := Scalar.cmpi .slt arg0 c7_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c7_i32_3 : BitVec 32 := 7#32
  let v10 : BitVec 1 := Scalar.cmpi .sge arg0 c7_i32_3
  let c11_i32 : BitVec 32 := 11#32
  let v11 : BitVec 1 := Scalar.cmpi .slt arg0 c11_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c11_i32_5 : BitVec 32 := 11#32
  let v15 : BitVec 1 := Scalar.cmpi .sge arg0 c11_i32_5
  let c15_i32 : BitVec 32 := 15#32
  let v16 : BitVec 1 := Scalar.cmpi .slt arg0 c15_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c3_i32_0 : BitVec 32 := 3#32
  let v1 : BitVec 32 := Scalar.maxsi c0_i32 v0
  let v2 : BitVec 32 := Scalar.minsi c3_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S2048x768 : Shape := ⟨2, ![2048, 768]⟩
abbrev S2048x1024 : Shape := ⟨2, ![2048, 1024]⟩
abbrev S2048x3840 : Shape := ⟨2, ![2048, 3840]⟩
abbrev S_ : Shape := ⟨0, ![]⟩
abbrev S1024x3840 : Shape := ⟨2, ![1024, 3840]⟩
abbrev S3840 : Shape := ⟨1, ![3840]⟩
abbrev S1x3840 : Shape := ⟨2, ![1, 3840]⟩
abbrev S3840x1024 : Shape := ⟨2, ![3840, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x3840, .bf16⟩
  | .hbm, ⟨6, _⟩ => ⟨S2048x3840, .f32⟩
  | .hbm, ⟨7, _⟩ => ⟨S_, .f32⟩
  | .hbm, ⟨8, _⟩ => ⟨S1024x3840, .f32⟩
  | .hbm, ⟨9, _⟩ => ⟨S_, .f32⟩
  | .hbm, ⟨10, _⟩ => ⟨S3840, .f32⟩
  | .hbm, ⟨11, _⟩ => ⟨S2048x1024, .f32⟩
  | .hbm, ⟨12, _⟩ => ⟨S2048x3840, .f32⟩
  | .hbm, ⟨13, _⟩ => ⟨S1x3840, .f32⟩
  | .hbm, ⟨14, _⟩ => ⟨S2048x3840, .f32⟩
  | .hbm, ⟨15, _⟩ => ⟨S2048x3840, .f32⟩
  | .hbm, ⟨16, _⟩ => ⟨S_, .f32⟩
  | .hbm, ⟨17, _⟩ => ⟨S3840, .f32⟩
  | .hbm, ⟨18, _⟩ => ⟨S1x3840, .f32⟩
  | .hbm, ⟨19, _⟩ => ⟨S_, .f32⟩
  | .hbm, ⟨20, _⟩ => ⟨S3840, .f32⟩
  | .hbm, ⟨21, _⟩ => ⟨S3840x1024, .f32⟩
  | .hbm, ⟨22, _⟩ => ⟨S1024x3840, .f32⟩
  | .hbm, ⟨23, _⟩ => ⟨S3840x1024, .f32⟩
  | .hbm, ⟨24, _⟩ => ⟨S3840x1024, .bf16⟩
  | .hbm, ⟨25, _⟩ => ⟨S1x3840, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel5.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x1024 : Shape := ⟨2, ![2048, 1024]⟩
abbrev S5632x1024 : Shape := ⟨2, ![5632, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩
abbrev S768x1024 : Shape := ⟨2, ![768, 1024]⟩
abbrev S1024x768 : Shape := ⟨2, ![1024, 768]⟩
abbrev S640x1024 : Shape := ⟨2, ![640, 1024]⟩
abbrev S1024x640 : Shape := ⟨2, ![1024, 640]⟩

abbrev nBuf : Space → Nat
  | .hbm => 5
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x2816, .bf16⟩
  | .hbm, ⟨3, _⟩ => ⟨S2048x2816, .bf16⟩
  | .hbm, ⟨4, _⟩ => ⟨S2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2048x1024 : Shape := ⟨2, ![2048, 1024]⟩
abbrev S5632x1024 : Shape := ⟨2, ![5632, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x1024, .f32⟩
  | .hbm, ⟨3, _⟩ => ⟨S1024x5632, .bf16⟩
  | .hbm, ⟨4, _⟩ => ⟨S1024x5632, .f32⟩
  | .hbm, ⟨5, _⟩ => ⟨S2048x5632, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .bf16⟩
  | .hbm, ⟨19, _⟩ => ⟨S2048x2816, .bf16⟩
  | .hbm, ⟨20, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel7.lean ====
abbrev S2048x1024 : Shape := ⟨2, ![2048, 1024]⟩
abbrev S3840x1024 : Shape := ⟨2, ![3840, 1024]⟩
abbrev S1x3840 : Shape := ⟨2, ![1, 3840]⟩
abbrev S2048x3840 : Shape := ⟨2, ![2048, 3840]⟩
abbrev S1024x1024 : Shape := ⟨2, ![1024, 1024]⟩
abbrev S1920x1024 : Shape := ⟨2, ![1920, 1024]⟩
abbrev S1x1920 : Shape := ⟨2, ![1, 1920]⟩
abbrev S1024x1920 : Shape := ⟨2, ![1024, 1920]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S3840x1024, .bf16⟩
  | .hbm, ⟨2, _⟩ => ⟨S1x3840, .f32⟩
  | .hbm, ⟨3, _⟩ => ⟨S2048x3840, .bf16⟩
  | .local _ .vmem, ⟨0, _⟩ => ⟨S1024x1024, .bf16⟩
  | .local _ .vmem, ⟨1, _⟩ => ⟨S1024x1024, .bf16⟩
  | .local _ .vmem, ⟨2, _⟩ => ⟨S1920x1024, .bf16⟩
  | .local _ .vmem, ⟨3, _⟩ => ⟨S1920x1024, .bf16⟩
  | .local _ .vmem, ⟨4, _⟩ => ⟨S1x1920, .f32⟩
  | .local _ .vmem, ⟨5, _⟩ => ⟨S1x1920, .f32⟩
  | .local _ .vmem, ⟨6, _⟩ => ⟨S1024x1920, .bf16⟩
  | .local _ .vmem, ⟨7, _⟩ => ⟨S1024x1920, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1920x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1920 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x1024 : Shape := ⟨2, ![2048, 1024]⟩
abbrev S3840x1024 : Shape := ⟨2, ![3840, 1024]⟩
abbrev S1x3840 : Shape := ⟨2, ![1, 3840]⟩
abbrev S1024x3840 : Shape := ⟨2, ![1024, 3840]⟩
abbrev S2048x3840 : Shape := ⟨2, ![2048, 3840]⟩
abbrev S3840 : Shape := ⟨1, ![3840]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3840x1024, .bf16⟩
  | .hbm, ⟨2, _⟩ => ⟨S1x3840, .f32⟩
  | .hbm, ⟨3, _⟩ => ⟨S2048x1024, .f32⟩
  | .hbm, ⟨4, _⟩ => ⟨S1024x3840, .bf16⟩
  | .hbm, ⟨5, _⟩ => ⟨S1024x3840, .f32⟩
  | .hbm, ⟨6, _⟩ => ⟨S2048x3840, .f32⟩
  | .hbm, ⟨7, _⟩ => ⟨S3840, .f32⟩
  | .hbm, ⟨8, _⟩ => ⟨S1x3840, .f32⟩
  | .hbm, ⟨9, _⟩ => ⟨S2048x3840, .f32⟩
  | .hbm, ⟨10, _⟩ => ⟨S2048x3840, .f32⟩
  | .hbm, ⟨11, _⟩ => ⟨S2048x3840, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩
abbrev S2048x3840 : Shape := ⟨2, ![2048, 3840]⟩
abbrev S256x1024 : Shape := ⟨2, ![256, 1024]⟩
abbrev S2048x256 : Shape := ⟨2, ![2048, 256]⟩

abbrev nBuf : Space → Nat
  | .hbm => 9
  | .vmem => 19
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S2048x3840, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference8Ideal.lean ====
abbrev S2048x1024 : Shape := ⟨2, ![2048, 1024]⟩
abbrev S1024x1024 : Shape := ⟨2, ![1024, 1024]⟩
abbrev S2048x3840 : Shape := ⟨2, ![2048, 3840]⟩
abbrev S2048x2048 : Shape := ⟨2, ![2048, 2048]⟩
abbrev S2048x2x1024 : Shape := ⟨3, ![2048, 2, 1024]⟩
abbrev S_ : Shape := ⟨0, ![]⟩
abbrev S2048x1x1024 : Shape := ⟨3, ![2048, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S2048x3840, .bf16⟩
  | .hbm, ⟨5, _⟩ => ⟨S2048x1024, .f32⟩
  | .hbm, ⟨6, _⟩ => ⟨S2048x1024, .f32⟩
  | .hbm, ⟨7, _⟩ => ⟨S2048x2048, .bf16⟩
  | .hbm, ⟨8, _⟩ => ⟨S2048x2048, .f32⟩
  | .hbm, ⟨9, _⟩ => ⟨S2048x2x1024, .f32⟩
  | .hbm, ⟨10, _⟩ => ⟨S2048x2x1024, .f32⟩
  | .hbm, ⟨11, _⟩ => ⟨S2048x2x1024, .f32⟩
  | .hbm, ⟨12, _⟩ => ⟨S_, .f32⟩
  | .hbm, ⟨13, _⟩ => ⟨S2048x2x1024, .f32⟩
  | .hbm, ⟨14, _⟩ => ⟨S2048x2x1024, .f32⟩
  | .hbm, ⟨15, _⟩ => ⟨S_, .f32⟩
  | .hbm, ⟨16, _⟩ => ⟨S2048x2x1024, .f32⟩
  | .hbm, ⟨17, _⟩ => ⟨S2048x2x1024, .f32⟩
  | .hbm, ⟨18, _⟩ => ⟨S_, .f32⟩
  | .hbm, ⟨19, _⟩ => ⟨S2048x2x1024, .f32⟩
  | .hbm, ⟨20, _⟩ => ⟨S2048x2x1024, .f32⟩
  | .hbm, ⟨21, _⟩ => ⟨S2048x2x1024, .f32⟩
  | .hbm, ⟨22, _⟩ => ⟨S2048x1x1024, .f32⟩
  | .hbm, ⟨23, _⟩ => ⟨S2048x1024, .f32⟩
  | .hbm, ⟨24, _⟩ => ⟨S2048x1024, .f32⟩
  | .hbm, ⟨25, _⟩ => ⟨S2048x1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1024x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1x1024, .f32⟩
  | .hbm, ⟨36, _⟩ => ⟨S_, .f32⟩
  | .hbm, ⟨37, _⟩ => ⟨S2048x2x1024, .f32⟩
  | .hbm, ⟨38, _⟩ => ⟨S2048x1024, .f32⟩
  | .hbm, ⟨39, _⟩ => ⟨S2048x1024, .f32⟩
  | .hbm, ⟨40, _⟩ => ⟨S2048x1x1024, .f32⟩
  | .hbm, ⟨41, _⟩ => ⟨S_, .f32⟩
  | .hbm, ⟨42, _⟩ => ⟨S2048x2x1024, .f32⟩
  | .hbm, ⟨43, _⟩ => ⟨S2048x2x1024, .f32⟩
  | .hbm, ⟨44, _⟩ => ⟨S2048x2x1024, .f32⟩
  | .hbm, ⟨45, _⟩ => ⟨S2048x2048, .f32⟩
  | .hbm, ⟨46, _⟩ => ⟨S2048x1024, .bf16⟩
  | .hbm, ⟨47, _⟩ => ⟨S2048x1024, .bf16⟩
  | .hbm, ⟨48, _⟩ => ⟨S2048x1024, .f32⟩
  | .hbm, ⟨49, _⟩ => ⟨S2048x1024, .bf16⟩
  | .hbm, ⟨50, _⟩ => ⟨S2048x1024, .f32⟩
  | .hbm, ⟨51, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x1024 : Shape := ⟨2, ![2048, 1024]⟩
abbrev S1024x512 : Shape := ⟨2, ![1024, 512]⟩
abbrev S2048x512 : Shape := ⟨2, ![2048, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S2048x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S1024x512 : Shape := ⟨2, ![1024, 512]⟩
abbrev S_ : Shape := ⟨0, ![]⟩
abbrev S2048x512 : Shape := ⟨2, ![2048, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S_, .f32⟩
  | .hbm, ⟨3, _⟩ => ⟨S2048x512, .f32⟩
  | .hbm, ⟨4, _⟩ => ⟨S512x1024, .bf16⟩
  | .hbm, ⟨5, _⟩ => ⟨S512x1024, .f32⟩
  | .hbm, ⟨6, _⟩ => ⟨S2048x1024, .f32⟩
  | .hbm, ⟨7, _⟩ => ⟨S2048x1024, .f32⟩
  | .hbm, ⟨8, _⟩ => ⟨S2048x512, .f32⟩
  | .hbm, ⟨9, _⟩ => ⟨S2048x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2048x1024 : Shape := ⟨2, ![2048, 1024]⟩
abbrev S1024x512 : Shape := ⟨2, ![1024, 512]⟩
abbrev S2048x512 : Shape := ⟨2, ![2048, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S2048x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S1024x512 : Shape := ⟨2, ![1024, 512]⟩
abbrev S_ : Shape := ⟨0, ![]⟩
abbrev S2048x512 : Shape := ⟨2, ![2048, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S_, .f32⟩
  | .hbm, ⟨3, _⟩ => ⟨S2048x512, .f32⟩
  | .hbm, ⟨4, _⟩ => ⟨S512x1024, .bf16⟩
  | .hbm, ⟨5, _⟩ => ⟨S512x1024, .f32⟩
  | .hbm, ⟨6, _⟩ => ⟨S2048x1024, .f32⟩
  | .hbm, ⟨7, _⟩ => ⟨S2048x1024, .f32⟩
  | .hbm, ⟨8, _⟩ => ⟨S2048x512, .f32⟩
  | .hbm, ⟨9, _⟩ => ⟨S2048x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2048x1024 : Shape := ⟨2, ![2048, 1024]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S1024x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S512x512, .bf16⟩
  | .local _ .vmem, ⟨4, _⟩ => ⟨S512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S2048x512 : Shape := ⟨2, ![2048, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S_, .f32⟩
  | .hbm, ⟨3, _⟩ => ⟨S512x1024, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S2048x1024 : Shape := ⟨2, ![2048, 1024]⟩
abbrev S2048x512 : Shape := ⟨2, ![2048, 512]⟩
abbrev S1024x512 : Shape := ⟨2, ![1024, 512]⟩
abbrev S1x1024 : Shape := ⟨2, ![1, 1024]⟩
abbrev S512x512 : Shape := ⟨2, ![512, 512]⟩
abbrev S1x512 : Shape := ⟨2, ![1, 512]⟩
abbrev S512 : Shape := ⟨1, ![512]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S1024x512, .bf16⟩
  | .hbm, ⟨3, _⟩ => ⟨S1x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x512, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]
-- ==== Reference13Ideal.lean ====
abbrev S2048x1024 : Shape := ⟨2, ![2048, 1024]⟩
abbrev S2048x512 : Shape := ⟨2, ![2048, 512]⟩
abbrev S_ : Shape := ⟨0, ![]⟩
abbrev S512x1024 : Shape := ⟨2, ![512, 1024]⟩
abbrev S1024 : Shape := ⟨1, ![1024]⟩
abbrev S1x1024 : Shape := ⟨2, ![1, 1024]⟩
abbrev S1024x512 : Shape := ⟨2, ![1024, 512]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S_, .f32⟩
  | .hbm, ⟨3, _⟩ => ⟨S512x1024, .f32⟩
  | .hbm, ⟨4, _⟩ => ⟨S_, .f32⟩
  | .hbm, ⟨5, _⟩ => ⟨S1024, .f32⟩
  | .hbm, ⟨6, _⟩ => ⟨S2048x512, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S_, .f32⟩
  | .hbm, ⟨16, _⟩ => ⟨S1024, .f32⟩
  | .hbm, ⟨17, _⟩ => ⟨S1024x512, .f32⟩
  | .hbm, ⟨18, _⟩ => ⟨S512x1024, .f32⟩
  | .hbm, ⟨19, _⟩ => ⟨S1024x512, .f32⟩
  | .hbm, ⟨20, _⟩ => ⟨S1024x512, .bf16⟩
  | .hbm, ⟨21, _⟩ => ⟨S1x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel14.lean ====
abbrev S2048x512 : Shape := ⟨2, ![2048, 512]⟩
abbrev S1024x512 : Shape := ⟨2, ![1024, 512]⟩
abbrev S1x1024 : Shape := ⟨2, ![1, 1024]⟩
abbrev S2048x3840 : Shape := ⟨2, ![2048, 3840]⟩
abbrev S2048x1024 : Shape := ⟨2, ![2048, 1024]⟩
abbrev S256x512 : Shape := ⟨2, ![256, 512]⟩
abbrev S1x256 : Shape := ⟨2, ![1, 256]⟩
abbrev S2048x256 : Shape := ⟨2, ![2048, 256]⟩

abbrev nBuf : Space → Nat
  | .hbm => 9
  | .vmem => 18
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S1024x512, .bf16⟩
  | .hbm, ⟨3, _⟩ => ⟨S1024x512, .bf16⟩
  | .hbm, ⟨4, _⟩ => ⟨S1x1024, .f32⟩
  | .hbm, ⟨5, _⟩ => ⟨S2048x3840, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference14Ideal.lean ====
abbrev S2048x512 : Shape := ⟨2, ![2048, 512]⟩
abbrev S1024x512 : Shape := ⟨2, ![1024, 512]⟩
abbrev S1x1024 : Shape := ⟨2, ![1, 1024]⟩
abbrev S2048x3840 : Shape := ⟨2, ![2048, 3840]⟩
abbrev S512x1024 : Shape := ⟨2, ![512, 1024]⟩
abbrev S2048x1024 : Shape := ⟨2, ![2048, 1024]⟩
abbrev S1024 : Shape := ⟨1, ![1024]⟩
abbrev S2048x2048 : Shape := ⟨2, ![2048, 2048]⟩
abbrev S2048x2x1024 : Shape := ⟨3, ![2048, 2, 1024]⟩
abbrev S_ : Shape := ⟨0, ![]⟩
abbrev S2048x1x1024 : Shape := ⟨3, ![2048, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S1024x512, .bf16⟩
  | .hbm, ⟨3, _⟩ => ⟨S1024x512, .bf16⟩
  | .hbm, ⟨4, _⟩ => ⟨S1x1024, .f32⟩
  | .hbm, ⟨5, _⟩ => ⟨S2048x3840, .bf16⟩
  | .hbm, ⟨6, _⟩ => ⟨S2048x512, .f32⟩
  | .hbm, ⟨7, _⟩ => ⟨S512x1024, .bf16⟩
  | .hbm, ⟨8, _⟩ => ⟨S512x1024, .f32⟩
  | .hbm, ⟨9, _⟩ => ⟨S2048x1024, .f32⟩
  | .hbm, ⟨10, _⟩ => ⟨S2048x512, .f32⟩
  | .hbm, ⟨11, _⟩ => ⟨S512x1024, .bf16⟩
  | .hbm, ⟨12, _⟩ => ⟨S512x1024, .f32⟩
  | .hbm, ⟨13, _⟩ => ⟨S2048x1024, .f32⟩
  | .hbm, ⟨14, _⟩ => ⟨S1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x2048, .bf16⟩
  | .hbm, ⟨19, _⟩ => ⟨S2048x2048, .f32⟩
  | .hbm, ⟨20, _⟩ => ⟨S2048x2x1024, .f32⟩
  | .hbm, ⟨21, _⟩ => ⟨S2048x2x1024, .f32⟩
  | .hbm, ⟨22, _⟩ => ⟨S2048x2x1024, .f32⟩
  | .hbm, ⟨23, _⟩ => ⟨S_, .f32⟩
  | .hbm, ⟨24, _⟩ => ⟨S2048x2x1024, .f32⟩
  | .hbm, ⟨25, _⟩ => ⟨S2048x2x1024, .f32⟩
  | .hbm, ⟨26, _⟩ => ⟨S_, .f32⟩
  | .hbm, ⟨27, _⟩ => ⟨S2048x2x1024, .f32⟩
  | .hbm, ⟨28, _⟩ => ⟨S2048x2x1024, .f32⟩
  | .hbm, ⟨29, _⟩ => ⟨S2048x1x1024, .f32⟩
  | .hbm, ⟨30, _⟩ => ⟨S2048x1024, .f32⟩
  | .hbm, ⟨31, _⟩ => ⟨S2048x1024, .f32⟩
  | .hbm, ⟨32, _⟩ => ⟨S2048x1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .bf16⟩
  | .hbm, ⟨37, _⟩ => ⟨S2048x1024, .bf16⟩
  | .hbm, ⟨38, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩
abbrev S1x1024 : Shape := ⟨2, ![1, 1024]⟩
abbrev S2048x1 : Shape := ⟨2, ![2048, 1]⟩
abbrev S512x1024 : Shape := ⟨2, ![512, 1024]⟩
abbrev S512x1 : Shape := ⟨2, ![512, 1]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S2048x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1, .f32⟩
  | .local _ .vmem, ⟨11, _⟩ => ⟨S512x1, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]
-- ==== Reference15Ideal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel16.lean ====
abbrev S2048x2816 : Shape := ⟨2, ![2048, 2816]⟩
abbrev S5632x1024 : Shape := ⟨2, ![5632, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S256x2816 : Shape := ⟨2, ![256, 2816]⟩
abbrev S256x1024 : Shape := ⟨2, ![256, 1024]⟩
abbrev S256x1 : Shape := ⟨2, ![256, 1]⟩
abbrev S2816x1024 : Shape := ⟨2, ![2816, 1024]⟩
abbrev S256 : Shape := ⟨1, ![256]⟩
abbrev S1024 : Shape := ⟨1, ![1024]⟩

abbrev nBuf : Space → Nat
  | .hbm => 20
  | .vmem => 17
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .bf16⟩
  | .hbm, ⟨19, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S5632x1024, .bf16⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v33 : BitVec 1 := Scalar.cmpi .eq arg1 c0_i32
  let v34 : BitVec 32 := Scalar.extui v33
  let c0_i32_22 : BitVec 32 := 0#32
  let v35 : BitVec 1 := Scalar.cmpi .ne v34 c0_i32_22
  v35

def k0_cond2 (i : grid0.Coords) : BitVec 1 :=
  let arg1 : BitVec 32 := BitVec.ofNat 32 (i 1).val
  let c0_i32 : BitVec 32 := 0#32
  let v33 : BitVec 1 := Scalar.cmpi .eq arg1 c0_i32
  let v_true : BitVec 1 := 1#1
  let v36 : BitVec 1 := Scalar.xori v33 v_true
  let v37 : BitVec 32 := Scalar.extui v36
  let c0_i32_23 : BitVec 32 := 0#32
  let v38 : BitVec 1 := Scalar.cmpi .ne v37 c0_i32_23
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false, false]
-- ==== Reference16Ideal.lean ====
abbrev S2048x2816 : Shape := ⟨2, ![2048, 2816]⟩
abbrev S5632x1024 : Shape := ⟨2, ![5632, 1024]⟩
abbrev S2048x1024 : Shape := ⟨2, ![2048, 1024]⟩
abbrev S1x1024 : Shape := ⟨2, ![1, 1024]⟩
abbrev S2048x5632 : Shape := ⟨2, ![2048, 5632]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x5632 : Shape := ⟨2, ![1024, 5632]⟩

abbrev nBuf : Space → Nat
  | .hbm => 61
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x5632, .bf16⟩
  | .hbm, ⟨7, _⟩ => ⟨S2048x5632, .f32⟩
  | .hbm, ⟨8, _⟩ => ⟨S1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S1024x5632, .bf16⟩
  | .hbm, ⟨30, _⟩ => ⟨S1024x5632, .f32⟩
  | .hbm, ⟨31, _⟩ => ⟨S2048x5632, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | .hbm, ⟨60, _⟩ => ⟨S1x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel17.lean ====
abbrev S2048x768 : Shape := ⟨2, ![2048, 768]⟩
abbrev S2048x1024 : Shape := ⟨2, ![2048, 1024]⟩
abbrev S3840x1024 : Shape := ⟨2, ![3840, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S256x768 : Shape := ⟨2, ![256, 768]⟩
abbrev S256x1024 : Shape := ⟨2, ![256, 1024]⟩
abbrev S256x1 : Shape := ⟨2, ![256, 1]⟩
abbrev S768x1024 : Shape := ⟨2, ![768, 1024]⟩
abbrev S1024x1024 : Shape := ⟨2, ![1024, 1024]⟩
abbrev S256 : Shape := ⟨1, ![256]⟩
abbrev S1024 : Shape := ⟨1, ![1024]⟩

abbrev nBuf : Space → Nat
  | .hbm => 22
  | .vmem => 21
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S3840x1024, .bf16⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .bf16⟩
  | .hbm, ⟨21, _⟩ => ⟨S1x1024, .f32⟩
  | .local _ .vmem, ⟨0, _⟩ => ⟨S256x768, .bf16⟩
  | .local _ .vmem, ⟨1, _⟩ => ⟨S256x768, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S3840x1024, .bf16⟩
  | .local _ .vmem, ⟨9, _⟩ => ⟨S256x1024, .f32⟩
  | .local _ .vmem, ⟨10, _⟩ => ⟨S256x1024, .f32⟩
  | .local _ .vmem, ⟨11, _⟩ => ⟨S256x1, .f32⟩
  | .local _ .vmem, ⟨12, _⟩ => ⟨S256x1, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v41 : BitVec 1 := Scalar.cmpi .eq arg1 c0_i32
  let v42 : BitVec 32 := Scalar.extui v41
  let c0_i32_30 : BitVec 32 := 0#32
  let v43 : BitVec 1 := Scalar.cmpi .ne v42 c0_i32_30
  v43

def k0_cond2 (i : grid0.Coords) : BitVec 1 :=
  let arg1 : BitVec 32 := BitVec.ofNat 32 (i 1).val
  let c0_i32 : BitVec 32 := 0#32
  let v41 : BitVec 1 := Scalar.cmpi .eq arg1 c0_i32
  let v_true : BitVec 1 := 1#1
  let v44 : BitVec 1 := Scalar.xori v41 v_true
  let v45 : BitVec 32 := Scalar.extui v44
  let c0_i32_31 : BitVec 32 := 0#32
  let v46 : BitVec 1 := Scalar.cmpi .ne v45 c0_i32_31
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S3840x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false, false]
-- ==== Reference17Ideal.lean ====
abbrev S2048x768 : Shape := ⟨2, ![2048, 768]⟩
abbrev S2048x1024 : Shape := ⟨2, ![2048, 1024]⟩
abbrev S3840x1024 : Shape := ⟨2, ![3840, 1024]⟩
abbrev S1x1024 : Shape := ⟨2, ![1, 1024]⟩
abbrev S2048x3840 : Shape := ⟨2, ![2048, 3840]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x3840 : Shape := ⟨2, ![1024, 3840]⟩

abbrev nBuf : Space → Nat
  | .hbm => 63
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S3840x1024, .bf16⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x3840, .bf16⟩
  | .hbm, ⟨9, _⟩ => ⟨S2048x3840, .f32⟩
  | .hbm, ⟨10, _⟩ => ⟨S1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S1024x3840, .bf16⟩
  | .hbm, ⟨32, _⟩ => ⟨S1024x3840, .f32⟩
  | .hbm, ⟨33, _⟩ => ⟨S2048x3840, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .bf16⟩
  | .hbm, ⟨62, _⟩ => ⟨S1x1024, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Kernel18.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1x1 : Shape := ⟨2, ![1, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩

abbrev nBuf : Space → Nat
  | .hbm => 9
  | .vmem => 14
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S1x1, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v51 : BitVec 1 := Scalar.cmpi .eq arg1 c0_i32
  let v52 : BitVec 32 := Scalar.extui v51
  let c0_i32_24 : BitVec 32 := 0#32
  let v53 : BitVec 1 := Scalar.cmpi .ne v52 c0_i32_24
  v53

def k0_cond2 (i : grid0.Coords) : BitVec 1 :=
  let arg1 : BitVec 32 := BitVec.ofNat 32 (i 1).val
  let c0_i32 : BitVec 32 := 0#32
  let v51 : BitVec 1 := Scalar.cmpi .eq arg1 c0_i32
  let v_true : BitVec 1 := 1#1
  let v54 : BitVec 1 := Scalar.xori v51 v_true
  let v55 : BitVec 32 := Scalar.extui v54
  let c0_i32_25 : BitVec 32 := 0#32
  let v56 : BitVec 1 := Scalar.cmpi .ne v55 c0_i32_25
  v56

def k0_cond3 (i : grid0.Coords) : BitVec 1 :=
  let arg1 : BitVec 32 := BitVec.ofNat 32 (i 1).val
  let c0_i32_26 : BitVec 32 := 0#32
  let v57 : BitVec 1 := Scalar.cmpi .eq arg1 c0_i32_26
  let v58 : BitVec 32 := Scalar.extui v57
  let c0_i32_27 : BitVec 32 := 0#32
  let v59 : BitVec 1 := Scalar.cmpi .ne v58 c0_i32_27
  v59

def k0_cond4 (i : grid0.Coords) : BitVec 1 :=
  let arg1 : BitVec 32 := BitVec.ofNat 32 (i 1).val
  let c0_i32_26 : BitVec 32 := 0#32
  let v57 : BitVec 1 := Scalar.cmpi .eq arg1 c0_i32_26
  let true_28 : BitVec 1 := 1#1
  let v60 : BitVec 1 := Scalar.xori v57 true_28
  let v61 : BitVec 32 := Scalar.extui v60
  let c0_i32_29 : BitVec 32 := 0#32
  let v62 : BitVec 1 := Scalar.cmpi .ne v61 c0_i32_29
  v62

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference18Ideal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x2816, .f32⟩
  | .hbm, ⟨6, _⟩ => ⟨S2816x1024, .f32⟩
  | .hbm, ⟨7, _⟩ => ⟨S2048x1024, .f32⟩
  | .hbm, ⟨8, _⟩ => ⟨S2048x1024, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .bf16⟩
  | .hbm, ⟨79, _⟩ => ⟨S1x1024, .f32⟩
  | .hbm, ⟨80, _⟩ => ⟨S1x1, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel19.lean ====
abbrev S31x64 : Shape := ⟨2, ![31, 64]⟩

abbrev nBuf : Space → Nat
  | .hbm => 7
  | .vmem => 7
  | .smem => 0
  | _ => 0

abbrev bufTy : (tb : Table) → Fin (tcTables nBuf tb) → BufTy
  | .hbm, ⟨0, _⟩ => ⟨S31x64, .f32⟩
  | .hbm, ⟨1, _⟩ => ⟨S31x64, .f32⟩
  | .hbm, ⟨2, _⟩ => ⟨S31x64, .f32⟩
  | .hbm, ⟨3, _⟩ => ⟨S31x64, .f32⟩
  | .hbm, ⟨4, _⟩ => ⟨S31x64, .f32⟩
  | .hbm, ⟨5, _⟩ => ⟨S31x64, .f32⟩
  | .hbm, ⟨6, _⟩ => ⟨S31x64, .f32⟩
  | .local _ .vmem, ⟨0, _⟩ => ⟨S31x64, .f32⟩
  | .local _ .vmem, ⟨1, _⟩ => ⟨S31x64, .f32⟩
  | .local _ .vmem, ⟨2, _⟩ => ⟨S31x64, .f32⟩
  | .local _ .vmem, ⟨3, _⟩ => ⟨S31x64, .f32⟩
  | .local _ .vmem, ⟨4, _⟩ => ⟨S31x64, .f32⟩
  | .local _ .vmem, ⟨5, _⟩ => ⟨S31x64, .f32⟩
  | .local _ .vmem, ⟨6, _⟩ => ⟨S31x64, .f32⟩
  | _, _ => ⟨S31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S31x64 : Shape := ⟨2, ![31, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x64, .f32⟩
  | .hbm, ⟨1, _⟩ => ⟨S31x64, .f32⟩
  | .hbm, ⟨2, _⟩ => ⟨S31x64, .f32⟩
  | .hbm, ⟨3, _⟩ => ⟨S31x64, .f32⟩
  | .hbm, ⟨4, _⟩ => ⟨S_, .f32⟩
  | .hbm, ⟨5, _⟩ => ⟨S31x64, .f32⟩
  | .hbm, ⟨6, _⟩ => ⟨S31x64, .f32⟩
  | .hbm, ⟨7, _⟩ => ⟨S_, .f32⟩
  | .hbm, ⟨8, _⟩ => ⟨S31x64, .f32⟩
  | .hbm, ⟨9, _⟩ => ⟨S31x64, .f32⟩
  | .hbm, ⟨10, _⟩ => ⟨S31x64, .f32⟩
  | .hbm, ⟨11, _⟩ => ⟨S_, .f32⟩
  | .hbm, ⟨12, _⟩ => ⟨S31x64, .f32⟩
  | .hbm, ⟨13, _⟩ => ⟨S31x64, .f32⟩
  | .hbm, ⟨14, _⟩ => ⟨S31x64, .f32⟩
  | .hbm, ⟨15, _⟩ => ⟨S_, .f32⟩
  | .hbm, ⟨16, _⟩ => ⟨S31x64, .f32⟩
  | .hbm, ⟨17, _⟩ => ⟨S31x64, .f32⟩
  | .hbm, ⟨18, _⟩ => ⟨S31x64, .f32⟩
  | .hbm, ⟨19, _⟩ => ⟨S_, .f32⟩
  | .hbm, ⟨20, _⟩ => ⟨S31x64, .f32⟩
  | .hbm, ⟨21, _⟩ => ⟨S31x64, .f32⟩
  | .hbm, ⟨22, _⟩ => ⟨S_, .f32⟩
  | .hbm, ⟨23, _⟩ => ⟨S31x64, .f32⟩
  | .hbm, ⟨24, _⟩ => ⟨S31x64, .f32⟩
  | .hbm, ⟨25, _⟩ => ⟨S31x64, .f32⟩
  | .hbm, ⟨26, _⟩ => ⟨S_, .f32⟩
  | .hbm, ⟨27, _⟩ => ⟨S31x64, .f32⟩
  | .hbm, ⟨28, _⟩ => ⟨S31x64, .f32⟩
  | .hbm, ⟨29, _⟩ => ⟨S31x64, .f32⟩
  | .hbm, ⟨30, _⟩ => ⟨S_, .f32⟩
  | .hbm, ⟨31, _⟩ => ⟨S31x64, .f32⟩
  | .hbm, ⟨32, _⟩ => ⟨S31x64, .f32⟩
  | .hbm, ⟨33, _⟩ => ⟨S31x64, .f32⟩
  | .hbm, ⟨34, _⟩ => ⟨S_, .f32⟩
  | .hbm, ⟨35, _⟩ => ⟨S31x64, .f32⟩
  | .hbm, ⟨36, _⟩ => ⟨S31x64, .f32⟩
  | _, _ => ⟨S31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2 : Shape := ⟨1, ![2]⟩
abbrev S8x128x512 : Shape := ⟨3, ![8, 128, 512]⟩
abbrev S4x128x512 : Shape := ⟨3, ![4, 128, 512]⟩
abbrev S3x128x512 : Shape := ⟨3, ![3, 128, 512]⟩
abbrev S128x512 : Shape := ⟨2, ![128, 512]⟩
abbrev S1x128x512 : Shape := ⟨3, ![1, 128, 512]⟩
abbrev S1 : Shape := ⟨1, ![1]⟩

abbrev nBuf : Space → Nat
  | .hbm => 10
  | .vmem => 10
  | .smem => 1
  | _ => 0

abbrev bufTy : (tb : Table) → Fin (tcTables nBuf tb) → BufTy
  | .hbm, ⟨0, _⟩ => ⟨S8x128x512, .bf16⟩
  | .hbm, ⟨1, _⟩ => ⟨S4x128x512, .bf16⟩
  | .hbm, ⟨2, _⟩ => ⟨S3x128x512, .bf16⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x512, .f32⟩
  | .local _ .vmem, ⟨0, _⟩ => ⟨S1x128x512, .bf16⟩
  | .local _ .vmem, ⟨1, _⟩ => ⟨S1x128x512, .bf16⟩
  | .local _ .vmem, ⟨2, _⟩ => ⟨S3x128x512, .bf16⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .smem, ⟨0, _⟩ => ⟨S2, .i32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference20Ideal.lean ====
abbrev S2 : Shape := ⟨1, ![2]⟩
abbrev S8x128x512 : Shape := ⟨3, ![8, 128, 512]⟩
abbrev S4x128x512 : Shape := ⟨3, ![4, 128, 512]⟩
abbrev S3x128x512 : Shape := ⟨3, ![3, 128, 512]⟩
abbrev S128x512 : Shape := ⟨2, ![128, 512]⟩
abbrev S1 : Shape := ⟨1, ![1]⟩
abbrev S_ : Shape := ⟨0, ![]⟩
abbrev S1x128x512 : Shape := ⟨3, ![1, 128, 512]⟩

abbrev nBuf : Space → Nat
  | .hbm => 59
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x128x512, .bf16⟩
  | .hbm, ⟨2, _⟩ => ⟨S4x128x512, .bf16⟩
  | .hbm, ⟨3, _⟩ => ⟨S3x128x512, .bf16⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1x128x512, .bf16⟩
  | .hbm, ⟨12, _⟩ => ⟨S128x512, .bf16⟩
  | .hbm, ⟨13, _⟩ => ⟨S128x512, .f32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1x128x512, .bf16⟩
  | .hbm, ⟨19, _⟩ => ⟨S128x512, .bf16⟩
  | .hbm, ⟨20, _⟩ => ⟨S128x512, .f32⟩
  | .hbm, ⟨21, _⟩ => ⟨S128x512, .f32⟩
  | .hbm, ⟨22, _⟩ => ⟨S3x128x512, .f32⟩
  | .hbm, ⟨23, _⟩ => ⟨S_, .f32⟩
  | .hbm, ⟨24, _⟩ => ⟨S128x512, .f32⟩
  | .hbm, ⟨25, _⟩ => ⟨S128x512, .f32⟩
  | .hbm, ⟨26, _⟩ => ⟨S_, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | .hbm, ⟨40, _⟩ => ⟨S128x512, .f32⟩
  | .hbm, ⟨41, _⟩ => ⟨S_, .f32⟩
  | .hbm, ⟨42, _⟩ => ⟨S128x512, .f32⟩
  | .hbm, ⟨43, _⟩ => ⟨S128x512, .f32⟩
  | .hbm, ⟨44, _⟩ => ⟨S_, .f32⟩
  | .hbm, ⟨45, _⟩ => ⟨S128x512, .f32⟩
  | .hbm, ⟨46, _⟩ => ⟨S128x512, .f32⟩
  | .hbm, ⟨47, _⟩ => ⟨S128x512, .f32⟩
  | .hbm, ⟨48, _⟩ => ⟨S_, .f32⟩
  | .hbm, ⟨49, _⟩ => ⟨S128x512, .f32⟩
  | .hbm, ⟨50, _⟩ => ⟨S128x512, .f32⟩
  | .hbm, ⟨51, _⟩ => ⟨S128x512, .f32⟩
  | .hbm, ⟨52, _⟩ => ⟨S_, .f32⟩
  | .hbm, ⟨53, _⟩ => ⟨S128x512, .f32⟩
  | .hbm, ⟨54, _⟩ => ⟨S128x512, .f32⟩
  | .hbm, ⟨55, _⟩ => ⟨S128x512, .f32⟩
  | .hbm, ⟨56, _⟩ => ⟨S_, .f32⟩
  | .hbm, ⟨57, _⟩ => ⟨S128x512, .f32⟩
  | .hbm, ⟨58, _⟩ => ⟨S128x512, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel21.lean ====
abbrev S2 : Shape := ⟨1, ![2]⟩
abbrev S8x128x1024 : Shape := ⟨3, ![8, 128, 1024]⟩
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩
abbrev S1 : Shape := ⟨1, ![1]⟩

abbrev nBuf : Space → Nat
  | .hbm => 10
  | .vmem => 10
  | .smem => 1
  | _ => 0

abbrev bufTy : (tb : Table) → Fin (tcTables nBuf tb) → BufTy
  | .hbm, ⟨0, _⟩ => ⟨S8x128x1024, .bf16⟩
  | .hbm, ⟨1, _⟩ => ⟨S4x128x1024, .bf16⟩
  | .hbm, ⟨2, _⟩ => ⟨S3x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S3x128x1024, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .smem, ⟨0, _⟩ => ⟨S2, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference21Ideal.lean ====
abbrev S2 : Shape := ⟨1, ![2]⟩
abbrev S8x128x1024 : Shape := ⟨3, ![8, 128, 1024]⟩
abbrev S4x128x1024 : Shape := ⟨3, ![4, 128, 1024]⟩
abbrev S3x128x1024 : Shape := ⟨3, ![3, 128, 1024]⟩
abbrev S128x1024 : Shape := ⟨2, ![128, 1024]⟩
abbrev S1 : Shape := ⟨1, ![1]⟩
abbrev S_ : Shape := ⟨0, ![]⟩
abbrev S1x128x1024 : Shape := ⟨3, ![1, 128, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x128x1024, .bf16⟩
  | .hbm, ⟨2, _⟩ => ⟨S4x128x1024, .bf16⟩
  | .hbm, ⟨3, _⟩ => ⟨S3x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1x128x1024, .bf16⟩
  | .hbm, ⟨12, _⟩ => ⟨S128x1024, .bf16⟩
  | .hbm, ⟨13, _⟩ => ⟨S128x1024, .f32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1x128x1024, .bf16⟩
  | .hbm, ⟨19, _⟩ => ⟨S128x1024, .bf16⟩
  | .hbm, ⟨20, _⟩ => ⟨S128x1024, .f32⟩
  | .hbm, ⟨21, _⟩ => ⟨S128x1024, .f32⟩
  | .hbm, ⟨22, _⟩ => ⟨S3x128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S_, .f32⟩
  | .hbm, ⟨57, _⟩ => ⟨S128x1024, .f32⟩
  | .hbm, ⟨58, _⟩ => ⟨S128x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel22.lean ====
abbrev S2 : Shape := ⟨1, ![2]⟩
abbrev S8x352x1024 : Shape := ⟨3, ![8, 352, 1024]⟩
abbrev S4x352x1024 : Shape := ⟨3, ![4, 352, 1024]⟩
abbrev S3x352x1024 : Shape := ⟨3, ![3, 352, 1024]⟩
abbrev S352x1024 : Shape := ⟨2, ![352, 1024]⟩
abbrev S1x176x1024 : Shape := ⟨3, ![1, 176, 1024]⟩
abbrev S1 : Shape := ⟨1, ![1]⟩
abbrev S3x176x1024 : Shape := ⟨3, ![3, 176, 1024]⟩
abbrev S176x1024 : Shape := ⟨2, ![176, 1024]⟩

abbrev nBuf : Space → Nat
  | .hbm => 10
  | .vmem => 20
  | .smem => 1
  | _ => 0

abbrev bufTy : (tb : Table) → Fin (tcTables nBuf tb) → BufTy
  | .hbm, ⟨0, _⟩ => ⟨S8x352x1024, .bf16⟩
  | .hbm, ⟨1, _⟩ => ⟨S4x352x1024, .bf16⟩
  | .hbm, ⟨2, _⟩ => ⟨S3x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S3x176x1024, .bf16⟩
  | .local _ .vmem, ⟨5, _⟩ => ⟨S3x176x1024, .bf16⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .smem, ⟨0, _⟩ => ⟨S2, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference22Ideal.lean ====
abbrev S2 : Shape := ⟨1, ![2]⟩
abbrev S8x352x1024 : Shape := ⟨3, ![8, 352, 1024]⟩
abbrev S4x352x1024 : Shape := ⟨3, ![4, 352, 1024]⟩
abbrev S3x352x1024 : Shape := ⟨3, ![3, 352, 1024]⟩
abbrev S352x1024 : Shape := ⟨2, ![352, 1024]⟩
abbrev S1 : Shape := ⟨1, ![1]⟩
abbrev S_ : Shape := ⟨0, ![]⟩
abbrev S1x352x1024 : Shape := ⟨3, ![1, 352, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x352x1024, .bf16⟩
  | .hbm, ⟨2, _⟩ => ⟨S4x352x1024, .bf16⟩
  | .hbm, ⟨3, _⟩ => ⟨S3x352x1024, .bf16⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1x352x1024, .bf16⟩
  | .hbm, ⟨12, _⟩ => ⟨S352x1024, .bf16⟩
  | .hbm, ⟨13, _⟩ => ⟨S352x1024, .f32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1x352x1024, .bf16⟩
  | .hbm, ⟨19, _⟩ => ⟨S352x1024, .bf16⟩
  | .hbm, ⟨20, _⟩ => ⟨S352x1024, .f32⟩
  | .hbm, ⟨21, _⟩ => ⟨S352x1024, .f32⟩
  | .hbm, ⟨22, _⟩ => ⟨S3x352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | .hbm, ⟨44, _⟩ => ⟨S_, .f32⟩
  | .hbm, ⟨45, _⟩ => ⟨S352x1024, .f32⟩
  | .hbm, ⟨46, _⟩ => ⟨S352x1024, .f32⟩
  | .hbm, ⟨47, _⟩ => ⟨S352x1024, .f32⟩
  | .hbm, ⟨48, _⟩ => ⟨S_, .f32⟩
  | .hbm, ⟨49, _⟩ => ⟨S352x1024, .f32⟩
  | .hbm, ⟨50, _⟩ => ⟨S352x1024, .f32⟩
  | .hbm, ⟨51, _⟩ => ⟨S352x1024, .f32⟩
  | .hbm, ⟨52, _⟩ => ⟨S_, .f32⟩
  | .hbm, ⟨53, _⟩ => ⟨S352x1024, .f32⟩
  | .hbm, ⟨54, _⟩ => ⟨S352x1024, .f32⟩
  | .hbm, ⟨55, _⟩ => ⟨S352x1024, .f32⟩
  | .hbm, ⟨56, _⟩ => ⟨S_, .f32⟩
  | .hbm, ⟨57, _⟩ => ⟨S352x1024, .f32⟩
  | .hbm, ⟨58, _⟩ => ⟨S352x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel23.lean ====
abbrev S2 : Shape := ⟨1, ![2]⟩
abbrev S8x704x1024 : Shape := ⟨3, ![8, 704, 1024]⟩
abbrev S4x704x1024 : Shape := ⟨3, ![4, 704, 1024]⟩
abbrev S3x704x1024 : Shape := ⟨3, ![3, 704, 1024]⟩
abbrev S704x1024 : Shape := ⟨2, ![704, 1024]⟩
abbrev S1x352x1024 : Shape := ⟨3, ![1, 352, 1024]⟩
abbrev S1 : Shape := ⟨1, ![1]⟩
abbrev S3x352x1024 : Shape := ⟨3, ![3, 352, 1024]⟩
abbrev S352x1024 : Shape := ⟨2, ![352, 1024]⟩

abbrev nBuf : Space → Nat
  | .hbm => 10
  | .vmem => 20
  | .smem => 1
  | _ => 0

abbrev bufTy : (tb : Table) → Fin (tcTables nBuf tb) → BufTy
  | .hbm, ⟨0, _⟩ => ⟨S8x704x1024, .bf16⟩
  | .hbm, ⟨1, _⟩ => ⟨S4x704x1024, .bf16⟩
  | .hbm, ⟨2, _⟩ => ⟨S3x704x1024, .bf16⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .local _ .vmem, ⟨0, _⟩ => ⟨S1x352x1024, .bf16⟩
  | .local _ .vmem, ⟨1, _⟩ => ⟨S1x352x1024, .bf16⟩
  | .local _ .vmem, ⟨2, _⟩ => ⟨S1x352x1024, .bf16⟩
  | .local _ .vmem, ⟨3, _⟩ => ⟨S1x352x1024, .bf16⟩
  | .local _ .vmem, ⟨4, _⟩ => ⟨S3x352x1024, .bf16⟩
  | .local _ .vmem, ⟨5, _⟩ => ⟨S3x352x1024, .bf16⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .vmem, ⟨18, _⟩ => ⟨S352x1024, .f32⟩
  | .local _ .vmem, ⟨19, _⟩ => ⟨S352x1024, .f32⟩
  | .local _ .smem, ⟨0, _⟩ => ⟨S2, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference23Ideal.lean ====
abbrev S2 : Shape := ⟨1, ![2]⟩
abbrev S8x704x1024 : Shape := ⟨3, ![8, 704, 1024]⟩
abbrev S4x704x1024 : Shape := ⟨3, ![4, 704, 1024]⟩
abbrev S3x704x1024 : Shape := ⟨3, ![3, 704, 1024]⟩
abbrev S704x1024 : Shape := ⟨2, ![704, 1024]⟩
abbrev S1 : Shape := ⟨1, ![1]⟩
abbrev S_ : Shape := ⟨0, ![]⟩
abbrev S1x704x1024 : Shape := ⟨3, ![1, 704, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x704x1024, .bf16⟩
  | .hbm, ⟨2, _⟩ => ⟨S4x704x1024, .bf16⟩
  | .hbm, ⟨3, _⟩ => ⟨S3x704x1024, .bf16⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1x704x1024, .bf16⟩
  | .hbm, ⟨12, _⟩ => ⟨S704x1024, .bf16⟩
  | .hbm, ⟨13, _⟩ => ⟨S704x1024, .f32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1x704x1024, .bf16⟩
  | .hbm, ⟨19, _⟩ => ⟨S704x1024, .bf16⟩
  | .hbm, ⟨20, _⟩ => ⟨S704x1024, .f32⟩
  | .hbm, ⟨21, _⟩ => ⟨S704x1024, .f32⟩
  | .hbm, ⟨22, _⟩ => ⟨S3x704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S_, .f32⟩
  | .hbm, ⟨45, _⟩ => ⟨S704x1024, .f32⟩
  | .hbm, ⟨46, _⟩ => ⟨S704x1024, .f32⟩
  | .hbm, ⟨47, _⟩ => ⟨S704x1024, .f32⟩
  | .hbm, ⟨48, _⟩ => ⟨S_, .f32⟩
  | .hbm, ⟨49, _⟩ => ⟨S704x1024, .f32⟩
  | .hbm, ⟨50, _⟩ => ⟨S704x1024, .f32⟩
  | .hbm, ⟨51, _⟩ => ⟨S704x1024, .f32⟩
  | .hbm, ⟨52, _⟩ => ⟨S_, .f32⟩
  | .hbm, ⟨53, _⟩ => ⟨S704x1024, .f32⟩
  | .hbm, ⟨54, _⟩ => ⟨S704x1024, .f32⟩
  | .hbm, ⟨55, _⟩ => ⟨S704x1024, .f32⟩
  | .hbm, ⟨56, _⟩ => ⟨S_, .f32⟩
  | .hbm, ⟨57, _⟩ => ⟨S704x1024, .f32⟩
  | .hbm, ⟨58, _⟩ => ⟨S704x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel24.lean ====
abbrev S2 : Shape := ⟨1, ![2]⟩
abbrev S8x480x1024 : Shape := ⟨3, ![8, 480, 1024]⟩
abbrev S4x480x1024 : Shape := ⟨3, ![4, 480, 1024]⟩
abbrev S3x480x1024 : Shape := ⟨3, ![3, 480, 1024]⟩
abbrev S480x1024 : Shape := ⟨2, ![480, 1024]⟩
abbrev S1x240x1024 : Shape := ⟨3, ![1, 240, 1024]⟩
abbrev S1 : Shape := ⟨1, ![1]⟩
abbrev S3x240x1024 : Shape := ⟨3, ![3, 240, 1024]⟩
abbrev S240x1024 : Shape := ⟨2, ![240, 1024]⟩

abbrev nBuf : Space → Nat
  | .hbm => 10
  | .vmem => 20
  | .smem => 1
  | _ => 0

abbrev bufTy : (tb : Table) → Fin (tcTables nBuf tb) → BufTy
  | .hbm, ⟨0, _⟩ => ⟨S8x480x1024, .bf16⟩
  | .hbm, ⟨1, _⟩ => ⟨S4x480x1024, .bf16⟩
  | .hbm, ⟨2, _⟩ => ⟨S3x480x1024, .bf16⟩
  | .hbm, ⟨3, _⟩ => ⟨S480x1024, .f32⟩
  | .hbm, ⟨4, _⟩ => ⟨S480x1024, .f32⟩
  | .hbm, ⟨5, _⟩ => ⟨S480x1024, .f32⟩
  | .hbm, ⟨6, _⟩ => ⟨S480x1024, .f32⟩
  | .hbm, ⟨7, _⟩ => ⟨S480x1024, .f32⟩
  | .hbm, ⟨8, _⟩ => ⟨S480x1024, .f32⟩
  | .hbm, ⟨9, _⟩ => ⟨S480x1024, .f32⟩
  | .local _ .vmem, ⟨0, _⟩ => ⟨S1x240x1024, .bf16⟩
  | .local _ .vmem, ⟨1, _⟩ => ⟨S1x240x1024, .bf16⟩
  | .local _ .vmem, ⟨2, _⟩ => ⟨S1x240x1024, .bf16⟩
  | .local _ .vmem, ⟨3, _⟩ => ⟨S1x240x1024, .bf16⟩
  | .local _ .vmem, ⟨4, _⟩ => ⟨S3x240x1024, .bf16⟩
  | .local _ .vmem, ⟨5, _⟩ => ⟨S3x240x1024, .bf16⟩
  | .local _ .vmem, ⟨6, _⟩ => ⟨S240x1024, .f32⟩
  | .local _ .vmem, ⟨7, _⟩ => ⟨S240x1024, .f32⟩
  | .local _ .vmem, ⟨8, _⟩ => ⟨S240x1024, .f32⟩
  | .local _ .vmem, ⟨9, _⟩ => ⟨S240x1024, .f32⟩
  | .local _ .vmem, ⟨10, _⟩ => ⟨S240x1024, .f32⟩
  | .local _ .vmem, ⟨11, _⟩ => ⟨S240x1024, .f32⟩
  | .local _ .vmem, ⟨12, _⟩ => ⟨S240x1024, .f32⟩
  | .local _ .vmem, ⟨13, _⟩ => ⟨S240x1024, .f32⟩
  | .local _ .vmem, ⟨14, _⟩ => ⟨S240x1024, .f32⟩
  | .local _ .vmem, ⟨15, _⟩ => ⟨S240x1024, .f32⟩
  | .local _ .vmem, ⟨16, _⟩ => ⟨S240x1024, .f32⟩
  | .local _ .vmem, ⟨17, _⟩ => ⟨S240x1024, .f32⟩
  | .local _ .vmem, ⟨18, _⟩ => ⟨S240x1024, .f32⟩
  | .local _ .vmem, ⟨19, _⟩ => ⟨S240x1024, .f32⟩
  | .local _ .smem, ⟨0, _⟩ => ⟨S2, .i32⟩
  | _, _ => ⟨S8x480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x240x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x240x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x240x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S240x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S240x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S240x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S240x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S240x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S240x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S240x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference24Ideal.lean ====
abbrev S2 : Shape := ⟨1, ![2]⟩
abbrev S8x480x1024 : Shape := ⟨3, ![8, 480, 1024]⟩
abbrev S4x480x1024 : Shape := ⟨3, ![4, 480, 1024]⟩
abbrev S3x480x1024 : Shape := ⟨3, ![3, 480, 1024]⟩
abbrev S480x1024 : Shape := ⟨2, ![480, 1024]⟩
abbrev S1 : Shape := ⟨1, ![1]⟩
abbrev S_ : Shape := ⟨0, ![]⟩
abbrev S1x480x1024 : Shape := ⟨3, ![1, 480, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x480x1024, .bf16⟩
  | .hbm, ⟨2, _⟩ => ⟨S4x480x1024, .bf16⟩
  | .hbm, ⟨3, _⟩ => ⟨S3x480x1024, .bf16⟩
  | .hbm, ⟨4, _⟩ => ⟨S480x1024, .f32⟩
  | .hbm, ⟨5, _⟩ => ⟨S480x1024, .f32⟩
  | .hbm, ⟨6, _⟩ => ⟨S480x1024, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1x480x1024, .bf16⟩
  | .hbm, ⟨12, _⟩ => ⟨S480x1024, .bf16⟩
  | .hbm, ⟨13, _⟩ => ⟨S480x1024, .f32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1x480x1024, .bf16⟩
  | .hbm, ⟨19, _⟩ => ⟨S480x1024, .bf16⟩
  | .hbm, ⟨20, _⟩ => ⟨S480x1024, .f32⟩
  | .hbm, ⟨21, _⟩ => ⟨S480x1024, .f32⟩
  | .hbm, ⟨22, _⟩ => ⟨S3x480x1024, .f32⟩
  | .hbm, ⟨23, _⟩ => ⟨S_, .f32⟩
  | .hbm, ⟨24, _⟩ => ⟨S480x1024, .f32⟩
  | .hbm, ⟨25, _⟩ => ⟨S480x1024, .f32⟩
  | .hbm, ⟨26, _⟩ => ⟨S_, .f32⟩
  | .hbm, ⟨27, _⟩ => ⟨S480x1024, .f32⟩
  | .hbm, ⟨28, _⟩ => ⟨S480x1024, .f32⟩
  | .hbm, ⟨29, _⟩ => ⟨S_, .f32⟩
  | .hbm, ⟨30, _⟩ => ⟨S480x1024, .f32⟩
  | .hbm, ⟨31, _⟩ => ⟨S480x1024, .f32⟩
  | .hbm, ⟨32, _⟩ => ⟨S480x1024, .f32⟩
  | .hbm, ⟨33, _⟩ => ⟨S_, .f32⟩
  | .hbm, ⟨34, _⟩ => ⟨S480x1024, .f32⟩
  | .hbm, ⟨35, _⟩ => ⟨S480x1024, .f32⟩
  | .hbm, ⟨36, _⟩ => ⟨S480x1024, .f32⟩
  | .hbm, ⟨37, _⟩ => ⟨S_, .f32⟩
  | .hbm, ⟨38, _⟩ => ⟨S480x1024, .f32⟩
  | .hbm, ⟨39, _⟩ => ⟨S480x1024, .f32⟩
  | .hbm, ⟨40, _⟩ => ⟨S480x1024, .f32⟩
  | .hbm, ⟨41, _⟩ => ⟨S_, .f32⟩
  | .hbm, ⟨42, _⟩ => ⟨S480x1024, .f32⟩
  | .hbm, ⟨43, _⟩ => ⟨S480x1024, .f32⟩
  | .hbm, ⟨44, _⟩ => ⟨S_, .f32⟩
  | .hbm, ⟨45, _⟩ => ⟨S480x1024, .f32⟩
  | .hbm, ⟨46, _⟩ => ⟨S480x1024, .f32⟩
  | .hbm, ⟨47, _⟩ => ⟨S480x1024, .f32⟩
  | .hbm, ⟨48, _⟩ => ⟨S_, .f32⟩
  | .hbm, ⟨49, _⟩ => ⟨S480x1024, .f32⟩
  | .hbm, ⟨50, _⟩ => ⟨S480x1024, .f32⟩
  | .hbm, ⟨51, _⟩ => ⟨S480x1024, .f32⟩
  | .hbm, ⟨52, _⟩ => ⟨S_, .f32⟩
  | .hbm, ⟨53, _⟩ => ⟨S480x1024, .f32⟩
  | .hbm, ⟨54, _⟩ => ⟨S480x1024, .f32⟩
  | .hbm, ⟨55, _⟩ => ⟨S480x1024, .f32⟩
  | .hbm, ⟨56, _⟩ => ⟨S_, .f32⟩
  | .hbm, ⟨57, _⟩ => ⟨S480x1024, .f32⟩
  | .hbm, ⟨58, _⟩ => ⟨S480x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Proof.Trip.lean ====
module

public import proofs.«01_k».proof.Proof.Gen.KernelIdeal.Frame
public import proofs.«01_k».proof.Proof.Gen.KernelIdeal.Loops

@[expose] public section

/-!
One trip of the loop over the 16 blocks of query rows, run from any contents of the seven buffers.
-/

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The ghost state of a run. -/
abbrev UU (nD : Nat) (τ : Topo) : Type := UR sig nD τ
/-- No loop of the program has a variant of its own. -/
abbrev 𝒱₀ : Variants := Variants.none
local notation "𝕄" => MT nD τ sig Unit (Elt F) ℕ (UU nD τ) ℕ

/-- Where the accumulators' rows before block `k` start (block 0 takes its own rows). -/
theorem k0_off9_eq : ∀ k, k0_off9 k = ![128 * (k.val - 1), 0] := by decide +kernel
instance (k : Fin k0_t1_loop.trips) : ClosedOff (k0_off9 k) := ⟨_, k0_off9_eq k⟩
/-- Where the key rows before block `k` start. -/
theorem k0_off1_eq : ∀ k, k0_off1 k = ![128 * (k.val - 1), 512] := by decide +kernel
instance (k : Fin k0_t1_loop.trips) : ClosedOff (k0_off1 k) := ⟨_, k0_off1_eq k⟩
/-- Where the value rows before block `k` start. -/
theorem k0_off3_eq : ∀ k, k0_off3 k = ![128 * (k.val - 1), 640] := by decide +kernel
instance (k : Fin k0_t1_loop.trips) : ClosedOff (k0_off3 k) := ⟨_, k0_off3_eq k⟩

section
variable (c : Dev nD) (i : grid0.Coords) (arg1 : Memref sig .tc .vmem S2048x768 .bf16) (harg1 : arg1.IsWhole) (arg2 : Memref sig .tc .vmem S2048x512 .bf16) (harg2 : arg2.IsWhole) (arg3 : Memref sig .tc .smem S1x8 .f32) (harg3 : arg3.IsWhole) (arg4 : Memref sig .tc .vmem S2048x768 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
  (f1 : Buf (Elt F) (arg1.view.loc (c : Thread nD τ))) (f2 : Buf (Elt F) (arg2.view.loc (c : Thread nD τ))) (f3 : Buf (Elt F) (arg3.view.loc (c : Thread nD τ)))

/-- The seven buffers of the body, each held whole at given contents. -/
abbrev Res (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7))

set_option backward.proofsInPublic true in
/-- A trip after the first, run from any contents: the stores it makes into the query-gradient block, the
sink accumulator and the key and value accumulators, as lists, and that the trip leaves exactly those.
Here the rows before the block and the block's own rows lie apart. -/
def tripPos (k : Fin k0_t1_loop.trips) (hk : 0 < k.val) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) :
    Σ' (L4 : List (View.Piece (Elt F) S2048x768 .bf16)) (L5 : List (View.Piece (Elt F) S1x128 .f32)) (L6 : List (View.Piece (Elt F) S2048x128 .f32)),
    { L7 : List (View.Piece (Elt F) S2048x128 .f32) //
      Res c arg1 arg2 arg3 arg4 arg5 arg6 arg7 f1 f2 f3 f4 f5 f6 f7 ⊢ wp frame (wpE (defs₀ (F := F)) 𝒱₀ (c : Thread nD τ) none) Set.univ
        (k0_t1_body (F := F) i arg1 harg1 arg2 harg2 arg3 harg3 arg4 harg4 arg5 harg5 arg6 harg6 arg7 harg7 k ())
        (fun _ => Res c arg1 arg2 arg3 arg4 arg5 arg6 arg7 f1 f2 f3 (arg4.view.writes (Elt F) f4 L4) (arg5.view.writes (Elt F) f5 L5) (arg6.view.writes (Elt F) f6 L6) (arg7.view.writes (Elt F) f7 L7)) } := by
  refine ⟨?_, ?_, ?_, ?_, ?run⟩
  case run =>
    unfold Res
    iintro ⟨H1, H2, H3, H4, H5, H6, H7⟩
    sl_unfold [k0_t1_body]
    sl_exec
    sl_step
    sl_close

set_option backward.proofsInPublic true in
/-- The first trip, run from any contents. Here the rows "before" the block are the block's own rows. -/
def tripZero (k : Fin k0_t1_loop.trips) (hk : k = ⟨0, by decide⟩) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) :
    Σ' (L4 : List (View.Piece (Elt F) S2048x768 .bf16)) (L5 : List (View.Piece (Elt F) S1x128 .f32)) (L6 : List (View.Piece (Elt F) S2048x128 .f32)),
    { L7 : List (View.Piece (Elt F) S2048x128 .f32) //
      Res c arg1 arg2 arg3 arg4 arg5 arg6 arg7 f1 f2 f3 f4 f5 f6 f7 ⊢ wp frame (wpE (defs₀ (F := F)) 𝒱₀ (c : Thread nD τ) none) Set.univ
        (k0_t1_body (F := F) i arg1 harg1 arg2 harg2 arg3 harg3 arg4 harg4 arg5 harg5 arg6 harg6 arg7 harg7 k ())
        (fun _ => Res c arg1 arg2 arg3 arg4 arg5 arg6 arg7 f1 f2 f3 (arg4.view.writes (Elt F) f4 L4) (arg5.view.writes (Elt F) f5 L5) (arg6.view.writes (Elt F) f6 L6) (arg7.view.writes (Elt F) f7 L7)) } := by
  refine ⟨?_, ?_, ?_, ?_, ?run⟩
  case run =>
    subst hk
    unfold Res
    iintro ⟨H1, H2, H3, H4, H5, H6, H7⟩
    sl_unfold [k0_t1_body]
    sl_exec
    sl_step
    sl_close

end
end Cert.Proof.KernelIdeal
end
-- ==== Proof.Head.lean ====
module

public import proofs.«01_k».proof.Proof.Gen.KernelIdeal.Skeleton

@[expose] public section

/-!
One key-value head of one block of 128 query rows, as a pure function of what the trip reads.

Both key-value heads run the same operations; they differ in the half of the lanes they keep.
-/

set_option maxRecDepth 16384

noncomputable section

namespace Cert.Proof.KernelIdeal

open Cert.KernelIdeal Cert.KernelIdeal.Gen
open Idealize.ShloMosaic

variable {F : FTy → Type} [FloatOps F] [Named F]

/-- The lanes `lo ≤ lane < hi` of a tile. -/
def lanes (lo hi : BitVec 32) : IVec S128x128 1 :=
  andi (cmpi .sge (iota .tc S128x128 32 [1] iota_S128x128_d1_w32) (broadcast S128x128 lo))
    (cmpi .slt (iota .tc S128x128 32 [1] iota_S128x128_d1_w32) (broadcast S128x128 hi))

/-- A tile with every lane outside `lo ≤ lane < hi` set to zero. -/
def keep (lo hi : BitVec 32) (x : FVec F S128x128 .f32) : FVec F S128x128 .f32 :=
  select (lanes lo hi) x (broadcast S128x128 (Scalar.ofBits .f32 0x00000000#32 : F .f32))

/-- The lanes of a tile rotated by half of them: the two halves change places. -/
def swapHalves (x : FVec F S128x128 .f32) : FVec F S128x128 .f32 :=
  dynamicRotate 1 64#32 none x rotates_S128x128_d1

/-- A `bf16` tile widened. -/
def wide (x : Vec F S128x128 .bf16) : FVec F S128x128 .f32 := extf .f32 x bitsLt_bf16_f32

/-- Two blocks of rows, one above the other. -/
def stack2 (a b : Vec F S128x128 .bf16) : FVec F S256x128 .bf16 :=
  concatenate S256x128 0 [⟨S128x128, a⟩, ⟨S128x128, b⟩] concatenates_S128x128_S128x128_S256x128_d0

/-- Four blocks of rows, one above the other, rounded to `bf16`. -/
def stack4 (x0 x1 x2 x3 : FVec F S128x128 .f32) : FVec F S512x128 .bf16 :=
  truncf .bf16 (concatenate S512x128 0 [⟨S128x128, x0⟩, ⟨S128x128, x1⟩, ⟨S128x128, x2⟩, ⟨S128x128, x3⟩]
    concatenates_S128x128_S128x128_S128x128_S128x128_S512x128_d0) bitsLt_bf16_f32

/-- Rows of `a` against rows of `b`: `a · bᵀ`. -/
def rowsByRows (a : FVec F S512x128 .bf16) (b : FVec F S256x128 .bf16) : FVec F S512x256 .f32 :=
  matmul dot_S512x128_S256x128_S512x256_1_1_0_0_n_n none a b (constant S512x256 .f32 0x00000000#32)

/-- `w · b`. -/
def weighRows (w : FVec F S512x256 .bf16) (b : FVec F S256x128 .bf16) : FVec F S512x128 .f32 :=
  matmul dot_S512x256_S256x128_S512x128_1_0_0_1_n_n none w b (constant S512x128 .f32 0x00000000#32)

/-- `wᵀ · a`. -/
def weighCols (w : FVec F S512x256 .bf16) (a : FVec F S512x128 .bf16) : FVec F S256x128 .f32 :=
  matmul dot_S512x256_S512x128_S256x128_0_0_1_1_n_n none w a (constant S256x128 .f32 0x00000000#32)

/-- One eighth in every entry. -/
def eighths : FVec F S512x256 .f32 := broadcast S512x256 (Scalar.ofBits .f32 0x3E000000#32 : F .f32)

/-- Which of the 256 key rows a query row of block `n` looks at. -/
def band (n : BitVec 32) : IVec S512x256 1 :=
  have row : IVec S512x256 32 := andi (iota .tc S512x256 32 [0] iota_S512x256_d0_w32) (broadcast S512x256 127#32)
  have col : IVec S512x256 32 := iota .tc S512x256 32 [1] iota_S512x256_d1_w32
  have dist : IVec S512x256 32 := subi (addi row (broadcast S512x256 128#32)) col
  andi (andi (cmpi .sge dist (broadcast S512x256 0#32)) (cmpi .slt dist (broadcast S512x256 128#32)))
    (ori (cmpi .sge col (broadcast S512x256 128#32)) (broadcast S512x256 (Scalar.cmpi .sgt n 0#32)))

/-- The scaled logits, the mask outside the band. -/
def logits (n : BitVec 32) (q : FVec F S512x128 .bf16) (k2 : FVec F S256x128 .bf16) : FVec F S512x256 .f32 :=
  select (band n) (mulf (rowsByRows q k2) eighths)
    (broadcast S512x256 (Named.named κ "mask" 0xF149F2CA#32 : F .f32))

/-- The rows `lo ≤ row < hi` of a column. -/
def rows (lo hi : BitVec 32) : IVec S512x1 1 :=
  andi (cmpi .sge (iota .tc S512x1 32 [0] iota_S512x1_d0_w32) (broadcast S512x1 lo))
    (cmpi .slt (iota .tc S512x1 32 [0] iota_S512x1_d0_w32) (broadcast S512x1 hi))

/-- The sink logit of each of the four heads in its 128 rows. -/
def sinkCol (s0 s1 s2 s3 : Elt F .f32) : FVec F S512x1 .f32 :=
  select (rows 384#32 512#32) (broadcast S512x1 s3) (select (rows 256#32 384#32) (broadcast S512x1 s2)
    (select (rows 128#32 256#32) (broadcast S512x1 s1) (select (rows 0#32 128#32) (broadcast S512x1 s0)
      (broadcast S512x1 (Scalar.ofBits .f32 0x00000000#32 : F .f32)))))

/-- The sum of each row, as a column. -/
def rowSum (x : FVec F S512x256 .f32) : FVec F S512x1 .f32 :=
  shapeCast S512x1 (multiReduction .add [1] S512 x 0x00000000#32 reduces_S512x256_S512 (.inl rfl) rfl) shapeCasts_S512_S512x1

/-- The largest of each row, as a column. -/
def rowMax (x : FVec F S512x256 .f32) : FVec F S512x1 .f32 :=
  shapeCast S512x1 (multiReduction .maximumf [1] S512 x 0xFF800000#32 reduces_S512x256_S512 (.inl rfl) rfl) shapeCasts_S512_S512x1

/-- A column repeated along the rows. -/
def spread (x : FVec F S512x1 .f32) : FVec F S512x256 .f32 := broadcastTo S512x256 x broadcasts_S512x1_S512x256

/-- The largest of a row's logits and its sink. -/
def peak (s : FVec F S512x256 .f32) (σ : FVec F S512x1 .f32) : FVec F S512x1 .f32 := maximumf (rowMax s) σ

/-- The exponentials of a row's logits, its peak taken away. -/
def expRow (s : FVec F S512x256 .f32) (σ : FVec F S512x1 .f32) : FVec F S512x256 .f32 :=
  exp (subf s (spread (peak s σ)))

/-- The exponential of the sink, the row's peak taken away. -/
def expSink (s : FVec F S512x256 .f32) (σ : FVec F S512x1 .f32) : FVec F S512x1 .f32 :=
  exp (subf σ (peak s σ))

/-- One over the sum of a row's exponentials, the sink's among them. -/
def invSum (s : FVec F S512x256 .f32) (σ : FVec F S512x1 .f32) : FVec F S512x1 .f32 :=
  divf (broadcast S512x1 (Scalar.ofBits .f32 0x3F800000#32 : F .f32)) (addf (rowSum (expRow s σ)) (expSink s σ))

/-- The weights. -/
def weights (s : FVec F S512x256 .f32) (σ : FVec F S512x1 .f32) : FVec F S512x256 .f32 :=
  mulf (expRow s σ) (spread (invSum s σ))

/-- The sink's weight. -/
def sinkWeight (s : FVec F S512x256 .f32) (σ : FVec F S512x1 .f32) : FVec F S512x1 .f32 :=
  mulf (expSink s σ) (invSum s σ)

/-- The row sums of weights times their cotangents. -/
def meanCot (p dp : FVec F S512x256 .f32) : FVec F S512x1 .f32 := rowSum (mulf p dp)

/-- The cotangent of the unscaled logits, rounded to `bf16`. -/
def cotLogits (p dp : FVec F S512x256 .f32) : FVec F S512x256 .bf16 :=
  truncf .bf16 (mulf (mulf p (subf dp (spread (meanCot p dp)))) eighths) bitsLt_bf16_f32

/-- The sink accumulator with minus the sum of a head's 128 rows added in lane `l`. -/
def addSink (ds : FVec F S128x1 .f32) (l : BitVec 32) (x : FVec F S1x128 .f32) : FVec F S1x128 .f32 :=
  addf (shapeCast S1x128 x shapeCasts_S1x128_S1x128)
    (select (cmpi .eq (iota .tc S1x128 32 [1] iota_S1x128_d1_w32) (broadcast S1x128 l))
      (broadcastTo S1x128 (shapeCast S1x1 (subf (broadcast S1x1 (Scalar.ofBits .f32 0x00000000#32 : F .f32))
        (shapeCast S1x1 (multiReduction .add [0] S1 ds 0x00000000#32 reduces_S128x1_S1 (.inl rfl) rfl) shapeCasts_S1_S1x1))
        shapeCasts_S1x1_S1x1) broadcasts_S1x1_S1x128)
      (broadcast S1x128 (Scalar.ofBits .f32 0x00000000#32 : F .f32)))

/-- The sink accumulator after the four heads of a key-value head, lanes `l0 … l3`. -/
def addSinks (ds : FVec F S512x1 .f32) (l0 l1 l2 l3 : BitVec 32) (x : FVec F S1x128 .f32) : FVec F S1x128 .f32 :=
  addSink (extractStridedSlice S128x1 ![384, 0] ds slices_S512x1_o384_0_S128x1) l3
    (addSink (extractStridedSlice S128x1 ![256, 0] ds slices_S512x1_o256_0_S128x1) l2
      (addSink (extractStridedSlice S128x1 ![128, 0] ds slices_S512x1_o128_0_S128x1) l1
        (addSink (extractStridedSlice S128x1 ![0, 0] ds slices_S512x1_o0_0_S128x1) l0 x)))

/-- What one trip reads: the block's number, the key and value rows before the block and of it, the four
lane tiles of its query rows and of their cotangents, and the eight sink logits. -/
structure Blocks (F : FTy → Type) [FloatOps F] where
  /-- the block's number -/
  n : BitVec 32
  /-- key rows before the block -/
  kp : Vec F S128x128 .bf16
  /-- key rows of the block -/
  kc : Vec F S128x128 .bf16
  /-- value rows before the block -/
  vp : Vec F S128x128 .bf16
  /-- value rows of the block -/
  vc : Vec F S128x128 .bf16
  /-- query tiles, two heads in each -/
  q : Fin 4 → Vec F S128x128 .bf16
  /-- cotangent tiles, two heads in each -/
  d : Fin 4 → Vec F S128x128 .bf16
  /-- sink logits -/
  s : Fin 8 → Elt F .f32

namespace Blocks
variable (b : Blocks F)

/-- The first key-value head's four query (or cotangent) tiles from two lane tiles. -/
def lo4 {α : Type} (f : FVec F S128x128 .f32 → FVec F S128x128 .f32 → FVec F S128x128 .f32 → FVec F S128x128 .f32 → α)
    (t0 t1 : Vec F S128x128 .bf16) : α :=
  f (keep 0#32 64#32 (wide t0)) (keep 0#32 64#32 (swapHalves (wide t0)))
    (keep 0#32 64#32 (wide t1)) (keep 0#32 64#32 (swapHalves (wide t1)))

/-- The second key-value head's. -/
def hi4 {α : Type} (f : FVec F S128x128 .f32 → FVec F S128x128 .f32 → FVec F S128x128 .f32 → FVec F S128x128 .f32 → α)
    (t0 t1 : Vec F S128x128 .bf16) : α :=
  f (keep 64#32 128#32 (swapHalves (wide t0))) (keep 64#32 128#32 (wide t0))
    (keep 64#32 128#32 (swapHalves (wide t1))) (keep 64#32 128#32 (wide t1))

/-- The stacked query rows of each key-value head. -/
def Q : Fin 2 → FVec F S512x128 .bf16
  | 0 => lo4 stack4 (b.q 0) (b.q 1)
  | 1 => hi4 stack4 (b.q 2) (b.q 3)

/-- The stacked cotangent rows of each key-value head. -/
def D : Fin 2 → FVec F S512x128 .bf16
  | 0 => lo4 stack4 (b.d 0) (b.d 1)
  | 1 => hi4 stack4 (b.d 2) (b.d 3)

/-- The sink column of each key-value head. -/
def σ : Fin 2 → FVec F S512x1 .f32
  | 0 => sinkCol (b.s 0) (b.s 1) (b.s 2) (b.s 3)
  | 1 => sinkCol (b.s 4) (b.s 5) (b.s 6) (b.s 7)

/-- The logits of a key-value head. -/
def S (h : Fin 2) : FVec F S512x256 .f32 := logits b.n (b.Q h) (stack2 b.kp b.kc)

/-- The weights of a key-value head. -/
def P (h : Fin 2) : FVec F S512x256 .f32 := weights (b.S h) (b.σ h)

/-- The weights' cotangents of a key-value head. -/
def DP (h : Fin 2) : FVec F S512x256 .f32 := rowsByRows (b.D h) (stack2 b.vp b.vc)

/-- The query gradients of a key-value head. -/
def DQ (h : Fin 2) : FVec F S512x128 .f32 := weighRows (cotLogits (b.P h) (b.DP h)) (stack2 b.kp b.kc)

/-- The key gradients of a key-value head. -/
def DK (h : Fin 2) : FVec F S256x128 .f32 := weighCols (cotLogits (b.P h) (b.DP h)) (b.Q h)

/-- The value gradients of a key-value head. -/
def DV (h : Fin 2) : FVec F S256x128 .f32 := weighCols (truncf .bf16 (b.P h) bitsLt_bf16_f32) (b.D h)

/-- Each row's share of the sink gradients of a key-value head, before its sign is turned. -/
def DS (h : Fin 2) : FVec F S512x1 .f32 := mulf (sinkWeight (b.S h) (b.σ h)) (meanCot (b.P h) (b.DP h))

/-- One lane tile of the first key-value head's query gradients: two heads' rows beside each other. -/
def loTile (x0 x1 : FVec F S128x128 .f32) : FVec F S128x128 .bf16 :=
  truncf .bf16 (addf (keep 0#32 64#32 x0) (swapHalves (keep 0#32 64#32 x1))) bitsLt_bf16_f32

/-- One lane tile of the second key-value head's. -/
def hiTile (x0 x1 : FVec F S128x128 .f32) : FVec F S128x128 .bf16 :=
  truncf .bf16 (addf (swapHalves (keep 64#32 128#32 x0)) (keep 64#32 128#32 x1)) bitsLt_bf16_f32

/-- The rows of one of the four heads. -/
def quarter (x : FVec F S512x128 .f32) : Fin 4 → FVec F S128x128 .f32
  | 0 => extractStridedSlice S128x128 ![0, 0] x slices_S512x128_o0_0_S128x128
  | 1 => extractStridedSlice S128x128 ![128, 0] x slices_S512x128_o128_0_S128x128
  | 2 => extractStridedSlice S128x128 ![256, 0] x slices_S512x128_o256_0_S128x128
  | 3 => extractStridedSlice S128x128 ![384, 0] x slices_S512x128_o384_0_S128x128

/-- The four lane tiles of the query gradients, rounded to `bf16`. -/
def dq : Fin 4 → FVec F S128x128 .bf16
  | 0 => loTile (quarter (b.DQ 0) 0) (quarter (b.DQ 0) 1)
  | 1 => loTile (quarter (b.DQ 0) 2) (quarter (b.DQ 0) 3)
  | 2 => hiTile (quarter (b.DQ 1) 0) (quarter (b.DQ 1) 1)
  | 3 => hiTile (quarter (b.DQ 1) 2) (quarter (b.DQ 1) 3)

/-- The sink accumulator after the trip. -/
def sinks (x : FVec F S1x128 .f32) : FVec F S1x128 .f32 :=
  addSinks (b.DS 1) 4#32 5#32 6#32 7#32 (addSinks (b.DS 0) 0#32 1#32 2#32 3#32 x)

/-- The upper 128 rows of a 256-row tile, those of the block before. -/
def top (x : FVec F S256x128 .f32) : FVec F S128x128 .f32 := extractStridedSlice S128x128 ![0, 0] x slices_S256x128_o0_0_S128x128

/-- The lower 128 rows of a 256-row tile, the block's own. -/
def bot (x : FVec F S256x128 .f32) : FVec F S128x128 .f32 := extractStridedSlice S128x128 ![128, 0] x slices_S256x128_o128_0_S128x128

end Blocks

end Cert.Proof.KernelIdeal
end
-- ==== Proof.TripVal.lean ====
module

public import proofs.«01_k».proof.Proof.Trip
public import proofs.«01_k».proof.Proof.Head

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (c : Dev nD) (i : grid0.Coords) (arg1 : Memref sig .tc .vmem S2048x768 .bf16) (harg1 : arg1.IsWhole) (arg2 : Memref sig .tc .vmem S2048x512 .bf16) (harg2 : arg2.IsWhole) (arg3 : Memref sig .tc .smem S1x8 .f32) (harg3 : arg3.IsWhole) (arg4 : Memref sig .tc .vmem S2048x768 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
variable (f1 : Buf (Elt F) (arg1.view.loc (c : Thread nD τ))) (f2 : Buf (Elt F) (arg2.view.loc (c : Thread nD τ))) (f3 : Buf (Elt F) (arg3.view.loc (c : Thread nD τ)))

/-- The tile of 128 rows and 128 lanes a load reads at offsets `off`. -/
abbrev ld1 (off : Fin 2 → ℕ) (h : ∀ a, off a + S128x128.size a ≤ S2048x768.size a) : Vec F S128x128 .bf16 :=
  View.readAt (Elt F) arg1.view (Rect.unit (s := S2048x768) off S128x128.size h).toLoadRect f1
/-- The same of the cotangent. -/
abbrev ld2 (off : Fin 2 → ℕ) (h : ∀ a, off a + S128x128.size a ≤ S2048x512.size a) : Vec F S128x128 .bf16 :=
  View.readAt (Elt F) arg2.view (Rect.unit (s := S2048x512) off S128x128.size h).toLoadRect f2
/-- One sink logit. -/
abbrev ld3 (l : ℕ) (h : ∀ a, (![0, l] : Fin 2 → ℕ) a + S1x1.size a ≤ S1x8.size a) : Elt F .f32 :=
  View.readAt (Elt F) arg3.view (Rect.unit (s := S1x8) ![0, l] S1x1.size h).toLoadRect f3 (Shape.Idx.first (s := S1x1) (by decide))

/-- What trip `k` reads, as the loads read it. -/
def loaded (k : Fin k0_t1_loop.trips) : Blocks F where
  n := Scf.iv 0#32 1#32 k.val
  kp := ld1 c arg1 f1 (k0_off1 k) (k0_off1_inb k)
  kc := ld1 c arg1 f1 (k0_off2 k) (k0_off2_inb k)
  vp := ld1 c arg1 f1 (k0_off3 k) (k0_off3_inb k)
  vc := ld1 c arg1 f1 (k0_off4 k) (k0_off4_inb k)
  q := ![ld1 c arg1 f1 (k0_off5 k) (k0_off5_inb k), ld1 c arg1 f1 (k0_off6 k) (k0_off6_inb k), ld1 c arg1 f1 (k0_off11 k) (k0_off11_inb k), ld1 c arg1 f1 (k0_off12 k) (k0_off12_inb k)]
  d := ![ld2 c arg2 f2 (k0_off7 k) (k0_off7_inb k), ld2 c arg2 f2 (k0_off8 k) (k0_off8_inb k), ld2 c arg2 f2 (k0_off13 k) (k0_off13_inb k), ld2 c arg2 f2 (k0_off14 k) (k0_off14_inb k)]
  s := ![ld3 c arg3 f3 0 (by decide), ld3 c arg3 f3 1 (by decide), ld3 c arg3 f3 2 (by decide), ld3 c arg3 f3 3 (by decide), ld3 c arg3 f3 4 (by decide), ld3 c arg3 f3 5 (by decide), ld3 c arg3 f3 6 (by decide), ld3 c arg3 f3 7 (by decide)]

/-- Query rows: trips after the first, key-value head 0. -/
theorem pos_Q0 (k : Fin k0_t1_loop.trips) : tripPos.sl.v80 c arg1 f1 k = (loaded c arg1 arg2 arg3 f1 f2 f3 k).Q 0 := rfl
/-- Cotangent rows: trips after the first, key-value head 0. -/
theorem pos_D0 (k : Fin k0_t1_loop.trips) : tripPos.sl.v201 c arg2 f2 k = (loaded c arg1 arg2 arg3 f1 f2 f3 k).D 0 := rfl
/-- Weights: trips after the first, key-value head 0. -/
theorem pos_P0 (k : Fin k0_t1_loop.trips) : tripPos.sl.v152 c arg1 arg3 f1 f3 k = (loaded c arg1 arg2 arg3 f1 f2 f3 k).P 0 := rfl
/-- Sink weights: trips after the first, key-value head 0. -/
theorem pos_sw0 (k : Fin k0_t1_loop.trips) : tripPos.sl.v153 c arg1 arg3 f1 f3 k = sinkWeight ((loaded c arg1 arg2 arg3 f1 f2 f3 k).S 0) ((loaded c arg1 arg2 arg3 f1 f2 f3 k).σ 0) := rfl
/-- Cotangents of the weights: trips after the first, key-value head 0. -/
theorem pos_DP0 (k : Fin k0_t1_loop.trips) : tripPos.sl.v202 c arg1 arg2 f1 f2 k = (loaded c arg1 arg2 arg3 f1 f2 f3 k).DP 0 :=
  (rfl : _ = rowsByRows (tripPos.sl.v201 c arg2 f2 k) (tripPos.sl.v32 c arg1 f1 k)).trans (by rw [pos_D0 c arg1 arg2 arg3 f1 f2 f3]; rfl)
/-- Row sums: trips after the first, key-value head 0. -/
theorem pos_mean0 (k : Fin k0_t1_loop.trips) : tripPos.sl.v205 c arg1 arg2 arg3 f1 f2 f3 k = meanCot ((loaded c arg1 arg2 arg3 f1 f2 f3 k).P 0) ((loaded c arg1 arg2 arg3 f1 f2 f3 k).DP 0) :=
  (rfl : _ = meanCot (tripPos.sl.v152 c arg1 arg3 f1 f3 k) (tripPos.sl.v202 c arg1 arg2 f1 f2 k)).trans (by rw [pos_P0 c arg1 arg2 arg3 f1 f2 f3, pos_DP0 c arg1 arg2 arg3 f1 f2 f3])
/-- Cotangents of the logits: trips after the first, key-value head 0. -/
theorem pos_cot0 (k : Fin k0_t1_loop.trips) : tripPos.sl.v211 c arg1 arg2 arg3 f1 f2 f3 k = cotLogits ((loaded c arg1 arg2 arg3 f1 f2 f3 k).P 0) ((loaded c arg1 arg2 arg3 f1 f2 f3 k).DP 0) :=
  (rfl : _ = cotLogits (tripPos.sl.v152 c arg1 arg3 f1 f3 k) (tripPos.sl.v202 c arg1 arg2 f1 f2 k)).trans (by rw [pos_P0 c arg1 arg2 arg3 f1 f2 f3, pos_DP0 c arg1 arg2 arg3 f1 f2 f3])
/-- Query gradients: trips after the first, key-value head 0. -/
theorem pos_DQ0 (k : Fin k0_t1_loop.trips) : tripPos.sl.v277 c arg1 arg2 arg3 f1 f2 f3 k = (loaded c arg1 arg2 arg3 f1 f2 f3 k).DQ 0 :=
  (rfl : _ = weighRows (tripPos.sl.v211 c arg1 arg2 arg3 f1 f2 f3 k) (tripPos.sl.v27 c arg1 f1 k)).trans (by rw [pos_cot0]; rfl)
/-- Key gradients: trips after the first, key-value head 0. -/
theorem pos_DK0 (k : Fin k0_t1_loop.trips) : tripPos.sl.v278 c arg1 arg2 arg3 f1 f2 f3 k = (loaded c arg1 arg2 arg3 f1 f2 f3 k).DK 0 :=
  (rfl : _ = weighCols (tripPos.sl.v211 c arg1 arg2 arg3 f1 f2 f3 k) (tripPos.sl.v80 c arg1 f1 k)).trans (by rw [pos_cot0, pos_Q0 c arg1 arg2 arg3 f1 f2 f3]; rfl)
/-- Value gradients: trips after the first, key-value head 0. -/
theorem pos_DV0 (k : Fin k0_t1_loop.trips) : tripPos.sl.v280 c arg1 arg2 arg3 f1 f2 f3 k = (loaded c arg1 arg2 arg3 f1 f2 f3 k).DV 0 :=
  (rfl : _ = weighCols (truncf .bf16 (tripPos.sl.v152 c arg1 arg3 f1 f3 k) bitsLt_bf16_f32) (tripPos.sl.v201 c arg2 f2 k)).trans (by rw [pos_P0 c arg1 arg2 arg3 f1 f2 f3, pos_D0 c arg1 arg2 arg3 f1 f2 f3]; rfl)
/-- Sink shares: trips after the first, key-value head 0. -/
theorem pos_DS0 (k : Fin k0_t1_loop.trips) : tripPos.sl.v212 c arg1 arg2 arg3 f1 f2 f3 k = (loaded c arg1 arg2 arg3 f1 f2 f3 k).DS 0 :=
  (rfl : _ = mulf (tripPos.sl.v153 c arg1 arg3 f1 f3 k) (tripPos.sl.v205 c arg1 arg2 arg3 f1 f2 f3 k)).trans (by rw [pos_sw0 c arg1 arg2 arg3 f1 f2 f3, pos_mean0]; rfl)
/-- Query rows: trips after the first, key-value head 1. -/
theorem pos_Q1 (k : Fin k0_t1_loop.trips) : tripPos.sl.r_8 c arg1 f1 k = (loaded c arg1 arg2 arg3 f1 f2 f3 k).Q 1 := rfl
/-- Cotangent rows: trips after the first, key-value head 1. -/
theorem pos_D1 (k : Fin k0_t1_loop.trips) : tripPos.sl.v537 c arg2 f2 k = (loaded c arg1 arg2 arg3 f1 f2 f3 k).D 1 := rfl
/-- Logits: trips after the first, key-value head 1. -/
theorem pos_S1 (k : Fin k0_t1_loop.trips) : tripPos.sl.r_9 c arg1 f1 k = (loaded c arg1 arg2 arg3 f1 f2 f3 k).S 1 := rfl
/-- Sink column: trips after the first, key-value head 1. -/
theorem pos_σ1 (k : Fin k0_t1_loop.trips) : k0_pay57 (tripPos.sl.r_10 c arg3 f3) (tripPos.sl.r_11 c arg3 f3) (tripPos.sl.r_12 c arg3 f3) (tripPos.sl.r_13 c arg3 f3) = (loaded c arg1 arg2 arg3 f1 f2 f3 k).σ 1 := rfl
/-- The sink's exponential: trips after the first, key-value head 1. -/
theorem pos_es1 (k : Fin k0_t1_loop.trips) : tripPos.sl.v481 c arg1 arg3 f1 f3 k = expSink ((loaded c arg1 arg2 arg3 f1 f2 f3 k).S 1) ((loaded c arg1 arg2 arg3 f1 f2 f3 k).σ 1) :=
  (rfl : _ = expSink (tripPos.sl.r_9 c arg1 f1 k) (k0_pay57 (tripPos.sl.r_10 c arg3 f3) (tripPos.sl.r_11 c arg3 f3) (tripPos.sl.r_12 c arg3 f3) (tripPos.sl.r_13 c arg3 f3))).trans
    (by rw [pos_S1 c arg1 arg2 arg3 f1 f2 f3, pos_σ1 c arg1 arg2 arg3 f1 f2 f3 k])
/-- The exponentials: trips after the first, key-value head 1. -/
theorem pos_er1 (k : Fin k0_t1_loop.trips) : tripPos.sl.v479 c arg1 arg3 f1 f3 k = expRow ((loaded c arg1 arg2 arg3 f1 f2 f3 k).S 1) ((loaded c arg1 arg2 arg3 f1 f2 f3 k).σ 1) :=
  (rfl : _ = expRow (tripPos.sl.r_9 c arg1 f1 k) (k0_pay57 (tripPos.sl.r_10 c arg3 f3) (tripPos.sl.r_11 c arg3 f3) (tripPos.sl.r_12 c arg3 f3) (tripPos.sl.r_13 c arg3 f3))).trans
    (by rw [pos_S1 c arg1 arg2 arg3 f1 f2 f3, pos_σ1 c arg1 arg2 arg3 f1 f2 f3 k])
/-- One over the sum of the exponentials: trips after the first, key-value head 1. -/
theorem pos_inv1 (k : Fin k0_t1_loop.trips) : tripPos.sl.v486 c arg1 arg3 f1 f3 k = invSum ((loaded c arg1 arg2 arg3 f1 f2 f3 k).S 1) ((loaded c arg1 arg2 arg3 f1 f2 f3 k).σ 1) :=
  (rfl : _ = divf (broadcast S512x1 (Scalar.ofBits .f32 0x3F800000#32 : F .f32)) (addf (rowSum (tripPos.sl.v479 c arg1 arg3 f1 f3 k)) (tripPos.sl.v481 c arg1 arg3 f1 f3 k))).trans
    (by rw [pos_er1 c arg1 arg2 arg3 f1 f2 f3, pos_es1 c arg1 arg2 arg3 f1 f2 f3]; rfl)
/-- Sink weights: trips after the first, key-value head 1. -/
theorem pos_sw1 (k : Fin k0_t1_loop.trips) : tripPos.sl.v489 c arg1 arg3 f1 f3 k = sinkWeight ((loaded c arg1 arg2 arg3 f1 f2 f3 k).S 1) ((loaded c arg1 arg2 arg3 f1 f2 f3 k).σ 1) :=
  (rfl : _ = mulf (tripPos.sl.v481 c arg1 arg3 f1 f3 k) (tripPos.sl.v486 c arg1 arg3 f1 f3 k)).trans (by rw [pos_es1 c arg1 arg2 arg3 f1 f2 f3, pos_inv1 c arg1 arg2 arg3 f1 f2 f3]; rfl)
/-- Weights: trips after the first, key-value head 1. -/
theorem pos_P1 (k : Fin k0_t1_loop.trips) : tripPos.sl.v488 c arg1 arg3 f1 f3 k = (loaded c arg1 arg2 arg3 f1 f2 f3 k).P 1 :=
  (rfl : _ = mulf (tripPos.sl.v479 c arg1 arg3 f1 f3 k) (spread (tripPos.sl.v486 c arg1 arg3 f1 f3 k))).trans (by rw [pos_er1 c arg1 arg2 arg3 f1 f2 f3, pos_inv1 c arg1 arg2 arg3 f1 f2 f3]; rfl)
/-- Cotangents of the weights: trips after the first, key-value head 1. -/
theorem pos_DP1 (k : Fin k0_t1_loop.trips) : tripPos.sl.v538 c arg1 arg2 f1 f2 k = (loaded c arg1 arg2 arg3 f1 f2 f3 k).DP 1 :=
  (rfl : _ = rowsByRows (tripPos.sl.v537 c arg2 f2 k) (tripPos.sl.v32 c arg1 f1 k)).trans (by rw [pos_D1 c arg1 arg2 arg3 f1 f2 f3]; rfl)
/-- Row sums: trips after the first, key-value head 1. -/
theorem pos_mean1 (k : Fin k0_t1_loop.trips) : tripPos.sl.v541 c arg1 arg2 arg3 f1 f2 f3 k = meanCot ((loaded c arg1 arg2 arg3 f1 f2 f3 k).P 1) ((loaded c arg1 arg2 arg3 f1 f2 f3 k).DP 1) :=
  (rfl : _ = meanCot (tripPos.sl.v488 c arg1 arg3 f1 f3 k) (tripPos.sl.v538 c arg1 arg2 f1 f2 k)).trans (by rw [pos_P1 c arg1 arg2 arg3 f1 f2 f3, pos_DP1 c arg1 arg2 arg3 f1 f2 f3])
/-- Cotangents of the logits: trips after the first, key-value head 1. -/
theorem pos_cot1 (k : Fin k0_t1_loop.trips) : tripPos.sl.v547 c arg1 arg2 arg3 f1 f2 f3 k = cotLogits ((loaded c arg1 arg2 arg3 f1 f2 f3 k).P 1) ((loaded c arg1 arg2 arg3 f1 f2 f3 k).DP 1) :=
  (rfl : _ = cotLogits (tripPos.sl.v488 c arg1 arg3 f1 f3 k) (tripPos.sl.v538 c arg1 arg2 f1 f2 k)).trans (by rw [pos_P1 c arg1 arg2 arg3 f1 f2 f3, pos_DP1 c arg1 arg2 arg3 f1 f2 f3])
/-- Query gradients: trips after the first, key-value head 1. -/
theorem pos_DQ1 (k : Fin k0_t1_loop.trips) : tripPos.sl.v613 c arg1 arg2 arg3 f1 f2 f3 k = (loaded c arg1 arg2 arg3 f1 f2 f3 k).DQ 1 :=
  (rfl : _ = weighRows (tripPos.sl.v547 c arg1 arg2 arg3 f1 f2 f3 k) (tripPos.sl.v27 c arg1 f1 k)).trans (by rw [pos_cot1]; rfl)
/-- Key gradients: trips after the first, key-value head 1. -/
theorem pos_DK1 (k : Fin k0_t1_loop.trips) : tripPos.sl.v614 c arg1 arg2 arg3 f1 f2 f3 k = (loaded c arg1 arg2 arg3 f1 f2 f3 k).DK 1 :=
  (rfl : _ = weighCols (tripPos.sl.v547 c arg1 arg2 arg3 f1 f2 f3 k) (tripPos.sl.r_8 c arg1 f1 k)).trans (by rw [pos_cot1, pos_Q1 c arg1 arg2 arg3 f1 f2 f3]; rfl)
/-- Value gradients: trips after the first, key-value head 1. -/
theorem pos_DV1 (k : Fin k0_t1_loop.trips) : tripPos.sl.v616 c arg1 arg2 arg3 f1 f2 f3 k = (loaded c arg1 arg2 arg3 f1 f2 f3 k).DV 1 :=
  (rfl : _ = weighCols (truncf .bf16 (tripPos.sl.v488 c arg1 arg3 f1 f3 k) bitsLt_bf16_f32) (tripPos.sl.v537 c arg2 f2 k)).trans (by rw [pos_P1 c arg1 arg2 arg3 f1 f2 f3, pos_D1 c arg1 arg2 arg3 f1 f2 f3]; rfl)
/-- Sink shares: trips after the first, key-value head 1. -/
theorem pos_DS1 (k : Fin k0_t1_loop.trips) : tripPos.sl.v548 c arg1 arg2 arg3 f1 f2 f3 k = (loaded c arg1 arg2 arg3 f1 f2 f3 k).DS 1 :=
  (rfl : _ = mulf (tripPos.sl.v489 c arg1 arg3 f1 f3 k) (tripPos.sl.v541 c arg1 arg2 arg3 f1 f2 f3 k)).trans (by rw [pos_sw1 c arg1 arg2 arg3 f1 f2 f3, pos_mean1]; rfl)
/-- Query rows: trip 0, key-value head 0. -/
theorem zero_Q0 : tripZero.sl.v80 c arg1 f1 = (loaded c arg1 arg2 arg3 f1 f2 f3 ⟨0, by decide⟩).Q 0 := rfl
/-- Cotangent rows: trip 0, key-value head 0. -/
theorem zero_D0 : tripZero.sl.v201 c arg2 f2 = (loaded c arg1 arg2 arg3 f1 f2 f3 ⟨0, by decide⟩).D 0 := rfl
/-- Weights: trip 0, key-value head 0. -/
theorem zero_P0 : tripZero.sl.v152 c arg1 arg3 f1 f3 = (loaded c arg1 arg2 arg3 f1 f2 f3 ⟨0, by decide⟩).P 0 := rfl
/-- Sink weights: trip 0, key-value head 0. -/
theorem zero_sw0 : tripZero.sl.v153 c arg1 arg3 f1 f3 = sinkWeight ((loaded c arg1 arg2 arg3 f1 f2 f3 ⟨0, by decide⟩).S 0) ((loaded c arg1 arg2 arg3 f1 f2 f3 ⟨0, by decide⟩).σ 0) := rfl
/-- Cotangents of the weights: trip 0, key-value head 0. -/
theorem zero_DP0 : tripZero.sl.v202 c arg1 arg2 f1 f2 = (loaded c arg1 arg2 arg3 f1 f2 f3 ⟨0, by decide⟩).DP 0 :=
  (rfl : _ = rowsByRows (tripZero.sl.v201 c arg2 f2) (tripZero.sl.v32 c arg1 f1)).trans (by rw [zero_D0 c arg1 arg2 arg3 f1 f2 f3]; rfl)
/-- Row sums: trip 0, key-value head 0. -/
theorem zero_mean0 : tripZero.sl.v205 c arg1 arg2 arg3 f1 f2 f3 = meanCot ((loaded c arg1 arg2 arg3 f1 f2 f3 ⟨0, by decide⟩).P 0) ((loaded c arg1 arg2 arg3 f1 f2 f3 ⟨0, by decide⟩).DP 0) :=
  (rfl : _ = meanCot (tripZero.sl.v152 c arg1 arg3 f1 f3) (tripZero.sl.v202 c arg1 arg2 f1 f2)).trans (by rw [zero_P0 c arg1 arg2 arg3 f1 f2 f3, zero_DP0 c arg1 arg2 arg3 f1 f2 f3])
/-- Cotangents of the logits: trip 0, key-value head 0. -/
theorem zero_cot0 : tripZero.sl.v211 c arg1 arg2 arg3 f1 f2 f3 = cotLogits ((loaded c arg1 arg2 arg3 f1 f2 f3 ⟨0, by decide⟩).P 0) ((loaded c arg1 arg2 arg3 f1 f2 f3 ⟨0, by decide⟩).DP 0) :=
  (rfl : _ = cotLogits (tripZero.sl.v152 c arg1 arg3 f1 f3) (tripZero.sl.v202 c arg1 arg2 f1 f2)).trans (by rw [zero_P0 c arg1 arg2 arg3 f1 f2 f3, zero_DP0 c arg1 arg2 arg3 f1 f2 f3])
/-- Query gradients: trip 0, key-value head 0. -/
theorem zero_DQ0 : tripZero.sl.v277 c arg1 arg2 arg3 f1 f2 f3 = (loaded c arg1 arg2 arg3 f1 f2 f3 ⟨0, by decide⟩).DQ 0 :=
  (rfl : _ = weighRows (tripZero.sl.v211 c arg1 arg2 arg3 f1 f2 f3) (tripZero.sl.v27 c arg1 f1)).trans (by rw [zero_cot0]; rfl)
/-- Key gradients: trip 0, key-value head 0. -/
theorem zero_DK0 : tripZero.sl.v278 c arg1 arg2 arg3 f1 f2 f3 = (loaded c arg1 arg2 arg3 f1 f2 f3 ⟨0, by decide⟩).DK 0 :=
  (rfl : _ = weighCols (tripZero.sl.v211 c arg1 arg2 arg3 f1 f2 f3) (tripZero.sl.v80 c arg1 f1)).trans (by rw [zero_cot0, zero_Q0 c arg1 arg2 arg3 f1 f2 f3]; rfl)
/-- Value gradients: trip 0, key-value head 0. -/
theorem zero_DV0 : tripZero.sl.v280 c arg1 arg2 arg3 f1 f2 f3 = (loaded c arg1 arg2 arg3 f1 f2 f3 ⟨0, by decide⟩).DV 0 :=
  (rfl : _ = weighCols (truncf .bf16 (tripZero.sl.v152 c arg1 arg3 f1 f3) bitsLt_bf16_f32) (tripZero.sl.v201 c arg2 f2)).trans (by rw [zero_P0 c arg1 arg2 arg3 f1 f2 f3, zero_D0 c arg1 arg2 arg3 f1 f2 f3]; rfl)
/-- Sink shares: trip 0, key-value head 0. -/
theorem zero_DS0 : tripZero.sl.v212 c arg1 arg2 arg3 f1 f2 f3 = (loaded c arg1 arg2 arg3 f1 f2 f3 ⟨0, by decide⟩).DS 0 :=
  (rfl : _ = mulf (tripZero.sl.v153 c arg1 arg3 f1 f3) (tripZero.sl.v205 c arg1 arg2 arg3 f1 f2 f3)).trans (by rw [zero_sw0 c arg1 arg2 arg3 f1 f2 f3, zero_mean0]; rfl)
/-- Query rows: trip 0, key-value head 1. -/
theorem zero_Q1 : tripZero.sl.r_8 c arg1 f1 = (loaded c arg1 arg2 arg3 f1 f2 f3 ⟨0, by decide⟩).Q 1 := rfl
/-- Cotangent rows: trip 0, key-value head 1. -/
theorem zero_D1 : tripZero.sl.v537 c arg2 f2 = (loaded c arg1 arg2 arg3 f1 f2 f3 ⟨0, by decide⟩).D 1 := rfl
/-- Logits: trip 0, key-value head 1. -/
theorem zero_S1 : tripZero.sl.r_9 c arg1 f1 = (loaded c arg1 arg2 arg3 f1 f2 f3 ⟨0, by decide⟩).S 1 := rfl
/-- Sink column: trip 0, key-value head 1. -/
theorem zero_σ1 (k : Fin k0_t1_loop.trips) : k0_pay57 (tripZero.sl.r_10 c arg3 f3) (tripZero.sl.r_11 c arg3 f3) (tripZero.sl.r_12 c arg3 f3) (tripZero.sl.r_13 c arg3 f3) = (loaded c arg1 arg2 arg3 f1 f2 f3 k).σ 1 := rfl
/-- The sink's exponential: trip 0, key-value head 1. -/
theorem zero_es1 : tripZero.sl.v481 c arg1 arg3 f1 f3 = expSink ((loaded c arg1 arg2 arg3 f1 f2 f3 ⟨0, by decide⟩).S 1) ((loaded c arg1 arg2 arg3 f1 f2 f3 ⟨0, by decide⟩).σ 1) :=
  (rfl : _ = expSink (tripZero.sl.r_9 c arg1 f1) (k0_pay57 (tripZero.sl.r_10 c arg3 f3) (tripZero.sl.r_11 c arg3 f3) (tripZero.sl.r_12 c arg3 f3) (tripZero.sl.r_13 c arg3 f3))).trans
    (by rw [zero_S1 c arg1 arg2 arg3 f1 f2 f3, zero_σ1 c arg1 arg2 arg3 f1 f2 f3 ⟨0, by decide⟩])
/-- The exponentials: trip 0, key-value head 1. -/
theorem zero_er1 : tripZero.sl.v479 c arg1 arg3 f1 f3 = expRow ((loaded c arg1 arg2 arg3 f1 f2 f3 ⟨0, by decide⟩).S 1) ((loaded c arg1 arg2 arg3 f1 f2 f3 ⟨0, by decide⟩).σ 1) :=
  (rfl : _ = expRow (tripZero.sl.r_9 c arg1 f1) (k0_pay57 (tripZero.sl.r_10 c arg3 f3) (tripZero.sl.r_11 c arg3 f3) (tripZero.sl.r_12 c arg3 f3) (tripZero.sl.r_13 c arg3 f3))).trans
    (by rw [zero_S1 c arg1 arg2 arg3 f1 f2 f3, zero_σ1 c arg1 arg2 arg3 f1 f2 f3 ⟨0, by decide⟩])
/-- One over the sum of the exponentials: trip 0, key-value head 1. -/
theorem zero_inv1 : tripZero.sl.v486 c arg1 arg3 f1 f3 = invSum ((loaded c arg1 arg2 arg3 f1 f2 f3 ⟨0, by decide⟩).S 1) ((loaded c arg1 arg2 arg3 f1 f2 f3 ⟨0, by decide⟩).σ 1) :=
  (rfl : _ = divf (broadcast S512x1 (Scalar.ofBits .f32 0x3F800000#32 : F .f32)) (addf (rowSum (tripZero.sl.v479 c arg1 arg3 f1 f3)) (tripZero.sl.v481 c arg1 arg3 f1 f3))).trans
    (by rw [zero_er1 c arg1 arg2 arg3 f1 f2 f3, zero_es1 c arg1 arg2 arg3 f1 f2 f3]; rfl)
/-- Sink weights: trip 0, key-value head 1. -/
theorem zero_sw1 : tripZero.sl.v489 c arg1 arg3 f1 f3 = sinkWeight ((loaded c arg1 arg2 arg3 f1 f2 f3 ⟨0, by decide⟩).S 1) ((loaded c arg1 arg2 arg3 f1 f2 f3 ⟨0, by decide⟩).σ 1) :=
  (rfl : _ = mulf (tripZero.sl.v481 c arg1 arg3 f1 f3) (tripZero.sl.v486 c arg1 arg3 f1 f3)).trans (by rw [zero_es1 c arg1 arg2 arg3 f1 f2 f3, zero_inv1 c arg1 arg2 arg3 f1 f2 f3]; rfl)
/-- Weights: trip 0, key-value head 1. -/
theorem zero_P1 : tripZero.sl.v488 c arg1 arg3 f1 f3 = (loaded c arg1 arg2 arg3 f1 f2 f3 ⟨0, by decide⟩).P 1 :=
  (rfl : _ = mulf (tripZero.sl.v479 c arg1 arg3 f1 f3) (spread (tripZero.sl.v486 c arg1 arg3 f1 f3))).trans (by rw [zero_er1 c arg1 arg2 arg3 f1 f2 f3, zero_inv1 c arg1 arg2 arg3 f1 f2 f3]; rfl)
/-- Cotangents of the weights: trip 0, key-value head 1. -/
theorem zero_DP1 : tripZero.sl.v538 c arg1 arg2 f1 f2 = (loaded c arg1 arg2 arg3 f1 f2 f3 ⟨0, by decide⟩).DP 1 :=
  (rfl : _ = rowsByRows (tripZero.sl.v537 c arg2 f2) (tripZero.sl.v32 c arg1 f1)).trans (by rw [zero_D1 c arg1 arg2 arg3 f1 f2 f3]; rfl)
/-- Row sums: trip 0, key-value head 1. -/
theorem zero_mean1 : tripZero.sl.v541 c arg1 arg2 arg3 f1 f2 f3 = meanCot ((loaded c arg1 arg2 arg3 f1 f2 f3 ⟨0, by decide⟩).P 1) ((loaded c arg1 arg2 arg3 f1 f2 f3 ⟨0, by decide⟩).DP 1) :=
  (rfl : _ = meanCot (tripZero.sl.v488 c arg1 arg3 f1 f3) (tripZero.sl.v538 c arg1 arg2 f1 f2)).trans (by rw [zero_P1 c arg1 arg2 arg3 f1 f2 f3, zero_DP1 c arg1 arg2 arg3 f1 f2 f3])
/-- Cotangents of the logits: trip 0, key-value head 1. -/
theorem zero_cot1 : tripZero.sl.v547 c arg1 arg2 arg3 f1 f2 f3 = cotLogits ((loaded c arg1 arg2 arg3 f1 f2 f3 ⟨0, by decide⟩).P 1) ((loaded c arg1 arg2 arg3 f1 f2 f3 ⟨0, by decide⟩).DP 1) :=
  (rfl : _ = cotLogits (tripZero.sl.v488 c arg1 arg3 f1 f3) (tripZero.sl.v538 c arg1 arg2 f1 f2)).trans (by rw [zero_P1 c arg1 arg2 arg3 f1 f2 f3, zero_DP1 c arg1 arg2 arg3 f1 f2 f3])
/-- Query gradients: trip 0, key-value head 1. -/
theorem zero_DQ1 : tripZero.sl.v613 c arg1 arg2 arg3 f1 f2 f3 = (loaded c arg1 arg2 arg3 f1 f2 f3 ⟨0, by decide⟩).DQ 1 :=
  (rfl : _ = weighRows (tripZero.sl.v547 c arg1 arg2 arg3 f1 f2 f3) (tripZero.sl.v27 c arg1 f1)).trans (by rw [zero_cot1]; rfl)
/-- Key gradients: trip 0, key-value head 1. -/
theorem zero_DK1 : tripZero.sl.v614 c arg1 arg2 arg3 f1 f2 f3 = (loaded c arg1 arg2 arg3 f1 f2 f3 ⟨0, by decide⟩).DK 1 :=
  (rfl : _ = weighCols (tripZero.sl.v547 c arg1 arg2 arg3 f1 f2 f3) (tripZero.sl.r_8 c arg1 f1)).trans (by rw [zero_cot1, zero_Q1 c arg1 arg2 arg3 f1 f2 f3]; rfl)
/-- Value gradients: trip 0, key-value head 1. -/
theorem zero_DV1 : tripZero.sl.v616 c arg1 arg2 arg3 f1 f2 f3 = (loaded c arg1 arg2 arg3 f1 f2 f3 ⟨0, by decide⟩).DV 1 :=
  (rfl : _ = weighCols (truncf .bf16 (tripZero.sl.v488 c arg1 arg3 f1 f3) bitsLt_bf16_f32) (tripZero.sl.v537 c arg2 f2)).trans (by rw [zero_P1 c arg1 arg2 arg3 f1 f2 f3, zero_D1 c arg1 arg2 arg3 f1 f2 f3]; rfl)
/-- Sink shares: trip 0, key-value head 1. -/
theorem zero_DS1 : tripZero.sl.v548 c arg1 arg2 arg3 f1 f2 f3 = (loaded c arg1 arg2 arg3 f1 f2 f3 ⟨0, by decide⟩).DS 1 :=
  (rfl : _ = mulf (tripZero.sl.v489 c arg1 arg3 f1 f3) (tripZero.sl.v541 c arg1 arg2 arg3 f1 f2 f3)).trans (by rw [zero_sw1 c arg1 arg2 arg3 f1 f2 f3, zero_mean1]; rfl)
end

end Cert.Proof.KernelIdeal
end
-- ==== Proof.Acc.lean ====
module

public import proofs.«01_k».proof.Proof.Head
public import Idealize.ShloMosaic.Lib.VecWindow
public import Idealize.ShloMosaic.Lib.Pointwise.Reshape

@[expose] public section

/-!
The key and value accumulators: four tiles added one after another into two places, as the stores of one
trip leave them. The places are either apart or the same.
-/

set_option maxRecDepth 16384

noncomputable section

namespace Cert.Proof.KernelIdeal

open Cert.KernelIdeal Cert.KernelIdeal.Gen
open Idealize.ShloMosaic

variable {F : FTy → Type} [FloatOps F] [Named F]

/-- A tile of 128 rows fits the accumulator at row `o`. -/
def Fits (o : ℕ) : Prop := ∀ a, (![o, 0] : Fin 2 → ℕ) a + S128x128.size a ≤ S2048x128.size a

/-- The 128 rows of the accumulator from row `o` on. -/
def tileOf (o : ℕ) (ho : Fits o) (X : FVec F S2048x128 .f32) : FVec F S128x128 .f32 :=
  VecWindow.window (s := S2048x128) X ![o, 0] S128x128.size ho

/-- The accumulator with its 128 rows from row `o` on replaced. -/
def withTile (o : ℕ) (T : FVec F S128x128 .f32) (X : FVec F S2048x128 .f32) : FVec F S2048x128 .f32 :=
  VecWindow.put (s := S2048x128) X ![o, 0] S128x128.size T

/-- Rows that were just replaced. -/
theorem tileOf_same (o : ℕ) (ho : Fits o) (T : FVec F S128x128 .f32) (X : FVec F S2048x128 .f32) : tileOf o ho (withTile o T X) = T :=
  VecWindow.window_put_same X _ _ ho T

/-- Replacing rows elsewhere changes nothing here. -/
theorem tileOf_apart (o o' : ℕ) (ho : Fits o) (hd : o + 128 ≤ o' ∨ o' + 128 ≤ o) (T : FVec F S128x128 .f32) (X : FVec F S2048x128 .f32) :
    tileOf o ho (withTile o' T X) = tileOf o ho X :=
  VecWindow.window_put_of_disjoint X _ _ _ _ ho T (0 : Fin 2) (by
      show o + 128 ≤ o' ∨ o' + 128 ≤ o; exact hd)

/-- The accumulator with a tile added to the 128 rows from row `o` on. -/
def accAt (o : ℕ) (ho : Fits o) (T : FVec F S128x128 .f32) (X : FVec F S2048x128 .f32) : FVec F S2048x128 .f32 :=
  withTile o (addf (tileOf o ho X) T) X

/-- The accumulator after a trip: the two tiles of the first head, then the two of the second. -/
def acc4 (o o' : ℕ) (ho : Fits o) (ho' : Fits o') (T1 T2 T3 T4 : FVec F S128x128 .f32) (X : FVec F S2048x128 .f32) : FVec F S2048x128 .f32 :=
  accAt o' ho' T4 (accAt o ho T3 (accAt o' ho' T2 (accAt o ho T1 X)))

section
variable {κ : Kind} {sp : Space} (v : View sig κ sp S2048x128 .f32) {o o' : ℕ} (ho : Fits o) (ho' : Fits o')
  {off off' : Fin 2 → ℕ} (h : off = ![o, 0]) (h' : off' = ![o', 0])
  (i : ∀ a, off a + S128x128.size a ≤ S2048x128.size a) (i' : ∀ a, off' a + S128x128.size a ≤ S2048x128.size a)

/-- A tile as it is stored: its shape cast to itself. -/
abbrev asStored (x : FVec F S128x128 .f32) : FVec F S128x128 .f32 := shapeCast S128x128 x shapeCasts_S128x128_S128x128

/-- Storing a tile changes nothing of it. -/
theorem asStored_eq (x : FVec F S128x128 .f32) : asStored x = x := shapeCast_id x _

/-- A store of a tile at offsets `off`. -/
abbrev pieceAt (x : FVec F S128x128 .f32) : View.Piece (Elt F) S2048x128 .f32 := ⟨Rect.unit (s := S2048x128) off S128x128.size i, x⟩

/-- A covered load of a tile reads the writes over junk. -/
theorem readCov_window (L : List (View.Piece (Elt F) S2048x128 .f32)) (h : off = ![o, 0]) :
    v.readCov L (Rect.unit (s := S2048x128) off S128x128.size i).toLoadRect
      = tileOf o ho (v.read (Elt F) (v.writes (Elt F) v.junk L)) := by
  unfold View.readCov
  exact View.readAt_unit v _ i h ho

/-- A load of a tile from a buffer that holds the writes `L`. -/
theorem readAt_window (g : v.ty.Contents (Elt F)) (h : off = ![o, 0]) :
    View.readAt (Elt F) v (Rect.unit (s := S2048x128) off S128x128.size i).toLoadRect g
      = tileOf o ho (v.read (Elt F) g) :=
  View.readAt_unit v _ i h ho

/-- What a buffer reads after one more store of a tile. -/
theorem read_put (g : v.ty.Contents (Elt F)) (w : FVec F S128x128 .f32) (L : List (View.Piece (Elt F) S2048x128 .f32)) (h : off = ![o, 0]) :
    v.read (Elt F) (v.writes (Elt F) g (pieceAt i w :: L)) = withTile o w (v.read (Elt F) (v.writes (Elt F) g L)) :=
  View.read_writes_cons_put v g i w L h

include h h' in
/-- The four stores where the two places are apart. -/
theorem read_acc4_apart (hd : o + 128 ≤ o' ∨ o' + 128 ≤ o) (T1 T2 T3 T4 : FVec F S128x128 .f32) (X : FVec F S2048x128 .f32)
    (w1 w2 w3 w4 : FVec F S128x128 .f32)
    (e1 : w1 = asStored (addf (View.readAt (Elt F) v (Rect.unit (s := S2048x128) off S128x128.size i).toLoadRect (v.rep X)) T1))
    (e2 : w2 = asStored (addf (View.readAt (Elt F) v (Rect.unit (s := S2048x128) off' S128x128.size i').toLoadRect (v.writes (Elt F) (v.rep X) [pieceAt i w1])) T2))
    (e3 : w3 = asStored (addf (v.readCov [pieceAt i' w2, pieceAt i w1] (Rect.unit (s := S2048x128) off S128x128.size i).toLoadRect) T3))
    (e4 : w4 = asStored (addf (v.readCov [pieceAt i w3, pieceAt i' w2, pieceAt i w1] (Rect.unit (s := S2048x128) off' S128x128.size i').toLoadRect) T4)) :
    v.read (Elt F) (v.writes (Elt F) (v.rep X) [pieceAt i' w4, pieceAt i w3, pieceAt i' w2, pieceAt i w1])
      = acc4 o o' ho ho' T1 T2 T3 T4 X := by
  rw [asStored_eq] at e1 e2 e3 e4
  rw [readAt_window v ho i _ h, View.read_rep] at e1
  rw [readAt_window v ho' i' _ h', read_put v i _ _ _ h, View.writes_nil, View.read_rep] at e2
  rw [readCov_window v ho i _ h] at e3
  rw [readCov_window v ho' i' _ h'] at e4
  rw [read_put v i' _ _ _ h', read_put v i _ _ _ h] at e3
  rw [read_put v i _ _ _ h, read_put v i' _ _ _ h', read_put v i _ _ _ h] at e4
  rw [read_put v i' _ _ _ h', read_put v i _ _ _ h, read_put v i' _ _ _ h',
    read_put v i _ _ _ h, View.writes_nil, View.read_rep]
  have d := tileOf_apart (F := F) o' o ho' (by omega)
  have d' := tileOf_apart (F := F) o o' ho (by omega)
  rw [d] at e2
  rw [d', tileOf_same] at e3
  rw [d, tileOf_same] at e4
  unfold acc4 accAt
  rw [d, d', tileOf_same, d, tileOf_same, ← e1, ← e2, ← e3, ← e4]

include h in
/-- The four stores where the two places are the same. -/
theorem read_acc4_same (T1 T2 T3 T4 : FVec F S128x128 .f32) (X : FVec F S2048x128 .f32)
    (w1 w2 w3 w4 : FVec F S128x128 .f32)
    (e1 : w1 = asStored (addf (View.readAt (Elt F) v (Rect.unit (s := S2048x128) off S128x128.size i).toLoadRect (v.rep X)) T1))
    (e2 : w2 = asStored (addf (v.readCov [pieceAt i w1] (Rect.unit (s := S2048x128) off S128x128.size i).toLoadRect) T2))
    (e3 : w3 = asStored (addf (v.readCov [pieceAt i w2, pieceAt i w1] (Rect.unit (s := S2048x128) off S128x128.size i).toLoadRect) T3))
    (e4 : w4 = asStored (addf (v.readCov [pieceAt i w3, pieceAt i w2, pieceAt i w1] (Rect.unit (s := S2048x128) off S128x128.size i).toLoadRect) T4)) :
    v.read (Elt F) (v.writes (Elt F) (v.rep X) [pieceAt i w4, pieceAt i w3, pieceAt i w2, pieceAt i w1])
      = acc4 o o ho ho T1 T2 T3 T4 X := by
  rw [asStored_eq] at e1 e2 e3 e4
  rw [readAt_window v ho i _ h, View.read_rep] at e1
  rw [readCov_window v ho i _ h] at e2 e3 e4
  rw [read_put v i _ _ _ h, tileOf_same] at e2 e3 e4
  rw [read_put v i _ _ _ h, read_put v i _ _ _ h, read_put v i _ _ _ h,
    read_put v i _ _ _ h, View.writes_nil, View.read_rep]
  unfold acc4 accAt
  rw [tileOf_same, tileOf_same, tileOf_same, ← e1, ← e2, ← e3, ← e4]
end

end Cert.Proof.KernelIdeal
end
-- ==== Proof.StepVal.lean ====
module

public import proofs.«01_k».proof.Proof.TripVal
public import proofs.«01_k».proof.Proof.Acc
public import Idealize.ShloMosaic.Lib.VecWindow

@[expose] public section

/-!
What one trip leaves at the values: the query-gradient tiles, the sink accumulator, and the key and value
accumulators after it, as functions of what was there before it.
-/

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The tile of 128 rows and 128 lanes of the packed rows at `off`. -/
def win1 (X : Vec F S2048x768 .bf16) (off : Fin 2 → ℕ) (h : ∀ a, off a + S128x128.size a ≤ S2048x768.size a) : Vec F S128x128 .bf16 :=
  VecWindow.window (s := S2048x768) X off S128x128.size h
/-- The same of the cotangent. -/
def win2 (X : Vec F S2048x512 .bf16) (off : Fin 2 → ℕ) (h : ∀ a, off a + S128x128.size a ≤ S2048x512.size a) : Vec F S128x128 .bf16 :=
  VecWindow.window (s := S2048x512) X off S128x128.size h
/-- One sink logit. -/
def lane3 (X : Vec F S1x8 .f32) (l : ℕ) (h : ∀ a, (![0, l] : Fin 2 → ℕ) a + S1x1.size a ≤ S1x8.size a) : Elt F .f32 :=
  VecWindow.window (s := S1x8) X ![0, l] S1x1.size h (Shape.Idx.first (s := S1x1) (by decide))

/-- What trip `k` reads of the packed rows, the cotangent and the sinks. -/
def blocksAt (X1 : Vec F S2048x768 .bf16) (X2 : Vec F S2048x512 .bf16) (X3 : Vec F S1x8 .f32) (k : Fin k0_t1_loop.trips) : Blocks F where
  n := Scf.iv 0#32 1#32 k.val
  kp := win1 X1 (k0_off1 k) (k0_off1_inb k)
  kc := win1 X1 (k0_off2 k) (k0_off2_inb k)
  vp := win1 X1 (k0_off3 k) (k0_off3_inb k)
  vc := win1 X1 (k0_off4 k) (k0_off4_inb k)
  q := ![win1 X1 (k0_off5 k) (k0_off5_inb k), win1 X1 (k0_off6 k) (k0_off6_inb k), win1 X1 (k0_off11 k) (k0_off11_inb k), win1 X1 (k0_off12 k) (k0_off12_inb k)]
  d := ![win2 X2 (k0_off7 k) (k0_off7_inb k), win2 X2 (k0_off8 k) (k0_off8_inb k), win2 X2 (k0_off13 k) (k0_off13_inb k), win2 X2 (k0_off14 k) (k0_off14_inb k)]
  s := ![lane3 X3 0 (by decide), lane3 X3 1 (by decide), lane3 X3 2 (by decide), lane3 X3 3 (by decide), lane3 X3 4 (by decide), lane3 X3 5 (by decide), lane3 X3 6 (by decide), lane3 X3 7 (by decide)]

/-- A trip's own rows fit. -/
theorem fits_cur (k : Fin k0_t1_loop.trips) : Fits (128 * k.val) := by
  have h := k0_off10_inb k; rw [k0_off10_eq] at h; exact h
/-- The rows before them fit. -/
theorem fits_prev (k : Fin k0_t1_loop.trips) : Fits (128 * (k.val - 1)) := by
  have h := k0_off9_inb k; rw [k0_off9_eq] at h; exact h

/-- An accumulator after trip `k`, the trip's two 256-row tiles added. -/
def stepAcc (k : Fin k0_t1_loop.trips) (T : Fin 2 → FVec F S256x128 .f32) (X : FVec F S2048x128 .f32) : FVec F S2048x128 .f32 :=
  acc4 (128 * (k.val - 1)) (128 * k.val) (fits_prev k) (fits_cur k) (Blocks.top (T 0)) (Blocks.bot (T 0)) (Blocks.top (T 1)) (Blocks.bot (T 1)) X

/-- The packed gradients after trip `k`: its four query tiles in place. -/
def stepDq (k : Fin k0_t1_loop.trips) (dq : Fin 4 → FVec F S128x128 .bf16) (X : Vec F S2048x768 .bf16) : Vec F S2048x768 .bf16 :=
  VecWindow.put (s := S2048x768) (VecWindow.put (s := S2048x768) (VecWindow.put (s := S2048x768) (VecWindow.put (s := S2048x768) X
    ![128 * k.val, 0] S128x128.size (dq 0)) ![128 * k.val, 128] S128x128.size (dq 1)) ![128 * k.val, 256] S128x128.size (dq 2)) ![128 * k.val, 384] S128x128.size (dq 3)

section
variable (c : Dev nD) (i : grid0.Coords) (arg1 : Memref sig .tc .vmem S2048x768 .bf16) (harg1 : arg1.IsWhole) (arg2 : Memref sig .tc .vmem S2048x512 .bf16) (harg2 : arg2.IsWhole) (arg3 : Memref sig .tc .smem S1x8 .f32) (harg3 : arg3.IsWhole) (arg4 : Memref sig .tc .vmem S2048x768 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)

/-- What a trip's loads read, of representatives of the three inputs. -/
theorem loaded_rep (X1 : Vec F S2048x768 .bf16) (X2 : Vec F S2048x512 .bf16) (X3 : Vec F S1x8 .f32) (k : Fin k0_t1_loop.trips) :
    loaded c arg1 arg2 arg3 (arg1.view.rep X1) (arg2.view.rep X2) (arg3.view.rep X3) k = blocksAt X1 X2 X3 k := by
  have e1 : ∀ off h, ld1 (F := F) c arg1 (arg1.view.rep X1) off h = win1 X1 off h := fun off h => View.readAt_rep_unit arg1.view X1 h rfl h
  have e2 : ∀ off h, ld2 (F := F) c arg2 (arg2.view.rep X2) off h = win2 X2 off h := fun off h => View.readAt_rep_unit arg2.view X2 h rfl h
  have e3 : ∀ l h, ld3 (F := F) c arg3 (arg3.view.rep X3) l h = lane3 X3 l h := fun l h =>
    congrFun (View.readAt_rep_unit arg3.view X3 h rfl h) _
  unfold loaded blocksAt
  simp only [e1, e2, e3]

variable (f1 : Buf (Elt F) (arg1.view.loc (c : Thread nD τ))) (f2 : Buf (Elt F) (arg2.view.loc (c : Thread nD τ))) (f3 : Buf (Elt F) (arg3.view.loc (c : Thread nD τ)))

/-- The sink accumulator's whole rectangle. -/
abbrev sinkRect : Rect S1x128 := Rect.unit (s := S1x128) ![0, 0] S1x128.size (by decide)

/-- A covered load of the sink accumulator reads the store before it. -/
theorem sinkLoad (w : FVec F S1x128 .f32) (L : List (View.Piece (Elt F) S1x128 .f32)) :
    arg5.view.readCov ((⟨sinkRect, w⟩ : View.Piece (Elt F) S1x128 .f32) :: L) sinkRect.toLoadRect = w :=
  View.readCov_full (Val := Elt F) (s := S1x128) arg5.view (off := ![0, 0]) (off' := ![0, 0]) (by decide) (by decide) w L

/-- A load of a representative reads its values. -/
theorem sinkRead (X : FVec F S1x128 .f32) : View.readAt (Elt F) arg5.view sinkRect.toLoadRect (arg5.view.rep X) = X :=
  View.readAt_rep_full (Val := Elt F) (s := S1x128) arg5.view X (off := ![0, 0]) (by decide)

/-- What the sink accumulator reads after a store of it whole. -/
theorem sinkWrite (g : arg5.view.ty.Contents (Elt F)) (w : FVec F S1x128 .f32) (L : List (View.Piece (Elt F) S1x128 .f32)) :
    arg5.view.read (Elt F) (arg5.view.writes (Elt F) g ((⟨sinkRect, w⟩ : View.Piece (Elt F) S1x128 .f32) :: L)) = w :=
  View.read_writes_full (Val := Elt F) (s := S1x128) arg5.view g (off := ![0, 0]) (by decide) w L

/-- A representative with nothing stored into it reads its values. -/
theorem noWrite (X4 : Vec F S2048x768 .bf16) : arg4.view.read (Elt F) (arg4.view.writes (Elt F) (arg4.view.rep X4) []) = X4 := by
  rw [View.writes_nil, View.read_rep]

/-- The sink accumulator after head 0's store: a later trip. -/
theorem pos_sink0 (k : Fin k0_t1_loop.trips) (X5 : FVec F S1x128 .f32) : tripPos.sl.v227 c arg1 arg2 arg3 arg5 f1 f2 f3 k (arg5.view.rep X5)
    = addSink (extractStridedSlice S128x1 ![0, 0] ((loaded c arg1 arg2 arg3 f1 f2 f3 k).DS 0) slices_S512x1_o0_0_S128x1) 0#32 X5 := by
  refine (rfl : _ = addSink (extractStridedSlice S128x1 ![0, 0] (tripPos.sl.v212 c arg1 arg2 arg3 f1 f2 f3 k) slices_S512x1_o0_0_S128x1) 0#32 (View.readAt (Elt F) arg5.view sinkRect.toLoadRect (arg5.view.rep X5))).trans ?_
  rw [pos_DS0 c arg1 arg2 arg3 f1 f2 f3 k]
  exact congrArg _ (sinkRead arg5 X5)

/-- The sink accumulator after head 1's store: a later trip. -/
theorem pos_sink1 (k : Fin k0_t1_loop.trips) (X5 : FVec F S1x128 .f32) : tripPos.sl.v243 c arg1 arg2 arg3 arg5 f1 f2 f3 k (arg5.view.rep X5)
    = addSink (extractStridedSlice S128x1 ![128, 0] ((loaded c arg1 arg2 arg3 f1 f2 f3 k).DS 0) slices_S512x1_o128_0_S128x1) 1#32 (tripPos.sl.v227 c arg1 arg2 arg3 arg5 f1 f2 f3 k (arg5.view.rep X5)) := by
  refine (rfl : _ = addSink (extractStridedSlice S128x1 ![128, 0] (tripPos.sl.v212 c arg1 arg2 arg3 f1 f2 f3 k) slices_S512x1_o128_0_S128x1) 1#32 (arg5.view.readCov (tripPos.sl.H5_1 c arg1 arg2 arg3 arg5 f1 f2 f3 k (arg5.view.rep X5)) sinkRect.toLoadRect)).trans ?_
  rw [pos_DS0 c arg1 arg2 arg3 f1 f2 f3 k]
  exact congrArg _ (sinkLoad arg5 _ _)

/-- The sink accumulator after head 2's store: a later trip. -/
theorem pos_sink2 (k : Fin k0_t1_loop.trips) (X5 : FVec F S1x128 .f32) : tripPos.sl.v259 c arg1 arg2 arg3 arg5 f1 f2 f3 k (arg5.view.rep X5)
    = addSink (extractStridedSlice S128x1 ![256, 0] ((loaded c arg1 arg2 arg3 f1 f2 f3 k).DS 0) slices_S512x1_o256_0_S128x1) 2#32 (tripPos.sl.v243 c arg1 arg2 arg3 arg5 f1 f2 f3 k (arg5.view.rep X5)) := by
  refine (rfl : _ = addSink (extractStridedSlice S128x1 ![256, 0] (tripPos.sl.v212 c arg1 arg2 arg3 f1 f2 f3 k) slices_S512x1_o256_0_S128x1) 2#32 (arg5.view.readCov (tripPos.sl.H5_2 c arg1 arg2 arg3 arg5 f1 f2 f3 k (arg5.view.rep X5)) sinkRect.toLoadRect)).trans ?_
  rw [pos_DS0 c arg1 arg2 arg3 f1 f2 f3 k]
  exact congrArg _ (sinkLoad arg5 _ _)

/-- The sink accumulator after head 3's store: a later trip. -/
theorem pos_sink3 (k : Fin k0_t1_loop.trips) (X5 : FVec F S1x128 .f32) : tripPos.sl.v275 c arg1 arg2 arg3 arg5 f1 f2 f3 k (arg5.view.rep X5)
    = addSink (extractStridedSlice S128x1 ![384, 0] ((loaded c arg1 arg2 arg3 f1 f2 f3 k).DS 0) slices_S512x1_o384_0_S128x1) 3#32 (tripPos.sl.v259 c arg1 arg2 arg3 arg5 f1 f2 f3 k (arg5.view.rep X5)) := by
  refine (rfl : _ = addSink (extractStridedSlice S128x1 ![384, 0] (tripPos.sl.v212 c arg1 arg2 arg3 f1 f2 f3 k) slices_S512x1_o384_0_S128x1) 3#32 (arg5.view.readCov (tripPos.sl.H5_3 c arg1 arg2 arg3 arg5 f1 f2 f3 k (arg5.view.rep X5)) sinkRect.toLoadRect)).trans ?_
  rw [pos_DS0 c arg1 arg2 arg3 f1 f2 f3 k]
  exact congrArg _ (sinkLoad arg5 _ _)

/-- The sink accumulator after head 4's store: a later trip. -/
theorem pos_sink4 (k : Fin k0_t1_loop.trips) (X5 : FVec F S1x128 .f32) : tripPos.sl.v563 c arg1 arg2 arg3 arg5 f1 f2 f3 k (arg5.view.rep X5)
    = addSink (extractStridedSlice S128x1 ![0, 0] ((loaded c arg1 arg2 arg3 f1 f2 f3 k).DS 1) slices_S512x1_o0_0_S128x1) 4#32 (tripPos.sl.v275 c arg1 arg2 arg3 arg5 f1 f2 f3 k (arg5.view.rep X5)) := by
  refine (rfl : _ = addSink (extractStridedSlice S128x1 ![0, 0] (tripPos.sl.v548 c arg1 arg2 arg3 f1 f2 f3 k) slices_S512x1_o0_0_S128x1) 4#32 (arg5.view.readCov (tripPos.sl.H5_4 c arg1 arg2 arg3 arg5 f1 f2 f3 k (arg5.view.rep X5)) sinkRect.toLoadRect)).trans ?_
  rw [pos_DS1 c arg1 arg2 arg3 f1 f2 f3 k]
  exact congrArg _ (sinkLoad arg5 _ _)

/-- The sink accumulator after head 5's store: a later trip. -/
theorem pos_sink5 (k : Fin k0_t1_loop.trips) (X5 : FVec F S1x128 .f32) : tripPos.sl.v579 c arg1 arg2 arg3 arg5 f1 f2 f3 k (arg5.view.rep X5)
    = addSink (extractStridedSlice S128x1 ![128, 0] ((loaded c arg1 arg2 arg3 f1 f2 f3 k).DS 1) slices_S512x1_o128_0_S128x1) 5#32 (tripPos.sl.v563 c arg1 arg2 arg3 arg5 f1 f2 f3 k (arg5.view.rep X5)) := by
  refine (rfl : _ = addSink (extractStridedSlice S128x1 ![128, 0] (tripPos.sl.v548 c arg1 arg2 arg3 f1 f2 f3 k) slices_S512x1_o128_0_S128x1) 5#32 (arg5.view.readCov (tripPos.sl.H5_5 c arg1 arg2 arg3 arg5 f1 f2 f3 k (arg5.view.rep X5)) sinkRect.toLoadRect)).trans ?_
  rw [pos_DS1 c arg1 arg2 arg3 f1 f2 f3 k]
  exact congrArg _ (sinkLoad arg5 _ _)

/-- The sink accumulator after head 6's store: a later trip. -/
theorem pos_sink6 (k : Fin k0_t1_loop.trips) (X5 : FVec F S1x128 .f32) : tripPos.sl.v595 c arg1 arg2 arg3 arg5 f1 f2 f3 k (arg5.view.rep X5)
    = addSink (extractStridedSlice S128x1 ![256, 0] ((loaded c arg1 arg2 arg3 f1 f2 f3 k).DS 1) slices_S512x1_o256_0_S128x1) 6#32 (tripPos.sl.v579 c arg1 arg2 arg3 arg5 f1 f2 f3 k (arg5.view.rep X5)) := by
  refine (rfl : _ = addSink (extractStridedSlice S128x1 ![256, 0] (tripPos.sl.v548 c arg1 arg2 arg3 f1 f2 f3 k) slices_S512x1_o256_0_S128x1) 6#32 (arg5.view.readCov (tripPos.sl.H5_6 c arg1 arg2 arg3 arg5 f1 f2 f3 k (arg5.view.rep X5)) sinkRect.toLoadRect)).trans ?_
  rw [pos_DS1 c arg1 arg2 arg3 f1 f2 f3 k]
  exact congrArg _ (sinkLoad arg5 _ _)

/-- The sink accumulator after head 7's store: a later trip. -/
theorem pos_sink7 (k : Fin k0_t1_loop.trips) (X5 : FVec F S1x128 .f32) : tripPos.sl.v611 c arg1 arg2 arg3 arg5 f1 f2 f3 k (arg5.view.rep X5)
    = addSink (extractStridedSlice S128x1 ![384, 0] ((loaded c arg1 arg2 arg3 f1 f2 f3 k).DS 1) slices_S512x1_o384_0_S128x1) 7#32 (tripPos.sl.v595 c arg1 arg2 arg3 arg5 f1 f2 f3 k (arg5.view.rep X5)) := by
  refine (rfl : _ = addSink (extractStridedSlice S128x1 ![384, 0] (tripPos.sl.v548 c arg1 arg2 arg3 f1 f2 f3 k) slices_S512x1_o384_0_S128x1) 7#32 (arg5.view.readCov (tripPos.sl.H5_7 c arg1 arg2 arg3 arg5 f1 f2 f3 k (arg5.view.rep X5)) sinkRect.toLoadRect)).trans ?_
  rw [pos_DS1 c arg1 arg2 arg3 f1 f2 f3 k]
  exact congrArg _ (sinkLoad arg5 _ _)

/-- The sink accumulator after a later trip. -/
theorem pos_read5 (k : Fin k0_t1_loop.trips) (hk : 0 < k.val) (f4 : Buf (Elt F) (arg4.view.loc (c : Thread nD τ))) (X5 : FVec F S1x128 .f32) (f6 : Buf (Elt F) (arg6.view.loc (c : Thread nD τ))) (f7 : Buf (Elt F) (arg7.view.loc (c : Thread nD τ))) :
    arg5.view.read (Elt F) (arg5.view.writes (Elt F) (arg5.view.rep X5) (tripPos (F := F) c i arg1 harg1 arg2 harg2 arg3 harg3 arg4 harg4 arg5 harg5 arg6 harg6 arg7 harg7 f1 f2 f3 k hk f4 (arg5.view.rep X5) f6 f7).2.1) = (loaded c arg1 arg2 arg3 f1 f2 f3 k).sinks X5 := by
  refine (sinkWrite arg5 _ (tripPos.sl.v611 c arg1 arg2 arg3 arg5 f1 f2 f3 k (arg5.view.rep X5)) (tripPos.sl.H5_7 c arg1 arg2 arg3 arg5 f1 f2 f3 k (arg5.view.rep X5))).trans ?_
  rw [pos_sink7, pos_sink6, pos_sink5, pos_sink4, pos_sink3, pos_sink2, pos_sink1, pos_sink0]
  rfl

/-- The key accumulator after a later trip. -/
theorem pos_read6 (k : Fin k0_t1_loop.trips) (hk : 0 < k.val) (f4 : Buf (Elt F) (arg4.view.loc (c : Thread nD τ))) (f5 : Buf (Elt F) (arg5.view.loc (c : Thread nD τ))) (f7 : Buf (Elt F) (arg7.view.loc (c : Thread nD τ))) (X : FVec F S2048x128 .f32) :
    arg6.view.read (Elt F) (arg6.view.writes (Elt F) (arg6.view.rep X) (tripPos (F := F) c i arg1 harg1 arg2 harg2 arg3 harg3 arg4 harg4 arg5 harg5 arg6 harg6 arg7 harg7 f1 f2 f3 k hk f4 f5 (arg6.view.rep X) f7).2.2.1) = stepAcc k (loaded c arg1 arg2 arg3 f1 f2 f3 k).DK X := by
  have e0 := pos_DK0 c arg1 arg2 arg3 f1 f2 f3 k
  have e1 := pos_DK1 c arg1 arg2 arg3 f1 f2 f3 k
  unfold stepAcc
  rw [← e0, ← e1]
  exact read_acc4_apart arg6.view (fits_prev k) (fits_cur k) (k0_off9_eq k) (k0_off10_eq k) (k0_off9_inb k) (k0_off10_inb k) (by omega)
    (Blocks.top (tripPos.sl.v278 c arg1 arg2 arg3 f1 f2 f3 k)) (Blocks.bot (tripPos.sl.v278 c arg1 arg2 arg3 f1 f2 f3 k)) (Blocks.top (tripPos.sl.v614 c arg1 arg2 arg3 f1 f2 f3 k)) (Blocks.bot (tripPos.sl.v614 c arg1 arg2 arg3 f1 f2 f3 k)) X _ _ _ _ rfl rfl rfl rfl

/-- The value accumulator after a later trip. -/
theorem pos_read7 (k : Fin k0_t1_loop.trips) (hk : 0 < k.val) (f4 : Buf (Elt F) (arg4.view.loc (c : Thread nD τ))) (f5 : Buf (Elt F) (arg5.view.loc (c : Thread nD τ))) (f6 : Buf (Elt F) (arg6.view.loc (c : Thread nD τ))) (X : FVec F S2048x128 .f32) :
    arg7.view.read (Elt F) (arg7.view.writes (Elt F) (arg7.view.rep X) (tripPos (F := F) c i arg1 harg1 arg2 harg2 arg3 harg3 arg4 harg4 arg5 harg5 arg6 harg6 arg7 harg7 f1 f2 f3 k hk f4 f5 f6 (arg7.view.rep X)).2.2.2.1) = stepAcc k (loaded c arg1 arg2 arg3 f1 f2 f3 k).DV X := by
  have e0 := pos_DV0 c arg1 arg2 arg3 f1 f2 f3 k
  have e1 := pos_DV1 c arg1 arg2 arg3 f1 f2 f3 k
  unfold stepAcc
  rw [← e0, ← e1]
  exact read_acc4_apart arg7.view (fits_prev k) (fits_cur k) (k0_off9_eq k) (k0_off10_eq k) (k0_off9_inb k) (k0_off10_inb k) (by omega)
    (Blocks.top (tripPos.sl.v280 c arg1 arg2 arg3 f1 f2 f3 k)) (Blocks.bot (tripPos.sl.v280 c arg1 arg2 arg3 f1 f2 f3 k)) (Blocks.top (tripPos.sl.v616 c arg1 arg2 arg3 f1 f2 f3 k)) (Blocks.bot (tripPos.sl.v616 c arg1 arg2 arg3 f1 f2 f3 k)) X _ _ _ _ rfl rfl rfl rfl

/-- Query tile 0: a later trip. -/
theorem pos_dq0 (k : Fin k0_t1_loop.trips) : tripPos.sl.v689 c arg1 arg2 arg3 f1 f2 f3 k = (loaded c arg1 arg2 arg3 f1 f2 f3 k).dq 0 :=
  (rfl : _ = Blocks.loTile (Blocks.quarter (tripPos.sl.v277 c arg1 arg2 arg3 f1 f2 f3 k) 0) (Blocks.quarter (tripPos.sl.v277 c arg1 arg2 arg3 f1 f2 f3 k) 1)).trans (by rw [pos_DQ0 c arg1 arg2 arg3 f1 f2 f3 k]; rfl)

/-- Query tile 1: a later trip. -/
theorem pos_dq1 (k : Fin k0_t1_loop.trips) : k0_pay4 (tripPos.sl.v352 c arg1 arg2 arg3 f1 f2 f3 k) = (loaded c arg1 arg2 arg3 f1 f2 f3 k).dq 1 :=
  (rfl : _ = Blocks.loTile (Blocks.quarter (tripPos.sl.v277 c arg1 arg2 arg3 f1 f2 f3 k) 2) (Blocks.quarter (tripPos.sl.v277 c arg1 arg2 arg3 f1 f2 f3 k) 3)).trans (by rw [pos_DQ0 c arg1 arg2 arg3 f1 f2 f3 k]; rfl)

/-- Query tile 2: a later trip. -/
theorem pos_dq2 (k : Fin k0_t1_loop.trips) : k0_pay5 (tripPos.sl.v668 c arg1 arg2 arg3 f1 f2 f3 k) = (loaded c arg1 arg2 arg3 f1 f2 f3 k).dq 2 :=
  (rfl : _ = Blocks.hiTile (Blocks.quarter (tripPos.sl.v613 c arg1 arg2 arg3 f1 f2 f3 k) 0) (Blocks.quarter (tripPos.sl.v613 c arg1 arg2 arg3 f1 f2 f3 k) 1)).trans (by rw [pos_DQ1 c arg1 arg2 arg3 f1 f2 f3 k]; rfl)

/-- Query tile 3: a later trip. -/
theorem pos_dq3 (k : Fin k0_t1_loop.trips) : k0_pay6 (tripPos.sl.v688 c arg1 arg2 arg3 f1 f2 f3 k) = (loaded c arg1 arg2 arg3 f1 f2 f3 k).dq 3 :=
  (rfl : _ = Blocks.hiTile (Blocks.quarter (tripPos.sl.v613 c arg1 arg2 arg3 f1 f2 f3 k) 2) (Blocks.quarter (tripPos.sl.v613 c arg1 arg2 arg3 f1 f2 f3 k) 3)).trans (by rw [pos_DQ1 c arg1 arg2 arg3 f1 f2 f3 k]; rfl)

/-- The packed gradients after a later trip. -/
theorem pos_read4 (k : Fin k0_t1_loop.trips) (hk : 0 < k.val) (X4 : Vec F S2048x768 .bf16) (f5 : Buf (Elt F) (arg5.view.loc (c : Thread nD τ))) (f6 : Buf (Elt F) (arg6.view.loc (c : Thread nD τ))) (f7 : Buf (Elt F) (arg7.view.loc (c : Thread nD τ))) :
    arg4.view.read (Elt F) (arg4.view.writes (Elt F) (arg4.view.rep X4) (tripPos (F := F) c i arg1 harg1 arg2 harg2 arg3 harg3 arg4 harg4 arg5 harg5 arg6 harg6 arg7 harg7 f1 f2 f3 k hk (arg4.view.rep X4) f5 f6 f7).1) = stepDq k (loaded c arg1 arg2 arg3 f1 f2 f3 k).dq X4 := by
  refine (rfl : _ = arg4.view.read (Elt F) (arg4.view.writes (Elt F) (arg4.view.rep X4) [⟨Rect.unit (s := S2048x768) (k0_off12 k) S128x128.size (k0_off12_inb k), k0_pay6 (tripPos.sl.v688 c arg1 arg2 arg3 f1 f2 f3 k)⟩, ⟨Rect.unit (s := S2048x768) (k0_off11 k) S128x128.size (k0_off11_inb k), k0_pay5 (tripPos.sl.v668 c arg1 arg2 arg3 f1 f2 f3 k)⟩, ⟨Rect.unit (s := S2048x768) (k0_off6 k) S128x128.size (k0_off6_inb k), k0_pay4 (tripPos.sl.v352 c arg1 arg2 arg3 f1 f2 f3 k)⟩, ⟨Rect.unit (s := S2048x768) (k0_off5 k) S128x128.size (k0_off5_inb k), tripPos.sl.v689 c arg1 arg2 arg3 f1 f2 f3 k⟩])).trans ?_
  rw [pos_dq0 c arg1 arg2 arg3 f1 f2 f3 k, pos_dq1 c arg1 arg2 arg3 f1 f2 f3 k, pos_dq2 c arg1 arg2 arg3 f1 f2 f3 k, pos_dq3 c arg1 arg2 arg3 f1 f2 f3 k]
  refine (View.read_writes_cons_put arg4.view _ _ _ _ (k0_off12_eq k)).trans ?_
  refine congrArg (fun x => VecWindow.put (s := S2048x768) x _ S128x128.size _) ((View.read_writes_cons_put arg4.view _ _ _ _ (k0_off11_eq k)).trans ?_)
  refine congrArg (fun x => VecWindow.put (s := S2048x768) x _ S128x128.size _) ((View.read_writes_cons_put arg4.view _ _ _ _ (k0_off6_eq k)).trans ?_)
  refine congrArg (fun x => VecWindow.put (s := S2048x768) x _ S128x128.size _) ((View.read_writes_cons_put arg4.view _ _ _ _ (k0_off5_eq k)).trans ?_)
  refine congrArg (fun x => VecWindow.put (s := S2048x768) x _ S128x128.size _) ?_
  exact noWrite arg4 X4

/-- The sink accumulator after head 0's store: trip 0. -/
theorem zero_sink0 (X5 : FVec F S1x128 .f32) : tripZero.sl.v227 c arg1 arg2 arg3 arg5 f1 f2 f3 (arg5.view.rep X5)
    = addSink (extractStridedSlice S128x1 ![0, 0] ((loaded c arg1 arg2 arg3 f1 f2 f3 ⟨0, by decide⟩).DS 0) slices_S512x1_o0_0_S128x1) 0#32 X5 := by
  refine (rfl : _ = addSink (extractStridedSlice S128x1 ![0, 0] (tripZero.sl.v212 c arg1 arg2 arg3 f1 f2 f3) slices_S512x1_o0_0_S128x1) 0#32 (View.readAt (Elt F) arg5.view sinkRect.toLoadRect (arg5.view.rep X5))).trans ?_
  rw [zero_DS0 c arg1 arg2 arg3 f1 f2 f3]
  exact congrArg _ (sinkRead arg5 X5)

/-- The sink accumulator after head 1's store: trip 0. -/
theorem zero_sink1 (X5 : FVec F S1x128 .f32) : tripZero.sl.v243 c arg1 arg2 arg3 arg5 f1 f2 f3 (arg5.view.rep X5)
    = addSink (extractStridedSlice S128x1 ![128, 0] ((loaded c arg1 arg2 arg3 f1 f2 f3 ⟨0, by decide⟩).DS 0) slices_S512x1_o128_0_S128x1) 1#32 (tripZero.sl.v227 c arg1 arg2 arg3 arg5 f1 f2 f3 (arg5.view.rep X5)) := by
  refine (rfl : _ = addSink (extractStridedSlice S128x1 ![128, 0] (tripZero.sl.v212 c arg1 arg2 arg3 f1 f2 f3) slices_S512x1_o128_0_S128x1) 1#32 (arg5.view.readCov (tripZero.sl.H5_1 c arg1 arg2 arg3 arg5 f1 f2 f3 (arg5.view.rep X5)) sinkRect.toLoadRect)).trans ?_
  rw [zero_DS0 c arg1 arg2 arg3 f1 f2 f3]
  exact congrArg _ (sinkLoad arg5 _ _)

/-- The sink accumulator after head 2's store: trip 0. -/
theorem zero_sink2 (X5 : FVec F S1x128 .f32) : tripZero.sl.v259 c arg1 arg2 arg3 arg5 f1 f2 f3 (arg5.view.rep X5)
    = addSink (extractStridedSlice S128x1 ![256, 0] ((loaded c arg1 arg2 arg3 f1 f2 f3 ⟨0, by decide⟩).DS 0) slices_S512x1_o256_0_S128x1) 2#32 (tripZero.sl.v243 c arg1 arg2 arg3 arg5 f1 f2 f3 (arg5.view.rep X5)) := by
  refine (rfl : _ = addSink (extractStridedSlice S128x1 ![256, 0] (tripZero.sl.v212 c arg1 arg2 arg3 f1 f2 f3) slices_S512x1_o256_0_S128x1) 2#32 (arg5.view.readCov (tripZero.sl.H5_2 c arg1 arg2 arg3 arg5 f1 f2 f3 (arg5.view.rep X5)) sinkRect.toLoadRect)).trans ?_
  rw [zero_DS0 c arg1 arg2 arg3 f1 f2 f3]
  exact congrArg _ (sinkLoad arg5 _ _)

/-- The sink accumulator after head 3's store: trip 0. -/
theorem zero_sink3 (X5 : FVec F S1x128 .f32) : tripZero.sl.v275 c arg1 arg2 arg3 arg5 f1 f2 f3 (arg5.view.rep X5)
    = addSink (extractStridedSlice S128x1 ![384, 0] ((loaded c arg1 arg2 arg3 f1 f2 f3 ⟨0, by decide⟩).DS 0) slices_S512x1_o384_0_S128x1) 3#32 (tripZero.sl.v259 c arg1 arg2 arg3 arg5 f1 f2 f3 (arg5.view.rep X5)) := by
  refine (rfl : _ = addSink (extractStridedSlice S128x1 ![384, 0] (tripZero.sl.v212 c arg1 arg2 arg3 f1 f2 f3) slices_S512x1_o384_0_S128x1) 3#32 (arg5.view.readCov (tripZero.sl.H5_3 c arg1 arg2 arg3 arg5 f1 f2 f3 (arg5.view.rep X5)) sinkRect.toLoadRect)).trans ?_
  rw [zero_DS0 c arg1 arg2 arg3 f1 f2 f3]
  exact congrArg _ (sinkLoad arg5 _ _)

/-- The sink accumulator after head 4's store: trip 0. -/
theorem zero_sink4 (X5 : FVec F S1x128 .f32) : tripZero.sl.v563 c arg1 arg2 arg3 arg5 f1 f2 f3 (arg5.view.rep X5)
    = addSink (extractStridedSlice S128x1 ![0, 0] ((loaded c arg1 arg2 arg3 f1 f2 f3 ⟨0, by decide⟩).DS 1) slices_S512x1_o0_0_S128x1) 4#32 (tripZero.sl.v275 c arg1 arg2 arg3 arg5 f1 f2 f3 (arg5.view.rep X5)) := by
  refine (rfl : _ = addSink (extractStridedSlice S128x1 ![0, 0] (tripZero.sl.v548 c arg1 arg2 arg3 f1 f2 f3) slices_S512x1_o0_0_S128x1) 4#32 (arg5.view.readCov (tripZero.sl.H5_4 c arg1 arg2 arg3 arg5 f1 f2 f3 (arg5.view.rep X5)) sinkRect.toLoadRect)).trans ?_
  rw [zero_DS1 c arg1 arg2 arg3 f1 f2 f3]
  exact congrArg _ (sinkLoad arg5 _ _)

/-- The sink accumulator after head 5's store: trip 0. -/
theorem zero_sink5 (X5 : FVec F S1x128 .f32) : tripZero.sl.v579 c arg1 arg2 arg3 arg5 f1 f2 f3 (arg5.view.rep X5)
    = addSink (extractStridedSlice S128x1 ![128, 0] ((loaded c arg1 arg2 arg3 f1 f2 f3 ⟨0, by decide⟩).DS 1) slices_S512x1_o128_0_S128x1) 5#32 (tripZero.sl.v563 c arg1 arg2 arg3 arg5 f1 f2 f3 (arg5.view.rep X5)) := by
  refine (rfl : _ = addSink (extractStridedSlice S128x1 ![128, 0] (tripZero.sl.v548 c arg1 arg2 arg3 f1 f2 f3) slices_S512x1_o128_0_S128x1) 5#32 (arg5.view.readCov (tripZero.sl.H5_5 c arg1 arg2 arg3 arg5 f1 f2 f3 (arg5.view.rep X5)) sinkRect.toLoadRect)).trans ?_
  rw [zero_DS1 c arg1 arg2 arg3 f1 f2 f3]
  exact congrArg _ (sinkLoad arg5 _ _)

/-- The sink accumulator after head 6's store: trip 0. -/
theorem zero_sink6 (X5 : FVec F S1x128 .f32) : tripZero.sl.v595 c arg1 arg2 arg3 arg5 f1 f2 f3 (arg5.view.rep X5)
    = addSink (extractStridedSlice S128x1 ![256, 0] ((loaded c arg1 arg2 arg3 f1 f2 f3 ⟨0, by decide⟩).DS 1) slices_S512x1_o256_0_S128x1) 6#32 (tripZero.sl.v579 c arg1 arg2 arg3 arg5 f1 f2 f3 (arg5.view.rep X5)) := by
  refine (rfl : _ = addSink (extractStridedSlice S128x1 ![256, 0] (tripZero.sl.v548 c arg1 arg2 arg3 f1 f2 f3) slices_S512x1_o256_0_S128x1) 6#32 (arg5.view.readCov (tripZero.sl.H5_6 c arg1 arg2 arg3 arg5 f1 f2 f3 (arg5.view.rep X5)) sinkRect.toLoadRect)).trans ?_
  rw [zero_DS1 c arg1 arg2 arg3 f1 f2 f3]
  exact congrArg _ (sinkLoad arg5 _ _)

/-- The sink accumulator after head 7's store: trip 0. -/
theorem zero_sink7 (X5 : FVec F S1x128 .f32) : tripZero.sl.v611 c arg1 arg2 arg3 arg5 f1 f2 f3 (arg5.view.rep X5)
    = addSink (extractStridedSlice S128x1 ![384, 0] ((loaded c arg1 arg2 arg3 f1 f2 f3 ⟨0, by decide⟩).DS 1) slices_S512x1_o384_0_S128x1) 7#32 (tripZero.sl.v595 c arg1 arg2 arg3 arg5 f1 f2 f3 (arg5.view.rep X5)) := by
  refine (rfl : _ = addSink (extractStridedSlice S128x1 ![384, 0] (tripZero.sl.v548 c arg1 arg2 arg3 f1 f2 f3) slices_S512x1_o384_0_S128x1) 7#32 (arg5.view.readCov (tripZero.sl.H5_7 c arg1 arg2 arg3 arg5 f1 f2 f3 (arg5.view.rep X5)) sinkRect.toLoadRect)).trans ?_
  rw [zero_DS1 c arg1 arg2 arg3 f1 f2 f3]
  exact congrArg _ (sinkLoad arg5 _ _)

/-- The sink accumulator after trip 0. -/
theorem zero_read5 (f4 : Buf (Elt F) (arg4.view.loc (c : Thread nD τ))) (X5 : FVec F S1x128 .f32) (f6 : Buf (Elt F) (arg6.view.loc (c : Thread nD τ))) (f7 : Buf (Elt F) (arg7.view.loc (c : Thread nD τ))) :
    arg5.view.read (Elt F) (arg5.view.writes (Elt F) (arg5.view.rep X5) (tripZero (F := F) c i arg1 harg1 arg2 harg2 arg3 harg3 arg4 harg4 arg5 harg5 arg6 harg6 arg7 harg7 f1 f2 f3 ⟨0, by decide⟩ rfl f4 (arg5.view.rep X5) f6 f7).2.1) = (loaded c arg1 arg2 arg3 f1 f2 f3 ⟨0, by decide⟩).sinks X5 := by
  refine (sinkWrite arg5 _ (tripZero.sl.v611 c arg1 arg2 arg3 arg5 f1 f2 f3 (arg5.view.rep X5)) (tripZero.sl.H5_7 c arg1 arg2 arg3 arg5 f1 f2 f3 (arg5.view.rep X5))).trans ?_
  rw [zero_sink7, zero_sink6, zero_sink5, zero_sink4, zero_sink3, zero_sink2, zero_sink1, zero_sink0]
  rfl

/-- The key accumulator after trip 0. -/
theorem zero_read6 (f4 : Buf (Elt F) (arg4.view.loc (c : Thread nD τ))) (f5 : Buf (Elt F) (arg5.view.loc (c : Thread nD τ))) (f7 : Buf (Elt F) (arg7.view.loc (c : Thread nD τ))) (X : FVec F S2048x128 .f32) :
    arg6.view.read (Elt F) (arg6.view.writes (Elt F) (arg6.view.rep X) (tripZero (F := F) c i arg1 harg1 arg2 harg2 arg3 harg3 arg4 harg4 arg5 harg5 arg6 harg6 arg7 harg7 f1 f2 f3 ⟨0, by decide⟩ rfl f4 f5 (arg6.view.rep X) f7).2.2.1) = stepAcc ⟨0, by decide⟩ (loaded c arg1 arg2 arg3 f1 f2 f3 ⟨0, by decide⟩).DK X := by
  have e0 := zero_DK0 c arg1 arg2 arg3 f1 f2 f3
  have e1 := zero_DK1 c arg1 arg2 arg3 f1 f2 f3
  unfold stepAcc
  rw [← e0, ← e1]
  exact read_acc4_same arg6.view (o := 0) (fits_prev ⟨0, by decide⟩) (off := ![0, 0]) rfl (by decide)
    (Blocks.top (tripZero.sl.v278 c arg1 arg2 arg3 f1 f2 f3)) (Blocks.bot (tripZero.sl.v278 c arg1 arg2 arg3 f1 f2 f3)) (Blocks.top (tripZero.sl.v614 c arg1 arg2 arg3 f1 f2 f3)) (Blocks.bot (tripZero.sl.v614 c arg1 arg2 arg3 f1 f2 f3)) X _ _ _ _ rfl rfl rfl rfl

/-- The value accumulator after trip 0. -/
theorem zero_read7 (f4 : Buf (Elt F) (arg4.view.loc (c : Thread nD τ))) (f5 : Buf (Elt F) (arg5.view.loc (c : Thread nD τ))) (f6 : Buf (Elt F) (arg6.view.loc (c : Thread nD τ))) (X : FVec F S2048x128 .f32) :
    arg7.view.read (Elt F) (arg7.view.writes (Elt F) (arg7.view.rep X) (tripZero (F := F) c i arg1 harg1 arg2 harg2 arg3 harg3 arg4 harg4 arg5 harg5 arg6 harg6 arg7 harg7 f1 f2 f3 ⟨0, by decide⟩ rfl f4 f5 f6 (arg7.view.rep X)).2.2.2.1) = stepAcc ⟨0, by decide⟩ (loaded c arg1 arg2 arg3 f1 f2 f3 ⟨0, by decide⟩).DV X := by
  have e0 := zero_DV0 c arg1 arg2 arg3 f1 f2 f3
  have e1 := zero_DV1 c arg1 arg2 arg3 f1 f2 f3
  unfold stepAcc
  rw [← e0, ← e1]
  exact read_acc4_same arg7.view (o := 0) (fits_prev ⟨0, by decide⟩) (off := ![0, 0]) rfl (by decide)
    (Blocks.top (tripZero.sl.v280 c arg1 arg2 arg3 f1 f2 f3)) (Blocks.bot (tripZero.sl.v280 c arg1 arg2 arg3 f1 f2 f3)) (Blocks.top (tripZero.sl.v616 c arg1 arg2 arg3 f1 f2 f3)) (Blocks.bot (tripZero.sl.v616 c arg1 arg2 arg3 f1 f2 f3)) X _ _ _ _ rfl rfl rfl rfl

/-- Query tile 0: trip 0. -/
theorem zero_dq0 : tripZero.sl.v689 c arg1 arg2 arg3 f1 f2 f3 = (loaded c arg1 arg2 arg3 f1 f2 f3 ⟨0, by decide⟩).dq 0 :=
  (rfl : _ = Blocks.loTile (Blocks.quarter (tripZero.sl.v277 c arg1 arg2 arg3 f1 f2 f3) 0) (Blocks.quarter (tripZero.sl.v277 c arg1 arg2 arg3 f1 f2 f3) 1)).trans (by rw [zero_DQ0 c arg1 arg2 arg3 f1 f2 f3]; rfl)

/-- Query tile 1: trip 0. -/
theorem zero_dq1 : k0_pay4 (tripZero.sl.v352 c arg1 arg2 arg3 f1 f2 f3) = (loaded c arg1 arg2 arg3 f1 f2 f3 ⟨0, by decide⟩).dq 1 :=
  (rfl : _ = Blocks.loTile (Blocks.quarter (tripZero.sl.v277 c arg1 arg2 arg3 f1 f2 f3) 2) (Blocks.quarter (tripZero.sl.v277 c arg1 arg2 arg3 f1 f2 f3) 3)).trans (by rw [zero_DQ0 c arg1 arg2 arg3 f1 f2 f3]; rfl)

/-- Query tile 2: trip 0. -/
theorem zero_dq2 : k0_pay5 (tripZero.sl.v668 c arg1 arg2 arg3 f1 f2 f3) = (loaded c arg1 arg2 arg3 f1 f2 f3 ⟨0, by decide⟩).dq 2 :=
  (rfl : _ = Blocks.hiTile (Blocks.quarter (tripZero.sl.v613 c arg1 arg2 arg3 f1 f2 f3) 0) (Blocks.quarter (tripZero.sl.v613 c arg1 arg2 arg3 f1 f2 f3) 1)).trans (by rw [zero_DQ1 c arg1 arg2 arg3 f1 f2 f3]; rfl)

/-- Query tile 3: trip 0. -/
theorem zero_dq3 : k0_pay6 (tripZero.sl.v688 c arg1 arg2 arg3 f1 f2 f3) = (loaded c arg1 arg2 arg3 f1 f2 f3 ⟨0, by decide⟩).dq 3 :=
  (rfl : _ = Blocks.hiTile (Blocks.quarter (tripZero.sl.v613 c arg1 arg2 arg3 f1 f2 f3) 2) (Blocks.quarter (tripZero.sl.v613 c arg1 arg2 arg3 f1 f2 f3) 3)).trans (by rw [zero_DQ1 c arg1 arg2 arg3 f1 f2 f3]; rfl)

/-- The packed gradients after trip 0. -/
theorem zero_read4 (X4 : Vec F S2048x768 .bf16) (f5 : Buf (Elt F) (arg5.view.loc (c : Thread nD τ))) (f6 : Buf (Elt F) (arg6.view.loc (c : Thread nD τ))) (f7 : Buf (Elt F) (arg7.view.loc (c : Thread nD τ))) :
    arg4.view.read (Elt F) (arg4.view.writes (Elt F) (arg4.view.rep X4) (tripZero (F := F) c i arg1 harg1 arg2 harg2 arg3 harg3 arg4 harg4 arg5 harg5 arg6 harg6 arg7 harg7 f1 f2 f3 ⟨0, by decide⟩ rfl (arg4.view.rep X4) f5 f6 f7).1) = stepDq ⟨0, by decide⟩ (loaded c arg1 arg2 arg3 f1 f2 f3 ⟨0, by decide⟩).dq X4 := by
  refine (rfl : _ = arg4.view.read (Elt F) (arg4.view.writes (Elt F) (arg4.view.rep X4) [⟨Rect.unit (s := S2048x768) ![0, 384] S128x128.size (by decide), k0_pay6 (tripZero.sl.v688 c arg1 arg2 arg3 f1 f2 f3)⟩, ⟨Rect.unit (s := S2048x768) ![0, 256] S128x128.size (by decide), k0_pay5 (tripZero.sl.v668 c arg1 arg2 arg3 f1 f2 f3)⟩, ⟨Rect.unit (s := S2048x768) ![0, 128] S128x128.size (by decide), k0_pay4 (tripZero.sl.v352 c arg1 arg2 arg3 f1 f2 f3)⟩, ⟨Rect.unit (s := S2048x768) ![0, 0] S128x128.size (by decide), tripZero.sl.v689 c arg1 arg2 arg3 f1 f2 f3⟩])).trans ?_
  rw [zero_dq0 c arg1 arg2 arg3 f1 f2 f3, zero_dq1 c arg1 arg2 arg3 f1 f2 f3, zero_dq2 c arg1 arg2 arg3 f1 f2 f3, zero_dq3 c arg1 arg2 arg3 f1 f2 f3]
  refine (View.read_writes_cons_put arg4.view _ _ _ _ rfl).trans ?_
  refine congrArg (fun x => VecWindow.put (s := S2048x768) x _ S128x128.size _) ((View.read_writes_cons_put arg4.view _ _ _ _ rfl).trans ?_)
  refine congrArg (fun x => VecWindow.put (s := S2048x768) x _ S128x128.size _) ((View.read_writes_cons_put arg4.view _ _ _ _ rfl).trans ?_)
  refine congrArg (fun x => VecWindow.put (s := S2048x768) x _ S128x128.size _) ((View.read_writes_cons_put arg4.view _ _ _ _ rfl).trans ?_)
  refine congrArg (fun x => VecWindow.put (s := S2048x768) x _ S128x128.size _) ?_
  exact noWrite arg4 X4

end

end Cert.Proof.KernelIdeal
end
-- ==== Proof.Grad.lean ====
module

public import proofs.«01_k».proof.Proof.StepVal

@[expose] public section

/-!
The loop's result in closed form: the packed gradient array after the 16 trips and the two last column
stores, entry by entry, whatever the array held before.
-/

set_option maxRecDepth 16384

noncomputable section

namespace Cert.Proof.KernelIdeal

open Cert.KernelIdeal Cert.KernelIdeal.Gen
open Idealize.ShloMosaic

variable {F : FTy → Type} [FloatOps F] [Named F]

/-- An entry a put covers. -/
theorem put_at {s : Shape} {α : Type} (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  have hh : ∀ a, off a ≤ (y a).val ∧ (y a).val < off a + size a := fun a => by have := h a; have := (z a).isLt; omega
  unfold VecWindow.put
  rw [dif_pos hh]
  refine congrArg w (funext fun a => Fin.ext ?_)
  show (y a).val - off a = (z a).val
  have := h a; omega

/-- An entry a put leaves alone. -/
theorem put_off {s : Shape} {α : Type} (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  rw [dif_neg]
  intro hall
  have := hall a; omega

/-- The loop has 16 trips. -/
theorem trips_eq : k0_t1_loop.trips = 16 := by decide +kernel

section
variable (X1 : Vec F S2048x768 .bf16) (X2 : Vec F S2048x512 .bf16) (X3 : Vec F S1x8 .f32)

/-- The packed gradients before trip `n`. -/
def dqAt (X4 : Vec F S2048x768 .bf16) : ℕ → Vec F S2048x768 .bf16
  | 0 => X4
  | n + 1 => if h : n < k0_t1_loop.trips then stepDq ⟨n, h⟩ (blocksAt X1 X2 X3 ⟨n, h⟩).dq (dqAt X4 n) else dqAt X4 n

/-- The sink accumulator before trip `n`. -/
def sinkAt : ℕ → FVec F S1x128 .f32
  | 0 => k0_pay1
  | n + 1 => if h : n < k0_t1_loop.trips then (blocksAt X1 X2 X3 ⟨n, h⟩).sinks (sinkAt n) else sinkAt n

/-- The key accumulator before trip `n`. -/
def dkAt : ℕ → FVec F S2048x128 .f32
  | 0 => k0_pay2
  | n + 1 => if h : n < k0_t1_loop.trips then stepAcc ⟨n, h⟩ (blocksAt X1 X2 X3 ⟨n, h⟩).DK (dkAt n) else dkAt n

/-- The value accumulator before trip `n`. -/
def dvAt : ℕ → FVec F S2048x128 .f32
  | 0 => k0_pay3
  | n + 1 => if h : n < k0_t1_loop.trips then stepAcc ⟨n, h⟩ (blocksAt X1 X2 X3 ⟨n, h⟩).DV (dvAt n) else dvAt n

/-- The two accumulators stored beside the query gradients. -/
def packed (dq : Vec F S2048x768 .bf16) (dk dv : FVec F S2048x128 .f32) : Vec F S2048x768 .bf16 :=
  VecWindow.put (s := S2048x768) (VecWindow.put (s := S2048x768) dq ![0, 512] S2048x128.size (k0_pay7 dk)) ![0, 640] S2048x128.size (k0_pay8 dv)

/-- Which trip stores an entry's query gradient. -/
def blockOf (y : S2048x768.Idx) : Fin k0_t1_loop.trips := ⟨(y 0).val / 128, by have h : (y 0).val < 2048 := (y 0).isLt; rw [trips_eq]; omega⟩

/-- Where in its 128-row, 128-lane tile an entry lies. -/
def inTile (y : S2048x768.Idx) : S128x128.Idx
  | 0 => ⟨(y 0).val % 128, Nat.mod_lt _ (by decide)⟩
  | 1 => ⟨(y 1).val % 128, Nat.mod_lt _ (by decide)⟩

/-- Where in the key or value accumulator an entry of the packed array from column `o` on lies. -/
def inAcc (o : ℕ) (y : S2048x768.Idx) (h : (y 1).val - o < 128) : S2048x128.Idx
  | 0 => y 0
  | 1 => ⟨(y 1).val - o, h⟩

/-- The packed gradients, entry by entry: query gradients in columns 0 to 511, key gradients in columns 512
to 639, value gradients in columns 640 to 767. -/
def grad : Vec F S2048x768 .bf16 := fun y =>
  if h : (y 1).val < 512 then (blocksAt X1 X2 X3 (blockOf y)).dq ⟨(y 1).val / 128, by omega⟩ (inTile y)
  else if h' : (y 1).val < 640 then k0_pay7 (dkAt X1 X2 X3 16) (inAcc 512 y (by omega))
  else k0_pay8 (dvAt X1 X2 X3 16) (inAcc 640 y (by have h : (y 1).val < 768 := (y 1).isLt; omega))

/-- One trip's query tiles, at an entry of columns 0 to 511. -/
theorem stepDq_apply (k : Fin k0_t1_loop.trips) (dq : Fin 4 → FVec F S128x128 .bf16) (X : Vec F S2048x768 .bf16) (y : S2048x768.Idx) (h : (y 1).val < 512) :
    stepDq k dq X y = if (y 0).val / 128 = k.val then dq ⟨(y 1).val / 128, by omega⟩ (inTile y) else X y := by
  have h0 : (y 0).val < 2048 := (y 0).isLt
  unfold stepDq
  by_cases hk : (y 0).val / 128 = k.val
  · rw [if_pos hk]
    have key : ∀ (x : Vec F S2048x768 .bf16) (j : Fin 4) (w : FVec F S128x128 .bf16), (y 1).val / 128 = j.val →
        VecWindow.put (s := S2048x768) x ![128 * k.val, 128 * j.val] S128x128.size w y = w (inTile y) := fun x j w e =>
      put_at x _ _ w y (inTile y) (Fin.forall_fin_two.2 ⟨by
        show (y 0).val = 128 * k.val + (y 0).val % 128; omega, by
        show (y 1).val = 128 * j.val + (y 1).val % 128; omega⟩)
    have skip : ∀ (x : Vec F S2048x768 .bf16) (j : Fin 4) (w : FVec F S128x128 .bf16), (y 1).val / 128 < j.val →
        VecWindow.put (s := S2048x768) x ![128 * k.val, 128 * j.val] S128x128.size w y = x y := fun x j w e =>
      put_off x _ _ w y (1 : Fin 2) (.inl (by
        show (y 1).val < 128 * j.val; omega))
    have hj : (y 1).val / 128 = 0 ∨ (y 1).val / 128 = 1 ∨ (y 1).val / 128 = 2 ∨ (y 1).val / 128 = 3 := by omega
    rcases hj with e | e | e | e
    · have q : (⟨(y 1).val / 128, by omega⟩ : Fin 4) = 0 := Fin.ext e
      rw [q]
      exact (skip _ 3 _ (by rw [e]; decide)).trans ((skip _ 2 _ (by rw [e]; decide)).trans ((skip _ 1 _ (by rw [e]; decide)).trans (key _ 0 _ e)))
    · have q : (⟨(y 1).val / 128, by omega⟩ : Fin 4) = 1 := Fin.ext e
      rw [q]
      exact (skip _ 3 _ (by rw [e]; decide)).trans ((skip _ 2 _ (by rw [e]; decide)).trans (key _ 1 _ e))
    · have q : (⟨(y 1).val / 128, by omega⟩ : Fin 4) = 2 := Fin.ext e
      rw [q]
      exact (skip _ 3 _ (by rw [e]; decide)).trans (key _ 2 _ e)
    · have q : (⟨(y 1).val / 128, by omega⟩ : Fin 4) = 3 := Fin.ext e
      rw [q]
      exact key _ 3 _ e
  · rw [if_neg hk]
    have off : ∀ (x : Vec F S2048x768 .bf16) (o : ℕ) (w : FVec F S128x128 .bf16),
        VecWindow.put (s := S2048x768) x ![128 * k.val, o] S128x128.size w y = x y := fun x o w =>
      put_off x _ _ w y (0 : Fin 2) (by
        show (y 0).val < 128 * k.val ∨ 128 * k.val + 128 ≤ (y 0).val; omega)
    rw [off, off, off, off]

/-- The query gradients stored by the first `n` trips. -/
theorem dqAt_apply (X4 : Vec F S2048x768 .bf16) (y : S2048x768.Idx) (h : (y 1).val < 512) (n : ℕ) (hn : n ≤ k0_t1_loop.trips) :
    dqAt X1 X2 X3 X4 n y = if (y 0).val / 128 < n then (blocksAt X1 X2 X3 (blockOf y)).dq ⟨(y 1).val / 128, by omega⟩ (inTile y) else X4 y := by
  induction n with
  | zero => rw [if_neg (by omega)]; rfl
  | succ n ih =>
    have hlt : n < k0_t1_loop.trips := by omega
    rw [dqAt, dif_pos hlt, stepDq_apply _ _ _ y h]
    by_cases e : (y 0).val / 128 = n
    · rw [if_pos e, if_pos (by omega)]
      have : (⟨n, hlt⟩ : Fin k0_t1_loop.trips) = blockOf y := Fin.ext e.symm
      rw [this]
    · rw [if_neg e, ih (by omega)]
      by_cases e' : (y 0).val / 128 < n
      · rw [if_pos e', if_pos (by omega)]
      · rw [if_neg e', if_neg (by omega)]

/-- After the 16 trips and the two column stores the array holds the packed gradients, whatever was there before. -/
theorem packed_eq (X4 : Vec F S2048x768 .bf16) :
    packed (dqAt X1 X2 X3 X4 16) (dkAt X1 X2 X3 16) (dvAt X1 X2 X3 16) = grad X1 X2 X3 := by
  funext y
  have h0 : (y 0).val < 2048 := (y 0).isLt
  have h1 : (y 1).val < 768 := (y 1).isLt
  unfold packed grad
  by_cases h : (y 1).val < 512
  · rw [dif_pos h]
    refine (put_off _ _ _ _ y (1 : Fin 2) (.inl (by show (y 1).val < 640; omega))).trans
      ((put_off _ _ _ _ y (1 : Fin 2) (.inl (by show (y 1).val < 512; omega))).trans ?_)
    rw [dqAt_apply X1 X2 X3 X4 y h 16 (by rw [trips_eq]), if_pos (by omega)]
  · rw [dif_neg h]
    by_cases h' : (y 1).val < 640
    · rw [dif_pos h']
      exact (put_off _ _ _ _ y (1 : Fin 2) (.inl (by show (y 1).val < 640; omega))).trans
        (put_at _ _ _ _ y (inAcc 512 y (by omega)) (Fin.forall_fin_two.2 ⟨by
          show (y 0).val = 0 + (y 0).val; omega, by
          show (y 1).val = 512 + ((y 1).val - 512); omega⟩))
    · rw [dif_neg h']
      exact put_at _ _ _ _ y (inAcc 640 y (by omega)) (Fin.forall_fin_two.2 ⟨by
          show (y 0).val = 0 + (y 0).val; omega, by
          show (y 1).val = 640 + ((y 1).val - 640); omega⟩)
end

end Cert.Proof.KernelIdeal
end
-- ==== Proof.Body.lean ====
module

public import proofs.«01_k».proof.Proof.Grad

@[expose] public section

/-!
The whole body: the accumulators cleared, the 16 trips, and the two column stores.
-/

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

section
variable (c : Dev nD) (i : grid0.Coords) (arg1 : Memref sig .tc .vmem S2048x768 .bf16) (harg1 : arg1.IsWhole) (arg2 : Memref sig .tc .vmem S2048x512 .bf16) (harg2 : arg2.IsWhole) (arg3 : Memref sig .tc .smem S1x8 .f32) (harg3 : arg3.IsWhole) (arg4 : Memref sig .tc .vmem S2048x768 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
  (X1 : Vec F S2048x768 .bf16) (X2 : Vec F S2048x512 .bf16) (X3 : Vec F S1x8 .f32)

/-- The seven buffers, the inputs at given values and the others at given values. -/
abbrev Vals (X4 : Vec F S2048x768 .bf16) (X5 : FVec F S1x128 .f32) (X6 X7 : FVec F S2048x128 .f32) : sProp 𝕄 :=
  Res c arg1 arg2 arg3 arg4 arg5 arg6 arg7 (arg1.view.rep X1) (arg2.view.rep X2) (arg3.view.rep X3) (arg4.view.rep X4) (arg5.view.rep X5) (arg6.view.rep X6) (arg7.view.rep X7)

/-- Buffers at any contents are buffers at the values those contents read. -/
theorem Res_vals (f1 : Buf (Elt F) (arg1.view.loc (c : Thread nD τ))) (f2 : Buf (Elt F) (arg2.view.loc (c : Thread nD τ))) (f3 : Buf (Elt F) (arg3.view.loc (c : Thread nD τ)))
    (g4 : Buf (Elt F) (arg4.view.loc (c : Thread nD τ))) (g5 : Buf (Elt F) (arg5.view.loc (c : Thread nD τ))) (g6 : Buf (Elt F) (arg6.view.loc (c : Thread nD τ))) (g7 : Buf (Elt F) (arg7.view.loc (c : Thread nD τ)))
    (Y4 : Vec F S2048x768 .bf16) (Y5 : FVec F S1x128 .f32) (Y6 Y7 : FVec F S2048x128 .f32)
    (h4 : arg4.view.read (Elt F) g4 = Y4) (h5 : arg5.view.read (Elt F) g5 = Y5) (h6 : arg6.view.read (Elt F) g6 = Y6) (h7 : arg7.view.read (Elt F) g7 = Y7) :
    Res c arg1 arg2 arg3 arg4 arg5 arg6 arg7 f1 f2 f3 g4 g5 g6 g7
      = Res c arg1 arg2 arg3 arg4 arg5 arg6 arg7 f1 f2 f3 (arg4.view.rep Y4) (arg5.view.rep Y5) (arg6.view.rep Y6) (arg7.view.rep Y7) := by
  subst h4 h5 h6 h7
  unfold Res
  rw [← pointsTo_rep (c : Thread nD τ) arg4 g4 fullShare, ← pointsTo_rep (c : Thread nD τ) arg5 g5 fullShare,
    ← pointsTo_rep (c : Thread nD τ) arg6 g6 fullShare, ← pointsTo_rep (c : Thread nD τ) arg7 g7 fullShare]

/-- One trip at the values. -/
theorem tripStep (k : Fin k0_t1_loop.trips) (X4 : Vec F S2048x768 .bf16) (X5 : FVec F S1x128 .f32) (X6 X7 : FVec F S2048x128 .f32) :
    Vals c arg1 arg2 arg3 arg4 arg5 arg6 arg7 X1 X2 X3 X4 X5 X6 X7
      ⊢ wp frame (wpE (defs₀ (F := F)) 𝒱₀ (c : Thread nD τ) none) Set.univ
          (k0_t1_body (F := F) i arg1 harg1 arg2 harg2 arg3 harg3 arg4 harg4 arg5 harg5 arg6 harg6 arg7 harg7 k ())
          (fun _ => Vals c arg1 arg2 arg3 arg4 arg5 arg6 arg7 X1 X2 X3 (stepDq k (blocksAt X1 X2 X3 k).dq X4) ((blocksAt X1 X2 X3 k).sinks X5)
            (stepAcc k (blocksAt X1 X2 X3 k).DK X6) (stepAcc k (blocksAt X1 X2 X3 k).DV X7)) := by
  by_cases hk : 0 < k.val
  · have run := (tripPos (F := F) c i arg1 harg1 arg2 harg2 arg3 harg3 arg4 harg4 arg5 harg5 arg6 harg6 arg7 harg7
      (arg1.view.rep X1) (arg2.view.rep X2) (arg3.view.rep X3) k hk (arg4.view.rep X4) (arg5.view.rep X5) (arg6.view.rep X6) (arg7.view.rep X7)).2.2.2.2
    rw [Res_vals c arg1 arg2 arg3 arg4 arg5 arg6 arg7 _ _ _ _ _ _ _ _ _ _ _
      (pos_read4 c i arg1 harg1 arg2 harg2 arg3 harg3 arg4 harg4 arg5 harg5 arg6 harg6 arg7 harg7 _ _ _ k hk X4 _ _ _)
      (pos_read5 c i arg1 harg1 arg2 harg2 arg3 harg3 arg4 harg4 arg5 harg5 arg6 harg6 arg7 harg7 _ _ _ k hk _ X5 _ _)
      (pos_read6 c i arg1 harg1 arg2 harg2 arg3 harg3 arg4 harg4 arg5 harg5 arg6 harg6 arg7 harg7 _ _ _ k hk _ _ _ X6)
      (pos_read7 c i arg1 harg1 arg2 harg2 arg3 harg3 arg4 harg4 arg5 harg5 arg6 harg6 arg7 harg7 _ _ _ k hk _ _ _ X7),
      loaded_rep] at run
    exact run
  · have h0 : k = ⟨0, by decide⟩ := Fin.ext (by show k.val = 0; omega)
    subst h0
    have run := (tripZero (F := F) c i arg1 harg1 arg2 harg2 arg3 harg3 arg4 harg4 arg5 harg5 arg6 harg6 arg7 harg7
      (arg1.view.rep X1) (arg2.view.rep X2) (arg3.view.rep X3) ⟨0, by decide⟩ rfl (arg4.view.rep X4) (arg5.view.rep X5) (arg6.view.rep X6) (arg7.view.rep X7)).2.2.2.2
    rw [Res_vals c arg1 arg2 arg3 arg4 arg5 arg6 arg7 _ _ _ _ _ _ _ _ _ _ _
      (zero_read4 c i arg1 harg1 arg2 harg2 arg3 harg3 arg4 harg4 arg5 harg5 arg6 harg6 arg7 harg7 _ _ _ X4 _ _ _)
      (zero_read5 c i arg1 harg1 arg2 harg2 arg3 harg3 arg4 harg4 arg5 harg5 arg6 harg6 arg7 harg7 _ _ _ _ X5 _ _)
      (zero_read6 c i arg1 harg1 arg2 harg2 arg3 harg3 arg4 harg4 arg5 harg5 arg6 harg6 arg7 harg7 _ _ _ _ _ _ X6)
      (zero_read7 c i arg1 harg1 arg2 harg2 arg3 harg3 arg4 harg4 arg5 harg5 arg6 harg6 arg7 harg7 _ _ _ _ _ _ X7),
      loaded_rep] at run
    exact run

/-- The state before trip `n`. -/
abbrev At (X4 : Vec F S2048x768 .bf16) (n : ℕ) : sProp 𝕄 :=
  Vals c arg1 arg2 arg3 arg4 arg5 arg6 arg7 X1 X2 X3 (dqAt X1 X2 X3 X4 n) (sinkAt X1 X2 X3 n) (dkAt X1 X2 X3 n) (dvAt X1 X2 X3 n)

/-- One trip takes the state before it to the state before the next. -/
theorem tripAt (X4 : Vec F S2048x768 .bf16) (k : Fin k0_t1_loop.trips) :
    At c arg1 arg2 arg3 arg4 arg5 arg6 arg7 X1 X2 X3 X4 k.val
      ⊢ wp frame (wpE (defs₀ (F := F)) 𝒱₀ (c : Thread nD τ) none) Set.univ
          (k0_t1_body (F := F) i arg1 harg1 arg2 harg2 arg3 harg3 arg4 harg4 arg5 harg5 arg6 harg6 arg7 harg7 k ())
          (fun _ => At c arg1 arg2 arg3 arg4 arg5 arg6 arg7 X1 X2 X3 X4 (k.val + 1)) := by
  unfold At
  rw [dqAt, sinkAt, dkAt, dvAt, dif_pos k.isLt, dif_pos k.isLt, dif_pos k.isLt, dif_pos k.isLt]
  exact tripStep c i arg1 harg1 arg2 harg2 arg3 harg3 arg4 harg4 arg5 harg5 arg6 harg6 arg7 harg7 X1 X2 X3 k _ _ _ _
end

end Cert.Proof.KernelIdeal
end
-- ==== Proof.Run.lean ====
module

public import proofs.«01_k».proof.Proof.Body
public import Idealize.ShloMosaic.Lib.Pipeline.TableIdle

@[expose] public section

/-!
The run of the program: the body on its staging buffers, the launch, and what the arrays hold after it.
-/

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]
local notation "𝕄" => MT nD τ sig Unit (Elt F) ℕ (UU nD τ) ℕ

section
variable (c : Dev nD) (i : grid0.Coords) (arg1 : Memref sig .tc .vmem S2048x768 .bf16) (harg1 : arg1.IsWhole) (arg2 : Memref sig .tc .vmem S2048x512 .bf16) (harg2 : arg2.IsWhole) (arg3 : Memref sig .tc .smem S1x8 .f32) (harg3 : arg3.IsWhole) (arg4 : Memref sig .tc .vmem S2048x768 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
  (X1 : Vec F S2048x768 .bf16) (X2 : Vec F S2048x512 .bf16) (X3 : Vec F S1x8 .f32)

/-- The whole rectangle of an accumulator. -/
abbrev accRect : Rect S2048x128 := Rect.unit (s := S2048x128) ![0, 0] S2048x128.size (by decide)

omit [Named F] in
/-- What an accumulator reads after a store of it whole. -/
theorem accWrite (arg6 : Memref sig .tc .vmem S2048x128 .f32) (g : arg6.view.ty.Contents (Elt F)) (w : FVec F S2048x128 .f32) (L : List (View.Piece (Elt F) S2048x128 .f32)) :
    arg6.view.read (Elt F) (arg6.view.writes (Elt F) g ((⟨accRect, w⟩ : View.Piece (Elt F) S2048x128 .f32) :: L)) = w :=
  View.read_writes_full (Val := Elt F) (s := S2048x128) arg6.view g (off := ![0, 0]) (by decide) w L

omit [Named F] in
/-- A load of an accumulator whole, of a representative. -/
theorem accRead (arg6 : Memref sig .tc .vmem S2048x128 .f32) (X : FVec F S2048x128 .f32) :
    View.readAt (Elt F) arg6.view accRect.toLoadRect (arg6.view.rep X) = X :=
  View.readAt_rep_full (Val := Elt F) (s := S2048x128) arg6.view X (off := ![0, 0]) (by decide)

/-- The two column stores leave the packed gradients. -/
theorem lastWrites (X4 : Vec F S2048x768 .bf16) :
    arg4.view.read (Elt F) (arg4.view.writes (Elt F) (arg4.view.rep (dqAt X1 X2 X3 X4 16))
      [⟨Rect.unit (s := S2048x768) ![0, 640] S2048x128.size (by decide), k0_pay8 (View.readAt (Elt F) arg7.view accRect.toLoadRect (arg7.view.rep (dvAt X1 X2 X3 16)))⟩,
       ⟨Rect.unit (s := S2048x768) ![0, 512] S2048x128.size (by decide), k0_pay7 (View.readAt (Elt F) arg6.view accRect.toLoadRect (arg6.view.rep (dkAt X1 X2 X3 16)))⟩])
      = grad X1 X2 X3 := by
  rw [accRead, accRead, ← packed_eq X1 X2 X3 X4]
  refine (View.read_writes_cons_put arg4.view _ _ _ _ rfl).trans ?_
  refine congrArg (fun x => VecWindow.put (s := S2048x768) x _ S2048x128.size _) ((View.read_writes_cons_put arg4.view _ _ _ _ rfl).trans ?_)
  refine congrArg (fun x => VecWindow.put (s := S2048x768) x _ S2048x128.size _) ?_
  exact noWrite arg4 _

/-- The body from any contents of the outputs and the accumulators: it leaves the packed gradients and the
sink gradients. -/
theorem bodyRun (X4 : Vec F S2048x768 .bf16) (X5 : FVec F S1x128 .f32) (X6 X7 : FVec F S2048x128 .f32) (K : PUnit → sProp 𝕄) :
    iprop(Vals c arg1 arg2 arg3 arg4 arg5 arg6 arg7 X1 X2 X3 X4 X5 X6 X7
        ∗ (Vals c arg1 arg2 arg3 arg4 arg5 arg6 arg7 X1 X2 X3 (grad X1 X2 X3) (sinkAt X1 X2 X3 16) (dkAt X1 X2 X3 16) (dvAt X1 X2 X3 16) -∗ K ⟨⟩))
      ⊢ wp frame (wpE (defs₀ (F := F)) 𝒱₀ (c : Thread nD τ) none) Set.univ
          (cc0_attn_bwd (F := F) i arg1 harg1 arg2 harg2 arg3 harg3 arg4 harg4 arg5 harg5 arg6 harg6 arg7 harg7) K := by
  unfold Vals Res
  iintro ⟨⟨H1, H2, H3, H4, H5, H6, H7⟩, Hk⟩
  sl_unfold [cc0_attn_bwd]
  sl_exec
  ihave HA := (Entails.of_eq (Res_vals c arg1 arg2 arg3 arg4 arg5 arg6 arg7 (arg1.view.rep X1) (arg2.view.rep X2) (arg3.view.rep X3) _ _ _ _ X4 k0_pay1 k0_pay2 k0_pay3
    (View.read_rep arg4.view X4) (sinkWrite arg5 _ _ []) (accWrite arg6 _ _ []) (accWrite arg7 _ _ []))) $$ [H1 H2 H3 H4 H5 H6 H7]
  · sl_close
  sl_for (fun k _ => At c arg1 arg2 arg3 arg4 arg5 arg6 arg7 X1 X2 X3 X4 k) $$ [HA]
  case region =>
    intro k acc
    exact tripAt c i arg1 harg1 arg2 harg2 arg3 harg3 arg4 harg4 arg5 harg5 arg6 harg6 arg7 harg7 X1 X2 X3 X4 k
  · iexact HA
  iintro %acc HA
  unfold At Vals Res
  icases HA with ⟨H1, H2, H3, H4, H5, H6, H7⟩
  sl_exec
  sl_step
  ihave HA := (Entails.of_eq (Res_vals c arg1 arg2 arg3 arg4 arg5 arg6 arg7 (arg1.view.rep X1) (arg2.view.rep X2) (arg3.view.rep X3) _ _ _ _ _ _ _ _
    (lastWrites arg4 arg6 arg7 X1 X2 X3 X4) (View.read_rep arg5.view (sinkAt X1 X2 X3 16)) (View.read_rep arg6.view (dkAt X1 X2 X3 16)) (View.read_rep arg7.view (dvAt X1 X2 X3 16)))) $$ [H1 H2 H3 H4 H5 H6 H7]
  · sl_close
  iapply Hk
  iexact HA

/-- The body on owned staging buffers and scratch. -/
theorem bodyOwns (K : PUnit → sProp 𝕄) :
    iprop(owns (c : Thread nD τ) arg1 fullShare X1 ∗ owns (c : Thread nD τ) arg2 fullShare X2 ∗ owns (c : Thread nD τ) arg3 fullShare X3
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare X1 ∗ owns (c : Thread nD τ) arg2 fullShare X2 ∗ owns (c : Thread nD τ) arg3 fullShare X3
            ∗ owns (c : Thread nD τ) arg4 fullShare (grad X1 X2 X3) ∗ owns (c : Thread nD τ) arg5 fullShare (sinkAt X1 X2 X3 16)
            ∗ (∃ d, owns (c : Thread nD τ) arg6 fullShare d) ∗ (∃ d, owns (c : Thread nD τ) arg7 fullShare d)) -∗ K ⟨⟩))
      ⊢ wp frame (wpE (defs₀ (F := F)) 𝒱₀ (c : Thread nD τ) none) Set.univ
          (cc0_attn_bwd (F := F) i arg1 harg1 arg2 harg2 arg3 harg3 arg4 harg4 arg5 harg5 arg6 harg6 arg7 harg7) K := by
  simp only [owns_eq_rep]
  iintro ⟨H1, H2, H3, ⟨%X4, H4⟩, ⟨%X5, H5⟩, ⟨%X6, H6⟩, ⟨%X7, H7⟩, Hk⟩
  iapply (bodyRun c i arg1 harg1 arg2 harg2 arg3 harg3 arg4 harg4 arg5 harg5 arg6 harg6 arg7 harg7 X1 X2 X3 X4 X5 X6 X7 K)
  isplitl [H1 H2 H3 H4 H5 H6 H7]
  · unfold Vals Res
    sl_close
  unfold Vals Res
  iintro ⟨H1, H2, H3, H4, H5, H6, H7⟩
  iapply Hk
  isplitl [H1]; · iexact H1
  isplitl [H2]; · iexact H2
  isplitl [H3]; · iexact H3
  isplitl [H4]; · iexact H4
  isplitl [H5]; · iexact H5
  isplitl [H6]; · iexists _; iexact H6
  iexists _; iexact H7
end

variable (m : (ℓ : Loc nD τ sig) → Buf (Elt F) ℓ) (ρ : Dev nD → PrngReg)

/-- The query, key and value rows the body finds: the first 768 columns of the first argument. -/
def X1 (c : Dev nD) (t : Fin cfg0.N) : Vec F S2048x768 .bf16 := iblk m c 0 t
/-- The cotangent the body finds. -/
def X2 (c : Dev nD) (t : Fin cfg0.N) : Vec F S2048x512 .bf16 := iblk m c 1 t
/-- The sinks the body finds. -/
def X3 (c : Dev nD) (t : Fin cfg0.N) : Vec F S1x8 .f32 := iblk m c 2 t

/-- The arrays as launched; after the body each input at its block, the outputs at the packed gradients and
the sink gradients; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => grad (X1 m c t) (X2 m c t) (X3 m c t)
    | ⟨4, _⟩ => sinkAt (X1 m c t) (X2 m c t) (X3 m c t) 16
  Φ _ := Pipeline.ΦA spec0 c
  q _ := fullShare
  owed _ := 0

/-- The arrays are as launched. -/
theorem A_eq (c : Dev nD) (w : Fin cfg0.W) : (dats m 0 c).A w = V m c (Pipeline.arrRef spec0 w) := rfl
/-- After the body: the packed rows. -/
theorem after0_0 (c : Dev nD) (t : Fin cfg0.N) : (dats m 0 c).after 0 t = iblk m c 0 t := by dsimp only [dats]
/-- After the body: the cotangent. -/
theorem after0_1 (c : Dev nD) (t : Fin cfg0.N) : (dats m 0 c).after 1 t = iblk m c 1 t := by dsimp only [dats]
/-- After the body: the sinks. -/
theorem after0_2 (c : Dev nD) (t : Fin cfg0.N) : (dats m 0 c).after 2 t = iblk m c 2 t := by dsimp only [dats]
/-- After the body: the packed gradients. -/
theorem after0_3 (c : Dev nD) (t : Fin cfg0.N) : (dats m 0 c).after 3 t = grad (X1 m c t) (X2 m c t) (X3 m c t) := by dsimp only [dats]
/-- After the body: the sink gradients. -/
theorem after0_4 (c : Dev nD) (t : Fin cfg0.N) : (dats m 0 c).after 4 t = sinkAt (X1 m c t) (X2 m c t) (X3 m c t) 16 := by dsimp only [dats]
/-- Before the body: the packed rows. -/
theorem before0_0 (c : Dev nD) (t : Fin cfg0.N) (d) : (dats m 0 c).before 0 t d = iblk m c 0 t :=
  before0_0_of m (dats m 0 c) (A_eq m c 0) (after0_0 m c) t d
/-- Before the body: the cotangent. -/
theorem before0_1 (c : Dev nD) (t : Fin cfg0.N) (d) : (dats m 0 c).before 1 t d = iblk m c 1 t :=
  before0_1_of m (dats m 0 c) (A_eq m c 1) (after0_1 m c) t d
/-- Before the body: the sinks. -/
theorem before0_2 (c : Dev nD) (t : Fin cfg0.N) (d) : (dats m 0 c).before 2 t d = iblk m c 2 t :=
  before0_2_of m (dats m 0 c) (A_eq m c 2) (after0_2 m c) t d

/-- What the region hands the body beside its staging buffers: the two accumulators at some contents, and
the generator register. -/
theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA
  rw [scopedRest0_eq]
  simp only [owns_whole]; try rfl

/-- The body's obligation at the one point of the grid. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl, after0_0, after0_1, after0_2, after0_3, after0_4]
  iintro ⟨⟨⟨HS0, HS1⟩, Hg⟩, Ho, ⟨%d0, H0⟩, ⟨%d1, H1⟩, ⟨%d2, H2⟩, ⟨%d3, H3⟩, ⟨%d4, H4⟩⟩
  iapply (bodyOwns c _ _ _ _ _ _ _ _ _ _ _ _ _ _ _ (X1 m c t) (X2 m c t) (X3 m c t) _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, H3, H4, HS0, HS1⟩
  isplitl [HS0 HS1 Hg]
  · isplitr [Hg]
    · isplitl [HS0]; · iexact HS0
      iexact HS1
    · iexact Hg
  isplitl [Ho]; · iexact Ho
  isplitl [H0]; · iexact H0
  isplitl [H1]; · iexact H1
  isplitl [H2]; · iexact H2
  isplitl [H3]; · iexact H3
  iexact H4

set_option backward.isDefEq.respectTransparency.types false in
/-- Every run ends, with every array of the region at what the body leaves and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- Every run ends with the arguments as they were and every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.Proof.KernelIdeal
end
-- ==== Proof.SameText.lean ====
module

public import proofs.«01_k».proof.Proof.Run
public import proofs.«01_k».proof.Proof.Gen.Kernel.Frame
public import proofs.«01_k».proof.Defs

@[expose] public section

/-!
The program as it runs on words is the one the run above is stated for, the masked logit read as its own
word: so one run serves both.
-/

set_option maxRecDepth 65536

noncomputable section

namespace Cert.Proof

open Idealize.ShloMosaic Idealize.ShloMosaic.TcCoe

/-- On words a named constant is its own word. -/
@[reducible] def namedWord : Named Bits := ⟨fun _ _ {φ} w => FloatOps.ofBits φ w⟩

attribute [local instance] namedWord

set_option maxHeartbeats 4000000 in
/-- The bodies agree. -/
theorem body_same : Cert.KernelIdeal.defs₀ (F := Bits) = Cert.Kernel.defs₀ (F := Bits) := by
  unfold Cert.KernelIdeal.defs₀ Cert.Kernel.defs₀
  congr 1
  funext l a
  match l, a with
  | 0, (t, s) => rfl
  | ⟨n + 1, h⟩, a => exact absurd h (Nat.not_lt.2 (Nat.le_add_left _ _))

set_option maxHeartbeats 4000000 in
/-- The programs' labels agree. -/
theorem defs_same : Cert.KernelIdeal.defs (F := Bits) = Cert.Kernel.defs (F := Bits) :=
  congrArg (Pipeline.defs Cert.Kernel.pcfgs) body_same

/-- Every run of the program on words ends with the arguments as they were and every counter at zero. -/
theorem kernel_frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [← defs_same]
  exact KernelIdeal.frame_run (F := Bits) m g

end Cert.Proof
end
-- ==== Proof.Row.lean ====
module

public import Idealize.ShloMosaic.PureOps.Ideal
public import Idealize.ShloMosaic.PureOps.Ideal.Laws

@[expose] public section

/-!
One row of the attention weights and its backward pass, over the reals, and the same row computed in the
extended reals in the two orders of the kernel and of the reference.
-/

noncomputable section

namespace Cert.Proof

open Idealize.ShloMosaic

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace Row

variable (v : Fin 256 → Bool) (a : Fin 256 → ℝ) (s : ℝ) (dp : Fin 256 → ℝ)

/-- The row's logits: `⊥` where the mask hides the entry. -/
def logit (j : Fin 256) : EReal := if v j then (a j : EReal) else ⊥

/-- The largest of the logits and the sink. -/
def peak : ℝ := (max (Finset.univ.fold max ⊥ (logit v a)) (s : EReal)).toReal

/-- The peak is a real number. -/
theorem peak_eq : max (Finset.univ.fold max ⊥ (logit v a)) (s : EReal) = (peak v a s : EReal) := by
  refine (EReal.coe_toReal ?_ ?_).symm
  · refine ne_of_lt (max_lt ?_ (EReal.coe_lt_top s))
    refine (Finset.fold_max_lt _).2 ⟨bot_lt_top, fun j _ => ?_⟩
    unfold logit
    split
    · exact EReal.coe_lt_top _
    · exact bot_lt_top
  · exact ne_of_gt (lt_of_lt_of_le (EReal.bot_lt_coe s) (le_max_right _ _))

/-- The exponentials of the row. -/
def ex (j : Fin 256) : ℝ := if v j then Real.exp (a j - peak v a s) else 0

/-- The exponential of the sink. -/
def exSink : ℝ := Real.exp (s - peak v a s)

/-- Their sum. -/
def total : ℝ := (∑ j, ex v a s j) + exSink v a s

theorem total_pos : 0 < total v a s := by
  refine add_pos_of_nonneg_of_pos (Finset.sum_nonneg fun j _ => ?_) (Real.exp_pos _)
  unfold ex
  split
  · exact (Real.exp_pos _).le
  · exact le_rfl

/-- The weights. -/
def weight (j : Fin 256) : ℝ := ex v a s j / total v a s

/-- The sink's weight. -/
def sinkWeight : ℝ := exSink v a s / total v a s

/-- The mean of the weights' cotangents. -/
def mean : ℝ := ∑ j, weight v a s j * dp j

/-- The cotangent of the unscaled logits. -/
def cot (j : Fin 256) : ℝ := weight v a s j * (dp j - mean v a s dp) * (1 / 8)

/-- Minus the cotangent of the sink. -/
def share : ℝ := sinkWeight v a s * mean v a s dp

theorem weight_off {j : Fin 256} (h : v j = false) : weight v a s j = 0 := by
  unfold weight ex
  rw [if_neg (by rw [h]; decide), zero_div]

theorem cot_off {j : Fin 256} (h : v j = false) : cot v a s dp j = 0 := by
  unfold cot
  rw [weight_off v a s h, zero_mul, zero_mul]

variable {dp} in
/-- Cotangents matter only where the mask lets the entry through. -/
theorem mean_congr {dp' : Fin 256 → ℝ} (h : ∀ j, v j = true → dp j = dp' j) : mean v a s dp = mean v a s dp' := by
  refine Finset.sum_congr rfl fun j _ => ?_
  cases e : v j with
  | true => rw [h j e]
  | false => rw [weight_off v a s e, zero_mul, zero_mul]

variable {dp} in
/-- So does the sink's share. -/
theorem share_congr {dp' : Fin 256 → ℝ} (h : ∀ j, v j = true → dp j = dp' j) : share v a s dp = share v a s dp' := by
  unfold share; rw [mean_congr v a s h]

variable {dp} in
/-- The gradient of a score depends on the cotangents of the kept scores only. -/
theorem cot_congr {dp' : Fin 256 → ℝ} (h : ∀ j, v j = true → dp j = dp' j) (j : Fin 256) : cot v a s dp j = cot v a s dp' j := by
  cases e : v j with
  | true => unfold cot; rw [mean_congr v a s h, h j e]
  | false => rw [cot_off v a s _ e, cot_off v a s _ e]

/-- An exponential of the row, in the extended reals. -/
theorem exp_logit (j : Fin 256) : Ideal.exp (logit v a j - (peak v a s : EReal)) = (ex v a s j : EReal) := by
  unfold logit ex
  split
  · rw [← EReal.coe_sub]; rfl
  · rw [EReal.bot_sub]; rfl

theorem exp_sink : Ideal.exp ((s : EReal) - (peak v a s : EReal)) = (exSink v a s : EReal) := by
  rw [← EReal.coe_sub]; rfl

/-- A real over a positive real, in the extended reals. -/
theorem div_real (x y : ℝ) (h : 0 < y) : Ideal.div (x : EReal) (y : EReal) = ((x / y : ℝ) : EReal) := by
  rw [Ideal.div_coe h.ne', ← EReal.coe_mul, mul_one_div]

/-- The kernel's weight: the exponential times one over the sum. -/
theorem kernel_weight (j : Fin 256) :
    Ideal.exp (logit v a j - (peak v a s : EReal))
      * Ideal.div 1 ((∑ x, Ideal.exp (logit v a x - (peak v a s : EReal))) + Ideal.exp ((s : EReal) - (peak v a s : EReal)))
      = (weight v a s j : EReal) := by
  simp only [exp_logit, exp_sink]
  rw [← coe_sum, ← EReal.coe_add, show (∑ j, ex v a s j) + exSink v a s = total v a s from rfl, ← EReal.coe_one, div_real 1 _ (total_pos v a s), ← EReal.coe_mul,
    mul_one_div]
  rfl

/-- The kernel's sink weight. -/
theorem kernel_sinkWeight :
    Ideal.exp ((s : EReal) - (peak v a s : EReal))
      * Ideal.div 1 ((∑ x, Ideal.exp (logit v a x - (peak v a s : EReal))) + Ideal.exp ((s : EReal) - (peak v a s : EReal)))
      = (sinkWeight v a s : EReal) := by
  simp only [exp_logit, exp_sink]
  rw [← coe_sum, ← EReal.coe_add, show (∑ j, ex v a s j) + exSink v a s = total v a s from rfl, ← EReal.coe_one, div_real 1 _ (total_pos v a s), ← EReal.coe_mul,
    mul_one_div]
  rfl

/-- The kernel's cotangent of the logits. -/
theorem kernel_cot (j : Fin 256) :
    (weight v a s j : EReal) * ((dp j : EReal) - ∑ x, (weight v a s x : EReal) * (dp x : EReal)) * ((1 / 8 : ℝ) : EReal)
      = (cot v a s dp j : EReal) := by
  simp only [← EReal.coe_mul, ← coe_sum, ← EReal.coe_sub]
  rfl

/-- The kernel's share of the sink. -/
theorem kernel_share :
    (sinkWeight v a s : EReal) * (∑ x, (weight v a s x : EReal) * (dp x : EReal)) = (share v a s dp : EReal) := by
  simp only [← EReal.coe_mul, ← coe_sum]
  rfl

/-- The reference's row of 257 logits, the sink last. -/
def logit' (j : Fin 257) : EReal := if h : j.val < 256 then logit v a ⟨j.val, h⟩ else (s : EReal)

/-- The reference's cotangents of the 257 weights, none for the sink. -/
def dp' (j : Fin 257) : ℝ := if h : j.val < 256 then dp ⟨j.val, h⟩ else 0

/-- The reference's exponentials. -/
def ex' (j : Fin 257) : ℝ := if h : j.val < 256 then ex v a s ⟨j.val, h⟩ else exSink v a s

theorem logit'_castSucc (j : Fin 256) : logit' v a s j.castSucc = logit v a j := dif_pos j.isLt
theorem logit'_last : logit' v a s (Fin.last 256) = (s : EReal) := dif_neg (lt_irrefl 256)
theorem dp'_castSucc (j : Fin 256) : dp' dp j.castSucc = dp j := dif_pos j.isLt
theorem dp'_last : dp' dp (Fin.last 256) = 0 := dif_neg (lt_irrefl 256)
theorem ex'_castSucc (j : Fin 256) : ex' v a s j.castSucc = ex v a s j := dif_pos j.isLt
theorem ex'_last : ex' v a s (Fin.last 256) = exSink v a s := dif_neg (lt_irrefl 256)

/-- The reference's largest of 257 is the peak. -/
theorem ref_peak : max ⊥ (Finset.univ.fold max ⊥ (logit' v a s)) = (peak v a s : EReal) := by
  rw [← peak_eq, max_eq_right bot_le, Fin.univ_castSuccEmb, Finset.fold_cons, Finset.fold_map, logit'_last, max_comm]
  refine congrArg (fun f => max (Finset.fold max ⊥ f Finset.univ) (s : EReal)) (funext fun j => ?_)
  exact logit'_castSucc v a s j

/-- The reference's exponentials. -/
theorem ref_exp (j : Fin 257) : Ideal.exp (logit' v a s j - (peak v a s : EReal)) = (ex' v a s j : EReal) := by
  induction j using Fin.lastCases with
  | last => rw [logit'_last, ex'_last, exp_sink]
  | cast j => rw [logit'_castSucc, ex'_castSucc, exp_logit]

/-- The reference's sum of 257. -/
theorem ref_total : ∑ j, (ex' v a s j : EReal) = (total v a s : EReal) := by
  rw [← coe_sum, Fin.sum_univ_castSucc, ex'_last]
  simp only [ex'_castSucc]
  rfl

/-- The reference's weight. -/
theorem ref_weight (j : Fin 256) : Ideal.div (ex' v a s ⟨j.val, by omega⟩ : EReal) (total v a s : EReal) = (weight v a s j : EReal) := by
  rw [div_real _ _ (total_pos v a s)]
  exact congrArg (fun x : ℝ => ((x / total v a s : ℝ) : EReal)) (ex'_castSucc v a s j)

/-- The reference's sum over the row. -/
theorem ref_mean :
    (0 : EReal) + -(∑ x, (dp' dp x : EReal) * Ideal.div 1 ((total v a s : EReal) * (total v a s : EReal)) * (ex' v a s x : EReal))
      = ((-(mean v a s dp / total v a s) : ℝ) : EReal) := by
  have hZ := total_pos v a s
  rw [← EReal.coe_mul, ← EReal.coe_one, div_real 1 _ (mul_pos hZ hZ)]
  simp only [← EReal.coe_mul, ← coe_sum, ← EReal.coe_neg]
  rw [zero_add, Fin.sum_univ_castSucc, dp'_last]
  simp only [dp'_castSucc, ex'_castSucc]
  refine congrArg (fun x : ℝ => ((-x : ℝ) : EReal)) ?_
  unfold mean weight
  rw [zero_mul, zero_mul, add_zero, Finset.sum_div]
  refine Finset.sum_congr rfl fun j _ => ?_
  field_simp

/-- The reference's cotangent of the exponentials' logits, at an entry of the row. -/
theorem ref_cot (j : Fin 256) :
    (Ideal.div (dp' dp ⟨j.val, by omega⟩ : EReal) (total v a s : EReal) + ((-(mean v a s dp / total v a s) : ℝ) : EReal)) * (ex' v a s ⟨j.val, by omega⟩ : EReal)
        * ((1 / 8 : ℝ) : EReal)
      = (cot v a s dp j : EReal) := by
  have e1 : dp' dp ⟨j.val, by omega⟩ = dp j := dp'_castSucc dp j
  have e2 : ex' v a s ⟨j.val, by omega⟩ = ex v a s j := ex'_castSucc v a s j
  have hZ := total_pos v a s
  rw [e1, e2, div_real _ _ hZ, ← EReal.coe_add, ← EReal.coe_mul, ← EReal.coe_mul]
  refine congrArg (fun x : ℝ => (x : EReal)) ?_
  unfold cot weight
  field_simp
  ring

/-- The reference's cotangent at the sink. -/
theorem ref_share :
    (Ideal.div (dp' dp (Fin.last 256) : EReal) (total v a s : EReal) + ((-(mean v a s dp / total v a s) : ℝ) : EReal)) * (ex' v a s (Fin.last 256) : EReal)
      = ((-(share v a s dp) : ℝ) : EReal) := by
  have hZ := total_pos v a s
  rw [dp'_last, ex'_last, div_real _ _ hZ, ← EReal.coe_add, ← EReal.coe_mul]
  refine congrArg (fun x : ℝ => (x : EReal)) ?_
  unfold share sinkWeight
  field_simp
  ring

end Row

end Cert.Proof
end
-- ==== Proof.Model.lean ====
module

public import proofs.«01_k».proof.Proof.Row

@[expose] public section

/-!
The gradients of the sliding-window attention with sinks over the reals, as sums over rows and lanes.
-/

noncomputable section

namespace Cert.Proof

/-- The arguments: the packed query, key and value rows, the cotangent rows and the sinks. -/
structure Data where
  /-- queries in columns 0 to 511, keys in 512 to 639, values in 640 to 767 -/
  x : ℕ → ℕ → ℝ
  /-- cotangents -/
  d : ℕ → ℕ → ℝ
  /-- sinks -/
  s : ℕ → ℝ

/-- Row `r` of block `n` looks at entry `j` of the block's 256 key rows. -/
def seen (n r : ℕ) (j : Fin 256) : Bool := decide ((r < j.val ∧ j.val ≤ r + 128) ∧ (128 ≤ j.val ∨ 0 < n))

/-- The row of the array that entry `j` of block `n`'s key rows is. -/
def keyRow (n j : ℕ) : ℕ := if j < 128 then 128 * (n - 1) + j else 128 * n + (j - 128)

/-- A half of 128 lanes. -/
theorem sum_half (k : ℕ) (hk : k < 2) (g : ℕ → ℝ) : ∑ l : Fin 128, (if l.val / 64 = k then g l.val else 0) = ∑ t : Fin 64, g (64 * k + t.val) := by
  have e : ∑ l : Fin 128, (if l.val / 64 = k then g l.val else 0)
      = ∑ t : Fin 64, (if t.val / 64 = k then g t.val else 0) + ∑ t : Fin 64, (if (64 + t.val) / 64 = k then g (64 + t.val) else 0) :=
    Fin.sum_univ_add (a := 64) (b := 64) (fun l : Fin 128 => if l.val / 64 = k then g l.val else 0)
  rw [e]
  have h0 : ∀ t : Fin 64, t.val / 64 = 0 := fun t => by omega
  have h1 : ∀ t : Fin 64, (64 + t.val) / 64 = 1 := fun t => by omega
  have hk' : k = 0 ∨ k = 1 := by omega
  rcases hk' with rfl | rfl <;> simp [h0, h1]

/-- 512 stacked rows: four heads of 128 rows. -/
theorem sum_stack (f : ℕ → ℕ → ℝ) : ∑ i : Fin 512, f (i.val / 128) (i.val % 128) = ∑ g : Fin 4, ∑ r : Fin 128, f g.val r.val := by
  rw [← Fintype.sum_prod_type', ← Equiv.sum_comp (finProdFinEquiv : Fin 4 × Fin 128 ≃ Fin (4 * 128))]
  refine Finset.sum_congr rfl fun p _ => ?_
  obtain ⟨g, r⟩ := p
  have e1 : (r.val + 128 * g.val) / 128 = g.val := by omega
  have e2 : (r.val + 128 * g.val) % 128 = r.val := by omega
  show f ((r.val + 128 * g.val) / 128) ((r.val + 128 * g.val) % 128) = f g.val r.val
  rw [e1, e2]

namespace Data
variable (R : Data)

/-- The scaled logits of head `h`, row `r` of block `n`. -/
def A (n h r : ℕ) (j : Fin 256) : ℝ :=
  (∑ t : Fin 64, R.x (128 * n + r) (64 * h + t.val) * R.x (keyRow n j.val) (512 + 64 * (h / 4) + t.val)) * (1 / 8)

/-- The weights' cotangents. -/
def DP (n h r : ℕ) (j : Fin 256) : ℝ :=
  ∑ t : Fin 64, R.d (128 * n + r) (64 * h + t.val) * R.x (keyRow n j.val) (640 + 64 * (h / 4) + t.val)

/-- The weights. -/
def P (n h r : ℕ) (j : Fin 256) : ℝ := Row.weight (seen n r) (R.A n h r) (R.s h) j

/-- The cotangents of the unscaled logits. -/
def dA (n h r : ℕ) (j : Fin 256) : ℝ := Row.cot (seen n r) (R.A n h r) (R.s h) (R.DP n h r) j

/-- Minus the row's cotangent of its sink. -/
def share (n h r : ℕ) : ℝ := Row.share (seen n r) (R.A n h r) (R.s h) (R.DP n h r)

/-- The query gradient of row `i`, column `c`. -/
def dq (i c : ℕ) : ℝ :=
  ∑ j : Fin 256, R.dA (i / 128) (c / 64) (i % 128) j * R.x (keyRow (i / 128) j.val) (512 + 64 * (c / 256) + c % 64)

end Data

/-- Key-value head `kv`'s sum over the queries of block `n` that read entry `j` of its key rows, lane `c`. -/
def blockSum (w : ℕ → ℕ → ℕ → Fin 256 → ℝ) (y : ℕ → ℕ → ℝ) (n kv : ℕ) (j : Fin 256) (c : ℕ) : ℝ :=
  ∑ g : Fin 4, ∑ r : Fin 128, w n (4 * kv + g.val) r.val j * y (128 * n + r.val) (64 * (4 * kv + g.val) + c)

/-- A row's own place in its block's 256 key rows. -/
def own (i : ℕ) : Fin 256 := ⟨128 + i % 128, by omega⟩
/-- A row's place in the key rows of the block after. -/
def prev (i : ℕ) : Fin 256 := ⟨i % 128, by omega⟩

/-- The key or value gradient of row `i`: from the queries of its own block and of the block after, lane `l` of 128. -/
def rowSum2 (w : ℕ → ℕ → ℕ → Fin 256 → ℝ) (y : ℕ → ℕ → ℝ) (i l : ℕ) : ℝ :=
  blockSum w y (i / 128) (l / 64) (own i) (l % 64)
    + if i / 128 + 1 < 16 then blockSum w y (i / 128 + 1) (l / 64) (prev i) (l % 64) else 0

/-- What block `n` adds to row `i` of the accumulator. -/
def added (w : ℕ → ℕ → ℕ → Fin 256 → ℝ) (y : ℕ → ℕ → ℝ) (i l n : ℕ) : ℝ :=
  (if i / 128 = n - 1 then blockSum w y n (l / 64) (prev i) (l % 64) else 0)
    + (if i / 128 = n then blockSum w y n (l / 64) (own i) (l % 64) else 0)

/-- Nothing in front of the first block is seen. -/
theorem seen_first (r : ℕ) (i : ℕ) : seen 0 r (prev i) = false := by
  have : ¬ (128 ≤ i % 128 ∨ 0 < 0) := by omega
  simp [seen, prev]
  omega

/-- The 16 blocks together. -/
theorem sum_added (w : ℕ → ℕ → ℕ → Fin 256 → ℝ) (y : ℕ → ℕ → ℝ) (hw : ∀ h r j, seen 0 r j = false → w 0 h r j = 0) (i l : ℕ) (hi : i < 2048) :
    ∑ n ∈ Finset.range 16, added w y i l n = rowSum2 w y i l := by
  have e : ∀ n ∈ Finset.range 16, added w y i l n
      = (if i / 128 + 1 = n then blockSum w y n (l / 64) (prev i) (l % 64) else 0)
        + (if i / 128 = n then blockSum w y n (l / 64) (own i) (l % 64) else 0) := by
    intro n _
    unfold added
    congr 1
    rcases Nat.eq_zero_or_pos n with rfl | hn
    · rw [if_neg (by omega : ¬ i / 128 + 1 = 0)]
      split
      · unfold blockSum
        refine Finset.sum_eq_zero fun g _ => Finset.sum_eq_zero fun r _ => ?_
        rw [hw _ _ _ (seen_first _ _), zero_mul]
      · rfl
    · by_cases h : i / 128 + 1 = n
      · rw [if_pos h, if_pos (by omega)]
      · rw [if_neg h, if_neg (by omega)]
  rw [Finset.sum_congr rfl e, Finset.sum_add_distrib, Finset.sum_ite_eq, Finset.sum_ite_eq, add_comm]
  simp only [Finset.mem_range]
  rw [if_pos (by omega : i / 128 < 16)]
  rfl

namespace Data
variable (R : Data)

/-- The key gradients. -/
def dk (i l : ℕ) : ℝ := rowSum2 R.dA R.x i l
/-- The value gradients. -/
def dv (i l : ℕ) : ℝ := rowSum2 R.P R.d i l

/-- The packed gradients. -/
def dx (i c : ℕ) : ℝ := if c < 512 then R.dq i c else if c < 640 then R.dk i (c - 512) else R.dv i (c - 640)

/-- The sink gradients, in the first eight of 128 lanes. -/
def ds (l : ℕ) : ℝ := if l < 8 then ∑ n ∈ Finset.range 16, ∑ r : Fin 128, -(R.share n l r.val) else 0

theorem P_off {n h r : ℕ} {j : Fin 256} (e : seen n r j = false) : R.P n h r j = 0 := Row.weight_off _ _ _ e
theorem dA_off {n h r : ℕ} {j : Fin 256} (e : seen n r j = false) : R.dA n h r j = 0 := Row.cot_off _ _ _ _ e

end Data

end Cert.Proof
end
-- ==== Proof.Consts.lean ====
module

public import Idealize.ShloMosaic.PureOps.Ideal
public import Idealize.ShloMosaic.PureOps.Ideal.Laws

@[expose] public section

/-!
The float constants of the programs as extended reals.
-/

noncomputable section

namespace Cert.Proof

open Idealize.ShloMosaic

/-- One eighth. -/
theorem eighth_eq : Ideal.ofBits .f32 0x3E000000#32 = ((1 / 8 : ℝ) : EReal) := by
  simp [Ideal.ofBits, Ideal.ieee, -EReal.coe_mul]; norm_num

/-- Minus infinity. -/
theorem neg_inf_eq : Ideal.ofBits .f32 0xFF800000#32 = ⊥ := by
  simp [Ideal.ofBits, Ideal.ieee]

/-- Infinity. -/
theorem inf_eq : Ideal.ofBits .f32 0x7F800000#32 = ⊤ := by
  simp [Ideal.ofBits, Ideal.ieee]

/-- A selection by a bit that says `p`. -/
theorem select_if {α : Type} (c : BitVec 1) (p : Prop) [Decidable p] (h : c = 1#1 ↔ p) (a b : α) : Scalar.select c a b = if p then a else b := by
  unfold Scalar.select
  by_cases hp : p
  · rw [if_pos hp]; exact if_pos (h.2 hp)
  · rw [if_neg hp]; exact if_neg (fun e => hp (h.1 e))

end Cert.Proof
end
-- ==== Proof.KerVal.lean ====
module

public import proofs.«01_k».proof.Proof.Grad
public import proofs.«01_k».proof.Proof.Model
public import proofs.«01_k».proof.Proof.Consts
public import Idealize.ShloMosaic.Lib.Pointwise
public import Idealize.ShloMosaic.Lib.WordCmp

@[expose] public section

/-!
What one trip computes, as real numbers, when what it reads are real numbers.
-/

set_option maxRecDepth 16384

noncomputable section

namespace Cert.Proof.KernelIdeal

open Cert.KernelIdeal Cert.KernelIdeal.Gen
open Idealize.ShloMosaic

/-- The first half of the lanes kept. -/
theorem keep_lo (x : FVec Ideal S128x128 .f32) (i j : Fin 128) : keep 0#32 64#32 x (ix2 i j) = if j.val / 64 = 0 then x (ix2 i j) else (0 : EReal) := by
  pointwise [keep, lanes]
  refine select_if _ _ ?_ _ _
  word_cmp

/-- The second half of the lanes kept. -/
theorem keep_hi (x : FVec Ideal S128x128 .f32) (i j : Fin 128) : keep 64#32 128#32 x (ix2 i j) = if j.val / 64 = 1 then x (ix2 i j) else (0 : EReal) := by
  pointwise [keep, lanes]
  refine select_if _ _ ?_ _ _
  word_cmp

/-- The other half's lane. -/
def other (j : Fin 128) : Fin 128 := ⟨(j.val + 64) % 128, by omega⟩

theorem swap_apply (x : FVec Ideal S128x128 .f32) (i j : Fin 128) : swapHalves x (ix2 i j) = x (ix2 i (other j)) := by
  pointwise [swapHalves]
  exact congrArg (fun k => x (ix2 i k)) (Fin.ext (by show (j.val + 128 - 64) % 128 = (j.val + 64) % 128; omega))

/-- The row within its block of a stacked row. -/
def rowIn (i : Fin 512) : Fin 128 := ⟨i.val % 128, by omega⟩

/-- The distance of a query row and a key row, as a word. -/
theorem dist_toNat (i : Fin 512) (j : Fin 256) :
    (IntOp.subi (IntOp.addi (IntOp.andi (BitVec.ofNat 32 i.val) 127#32) 128#32) (BitVec.ofNat 32 j.val)).toNat < 128
      ↔ i.val % 128 < j.val ∧ j.val ≤ i.val % 128 + 128 := by
  have h1 : i.val &&& 127 = i.val % 128 := Nat.and_two_pow_sub_one_eq_mod i.val 7
  have e1 : (IntOp.andi (BitVec.ofNat 32 i.val) 127#32).toNat = i.val % 128 := by
    show (BitVec.ofNat 32 i.val &&& 127#32).toNat = _
    rw [BitVec.toNat_and, BitVec.toNat_ofNat, BitVec.toNat_ofNat, Nat.mod_eq_of_lt (by omega : i.val < 2 ^ 32)]
    exact h1
  have e2 : (IntOp.subi (IntOp.addi (IntOp.andi (BitVec.ofNat 32 i.val) 127#32) 128#32) (BitVec.ofNat 32 j.val)).toNat
      = (2 ^ 32 - j.val + (i.val % 128 + 128)) % 2 ^ 32 := by
    show (IntOp.andi (BitVec.ofNat 32 i.val) 127#32 + 128#32 - BitVec.ofNat 32 j.val).toNat = _
    rw [BitVec.toNat_sub, BitVec.toNat_add, e1, BitVec.toNat_ofNat, BitVec.toNat_ofNat]
    have := j.isLt
    omega
  rw [e2]
  have := j.isLt
  omega

/-- The mask of block `n`. -/
theorem band_iff (n : ℕ) (hn : n < 16) (i : Fin 512) (j : Fin 256) : band (BitVec.ofNat 32 n) (ix2 i j) = 1#1 ↔ seen n (rowIn i).val j = true := by
  pointwise [band]
  unfold seen rowIn
  word_cmp
  rw [dist_toNat]

/-- Four stacked tiles. -/
theorem stack4_apply (x : Fin 4 → FVec Ideal S128x128 .f32) (i : Fin 512) (j : Fin 128) :
    stack4 (x 0) (x 1) (x 2) (x 3) (ix2 i j) = x ⟨i.val / 128, by omega⟩ (ix2 (rowIn i) j) := by
  pointwise [stack4]
  have hi := i.isLt
  have key : ∀ (g : Fin 4) (r : Fin 128), i.val = 128 * g.val + r.val → x g (ix2 r j) = x ⟨i.val / 128, by omega⟩ (ix2 (rowIn i) j) := by
    intro g r e
    have e1 : (⟨i.val / 128, by omega⟩ : Fin 4) = g := Fin.ext (by show i.val / 128 = g.val; omega)
    have e2 : rowIn i = r := Fin.ext (by show i.val % 128 = r.val; omega)
    rw [e1, e2]
  by_cases h0 : i.val < 128
  · rw [dif_pos h0]
    exact key 0 _ (by show i.val = 128 * 0 + i.val; omega)
  · rw [dif_neg h0]
    by_cases h1 : i.val - 128 < 128
    · rw [dif_pos h1]
      exact key 1 _ (by show i.val = 128 * 1 + (i.val - 128); omega)
    · rw [dif_neg h1]
      by_cases h2 : i.val - 128 - 128 < 128
      · rw [dif_pos h2]
        exact key 2 _ (by show i.val = 128 * 2 + (i.val - 128 - 128); omega)
      · rw [dif_neg h2]
        exact key 3 _ (by show i.val = 128 * 3 + (i.val - 128 - 128 - 128); omega)

/-- The first key-value head's stack of two lane tiles that hold the real numbers `Y`. -/
theorem lo4_apply (Y : ℕ → ℕ → ℝ) (t0 t1 : FVec Ideal S128x128 .bf16) (h0 : ∀ i j : Fin 128, t0 (ix2 i j) = (Y i.val j.val : EReal))
    (h1 : ∀ i j : Fin 128, t1 (ix2 i j) = (Y i.val (128 + j.val) : EReal)) (i : Fin 512) (j : Fin 128) :
    Blocks.lo4 (F := Ideal) stack4 t0 t1 (ix2 i j) = ((if j.val / 64 = 0 then Y (i.val % 128) (64 * (i.val / 128) + j.val % 64) else 0 : ℝ) : EReal) := by
  refine (stack4_apply ![keep 0#32 64#32 (wide t0), keep 0#32 64#32 (swapHalves (wide t0)),
    keep 0#32 64#32 (wide t1), keep 0#32 64#32 (swapHalves (wide t1))] i j).trans ?_
  have key : ∀ g : Fin 4, (![keep 0#32 64#32 (wide t0), keep 0#32 64#32 (swapHalves (wide t0)),
      keep 0#32 64#32 (wide t1), keep 0#32 64#32 (swapHalves (wide t1))] : Fin 4 → FVec Ideal S128x128 .f32) g (ix2 (rowIn i) j)
      = ((if j.val / 64 = 0 then Y (i.val % 128) (64 * g.val + j.val % 64) else 0 : ℝ) : EReal) := by
    have fin : ∀ (x : EReal) (g : ℕ), (j.val / 64 = 0 → x = (Y (i.val % 128) (64 * g + j.val % 64) : EReal)) →
        (if j.val / 64 = 0 then x else (0 : EReal)) = ((if j.val / 64 = 0 then Y (i.val % 128) (64 * g + j.val % 64) else 0 : ℝ) : EReal) := by
      intro x g hx
      by_cases h : j.val / 64 = 0
      · rw [if_pos h, if_pos h, hx h]
      · rw [if_neg h, if_neg h]; rfl
    refine Fin.forall_fin_succ.2 ⟨?_, Fin.forall_fin_succ.2 ⟨?_, Fin.forall_fin_succ.2 ⟨?_, Fin.forall_fin_succ.2 ⟨?_, fun g => g.elim0⟩⟩⟩⟩
    · refine (keep_lo _ _ _).trans (fin _ 0 fun h => (h0 (rowIn i) j).trans (congrArg (fun c => (Y (i.val % 128) c : EReal)) ?_))
      omega
    · refine (keep_lo _ _ _).trans (fin _ 1 fun h => (swap_apply _ _ _).trans ((h0 (rowIn i) (other j)).trans (congrArg (fun c => (Y (i.val % 128) c : EReal)) ?_)))
      show (j.val + 64) % 128 = _
      omega
    · refine (keep_lo _ _ _).trans (fin _ 2 fun h => (h1 (rowIn i) j).trans (congrArg (fun c => (Y (i.val % 128) c : EReal)) ?_))
      omega
    · refine (keep_lo _ _ _).trans (fin _ 3 fun h => (swap_apply _ _ _).trans ((h1 (rowIn i) (other j)).trans (congrArg (fun c => (Y (i.val % 128) c : EReal)) ?_)))
      show 128 + (j.val + 64) % 128 = _
      omega
  exact key ⟨i.val / 128, by omega⟩

/-- The second key-value head's. -/
theorem hi4_apply (Y : ℕ → ℕ → ℝ) (t0 t1 : FVec Ideal S128x128 .bf16) (h0 : ∀ i j : Fin 128, t0 (ix2 i j) = (Y i.val j.val : EReal))
    (h1 : ∀ i j : Fin 128, t1 (ix2 i j) = (Y i.val (128 + j.val) : EReal)) (i : Fin 512) (j : Fin 128) :
    Blocks.hi4 (F := Ideal) stack4 t0 t1 (ix2 i j) = ((if j.val / 64 = 1 then Y (i.val % 128) (64 * (i.val / 128) + j.val % 64) else 0 : ℝ) : EReal) := by
  refine (stack4_apply ![keep 64#32 128#32 (swapHalves (wide t0)), keep 64#32 128#32 (wide t0),
    keep 64#32 128#32 (swapHalves (wide t1)), keep 64#32 128#32 (wide t1)] i j).trans ?_
  have key : ∀ g : Fin 4, (![keep 64#32 128#32 (swapHalves (wide t0)), keep 64#32 128#32 (wide t0),
      keep 64#32 128#32 (swapHalves (wide t1)), keep 64#32 128#32 (wide t1)] : Fin 4 → FVec Ideal S128x128 .f32) g (ix2 (rowIn i) j)
      = ((if j.val / 64 = 1 then Y (i.val % 128) (64 * g.val + j.val % 64) else 0 : ℝ) : EReal) := by
    have fin : ∀ (x : EReal) (g : ℕ), (j.val / 64 = 1 → x = (Y (i.val % 128) (64 * g + j.val % 64) : EReal)) →
        (if j.val / 64 = 1 then x else (0 : EReal)) = ((if j.val / 64 = 1 then Y (i.val % 128) (64 * g + j.val % 64) else 0 : ℝ) : EReal) := by
      intro x g hx
      by_cases h : j.val / 64 = 1
      · rw [if_pos h, if_pos h, hx h]
      · rw [if_neg h, if_neg h]; rfl
    refine Fin.forall_fin_succ.2 ⟨?_, Fin.forall_fin_succ.2 ⟨?_, Fin.forall_fin_succ.2 ⟨?_, Fin.forall_fin_succ.2 ⟨?_, fun g => g.elim0⟩⟩⟩⟩
    · refine (keep_hi _ _ _).trans (fin _ 0 fun h => (swap_apply _ _ _).trans ((h0 (rowIn i) (other j)).trans (congrArg (fun c => (Y (i.val % 128) c : EReal)) ?_)))
      show (j.val + 64) % 128 = _
      omega
    · refine (keep_hi _ _ _).trans (fin _ 1 fun h => (h0 (rowIn i) j).trans (congrArg (fun c => (Y (i.val % 128) c : EReal)) ?_))
      omega
    · refine (keep_hi _ _ _).trans (fin _ 2 fun h => (swap_apply _ _ _).trans ((h1 (rowIn i) (other j)).trans (congrArg (fun c => (Y (i.val % 128) c : EReal)) ?_)))
      show 128 + (j.val + 64) % 128 = _
      omega
    · refine (keep_hi _ _ _).trans (fin _ 3 fun h => (h1 (rowIn i) j).trans (congrArg (fun c => (Y (i.val % 128) c : EReal)) ?_))
      omega
  exact key ⟨i.val / 128, by omega⟩

/-- Two blocks of key or value rows that hold the real numbers `Y`, from column `o` on. -/
theorem stack2_apply (Y : ℕ → ℕ → ℝ) (n o : ℕ) (a b : FVec Ideal S128x128 .bf16) (ha : ∀ i j : Fin 128, a (ix2 i j) = (Y (128 * (n - 1) + i.val) (o + j.val) : EReal))
    (hb : ∀ i j : Fin 128, b (ix2 i j) = (Y (128 * n + i.val) (o + j.val) : EReal)) (i : Fin 256) (j : Fin 128) :
    stack2 (F := Ideal) a b (ix2 i j) = (Y (keyRow n i.val) (o + j.val) : EReal) := by
  pointwise [stack2]
  unfold keyRow
  by_cases h : i.val < 128
  · rw [dif_pos h, if_pos h, ha]
  · rw [dif_neg h, if_neg h, hb]

/-- What a trip reads are the real numbers `R`, at block `n`. -/
structure Holds (R : Data) (n : ℕ) (b : Blocks Ideal) : Prop where
  lt : n < 16
  num : b.n = BitVec.ofNat 32 n
  kp : ∀ i j : Fin 128, (b.kp : FVec Ideal S128x128 .bf16) (ix2 i j) = (R.x (128 * (n - 1) + i.val) (512 + j.val) : EReal)
  kc : ∀ i j : Fin 128, (b.kc : FVec Ideal S128x128 .bf16) (ix2 i j) = (R.x (128 * n + i.val) (512 + j.val) : EReal)
  vp : ∀ i j : Fin 128, (b.vp : FVec Ideal S128x128 .bf16) (ix2 i j) = (R.x (128 * (n - 1) + i.val) (640 + j.val) : EReal)
  vc : ∀ i j : Fin 128, (b.vc : FVec Ideal S128x128 .bf16) (ix2 i j) = (R.x (128 * n + i.val) (640 + j.val) : EReal)
  q : ∀ (t : Fin 4) (i j : Fin 128), (b.q t : FVec Ideal S128x128 .bf16) (ix2 i j) = (R.x (128 * n + i.val) (128 * t.val + j.val) : EReal)
  d : ∀ (t : Fin 4) (i j : Fin 128), (b.d t : FVec Ideal S128x128 .bf16) (ix2 i j) = (R.d (128 * n + i.val) (128 * t.val + j.val) : EReal)
  s : ∀ t : Fin 8, (b.s t : EReal) = (R.s t.val : EReal)

/-- A stacked row's lanes: zero outside the head's half. -/
def half (Y : ℕ → ℕ → ℝ) (n h : ℕ) (i l : ℕ) : ℝ :=
  if l / 64 = h then Y (128 * n + i % 128) (64 * (4 * h + i / 128) + l % 64) else 0

section
variable {R : Data} {n : ℕ} {b : Blocks Ideal} (H : Holds R n b)
include H

theorem Q_apply (h : Fin 2) (i : Fin 512) (j : Fin 128) : b.Q h (ix2 i j) = (half R.x n h.val i.val j.val : EReal) := by
  revert h
  refine Fin.forall_fin_two.2 ⟨?_, ?_⟩
  · refine (lo4_apply (fun r c => R.x (128 * n + r) c) _ _ (fun r l => (H.q 0 r l).trans (congrArg (fun k => (R.x (128 * n + r.val) k : EReal)) (by show 128 * 0 + l.val = l.val; omega)))
      (H.q 1) i j).trans (congrArg (fun x : ℝ => (x : EReal)) ?_)
    simp [half]
  · refine (hi4_apply (fun r c => R.x (128 * n + r) (256 + c)) _ _ (fun r l => (H.q 2 r l).trans ?_) (fun r l => (H.q 3 r l).trans ?_) i j).trans
      (congrArg (fun x : ℝ => (x : EReal)) ?_)
    · rfl
    · refine congrArg (fun c => (R.x (128 * n + r.val) c : EReal)) ?_
      show 128 * 3 + l.val = 256 + (128 + l.val); omega
    · unfold half
      refine if_congr Iff.rfl (congrArg (R.x _) ?_) rfl
      show 256 + (64 * (i.val / 128) + j.val % 64) = 64 * (4 * 1 + i.val / 128) + j.val % 64
      omega

theorem D_apply (h : Fin 2) (i : Fin 512) (j : Fin 128) : b.D h (ix2 i j) = (half R.d n h.val i.val j.val : EReal) := by
  revert h
  refine Fin.forall_fin_two.2 ⟨?_, ?_⟩
  · refine (lo4_apply (fun r c => R.d (128 * n + r) c) _ _ (fun r l => (H.d 0 r l).trans (congrArg (fun k => (R.d (128 * n + r.val) k : EReal)) (by show 128 * 0 + l.val = l.val; omega)))
      (H.d 1) i j).trans (congrArg (fun x : ℝ => (x : EReal)) ?_)
    simp [half]
  · refine (hi4_apply (fun r c => R.d (128 * n + r) (256 + c)) _ _ (fun r l => (H.d 2 r l).trans ?_) (fun r l => (H.d 3 r l).trans ?_) i j).trans
      (congrArg (fun x : ℝ => (x : EReal)) ?_)
    · rfl
    · refine congrArg (fun c => (R.d (128 * n + r.val) c : EReal)) ?_
      show 128 * 3 + l.val = 256 + (128 + l.val); omega
    · unfold half
      refine if_congr Iff.rfl (congrArg (R.d _) ?_) rfl
      show 256 + (64 * (i.val / 128) + j.val % 64) = 64 * (4 * 1 + i.val / 128) + j.val % 64
      omega

theorem K_apply (i : Fin 256) (j : Fin 128) : stack2 (F := Ideal) b.kp b.kc (ix2 i j) = (R.x (keyRow n i.val) (512 + j.val) : EReal) :=
  stack2_apply R.x n 512 _ _ H.kp H.kc i j

theorem V_apply (i : Fin 256) (j : Fin 128) : stack2 (F := Ideal) b.vp b.vc (ix2 i j) = (R.x (keyRow n i.val) (640 + j.val) : EReal) :=
  stack2_apply R.x n 640 _ _ H.vp H.vc i j
end

/-- A stacked row against a key or value row: the head's half of the lanes counts. -/
theorem half_dot (Y Z : ℕ → ℕ → ℝ) (n o k : ℕ) (h : Fin 2) (i : Fin 512) :
    ∑ l : Fin 128, (half Y n h.val i.val l.val : EReal) * (Z k (o + l.val) : EReal)
      = ((∑ t : Fin 64, Y (128 * n + i.val % 128) (64 * (4 * h.val + i.val / 128) + t.val) * Z k (o + 64 * h.val + t.val) : ℝ) : EReal) := by
  simp only [← EReal.coe_mul, ← coe_sum]
  refine congrArg (fun x : ℝ => (x : EReal)) ?_
  refine Eq.trans (Finset.sum_congr rfl fun l _ => ?_)
    ((sum_half h.val h.isLt (fun l => Y (128 * n + i.val % 128) (64 * (4 * h.val + i.val / 128) + l % 64) * Z k (o + l))).trans (Finset.sum_congr rfl fun t _ => ?_))
  · unfold half
    rw [ite_mul, zero_mul]
  · have e : (64 * h.val + t.val) % 64 = t.val := by omega
    rw [e, Nat.add_assoc]

section
variable {R : Data} {n : ℕ} {b : Blocks Ideal} (H : Holds R n b)
include H

/-- The raw products of queries and keys. -/
theorem raw_apply (h : Fin 2) (i : Fin 512) (j : Fin 256) :
    rowsByRows (b.Q h) (stack2 b.kp b.kc) (ix2 i j)
      = ((∑ t : Fin 64, R.x (128 * n + i.val % 128) (64 * (4 * h.val + i.val / 128) + t.val) * R.x (keyRow n j.val) (512 + 64 * h.val + t.val) : ℝ) : EReal) := by
  have e : ∀ (q : FVec Ideal S512x128 .bf16) (k : FVec Ideal S256x128 .bf16), rowsByRows q k (ix2 i j) = ∑ x : Fin 128, q (ix2 i x) * k (ix2 j x) := by
    intro q k
    pointwise [rowsByRows]
  rw [e]
  simp only [Q_apply H, K_apply H]
  exact half_dot R.x R.x n 512 (keyRow n j.val) h i

theorem DP_apply (h : Fin 2) (i : Fin 512) (j : Fin 256) :
    b.DP h (ix2 i j) = (R.DP n (4 * h.val + i.val / 128) (i.val % 128) j : EReal) := by
  have e : ∀ (q : FVec Ideal S512x128 .bf16) (k : FVec Ideal S256x128 .bf16), rowsByRows q k (ix2 i j) = ∑ x : Fin 128, q (ix2 i x) * k (ix2 j x) := by
    intro q k
    pointwise [rowsByRows]
  unfold Blocks.DP
  rw [e]
  simp only [D_apply H, V_apply H]
  rw [half_dot R.d R.x n 640 (keyRow n j.val) h i]
  have hh : (4 * h.val + i.val / 128) / 4 = h.val := by omega
  unfold Data.DP
  rw [hh]

/-- The logits. -/
theorem S_apply (h : Fin 2) (i : Fin 512) (j : Fin 256) :
    b.S h (ix2 i j) = Row.logit (seen n (i.val % 128)) (R.A n (4 * h.val + i.val / 128) (i.val % 128)) j := by
  have e : ∀ (q : FVec Ideal S512x128 .bf16) (k : FVec Ideal S256x128 .bf16), logits b.n q k (ix2 i j)
      = Scalar.select (band b.n (ix2 i j)) (rowsByRows q k (ix2 i j) * Ideal.ofBits .f32 0x3E000000#32) (⊥ : EReal) := by
    intro q k
    rfl
  unfold Blocks.S
  rw [e, raw_apply H, H.num, eighth_eq, select_if _ _ (band_iff n H.lt i j), ← EReal.coe_mul]
  have hh : (4 * h.val + i.val / 128) / 4 = h.val := by omega
  unfold Row.logit Data.A
  rw [hh]
  rfl

/-- The sink column. -/
theorem σ_apply (h : Fin 2) (i : Fin 512) : b.σ h (ix2 i 0) = (R.s (4 * h.val + i.val / 128) : EReal) := by
  have e : ∀ s : Fin 4 → EReal, sinkCol (F := Ideal) (s 0) (s 1) (s 2) (s 3) (ix2 i 0) = s ⟨i.val / 128, by omega⟩ := by
    intro s
    pointwise [sinkCol, rows]
    have hi := i.isLt
    have key : ∀ g : Fin 4, i.val / 128 = g.val → s g = s ⟨i.val / 128, by omega⟩ := fun g e => congrArg s (Fin.ext e.symm)
    rw [select_if _ (384 ≤ i.val) (by word_cmp), select_if _ (256 ≤ i.val ∧ i.val < 384) (by word_cmp),
      select_if _ (128 ≤ i.val ∧ i.val < 256) (by word_cmp), select_if _ (i.val < 128) (by word_cmp)]
    by_cases h3 : 384 ≤ i.val
    · rw [if_pos h3]; exact key 3 (by show i.val / 128 = 3; omega)
    rw [if_neg h3]
    by_cases h2 : 256 ≤ i.val ∧ i.val < 384
    · rw [if_pos h2]; exact key 2 (by show i.val / 128 = 2; omega)
    rw [if_neg h2]
    by_cases h1 : 128 ≤ i.val ∧ i.val < 256
    · rw [if_pos h1]; exact key 1 (by show i.val / 128 = 1; omega)
    rw [if_neg h1, if_pos (by omega)]
    exact key 0 (by show i.val / 128 = 0; omega)
  revert h
  refine Fin.forall_fin_two.2 ⟨?_, ?_⟩
  · refine (e (fun g => b.s ⟨g.val, by omega⟩)).trans ((H.s _).trans ?_)
    exact congrArg (fun k => (R.s k : EReal)) (by show i.val / 128 = 4 * 0 + i.val / 128; omega)
  · refine (e (fun g => b.s ⟨4 + g.val, by omega⟩)).trans ((H.s _).trans ?_)
    exact congrArg (fun k => (R.s k : EReal)) (by show 4 + i.val / 128 = 4 * 1 + i.val / 128; omega)

end

end Cert.Proof.KernelIdeal
end
-- ==== Proof.KerOut.lean ====
module

public import proofs.«01_k».proof.Proof.KerVal

@[expose] public section

/-!
The gradients of one trip as real numbers.
-/

set_option maxRecDepth 16384

noncomputable section

namespace Cert.Proof.KernelIdeal

open Cert.KernelIdeal Cert.KernelIdeal.Gen
open Idealize.ShloMosaic

section
variable {R : Data} {n : ℕ} {b : Blocks Ideal} (H : Holds R n b)
include H

/-- The peak of a row. -/
theorem peak_apply (h : Fin 2) (i : Fin 512) :
    peak (b.S h) (b.σ h) (ix2 i 0) = (Row.peak (seen n (i.val % 128)) (R.A n (4 * h.val + i.val / 128) (i.val % 128)) (R.s (4 * h.val + i.val / 128)) : EReal) := by
  have e : ∀ (s : FVec Ideal S512x256 .f32) (σ : FVec Ideal S512x1 .f32), peak s σ (ix2 i 0)
      = max (Finset.univ.fold max (Ideal.ofBits .f32 0xFF800000#32) (fun x : Fin 256 => s (ix2 i x))) (σ (ix2 i 0)) := by
    intro s σ
    pointwise [peak, rowMax]
  rw [e, σ_apply H, neg_inf_eq]
  simp only [S_apply H]
  exact Row.peak_eq _ _ _

/-- The weights. -/
theorem P_apply (h : Fin 2) (i : Fin 512) (j : Fin 256) :
    b.P h (ix2 i j) = (R.P n (4 * h.val + i.val / 128) (i.val % 128) j : EReal) := by
  have e : ∀ (s : FVec Ideal S512x256 .f32) (σ : FVec Ideal S512x1 .f32), weights s σ (ix2 i j)
      = Ideal.exp (s (ix2 i j) - peak s σ (ix2 i 0)) * Ideal.div 1 ((∑ x, Ideal.exp (s (ix2 i x) - peak s σ (ix2 i 0))) + Ideal.exp (σ (ix2 i 0) - peak s σ (ix2 i 0))) := by
    intro s σ
    pointwise [weights, expRow, spread, invSum, rowSum, expSink]
  unfold Blocks.P
  rw [e, σ_apply H, peak_apply H]
  simp only [S_apply H]
  exact Row.kernel_weight _ _ _ j

/-- A row's share of the sink gradient. -/
theorem DS_apply (h : Fin 2) (i : Fin 512) :
    b.DS h (ix2 i 0) = (R.share n (4 * h.val + i.val / 128) (i.val % 128) : EReal) := by
  have e : ∀ (s : FVec Ideal S512x256 .f32) (σ : FVec Ideal S512x1 .f32), sinkWeight s σ (ix2 i 0)
      = Ideal.exp (σ (ix2 i 0) - peak s σ (ix2 i 0)) * Ideal.div 1 ((∑ x, Ideal.exp (s (ix2 i x) - peak s σ (ix2 i 0))) + Ideal.exp (σ (ix2 i 0) - peak s σ (ix2 i 0))) := by
    intro s σ
    pointwise [sinkWeight, expRow, spread, invSum, rowSum, expSink]
  have e' : ∀ (p dp : FVec Ideal S512x256 .f32) (w : FVec Ideal S512x1 .f32), mulf w (meanCot p dp) (ix2 i 0)
      = w (ix2 i 0) * ∑ x, p (ix2 i x) * dp (ix2 i x) := by
    intro p dp w
    pointwise [meanCot, rowSum]
  unfold Blocks.DS
  rw [e', e, σ_apply H, peak_apply H]
  simp only [S_apply H, P_apply H, DP_apply H]
  rw [Row.kernel_sinkWeight]
  exact Row.kernel_share _ _ _ _

/-- The cotangents of the unscaled logits. -/
theorem cot_apply (h : Fin 2) (i : Fin 512) (j : Fin 256) :
    cotLogits (b.P h) (b.DP h) (ix2 i j) = (R.dA n (4 * h.val + i.val / 128) (i.val % 128) j : EReal) := by
  have e : ∀ (p dp : FVec Ideal S512x256 .f32), cotLogits p dp (ix2 i j)
      = p (ix2 i j) * (dp (ix2 i j) - ∑ x, p (ix2 i x) * dp (ix2 i x)) * Ideal.ofBits .f32 0x3E000000#32 := by
    intro p dp
    pointwise [cotLogits, spread, meanCot, rowSum, eighths]
  rw [e, eighth_eq]
  simp only [P_apply H, DP_apply H]
  exact Row.kernel_cot _ _ _ _ j

/-- The query gradients of a stacked row. -/
theorem DQ_apply (h : Fin 2) (i : Fin 512) (l : Fin 128) :
    b.DQ h (ix2 i l) = ((∑ j : Fin 256, R.dA n (4 * h.val + i.val / 128) (i.val % 128) j * R.x (keyRow n j.val) (512 + l.val) : ℝ) : EReal) := by
  have e : ∀ (w : FVec Ideal S512x256 .bf16) (k : FVec Ideal S256x128 .bf16), weighRows w k (ix2 i l) = ∑ x : Fin 256, w (ix2 i x) * k (ix2 x l) := by
    intro w k
    pointwise [weighRows]
  unfold Blocks.DQ
  rw [e]
  simp only [cot_apply H, K_apply H]
  simp only [← EReal.coe_mul, ← coe_sum]

omit H in
/-- The stacked rows' sum into one entry: the lanes of the other head get nothing. -/
theorem stack_sum (w : ℕ → ℕ → ℕ → Fin 256 → ℝ) (Y : ℕ → ℕ → ℝ) (n : ℕ) (h : Fin 2) (j : Fin 256) (l : Fin 128) :
    ∑ i : Fin 512, (w n (4 * h.val + i.val / 128) (i.val % 128) j : EReal) * (half Y n h.val i.val l.val : EReal)
      = ((if l.val / 64 = h.val then blockSum w Y n h.val j (l.val % 64) else 0 : ℝ) : EReal) := by
  simp only [← EReal.coe_mul, ← coe_sum]
  refine congrArg (fun x : ℝ => (x : EReal)) ?_
  unfold half
  by_cases hl : l.val / 64 = h.val
  · simp only [if_pos hl]
    exact sum_stack (fun g r => w n (4 * h.val + g) r j * Y (128 * n + r) (64 * (4 * h.val + g) + l.val % 64))
  · simp only [if_neg hl, mul_zero, Finset.sum_const_zero]

/-- The key gradients of a trip. -/
theorem DK_apply (h : Fin 2) (j : Fin 256) (l : Fin 128) :
    b.DK h (ix2 j l) = ((if l.val / 64 = h.val then blockSum R.dA R.x n h.val j (l.val % 64) else 0 : ℝ) : EReal) := by
  have e : ∀ (w : FVec Ideal S512x256 .bf16) (k : FVec Ideal S512x128 .bf16), weighCols w k (ix2 j l) = ∑ x : Fin 512, w (ix2 x j) * k (ix2 x l) := by
    intro w k
    pointwise [weighCols]
  unfold Blocks.DK
  rw [e]
  simp only [cot_apply H, Q_apply H]
  exact stack_sum R.dA R.x n h j l

/-- The value gradients of a trip. -/
theorem DV_apply (h : Fin 2) (j : Fin 256) (l : Fin 128) :
    b.DV h (ix2 j l) = ((if l.val / 64 = h.val then blockSum R.P R.d n h.val j (l.val % 64) else 0 : ℝ) : EReal) := by
  have e : ∀ (w : FVec Ideal S512x256 .f32) (k : FVec Ideal S512x128 .bf16), weighCols (truncf .bf16 w bitsLt_bf16_f32) k (ix2 j l) = ∑ x : Fin 512, w (ix2 x j) * k (ix2 x l) := by
    intro w k
    pointwise [weighCols]
  unfold Blocks.DV
  rw [e]
  simp only [P_apply H, D_apply H]
  exact stack_sum R.P R.d n h j l

/-- A quarter of the stacked rows. -/
theorem quarter_apply (x : FVec Ideal S512x128 .f32) (g : Fin 4) (r l : Fin 128) :
    Blocks.quarter x g (ix2 r l) = x (ix2 ⟨128 * g.val + r.val, by omega⟩ l) := by
  revert g
  refine Fin.forall_fin_succ.2 ⟨?_, Fin.forall_fin_succ.2 ⟨?_, Fin.forall_fin_succ.2 ⟨?_, Fin.forall_fin_succ.2 ⟨?_, fun g => g.elim0⟩⟩⟩⟩
  · show extractStridedSlice S128x128 ![0, 0] x slices_S512x128_o0_0_S128x128 (ix2 r l) = x (ix2 ⟨128 * 0 + r.val, by omega⟩ l)
    pointwise
  · show extractStridedSlice S128x128 ![128, 0] x slices_S512x128_o128_0_S128x128 (ix2 r l) = x (ix2 ⟨128 * 1 + r.val, by omega⟩ l)
    pointwise
  · show extractStridedSlice S128x128 ![256, 0] x slices_S512x128_o256_0_S128x128 (ix2 r l) = x (ix2 ⟨128 * 2 + r.val, by omega⟩ l)
    pointwise
  · show extractStridedSlice S128x128 ![384, 0] x slices_S512x128_o384_0_S128x128 (ix2 r l) = x (ix2 ⟨128 * 3 + r.val, by omega⟩ l)
    pointwise

/-- The query gradients of a head, row and lane. -/
theorem quarter_DQ (h : Fin 2) (g : Fin 4) (r l : Fin 128) (c : ℕ) (hc : c / 64 = 4 * h.val + g.val) (hl : l.val = 64 * h.val + c % 64) :
    Blocks.quarter (b.DQ h) g (ix2 r l)
      = ((∑ j : Fin 256, R.dA n (c / 64) r.val j * R.x (keyRow n j.val) (512 + 64 * (c / 256) + c % 64) : ℝ) : EReal) := by
  rw [quarter_apply H, DQ_apply H]
  have e1 : 4 * h.val + (128 * g.val + r.val) / 128 = c / 64 := by omega
  have e2 : (128 * g.val + r.val) % 128 = r.val := by omega
  have e3 : 512 + l.val = 512 + 64 * (c / 256) + c % 64 := by omega
  refine congrArg (fun x : ℝ => (x : EReal)) (Finset.sum_congr rfl fun j _ => ?_)
  show R.dA n (4 * h.val + (128 * g.val + r.val) / 128) ((128 * g.val + r.val) % 128) j * R.x (keyRow n j.val) (512 + l.val) = _
  rw [e1, e2, e3]

omit H in
theorem loTile_apply (x0 x1 : FVec Ideal S128x128 .f32) (r l : Fin 128) :
    Blocks.loTile x0 x1 (ix2 r l) = if l.val / 64 = 0 then (x0 (ix2 r l) : EReal) else x1 (ix2 r (other l)) := by
  have e : Blocks.loTile x0 x1 (ix2 r l) = (keep 0#32 64#32 x0 (ix2 r l) : EReal) + swapHalves (keep 0#32 64#32 x1) (ix2 r l) := rfl
  rw [e, swap_apply, keep_lo, keep_lo]
  by_cases h : l.val / 64 = 0
  · rw [if_pos h, if_pos h, if_neg (by show ¬ ((l.val + 64) % 128) / 64 = 0; omega), add_zero]
  · rw [if_neg h, if_neg h, if_pos (by show ((l.val + 64) % 128) / 64 = 0; omega), zero_add]

omit H in
theorem hiTile_apply (x0 x1 : FVec Ideal S128x128 .f32) (r l : Fin 128) :
    Blocks.hiTile x0 x1 (ix2 r l) = if l.val / 64 = 0 then (x0 (ix2 r (other l)) : EReal) else x1 (ix2 r l) := by
  have e : Blocks.hiTile x0 x1 (ix2 r l) = swapHalves (keep 64#32 128#32 x0) (ix2 r l) + (keep 64#32 128#32 x1 (ix2 r l) : EReal) := rfl
  rw [e, swap_apply, keep_hi, keep_hi]
  by_cases h : l.val / 64 = 0
  · rw [if_pos h, if_pos (by show ((l.val + 64) % 128) / 64 = 1; omega), if_neg (by omega), add_zero]
  · rw [if_neg h, if_neg (by show ¬ ((l.val + 64) % 128) / 64 = 1; omega), if_pos (by omega), zero_add]

/-- A trip's query gradients, tile by tile. -/
theorem dq_apply (t : Fin 4) (r l : Fin 128) :
    b.dq t (ix2 r l) = (R.dq (128 * n + r.val) (128 * t.val + l.val) : EReal) := by
  have hr : (128 * n + r.val) / 128 = n := by omega
  have hr' : (128 * n + r.val) % 128 = r.val := by omega
  unfold Data.dq
  rw [hr, hr']
  have lo : ∀ (t : Fin 2), Blocks.loTile (Blocks.quarter (b.DQ 0) ⟨2 * t.val, by omega⟩) (Blocks.quarter (b.DQ 0) ⟨2 * t.val + 1, by omega⟩) (ix2 r l)
      = ((∑ j : Fin 256, R.dA n ((128 * t.val + l.val) / 64) r.val j * R.x (keyRow n j.val) (512 + 64 * ((128 * t.val + l.val) / 256) + (128 * t.val + l.val) % 64) : ℝ) : EReal) := by
    intro t
    rw [loTile_apply]
    by_cases h : l.val / 64 = 0
    · rw [if_pos h]
      exact quarter_DQ H 0 _ r l (128 * t.val + l.val) (by show (128 * t.val + l.val) / 64 = 4 * 0 + 2 * t.val; omega) (by show l.val = 64 * 0 + (128 * t.val + l.val) % 64; omega)
    · rw [if_neg h]
      exact quarter_DQ H 0 _ r (other l) (128 * t.val + l.val) (by show (128 * t.val + l.val) / 64 = 4 * 0 + (2 * t.val + 1); omega)
        (by show (l.val + 64) % 128 = 64 * 0 + (128 * t.val + l.val) % 64; omega)
  have hi : ∀ (t : Fin 2), Blocks.hiTile (Blocks.quarter (b.DQ 1) ⟨2 * t.val, by omega⟩) (Blocks.quarter (b.DQ 1) ⟨2 * t.val + 1, by omega⟩) (ix2 r l)
      = ((∑ j : Fin 256, R.dA n ((128 * (2 + t.val) + l.val) / 64) r.val j * R.x (keyRow n j.val) (512 + 64 * ((128 * (2 + t.val) + l.val) / 256) + (128 * (2 + t.val) + l.val) % 64) : ℝ) : EReal) := by
    intro t
    rw [hiTile_apply]
    by_cases h : l.val / 64 = 0
    · rw [if_pos h]
      exact quarter_DQ H 1 _ r (other l) (128 * (2 + t.val) + l.val) (by show (128 * (2 + t.val) + l.val) / 64 = 4 * 1 + 2 * t.val; omega)
        (by show (l.val + 64) % 128 = 64 * 1 + (128 * (2 + t.val) + l.val) % 64; omega)
    · rw [if_neg h]
      exact quarter_DQ H 1 _ r l (128 * (2 + t.val) + l.val) (by show (128 * (2 + t.val) + l.val) / 64 = 4 * 1 + (2 * t.val + 1); omega)
        (by show l.val = 64 * 1 + (128 * (2 + t.val) + l.val) % 64; omega)
  revert t
  exact Fin.forall_fin_succ.2 ⟨lo 0, Fin.forall_fin_succ.2 ⟨lo 1, Fin.forall_fin_succ.2 ⟨hi 0, Fin.forall_fin_succ.2 ⟨hi 1, fun g => g.elim0⟩⟩⟩⟩

end

end Cert.Proof.KernelIdeal
end
-- ==== Proof.KerArr.lean ====
module

public import proofs.«01_k».proof.Proof.KerOut

@[expose] public section

/-!
The arrays the kernel leaves, as real numbers, when its arguments are real numbers.
-/

set_option maxRecDepth 16384

noncomputable section

namespace Cert.Proof.KernelIdeal

open Cert.KernelIdeal Cert.KernelIdeal.Gen
open Idealize.ShloMosaic

/-- A tile of the packed rows. -/
theorem win1_apply (X : FVec Ideal S2048x768 .bf16) (Y : ℕ → ℕ → ℝ) (hX : ∀ (i : Fin 2048) (j : Fin 768), X (ix2 i j) = (Y i.val j.val : EReal))
    (off : Fin 2 → ℕ) (h : ∀ a, off a + S128x128.size a ≤ S2048x768.size a) (o0 o1 : ℕ) (e : off = ![o0, o1]) (i j : Fin 128) :
    win1 (F := Ideal) X off h (ix2 i j) = (Y (o0 + i.val) (o1 + j.val) : EReal) := by
  subst e
  have h0 : o0 + 128 ≤ 2048 := h 0
  have h1 : o1 + 128 ≤ 768 := h 1
  refine Eq.trans (congrArg X ?_) (hX ⟨o0 + i.val, by omega⟩ ⟨o1 + j.val, by omega⟩)
  funext a
  apply Fin.ext
  revert a
  refine Fin.forall_fin_two.2 ⟨?_, ?_⟩
  · show o0 + 1 * i.val = o0 + i.val; omega
  · show o1 + 1 * j.val = o1 + j.val; omega

/-- A tile of the cotangent. -/
theorem win2_apply (X : FVec Ideal S2048x512 .bf16) (Y : ℕ → ℕ → ℝ) (hX : ∀ (i : Fin 2048) (j : Fin 512), X (ix2 i j) = (Y i.val j.val : EReal))
    (off : Fin 2 → ℕ) (h : ∀ a, off a + S128x128.size a ≤ S2048x512.size a) (o0 o1 : ℕ) (e : off = ![o0, o1]) (i j : Fin 128) :
    win2 (F := Ideal) X off h (ix2 i j) = (Y (o0 + i.val) (o1 + j.val) : EReal) := by
  subst e
  have h0 : o0 + 128 ≤ 2048 := h 0
  have h1 : o1 + 128 ≤ 512 := h 1
  refine Eq.trans (congrArg X ?_) (hX ⟨o0 + i.val, by omega⟩ ⟨o1 + j.val, by omega⟩)
  funext a
  apply Fin.ext
  revert a
  refine Fin.forall_fin_two.2 ⟨?_, ?_⟩
  · show o0 + 1 * i.val = o0 + i.val; omega
  · show o1 + 1 * j.val = o1 + j.val; omega

/-- One sink. -/
theorem lane3_apply (X : FVec Ideal S1x8 .f32) (Y : ℕ → ℝ) (hX : ∀ j : Fin 8, X (ix2 0 j) = (Y j.val : EReal))
    (l : ℕ) (h : ∀ a, (![0, l] : Fin 2 → ℕ) a + S1x1.size a ≤ S1x8.size a) : (lane3 (F := Ideal) X l h : EReal) = (Y l : EReal) := by
  have h1 : l + 1 ≤ 8 := h 1
  refine Eq.trans (congrArg X ?_) (hX ⟨l, by omega⟩)
  funext a
  apply Fin.ext
  revert a
  refine Fin.forall_fin_two.2 ⟨?_, ?_⟩
  · rfl
  · show l + 1 * 0 = l; omega

/-- The three arguments are the real numbers `R`. -/
structure Args (R : Data) (X1 : FVec Ideal S2048x768 .bf16) (X2 : FVec Ideal S2048x512 .bf16) (X3 : FVec Ideal S1x8 .f32) : Prop where
  x : ∀ (i : Fin 2048) (j : Fin 768), X1 (ix2 i j) = (R.x i.val j.val : EReal)
  d : ∀ (i : Fin 2048) (j : Fin 512), X2 (ix2 i j) = (R.d i.val j.val : EReal)
  s : ∀ j : Fin 8, X3 (ix2 0 j) = (R.s j.val : EReal)

section
variable {R : Data} {X1 : FVec Ideal S2048x768 .bf16} {X2 : FVec Ideal S2048x512 .bf16} {X3 : FVec Ideal S1x8 .f32} (A : Args R X1 X2 X3)
include A

/-- What a trip reads. -/
theorem holds (k : Fin k0_t1_loop.trips) : Holds R k.val (blocksAt (F := Ideal) X1 X2 X3 k) where
  lt := lt_of_lt_of_eq k.isLt trips_eq
  num := (by decide +kernel : ∀ k : Fin k0_t1_loop.trips, Scf.iv 0#32 1#32 k.val = BitVec.ofNat 32 k.val) k
  kp := win1_apply X1 R.x A.x _ _ _ _ (k0_off1_eq k)
  kc := win1_apply X1 R.x A.x _ _ _ _ (k0_off2_eq k)
  vp := win1_apply X1 R.x A.x _ _ _ _ (k0_off3_eq k)
  vc := win1_apply X1 R.x A.x _ _ _ _ (k0_off4_eq k)
  q := Fin.forall_fin_succ.2 ⟨win1_apply X1 R.x A.x _ _ _ _ (k0_off5_eq k), Fin.forall_fin_succ.2 ⟨win1_apply X1 R.x A.x _ _ _ _ (k0_off6_eq k),
    Fin.forall_fin_succ.2 ⟨win1_apply X1 R.x A.x _ _ _ _ (k0_off11_eq k), Fin.forall_fin_succ.2 ⟨win1_apply X1 R.x A.x _ _ _ _ (k0_off12_eq k), fun g => g.elim0⟩⟩⟩⟩
  d := Fin.forall_fin_succ.2 ⟨win2_apply X2 R.d A.d _ _ _ _ (k0_off7_eq k), Fin.forall_fin_succ.2 ⟨win2_apply X2 R.d A.d _ _ _ _ (k0_off8_eq k),
    Fin.forall_fin_succ.2 ⟨win2_apply X2 R.d A.d _ _ _ _ (k0_off13_eq k), Fin.forall_fin_succ.2 ⟨win2_apply X2 R.d A.d _ _ _ _ (k0_off14_eq k), fun g => g.elim0⟩⟩⟩⟩
  s := fun t => by
    have key : ∀ t : Fin 8, (blocksAt (F := Ideal) X1 X2 X3 k).s t = (R.s t.val : EReal) := by
      intro t
      match t with
      | ⟨0, _⟩ => exact lane3_apply X3 R.s A.s 0 _
      | ⟨1, _⟩ => exact lane3_apply X3 R.s A.s 1 _
      | ⟨2, _⟩ => exact lane3_apply X3 R.s A.s 2 _
      | ⟨3, _⟩ => exact lane3_apply X3 R.s A.s 3 _
      | ⟨4, _⟩ => exact lane3_apply X3 R.s A.s 4 _
      | ⟨5, _⟩ => exact lane3_apply X3 R.s A.s 5 _
      | ⟨6, _⟩ => exact lane3_apply X3 R.s A.s 6 _
      | ⟨7, _⟩ => exact lane3_apply X3 R.s A.s 7 _
    exact key t
end

/-- A tile added to the accumulator, at an entry. -/
theorem accAt_apply (o : ℕ) (ho : Fits o) (T : FVec Ideal S128x128 .f32) (X : FVec Ideal S2048x128 .f32) (i : Fin 2048) (l : Fin 128) (k : ℕ) (hk : o = 128 * k) :
    accAt o ho T X (ix2 i l) = (X (ix2 i l) + if i.val / 128 = k then (T (ix2 ⟨i.val % 128, by omega⟩ l) : EReal) else 0 : EReal) := by
  subst hk
  unfold accAt withTile
  by_cases h : i.val / 128 = k
  · rw [if_pos h]
    refine (put_at (s := S2048x128) X ![128 * k, 0] S128x128.size _ (ix2 i l) (ix2 ⟨i.val % 128, by omega⟩ l : S128x128.Idx) (Fin.forall_fin_two.2 ⟨?_, ?_⟩)).trans ?_
    · show i.val = 128 * k + i.val % 128; omega
    · show l.val = 0 + l.val; omega
    · refine congrArg (fun y : S2048x128.Idx => (X y + (T (ix2 ⟨i.val % 128, by omega⟩ l : S128x128.Idx) : EReal) : EReal)) (funext fun a => Fin.ext ?_)
      revert a
      refine Fin.forall_fin_two.2 ⟨?_, ?_⟩
      · show 128 * k + 1 * (i.val % 128) = i.val; omega
      · show 0 + 1 * l.val = l.val; omega
  · rw [if_neg h, add_zero]
    refine put_off (s := S2048x128) X ![128 * k, 0] S128x128.size _ (ix2 i l) (0 : Fin 2) ?_
    show i.val < 128 * k ∨ 128 * k + 128 ≤ i.val
    omega

theorem top_apply (x : FVec Ideal S256x128 .f32) (r l : Fin 128) : Blocks.top x (ix2 r l) = x (ix2 ⟨r.val, by omega⟩ l) := by
  unfold Blocks.top
  pointwise

theorem bot_apply (x : FVec Ideal S256x128 .f32) (r l : Fin 128) : Blocks.bot x (ix2 r l) = x (ix2 ⟨128 + r.val, by omega⟩ l) := by
  unfold Blocks.bot
  pointwise

/-- One trip's four tiles added to the accumulator. -/
theorem stepAcc_apply (w : ℕ → ℕ → ℕ → Fin 256 → ℝ) (Y : ℕ → ℕ → ℝ) (k : Fin k0_t1_loop.trips) (T : Fin 2 → FVec Ideal S256x128 .f32)
    (hT : ∀ (h : Fin 2) (j : Fin 256) (l : Fin 128), T h (ix2 j l) = ((if l.val / 64 = h.val then blockSum w Y k.val h.val j (l.val % 64) else 0 : ℝ) : EReal))
    (X : FVec Ideal S2048x128 .f32) (i : Fin 2048) (l : Fin 128) (x : ℝ) (hx : X (ix2 i l) = (x : EReal)) :
    stepAcc k T X (ix2 i l) = ((x + added w Y i.val l.val k.val : ℝ) : EReal) := by
  unfold stepAcc acc4
  rw [accAt_apply _ _ _ _ i l k.val rfl, accAt_apply _ _ _ _ i l (k.val - 1) rfl, accAt_apply _ _ _ _ i l k.val rfl, accAt_apply _ _ _ _ i l (k.val - 1) rfl,
    hx, top_apply, top_apply, bot_apply, bot_apply, hT, hT, hT, hT]
  have coe_if : ∀ (p : Prop) [Decidable p] (y : ℝ), (if p then (y : EReal) else 0) = ((if p then y else 0 : ℝ) : EReal) := by
    intro p _ y
    split <;> rfl
  simp only [coe_if, ← EReal.coe_add]
  refine congrArg (fun x : ℝ => (x : EReal)) ?_
  unfold added
  have hl : l.val / 64 = 0 ∨ l.val / 64 = 1 := by omega
  rcases hl with hl | hl
  · simp only [hl]
    simp [own, prev, add_assoc]
  · simp only [hl]
    simp [own, prev, add_assoc]

section
variable {R : Data} {X1 : FVec Ideal S2048x768 .bf16} {X2 : FVec Ideal S2048x512 .bf16} {X3 : FVec Ideal S1x8 .f32} (A : Args R X1 X2 X3)
include A

/-- The key accumulator before trip `n`. -/
theorem dkAt_apply (n : ℕ) (hn : n ≤ 16) (i : Fin 2048) (l : Fin 128) :
    dkAt (F := Ideal) X1 X2 X3 n (ix2 i l) = ((∑ k ∈ Finset.range n, added R.dA R.x i.val l.val k : ℝ) : EReal) := by
  induction n with
  | zero =>
    show k0_pay2 (F := Ideal) (ix2 i l) = _
    pointwise [k0_pay2]
    simp
  | succ n ih =>
    have hlt : n < k0_t1_loop.trips := by rw [trips_eq]; omega
    rw [dkAt, dif_pos hlt, Finset.sum_range_succ]
    exact stepAcc_apply R.dA R.x ⟨n, hlt⟩ _ (DK_apply (holds A ⟨n, hlt⟩)) _ i l _ (ih (by omega))

/-- The value accumulator before trip `n`. -/
theorem dvAt_apply (n : ℕ) (hn : n ≤ 16) (i : Fin 2048) (l : Fin 128) :
    dvAt (F := Ideal) X1 X2 X3 n (ix2 i l) = ((∑ k ∈ Finset.range n, added R.P R.d i.val l.val k : ℝ) : EReal) := by
  induction n with
  | zero =>
    show k0_pay3 (F := Ideal) (ix2 i l) = _
    pointwise [k0_pay3]
    simp
  | succ n ih =>
    have hlt : n < k0_t1_loop.trips := by rw [trips_eq]; omega
    rw [dvAt, dif_pos hlt, Finset.sum_range_succ]
    exact stepAcc_apply R.P R.d ⟨n, hlt⟩ _ (DV_apply (holds A ⟨n, hlt⟩)) _ i l _ (ih (by omega))

/-- The packed gradients. -/
theorem grad_apply (i : Fin 2048) (c : Fin 768) : grad (F := Ideal) X1 X2 X3 (ix2 i c) = (R.dx i.val c.val : EReal) := by
  unfold grad Data.dx
  by_cases h : c.val < 512
  · rw [if_pos h]
    refine (dif_pos (show ((ix2 i c : S2048x768.Idx) 1).val < 512 from h)).trans ?_
    have e : inTile (ix2 i c) = ix2 (⟨i.val % 128, by omega⟩ : Fin 128) (⟨c.val % 128, by omega⟩ : Fin 128) :=
      funext (Fin.forall_fin_two.2 ⟨rfl, rfl⟩)
    rw [e]
    refine (dq_apply (holds A (blockOf (ix2 i c))) ⟨c.val / 128, by omega⟩ ⟨i.val % 128, by omega⟩ ⟨c.val % 128, by omega⟩).trans ?_
    refine congrArg (fun x : ℝ => (x : EReal)) (congrArg₂ R.dq ?_ ?_)
    · show 128 * (i.val / 128) + i.val % 128 = i.val; omega
    · show 128 * (c.val / 128) + c.val % 128 = c.val; omega
  · rw [if_neg h]
    refine (dif_neg (show ¬ ((ix2 i c : S2048x768.Idx) 1).val < 512 from h)).trans ?_
    by_cases h' : c.val < 640
    · rw [if_pos h']
      refine (dif_pos (show ((ix2 i c : S2048x768.Idx) 1).val < 640 from h')).trans ?_
      have e : inAcc 512 (ix2 i c) (by show c.val - 512 < 128; omega) = ix2 i (⟨c.val - 512, by omega⟩ : Fin 128) := funext (Fin.forall_fin_two.2 ⟨rfl, rfl⟩)
      rw [e]
      refine (dkAt_apply A 16 le_rfl i ⟨c.val - 512, by omega⟩).trans (congrArg (fun x : ℝ => (x : EReal)) ?_)
      exact sum_added R.dA R.x (fun h r j e => R.dA_off e) i.val (c.val - 512) i.isLt
    · rw [if_neg h']
      refine (dif_neg (show ¬ ((ix2 i c : S2048x768.Idx) 1).val < 640 from h')).trans ?_
      have e : inAcc 640 (ix2 i c) (by show c.val - 640 < 128; omega) = ix2 i (⟨c.val - 640, by omega⟩ : Fin 128) := funext (Fin.forall_fin_two.2 ⟨rfl, rfl⟩)
      rw [e]
      refine (dvAt_apply A 16 le_rfl i ⟨c.val - 640, by omega⟩).trans (congrArg (fun x : ℝ => (x : EReal)) ?_)
      exact sum_added R.P R.d (fun h r j e => R.P_off e) i.val (c.val - 640) i.isLt
end

/-- A sum taken away in lane `k`. -/
def bump (f : ℕ → ℝ) (k : ℕ) (y : ℕ → ℝ) (l : ℕ) : ℝ := y l + if l = k then -(∑ r : Fin 128, f r.val) else 0

/-- One head's part of the sink accumulator. -/
theorem addSink_apply (f : ℕ → ℝ) (ds : FVec Ideal S128x1 .f32) (hds : ∀ r : Fin 128, ds (ix2 r 0) = (f r.val : EReal)) (k : ℕ) (hk : k < 8) (x : FVec Ideal S1x128 .f32)
    (y : ℕ → ℝ) (hx : ∀ l : Fin 128, x (ix2 0 l) = (y l.val : EReal)) (l : Fin 128) :
    addSink ds (BitVec.ofNat 32 k) x (ix2 0 l) = (bump f k y l.val : EReal) := by
  unfold bump
  have e : addSink ds (BitVec.ofNat 32 k) x (ix2 0 l)
      = (x (ix2 0 l) : EReal) + Scalar.select (IntOp.cmpi .eq (BitVec.ofNat 32 l.val) (BitVec.ofNat 32 k)) ((0 : EReal) - ∑ x : Fin 128, ds (ix2 x 0)) 0 := by
    pointwise [addSink]
  rw [e, select_if _ (l.val = k) (by word_cmp), hx]
  simp only [hds]
  rw [← coe_sum, zero_sub, ← EReal.coe_neg]
  split
  · rw [← EReal.coe_add]
  · rw [add_zero, add_zero]

/-- What the first `n` blocks add to a lane of the sink accumulator. -/
def sinkSum (R : Data) (n l : ℕ) : ℝ := if l < 8 then ∑ k ∈ Finset.range n, ∑ r : Fin 128, -(R.share k l r.val) else 0

section
variable {R : Data} {n : ℕ} {b : Blocks Ideal} (H : Holds R n b)
include H

/-- One trip's eight heads in the sink accumulator. -/
theorem sinks_apply (x : FVec Ideal S1x128 .f32) (y : ℕ → ℝ) (hx : ∀ l : Fin 128, x (ix2 0 l) = (y l.val : EReal)) (l : Fin 128) :
    b.sinks x (ix2 0 l) = ((y l.val + if l.val < 8 then ∑ r : Fin 128, -(R.share n l.val r.val) else 0 : ℝ) : EReal) := by
  have part : ∀ (h : Fin 2) (g : Fin 4) (ds : FVec Ideal S128x1 .f32), (∀ r : Fin 128, ds (ix2 r 0) = b.DS h (ix2 ⟨128 * g.val + r.val, by omega⟩ 0)) →
      ∀ r : Fin 128, ds (ix2 r 0) = ((fun r => R.share n (4 * h.val + g.val) r) r.val : EReal) := by
    intro h g ds e r
    rw [e, DS_apply H]
    have e1 : 4 * h.val + (128 * g.val + r.val) / 128 = 4 * h.val + g.val := by omega
    have e2 : (128 * g.val + r.val) % 128 = r.val := by omega
    show (R.share n (4 * h.val + (128 * g.val + r.val) / 128) ((128 * g.val + r.val) % 128) : EReal) = _
    rw [e1, e2]
  have s0 : ∀ (z : FVec Ideal S512x1 .f32) (r : Fin 128), extractStridedSlice S128x1 ![0, 0] z slices_S512x1_o0_0_S128x1 (ix2 r 0) = z (ix2 ⟨128 * 0 + r.val, by omega⟩ 0) := by
    intro z r; pointwise
  have s1 : ∀ (z : FVec Ideal S512x1 .f32) (r : Fin 128), extractStridedSlice S128x1 ![128, 0] z slices_S512x1_o128_0_S128x1 (ix2 r 0) = z (ix2 ⟨128 * 1 + r.val, by omega⟩ 0) := by
    intro z r; pointwise
  have s2 : ∀ (z : FVec Ideal S512x1 .f32) (r : Fin 128), extractStridedSlice S128x1 ![256, 0] z slices_S512x1_o256_0_S128x1 (ix2 r 0) = z (ix2 ⟨128 * 2 + r.val, by omega⟩ 0) := by
    intro z r; pointwise
  have s3 : ∀ (z : FVec Ideal S512x1 .f32) (r : Fin 128), extractStridedSlice S128x1 ![384, 0] z slices_S512x1_o384_0_S128x1 (ix2 r 0) = z (ix2 ⟨128 * 3 + r.val, by omega⟩ 0) := by
    intro z r; pointwise
  let f := fun (h : Fin 2) (g : Fin 4) (r : ℕ) => R.share n (4 * h.val + g.val) r
  let y1 := fun (h : Fin 2) (y : ℕ → ℝ) => bump (f h 0) (4 * h.val) y
  let y2 := fun (h : Fin 2) (y : ℕ → ℝ) => bump (f h 1) (4 * h.val + 1) (y1 h y)
  let y3 := fun (h : Fin 2) (y : ℕ → ℝ) => bump (f h 2) (4 * h.val + 2) (y2 h y)
  let y4 := fun (h : Fin 2) (y : ℕ → ℝ) => bump (f h 3) (4 * h.val + 3) (y3 h y)
  have step := fun (h : Fin 2) (x : FVec Ideal S1x128 .f32) (y : ℕ → ℝ) (hx : ∀ l : Fin 128, x (ix2 0 l) = (y l.val : EReal)) =>
    addSink_apply (f h 3) _ (part h 3 _ (s3 (b.DS h))) (4 * h.val + 3) (by omega) _ (y3 h y)
      (addSink_apply (f h 2) _ (part h 2 _ (s2 (b.DS h))) (4 * h.val + 2) (by omega) _ (y2 h y)
        (addSink_apply (f h 1) _ (part h 1 _ (s1 (b.DS h))) (4 * h.val + 1) (by omega) _ (y1 h y)
          (addSink_apply (f h 0) _ (part h 0 _ (s0 (b.DS h))) (4 * h.val) (by omega) x y hx)))
  have all := step 1 _ (y4 0 y) (step 0 x y hx) l
  refine Eq.trans ?_ (all.trans (congrArg (fun x : ℝ => (x : EReal)) ?_))
  · rfl
  · have e : ∀ k : ℕ, -(∑ r : Fin 128, R.share n k r.val) = ∑ r : Fin 128, -(R.share n k r.val) := fun k => (Finset.sum_neg_distrib _).symm
    simp only [y3, y2, y1, y4, f, bump, e]
    by_cases h : l.val < 8
    · rw [if_pos h]
      have hl : l.val = 0 ∨ l.val = 1 ∨ l.val = 2 ∨ l.val = 3 ∨ l.val = 4 ∨ l.val = 5 ∨ l.val = 6 ∨ l.val = 7 := by omega
      rcases hl with hl | hl | hl | hl | hl | hl | hl | hl <;> simp [hl]
    · rw [if_neg h]
      have ne : ∀ k < 8, ¬ l.val = k := fun k hk e => h (e ▸ hk)
      simp [ne]
end

section
variable {R : Data} {X1 : FVec Ideal S2048x768 .bf16} {X2 : FVec Ideal S2048x512 .bf16} {X3 : FVec Ideal S1x8 .f32} (A : Args R X1 X2 X3)
include A

/-- The sink accumulator before trip `n`. -/
theorem sinkAt_apply (n : ℕ) (hn : n ≤ 16) (l : Fin 128) : sinkAt (F := Ideal) X1 X2 X3 n (ix2 0 l) = (sinkSum R n l.val : EReal) := by
  induction n generalizing l with
  | zero =>
    show k0_pay1 (F := Ideal) (ix2 0 l) = _
    pointwise [k0_pay1]
    simp [sinkSum]
  | succ n ih =>
    have hlt : n < k0_t1_loop.trips := by rw [trips_eq]; omega
    rw [sinkAt, dif_pos hlt]
    refine (sinks_apply (holds A ⟨n, hlt⟩) _ (sinkSum R n) (fun l => ih (by omega) l) l).trans (congrArg (fun x : ℝ => (x : EReal)) ?_)
    unfold sinkSum
    split
    · rw [Finset.sum_range_succ]
    · rw [add_zero]

/-- The sink gradients. -/
theorem sink_apply (l : Fin 128) : sinkAt (F := Ideal) X1 X2 X3 16 (ix2 0 l) = (R.ds l.val : EReal) := sinkAt_apply A 16 le_rfl l
end

end Cert.Proof.KernelIdeal
end
-- ==== Proof.KerFin.lean ====
module

public import proofs.«01_k».proof.Proof.Run
public import proofs.«01_k».proof.Proof.KerArr
public import Idealize.ShloMosaic.Lib.Pipeline.ValueKit

@[expose] public section

/-!
What the kernel's two result arrays hold after a run whose arguments are real numbers.
-/

set_option maxRecDepth 16384

noncomputable section

namespace Cert.Proof.KernelIdeal

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- The arguments of a device are the real numbers `R`. -/
structure Reals (R : Data) (c : Dev nD) : Prop where
  x : ∀ (i : Fin 2048) (j : Fin 3840), j.val < 768 → (m ((c.tc : Thread nD τ).loc main_arg0) : FVec Ideal S2048x3840 .bf16) (ix2 i j) = (R.x i.val j.val : EReal)
  d : ∀ (i : Fin 2048) (j : Fin 512), (m ((c.tc : Thread nD τ).loc main_arg1) : FVec Ideal S2048x512 .bf16) (ix2 i j) = (R.d i.val j.val : EReal)
  s : ∀ j : Fin 8, (m ((c.tc : Thread nD τ).loc main_arg2) : FVec Ideal S1x8 .f32) (ix2 0 j) = (R.s j.val : EReal)

variable {m} {R : Data} {c : Dev nD}

/-- Every window's one block starts at the array's first entry. -/
theorem idx_zero : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) := by decide +kernel

/-- So are the blocks the body reads. -/
theorem blocks_args (H : Reals m R c) (t : Fin cfg0.N) : Args R (X1 m c t) (X2 m c t) (X3 m c t) where
  x i j := by
    rw [← H.x i ⟨j.val, by omega⟩ j.isLt]
    unfold X1
    blk_ext [iblk, V, idx_zero t]
  d i j := by
    rw [← H.d i j]
    unfold X2
    blk_ext [iblk, V, idx_zero t]
  s j := by
    rw [← H.s j]
    unfold X3
    blk_ext [iblk, V, idx_zero t]

/-- The packed gradients' array after the run. -/
theorem grad_arr (H : Reals m R c) : (dats (F := Ideal) m 0 c).arrAt 3 cfg0.N = fun i : S2048x768.Idx => (R.dx (i 0).val (i 1).val : EReal) := by
  refine (dats m 0 c).arrAt_eq_of_after_last 3 t0_0 (by decide +kernel) _ fun j => ?_
  blk_simp
  rw [after0_3]
  obtain ⟨i, k, rfl⟩ : ∃ (i : Fin 2048) (k : Fin 768), j = ix2 i k := ⟨j 0, j 1, by funext a; match a with | ⟨0, _⟩ => rfl | ⟨1, _⟩ => rfl⟩
  exact grad_apply (blocks_args H t0_0) i k

/-- The sink gradients' array after the run. -/
theorem sink_arr (H : Reals m R c) : (dats (F := Ideal) m 0 c).arrAt 4 cfg0.N = fun i : S1x128.Idx => (R.ds (i 1).val : EReal) := by
  refine (dats m 0 c).arrAt_eq_of_after_last 4 t0_0 (by decide +kernel) _ fun j => ?_
  blk_simp
  rw [after0_4]
  obtain ⟨k, rfl⟩ : ∃ k : Fin 128, j = ix2 0 k :=
    ⟨j 1, by funext a; match a with | ⟨0, _⟩ => exact Subsingleton.elim (α := Fin 1) _ _ | ⟨1, _⟩ => rfl⟩
  exact sink_apply (blocks_args H t0_0) k

/-- A run from real arguments: the results and the arguments after it. -/
theorem value_run (ρ : Dev nD → PrngReg) (R : Dev nD → Data) (H : ∀ c, Reals m (R c) c) :
    θ_run (defs (F := Ideal)) (onTc (τ := τ) (main (F := Ideal))) ⟨m, fun _ => 0, ρ⟩ (fun r => ∀ c : Dev nD,
      r.2.mem ((c.tc : Thread nD τ).loc main_v0_0) = (fun i : S2048x768.Idx => ((R c).dx (i 0).val (i 1).val : EReal))
      ∧ r.2.mem ((c.tc : Thread nD τ).loc main_v0_1) = (fun i : S1x128.Idx => ((R c).ds (i 1).val : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨((h.1 c).1 3).trans (grad_arr (H c)), ((h.1 c).1 4).trans (sink_arr (H c)),
    ((h.1 c).1 0).trans ((dats m 0 c).arrAt_in 0 rfl _), ((h.1 c).1 1).trans ((dats m 0 c).arrAt_in 1 rfl _),
    ((h.1 c).1 2).trans ((dats m 0 c).arrAt_in 2 rfl _)⟩) (run_main m ρ)

end Cert.Proof.KernelIdeal
end
-- ==== Proof.SixAxes.lean ====
module

public import Idealize.ShloMosaic.Lib.Pointwise

@[expose] public section

/-!
Reductions of arrays with six axes, at an index: over the last axis, over a first and a last axis of one entry
each, and over all axes but the third and fourth.
-/

namespace Cert.Proof

open Idealize.ShloMosaic

section
variable {a b c d e : ℕ}

/-- Which entries a reduction over the last axis puts together. -/
theorem last_fiber (h : (⟨6, ![1, a, b, c, d, e]⟩ : Shape).ReducesTo [5] ⟨5, ![1, a, b, c, d]⟩) (n : Fin a) (p : Fin b) (q : Fin c) (r : Fin d)
    (i : (⟨6, ![1, a, b, c, d, e]⟩ : Shape).Idx) : h.drop i = ix5 0 n p q r ↔ ∃ k : Fin e, ix6 0 n p q r k = i := by
  constructor
  · intro h'
    refine ⟨i 5, funext fun x => Fin.ext ?_⟩
    match x with
    | ⟨0, _⟩ => exact (congrArg Fin.val (congrFun h' (0 : Fin 5))).symm
    | ⟨1, _⟩ => exact (congrArg Fin.val (congrFun h' (1 : Fin 5))).symm
    | ⟨2, _⟩ => exact (congrArg Fin.val (congrFun h' (2 : Fin 5))).symm
    | ⟨3, _⟩ => exact (congrArg Fin.val (congrFun h' (3 : Fin 5))).symm
    | ⟨4, _⟩ => exact (congrArg Fin.val (congrFun h' (4 : Fin 5))).symm
    | ⟨5, _⟩ => rfl
  · rintro ⟨k, rfl⟩
    refine funext fun x => Fin.ext ?_
    match x with
    | ⟨0, _⟩ => rfl
    | ⟨1, _⟩ => rfl
    | ⟨2, _⟩ => rfl
    | ⟨3, _⟩ => rfl
    | ⟨4, _⟩ => rfl

/-- The sum over the last axis. -/
theorem sum_last (h : (⟨6, ![1, a, b, c, d, e]⟩ : Shape).ReducesTo [5] ⟨5, ![1, a, b, c, d]⟩) (v : (⟨6, ![1, a, b, c, d, e]⟩ : Shape).Idx → EReal) (z : EReal)
    (n : Fin a) (p : Fin b) (q : Fin c) (r : Fin d) : Ideal.hostReduceAdd h v z (ix5 0 n p q r) = z + ∑ k : Fin e, v (ix6 0 n p q r k) :=
  congrArg (z + ·) (Finset.sum_filter_eq_sum_of_fiber _ (fun k : Fin e => ix6 0 n p q r k) (fun _ _ h' => congrFun h' (5 : Fin 6)) (last_fiber h n p q r) v)

/-- A fold over the last axis. -/
theorem fold_last {α : Type} (op : α → α → α) [Std.Commutative op] [Std.Associative op]
    (h : (⟨6, ![1, a, b, c, d, e]⟩ : Shape).ReducesTo [5] ⟨5, ![1, a, b, c, d]⟩) (v : (⟨6, ![1, a, b, c, d, e]⟩ : Shape).Idx → α) (z : α)
    (n : Fin a) (p : Fin b) (q : Fin c) (r : Fin d) :
    (Finset.univ.filter (fun i => h.drop i = ix5 0 n p q r)).fold op z v = (Finset.univ : Finset (Fin e)).fold op z (fun k => v (ix6 0 n p q r k)) :=
  Finset.fold_filter_eq_fold_of_fiber op _ (fun k : Fin e => ix6 0 n p q r k) (fun _ _ h' => congrFun h' (5 : Fin 6)) (last_fiber h n p q r) z v

/-- The sum over a first and a last axis of one entry each. -/
theorem sum_units (h : (⟨6, ![1, a, b, c, d, 1]⟩ : Shape).ReducesTo [0, 5] ⟨4, ![a, b, c, d]⟩) (v : (⟨6, ![1, a, b, c, d, 1]⟩ : Shape).Idx → EReal) (z : EReal)
    (n : Fin a) (p : Fin b) (q : Fin c) (r : Fin d) : Ideal.hostReduceAdd h v z (ix4 n p q r) = z + v (ix6 0 n p q r 0) := by
  refine congrArg (z + ·) ((Finset.sum_filter_eq_sum_of_fiber _ (fun k : Fin 1 => ix6 0 n p q r k) (fun _ _ h' => congrFun h' (5 : Fin 6)) ?_ v).trans ?_)
  · intro i
    constructor
    · intro h'
      refine ⟨i 5, funext fun x => Fin.ext ?_⟩
      match x with
      | ⟨0, _⟩ =>
        have h0 : (i 0).val < 1 := (i 0).isLt
        show 0 = (i 0).val
        omega
      | ⟨1, _⟩ => exact (congrArg Fin.val (congrFun h' (0 : Fin 4))).symm
      | ⟨2, _⟩ => exact (congrArg Fin.val (congrFun h' (1 : Fin 4))).symm
      | ⟨3, _⟩ => exact (congrArg Fin.val (congrFun h' (2 : Fin 4))).symm
      | ⟨4, _⟩ => exact (congrArg Fin.val (congrFun h' (3 : Fin 4))).symm
      | ⟨5, _⟩ => rfl
    · rintro ⟨k, rfl⟩
      refine funext fun x => Fin.ext ?_
      match x with
      | ⟨0, _⟩ => rfl
      | ⟨1, _⟩ => rfl
      | ⟨2, _⟩ => rfl
      | ⟨3, _⟩ => rfl
  · exact Fin.sum_univ_one _

/-- The sum over all axes but the third and fourth. -/
theorem sum_mid (h : (⟨6, ![1, a, b, c, d, 1]⟩ : Shape).ReducesTo [0, 1, 4, 5] ⟨2, ![b, c]⟩) (v : (⟨6, ![1, a, b, c, d, 1]⟩ : Shape).Idx → EReal) (z : EReal)
    (p : Fin b) (q : Fin c) : Ideal.hostReduceAdd h v z (ix2 p q) = z + ∑ n : Fin a, ∑ r : Fin d, v (ix6 0 n p q r 0) := by
  refine congrArg (z + ·) ((Finset.sum_filter_eq_sum_of_fiber _ (fun k : Fin a × Fin d => ix6 0 k.1 p q k.2 0)
    (fun _ _ h' => Prod.ext (congrFun h' (1 : Fin 6)) (congrFun h' (4 : Fin 6))) ?_ v).trans ?_)
  · intro i
    constructor
    · intro h'
      refine ⟨(i 1, i 4), funext fun x => Fin.ext ?_⟩
      match x with
      | ⟨0, _⟩ =>
        have h0 : (i 0).val < 1 := (i 0).isLt
        show 0 = (i 0).val
        omega
      | ⟨1, _⟩ => rfl
      | ⟨2, _⟩ => exact (congrArg Fin.val (congrFun h' (0 : Fin 2))).symm
      | ⟨3, _⟩ => exact (congrArg Fin.val (congrFun h' (1 : Fin 2))).symm
      | ⟨4, _⟩ => rfl
      | ⟨5, _⟩ =>
        have h0 : (i 5).val < 1 := (i 5).isLt
        show 0 = (i 5).val
        omega
    · rintro ⟨k, rfl⟩
      refine funext fun x => Fin.ext ?_
      match x with
      | ⟨0, _⟩ => rfl
      | ⟨1, _⟩ => rfl
  · exact Fintype.sum_prod_type _
end

end Cert.Proof
-- ==== Proof.RefVal.lean ====
module

public import proofs.«01_k».proof.Proof.Gen.ReferenceIdeal.Run
public import proofs.«01_k».proof.Proof.Model
public import proofs.«01_k».proof.Proof.Consts
public import proofs.«01_k».proof.Proof.SixAxes
public import Idealize.ShloMosaic.Lib.Pointwise
public import Idealize.ShloMosaic.Lib.WordCmp
public import Idealize.ShloMosaic.Lib.Tactic.CleanTypes

@[expose] public section

/-!
The reference's intermediate arrays, up to the weights, as real numbers, when its arguments are real numbers.
-/

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.SL.Sem Idealize.ShloMosaic.StableHlo

/-- The arguments the reference reads are the real numbers `R`. -/
structure Args (R : Data) (V : Valuation τ sig (Elt Ideal)) : Prop where
  x : ∀ (i : Fin 2048) (j : Fin 3840), j.val < 768 → (V (Proc.devRef .tc main_arg0) : FVec Ideal S2048x3840 .bf16) (ix2 i j) = (R.x i.val j.val : EReal)
  d : ∀ (i : Fin 2048) (j : Fin 512), (V (Proc.devRef .tc main_arg1) : FVec Ideal S2048x512 .bf16) (ix2 i j) = (R.d i.val j.val : EReal)
  s : ∀ j : Fin 8, (V (Proc.devRef .tc main_arg2) : FVec Ideal S1x8 .f32) (ix2 0 j) = (R.s j.val : EReal)

/-- A key or value row of a block, zero in front of the first block. -/
def front (R : Data) (o n j c : ℕ) : ℝ := if j < 128 ∧ n = 0 then 0 else R.x (keyRow n j) (o + c)

theorem front_none (R : Data) {o n j c : ℕ} (h1 : j < 128) (h2 : n = 0) : front R o n j c = 0 := if_pos ⟨h1, h2⟩
theorem front_before (R : Data) {o n j c : ℕ} (h1 : j < 128) (h2 : ¬ n = 0) : front R o n j c = R.x (128 * (n - 1) + j) (o + c) := by
  unfold front keyRow
  rw [if_neg (fun e => h2 e.2), if_pos h1]
theorem front_own (R : Data) {o n j c : ℕ} (h1 : ¬ j < 128) : front R o n j c = R.x (128 * n + (j - 128)) (o + c) := by
  unfold front keyRow
  rw [if_neg (fun e => h1 e.1), if_neg h1]

variable {R : Data} {V : Valuation τ sig (Elt Ideal)}

/-- An entry of the packed rows by its numbers. -/
theorem Args.x_at (A : Args R V) (i : Fin 2048) (j : Fin 3840) (a b : ℕ) (ha : i.val = a) (hb : j.val = b) (h : b < 768) :
    (V (Proc.devRef .tc main_arg0) : FVec Ideal S2048x3840 .bf16) (ix2 i j) = (R.x a b : EReal) := by
  subst ha hb; exact A.x i j h

/-- An entry of the cotangents by its numbers. -/
theorem Args.d_at (A : Args R V) (i : Fin 2048) (j : Fin 512) (a b : ℕ) (ha : i.val = a) (hb : j.val = b) :
    (V (Proc.devRef .tc main_arg1) : FVec Ideal S2048x512 .bf16) (ix2 i j) = (R.d a b : EReal) := by
  subst ha hb; exact A.d i j

/-- The queries. -/
theorem q_apply (A : Args R V) (n : Fin 16) (r : Fin 128) (h : Fin 2) (g : Fin 4) (d : Fin 64) :
    (res_main_v12 V : FVec Ideal S1x16x128x2x4x64 .f32) (ix6 0 n r h g d) = (R.x (128 * n.val + r.val) (64 * (4 * h.val + g.val) + d.val) : EReal) := by
  unfold res_main_v12 res_main_v2
  clean_types
  pointwise
  exact A.x_at _ _ _ _ (by simp only []; omega) (by simp only []; omega) (by omega)

/-- The keys. -/
theorem k_apply (A : Args R V) (n : Fin 16) (j : Fin 256) (h : Fin 2) (d : Fin 64) :
    (res_main_v19 V : FVec Ideal S1x16x256x2x64 .f32) (ix5 0 n j h d) = (front R 512 n.val j.val (64 * h.val + d.val) : EReal) := by
  unfold res_main_v19 res_main_v8 res_main_v2
  clean_types
  pointwise
  by_cases h1 : j.val < 128
  · refine (dif_pos h1).trans ?_
    by_cases h2 : n.val = 0
    · exact (dif_pos (by omega)).trans (EReal.coe_zero.symm.trans (congrArg (fun x : ℝ => (x : EReal)) (front_none R h1 h2).symm))
    · refine (dif_neg (by omega)).trans (Eq.trans ?_ (congrArg (fun x : ℝ => (x : EReal)) (front_before R h1 h2).symm))
      exact A.x_at _ _ _ _ (by simp only []; omega) (by simp only []; omega) (by omega)
  · refine (dif_neg h1).trans (Eq.trans ?_ (congrArg (fun x : ℝ => (x : EReal)) (front_own R h1).symm))
    exact A.x_at _ _ _ _ (by simp only []; omega) (by simp only []; omega) (by omega)

/-- The values. -/
theorem v_apply (A : Args R V) (n : Fin 16) (j : Fin 256) (h : Fin 2) (d : Fin 64) :
    (res_main_v26 V : FVec Ideal S1x16x256x2x64 .f32) (ix5 0 n j h d) = (front R 640 n.val j.val (64 * h.val + d.val) : EReal) := by
  unfold res_main_v26 res_main_v10 res_main_v2
  clean_types
  pointwise
  by_cases h1 : j.val < 128
  · refine (dif_pos h1).trans ?_
    by_cases h2 : n.val = 0
    · exact (dif_pos (by omega)).trans (EReal.coe_zero.symm.trans (congrArg (fun x : ℝ => (x : EReal)) (front_none R h1 h2).symm))
    · refine (dif_neg (by omega)).trans (Eq.trans ?_ (congrArg (fun x : ℝ => (x : EReal)) (front_before R h1 h2).symm))
      exact A.x_at _ _ _ _ (by simp only []; omega) (by simp only []; omega) (by omega)
  · refine (dif_neg h1).trans (Eq.trans ?_ (congrArg (fun x : ℝ => (x : EReal)) (front_own R h1).symm))
    exact A.x_at _ _ _ _ (by simp only []; omega) (by simp only []; omega) (by omega)

/-- The rows in front of the first block are seen by no query. -/
theorem front_seen (o n r : ℕ) (j : Fin 256) (c : ℕ) (h : seen n r j = true) : front R o n j.val c = R.x (keyRow n j.val) (o + c) := by
  unfold seen at h
  have h' := of_decide_eq_true h
  exact if_neg (by omega)

/-- The band of the mask, as words. -/
theorem dist_iff (r : Fin 128) (j : Fin 256) :
    (IntOp.subi (IntOp.addi (BitVec.ofNat 32 r.val) 128#32) (BitVec.ofNat 32 j.val)).toNat < 128 ↔ r.val < j.val ∧ j.val ≤ r.val + 128 := by
  have e : (IntOp.subi (IntOp.addi (BitVec.ofNat 32 r.val) 128#32) (BitVec.ofNat 32 j.val)).toNat = (2 ^ 32 - j.val + (r.val + 128)) % 2 ^ 32 := by
    show (BitVec.ofNat 32 r.val + 128#32 - BitVec.ofNat 32 j.val).toNat = _
    rw [BitVec.toNat_sub, BitVec.toNat_add, BitVec.toNat_ofNat, BitVec.toNat_ofNat, BitVec.toNat_ofNat]
    have := j.isLt
    have := r.isLt
    omega
  rw [e]
  have := j.isLt
  have := r.isLt
  omega

/-- The mask's cut in front of the first block, as words. -/
theorem cut_iff : ∀ (n : Fin 16) (j : Fin 256),
    IntOp.cmpi .sge (IntOp.addi (IntOp.subi (IntOp.muli (BitVec.ofNat 32 n.val) 128#32) 128#32) (BitVec.ofNat 32 j.val)) 0#32 = 1#1
      ↔ 128 ≤ j.val ∨ 0 < n.val := by
  decide +kernel

/-- Both of two bits. -/
theorem both_iff (p : Prop) [Decidable p] (b : BitVec 1) : IntOp.andi (BitVec.ofBool (decide p)) b = 1#1 ↔ p ∧ b = 1#1 := by
  by_cases h : p
  · rw [decide_eq_true h]
    exact ⟨fun e => ⟨h, (BitVec.allOnes_and (x := b)).symm.trans e⟩, fun e => (BitVec.allOnes_and (x := b)).trans e.2⟩
  · rw [decide_eq_false h]
    exact ⟨fun e => absurd ((BitVec.zero_and (x := b)).symm.trans e) (by decide), fun e => absurd e.1 h⟩

/-- The mask. -/
theorem mask_apply (n : Fin 16) (h : Fin 2) (g : Fin 4) (r : Fin 128) (j : Fin 256) :
    (res_main_v63_1 V : IVec S1x16x2x4x128x256 1) (ix6 0 n h g r j) = 1#1 ↔ seen n.val r.val j = true := by
  unfold res_main_v63_1 res_main_v39 res_main_v34
  clean_types
  pointwise
  unfold seen
  word_cmp
  rw [both_iff, dist_iff, cut_iff]

end Cert.Proof.ReferenceIdeal
end
-- ==== Proof.RefPeak.lean ====
module

public import proofs.«01_k».proof.Proof.RefVal

@[expose] public section

/-!
The reference's rows of logits and their largest.
-/

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.SL.Sem Idealize.ShloMosaic.StableHlo

variable {R : Data} {V : Valuation τ sig (Elt Ideal)}

/-- Nothing is lost by reading only what the mask lets through. -/
theorem logit_eq (A : Args R V) (n : Fin 16) (h : Fin 2) (g : Fin 4) (r : Fin 128) (j : Fin 256) :
    (if seen n.val r.val j = true then
        ((∑ t : Fin 64, (front R 512 n.val j.val (64 * h.val + t.val) : EReal) * (R.x (128 * n.val + r.val) (64 * (4 * h.val + g.val) + t.val) : EReal))
          * ((1 / 8 : ℝ) : EReal)) else ⊥)
      = Row.logit (seen n.val r.val) (R.A n.val (4 * h.val + g.val) r.val) j := by
  unfold Row.logit
  by_cases e : seen n.val r.val j = true
  · rw [if_pos e, if_pos e]
    simp only [← EReal.coe_mul, ← coe_sum]
    refine congrArg (fun x : ℝ => (x : EReal)) ?_
    unfold Data.A
    rw [show (4 * h.val + g.val) / 4 = h.val by omega]
    refine congrArg (· * (1 / 8 : ℝ)) (Finset.sum_congr rfl fun t _ => ?_)
    rw [front_seen _ _ _ _ _ e, mul_comm, Nat.add_assoc]
  · rw [if_neg e, if_neg e]

/-- The logits with the sink. -/
theorem logit_apply (A : Args R V) (n : Fin 16) (h : Fin 2) (g : Fin 4) (r : Fin 128) (j : Fin 257) :
    (res_main_v66 V : FVec Ideal S1x16x2x4x128x257 .f32) (ix6 0 n h g r j)
      = Row.logit' (seen n.val r.val) (R.A n.val (4 * h.val + g.val) r.val) (R.s (4 * h.val + g.val)) j := by
  unfold res_main_v66
  clean_types
  pointwise
  unfold Row.logit'
  by_cases hj : j.val < 256
  · refine (dif_pos hj).trans ?_
    rw [dif_pos hj, ← logit_eq A]
    refine (select_if _ _ (mask_apply n h g r ⟨j.val, hj⟩) _ _).trans ?_
    refine if_congr Iff.rfl ?_ neg_inf_eq
    refine congr (congrArg (fun a b : EReal => a * b) (Finset.sum_congr rfl fun t _ => ?_)) eighth_eq
    rw [← q_apply A n r h g t, ← k_apply A n ⟨j.val, hj⟩ h t]
  · refine (dif_neg hj).trans ?_
    rw [dif_neg hj]
    have e := A.s ⟨h.val * 4 + g.val, by omega⟩
    rw [show (R.s (4 * h.val + g.val)) = R.s (h.val * 4 + g.val) by rw [Nat.mul_comm]]
    exact e

/-- The largest of a row with the sink, over any array. -/
theorem max_apply (x : FVec Ideal S1x16x2x4x128x257 .f32) (n : Fin 16) (h : Fin 2) (g : Fin 4) (r : Fin 128) :
    (Host.reduce FloatOps.maximumf x (constant S_ .f32 0xFF800000#32) reducesTo_S1x16x2x4x128x257_S1x16x2x4x128_d5 h_S_ : FVec Ideal S1x16x2x4x128 .f32)
        (ix5 0 n h g r)
      = (Finset.univ : Finset (Fin 257)).fold max (⊥ : EReal) (fun k => x (ix6 0 n h g r k)) := by
  refine (Host.reduce_eq_fold _ x _ _ _ _).trans ?_
  refine (fold_last max reducesTo_S1x16x2x4x128x257_S1x16x2x4x128_d5 x _ n h g r).trans ?_
  exact congrArg (fun b => Finset.fold max b _ _) neg_inf_eq

/-- The rows' largest, unfolded. -/
theorem peak_unfold : (res_main_v67 V : FVec Ideal S1x16x2x4x128 .f32)
    = Host.reduce FloatOps.maximumf (res_main_v66 V) (constant S_ .f32 0xFF800000#32) reducesTo_S1x16x2x4x128x257_S1x16x2x4x128_d5 h_S_ := by
  unfold res_main_v67
  rfl

/-- The largest of a row with the sink, over any array whose row is `f`. -/
theorem max_of (x : FVec Ideal S1x16x2x4x128x257 .f32) (n : Fin 16) (h : Fin 2) (g : Fin 4) (r : Fin 128) (f : Fin 257 → EReal)
    (hx : ∀ k, x (ix6 0 n h g r k) = f k) :
    (Host.reduce FloatOps.maximumf x (constant S_ .f32 0xFF800000#32) reducesTo_S1x16x2x4x128x257_S1x16x2x4x128_d5 h_S_ : FVec Ideal S1x16x2x4x128 .f32)
        (ix5 0 n h g r)
      = Finset.univ.fold max (⊥ : EReal) f :=
  (max_apply x n h g r).trans (congrArg (fun f => Finset.fold max (⊥ : EReal) f Finset.univ) (funext hx))

/-- The row's largest. -/
theorem peak_apply (A : Args R V) (n : Fin 16) (h : Fin 2) (g : Fin 4) (r : Fin 128) :
    (res_main_v67 V : FVec Ideal S1x16x2x4x128 .f32) (ix5 0 n h g r)
      = Finset.univ.fold max (⊥ : EReal) (Row.logit' (seen n.val r.val) (R.A n.val (4 * h.val + g.val) r.val) (R.s (4 * h.val + g.val))) := by
  rw [peak_unfold]
  exact max_of _ n h g r _ (logit_apply A n h g r)

end Cert.Proof.ReferenceIdeal
end
-- ==== Proof.RefRow.lean ====
module

public import proofs.«01_k».proof.Proof.RefPeak

@[expose] public section

/-!
The reference's rows of exponentials, weights and their cotangents, as real numbers.
-/

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.SL.Sem Idealize.ShloMosaic.StableHlo

variable {R : Data} {V : Valuation τ sig (Elt Ideal)}

/-- The exponentials, over any arrays. -/
theorem exp_of (x : FVec Ideal S1x16x2x4x128x257 .f32) (y : FVec Ideal S1x16x2x4x128 .f32) (n : Fin 16) (h : Fin 2) (g : Fin 4) (r : Fin 128) (j : Fin 257)
    (p q : EReal) (hx : x (ix6 0 n h g r j) = p) (hy : y (ix5 0 n h g r) = q) :
    (Host.exp (subf x (broadcastInDim S1x16x2x4x128x257 ![0, 1, 2, 3, 4, 5] bcast_S1x16x2x4x128x1_S1x16x2x4x128x257_0_1_2_3_4_5 (broadcastInDim S1x16x2x4x128x1 ![0, 1, 2, 3, 4] bcast_S1x16x2x4x128_S1x16x2x4x128x1_0_1_2_3_4 (maximumf (broadcastInDim S1x16x2x4x128 ![] bcast_S_S1x16x2x4x128 (constant S_ .f32 0xFF800000#32)) y)))) : FVec Ideal S1x16x2x4x128x257 .f32) (ix6 0 n h g r j)
      = Ideal.exp (p - max ⊥ q) := by
  pointwise
  rw [hx, hy, neg_inf_eq]

/-- The exponentials, unfolded. -/
theorem exp_unfold : (res_main_v87 V : FVec Ideal S1x16x2x4x128x257 .f32)
    = Host.exp (subf (res_main_v66 V) (broadcastInDim S1x16x2x4x128x257 ![0, 1, 2, 3, 4, 5] bcast_S1x16x2x4x128x1_S1x16x2x4x128x257_0_1_2_3_4_5 (broadcastInDim S1x16x2x4x128x1 ![0, 1, 2, 3, 4] bcast_S1x16x2x4x128_S1x16x2x4x128x1_0_1_2_3_4 (maximumf (broadcastInDim S1x16x2x4x128 ![] bcast_S_S1x16x2x4x128 (constant S_ .f32 0xFF800000#32)) (res_main_v67 V))))) := by
  unfold res_main_v87
  rfl

/-- The exponentials. -/
theorem exp_apply (A : Args R V) (n : Fin 16) (h : Fin 2) (g : Fin 4) (r : Fin 128) (j : Fin 257) :
    (res_main_v87 V : FVec Ideal S1x16x2x4x128x257 .f32) (ix6 0 n h g r j)
      = (Row.ex' (seen n.val r.val) (R.A n.val (4 * h.val + g.val) r.val) (R.s (4 * h.val + g.val)) j : EReal) := by
  rw [exp_unfold]
  refine (exp_of _ _ n h g r j _ _ (logit_apply A n h g r j) (peak_apply A n h g r)).trans ?_
  rw [Row.ref_peak, Row.ref_exp]

/-- Their sum, over any array. -/
theorem total_of (x : FVec Ideal S1x16x2x4x128x257 .f32) (n : Fin 16) (h : Fin 2) (g : Fin 4) (r : Fin 128) :
    (broadcastInDim S1x16x2x4x128x1 ![0, 1, 2, 3, 4] bcast_S1x16x2x4x128_S1x16x2x4x128x1_0_1_2_3_4 (Host.reduceAdd x (constant S_ .f32 0x00000000#32)
        reducesTo_S1x16x2x4x128x257_S1x16x2x4x128_d5 h_S_) : FVec Ideal S1x16x2x4x128x1 .f32) (ix6 0 n h g r 0)
      = ∑ k : Fin 257, x (ix6 0 n h g r k) := by
  pointwise
  rw [sum_last, zero_add]

/-- The rows' sums. -/
theorem total_apply (A : Args R V) (n : Fin 16) (h : Fin 2) (g : Fin 4) (r : Fin 128) :
    (res_main_v89 V : FVec Ideal S1x16x2x4x128x1 .f32) (ix6 0 n h g r 0)
      = (Row.total (seen n.val r.val) (R.A n.val (4 * h.val + g.val) r.val) (R.s (4 * h.val + g.val)) : EReal) := by
  refine (total_of (res_main_v87 V) n h g r).trans ?_
  rw [← Row.ref_total]
  exact Finset.sum_congr rfl fun k _ => exp_apply A n h g r k

/-- The weights. -/
theorem weight_apply (A : Args R V) (n : Fin 16) (h : Fin 2) (g : Fin 4) (r : Fin 128) (j : Fin 256) :
    (res_main_v95 V : FVec Ideal S1x16x2x4x128x256 .f32) (ix6 0 n h g r j) = (R.P n.val (4 * h.val + g.val) r.val j : EReal) := by
  unfold res_main_v95
  clean_types
  pointwise
  rw [exp_apply A, total_apply A, Row.ref_weight]
  rfl

/-- The weights' cotangents, with the reference's zero rows in front. -/
def DPf (R : Data) (n h r : ℕ) (j : Fin 256) : ℝ :=
  ∑ t : Fin 64, R.d (128 * n + r) (64 * h + t.val) * front R 640 n j.val (64 * (h / 4) + t.val)

/-- They are the model's where the mask lets through. -/
theorem DPf_seen (n h r : ℕ) (j : Fin 256) (e : seen n r j = true) : DPf R n h r j = R.DP n h r j := by
  unfold DPf Data.DP
  refine Finset.sum_congr rfl fun t _ => ?_
  rw [front_seen _ _ _ _ _ e, Nat.add_assoc]

/-- The cotangents of the weights, none for the sink. -/
theorem dp_apply (A : Args R V) (n : Fin 16) (h : Fin 2) (g : Fin 4) (r : Fin 128) (j : Fin 257) :
    (res_main_v104 V : FVec Ideal S1x16x2x4x128x257 .f32) (ix6 0 n h g r j) = (Row.dp' (DPf R n.val (4 * h.val + g.val) r.val) j : EReal) := by
  unfold res_main_v104 res_main_v100
  clean_types
  pointwise
  unfold Row.dp'
  by_cases hj : j.val < 256
  · refine (dif_pos hj).trans ?_
    rw [dif_pos hj]
    unfold DPf
    rw [coe_sum, show (4 * h.val + g.val) / 4 = h.val by omega]
    refine Finset.sum_congr rfl fun t _ => ?_
    rw [EReal.coe_mul, ← v_apply A n ⟨j.val, hj⟩ h t, ← A.d_at ⟨n.val * 128 + r.val, by omega⟩ ⟨h.val * 256 + g.val * 64 + t.val, by omega⟩ _ _
      (by simp only []; omega) (by simp only []; omega)]
  · refine (dif_neg hj).trans ?_
    rw [dif_neg hj]
    exact EReal.coe_zero.symm

/-- The cotangents of the exponentials' logits, over any arrays. -/
theorem back_of (x y : FVec Ideal S1x16x2x4x128x257 .f32) (z : FVec Ideal S1x16x2x4x128x1 .f32) (n : Fin 16) (h : Fin 2) (g : Fin 4) (r : Fin 128) (j : Fin 257) :
    (mulf (addf (Host.divf x (broadcastInDim S1x16x2x4x128x257 ![0, 1, 2, 3, 4, 5] bcast_S1x16x2x4x128x1_S1x16x2x4x128x257_0_1_2_3_4_5 z)) (broadcastInDim S1x16x2x4x128x257 ![0, 1, 2, 3, 4] bcast_S1x16x2x4x128_S1x16x2x4x128x257_0_1_2_3_4 (broadcastInDim S1x16x2x4x128 ![1, 2, 3, 4] bcast_S16x2x4x128_S1x16x2x4x128_1_2_3_4 (Host.reduceAdd (Host.negf (shapeCast S1x16x2x4x128x1 (Host.reduceAdd (mulf (mulf x (broadcastInDim S1x16x2x4x128x257 ![0, 1, 2, 3, 4, 5] bcast_S1x16x2x4x128x1_S1x16x2x4x128x257_0_1_2_3_4_5 (Host.divf (broadcastInDim S1x16x2x4x128x1 ![] bcast_S_S1x16x2x4x128x1 (constant S_ .f32 0x3F800000#32)) (mulf z z)))) y) (constant S_ .f32 0x00000000#32) reducesTo_S1x16x2x4x128x257_S1x16x2x4x128_d5 h_S_) shapeCasts_S1x16x2x4x128_S1x16x2x4x128x1)) (constant S_ .f32 0x00000000#32) reducesTo_S1x16x2x4x128x1_S16x2x4x128_d0_5 h_S_)))) y : FVec Ideal S1x16x2x4x128x257 .f32) (ix6 0 n h g r j)
      = (Ideal.div (x (ix6 0 n h g r j)) (z (ix6 0 n h g r 0))
          + ((0 : EReal) + -(∑ k : Fin 257, x (ix6 0 n h g r k) * Ideal.div 1 (z (ix6 0 n h g r 0) * z (ix6 0 n h g r 0)) * y (ix6 0 n h g r k))))
        * y (ix6 0 n h g r j) := by
  pointwise
  rw [sum_units]
  pointwise
  rw [sum_last]
  pointwise

/-- The cotangents of the exponentials' logits. -/
theorem back_apply (A : Args R V) (n : Fin 16) (h : Fin 2) (g : Fin 4) (r : Fin 128) (j : Fin 257) :
    (res_main_v117 V : FVec Ideal S1x16x2x4x128x257 .f32) (ix6 0 n h g r j)
      = (Ideal.div (Row.dp' (DPf R n.val (4 * h.val + g.val) r.val) j : EReal)
            (Row.total (seen n.val r.val) (R.A n.val (4 * h.val + g.val) r.val) (R.s (4 * h.val + g.val)) : EReal)
          + ((-(Row.mean (seen n.val r.val) (R.A n.val (4 * h.val + g.val) r.val) (R.s (4 * h.val + g.val)) (DPf R n.val (4 * h.val + g.val) r.val)
              / Row.total (seen n.val r.val) (R.A n.val (4 * h.val + g.val) r.val) (R.s (4 * h.val + g.val))) : ℝ) : EReal))
        * (Row.ex' (seen n.val r.val) (R.A n.val (4 * h.val + g.val) r.val) (R.s (4 * h.val + g.val)) j : EReal) := by
  refine (back_of (res_main_v104 V) (res_main_v87 V) (res_main_v89 V) n h g r j).trans ?_
  rw [← Row.ref_mean]
  simp only [dp_apply A, total_apply A, exp_apply A]

/-- The cotangents of the unscaled logits. -/
theorem cot_apply (A : Args R V) (n : Fin 16) (h : Fin 2) (g : Fin 4) (r : Fin 128) (j : Fin 256) :
    (res_main_v126 V : FVec Ideal S1x16x2x256x128x4 .f32) (ix6 0 n h j r g) = (R.dA n.val (4 * h.val + g.val) r.val j : EReal) := by
  unfold res_main_v126
  clean_types
  pointwise
  rw [select_if _ _ (mask_apply n h g r j), eighth_eq]
  by_cases e : seen n.val r.val j = true
  · rw [if_pos e, back_apply A, Row.ref_cot]
    exact congrArg (fun x : ℝ => (x : EReal)) (Row.cot_congr _ _ _ (fun k hk => DPf_seen _ _ _ k hk) j)
  · rw [if_neg e, Data.dA_off R (by simpa using e)]
    exact EReal.coe_zero.symm

/-- The cotangents of the sink, row by row. -/
theorem sink_row (A : Args R V) (n : Fin 16) (h : Fin 2) (g : Fin 4) (r : Fin 128) :
    (res_main_v117 V : FVec Ideal S1x16x2x4x128x257 .f32) (ix6 0 n h g r (Fin.last 256)) = ((-(R.share n.val (4 * h.val + g.val) r.val) : ℝ) : EReal) := by
  rw [back_apply A, Row.ref_share]
  exact congrArg (fun x : ℝ => ((-x : ℝ) : EReal)) (Row.share_congr _ _ _ (fun k hk => DPf_seen _ _ _ k hk))

end Cert.Proof.ReferenceIdeal
end
-- ==== Proof.RefOut.lean ====
module

public import proofs.«01_k».proof.Proof.RefRow

@[expose] public section

/-!
The reference's two results as real numbers: the packed gradients and the sink gradients.
-/

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.SL.Sem Idealize.ShloMosaic.StableHlo

variable {R : Data} {V : Valuation τ sig (Elt Ideal)}

/-- A sum over a block's queries of one key-value head. -/
theorem block_coe (w : ℕ → ℕ → ℕ → Fin 256 → ℝ) (y : ℕ → ℕ → ℝ) (n kv : ℕ) (j : Fin 256) (c : ℕ) :
    (blockSum w y n kv j c : EReal)
      = ∑ g : Fin 4, ∑ r : Fin 128, (w n (4 * kv + g.val) r.val j : EReal) * (y (128 * n + r.val) (64 * (4 * kv + g.val) + c) : EReal) := by
  unfold blockSum
  simp only [coe_sum, EReal.coe_mul]

/-- The key gradients, block by block. -/
theorem kblock_apply (A : Args R V) (n : Fin 16) (j : Fin 256) (h : Fin 2) (d : Fin 64) :
    (res_main_v130 V : FVec Ideal S1x16x256x2x64 .f32) (ix5 0 n j h d) = (blockSum R.dA R.x n.val h.val j d.val : EReal) := by
  unfold res_main_v130
  clean_types
  pointwise
  rw [block_coe]
  refine (Finset.sum_comm).trans ?_
  refine Finset.sum_congr rfl fun g _ => Finset.sum_congr rfl fun r _ => ?_
  rw [cot_apply A, q_apply A]

/-- The value gradients, block by block. -/
theorem vblock_apply (A : Args R V) (n : Fin 16) (j : Fin 256) (h : Fin 2) (d : Fin 64) :
    (res_main_v103 V : FVec Ideal S1x16x256x2x64 .f32) (ix5 0 n j h d) = (blockSum R.P R.d n.val h.val j d.val : EReal) := by
  unfold res_main_v103 res_main_v100
  clean_types
  pointwise
  rw [block_coe]
  refine Finset.sum_congr rfl fun g _ => Finset.sum_congr rfl fun r _ => ?_
  rw [weight_apply A, mul_comm]
  exact congrArg (_ * ·) (A.d_at _ _ _ _ (by simp only []; omega) (by simp only []; omega))

/-- The first halves of the blocks, one block's rows later. -/
def later (b : FVec Ideal S1x16x256x2x64 .f32) : FVec Ideal S1x2176x2x64 .f32 :=
  pad S1x2176x2x64 ![0, 0, 0, 0] ![0, 128, 0, 0] ![0, 0, 0, 0] (shapeCast S1x2048x2x64 (extractStridedSlice S1x16x128x2x64 ![0, 0, 0, 0, 0] b slices_S1x16x256x2x64_S1x16x128x2x64_0_0_0_0_0) shapeCasts_S1x16x128x2x64_S1x2048x2x64) (constant S_ .f32 0x00000000#32) pads_S1x2048x2x64_S1x2176x2x64_000_01280_000_000 h_S_

/-- The two halves of the blocks put together, row by row. -/
def joined (b : FVec Ideal S1x16x256x2x64 .f32) (p : FVec Ideal S1x2176x2x64 .f32) : FVec Ideal S1x2048x128 .f32 :=
  shapeCast S1x2048x128 (addf (shapeCast S1x2048x2x64 (extractStridedSlice S1x16x128x2x64 ![0, 0, 128, 0, 0] b slices_S1x16x256x2x64_S1x16x128x2x64_0_0_128_0_0) shapeCasts_S1x16x128x2x64_S1x2048x2x64) (extractStridedSlice S1x2048x2x64 ![0, 128, 0, 0] p slices_S1x2176x2x64_S1x2048x2x64_0_128_0_0)) shapeCasts_S1x2048x2x64_S1x2048x128

/-- The query gradients. -/
def queries (a : FVec Ideal S1x16x2x256x128x4 .f32) (k : FVec Ideal S1x16x256x2x64 .f32) : FVec Ideal S1x2048x512 .f32 :=
  shapeCast S1x2048x512 (shapeCast S1x2048x8x64 (transpose S1x16x128x2x4x64 [0, 1, 3, 2, 4, 5] (Host.dotGeneral dot_S1x16x2x256x128x4_S1x16x256x2x64_S1x16x2x128x4x64_3_2_45_4_012_013 none a k) transposes_S1x16x2x128x4x64_S1x16x128x2x4x64_0_1_3_2_4_5) shapeCasts_S1x16x128x2x4x64_S1x2048x8x64) shapeCasts_S1x2048x8x64_S1x2048x512

/-- The three gradients side by side. -/
def packed (v k : FVec Ideal S1x2048x128 .f32) (q : FVec Ideal S1x2048x512 .f32) : FVec Ideal S2048x768 .bf16 :=
  truncf .bf16 (shapeCast S2048x768 (addf (addf (pad S1x2048x768 ![0, 0, 640] ![0, 0, 0] ![0, 0, 0] v (constant S_ .f32 0x00000000#32) pads_S1x2048x128_S1x2048x768_000_000_64000 h_S_) (pad S1x2048x768 ![0, 0, 512] ![0, 0, 128] ![0, 0, 0] k (constant S_ .f32 0x00000000#32) pads_S1x2048x128_S1x2048x768_000_000_5121280 h_S_)) (pad S1x2048x768 ![0, 0, 0] ![0, 0, 256] ![0, 0, 0] q (constant S_ .f32 0x00000000#32) pads_S1x2048x512_S1x2048x768_000_000_02560 h_S_)) shapeCasts_S1x2048x768_S2048x768) bitsLt_bf16_f32

/-- The sinks' gradients. -/
def sinks (x : FVec Ideal S1x16x2x4x128x257 .f32) : FVec Ideal S1x128 .f32 :=
  pad S1x128 ![0, 0] ![0, 120] ![0, 0] (broadcastInDim S1x8 ![1] bcast_S8_S1x8_1 (shapeCast S8 (broadcastInDim S1x1x2x4x1x1 ![2, 3] bcast_S2x4_S1x1x2x4x1x1_2_3 (Host.reduceAdd (extractStridedSlice S1x16x2x4x128x1 ![0, 0, 0, 0, 0, 256] x slices_S1x16x2x4x128x257_S1x16x2x4x128x1_0_0_0_0_0_256) (constant S_ .f32 0x00000000#32) reducesTo_S1x16x2x4x128x1_S2x4_d0_1_4_5 h_S_)) shapeCasts_S1x1x2x4x1x1_S8)) (sitofp .f32 (constantI S_ 32 0#32)) pads_S1x8_S1x128_000_01200 h_S_

theorem later_apply (b : FVec Ideal S1x16x256x2x64 .f32) (n : Fin 2176) (h : Fin 2) (d : Fin 64) :
    later b (ix4 0 n h d) = if hn : n.val < 2048 then b (ix5 0 ⟨n.val / 128, by omega⟩ ⟨n.val % 128, by omega⟩ h d) else (0 : EReal) := by
  pointwise [later]

theorem joined_apply (b : FVec Ideal S1x16x256x2x64 .f32) (p : FVec Ideal S1x2176x2x64 .f32) (i : Fin 2048) (l : Fin 128) :
    joined b p (ix3 0 i l) = (b (ix5 0 ⟨i.val / 128, by omega⟩ (own i.val) ⟨l.val / 64, by omega⟩ ⟨l.val % 64, by omega⟩)
      + p (ix4 0 ⟨128 + i.val, by omega⟩ ⟨l.val / 64, by omega⟩ ⟨l.val % 64, by omega⟩) : EReal) := by
  pointwise [joined]
  rfl

theorem queries_apply (a : FVec Ideal S1x16x2x256x128x4 .f32) (k : FVec Ideal S1x16x256x2x64 .f32) (i : Fin 2048) (c : Fin 512) :
    queries a k (ix3 0 i c) = ∑ j : Fin 256, (a (ix6 0 ⟨i.val / 128, by omega⟩ ⟨c.val / 256, by omega⟩ j ⟨i.val % 128, by omega⟩ ⟨c.val / 64 % 4, by omega⟩)
      * k (ix5 0 ⟨i.val / 128, by omega⟩ j ⟨c.val / 256, by omega⟩ ⟨c.val % 64, by omega⟩) : EReal) := by
  pointwise [queries]

theorem packed_apply (v k : FVec Ideal S1x2048x128 .f32) (q : FVec Ideal S1x2048x512 .f32) (i : Fin 2048) (c : Fin 768) :
    packed v k q (ix2 i c) = if h : c.val < 512 then q (ix3 0 i ⟨c.val, h⟩) else if h' : c.val < 640 then k (ix3 0 i ⟨c.val - 512, by omega⟩)
      else v (ix3 0 i ⟨c.val - 640, by omega⟩) := by
  pointwise [packed]
  by_cases h : c.val < 512
  · refine (congr (congrArg (fun a b : EReal => a + b) ((congr (congrArg (fun a b : EReal => a + b) (dif_neg (by omega))) (dif_neg (by omega))).trans (add_zero 0))) (dif_pos h)).trans ?_
    rw [zero_add, dif_pos h]
  · by_cases h' : c.val < 640
    · refine (congr (congrArg (fun a b : EReal => a + b) ((congr (congrArg (fun a b : EReal => a + b) (dif_neg (by omega))) (dif_pos (by omega))).trans (zero_add _))) (dif_neg h)).trans ?_
      rw [add_zero, dif_neg h, dif_pos h']
    · refine (congr (congrArg (fun a b : EReal => a + b) ((congr (congrArg (fun a b : EReal => a + b) (dif_pos (by omega))) (dif_neg (by omega))).trans (add_zero _))) (dif_neg h)).trans ?_
      rw [add_zero, dif_neg h, dif_neg h']

theorem sinks_apply (x : FVec Ideal S1x16x2x4x128x257 .f32) (l : Fin 128) :
    sinks x (ix2 0 l) = if h : l.val < 8 then ∑ n : Fin 16, ∑ r : Fin 128, x (ix6 0 n ⟨l.val / 4, by omega⟩ ⟨l.val % 4, by omega⟩ r (Fin.last 256)) else (0 : EReal) := by
  pointwise [sinks]
  by_cases h : l.val < 8
  · refine (dif_pos h).trans ?_
    rw [dif_pos h, sum_mid, zero_add]
    refine Finset.sum_congr rfl fun n _ => Finset.sum_congr rfl fun r _ => ?_
    pointwise
    rfl
  · refine (dif_neg h).trans ?_
    rw [dif_neg h]
    exact (congrArg (fun x : ℝ => (x : EReal)) (by simp)).trans EReal.coe_zero

/-- One half of the packed gradients' last columns: what a key-value head's rows get from their own block and from the block after. -/
theorem rows_apply (w : ℕ → ℕ → ℕ → Fin 256 → ℝ) (y : ℕ → ℕ → ℝ) (b : FVec Ideal S1x16x256x2x64 .f32)
    (hb : ∀ (n : Fin 16) (j : Fin 256) (h : Fin 2) (d : Fin 64), b (ix5 0 n j h d) = (blockSum w y n.val h.val j d.val : EReal)) (i : Fin 2048) (l : Fin 128) :
    joined b (later b) (ix3 0 i l) = (rowSum2 w y i.val l.val : EReal) := by
  rw [joined_apply, later_apply, hb]
  unfold rowSum2
  rw [EReal.coe_add]
  refine congrArg (_ + ·) ?_
  by_cases h : i.val / 128 + 1 < 16
  · refine (dif_pos (by simp only []; omega)).trans ?_
    rw [if_pos h, hb]
    have e1 : (128 + i.val) / 128 = i.val / 128 + 1 := by omega
    have e2 : (⟨(128 + i.val) % 128, by omega⟩ : Fin 256) = prev i.val := Fin.ext (by show (128 + i.val) % 128 = i.val % 128; omega)
    show (blockSum w y ((128 + i.val) / 128) (l.val / 64) ⟨(128 + i.val) % 128, _⟩ (l.val % 64) : EReal) = _
    rw [e1, e2]
  · refine (dif_neg (by simp only []; omega)).trans ?_
    rw [if_neg h]
    exact EReal.coe_zero.symm

/-- The query gradients. -/
theorem dq_apply (A : Args R V) (i : Fin 2048) (c : Fin 512) :
    queries (res_main_v126 V) (res_main_v19 V) (ix3 0 i c) = (R.dq i.val c.val : EReal) := by
  rw [queries_apply]
  unfold Data.dq
  rw [coe_sum]
  refine Finset.sum_congr rfl fun j _ => ?_
  rw [cot_apply A, k_apply A, EReal.coe_mul]
  have hh : 4 * (c.val / 256) + c.val / 64 % 4 = c.val / 64 := by omega
  show (R.dA (i.val / 128) (4 * (c.val / 256) + c.val / 64 % 4) (i.val % 128) j : EReal) * (front R 512 (i.val / 128) j.val (64 * (c.val / 256) + c.val % 64) : EReal) = _
  rw [hh]
  cases e : seen (i.val / 128) (i.val % 128) j with
  | true => rw [front_seen _ _ _ _ _ e, Nat.add_assoc]
  | false => rw [Data.dA_off R e, EReal.coe_zero, zero_mul, zero_mul]

/-- The packed gradients. -/
theorem dx_apply (A : Args R V) (i : Fin 2048) (c : Fin 768) :
    packed (joined (res_main_v103 V) (res_main_v135 V)) (joined (res_main_v130 V) (res_main_v143 V)) (queries (res_main_v126 V) (res_main_v19 V)) (ix2 i c)
      = (R.dx i.val c.val : EReal) := by
  have e1 : res_main_v135 V = later (res_main_v103 V) := by unfold res_main_v135; rfl
  have e2 : res_main_v143 V = later (res_main_v130 V) := by unfold res_main_v143; rfl
  rw [e1, e2, packed_apply]
  unfold Data.dx
  by_cases h : c.val < 512
  · rw [dif_pos h, if_pos h]
    exact dq_apply A _ _
  · rw [dif_neg h, if_neg h]
    by_cases h' : c.val < 640
    · rw [dif_pos h', if_pos h']
      exact rows_apply _ _ _ (kblock_apply A) _ _
    · rw [dif_neg h', if_neg h']
      exact rows_apply _ _ _ (vblock_apply A) _ _

/-- The sinks' gradients. -/
theorem ds_apply (A : Args R V) (l : Fin 128) : sinks (res_main_v117 V) (ix2 0 l) = (R.ds l.val : EReal) := by
  rw [sinks_apply]
  unfold Data.ds
  by_cases h : l.val < 8
  · rw [dif_pos h, if_pos h, coe_sum, Finset.sum_range]
    refine Finset.sum_congr rfl fun n _ => ?_
    rw [coe_sum]
    refine Finset.sum_congr rfl fun r _ => ?_
    rw [sink_row A]
    show ((-(R.share n.val (4 * (l.val / 4) + l.val % 4) r.val) : ℝ) : EReal) = _
    rw [show 4 * (l.val / 4) + l.val % 4 = l.val by omega]
  · rw [dif_neg h, if_neg h]
    exact EReal.coe_zero.symm

end Cert.Proof.ReferenceIdeal
end
-- ==== Proof.Finite.lean ====
module

public import proofs.«01_k».proof.Pre_all_finite
public import proofs.«01_k».proof.Proof.Consts
public import proofs.«01_k».proof.Proof.Model
public import Idealize.ShloMosaic.Lib.ReduceAll
public import Idealize.ShloMosaic.Lib.Pointwise

@[expose] public section

/-!
What the precondition says: every argument the programs read is a real number.
-/

set_option maxRecDepth 16384

noncomputable section

namespace Cert.Proof

open Idealize.ShloMosaic
open Cert.Pre_all_finite

/-- The side conditions of the precondition's operations. -/
instance finiteFacts : Cert.Pre_all_finite.Facts where
  slices_S2048x3840_S2048x768_0_0 := by decide
  bitsLt_bf16_f32 := by decide
  bcast_S_S2048x768 := by decide
  reducesTo_S2048x768_S_d0_1 := by decide
  h_S_ := by decide
  bcast_S_S2048x512 := by decide
  reducesTo_S2048x512_S_d0_1 := by decide
  bcast_S_S1x8 := by decide
  reducesTo_S1x8_S_d0_1 := by decide

/-- An extended real whose size is below infinity is a real number. -/
theorem real_of_lt (x : EReal) (h : Ideal.cmp .olt (max x (-x)) (Ideal.ofBits .f32 0x7F800000#32) = 1#1) : x = (x.toReal : EReal) := by
  rw [inf_eq] at h
  have h' : max x (-x) < ⊤ := by
    by_contra hn
    simp [Ideal.cmp, hn] at h
  refine (EReal.coe_toReal (ne_of_lt (lt_of_le_of_lt (le_max_left _ _) h')) ?_).symm
  rintro rfl
  simp at h'

/-- Every entry the programs read is a real number. -/
theorem finite_of (a : FVec Ideal S2048x3840 .bf16) (b : FVec Ideal S2048x512 .bf16) (s : FVec Ideal S1x8 .f32)
    (h : Cert.Pre_all_finite.fn (F := Ideal) a b s = fun _ => 1#1) :
    (∀ (i : Fin 2048) (j : Fin 3840), j.val < 768 → a (ix2 i j) = ((a (ix2 i j)).toReal : EReal))
      ∧ (∀ (i : Fin 2048) (j : Fin 512), b (ix2 i j) = ((b (ix2 i j)).toReal : EReal))
      ∧ ∀ j : Fin 8, s (ix2 0 j) = ((s (ix2 0 j)).toReal : EReal) := by
  haveI : Subsingleton S_.Idx := ⟨fun x y => funext fun k => k.elim0⟩
  have h0 := congrFun h ix0
  obtain ⟨h1, h3⟩ := IntOp.andi_eq_one.1 h0
  obtain ⟨h1, h2⟩ := IntOp.andi_eq_one.1 h1
  refine ⟨fun i j hj => ?_, fun i j => ?_, fun j => ?_⟩
  · have e := Host.reduce_andi_all _ _ _ _ _ h1 (ix2 i ⟨j.val, hj⟩)
    pointwise at e
    exact real_of_lt _ e
  · have e := Host.reduce_andi_all _ _ _ _ _ h2 (ix2 i j)
    exact real_of_lt _ e
  · have e := Host.reduce_andi_all _ _ _ _ _ h3 (ix2 0 j)
    exact real_of_lt _ e

end Cert.Proof
end
-- ==== Proof.Attn.lean ====
module

public import proofs.«01_k».proof.Defs
public import proofs.«01_k».proof.Proof.Gen.ReferenceIdeal.Run
public import proofs.«01_k».proof.Proof.KerFin
public import proofs.«01_k».proof.Proof.RefOut
public import proofs.«01_k».proof.Proof.Finite

@[expose] public section

/-!
The attention's backward pass: from real arguments the kernel and the reference end with equal results.
-/

set_option maxRecDepth 16384

noncomputable section

namespace Cert.Proof

open Idealize.ShloMosaic Idealize.ShloMosaic.TcCoe Idealize.SL.Sem

/-- The real numbers a device's arguments are. -/
def dataOf (m : (ℓ : Loc Cert.KernelIdeal.nD Cert.KernelIdeal.τ Cert.KernelIdeal.sig) → Buf (Elt Ideal) ℓ) (c : Dev Cert.KernelIdeal.nD) : Data where
  x i j := if h : i < 2048 ∧ j < 3840 then
    ((m ((c.tc : Thread Cert.KernelIdeal.nD Cert.KernelIdeal.τ).loc Cert.KernelIdeal.main_arg0) : FVec Ideal ⟨2, ![2048, 3840]⟩ .bf16) (ix2 ⟨i, h.1⟩ ⟨j, h.2⟩)).toReal else 0
  d i j := if h : i < 2048 ∧ j < 512 then
    ((m ((c.tc : Thread Cert.KernelIdeal.nD Cert.KernelIdeal.τ).loc Cert.KernelIdeal.main_arg1) : FVec Ideal ⟨2, ![2048, 512]⟩ .bf16) (ix2 ⟨i, h.1⟩ ⟨j, h.2⟩)).toReal else 0
  s j := if h : j < 8 then
    ((m ((c.tc : Thread Cert.KernelIdeal.nD Cert.KernelIdeal.τ).loc Cert.KernelIdeal.main_arg2) : FVec Ideal ⟨2, ![1, 8]⟩ .f32) (ix2 0 ⟨j, h⟩)).toReal else 0

variable {m : (ℓ : Loc Cert.KernelIdeal.nD Cert.KernelIdeal.τ Cert.KernelIdeal.sig) → Buf (Elt Ideal) ℓ}

/-- The precondition makes the kernel's arguments real. -/
theorem reals_of (h : Cert.Pre_KernelIdeal_all_finite m) (c : Dev Cert.KernelIdeal.nD) : KernelIdeal.Reals m (dataOf m c) c := by
  obtain ⟨h1, h2, h3⟩ := finite_of _ _ _ (h c)
  refine ⟨fun i j hj => (h1 i j hj).trans ?_, fun i j => (h2 i j).trans ?_, fun j => (h3 j).trans ?_⟩
  · simp only [dataOf, dif_pos (show i.val < 2048 ∧ j.val < 3840 from ⟨i.isLt, j.isLt⟩)]
  · simp only [dataOf, dif_pos (show i.val < 2048 ∧ j.val < 512 from ⟨i.isLt, j.isLt⟩)]
  · simp only [dataOf, dif_pos j.isLt]

/-- Equal results of the attention's gradient and of the reference's. -/
theorem attn_algebraic : Cert.algebraic_KernelIdeal_ReferenceIdeal_pre_all_finite := by
  intro m g m' g' hp hm
  have H := reals_of hp
  refine ⟨_, _, KernelIdeal.value_run g (fun c => dataOf m c) H, (θ_run _ _ _).mono (fun r h c => ?_) (Cert.ReferenceIdeal.Value.run (F := Ideal) m' g')⟩
  obtain ⟨e0, e1, e2⟩ := hm c
  have A : ReferenceIdeal.Args (dataOf m c) (StableHlo.launchContents m' c) :=
    ⟨fun i j hj => (congrFun e0 _).trans ((H c).x i j hj), fun i j => (congrFun e1 _).trans ((H c).d i j), fun j => (congrFun e2 _).trans ((H c).s j)⟩
  obtain ⟨r0, r1, r2, r3, r4⟩ := h c
  refine ⟨r0.trans (funext fun i => ?_), r1.trans (funext fun i => ?_), r2, r3, r4⟩
  · obtain ⟨a, b, rfl⟩ : ∃ (a : Fin 2048) (b : Fin 768), i = ix2 a b := ⟨i 0, i 1, by funext k; match k with | ⟨0, _⟩ => rfl | ⟨1, _⟩ => rfl⟩
    exact ReferenceIdeal.dx_apply A a b
  · obtain ⟨b, rfl⟩ : ∃ b : Fin 128, i = ix2 0 b :=
      ⟨i 1, by funext k; match k with | ⟨0, _⟩ => exact Subsingleton.elim (α := Fin 1) _ _ | ⟨1, _⟩ => rfl⟩
    exact ReferenceIdeal.ds_apply A b

end Cert.Proof
end
-- ==== Proof.Reals.lean ====
module

public import proofs.«01_k».proof.Proof.Consts
public import proofs.«01_k».proof.Proof.Finite
public import Idealize.ShloMosaic.Lib.ReduceAll
public import Idealize.ShloMosaic.Lib.Pointwise

@[expose] public section

/-!
Real numbers among the extended reals: sums and products of real numbers are real, and an array whose every
size is below infinity is an array of real numbers.
-/

noncomputable section

namespace Cert.Proof

open Idealize.ShloMosaic

/-- An extended real that is a real number. -/
def IsReal (x : EReal) : Prop := ∃ r : ℝ, x = (r : EReal)

/-- A sum of two real numbers. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two real numbers. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A difference of two real numbers. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A finite sum of real numbers is real. -/
theorem IsReal.sum {ι : Type} [Fintype ι] {f : ι → EReal} (h : ∀ k, IsReal (f k)) : IsReal (∑ k, f k) := by
  choose g hg using h
  exact ⟨∑ k, g k, (Finset.sum_congr rfl fun k _ => hg k).trans (coe_sum _ g).symm⟩

/-- An extended real whose size is below infinity is a real number. -/
theorem isReal_of_lt (x : EReal) (h : Ideal.cmp .olt (max x (-x)) (Ideal.ofBits .f32 0x7F800000#32) = 1#1) : IsReal x :=
  ⟨x.toReal, real_of_lt x h⟩

end Cert.Proof
end
-- ==== Proof.FfnDownBwd.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import proofs.«01_k».proof.Proof.Reals

@[expose] public section

/-!
The backward of the feed-forward layer's second projection and of its gated product.
-/

set_option maxRecDepth 16384

noncomputable section

namespace Cert.Proof.Call2

open Idealize.ShloMosaic Idealize.ShloMosaic.TcCoe Idealize.SL.Sem

/-- The side conditions of the precondition's operations. -/
instance finiteFacts : Cert.Pre_finite_ffn_down_bwd.Facts where
  bitsLt_bf16_f32 := by decide
  bcast_S_S2048x1024 := by decide
  reducesTo_S2048x1024_S_d0_1 := by decide
  h_S_ := by decide
  bcast_S_S2816x1024 := by decide
  reducesTo_S2816x1024_S_d0_1 := by decide
  bcast_S_S2048x2816 := by decide
  reducesTo_S2048x2816_S_d0_1 := by decide

/-- What the precondition says: the gradient coming in, the weights and the gated half are real. -/
theorem finite_of (a0 : FVec Ideal Cert.Pre_finite_ffn_down_bwd.S2048x1024 .bf16) (a1 : FVec Ideal Cert.Pre_finite_ffn_down_bwd.S2816x1024 .bf16)
    (a2 a3 : FVec Ideal Cert.Pre_finite_ffn_down_bwd.S2048x2816 .bf16) (h : Cert.Pre_finite_ffn_down_bwd.fn (F := Ideal) a0 a1 a2 a3 = fun _ => 1#1) :
    (∀ i, IsReal (a0 i)) ∧ (∀ i, IsReal (a1 i)) ∧ ∀ i, IsReal (a3 i) := by
  haveI : Subsingleton Cert.Pre_finite_ffn_down_bwd.S_.Idx := ⟨fun x y => funext fun k => k.elim0⟩
  obtain ⟨h1, h3⟩ := IntOp.andi_eq_one.1 (congrFun h ix0)
  obtain ⟨h1, h2⟩ := IntOp.andi_eq_one.1 h1
  exact ⟨fun i => isReal_of_lt _ (Host.reduce_andi_all _ _ _ _ _ h1 i), fun i => isReal_of_lt _ (Host.reduce_andi_all _ _ _ _ _ h2 i),
    fun i => isReal_of_lt _ (Host.reduce_andi_all _ _ _ _ _ h3 i)⟩

/-- The derivative of the gated product, in the two forms the programs compute it: equal where `u`, the gradient against the gated
    half, is real; the gate may be infinite. -/
theorem gate_law (u g : EReal) (hu : IsReal u) :
    u * Ideal.logistic g + g * u * (Ideal.logistic g * (1 - Ideal.logistic g)) = u * Ideal.logistic g * (1 + g * (1 - Ideal.logistic g)) := by
  obtain ⟨r, rfl⟩ := hu
  induction g using EReal.rec with
  | bot => simp
  | top =>
    have e : (1 : EReal) - 1 = 0 := EReal.sub_self (EReal.coe_ne_top 1) (EReal.coe_ne_bot 1)
    simp [e]
  | coe x =>
    rw [Ideal.logistic_coe]
    have e : (1 : EReal) = ((1 : ℝ) : EReal) := rfl
    rw [e]
    simp only [← EReal.coe_sub, ← EReal.coe_mul, ← EReal.coe_add]
    congr 1
    ring

section Reference

open Cert.Reference2Ideal Cert.Reference2Ideal.Gen

/-- A gradient of the gated product: a row against a weight row. -/
def acc (a0 : FVec Ideal S2048x1024 .bf16) (a1 : FVec Ideal S2816x1024 .bf16) (i : S2048x2816.Idx) : EReal :=
  ∑ k : Fin 1024, a0 (ix2 (i 0) k) * a1 (ix2 (i 1) k)

/-- The gradient of the gates. -/
def wantGate (a0 : FVec Ideal S2048x1024 .bf16) (a1 : FVec Ideal S2816x1024 .bf16) (a2 : FVec Ideal S2048x2816 .bf16) (a3 : FVec Ideal S2048x2816 .bf16) : FVec Ideal S2048x2816 .bf16 :=
  fun i => acc a0 a1 i * a3 i * Ideal.logistic (a2 i) * (1 + a2 i * (1 - Ideal.logistic (a2 i)))

/-- The gradient of the gated half. -/
def wantUp (a0 : FVec Ideal S2048x1024 .bf16) (a1 : FVec Ideal S2816x1024 .bf16) (a2 : FVec Ideal S2048x2816 .bf16) (a3 : FVec Ideal S2048x2816 .bf16) : FVec Ideal S2048x2816 .bf16 :=
  fun i => acc a0 a1 i * a2 i * Ideal.logistic (a2 i)

/-- The reference's result 0. -/
theorem reference_wantGate (a0 : FVec Ideal S2048x1024 .bf16) (a1 : FVec Ideal S2816x1024 .bf16) (a2 : FVec Ideal S2048x2816 .bf16) (a3 : FVec Ideal S2048x2816 .bf16) (h0 : ∀ i, IsReal (a0 i)) (h1 : ∀ i, IsReal (a1 i)) (h3 : ∀ i, IsReal (a3 i)) :
    (truncf .bf16 (addf (mulf (mulf (Host.dotGeneral dot_S2048x1024_S2816x1024_S2048x2816_1_1_0_0_n_n none (extf .f32 a0 bitsLt_bf16_f32) (extf .f32 a1 bitsLt_bf16_f32)) (extf .f32 a3 bitsLt_bf16_f32)) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (extf .f32 a2 bitsLt_bf16_f32)))))) (mulf (mulf (extf .f32 a2 bitsLt_bf16_f32) (mulf (Host.dotGeneral dot_S2048x1024_S2816x1024_S2048x2816_1_1_0_0_n_n none (extf .f32 a0 bitsLt_bf16_f32) (extf .f32 a1 bitsLt_bf16_f32)) (extf .f32 a3 bitsLt_bf16_f32))) (mulf (Host.divf (broadcastInDim S2048x2816 ![] bcast_S_S2048x2816 (constant S_ .f32 0x3F800000#32)) (addf (broadcastInDim S2048x2816 ![] bcast_S_S2048x2816 (constant S_ .f32 0x3F800000#32)) (Host.exp (Host.negf (extf .f32 a2 bitsLt_bf16_f32))))) (subf (broadcastInDim S2048x2816 ![] bcast_S_S2048x2816 (constant S_ .f32 0x3F800000#32)) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (extf .f32 a2 bitsLt_bf16_f32))))))))) bitsLt_bf16_f32 : FVec Ideal S2048x2816 .bf16) = wantGate a0 a1 a2 a3 := by
  funext i
  unfold wantGate acc
  pointwise
  exact gate_law _ _ ((IsReal.sum fun k => (h0 _).mul (h1 _)).mul (h3 i))

/-- The reference's result 1. -/
theorem reference_wantUp (a0 : FVec Ideal S2048x1024 .bf16) (a1 : FVec Ideal S2816x1024 .bf16) (a2 : FVec Ideal S2048x2816 .bf16) (a3 : FVec Ideal S2048x2816 .bf16) :
    (truncf .bf16 (mulf (mulf (extf .f32 a2 bitsLt_bf16_f32) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (extf .f32 a2 bitsLt_bf16_f32)))))) (Host.dotGeneral dot_S2048x1024_S2816x1024_S2048x2816_1_1_0_0_n_n none (extf .f32 a0 bitsLt_bf16_f32) (extf .f32 a1 bitsLt_bf16_f32))) bitsLt_bf16_f32 : FVec Ideal S2048x2816 .bf16) = wantUp a0 a1 a2 a3 := by
  funext i
  unfold wantUp acc
  pointwise
  exact (mul_comm _ _).trans (mul_assoc (_ : EReal) _ _).symm

end Reference

open Cert.Kernel2Ideal Cert.Kernel2Ideal.Gen

variable (m : (ℓ : Loc nD τ sig) → Buf (Elt Ideal) ℓ)

/-- Where the grid's points read and write. -/
theorem idx : ∀ t : Fin cfg0.N, win0_0.index t = ![t.val % 2, 0] ∧ win0_1.index t = ![t.val / 2, 0] ∧ win0_2.index t = ![t.val % 2, t.val / 2] ∧ win0_3.index t = ![t.val % 2, t.val / 2] ∧ win0_4.index t = ![t.val % 2, t.val / 2] ∧ win0_5.index t = ![t.val % 2, t.val / 2] :=
  (by decide +kernel : ∀ t : Fin grid0.N, _)

/-- The kernel's result 0 after the run. -/
theorem final_wantGate (c : Dev nD) : (dats m 0 c).arrAt 4 (cfgs 0).N = wantGate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  unfold wantGate acc
  pointwise [k0_pay4, k0_pay1, k0_pay3, k0_pay2]
  blk_point [iblk, V, idx t]

/-- The kernel's result 1 after the run. -/
theorem final_wantUp (c : Dev nD) : (dats m 0 c).arrAt 5 (cfgs 0).N = wantUp (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  unfold wantUp acc
  pointwise [k0_pay5, k0_pay1, k0_pay2, k0_pay3]
  blk_point [iblk, V, idx t]

/-- The kernel's results are the reference's. -/
theorem algebraic : Cert.algebraic_Kernel2Ideal_Reference2Ideal_pre_finite_ffn_down_bwd := by
  intro m g m' g' hp hm
  refine ⟨_, _, Cert.Kernel2Ideal.Value.run_blocks m g, (θ_run _ _ _).mono (fun r h c => ?_) (Cert.Reference2Ideal.Value.run (F := Ideal) m' g')⟩
  obtain ⟨e0, e1, e2, e3⟩ := hm c
  obtain ⟨f0, f1, f3⟩ := finite_of _ _ _ _ (hp c)
  refine ⟨(h c).1.trans ?_, (h c).2.1.trans ?_, (h c).2.2⟩
  · rw [e0, e1, e2, e3]
    exact (reference_wantGate _ _ _ _ f0 f1 f3).trans (final_wantGate m c).symm
  · rw [e0, e1, e2]
    exact (reference_wantUp _ _ _ (m ((c : Thread nD τ).loc main_arg3))).trans (final_wantUp m c).symm

/-- The reference's runs end with the arguments as they were. -/
theorem reference_frame : Cert.quiescent_Reference2Ideal := fun m g _ =>
  (θ_run _ _ _).mono (fun r h => ⟨fun c => (h c).2.2, sem_eq_zero_of_no_sems (by decide) r.2⟩) (Cert.Reference2Ideal.Value.run (F := Ideal) m g)

end Cert.Proof.Call2
end
-- ==== Proof.FfnInDw.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

/-!
The weight gradient of the feed-forward layer's first projection, and the column sums of its cotangents. The kernel
reads the gates' and the other half's cotangents one after the other; the reference lays them side by side.
-/

set_option maxRecDepth 16384

noncomputable section

namespace Cert.Proof.Call3

open Cert.Kernel3Ideal Cert.Kernel3Ideal.Gen
open Idealize.ShloMosaic Idealize.ShloMosaic.TcCoe Idealize.SL.Sem

variable (m : (ℓ : Loc nD τ sig) → Buf (Elt Ideal) ℓ)

/-- The cotangents side by side: the gates' and then the other half's. -/
def side (a b : FVec Ideal S2048x2816 .bf16) (k : Fin 2048) (r : Fin 5632) : EReal :=
  if h : r.val < 2816 then a (ix2 k ⟨r.val, h⟩) else b (ix2 k ⟨r.val - 2816, by omega⟩)

/-- The weight gradient. -/
def want (a b : FVec Ideal S2048x2816 .bf16) (x : FVec Ideal S2048x1024 .bf16) : FVec Ideal S5632x1024 .bf16 :=
  fun i => ∑ k : Fin 2048, side a b k (i 0) * x (ix2 k (i 1))

/-- The column sums. -/
def wantSum (a b : FVec Ideal S2048x2816 .bf16) : FVec Ideal S1x5632 .f32 :=
  fun i => ∑ k : Fin 2048, side a b k (i 1)

/-- Where the grid's points read and write. -/
theorem idx : ∀ t : Fin cfg0.N, win0_0.index t = ![0, min t.val 1] ∧ win0_1.index t = ![0, t.val - 2] ∧ win0_2.index t = ![0, 0]
    ∧ win0_3.index t = ![t.val, 0] ∧ win0_4.index t = ![0, t.val] :=
  (by decide +kernel : ∀ t : Fin grid0.N, _)

/-- A block of the gates' half. -/
theorem point_A (c : Dev nD) (t : Fin cfg0.N) (ht : t.val < 2) (y) : k0_pay1 (F := Ideal) (iblk m c 0 t) (iblk m c 2 t) y
    = want (m ((c : Thread nD τ).loc main_arg0)) (m ((c : Thread nD τ).loc main_arg1)) (m ((c : Thread nD τ).loc main_arg2)) (((cfg0.win 3).blk t).view.emb y) := by
  unfold want side
  pointwise [k0_pay1]
  blk_point [iblk, V, idx t]
  rename_i h _ _
  exfalso
  blk_simp [idx t] at h
  omega

/-- A block of the other half. -/
theorem point_B (c : Dev nD) (t : Fin cfg0.N) (ht : 2 ≤ t.val) (y) : k0_pay3 (F := Ideal) (iblk m c 1 t) (iblk m c 2 t) y
    = want (m ((c : Thread nD τ).loc main_arg0)) (m ((c : Thread nD τ).loc main_arg1)) (m ((c : Thread nD τ).loc main_arg2)) (((cfg0.win 3).blk t).view.emb y) := by
  unfold want side
  pointwise [k0_pay3]
  blk_point [iblk, V, idx t]
  rename_i h _ _
  exfalso
  blk_simp [idx t] at h
  omega

/-- Column sums of the gates' half. -/
theorem sum_A (c : Dev nD) (t : Fin cfg0.N) (ht : t.val < 2) (y) : k0_pay2 (F := Ideal) (iblk m c 0 t) y
    = wantSum (m ((c : Thread nD τ).loc main_arg0)) (m ((c : Thread nD τ).loc main_arg1)) (((cfg0.win 4).blk t).view.emb y) := by
  unfold wantSum side
  pointwise [k0_pay2]
  blk_point [iblk, V, idx t]
  rename_i h _ _
  exfalso
  blk_simp [idx t] at h
  omega

/-- Column sums of the other half. -/
theorem sum_B (c : Dev nD) (t : Fin cfg0.N) (ht : 2 ≤ t.val) (y) : k0_pay4 (F := Ideal) (iblk m c 1 t) y
    = wantSum (m ((c : Thread nD τ).loc main_arg0)) (m ((c : Thread nD τ).loc main_arg1)) (((cfg0.win 4).blk t).view.emb y) := by
  unfold wantSum side
  pointwise [k0_pay4]
  blk_point [iblk, V, idx t]
  rename_i h _ _
  exfalso
  blk_simp [idx t] at h
  omega

/-- The kernel's weight gradient after the run. -/
theorem final (c : Dev nD) : (dats m 0 c).arrAt 3 (cfgs 0).N
    = want (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases ht : t.val < 2
  · rw [outsAt0_A m c t ht (by omega)]; frame_out
    exact point_A m c t ht y
  · rw [outsAt0_B m c t ht (by omega)]; frame_out
    exact point_B m c t (by omega) y

/-- The kernel's column sums after the run. -/
theorem final_sum (c : Dev nD) : (dats m 0 c).arrAt 4 (cfgs 0).N
    = wantSum (m ((c : Thread nD τ).loc main_arg0)) (m ((c : Thread nD τ).loc main_arg1)) := by
  refine (dats m 0 c).arrAt_eq_of_covers 4 _ (by decide +kernel) fun t _ y => ?_
  blk_simp
  rw [after0_4]
  by_cases ht : t.val < 2
  · rw [outsAt0_A m c t ht (by omega)]; frame_out
    exact sum_A m c t ht y
  · rw [outsAt0_B m c t ht (by omega)]; frame_out
    exact sum_B m c t (by omega) y

open Cert.Reference3Ideal (S_ S5632 dot_S2048x5632_S2048x1024_S5632x1024_0_0_1_1_n_n) in
open Cert.Reference3Ideal.Gen (h_S_ concatenates_S2048x2816_S2048x2816_S2048x5632_d1 transposes_S5632x1024_S1024x5632_1_0 transposes_S1024x5632_S5632x1024_1_0) in
/-- The reference's weight gradient. -/
theorem reference_value (a b : FVec Ideal S2048x2816 .bf16) (x : FVec Ideal S2048x1024 .bf16) :
    (truncf .bf16 (transpose S5632x1024 [1, 0] (transpose Cert.Reference3Ideal.S1024x5632 [1, 0] (Host.dotGeneral dot_S2048x5632_S2048x1024_S5632x1024_0_0_1_1_n_n none (extf .f32 (concatenate Cert.Reference3Ideal.S2048x5632 1 [⟨S2048x2816, a⟩, ⟨S2048x2816, b⟩] concatenates_S2048x2816_S2048x2816_S2048x5632_d1) bitsLt_bf16_f32) (extf .f32 x bitsLt_bf16_f32)) transposes_S5632x1024_S1024x5632_1_0) transposes_S1024x5632_S5632x1024_1_0) bitsLt_bf16_f32
      : FVec Ideal S5632x1024 .bf16) = want a b x := by
  funext i
  unfold want side
  pointwise

open Cert.Reference3Ideal (S_ S5632) in
open Cert.Reference3Ideal.Gen (h_S_ concatenates_S2048x2816_S2048x2816_S2048x5632_d1 bcast_S5632_S1x5632_1 shapeCasts_S5632_S1x5632 reducesTo_S2048x5632_S5632_d0 reducesTo_S1x5632_S5632_d0) in
/-- The reference's column sums. -/
theorem reference_sum (a b : FVec Ideal S2048x2816 .bf16) :
    (broadcastInDim S1x5632 ![1] bcast_S5632_S1x5632_1 (Host.reduceAdd (shapeCast _ (Host.reduceAdd (extf .f32 (concatenate Cert.Reference3Ideal.S2048x5632 1 [⟨S2048x2816, a⟩, ⟨S2048x2816, b⟩] concatenates_S2048x2816_S2048x2816_S2048x5632_d1) bitsLt_bf16_f32) (constant S_ .f32 0x00000000#32) reducesTo_S2048x5632_S5632_d0 h_S_) shapeCasts_S5632_S1x5632) (constant S_ .f32 0x00000000#32) reducesTo_S1x5632_S5632_d0 h_S_)
      : FVec Ideal S1x5632 .f32) = wantSum a b := by
  funext i
  unfold wantSum side
  pointwise
  exact Fin.sum_univ_one _

/-- The kernel's results are the reference's. -/
theorem algebraic : Cert.algebraic_Kernel3Ideal_Reference3Ideal := by
  intro m g m' g' _ hm
  refine ⟨_, _, Cert.Kernel3Ideal.Value.run_blocks m g, (θ_run _ _ _).mono (fun r h c => ?_) (Cert.Reference3Ideal.Value.run (F := Ideal) m' g')⟩
  obtain ⟨e0, e1, e2⟩ := hm c
  refine ⟨(h c).1.trans ?_, (h c).2.1.trans ?_, (h c).2.2⟩
  · rw [e0, e1, e2]
    exact (reference_value _ _ _).trans (final m c).symm
  · rw [e0, e1]
    exact (reference_sum _ _).trans (final_sum m c).symm

/-- The reference's runs end with the arguments as they were. -/
theorem reference_frame : Cert.quiescent_Reference3Ideal := fun m g _ =>
  (θ_run _ _ _).mono (fun r h => ⟨fun c => (h c).2.2, sem_eq_zero_of_no_sems (by decide) r.2⟩) (Cert.Reference3Ideal.Value.run (F := Ideal) m g)

end Cert.Proof.Call3
end
-- ==== Proof.ProjInDw.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

/-!
The weight and bias gradients of the input projection. The kernel reads the cotangents of the attention, of the
convolution and of the two gates one after the other; the reference lays them side by side.
-/

set_option maxRecDepth 16384

noncomputable section

namespace Cert.Proof.Call4

open Cert.Kernel4Ideal Cert.Kernel4Ideal.Gen
open Idealize.ShloMosaic Idealize.ShloMosaic.TcCoe Idealize.SL.Sem

variable (m : (ℓ : Loc nD τ sig) → Buf (Elt Ideal) ℓ)

/-- The four cotangents side by side. -/
def side (a : FVec Ideal S2048x768 .bf16) (b d e : FVec Ideal S2048x1024 .bf16) (k : Fin 2048) (r : Fin 3840) : EReal :=
  if h : r.val < 768 then a (ix2 k ⟨r.val, h⟩)
  else if h : r.val - 768 < 1024 then b (ix2 k ⟨r.val - 768, h⟩)
  else if h : r.val - 768 - 1024 < 1024 then d (ix2 k ⟨r.val - 768 - 1024, h⟩)
  else e (ix2 k ⟨r.val - 768 - 1024 - 1024, by omega⟩)

/-- The weight gradient. -/
def want (a : FVec Ideal S2048x768 .bf16) (b d e : FVec Ideal S2048x1024 .bf16) (x : FVec Ideal S2048x1024 .bf16) : FVec Ideal S3840x1024 .bf16 :=
  fun i => ∑ k : Fin 2048, side a b d e k (i 0) * x (ix2 k (i 1))

/-- The bias gradient. -/
def wantSum (a : FVec Ideal S2048x768 .bf16) (b d e : FVec Ideal S2048x1024 .bf16) : FVec Ideal S1x3840 .f32 :=
  fun i => ∑ k : Fin 2048, side a b d e k (i 1)

/-- Where the grid's points read and write. -/
theorem idx : ∀ t : Fin cfg0.N, win0_0.index t = ![0, min t.val 2] ∧ win0_1.index t = ![0, min (t.val - 3) 3]
    ∧ win0_2.index t = ![0, min (t.val - 7) 3] ∧ win0_3.index t = ![0, t.val - 11] ∧ win0_4.index t = ![0, 0]
    ∧ win0_5.index t = ![t.val, 0] ∧ win0_6.index t = ![0, t.val] :=
  (by decide +kernel : ∀ t : Fin grid0.N, _)

variable (a : FVec Ideal S2048x768 .bf16) (b d e : FVec Ideal S2048x1024 .bf16) (x : FVec Ideal S2048x1024 .bf16)

/-- Rows of the attention's columns. -/
theorem want_A (i : S3840x1024.Idx) (h : (i 0).val < 768) :
    want a b d e x i = ∑ k : Fin 2048, a (ix2 k ⟨(i 0).val, h⟩) * x (ix2 k (i 1)) := by
  unfold want side
  simp only [dif_pos h]

/-- Sums of the attention's columns. -/
theorem wantSum_A (i : S1x3840.Idx) (h : (i 1).val < 768) :
    wantSum a b d e i = ∑ k : Fin 2048, a (ix2 k ⟨(i 1).val, h⟩) := by
  unfold wantSum side
  simp only [dif_pos h]

/-- Rows of the convolution's columns. -/
theorem want_B (i : S3840x1024.Idx) (h1 : ¬(i 0).val < 768) (h : (i 0).val - 768 < 1024) :
    want a b d e x i = ∑ k : Fin 2048, b (ix2 k ⟨(i 0).val - 768, h⟩) * x (ix2 k (i 1)) := by
  unfold want side
  simp only [dif_neg h1, dif_pos h]

/-- Sums of the convolution's columns. -/
theorem wantSum_B (i : S1x3840.Idx) (h1 : ¬(i 1).val < 768) (h : (i 1).val - 768 < 1024) :
    wantSum a b d e i = ∑ k : Fin 2048, b (ix2 k ⟨(i 1).val - 768, h⟩) := by
  unfold wantSum side
  simp only [dif_neg h1, dif_pos h]

/-- Rows of the first gate's columns. -/
theorem want_C (i : S3840x1024.Idx) (h1 : ¬(i 0).val < 768) (h2 : ¬(i 0).val - 768 < 1024) (h : (i 0).val - 768 - 1024 < 1024) :
    want a b d e x i = ∑ k : Fin 2048, d (ix2 k ⟨(i 0).val - 768 - 1024, h⟩) * x (ix2 k (i 1)) := by
  unfold want side
  simp only [dif_neg h1, dif_neg h2, dif_pos h]

/-- Sums of the first gate's columns. -/
theorem wantSum_C (i : S1x3840.Idx) (h1 : ¬(i 1).val < 768) (h2 : ¬(i 1).val - 768 < 1024) (h : (i 1).val - 768 - 1024 < 1024) :
    wantSum a b d e i = ∑ k : Fin 2048, d (ix2 k ⟨(i 1).val - 768 - 1024, h⟩) := by
  unfold wantSum side
  simp only [dif_neg h1, dif_neg h2, dif_pos h]

/-- Rows of the second gate's columns. -/
theorem want_D (i : S3840x1024.Idx) (h1 : ¬(i 0).val < 768) (h2 : ¬(i 0).val - 768 < 1024) (h3 : ¬(i 0).val - 768 - 1024 < 1024) (h : (i 0).val - 768 - 1024 - 1024 < 1024) :
    want a b d e x i = ∑ k : Fin 2048, e (ix2 k ⟨(i 0).val - 768 - 1024 - 1024, h⟩) * x (ix2 k (i 1)) := by
  unfold want side
  simp only [dif_neg h1, dif_neg h2, dif_neg h3]

/-- Sums of the second gate's columns. -/
theorem wantSum_D (i : S1x3840.Idx) (h1 : ¬(i 1).val < 768) (h2 : ¬(i 1).val - 768 < 1024) (h3 : ¬(i 1).val - 768 - 1024 < 1024) (h : (i 1).val - 768 - 1024 - 1024 < 1024) :
    wantSum a b d e i = ∑ k : Fin 2048, e (ix2 k ⟨(i 1).val - 768 - 1024 - 1024, h⟩) := by
  unfold wantSum side
  simp only [dif_neg h1, dif_neg h2, dif_neg h3]

/-- A block of the attention's columns. -/
theorem point_A (c : Dev nD) (t : Fin cfg0.N) (ht : t.val < 3) (y) : k0_pay1 (F := Ideal) (iblk m c 0 t) (iblk m c 4 t) y
    = want (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have hN : t.val < 15 := lt_of_lt_of_eq t.isLt N_0
  have hy : (y 0).val < 256 := (y 0).isLt
  refine Eq.trans ?_ (want_A _ _ _ _ _ _ (by blk_simp [idx t]; omega)).symm
  pointwise [k0_pay1]
  blk_point [iblk, V, idx t]

/-- Column sums of the attention's columns. -/
theorem sum_A (c : Dev nD) (t : Fin cfg0.N) (ht : t.val < 3) (y) : k0_pay2 (F := Ideal) (iblk m c 0 t) y
    = wantSum (m ((c : Thread nD τ).loc main_arg0)) (m ((c : Thread nD τ).loc main_arg1)) (m ((c : Thread nD τ).loc main_arg2)) (m ((c : Thread nD τ).loc main_arg3)) (((cfg0.win 6).blk t).view.emb y) := by
  have hN : t.val < 15 := lt_of_lt_of_eq t.isLt N_0
  have hy : (y 1).val < 256 := (y 1).isLt
  refine Eq.trans ?_ (wantSum_A _ _ _ _ _ (by blk_simp [idx t]; omega)).symm
  pointwise [k0_pay2]
  blk_point [iblk, V, idx t]

/-- A block of the convolution's columns. -/
theorem point_B (c : Dev nD) (t : Fin cfg0.N) (ht : 3 ≤ t.val ∧ t.val ≤ 6) (y) : k0_pay3 (F := Ideal) (iblk m c 1 t) (iblk m c 4 t) y
    = want (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have hN : t.val < 15 := lt_of_lt_of_eq t.isLt N_0
  have hy : (y 0).val < 256 := (y 0).isLt
  refine Eq.trans ?_ (want_B _ _ _ _ _ _ (by blk_simp [idx t]; omega) (by blk_simp [idx t]; omega)).symm
  pointwise [k0_pay3]
  blk_point [iblk, V, idx t]

/-- Column sums of the convolution's columns. -/
theorem sum_B (c : Dev nD) (t : Fin cfg0.N) (ht : 3 ≤ t.val ∧ t.val ≤ 6) (y) : k0_pay4 (F := Ideal) (iblk m c 1 t) y
    = wantSum (m ((c : Thread nD τ).loc main_arg0)) (m ((c : Thread nD τ).loc main_arg1)) (m ((c : Thread nD τ).loc main_arg2)) (m ((c : Thread nD τ).loc main_arg3)) (((cfg0.win 6).blk t).view.emb y) := by
  have hN : t.val < 15 := lt_of_lt_of_eq t.isLt N_0
  have hy : (y 1).val < 256 := (y 1).isLt
  refine Eq.trans ?_ (wantSum_B _ _ _ _ _ (by blk_simp [idx t]; omega) (by blk_simp [idx t]; omega)).symm
  pointwise [k0_pay4]
  blk_point [iblk, V, idx t]

/-- A block of the first gate's columns. -/
theorem point_C (c : Dev nD) (t : Fin cfg0.N) (ht : 7 ≤ t.val ∧ t.val ≤ 10) (y) : k0_pay5 (F := Ideal) (iblk m c 2 t) (iblk m c 4 t) y
    = want (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have hN : t.val < 15 := lt_of_lt_of_eq t.isLt N_0
  have hy : (y 0).val < 256 := (y 0).isLt
  refine Eq.trans ?_ (want_C _ _ _ _ _ _ (by blk_simp [idx t]; omega) (by blk_simp [idx t]; omega) (by blk_simp [idx t]; omega)).symm
  pointwise [k0_pay5]
  blk_point [iblk, V, idx t]

/-- Column sums of the first gate's columns. -/
theorem sum_C (c : Dev nD) (t : Fin cfg0.N) (ht : 7 ≤ t.val ∧ t.val ≤ 10) (y) : k0_pay6 (F := Ideal) (iblk m c 2 t) y
    = wantSum (m ((c : Thread nD τ).loc main_arg0)) (m ((c : Thread nD τ).loc main_arg1)) (m ((c : Thread nD τ).loc main_arg2)) (m ((c : Thread nD τ).loc main_arg3)) (((cfg0.win 6).blk t).view.emb y) := by
  have hN : t.val < 15 := lt_of_lt_of_eq t.isLt N_0
  have hy : (y 1).val < 256 := (y 1).isLt
  refine Eq.trans ?_ (wantSum_C _ _ _ _ _ (by blk_simp [idx t]; omega) (by blk_simp [idx t]; omega) (by blk_simp [idx t]; omega)).symm
  pointwise [k0_pay6]
  blk_point [iblk, V, idx t]

/-- A block of the second gate's columns. -/
theorem point_D (c : Dev nD) (t : Fin cfg0.N) (ht : 11 ≤ t.val) (y) : k0_pay7 (F := Ideal) (iblk m c 3 t) (iblk m c 4 t) y
    = want (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have hN : t.val < 15 := lt_of_lt_of_eq t.isLt N_0
  have hy : (y 0).val < 256 := (y 0).isLt
  refine Eq.trans ?_ (want_D _ _ _ _ _ _ (by blk_simp [idx t]; omega) (by blk_simp [idx t]; omega) (by blk_simp [idx t]; omega) (by blk_simp [idx t]; omega)).symm
  pointwise [k0_pay7]
  blk_point [iblk, V, idx t]

/-- Column sums of the second gate's columns. -/
theorem sum_D (c : Dev nD) (t : Fin cfg0.N) (ht : 11 ≤ t.val) (y) : k0_pay8 (F := Ideal) (iblk m c 3 t) y
    = wantSum (m ((c : Thread nD τ).loc main_arg0)) (m ((c : Thread nD τ).loc main_arg1)) (m ((c : Thread nD τ).loc main_arg2)) (m ((c : Thread nD τ).loc main_arg3)) (((cfg0.win 6).blk t).view.emb y) := by
  have hN : t.val < 15 := lt_of_lt_of_eq t.isLt N_0
  have hy : (y 1).val < 256 := (y 1).isLt
  refine Eq.trans ?_ (wantSum_D _ _ _ _ _ (by blk_simp [idx t]; omega) (by blk_simp [idx t]; omega) (by blk_simp [idx t]; omega) (by blk_simp [idx t]; omega)).symm
  pointwise [k0_pay8]
  blk_point [iblk, V, idx t]

/-- The kernel's weight gradient after the run. -/
theorem final (c : Dev nD) : (dats m 0 c).arrAt 5 (cfgs 0).N
    = want (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have hN : t.val < 15 := lt_of_lt_of_eq t.isLt N_0
  blk_simp
  rw [after0_5]
  by_cases h0 : t.val < 3
  · rw [outsAt0_A m c t h0 (by omega) (by omega) (by omega)]; frame_out
    exact point_A m c t h0 y
  by_cases h1 : t.val ≤ 6
  · rw [outsAt0_B m c t h0 (by omega) (by omega) (by omega)]; frame_out
    exact point_B m c t ⟨by omega, h1⟩ y
  by_cases h2 : t.val ≤ 10
  · rw [outsAt0_C m c t h0 (by omega) (by omega) (by omega)]; frame_out
    exact point_C m c t ⟨by omega, h2⟩ y
  · rw [outsAt0_D m c t h0 (by omega) (by omega) (by omega)]; frame_out
    exact point_D m c t (by omega) y

/-- The kernel's bias gradient after the run. -/
theorem final_sum (c : Dev nD) : (dats m 0 c).arrAt 6 (cfgs 0).N
    = wantSum (m ((c : Thread nD τ).loc main_arg0)) (m ((c : Thread nD τ).loc main_arg1)) (m ((c : Thread nD τ).loc main_arg2)) (m ((c : Thread nD τ).loc main_arg3))  := by
  refine (dats m 0 c).arrAt_eq_of_covers 6 _ (by decide +kernel) fun t _ y => ?_
  have hN : t.val < 15 := lt_of_lt_of_eq t.isLt N_0
  blk_simp
  rw [after0_6]
  by_cases h0 : t.val < 3
  · rw [outsAt0_A m c t h0 (by omega) (by omega) (by omega)]; frame_out
    exact sum_A m c t h0 y
  by_cases h1 : t.val ≤ 6
  · rw [outsAt0_B m c t h0 (by omega) (by omega) (by omega)]; frame_out
    exact sum_B m c t ⟨by omega, h1⟩ y
  by_cases h2 : t.val ≤ 10
  · rw [outsAt0_C m c t h0 (by omega) (by omega) (by omega)]; frame_out
    exact sum_C m c t ⟨by omega, h2⟩ y
  · rw [outsAt0_D m c t h0 (by omega) (by omega) (by omega)]; frame_out
    exact sum_D m c t (by omega) y

open Cert.Reference4Ideal (S_ S3840 dot_S2048x3840_S2048x1024_S3840x1024_0_0_1_1_n_n) in
open Cert.Reference4Ideal.Gen (concatenates_S2048x768_S2048x1024_S2048x1024_S2048x1024_S2048x3840_d1 transposes_S3840x1024_S1024x3840_1_0 transposes_S1024x3840_S3840x1024_1_0) in
/-- The reference's weight gradient. -/
theorem reference_value :
    (truncf .bf16 (transpose S3840x1024 [1, 0] (transpose Cert.Reference4Ideal.S1024x3840 [1, 0] (Host.dotGeneral dot_S2048x3840_S2048x1024_S3840x1024_0_0_1_1_n_n none (extf .f32 (concatenate Cert.Reference4Ideal.S2048x3840 1 [⟨S2048x768, a⟩, ⟨S2048x1024, b⟩, ⟨S2048x1024, d⟩, ⟨S2048x1024, e⟩] concatenates_S2048x768_S2048x1024_S2048x1024_S2048x1024_S2048x3840_d1) bitsLt_bf16_f32) (extf .f32 x bitsLt_bf16_f32)) transposes_S3840x1024_S1024x3840_1_0) transposes_S1024x3840_S3840x1024_1_0) bitsLt_bf16_f32
      : FVec Ideal S3840x1024 .bf16) = want a b d e x := by
  funext i
  unfold want side
  pointwise

open Cert.Reference4Ideal (S_ S3840) in
open Cert.Reference4Ideal.Gen (h_S_ concatenates_S2048x768_S2048x1024_S2048x1024_S2048x1024_S2048x3840_d1 bcast_S3840_S1x3840_1 shapeCasts_S3840_S1x3840 reducesTo_S2048x3840_S3840_d0 reducesTo_S1x3840_S3840_d0) in
/-- The reference's bias gradient. -/
theorem reference_sum :
    (broadcastInDim S1x3840 ![1] bcast_S3840_S1x3840_1 (Host.reduceAdd (shapeCast _ (Host.reduceAdd (extf .f32 (concatenate Cert.Reference4Ideal.S2048x3840 1 [⟨S2048x768, a⟩, ⟨S2048x1024, b⟩, ⟨S2048x1024, d⟩, ⟨S2048x1024, e⟩] concatenates_S2048x768_S2048x1024_S2048x1024_S2048x1024_S2048x3840_d1) bitsLt_bf16_f32) (constant S_ .f32 0x00000000#32) reducesTo_S2048x3840_S3840_d0 h_S_) shapeCasts_S3840_S1x3840) (constant S_ .f32 0x00000000#32) reducesTo_S1x3840_S3840_d0 h_S_)
      : FVec Ideal S1x3840 .f32) = wantSum a b d e := by
  funext i
  unfold wantSum side
  pointwise
  exact Fin.sum_univ_one _

/-- The kernel's results are the reference's. -/
theorem algebraic : Cert.algebraic_Kernel4Ideal_Reference4Ideal := by
  intro m g m' g' _ hm
  refine ⟨_, _, Cert.Kernel4Ideal.Value.run_blocks m g, (θ_run _ _ _).mono (fun r h c => ?_) (Cert.Reference4Ideal.Value.run (F := Ideal) m' g')⟩
  obtain ⟨e0, e1, e2, e3, e4⟩ := hm c
  refine ⟨(h c).1.trans ?_, (h c).2.1.trans ?_, (h c).2.2⟩
  · rw [e0, e1, e2, e3, e4]
    exact (reference_value _ _ _ _ _).trans (final m c).symm
  · rw [e0, e1, e2, e3]
    exact (reference_sum _ _ _ _).trans (final_sum m c).symm

/-- The reference's runs end with the arguments as they were. -/
theorem reference_frame : Cert.quiescent_Reference4Ideal := fun m g _ =>
  (θ_run _ _ _).mono (fun r h => ⟨fun c => (h c).2.2, sem_eq_zero_of_no_sems (by decide) r.2⟩) (Cert.Reference4Ideal.Value.run (F := Ideal) m g)

end Cert.Proof.Call4
end
-- ==== Proof.FfnDownDw.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

/-!
The weight gradient of the down projection: every entry is the sum over the tokens of a hidden value times a cotangent.
-/

set_option maxRecDepth 16384

noncomputable section

namespace Cert.Proof.Call5

open Cert.Kernel5Ideal Cert.Kernel5Ideal.Gen
open Idealize.ShloMosaic Idealize.ShloMosaic.TcCoe Idealize.SL.Sem

variable (m : (ℓ : Loc nD τ sig) → Buf (Elt Ideal) ℓ)

/-- The weight gradient. -/
def want (a : FVec Ideal S2048x2816 .bf16) (d : FVec Ideal S2048x1024 .bf16) : FVec Ideal S2816x1024 .bf16 :=
  fun i => ∑ k : Fin 2048, a (ix2 k (i 0)) * d (ix2 k (i 1))

/-- Where the grid's points read and write. -/
theorem idx : ∀ t : Fin cfg0.N, win0_0.index t = ![0, t.val] ∧ win0_1.index t = ![0, 0] ∧ win0_2.index t = ![t.val, 0] :=
  (by decide +kernel : ∀ t : Fin grid0.N, _)

/-- The block a point writes. -/
theorem point (c : Dev nD) (t : Fin cfg0.N) (y) : k0_pay1 (F := Ideal) (iblk m c 1 t) (iblk m c 0 t) y
    = want (m ((c : Thread nD τ).loc main_arg0)) (m ((c : Thread nD τ).loc main_arg1)) (((cfg0.win 2).blk t).view.emb y) := by
  unfold want
  pointwise [k0_pay1]
  blk_point [iblk, V, idx t]

/-- The kernel's result array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference's result. -/
theorem reference_value (a : FVec Ideal S2048x2816 .bf16) (d : FVec Ideal S2048x1024 .bf16) :
    (truncf .bf16 (transpose Cert.Reference5Ideal.S2816x1024 [1, 0] (Host.dotGeneral Cert.Reference5Ideal.dot_S2048x1024_S2048x2816_S1024x2816_0_0_1_1_n_n none (extf .f32 d Cert.Reference5Ideal.Gen.bitsLt_bf16_f32) (extf .f32 a Cert.Reference5Ideal.Gen.bitsLt_bf16_f32)) Cert.Reference5Ideal.Gen.transposes_S1024x2816_S2816x1024_1_0) Cert.Reference5Ideal.Gen.bitsLt_bf16_f32
      : FVec Ideal S2816x1024 .bf16) = want a d := by
  funext i
  unfold want
  pointwise
  exact Finset.sum_congr rfl fun k _ => mul_comm _ _

/-- The kernel's results are the reference's. -/
theorem algebraic : Cert.algebraic_Kernel5Ideal_Reference5Ideal := by
  intro m g m' g' _ hm
  refine ⟨_, Cert.Kernel5Ideal.Value.run_blocks m g, (θ_run _ _ _).mono (fun r h c => ?_) (Cert.Reference5Ideal.Value.run (F := Ideal) m' g')⟩
  obtain ⟨e0, e1⟩ := hm c
  refine ⟨(h c).1.trans ?_, (h c).2⟩
  rw [e0, e1]
  exact (reference_value _ _).trans (final m c).symm

/-- The reference's runs end with the arguments as they were. -/
theorem reference_frame : Cert.quiescent_Reference5Ideal := fun m g _ =>
  (θ_run _ _ _).mono (fun r h => ⟨fun c => (h c).2, sem_eq_zero_of_no_sems (by decide) r.2⟩) (Cert.Reference5Ideal.Value.run (F := Ideal) m g)

end Cert.Proof.Call5
end
-- ==== Proof.FfnInSwiglu.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import proofs.«01_k».proof.Proof.Consts

@[expose] public section

/-!
The feed-forward layer's first projection and its gating: gate, other half, and the gated product.
-/

set_option maxRecDepth 16384

noncomputable section

namespace Cert.Proof.Call6

open Idealize.ShloMosaic Idealize.ShloMosaic.TcCoe Idealize.SL.Sem

section Reference

open Cert.Reference6Ideal Cert.Reference6Ideal.Gen

/-- A number of the projection: a token's row against a weight row. -/
def proj (x : FVec Ideal S2048x1024 .bf16) (w : FVec Ideal S5632x1024 .bf16) (i : Fin 2048) (r : Fin 5632) : EReal :=
  ∑ k : Fin 1024, x (ix2 i k) * w (ix2 r k)

/-- The gates before the sigmoid. -/
def wantGate (x : FVec Ideal S2048x1024 .bf16) (w : FVec Ideal S5632x1024 .bf16) : FVec Ideal S2048x2816 .bf16 :=
  fun i => proj x w (i 0) ⟨(i 1).val, lt_trans (i 1).isLt (by decide)⟩

/-- The gated half. -/
def wantUp (x : FVec Ideal S2048x1024 .bf16) (w : FVec Ideal S5632x1024 .bf16) : FVec Ideal S2048x2816 .bf16 :=
  fun i => proj x w (i 0) ⟨2816 + (i 1).val, Nat.add_lt_add_left (i 1).isLt 2816⟩

/-- The gated product. -/
def want (x : FVec Ideal S2048x1024 .bf16) (w : FVec Ideal S5632x1024 .bf16) : FVec Ideal S2048x2816 .bf16 :=
  fun i => wantGate x w i * FloatOps.logistic (F := Ideal) (φ := .f32) (wantGate x w i) * wantUp x w i

/-- The reference's gated product. -/
theorem reference_act (a0 : FVec Ideal S2048x1024 .bf16) (a1 : FVec Ideal S5632x1024 .bf16) :
    (truncf .bf16 (mulf (mulf (extractStridedSlice S2048x2816 ![0, 0] (Host.dotGeneral dot_S2048x1024_S1024x5632_S2048x5632_1_0_0_1_n_n none (extf .f32 a0 bitsLt_bf16_f32) (extf .f32 (transpose S1024x5632 [1, 0] a1 transposes_S5632x1024_S1024x5632_1_0) bitsLt_bf16_f32)) slices_S2048x5632_S2048x2816_0_0) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (extractStridedSlice S2048x2816 ![0, 0] (Host.dotGeneral dot_S2048x1024_S1024x5632_S2048x5632_1_0_0_1_n_n none (extf .f32 a0 bitsLt_bf16_f32) (extf .f32 (transpose S1024x5632 [1, 0] a1 transposes_S5632x1024_S1024x5632_1_0) bitsLt_bf16_f32)) slices_S2048x5632_S2048x2816_0_0)))))) (extractStridedSlice S2048x2816 ![0, 2816] (Host.dotGeneral dot_S2048x1024_S1024x5632_S2048x5632_1_0_0_1_n_n none (extf .f32 a0 bitsLt_bf16_f32) (extf .f32 (transpose S1024x5632 [1, 0] a1 transposes_S5632x1024_S1024x5632_1_0) bitsLt_bf16_f32)) slices_S2048x5632_S2048x2816_0_2816)) bitsLt_bf16_f32 : FVec Ideal S2048x2816 .bf16) = want a0 a1 := by
  funext i
  unfold want wantGate wantUp proj
  pointwise
  rfl

/-- The reference's gates. -/
theorem reference_gate (a0 : FVec Ideal S2048x1024 .bf16) (a1 : FVec Ideal S5632x1024 .bf16) :
    (truncf .bf16 (extractStridedSlice S2048x2816 ![0, 0] (Host.dotGeneral dot_S2048x1024_S1024x5632_S2048x5632_1_0_0_1_n_n none (extf .f32 a0 bitsLt_bf16_f32) (extf .f32 (transpose S1024x5632 [1, 0] a1 transposes_S5632x1024_S1024x5632_1_0) bitsLt_bf16_f32)) slices_S2048x5632_S2048x2816_0_0) bitsLt_bf16_f32 : FVec Ideal S2048x2816 .bf16) = wantGate a0 a1 := by
  funext i
  unfold wantGate proj
  pointwise

/-- The reference's gated half. -/
theorem reference_up (a0 : FVec Ideal S2048x1024 .bf16) (a1 : FVec Ideal S5632x1024 .bf16) :
    (truncf .bf16 (extractStridedSlice S2048x2816 ![0, 2816] (Host.dotGeneral dot_S2048x1024_S1024x5632_S2048x5632_1_0_0_1_n_n none (extf .f32 a0 bitsLt_bf16_f32) (extf .f32 (transpose S1024x5632 [1, 0] a1 transposes_S5632x1024_S1024x5632_1_0) bitsLt_bf16_f32)) slices_S2048x5632_S2048x2816_0_2816) bitsLt_bf16_f32 : FVec Ideal S2048x2816 .bf16) = wantUp a0 a1 := by
  funext i
  unfold wantUp proj
  pointwise

end Reference

open Cert.Kernel6Ideal Cert.Kernel6Ideal.Gen

variable (m : (ℓ : Loc nD τ sig) → Buf (Elt Ideal) ℓ)

/-- Where the grid's points read and write. -/
theorem idx : ∀ t : Fin cfg0.N, win0_0.index t = ![t.val % 2, 0] ∧ win0_1.index t = ![t.val / 2, 0] ∧ win0_2.index t = ![2 + t.val / 2, 0]
    ∧ win0_3.index t = ![t.val % 2, t.val / 2] ∧ win0_4.index t = ![t.val % 2, t.val / 2] ∧ win0_5.index t = ![t.val % 2, t.val / 2] :=
  (by decide +kernel : ∀ t : Fin grid0.N, _)

/-- The kernel's result array 1 after the run. -/
theorem final_gate (c : Dev nD) : (dats m 0 c).arrAt 4 (cfgs 0).N = wantGate (m ((c : Thread nD τ).loc main_arg0)) (m ((c : Thread nD τ).loc main_arg1)) := by
  refine (dats m 0 c).arrAt_eq_of_covers 4 _ (by decide +kernel) fun t _ y => ?_
  blk_simp
  rw [after0_4]; unfold outsAt0; frame_out
  unfold wantGate proj
  canon_tiles x h using (View.cover_of_tiledBy _ ![1024, 128] (by sl_kernel_rfl) y)
  all_goals (open_payloads; pointwise; blk_point [iblk, V, idx t])

/-- The kernel's result array 2 after the run. -/
theorem final_up (c : Dev nD) : (dats m 0 c).arrAt 5 (cfgs 0).N = wantUp (m ((c : Thread nD τ).loc main_arg0)) (m ((c : Thread nD τ).loc main_arg1)) := by
  refine (dats m 0 c).arrAt_eq_of_covers 5 _ (by decide +kernel) fun t _ y => ?_
  blk_simp
  rw [after0_5]; unfold outsAt0; frame_out
  unfold wantUp proj
  canon_tiles x h using (View.cover_of_tiledBy _ ![1024, 128] (by sl_kernel_rfl) y)
  all_goals (open_payloads; pointwise; blk_point [iblk, V, idx t])

/-- The kernel's result array 0 after the run. -/
theorem final_act (c : Dev nD) : (dats m 0 c).arrAt 3 (cfgs 0).N = want (m ((c : Thread nD τ).loc main_arg0)) (m ((c : Thread nD τ).loc main_arg1)) := by
  refine (dats m 0 c).arrAt_eq_of_covers 3 _ (by decide +kernel) fun t _ y => ?_
  blk_simp
  rw [after0_3]; unfold outsAt0; frame_out
  unfold want wantGate wantUp proj
  canon_tiles x h using (View.cover_of_tiledBy _ ![1024, 128] (by sl_kernel_rfl) y)
  all_goals (open_payloads; pointwise; blk_point [iblk, V, idx t])

/-- The kernel's results are the reference's. -/
theorem algebraic : Cert.algebraic_Kernel6Ideal_Reference6Ideal := by
  intro m g m' g' _ hm
  refine ⟨_, _, _, Cert.Kernel6Ideal.Value.run_blocks m g, (θ_run _ _ _).mono (fun r h c => ?_) (Cert.Reference6Ideal.Value.run (F := Ideal) m' g')⟩
  obtain ⟨e0, e1⟩ := hm c
  refine ⟨(h c).1.trans ?_, (h c).2.1.trans ?_, (h c).2.2.1.trans ?_, (h c).2.2.2⟩
  · rw [e0, e1]
    exact (reference_act _ _).trans (final_act m c).symm
  · rw [e0, e1]
    exact (reference_gate _ _).trans (final_gate m c).symm
  · rw [e0, e1]
    exact (reference_up _ _).trans (final_up m c).symm

/-- The reference's runs end with the arguments as they were. -/
theorem reference_frame : Cert.quiescent_Reference6Ideal := fun m g _ =>
  (θ_run _ _ _).mono (fun r h => ⟨fun c => (h c).2.2.2, sem_eq_zero_of_no_sems (by decide) r.2⟩) (Cert.Reference6Ideal.Value.run (F := Ideal) m g)

end Cert.Proof.Call6
end
-- ==== Proof.ProjIn.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

/-!
The layer's input projection: tokens against weight rows, and the bias.
-/

set_option maxRecDepth 16384

noncomputable section

namespace Cert.Proof.Call7

open Idealize.ShloMosaic Idealize.ShloMosaic.TcCoe Idealize.SL.Sem

section Reference

open Cert.Reference7Ideal Cert.Reference7Ideal.Gen

/-- The projection. -/
def want (a0 : FVec Ideal S2048x1024 .bf16) (a1 : FVec Ideal S3840x1024 .bf16) (a2 : FVec Ideal S1x3840 .f32) : FVec Ideal S2048x3840 .bf16 :=
  fun i => (∑ k : Fin 1024, a0 (ix2 (i 0) k) * a1 (ix2 (i 1) k)) + a2 (ix2 0 (i 1))

/-- The reference's result 0. -/
theorem reference_want (a0 : FVec Ideal S2048x1024 .bf16) (a1 : FVec Ideal S3840x1024 .bf16) (a2 : FVec Ideal S1x3840 .f32) :
    (truncf .bf16 (addf (Host.dotGeneral dot_S2048x1024_S1024x3840_S2048x3840_1_0_0_1_n_n none (extf .f32 a0 bitsLt_bf16_f32) (extf .f32 (transpose S1024x3840 [1, 0] a1 transposes_S3840x1024_S1024x3840_1_0) bitsLt_bf16_f32)) (broadcastInDim S2048x3840 ![0, 1] bcast_S1x3840_S2048x3840_0_1 (broadcastInDim S1x3840 ![1] bcast_S3840_S1x3840_1 (shapeCast _ a2 shapeCasts_S1x3840_S3840)))) bitsLt_bf16_f32 : FVec Ideal S2048x3840 .bf16) = want a0 a1 a2 := by
  funext i
  unfold want
  pointwise

end Reference

open Cert.Kernel7Ideal Cert.Kernel7Ideal.Gen

variable (m : (ℓ : Loc nD τ sig) → Buf (Elt Ideal) ℓ)

/-- Where the grid's points read and write. -/
theorem idx : ∀ t : Fin cfg0.N, win0_0.index t = ![t.val % 2, 0] ∧ win0_1.index t = ![t.val / 2, 0] ∧ win0_2.index t = ![0, t.val / 2] ∧ win0_3.index t = ![t.val % 2, t.val / 2] :=
  (by decide +kernel : ∀ t : Fin grid0.N, _)

/-- The kernel's result 0 after the run. -/
theorem final_want (c : Dev nD) : (dats m 0 c).arrAt 3 (cfgs 0).N = want (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  unfold want
  pointwise [k0_pay1]
  blk_point [iblk, V, idx t]

/-- The kernel's results are the reference's. -/
theorem algebraic : Cert.algebraic_Kernel7Ideal_Reference7Ideal := by
  intro m g m' g' _ hm
  refine ⟨_, Cert.Kernel7Ideal.Value.run_blocks m g, (θ_run _ _ _).mono (fun r h c => ?_) (Cert.Reference7Ideal.Value.run (F := Ideal) m' g')⟩
  obtain ⟨e0, e1, e2⟩ := hm c
  refine ⟨(h c).1.trans ?_, (h c).2⟩
  · rw [e0, e1, e2]
    exact (reference_want _ _ _).trans (final_want m c).symm

/-- The reference's runs end with the arguments as they were. -/
theorem reference_frame : Cert.quiescent_Reference7Ideal := fun m g _ =>
  (θ_run _ _ _).mono (fun r h => ⟨fun c => (h c).2, sem_eq_zero_of_no_sems (by decide) r.2⟩) (Cert.Reference7Ideal.Value.run (F := Ideal) m g)

end Cert.Proof.Call7
end
-- ==== Proof.OutProjBwdMerge.lean ====
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

/-!
The backward of the output projection and of the gated merge of the two mixers.
-/

set_option maxRecDepth 16384

noncomputable section

namespace Cert.Proof.Call8

open Idealize.ShloMosaic Idealize.ShloMosaic.TcCoe Idealize.SL.Sem

section Reference

open Cert.Reference8Ideal Cert.Reference8Ideal.Gen

/-- The gradient of the merged mixers: a row against a weight row. -/
def acc (a0 : FVec Ideal S2048x1024 .bf16) (a1 : FVec Ideal S1024x1024 .bf16) (i : S2048x1024.Idx) : EReal :=
  ∑ k : Fin 1024, a0 (ix2 (i 0) k) * a1 (ix2 (i 1) k)

/-- A branch's gate: the sigmoid of its column of the input projection. -/
def gate (off : Nat) (h : off + 1024 ≤ 3840) (a4 : FVec Ideal S2048x3840 .bf16) (i : S2048x1024.Idx) : EReal :=
  Ideal.logistic (a4 (ix2 (i 0) ⟨off + (i 1).val, lt_of_lt_of_le (Nat.add_lt_add_left (i 1).isLt off) h⟩))

/-- The gradient of the attention branch. -/
def wantA (a0 : FVec Ideal S2048x1024 .bf16) (a1 : FVec Ideal S1024x1024 .bf16) (a2 : FVec Ideal S2048x1024 .bf16) (a3 : FVec Ideal S2048x1024 .bf16) (a4 : FVec Ideal S2048x3840 .bf16) : FVec Ideal S2048x1024 .bf16 :=
  fun i => acc a0 a1 i * gate 1792 (by decide) a4 i

/-- The gradient of the convolution branch. -/
def wantC (a0 : FVec Ideal S2048x1024 .bf16) (a1 : FVec Ideal S1024x1024 .bf16) (a2 : FVec Ideal S2048x1024 .bf16) (a3 : FVec Ideal S2048x1024 .bf16) (a4 : FVec Ideal S2048x3840 .bf16) : FVec Ideal S2048x1024 .bf16 :=
  fun i => acc a0 a1 i * gate 2816 (by decide) a4 i

/-- The gradient of the attention branch's gates. -/
def wantGA (a0 : FVec Ideal S2048x1024 .bf16) (a1 : FVec Ideal S1024x1024 .bf16) (a2 : FVec Ideal S2048x1024 .bf16) (a3 : FVec Ideal S2048x1024 .bf16) (a4 : FVec Ideal S2048x3840 .bf16) : FVec Ideal S2048x1024 .bf16 :=
  fun i => acc a0 a1 i * a2 i * gate 1792 (by decide) a4 i * (1 - gate 1792 (by decide) a4 i)

/-- The gradient of the convolution branch's gates. -/
def wantGC (a0 : FVec Ideal S2048x1024 .bf16) (a1 : FVec Ideal S1024x1024 .bf16) (a2 : FVec Ideal S2048x1024 .bf16) (a3 : FVec Ideal S2048x1024 .bf16) (a4 : FVec Ideal S2048x3840 .bf16) : FVec Ideal S2048x1024 .bf16 :=
  fun i => acc a0 a1 i * a3 i * gate 2816 (by decide) a4 i * (1 - gate 2816 (by decide) a4 i)

/-- The reference's result 0. -/
theorem reference_wantA (a0 : FVec Ideal S2048x1024 .bf16) (a1 : FVec Ideal S1024x1024 .bf16) (a2 : FVec Ideal S2048x1024 .bf16) (a3 : FVec Ideal S2048x1024 .bf16) (a4 : FVec Ideal S2048x3840 .bf16) :
    (truncf .bf16 (mulf (shapeCast _ (extractStridedSlice S2048x1x1024 ![0, 0, 0] (Host.divf (broadcastInDim S2048x2x1024 ![] bcast_S_S2048x2x1024 (constant S_ .f32 0x3F800000#32)) (addf (broadcastInDim S2048x2x1024 ![] bcast_S_S2048x2x1024 (constant S_ .f32 0x3F800000#32)) (Host.exp (Host.negf (shapeCast _ (extf .f32 (extractStridedSlice S2048x2048 ![0, 1792] a4 slices_S2048x3840_S2048x2048_0_1792) bitsLt_bf16_f32) shapeCasts_S2048x2048_S2048x2x1024))))) slices_S2048x2x1024_S2048x1x1024_0_0_0) shapeCasts_S2048x1x1024_S2048x1024) (Host.dotGeneral dot_S2048x1024_S1024x1024_S2048x1024_1_1_0_0_n_n none (extf .f32 a0 bitsLt_bf16_f32) (extf .f32 a1 bitsLt_bf16_f32))) bitsLt_bf16_f32 : FVec Ideal S2048x1024 .bf16) = wantA a0 a1 a2 a3 a4 := by
  funext i
  unfold wantA acc gate
  pointwise
  exact mul_comm _ _

/-- The reference's result 1. -/
theorem reference_wantC (a0 : FVec Ideal S2048x1024 .bf16) (a1 : FVec Ideal S1024x1024 .bf16) (a2 : FVec Ideal S2048x1024 .bf16) (a3 : FVec Ideal S2048x1024 .bf16) (a4 : FVec Ideal S2048x3840 .bf16) :
    (truncf .bf16 (mulf (shapeCast _ (extractStridedSlice S2048x1x1024 ![0, 1, 0] (Host.divf (broadcastInDim S2048x2x1024 ![] bcast_S_S2048x2x1024 (constant S_ .f32 0x3F800000#32)) (addf (broadcastInDim S2048x2x1024 ![] bcast_S_S2048x2x1024 (constant S_ .f32 0x3F800000#32)) (Host.exp (Host.negf (shapeCast _ (extf .f32 (extractStridedSlice S2048x2048 ![0, 1792] a4 slices_S2048x3840_S2048x2048_0_1792) bitsLt_bf16_f32) shapeCasts_S2048x2048_S2048x2x1024))))) slices_S2048x2x1024_S2048x1x1024_0_1_0) shapeCasts_S2048x1x1024_S2048x1024) (Host.dotGeneral dot_S2048x1024_S1024x1024_S2048x1024_1_1_0_0_n_n none (extf .f32 a0 bitsLt_bf16_f32) (extf .f32 a1 bitsLt_bf16_f32))) bitsLt_bf16_f32 : FVec Ideal S2048x1024 .bf16) = wantC a0 a1 a2 a3 a4 := by
  funext i
  unfold wantC acc gate
  pointwise
  have e : 1792 + (1024 + (i 1).val) = 2816 + (i 1).val := by omega
  simp only [e]
  exact mul_comm _ _

/-- The reference's result 2. -/
theorem reference_wantGA (a0 : FVec Ideal S2048x1024 .bf16) (a1 : FVec Ideal S1024x1024 .bf16) (a2 : FVec Ideal S2048x1024 .bf16) (a3 : FVec Ideal S2048x1024 .bf16) (a4 : FVec Ideal S2048x3840 .bf16) :
    (truncf .bf16 (extractStridedSlice S2048x1024 ![0, 0] (shapeCast _ (mulf (addf (pad S2048x2x1024 ![0, 1, 0] ![0, 0, 0] ![0, 0, 0] (broadcastInDim S2048x1x1024 ![0, 2] bcast_S2048x1024_S2048x1x1024_0_2 (mulf (Host.dotGeneral dot_S2048x1024_S1024x1024_S2048x1024_1_1_0_0_n_n none (extf .f32 a0 bitsLt_bf16_f32) (extf .f32 a1 bitsLt_bf16_f32)) (extf .f32 a3 bitsLt_bf16_f32))) (constant S_ .f32 0x00000000#32) pads_S2048x1x1024_S2048x2x1024_000_100_000 h_S_) (pad S2048x2x1024 ![0, 0, 0] ![0, 1, 0] ![0, 0, 0] (broadcastInDim S2048x1x1024 ![0, 2] bcast_S2048x1024_S2048x1x1024_0_2 (mulf (Host.dotGeneral dot_S2048x1024_S1024x1024_S2048x1024_1_1_0_0_n_n none (extf .f32 a0 bitsLt_bf16_f32) (extf .f32 a1 bitsLt_bf16_f32)) (extf .f32 a2 bitsLt_bf16_f32))) (constant S_ .f32 0x00000000#32) pads_S2048x1x1024_S2048x2x1024_000_010_000 h_S_)) (mulf (Host.divf (broadcastInDim S2048x2x1024 ![] bcast_S_S2048x2x1024 (constant S_ .f32 0x3F800000#32)) (addf (broadcastInDim S2048x2x1024 ![] bcast_S_S2048x2x1024 (constant S_ .f32 0x3F800000#32)) (Host.exp (Host.negf (shapeCast _ (extf .f32 (extractStridedSlice S2048x2048 ![0, 1792] a4 slices_S2048x3840_S2048x2048_0_1792) bitsLt_bf16_f32) shapeCasts_S2048x2048_S2048x2x1024))))) (subf (broadcastInDim S2048x2x1024 ![] bcast_S_S2048x2x1024 (constant S_ .f32 0x3F800000#32)) (Host.divf (broadcastInDim S2048x2x1024 ![] bcast_S_S2048x2x1024 (constant S_ .f32 0x3F800000#32)) (addf (broadcastInDim S2048x2x1024 ![] bcast_S_S2048x2x1024 (constant S_ .f32 0x3F800000#32)) (Host.exp (Host.negf (shapeCast _ (extf .f32 (extractStridedSlice S2048x2048 ![0, 1792] a4 slices_S2048x3840_S2048x2048_0_1792) bitsLt_bf16_f32) shapeCasts_S2048x2048_S2048x2x1024)))))))) shapeCasts_S2048x2x1024_S2048x2048) slices_S2048x2048_S2048x1024_0_0) bitsLt_bf16_f32 : FVec Ideal S2048x1024 .bf16) = wantGA a0 a1 a2 a3 a4 := by
  funext i
  obtain ⟨r, j, rfl⟩ : ∃ (r : Fin 2048) (j : Fin 1024), i = ix2 r j := ⟨i 0, i 1, eq_ix2 i⟩
  unfold wantGA acc gate
  pointwise
  have hj : j.val < 1024 := j.isLt
  have h1 : j.val / 1024 = 0 := by omega
  have h2 : j.val % 1024 = j.val := by omega
  split
  · exfalso; omega
  · split
    · simp only [h1, h2, Nat.zero_mul, Nat.zero_add, zero_add]
      exact (mul_assoc (_ : EReal) _ _).symm
    · exfalso; omega

/-- The reference's result 3. -/
theorem reference_wantGC (a0 : FVec Ideal S2048x1024 .bf16) (a1 : FVec Ideal S1024x1024 .bf16) (a2 : FVec Ideal S2048x1024 .bf16) (a3 : FVec Ideal S2048x1024 .bf16) (a4 : FVec Ideal S2048x3840 .bf16) :
    (truncf .bf16 (extractStridedSlice S2048x1024 ![0, 1024] (shapeCast _ (mulf (addf (pad S2048x2x1024 ![0, 1, 0] ![0, 0, 0] ![0, 0, 0] (broadcastInDim S2048x1x1024 ![0, 2] bcast_S2048x1024_S2048x1x1024_0_2 (mulf (Host.dotGeneral dot_S2048x1024_S1024x1024_S2048x1024_1_1_0_0_n_n none (extf .f32 a0 bitsLt_bf16_f32) (extf .f32 a1 bitsLt_bf16_f32)) (extf .f32 a3 bitsLt_bf16_f32))) (constant S_ .f32 0x00000000#32) pads_S2048x1x1024_S2048x2x1024_000_100_000 h_S_) (pad S2048x2x1024 ![0, 0, 0] ![0, 1, 0] ![0, 0, 0] (broadcastInDim S2048x1x1024 ![0, 2] bcast_S2048x1024_S2048x1x1024_0_2 (mulf (Host.dotGeneral dot_S2048x1024_S1024x1024_S2048x1024_1_1_0_0_n_n none (extf .f32 a0 bitsLt_bf16_f32) (extf .f32 a1 bitsLt_bf16_f32)) (extf .f32 a2 bitsLt_bf16_f32))) (constant S_ .f32 0x00000000#32) pads_S2048x1x1024_S2048x2x1024_000_010_000 h_S_)) (mulf (Host.divf (broadcastInDim S2048x2x1024 ![] bcast_S_S2048x2x1024 (constant S_ .f32 0x3F800000#32)) (addf (broadcastInDim S2048x2x1024 ![] bcast_S_S2048x2x1024 (constant S_ .f32 0x3F800000#32)) (Host.exp (Host.negf (shapeCast _ (extf .f32 (extractStridedSlice S2048x2048 ![0, 1792] a4 slices_S2048x3840_S2048x2048_0_1792) bitsLt_bf16_f32) shapeCasts_S2048x2048_S2048x2x1024))))) (subf (broadcastInDim S2048x2x1024 ![] bcast_S_S2048x2x1024 (constant S_ .f32 0x3F800000#32)) (Host.divf (broadcastInDim S2048x2x1024 ![] bcast_S_S2048x2x1024 (constant S_ .f32 0x3F800000#32)) (addf (broadcastInDim S2048x2x1024 ![] bcast_S_S2048x2x1024 (constant S_ .f32 0x3F800000#32)) (Host.exp (Host.negf (shapeCast _ (extf .f32 (extractStridedSlice S2048x2048 ![0, 1792] a4 slices_S2048x3840_S2048x2048_0_1792) bitsLt_bf16_f32) shapeCasts_S2048x2048_S2048x2x1024)))))))) shapeCasts_S2048x2x1024_S2048x2048) slices_S2048x2048_S2048x1024_0_1024) bitsLt_bf16_f32 : FVec Ideal S2048x1024 .bf16) = wantGC a0 a1 a2 a3 a4 := by
  funext i
  unfold wantGC acc gate
  pointwise
  have hi : (i 1).val < 1024 := (i 1).isLt
  have h1 : (1024 + (i 1).val) / 1024 = 1 := by omega
  have e : 1792 + (1 * 1024 + (i 1).val) = 2816 + (i 1).val := by omega
  rw [dif_pos (by omega), dif_neg (by omega), add_zero]
  simp only [h1, e]
  exact (mul_assoc _ _ _).symm

end Reference

open Cert.Kernel8Ideal Cert.Kernel8Ideal.Gen

variable (m : (ℓ : Loc nD τ sig) → Buf (Elt Ideal) ℓ)

/-- Where the grid's points read and write. -/
theorem idx : ∀ t : Fin cfg0.N, win0_0.index t = ![0, 0] ∧ win0_1.index t = ![t.val, 0] ∧ win0_2.index t = ![0, t.val] ∧ win0_3.index t = ![0, t.val] ∧ win0_4.index t = ![0, 7 + t.val] ∧ win0_5.index t = ![0, 11 + t.val] ∧ win0_6.index t = ![0, t.val] ∧ win0_7.index t = ![0, t.val] ∧ win0_8.index t = ![0, t.val] ∧ win0_9.index t = ![0, t.val] :=
  (by decide +kernel : ∀ t : Fin grid0.N, _)

/-- The kernel's result 0 after the run. -/
theorem final_wantA (c : Dev nD) : (dats m 0 c).arrAt 6 (cfgs 0).N = wantA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  unfold wantA acc gate
  pointwise [k0_pay4, k0_pay1, k0_pay2]
  blk_point [iblk, V, idx t]

/-- The kernel's result 1 after the run. -/
theorem final_wantC (c : Dev nD) : (dats m 0 c).arrAt 7 (cfgs 0).N = wantC (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  unfold wantC acc gate
  pointwise [k0_pay5, k0_pay1, k0_pay3]
  blk_point [iblk, V, idx t]

/-- The kernel's result 2 after the run. -/
theorem final_wantGA (c : Dev nD) : (dats m 0 c).arrAt 8 (cfgs 0).N = wantGA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; frame_out
  unfold wantGA acc gate
  pointwise [k0_pay6, k0_pay1, k0_pay2]
  blk_point [iblk, V, idx t]

/-- The kernel's result 3 after the run. -/
theorem final_wantGC (c : Dev nD) : (dats m 0 c).arrAt 9 (cfgs 0).N = wantGC (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]; frame_out
  unfold wantGC acc gate
  pointwise [k0_pay7, k0_pay1, k0_pay3]
  blk_point [iblk, V, idx t]

/-- The kernel's results are the reference's. -/
theorem algebraic : Cert.algebraic_Kernel8Ideal_Reference8Ideal := by
  intro m g m' g' _ hm
  refine ⟨_, _, _, _, Cert.Kernel8Ideal.Value.run_blocks m g, (θ_run _ _ _).mono (fun r h c => ?_) (Cert.Reference8Ideal.Value.run (F := Ideal) m' g')⟩
  obtain ⟨e0, e1, e2, e3, e4⟩ := hm c
  refine ⟨(h c).1.trans ?_, (h c).2.1.trans ?_, (h c).2.2.1.trans ?_, (h c).2.2.2.1.trans ?_, (h c).2.2.2.2⟩
  · rw [e0, e1, e4]
    exact (reference_wantA _ _ (m ((c : Thread nD τ).loc main_arg2)) (m ((c : Thread nD τ).loc main_arg3)) _).trans (final_wantA m c).symm
  · rw [e0, e1, e4]
    exact (reference_wantC _ _ (m ((c : Thread nD τ).loc main_arg2)) (m ((c : Thread nD τ).loc main_arg3)) _).trans (final_wantC m c).symm
  · rw [e0, e1, e2, e3, e4]
    exact (reference_wantGA _ _ _ _ _).trans (final_wantGA m c).symm
  · rw [e0, e1, e2, e3, e4]
    exact (reference_wantGC _ _ _ _ _).trans (final_wantGC m c).symm

/-- The reference's runs end with the arguments as they were. -/
theorem reference_frame : Cert.quiescent_Reference8Ideal := fun m g _ =>
  (θ_run _ _ _).mono (fun r h => ⟨fun c => (h c).2.2.2.2, sem_eq_zero_of_no_sems (by decide) r.2⟩) (Cert.Reference8Ideal.Value.run (F := Ideal) m g)

end Cert.Proof.Call8
end
-- ==== Proof.OutProjDw.lean ====
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

/-!
The weight gradient of the output projection.
-/

set_option maxRecDepth 16384

noncomputable section

namespace Cert.Proof.Call9

open Idealize.ShloMosaic Idealize.ShloMosaic.TcCoe Idealize.SL.Sem

section Reference

open Cert.Reference9Ideal Cert.Reference9Ideal.Gen

/-- The weight gradient. -/
def want (a0 : FVec Ideal S2048x1024 .bf16) (a1 : FVec Ideal S2048x1024 .bf16) : FVec Ideal S1024x1024 .bf16 :=
  fun i => ∑ k : Fin 2048, a0 (ix2 k (i 0)) * a1 (ix2 k (i 1))

/-- The reference's result 0. -/
theorem reference_want (a0 : FVec Ideal S2048x1024 .bf16) (a1 : FVec Ideal S2048x1024 .bf16) :
    (truncf .bf16 (transpose S1024x1024 [1, 0] (Host.dotGeneral dot_S2048x1024_S2048x1024_S1024x1024_0_0_1_1_n_n none (extf .f32 a1 bitsLt_bf16_f32) (extf .f32 a0 bitsLt_bf16_f32)) transposes_S1024x1024_S1024x1024_1_0) bitsLt_bf16_f32 : FVec Ideal S1024x1024 .bf16) = want a0 a1 := by
  funext i
  unfold want
  pointwise
  exact Finset.sum_congr rfl fun k _ => mul_comm _ _

end Reference

open Cert.Kernel9Ideal Cert.Kernel9Ideal.Gen

variable (m : (ℓ : Loc nD τ sig) → Buf (Elt Ideal) ℓ)

/-- Where the grid's points read and write. -/
theorem idx : ∀ t : Fin cfg0.N, win0_0.index t = ![0, t.val] ∧ win0_1.index t = ![0, 0] ∧ win0_2.index t = ![t.val, 0] :=
  (by decide +kernel : ∀ t : Fin grid0.N, _)

/-- The kernel's result 0 after the run. -/
theorem final_want (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  unfold want
  pointwise [k0_pay1]
  blk_point [iblk, V, idx t]

/-- The kernel's results are the reference's. -/
theorem algebraic : Cert.algebraic_Kernel9Ideal_Reference9Ideal := by
  intro m g m' g' _ hm
  refine ⟨_, Cert.Kernel9Ideal.Value.run_blocks m g, (θ_run _ _ _).mono (fun r h c => ?_) (Cert.Reference9Ideal.Value.run (F := Ideal) m' g')⟩
  obtain ⟨e0, e1⟩ := hm c
  refine ⟨(h c).1.trans ?_, (h c).2⟩
  · rw [e0, e1]
    exact (reference_want _ _).trans (final_want m c).symm

/-- The reference's runs end with the arguments as they were. -/
theorem reference_frame : Cert.quiescent_Reference9Ideal := fun m g _ =>
  (θ_run _ _ _).mono (fun r h => ⟨fun c => (h c).2, sem_eq_zero_of_no_sems (by decide) r.2⟩) (Cert.Reference9Ideal.Value.run (F := Ideal) m g)

end Cert.Proof.Call9
end
-- ==== Proof.AttnProjBwd.lean ====
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

/-!
The backward of the attention's projection: the gradient against the weights.
-/

set_option maxRecDepth 16384

noncomputable section

namespace Cert.Proof.Call10

open Idealize.ShloMosaic Idealize.ShloMosaic.TcCoe Idealize.SL.Sem

section Reference

open Cert.Reference10Ideal Cert.Reference10Ideal.Gen

/-- The attention output's gradient. -/
def want (a0 : FVec Ideal S2048x1024 .bf16) (a1 : FVec Ideal S1024x512 .bf16) : FVec Ideal S2048x512 .bf16 :=
  fun i => ∑ k : Fin 1024, a0 (ix2 (i 0) k) * a1 (ix2 k (i 1))

/-- The reference's result 0. -/
theorem reference_want (a0 : FVec Ideal S2048x1024 .bf16) (a1 : FVec Ideal S1024x512 .bf16) :
    (truncf .bf16 (Host.dotGeneral dot_S2048x1024_S512x1024_S2048x512_1_1_0_0_n_n none (extf .f32 a0 bitsLt_bf16_f32) (extf .f32 (transpose S512x1024 [1, 0] a1 transposes_S1024x512_S512x1024_1_0) bitsLt_bf16_f32)) bitsLt_bf16_f32 : FVec Ideal S2048x512 .bf16) = want a0 a1 := by
  funext i
  unfold want
  pointwise

end Reference

open Cert.Kernel10Ideal Cert.Kernel10Ideal.Gen

variable (m : (ℓ : Loc nD τ sig) → Buf (Elt Ideal) ℓ)

/-- Where the grid's points read and write. -/
theorem idx : ∀ t : Fin cfg0.N, win0_0.index t = ![t.val, 0] ∧ win0_1.index t = ![0, 0] ∧ win0_2.index t = ![t.val, 0] :=
  (by decide +kernel : ∀ t : Fin grid0.N, _)

/-- The kernel's result 0 after the run. -/
theorem final_want (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  unfold want
  pointwise [k0_pay1]
  blk_point [iblk, V, idx t]

/-- The kernel's results are the reference's. -/
theorem algebraic : Cert.algebraic_Kernel10Ideal_Reference10Ideal := by
  intro m g m' g' _ hm
  refine ⟨_, Cert.Kernel10Ideal.Value.run_blocks m g, (θ_run _ _ _).mono (fun r h c => ?_) (Cert.Reference10Ideal.Value.run (F := Ideal) m' g')⟩
  obtain ⟨e0, e1⟩ := hm c
  refine ⟨(h c).1.trans ?_, (h c).2⟩
  · rw [e0, e1]
    exact (reference_want _ _).trans (final_want m c).symm

/-- The reference's runs end with the arguments as they were. -/
theorem reference_frame : Cert.quiescent_Reference10Ideal := fun m g _ =>
  (θ_run _ _ _).mono (fun r h => ⟨fun c => (h c).2, sem_eq_zero_of_no_sems (by decide) r.2⟩) (Cert.Reference10Ideal.Value.run (F := Ideal) m g)

end Cert.Proof.Call10
end
-- ==== Proof.ConvProjBwd.lean ====
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

/-!
The backward of the convolution's projection: the gradient against the weights.
-/

set_option maxRecDepth 16384

noncomputable section

namespace Cert.Proof.Call11

open Idealize.ShloMosaic Idealize.ShloMosaic.TcCoe Idealize.SL.Sem

section Reference

open Cert.Reference11Ideal Cert.Reference11Ideal.Gen

/-- The convolution output's gradient. -/
def want (a0 : FVec Ideal S2048x1024 .bf16) (a1 : FVec Ideal S1024x512 .bf16) : FVec Ideal S2048x512 .bf16 :=
  fun i => ∑ k : Fin 1024, a0 (ix2 (i 0) k) * a1 (ix2 k (i 1))

/-- The reference's result 0. -/
theorem reference_want (a0 : FVec Ideal S2048x1024 .bf16) (a1 : FVec Ideal S1024x512 .bf16) :
    (truncf .bf16 (Host.dotGeneral dot_S2048x1024_S512x1024_S2048x512_1_1_0_0_n_n none (extf .f32 a0 bitsLt_bf16_f32) (extf .f32 (transpose S512x1024 [1, 0] a1 transposes_S1024x512_S512x1024_1_0) bitsLt_bf16_f32)) bitsLt_bf16_f32 : FVec Ideal S2048x512 .bf16) = want a0 a1 := by
  funext i
  unfold want
  pointwise

end Reference

open Cert.Kernel11Ideal Cert.Kernel11Ideal.Gen

variable (m : (ℓ : Loc nD τ sig) → Buf (Elt Ideal) ℓ)

/-- Where the grid's points read and write. -/
theorem idx : ∀ t : Fin cfg0.N, win0_0.index t = ![t.val, 0] ∧ win0_1.index t = ![0, 0] ∧ win0_2.index t = ![t.val, 0] :=
  (by decide +kernel : ∀ t : Fin grid0.N, _)

/-- The kernel's result 0 after the run. -/
theorem final_want (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  unfold want
  pointwise [k0_pay1]
  blk_point [iblk, V, idx t]

/-- The kernel's results are the reference's. -/
theorem algebraic : Cert.algebraic_Kernel11Ideal_Reference11Ideal := by
  intro m g m' g' _ hm
  refine ⟨_, Cert.Kernel11Ideal.Value.run_blocks m g, (θ_run _ _ _).mono (fun r h c => ?_) (Cert.Reference11Ideal.Value.run (F := Ideal) m' g')⟩
  obtain ⟨e0, e1⟩ := hm c
  refine ⟨(h c).1.trans ?_, (h c).2⟩
  · rw [e0, e1]
    exact (reference_want _ _).trans (final_want m c).symm

/-- The reference's runs end with the arguments as they were. -/
theorem reference_frame : Cert.quiescent_Reference11Ideal := fun m g _ =>
  (θ_run _ _ _).mono (fun r h => ⟨fun c => (h c).2, sem_eq_zero_of_no_sems (by decide) r.2⟩) (Cert.Reference11Ideal.Value.run (F := Ideal) m g)

end Cert.Proof.Call11
end
-- ==== Proof.AttnProjDw.lean ====
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

/-!
The weight gradient of the attention's projection.
-/

set_option maxRecDepth 16384

noncomputable section

namespace Cert.Proof.Call12

open Idealize.ShloMosaic Idealize.ShloMosaic.TcCoe Idealize.SL.Sem

section Reference

open Cert.Reference12Ideal Cert.Reference12Ideal.Gen

/-- The weight gradient. -/
def want (a0 : FVec Ideal S2048x1024 .bf16) (a1 : FVec Ideal S2048x512 .bf16) : FVec Ideal S1024x512 .bf16 :=
  fun i => ∑ k : Fin 2048, a0 (ix2 k (i 0)) * a1 (ix2 k (i 1))

/-- The reference's result 0. -/
theorem reference_want (a0 : FVec Ideal S2048x1024 .bf16) (a1 : FVec Ideal S2048x512 .bf16) :
    (truncf .bf16 (transpose S1024x512 [1, 0] (transpose S512x1024 [1, 0] (Host.dotGeneral dot_S2048x1024_S2048x512_S1024x512_0_0_1_1_n_n none (extf .f32 a0 bitsLt_bf16_f32) (extf .f32 a1 bitsLt_bf16_f32)) transposes_S1024x512_S512x1024_1_0) transposes_S512x1024_S1024x512_1_0) bitsLt_bf16_f32 : FVec Ideal S1024x512 .bf16) = want a0 a1 := by
  funext i
  unfold want
  pointwise

end Reference

open Cert.Kernel12Ideal Cert.Kernel12Ideal.Gen

variable (m : (ℓ : Loc nD τ sig) → Buf (Elt Ideal) ℓ)

/-- Where the grid's points read and write. -/
theorem idx : ∀ t : Fin cfg0.N, win0_0.index t = ![0, t.val] ∧ win0_1.index t = ![0, 0] ∧ win0_2.index t = ![t.val, 0] :=
  (by decide +kernel : ∀ t : Fin grid0.N, _)

/-- The kernel's result 0 after the run. -/
theorem final_want (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  unfold want
  pointwise [k0_pay1]
  blk_point [iblk, V, idx t]

/-- The kernel's results are the reference's. -/
theorem algebraic : Cert.algebraic_Kernel12Ideal_Reference12Ideal := by
  intro m g m' g' _ hm
  refine ⟨_, Cert.Kernel12Ideal.Value.run_blocks m g, (θ_run _ _ _).mono (fun r h c => ?_) (Cert.Reference12Ideal.Value.run (F := Ideal) m' g')⟩
  obtain ⟨e0, e1⟩ := hm c
  refine ⟨(h c).1.trans ?_, (h c).2⟩
  · rw [e0, e1]
    exact (reference_want _ _).trans (final_want m c).symm

/-- The reference's runs end with the arguments as they were. -/
theorem reference_frame : Cert.quiescent_Reference12Ideal := fun m g _ =>
  (θ_run _ _ _).mono (fun r h => ⟨fun c => (h c).2, sem_eq_zero_of_no_sems (by decide) r.2⟩) (Cert.Reference12Ideal.Value.run (F := Ideal) m g)

end Cert.Proof.Call12
end
-- ==== Proof.ConvProjDw.lean ====
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

/-!
The weight gradient of the convolution's projection, and the bias's.
-/

set_option maxRecDepth 16384

noncomputable section

namespace Cert.Proof.Call13

open Idealize.ShloMosaic Idealize.ShloMosaic.TcCoe Idealize.SL.Sem

section Reference

open Cert.Reference13Ideal Cert.Reference13Ideal.Gen

/-- The weight gradient. -/
def want (a0 : FVec Ideal S2048x1024 .bf16) (a1 : FVec Ideal S2048x512 .bf16) : FVec Ideal S1024x512 .bf16 :=
  fun i => ∑ k : Fin 2048, a0 (ix2 k (i 0)) * a1 (ix2 k (i 1))

/-- The bias gradient. -/
def wantSum (a0 : FVec Ideal S2048x1024 .bf16) (a1 : FVec Ideal S2048x512 .bf16) : FVec Ideal S1x1024 .f32 :=
  fun i => ∑ k : Fin 2048, a0 (ix2 k (i 1))

/-- The reference's result 0. -/
theorem reference_want (a0 : FVec Ideal S2048x1024 .bf16) (a1 : FVec Ideal S2048x512 .bf16) :
    (truncf .bf16 (transpose S1024x512 [1, 0] (transpose S512x1024 [1, 0] (Host.dotGeneral dot_S2048x1024_S2048x512_S1024x512_0_0_1_1_n_n none (extf .f32 a0 bitsLt_bf16_f32) (extf .f32 a1 bitsLt_bf16_f32)) transposes_S1024x512_S512x1024_1_0) transposes_S512x1024_S1024x512_1_0) bitsLt_bf16_f32 : FVec Ideal S1024x512 .bf16) = want a0 a1 := by
  funext i
  unfold want
  pointwise

/-- The reference's result 1. -/
theorem reference_wantSum (a0 : FVec Ideal S2048x1024 .bf16) (a1 : FVec Ideal S2048x512 .bf16) :
    (broadcastInDim S1x1024 ![1] bcast_S1024_S1x1024_1 (Host.reduceAdd (shapeCast _ (Host.reduceAdd (extf .f32 a0 bitsLt_bf16_f32) (constant S_ .f32 0x00000000#32) reducesTo_S2048x1024_S1024_d0 h_S_) shapeCasts_S1024_S1x1024) (constant S_ .f32 0x00000000#32) reducesTo_S1x1024_S1024_d0 h_S_) : FVec Ideal S1x1024 .f32) = wantSum a0 a1 := by
  funext i
  unfold wantSum
  pointwise
  exact Fin.sum_univ_one _

end Reference

open Cert.Kernel13Ideal Cert.Kernel13Ideal.Gen

variable (m : (ℓ : Loc nD τ sig) → Buf (Elt Ideal) ℓ)

/-- Where the grid's points read and write. -/
theorem idx : ∀ t : Fin cfg0.N, win0_0.index t = ![0, t.val] ∧ win0_1.index t = ![0, 0] ∧ win0_2.index t = ![0, t.val] ∧ win0_3.index t = ![t.val, 0] ∧ win0_4.index t = ![0, t.val] :=
  (by decide +kernel : ∀ t : Fin grid0.N, _)

/-- The kernel's result 0 after the run. -/
theorem final_want (c : Dev nD) : (dats m 0 c).arrAt 3 (cfgs 0).N = want (m ((c : Thread nD τ).loc main_arg0)) (m ((c : Thread nD τ).loc main_arg1)) := by
  refine (dats m 0 c).arrAt_eq_of_covers 3 _ (by decide +kernel) fun t _ y => ?_
  blk_simp
  rw [after0_3]; frame_out
  unfold want
  pointwise [k0_pay1]
  blk_point [iblk, V, idx t]

/-- The kernel's result 1 after the run. -/
theorem final_wantSum (c : Dev nD) : (dats m 0 c).arrAt 4 (cfgs 0).N = wantSum (m ((c : Thread nD τ).loc main_arg0)) (m ((c : Thread nD τ).loc main_arg1)) := by
  refine (dats m 0 c).arrAt_eq_of_covers 4 _ (by decide +kernel) fun t _ y => ?_
  blk_simp
  rw [after0_4]; frame_out
  unfold wantSum
  pointwise [k0_pay2]
  blk_point [iblk, V, idx t]

/-- The kernel's results are the reference's. -/
theorem algebraic : Cert.algebraic_Kernel13Ideal_Reference13Ideal := by
  intro m g m' g' _ hm
  refine ⟨_, _, Cert.Kernel13Ideal.Value.run_blocks m g, (θ_run _ _ _).mono (fun r h c => ?_) (Cert.Reference13Ideal.Value.run (F := Ideal) m' g')⟩
  obtain ⟨e0, e1⟩ := hm c
  refine ⟨(h c).1.trans ?_, (h c).2.1.trans ?_, (h c).2.2⟩
  · rw [e0, e1]
    exact (reference_want _ _).trans (final_want m c).symm
  · rw [e0]
    exact (reference_wantSum _ (m ((c : Thread nD τ).loc main_arg1))).trans (final_wantSum m c).symm

/-- The reference's runs end with the arguments as they were. -/
theorem reference_frame : Cert.quiescent_Reference13Ideal := fun m g _ =>
  (θ_run _ _ _).mono (fun r h => ⟨fun c => (h c).2.2, sem_eq_zero_of_no_sems (by decide) r.2⟩) (Cert.Reference13Ideal.Value.run (F := Ideal) m g)

end Cert.Proof.Call13
end
-- ==== Proof.ProjMerge.lean ====
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise

@[expose] public section

/-!
The projections of the two mixers and their gated merge.
-/

set_option maxRecDepth 16384

noncomputable section

namespace Cert.Proof.Call14

open Idealize.ShloMosaic Idealize.ShloMosaic.TcCoe Idealize.SL.Sem

section Reference

open Cert.Reference14Ideal Cert.Reference14Ideal.Gen

/-- A branch's gate: the sigmoid of its column of the input projection. -/
def gate (off : Nat) (h : off + 1024 ≤ 3840) (a : FVec Ideal S2048x3840 .bf16) (i : S2048x1024.Idx) : EReal :=
  Ideal.logistic (a (ix2 (i 0) ⟨off + (i 1).val, lt_of_lt_of_le (Nat.add_lt_add_left (i 1).isLt off) h⟩))

/-- A branch's projection: a row against a weight row. -/
def branch (x : FVec Ideal S2048x512 .bf16) (w : FVec Ideal S1024x512 .bf16) (i : S2048x1024.Idx) : EReal :=
  ∑ k : Fin 512, x (ix2 (i 0) k) * w (ix2 (i 1) k)

/-- The attention branch. -/
def wantA (a0 : FVec Ideal S2048x512 .bf16) (a1 : FVec Ideal S2048x512 .bf16) (a2 : FVec Ideal S1024x512 .bf16) (a3 : FVec Ideal S1024x512 .bf16) (a4 : FVec Ideal S1x1024 .f32) (a5 : FVec Ideal S2048x3840 .bf16) : FVec Ideal S2048x1024 .bf16 :=
  fun i => branch a0 a2 i

/-- The convolution branch. -/
def wantC (a0 : FVec Ideal S2048x512 .bf16) (a1 : FVec Ideal S2048x512 .bf16) (a2 : FVec Ideal S1024x512 .bf16) (a3 : FVec Ideal S1024x512 .bf16) (a4 : FVec Ideal S1x1024 .f32) (a5 : FVec Ideal S2048x3840 .bf16) : FVec Ideal S2048x1024 .bf16 :=
  fun i => branch a1 a3 i + a4 (ix2 0 (i 1))

/-- The gated merge. -/
def want (a0 : FVec Ideal S2048x512 .bf16) (a1 : FVec Ideal S2048x512 .bf16) (a2 : FVec Ideal S1024x512 .bf16) (a3 : FVec Ideal S1024x512 .bf16) (a4 : FVec Ideal S1x1024 .f32) (a5 : FVec Ideal S2048x3840 .bf16) : FVec Ideal S2048x1024 .bf16 :=
  fun i => gate 1792 (by decide) a5 i * branch a0 a2 i + gate 2816 (by decide) a5 i * (branch a1 a3 i + a4 (ix2 0 (i 1)))

/-- The reference's result 0. -/
theorem reference_wantA (a0 : FVec Ideal S2048x512 .bf16) (a1 : FVec Ideal S2048x512 .bf16) (a2 : FVec Ideal S1024x512 .bf16) (a3 : FVec Ideal S1024x512 .bf16) (a4 : FVec Ideal S1x1024 .f32) (a5 : FVec Ideal S2048x3840 .bf16) :
    (truncf .bf16 (Host.dotGeneral dot_S2048x512_S512x1024_S2048x1024_1_0_0_1_n_n none (extf .f32 a0 bitsLt_bf16_f32) (extf .f32 (transpose S512x1024 [1, 0] a2 transposes_S1024x512_S512x1024_1_0) bitsLt_bf16_f32)) bitsLt_bf16_f32 : FVec Ideal S2048x1024 .bf16) = wantA a0 a1 a2 a3 a4 a5 := by
  funext i
  unfold wantA branch
  pointwise

/-- The reference's result 1. -/
theorem reference_wantC (a0 : FVec Ideal S2048x512 .bf16) (a1 : FVec Ideal S2048x512 .bf16) (a2 : FVec Ideal S1024x512 .bf16) (a3 : FVec Ideal S1024x512 .bf16) (a4 : FVec Ideal S1x1024 .f32) (a5 : FVec Ideal S2048x3840 .bf16) :
    (truncf .bf16 (addf (Host.dotGeneral dot_S2048x512_S512x1024_S2048x1024_1_0_0_1_n_n none (extf .f32 a1 bitsLt_bf16_f32) (extf .f32 (transpose S512x1024 [1, 0] a3 transposes_S1024x512_S512x1024_1_0) bitsLt_bf16_f32)) (broadcastInDim S2048x1024 ![0, 1] bcast_S1x1024_S2048x1024_0_1 (broadcastInDim S1x1024 ![1] bcast_S1024_S1x1024_1 (shapeCast _ a4 shapeCasts_S1x1024_S1024)))) bitsLt_bf16_f32 : FVec Ideal S2048x1024 .bf16) = wantC a0 a1 a2 a3 a4 a5 := by
  funext i
  unfold wantC branch
  pointwise

/-- The reference's result 2. -/
theorem reference_want (a0 : FVec Ideal S2048x512 .bf16) (a1 : FVec Ideal S2048x512 .bf16) (a2 : FVec Ideal S1024x512 .bf16) (a3 : FVec Ideal S1024x512 .bf16) (a4 : FVec Ideal S1x1024 .f32) (a5 : FVec Ideal S2048x3840 .bf16) :
    (truncf .bf16 (addf (mulf (shapeCast _ (extractStridedSlice S2048x1x1024 ![0, 0, 0] (Host.divf (broadcastInDim S2048x2x1024 ![] bcast_S_S2048x2x1024 (constant S_ .f32 0x3F800000#32)) (addf (broadcastInDim S2048x2x1024 ![] bcast_S_S2048x2x1024 (constant S_ .f32 0x3F800000#32)) (Host.exp (Host.negf (shapeCast _ (extf .f32 (extractStridedSlice S2048x2048 ![0, 1792] a5 slices_S2048x3840_S2048x2048_0_1792) bitsLt_bf16_f32) shapeCasts_S2048x2048_S2048x2x1024))))) slices_S2048x2x1024_S2048x1x1024_0_0_0) shapeCasts_S2048x1x1024_S2048x1024) (Host.dotGeneral dot_S2048x512_S512x1024_S2048x1024_1_0_0_1_n_n none (extf .f32 a0 bitsLt_bf16_f32) (extf .f32 (transpose S512x1024 [1, 0] a2 transposes_S1024x512_S512x1024_1_0) bitsLt_bf16_f32))) (mulf (shapeCast _ (extractStridedSlice S2048x1x1024 ![0, 1, 0] (Host.divf (broadcastInDim S2048x2x1024 ![] bcast_S_S2048x2x1024 (constant S_ .f32 0x3F800000#32)) (addf (broadcastInDim S2048x2x1024 ![] bcast_S_S2048x2x1024 (constant S_ .f32 0x3F800000#32)) (Host.exp (Host.negf (shapeCast _ (extf .f32 (extractStridedSlice S2048x2048 ![0, 1792] a5 slices_S2048x3840_S2048x2048_0_1792) bitsLt_bf16_f32) shapeCasts_S2048x2048_S2048x2x1024))))) slices_S2048x2x1024_S2048x1x1024_0_1_0) shapeCasts_S2048x1x1024_S2048x1024) (addf (Host.dotGeneral dot_S2048x512_S512x1024_S2048x1024_1_0_0_1_n_n none (extf .f32 a1 bitsLt_bf16_f32) (extf .f32 (transpose S512x1024 [1, 0] a3 transposes_S1024x512_S512x1024_1_0) bitsLt_bf16_f32)) (broadcastInDim S2048x1024 ![0, 1] bcast_S1x1024_S2048x1024_0_1 (broadcastInDim S1x1024 ![1] bcast_S1024_S1x1024_1 (shapeCast _ a4 shapeCasts_S1x1024_S1024)))))) bitsLt_bf16_f32 : FVec Ideal S2048x1024 .bf16) = want a0 a1 a2 a3 a4 a5 := by
  funext i
  unfold want branch gate
  pointwise
  have e : 1792 + (1024 + (i 1).val) = 2816 + (i 1).val := by omega
  simp only [e]
  rfl

end Reference

open Cert.Kernel14Ideal Cert.Kernel14Ideal.Gen

variable (m : (ℓ : Loc nD τ sig) → Buf (Elt Ideal) ℓ)

/-- Where the grid's points read and write. -/
theorem idx : ∀ t : Fin cfg0.N, win0_0.index t = ![0, 0] ∧ win0_1.index t = ![0, 0] ∧ win0_2.index t = ![t.val, 0] ∧ win0_3.index t = ![t.val, 0] ∧ win0_4.index t = ![0, t.val] ∧ win0_5.index t = ![0, 7 + t.val] ∧ win0_6.index t = ![0, 11 + t.val] ∧ win0_7.index t = ![0, t.val] ∧ win0_8.index t = ![0, t.val] ∧ win0_9.index t = ![0, t.val] :=
  (by decide +kernel : ∀ t : Fin grid0.N, _)

/-- The kernel's result 0 after the run. -/
theorem final_wantA (c : Dev nD) : (dats m 0 c).arrAt 7 (cfgs 0).N = wantA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; frame_out
  unfold wantA branch
  pointwise [k0_pay3, k0_pay1]
  blk_point [iblk, V, idx t]

/-- The kernel's result 1 after the run. -/
theorem final_wantC (c : Dev nD) : (dats m 0 c).arrAt 8 (cfgs 0).N = wantC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]; frame_out
  unfold wantC branch
  pointwise [k0_pay4, k0_pay2]
  blk_point [iblk, V, idx t]

/-- The kernel's result 2 after the run. -/
theorem final_want (c : Dev nD) : (dats m 0 c).arrAt 9 (cfgs 0).N = want (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]; frame_out
  unfold want branch gate
  pointwise [k0_pay5, k0_pay1, k0_pay2]
  blk_point [iblk, V, idx t]

/-- The kernel's results are the reference's. -/
theorem algebraic : Cert.algebraic_Kernel14Ideal_Reference14Ideal := by
  intro m g m' g' _ hm
  refine ⟨_, _, _, Cert.Kernel14Ideal.Value.run_blocks m g, (θ_run _ _ _).mono (fun r h c => ?_) (Cert.Reference14Ideal.Value.run (F := Ideal) m' g')⟩
  obtain ⟨e0, e1, e2, e3, e4, e5⟩ := hm c
  refine ⟨(h c).1.trans ?_, (h c).2.1.trans ?_, (h c).2.2.1.trans ?_, (h c).2.2.2⟩
  · rw [e0, e2]
    exact (reference_wantA _ (m ((c : Thread nD τ).loc main_arg1)) _ (m ((c : Thread nD τ).loc main_arg3)) (m ((c : Thread nD τ).loc main_arg4)) (m ((c : Thread nD τ).loc main_arg5))).trans (final_wantA m c).symm
  · rw [e1, e3, e4]
    exact (reference_wantC (m ((c : Thread nD τ).loc main_arg0)) _ (m ((c : Thread nD τ).loc main_arg2)) _ _ (m ((c : Thread nD τ).loc main_arg5))).trans (final_wantC m c).symm
  · rw [e0, e1, e2, e3, e4, e5]
    exact (reference_want _ _ _ _ _ _).trans (final_want m c).symm

/-- The reference's runs end with the arguments as they were. -/
theorem reference_frame : Cert.quiescent_Reference14Ideal := fun m g _ =>
  (θ_run _ _ _).mono (fun r h => ⟨fun c => (h c).2.2.2, sem_eq_zero_of_no_sems (by decide) r.2⟩) (Cert.Reference14Ideal.Value.run (F := Ideal) m g)

end Cert.Proof.Call14
end
-- ==== Proof.OutProjRms.lean ====
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

/-!
The output projection, the residual stream and its RMS norm.
-/

set_option maxRecDepth 16384

noncomputable section

namespace Cert.Proof.Call15

open Idealize.ShloMosaic Idealize.ShloMosaic.TcCoe Idealize.SL.Sem

section Reference

open Cert.Reference15Ideal Cert.Reference15Ideal.Gen

/-- The residual stream after the mixers. -/
def stream (a0 : FVec Ideal S2048x1024 .bf16) (a1 : FVec Ideal S1024x1024 .bf16) (a2 : FVec Ideal S2048x1024 .f32) (r : Fin 2048) (j : Fin 1024) : EReal :=
  (∑ k : Fin 1024, a0 (ix2 r k) * a1 (ix2 k j)) + a2 (ix2 r j)

/-- The reciprocal root mean square of a row. -/
def root (a0 : FVec Ideal S2048x1024 .bf16) (a1 : FVec Ideal S1024x1024 .bf16) (a2 : FVec Ideal S2048x1024 .f32) (r : Fin 2048) : EReal :=
  Ideal.rsqrt (Ideal.div (∑ j : Fin 1024, stream a0 a1 a2 r j * stream a0 a1 a2 r j) (Ideal.ofBits .f32 0x44800000#32) + Ideal.ofBits .f32 0x3727C5AC#32)

/-- The residual stream. -/
def want (a0 : FVec Ideal S2048x1024 .bf16) (a1 : FVec Ideal S1024x1024 .bf16) (a2 : FVec Ideal S2048x1024 .f32) (a3 : FVec Ideal S1x1024 .f32) : FVec Ideal S2048x1024 .f32 :=
  fun i => stream a0 a1 a2 (i 0) (i 1)

/-- The normed stream. -/
def wantNorm (a0 : FVec Ideal S2048x1024 .bf16) (a1 : FVec Ideal S1024x1024 .bf16) (a2 : FVec Ideal S2048x1024 .f32) (a3 : FVec Ideal S1x1024 .f32) : FVec Ideal S2048x1024 .bf16 :=
  fun i => stream a0 a1 a2 (i 0) (i 1) * root a0 a1 a2 (i 0) * a3 (ix2 0 (i 1))

/-- The reciprocal root mean squares. -/
def wantRoot (a0 : FVec Ideal S2048x1024 .bf16) (a1 : FVec Ideal S1024x1024 .bf16) (a2 : FVec Ideal S2048x1024 .f32) (a3 : FVec Ideal S1x1024 .f32) : FVec Ideal S2048x1 .f32 :=
  fun i => root a0 a1 a2 (i 0)

/-- The reference's result 0. -/
theorem reference_want (a0 : FVec Ideal S2048x1024 .bf16) (a1 : FVec Ideal S1024x1024 .bf16) (a2 : FVec Ideal S2048x1024 .f32) (a3 : FVec Ideal S1x1024 .f32) :
    (addf a2 (Host.dotGeneral dot_S2048x1024_S1024x1024_S2048x1024_1_0_0_1_n_n none (extf .f32 a0 bitsLt_bf16_f32) (extf .f32 a1 bitsLt_bf16_f32)) : FVec Ideal S2048x1024 .f32) = want a0 a1 a2 a3 := by
  funext i
  unfold want stream
  pointwise
  exact add_comm _ _

/-- The reference's result 1. -/
theorem reference_wantNorm (a0 : FVec Ideal S2048x1024 .bf16) (a1 : FVec Ideal S1024x1024 .bf16) (a2 : FVec Ideal S2048x1024 .f32) (a3 : FVec Ideal S1x1024 .f32) :
    (truncf .bf16 (mulf (mulf (addf a2 (Host.dotGeneral dot_S2048x1024_S1024x1024_S2048x1024_1_0_0_1_n_n none (extf .f32 a0 bitsLt_bf16_f32) (extf .f32 a1 bitsLt_bf16_f32))) (broadcastInDim S2048x1024 ![0, 1] bcast_S2048x1_S2048x1024_0_1 (Host.rsqrt (addf (Host.divf (broadcastInDim S2048x1 ![0] bcast_S2048_S2048x1_0 (Host.reduceAdd (mulf (addf a2 (Host.dotGeneral dot_S2048x1024_S1024x1024_S2048x1024_1_0_0_1_n_n none (extf .f32 a0 bitsLt_bf16_f32) (extf .f32 a1 bitsLt_bf16_f32))) (addf a2 (Host.dotGeneral dot_S2048x1024_S1024x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1024 ![0, 1] bcast_S1x1024_S2048x1024_0_1 (broadcastInDim S1x1024 ![1] bcast_S1024_S1x1024_1 (shapeCast _ a3 shapeCasts_S1x1024_S1024)))) bitsLt_bf16_f32 : FVec Ideal S2048x1024 .bf16) = wantNorm a0 a1 a2 a3 := by
  funext i
  unfold wantNorm root stream
  pointwise
  simp only [add_comm (a2 _)]

/-- The reference's result 2. -/
theorem reference_wantRoot (a0 : FVec Ideal S2048x1024 .bf16) (a1 : FVec Ideal S1024x1024 .bf16) (a2 : FVec Ideal S2048x1024 .f32) (a3 : FVec Ideal S1x1024 .f32) :
    (Host.rsqrt (addf (Host.divf (broadcastInDim S2048x1 ![0] bcast_S2048_S2048x1_0 (Host.reduceAdd (mulf (addf a2 (Host.dotGeneral dot_S2048x1024_S1024x1024_S2048x1024_1_0_0_1_n_n none (extf .f32 a0 bitsLt_bf16_f32) (extf .f32 a1 bitsLt_bf16_f32))) (addf a2 (Host.dotGeneral dot_S2048x1024_S1024x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32))) : FVec Ideal S2048x1 .f32) = wantRoot a0 a1 a2 a3 := by
  funext i
  unfold wantRoot root stream
  pointwise
  simp only [add_comm (a2 _)]

end Reference

open Cert.Kernel15Ideal Cert.Kernel15Ideal.Gen

variable (m : (ℓ : Loc nD τ sig) → Buf (Elt Ideal) ℓ)

/-- Where the grid's points read and write. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] :=
  (by decide +kernel : ∀ t : Fin grid0.N, _)

/-- The kernel's result 0 after the run. -/
theorem final_want (c : Dev nD) : (dats m 0 c).arrAt 4 (cfgs 0).N = want (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  unfold want stream
  pointwise [k0_pay1]
  blk_point [iblk, V, idx t]

/-- The kernel's result 1 after the run. -/
theorem final_wantNorm (c : Dev nD) : (dats m 0 c).arrAt 5 (cfgs 0).N = wantNorm (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  unfold wantNorm root stream
  pointwise [k0_pay3, k0_pay2, k0_pay1]
  blk_point [iblk, V, idx t]

/-- The kernel's result 2 after the run. -/
theorem final_wantRoot (c : Dev nD) : (dats m 0 c).arrAt 6 (cfgs 0).N = wantRoot (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  unfold wantRoot root stream
  pointwise [k0_pay2, k0_pay1]
  blk_point [iblk, V, idx t]

/-- The kernel's results are the reference's. -/
theorem algebraic : Cert.algebraic_Kernel15Ideal_Reference15Ideal := by
  intro m g m' g' _ hm
  refine ⟨_, _, _, Cert.Kernel15Ideal.Value.run_blocks m g, (θ_run _ _ _).mono (fun r h c => ?_) (Cert.Reference15Ideal.Value.run (F := Ideal) m' g')⟩
  obtain ⟨e0, e1, e2, e3⟩ := hm c
  refine ⟨(h c).1.trans ?_, (h c).2.1.trans ?_, (h c).2.2.1.trans ?_, (h c).2.2.2⟩
  · rw [e0, e1, e2]
    exact (reference_want _ _ _ (m ((c : Thread nD τ).loc main_arg3))).trans (final_want m c).symm
  · rw [e0, e1, e2, e3]
    exact (reference_wantNorm _ _ _ _).trans (final_wantNorm m c).symm
  · rw [e0, e1, e2]
    exact (reference_wantRoot _ _ _ (m ((c : Thread nD τ).loc main_arg3))).trans (final_wantRoot m c).symm

/-- The reference's runs end with the arguments as they were. -/
theorem reference_frame : Cert.quiescent_Reference15Ideal := fun m g _ =>
  (θ_run _ _ _).mono (fun r h => ⟨fun c => (h c).2.2.2, sem_eq_zero_of_no_sems (by decide) r.2⟩) (Cert.Reference15Ideal.Value.run (F := Ideal) m g)

end Cert.Proof.Call15
end
-- ==== Proof.RmsBwd.lean ====
module

public import proofs.«01_k».proof.Proof.Reals

@[expose] public section

/-!
The backward of an RMS norm at one entry of a row, in the two forms the programs compute it.
The forms are equal at every extended real: where the row's mean square is infinite its reciprocal root is
zero and both are what comes in, and otherwise the reciprocal root is a positive real number.
-/

noncomputable section

namespace Cert.Proof

open Idealize.ShloMosaic

/-- The width of a row. -/
theorem width_eq : Ideal.ofBits .f32 0x44800000#32 = ((1024 : ℝ) : EReal) := by
  simp [Ideal.ofBits, Ideal.ieee, -EReal.coe_mul]; norm_num

/-- Minus one half. -/
theorem neg_half_eq : Ideal.ofBits .f32 0xBF000000#32 = ((-(1 / 2) : ℝ) : EReal) := by
  simp [Ideal.ofBits, Ideal.ieee, -EReal.coe_mul, -EReal.coe_neg]; norm_num

/-- The norm's small constant is a positive real number. -/
theorem eps_pos : ∃ e : ℝ, 0 < e ∧ Ideal.ofBits .f32 0x3727C5AC#32 = (e : EReal) := by
  refine ⟨_, ?_, by simp only [Ideal.ofBits, Ideal.ieee]; simp [-EReal.coe_mul]; rfl⟩
  norm_num

/-- A square is not negative. -/
theorem sq_nonneg' (x : EReal) : 0 ≤ x * x := by
  induction x using EReal.rec with
  | bot => simp
  | top => simp
  | coe x => rw [← EReal.coe_mul]; exact EReal.coe_nonneg.2 (mul_self_nonneg x)

/-- A real factor that is not negative leaves a sum. -/
theorem sum_mul_real {n : ℕ} (f : Fin n → EReal) (r : ℝ) (hr : 0 ≤ r) : ∑ k, f k * (r : EReal) = (∑ k, f k) * (r : EReal) := by
  induction n with
  | zero => simp
  | succ n ih => rw [Fin.sum_univ_castSucc, Fin.sum_univ_castSucc, ih, EReal.right_distrib_of_nonneg_of_ne_top (EReal.coe_nonneg.2 hr) (EReal.coe_ne_top r)]

/-- Twice a real multiple. -/
theorem twice (z : EReal) (k : ℝ) (hk : k < 0) : z * (k : EReal) + z * (k : EReal) = z * ((2 * k : ℝ) : EReal) := by
  induction z using EReal.rec with
  | bot => rw [EReal.bot_mul_coe_of_neg hk, EReal.bot_mul_coe_of_neg (by linarith)]; rfl
  | top => rw [EReal.top_mul_coe_of_neg hk, EReal.top_mul_coe_of_neg (by linarith)]; rfl
  | coe z => rw [← EReal.coe_mul, ← EReal.coe_mul, ← EReal.coe_add]; congr 1; ring

/-- A row's mean square and the small constant: infinite, or a positive real number. -/
theorem mean_cases (X : Fin 1024 → EReal) :
    Ideal.div (∑ k, X k * X k) (Ideal.ofBits .f32 0x44800000#32) + Ideal.ofBits .f32 0x3727C5AC#32 = ⊤
      ∨ ∃ a : ℝ, 0 < a ∧ Ideal.div (∑ k, X k * X k) (Ideal.ofBits .f32 0x44800000#32) + Ideal.ofBits .f32 0x3727C5AC#32 = (a : EReal) := by
  obtain ⟨e, he, e1⟩ := eps_pos
  have h0 : 0 ≤ ∑ k, X k * X k := Finset.sum_nonneg fun k _ => sq_nonneg' (X k)
  rw [width_eq, e1, Ideal.div_coe (by norm_num)]
  generalize (∑ k, X k * X k) = S at h0
  induction S using EReal.rec with
  | bot => exact absurd h0 (by simp)
  | top => left; rw [EReal.top_mul_coe_of_pos (by norm_num)]; rfl
  | coe s =>
    right
    have hs : 0 ≤ s := EReal.coe_nonneg.1 h0
    refine ⟨s * (1 / 1024) + e, by positivity, ?_⟩
    rw [← EReal.coe_mul, ← EReal.coe_add]

/-- The backward of the norm at entry `j` of a row `X`, whose gradient times the gain is `E`, with `D` coming in beside it. -/
theorem rms_law (X E : Fin 1024 → EReal) (D : EReal) (j : Fin 1024) (A r s : EReal)
    (hA : A = Ideal.div (∑ k, X k * X k) (Ideal.ofBits .f32 0x44800000#32) + Ideal.ofBits .f32 0x3727C5AC#32)
    (hr : r = Ideal.rsqrt A)
    (hs : s = Ideal.div ((∑ k, X k * E k) * (Ideal.ofBits .f32 0xBF000000#32 * Ideal.div r A)) (Ideal.ofBits .f32 0x44800000#32)) :
    D + E j * r + X j * s + s * X j = D + r * (E j - X j * r * Ideal.div (∑ k, E k * (X k * r)) (Ideal.ofBits .f32 0x44800000#32)) := by
  rw [width_eq, neg_half_eq, Ideal.div_coe (by norm_num)] at hs
  rw [width_eq, Ideal.div_coe (by norm_num)]
  rcases mean_cases X with h | ⟨a, ha, h⟩
  · rw [← hA] at h
    have r0 : r = 0 := by rw [hr, h]; simp
    subst r0
    have s0 : s = 0 := by rw [hs, h]; simp [Ideal.div]
    subst s0
    simp
  · rw [← hA] at h
    have hq : 0 < Real.sqrt a := Real.sqrt_pos.2 ha
    have hr' : r = (((Real.sqrt a)⁻¹ : ℝ) : EReal) := by rw [hr, h, Ideal.rsqrt_coe, if_neg (not_lt.2 ha.le), if_neg ha.ne']
    have hp : 0 < (Real.sqrt a)⁻¹ := inv_pos.2 hq
    have h2 : 1 / a = (Real.sqrt a)⁻¹ * (Real.sqrt a)⁻¹ := by rw [← mul_inv, Real.mul_self_sqrt ha.le, one_div]
    generalize (Real.sqrt a)⁻¹ = p at hr' hp h2
    subst hr'
    rw [h, Ideal.div_coe ha.ne', h2] at hs
    have e : ∀ k, E k * (X k * (p : EReal)) = X k * E k * (p : EReal) := fun k => by rw [← mul_assoc, mul_comm (E k)]
    simp only [e]
    rw [sum_mul_real _ p hp.le]
    generalize (∑ k, X k * E k) = M at hs ⊢
    have hs' : s = M * ((-(1 / 2) * (p * (p * p)) * (1 / 1024) : ℝ) : EReal) := by
      rw [hs, ← EReal.coe_mul, ← EReal.coe_mul, mul_assoc M, ← EReal.coe_mul]
    have hk : (-(1 / 2) * (p * (p * p)) * (1 / 1024) : ℝ) < 0 := by
      have : 0 < p * (p * p) := by positivity
      linarith
    rw [add_assoc, add_assoc, mul_comm s, hs', ← mul_assoc, twice _ _ hk, sub_eq_add_neg,
      mul_comm (p : EReal) (E j + _), EReal.right_distrib_of_nonneg_of_ne_top (EReal.coe_nonneg.2 hp.le) (EReal.coe_ne_top p)]
    congr 2
    have e3 : X j * (p : EReal) * (M * (p : EReal) * ((1 / 1024 : ℝ) : EReal)) = X j * M * ((p * p * (1 / 1024) : ℝ) : EReal) := by
      rw [mul_assoc M, ← EReal.coe_mul, mul_mul_mul_comm, ← EReal.coe_mul, mul_assoc p]
    rw [e3, ← mul_neg, mul_assoc (X j * M), ← EReal.coe_neg, ← EReal.coe_mul]
    congr 2
    ring

end Cert.Proof
end
-- ==== Proof.FfnInBwd.lean ====
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import proofs.«01_k».proof.Proof.RmsBwd

@[expose] public section

/-!
The backward of the feed-forward layer's first projection and of its RMS norm.
-/

set_option maxRecDepth 16384

noncomputable section

namespace Cert.Proof.Call16

open Idealize.ShloMosaic Idealize.ShloMosaic.TcCoe Idealize.SL.Sem

section Reference

open Cert.Reference16Ideal Cert.Reference16Ideal.Gen

/-- An entry of the gradient of the normed rows. -/
def grad (a0 : FVec Ideal S2048x2816 .bf16) (a1 : FVec Ideal S2048x2816 .bf16) (a2 : FVec Ideal S5632x1024 .bf16) (r : Fin 2048) (j : Fin 1024) : EReal :=
  (∑ k : Fin 2816, a0 (ix2 r k) * a2 (ix2 (⟨k.val, by omega⟩ : Fin 5632) j)) + (∑ k : Fin 2816, a1 (ix2 r k) * a2 (ix2 (⟨2816 + k.val, by omega⟩ : Fin 5632) j))

/-- The same entry over the joined gradients. -/
def whole (a0 : FVec Ideal S2048x2816 .bf16) (a1 : FVec Ideal S2048x2816 .bf16) (a2 : FVec Ideal S5632x1024 .bf16) (r : Fin 2048) (j : Fin 1024) : EReal :=
  ∑ k : Fin 5632, (if h : k.val < 2816 then a0 (ix2 r (⟨k.val, h⟩ : Fin 2816)) else a1 (ix2 r (⟨k.val - 2816, by omega⟩ : Fin 2816))) * a2 (ix2 k j)

/-- The joined gradients against the weights are the sum of each against its own rows of them. -/
theorem grad_concat (a0 : FVec Ideal S2048x2816 .bf16) (a1 : FVec Ideal S2048x2816 .bf16) (a2 : FVec Ideal S5632x1024 .bf16) (r : Fin 2048) (j : Fin 1024) : whole a0 a1 a2 r j = grad a0 a1 a2 r j := by
  unfold whole grad
  refine (Fin.sum_univ_add (a := 2816) (b := 2816) _).trans (congrArg₂ (fun a b : EReal => a + b) (Finset.sum_congr rfl fun k _ => ?_) (Finset.sum_congr rfl fun k _ => ?_))
  · rw [dif_pos (show (Fin.castAdd 2816 k).val < 2816 from k.isLt)]; rfl
  · have e : (Fin.natAdd 2816 k).val - 2816 = k.val := Nat.add_sub_cancel_left _ _
    rw [dif_neg (show ¬ (Fin.natAdd 2816 k).val < 2816 from Nat.not_lt.2 (Nat.le_add_right _ _))]
    simp only [e]; rfl

/-- The gradient of the normed rows: the gradients coming in, each against its rows of the weights. -/
def dh (a0 : FVec Ideal S2048x2816 .bf16) (a1 : FVec Ideal S2048x2816 .bf16) (a2 : FVec Ideal S5632x1024 .bf16) : FVec Ideal S2048x1024 .f32 :=
  fun i => grad a0 a1 a2 (i 0) (i 1)

/-- The reciprocal root mean square of a row. -/
def root (x : FVec Ideal S2048x1024 .f32) (r : Fin 2048) : EReal :=
  Ideal.rsqrt (Ideal.div (∑ k : Fin 1024, x (ix2 r k) * x (ix2 r k)) (Ideal.ofBits .f32 0x44800000#32) + Ideal.ofBits .f32 0x3727C5AC#32)

/-- The reciprocal root mean squares. -/
def roots (x : FVec Ideal S2048x1024 .f32) : FVec Ideal S2048x1 .f32 :=
  fun i => root x (i 0)

/-- The gradient of the rows, from the gradient `D` of the normed rows and the reciprocal root mean squares `R`. -/
def entry (D x : FVec Ideal S2048x1024 .f32) (R : FVec Ideal S2048x1 .f32) (g : FVec Ideal S1x1024 .f32) (r : Fin 2048) (j : Fin 1024) : EReal :=
  R (ix2 r 0) * (D (ix2 r j) * g (ix2 0 j) - x (ix2 r j) * R (ix2 r 0)
    * Ideal.div (∑ k : Fin 1024, D (ix2 r k) * g (ix2 0 k) * (x (ix2 r k) * R (ix2 r 0))) (Ideal.ofBits .f32 0x44800000#32))

/-- The gradient of the rows with the gradient that passes the norm by. -/
def wantRows (D a3 : FVec Ideal S2048x1024 .f32) (R : FVec Ideal S2048x1 .f32) (a4 : FVec Ideal S1x1024 .f32) (a5 : FVec Ideal S2048x1024 .f32) : FVec Ideal S2048x1024 .f32 :=
  fun i => a5 i + entry D a3 R a4 (i 0) (i 1)

/-- The gradient of the gain: summed over the rows. -/
def wantGain (D a3 : FVec Ideal S2048x1024 .f32) (R : FVec Ideal S2048x1 .f32) : FVec Ideal S1x1024 .f32 :=
  fun i => ∑ r : Fin 2048, D (ix2 r (i 1)) * (a3 (ix2 r (i 1)) * R (ix2 r 0))

/-- The reference's gradient of the normed rows. -/
theorem reference_dh (a0 : FVec Ideal S2048x2816 .bf16) (a1 : FVec Ideal S2048x2816 .bf16) (a2 : FVec Ideal S5632x1024 .bf16) :
    (Host.dotGeneral dot_S2048x5632_S1024x5632_S2048x1024_1_1_0_0_n_n none (extf .f32 (concatenate S2048x5632 1 [⟨S2048x2816, a0⟩, ⟨S2048x2816, a1⟩] concatenates_S2048x2816_S2048x2816_S2048x5632_d1) bitsLt_bf16_f32) (extf .f32 (transpose S1024x5632 [1, 0] a2 transposes_S5632x1024_S1024x5632_1_0) bitsLt_bf16_f32) : FVec Ideal S2048x1024 .f32) = dh a0 a1 a2 := by
  funext i
  obtain ⟨r, j, rfl⟩ : ∃ (r : Fin 2048) (j : Fin 1024), i = ix2 r j := ⟨i 0, i 1, eq_ix2 i⟩
  refine Eq.trans ?_ (grad_concat a0 a1 a2 r j)
  unfold whole
  pointwise

/-- The reference's gradient of the rows, from the gradient of the normed rows. -/
theorem reference_rows (D : FVec Ideal S2048x1024 .f32) (a3 : FVec Ideal S2048x1024 .f32) (a4 : FVec Ideal S1x1024 .f32) (a5 : FVec Ideal S2048x1024 .f32) :
    (addf (addf (addf a5 (mulf (mulf D (broadcastInDim S2048x1024 ![0, 1] bcast_S1x1024_S2048x1024_0_1 (broadcastInDim S1x1024 ![1] bcast_S1024_S1x1024_1 (shapeCast _ a4 shapeCasts_S1x1024_S1024)))) (broadcastInDim S2048x1024 ![0, 1] bcast_S2048x1_S2048x1024_0_1 (Host.rsqrt (addf (Host.divf (broadcastInDim S2048x1 ![0] bcast_S2048_S2048x1_0 (Host.reduceAdd (mulf a3 a3) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32))))))) (mulf a3 (broadcastInDim S2048x1024 ![0] bcast_S2048_S2048x1024_0 (Host.reduceAdd (Host.divf (mulf (shapeCast _ (Host.reduceAdd (mulf a3 (mulf D (broadcastInDim S2048x1024 ![0, 1] bcast_S1x1024_S2048x1024_0_1 (broadcastInDim S1x1024 ![1] bcast_S1024_S1x1024_1 (shapeCast _ a4 shapeCasts_S1x1024_S1024))))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf a3 a3) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))) (addf (Host.divf (broadcastInDim S2048x1 ![0] bcast_S2048_S2048x1_0 (Host.reduceAdd (mulf a3 a3) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf a3 (mulf D (broadcastInDim S2048x1024 ![0, 1] bcast_S1x1024_S2048x1024_0_1 (broadcastInDim S1x1024 ![1] bcast_S1024_S1x1024_1 (shapeCast _ a4 shapeCasts_S1x1024_S1024))))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf a3 a3) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))) (addf (Host.divf (broadcastInDim S2048x1 ![0] bcast_S2048_S2048x1_0 (Host.reduceAdd (mulf a3 a3) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1 ![] bcast_S_S2048x1 (constant S_ .f32 0x44800000#32))) (constant S_ .f32 0x00000000#32) reducesTo_S2048x1_S2048_d1 h_S_)) a3) : FVec Ideal S2048x1024 .f32) = wantRows D a3 (roots a3) a4 a5 := by
  funext i
  obtain ⟨r, j, rfl⟩ : ∃ (r : Fin 2048) (j : Fin 1024), i = ix2 r j := ⟨i 0, i 1, eq_ix2 i⟩
  unfold wantRows entry roots root
  pointwise
  exact rms_law (fun k => a3 (ix2 r k)) (fun k => D (ix2 r k) * a4 (ix2 0 k)) (a5 (ix2 r j)) j _ _ _ rfl rfl (Fin.sum_univ_one _)

/-- The reference's gradient of the gain, from the gradient of the normed rows. -/
theorem reference_gain (D a3 : FVec Ideal S2048x1024 .f32) :
    (broadcastInDim S1x1024 ![1] bcast_S1024_S1x1024_1 (Host.reduceAdd (shapeCast _ (Host.reduceAdd (mulf (mulf a3 (broadcastInDim S2048x1024 ![0, 1] bcast_S2048x1_S2048x1024_0_1 (Host.rsqrt (addf (Host.divf (broadcastInDim S2048x1 ![0] bcast_S2048_S2048x1_0 (Host.reduceAdd (mulf a3 a3) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) D) (constant S_ .f32 0x00000000#32) reducesTo_S2048x1024_S1024_d0 h_S_) shapeCasts_S1024_S1x1024) (constant S_ .f32 0x00000000#32) reducesTo_S1x1024_S1024_d0 h_S_) : FVec Ideal S1x1024 .f32) = wantGain D a3 (roots a3) := by
  funext i
  obtain ⟨z, j, rfl⟩ : ∃ (z : Fin 1) (j : Fin 1024), i = ix2 z j := ⟨i 0, i 1, eq_ix2 i⟩
  unfold wantGain roots root
  pointwise
  exact (Fin.sum_univ_one _).trans (Finset.sum_congr rfl fun r _ => mul_comm (_ : EReal) _)

/-- The reference's result 0. -/
theorem reference_result0 (a0 : FVec Ideal S2048x2816 .bf16) (a1 : FVec Ideal S2048x2816 .bf16) (a2 : FVec Ideal S5632x1024 .bf16) (a3 : FVec Ideal S2048x1024 .f32) (a4 : FVec Ideal S1x1024 .f32) (a5 : FVec Ideal S2048x1024 .f32) :
    (addf (addf (addf a5 (mulf (mulf (Host.dotGeneral dot_S2048x5632_S1024x5632_S2048x1024_1_1_0_0_n_n none (extf .f32 (concatenate S2048x5632 1 [⟨S2048x2816, a0⟩, ⟨S2048x2816, a1⟩] concatenates_S2048x2816_S2048x2816_S2048x5632_d1) bitsLt_bf16_f32) (extf .f32 (transpose S1024x5632 [1, 0] a2 transposes_S5632x1024_S1024x5632_1_0) bitsLt_bf16_f32)) (broadcastInDim S2048x1024 ![0, 1] bcast_S1x1024_S2048x1024_0_1 (broadcastInDim S1x1024 ![1] bcast_S1024_S1x1024_1 (shapeCast _ a4 shapeCasts_S1x1024_S1024)))) (broadcastInDim S2048x1024 ![0, 1] bcast_S2048x1_S2048x1024_0_1 (Host.rsqrt (addf (Host.divf (broadcastInDim S2048x1 ![0] bcast_S2048_S2048x1_0 (Host.reduceAdd (mulf a3 a3) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32))))))) (mulf a3 (broadcastInDim S2048x1024 ![0] bcast_S2048_S2048x1024_0 (Host.reduceAdd (Host.divf (mulf (shapeCast _ (Host.reduceAdd (mulf a3 (mulf (Host.dotGeneral dot_S2048x5632_S1024x5632_S2048x1024_1_1_0_0_n_n none (extf .f32 (concatenate S2048x5632 1 [⟨S2048x2816, a0⟩, ⟨S2048x2816, a1⟩] concatenates_S2048x2816_S2048x2816_S2048x5632_d1) bitsLt_bf16_f32) (extf .f32 (transpose S1024x5632 [1, 0] a2 transposes_S5632x1024_S1024x5632_1_0) bitsLt_bf16_f32)) (broadcastInDim S2048x1024 ![0, 1] bcast_S1x1024_S2048x1024_0_1 (broadcastInDim S1x1024 ![1] bcast_S1024_S1x1024_1 (shapeCast _ a4 shapeCasts_S1x1024_S1024))))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf a3 a3) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))) (addf (Host.divf (broadcastInDim S2048x1 ![0] bcast_S2048_S2048x1_0 (Host.reduceAdd (mulf a3 a3) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf a3 (mulf (Host.dotGeneral dot_S2048x5632_S1024x5632_S2048x1024_1_1_0_0_n_n none (extf .f32 (concatenate S2048x5632 1 [⟨S2048x2816, a0⟩, ⟨S2048x2816, a1⟩] concatenates_S2048x2816_S2048x2816_S2048x5632_d1) bitsLt_bf16_f32) (extf .f32 (transpose S1024x5632 [1, 0] a2 transposes_S5632x1024_S1024x5632_1_0) bitsLt_bf16_f32)) (broadcastInDim S2048x1024 ![0, 1] bcast_S1x1024_S2048x1024_0_1 (broadcastInDim S1x1024 ![1] bcast_S1024_S1x1024_1 (shapeCast _ a4 shapeCasts_S1x1024_S1024))))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf a3 a3) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))) (addf (Host.divf (broadcastInDim S2048x1 ![0] bcast_S2048_S2048x1_0 (Host.reduceAdd (mulf a3 a3) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1 ![] bcast_S_S2048x1 (constant S_ .f32 0x44800000#32))) (constant S_ .f32 0x00000000#32) reducesTo_S2048x1_S2048_d1 h_S_)) a3) : FVec Ideal S2048x1024 .f32) = wantRows (dh a0 a1 a2) a3 (roots a3) a4 a5 := by
  rw [reference_dh]
  exact reference_rows _ a3 a4 a5

/-- The reference's result 2. -/
theorem reference_result2 (a0 : FVec Ideal S2048x2816 .bf16) (a1 : FVec Ideal S2048x2816 .bf16) (a2 : FVec Ideal S5632x1024 .bf16) (a3 : FVec Ideal S2048x1024 .f32) :
    (broadcastInDim S1x1024 ![1] bcast_S1024_S1x1024_1 (Host.reduceAdd (shapeCast _ (Host.reduceAdd (mulf (mulf a3 (broadcastInDim S2048x1024 ![0, 1] bcast_S2048x1_S2048x1024_0_1 (Host.rsqrt (addf (Host.divf (broadcastInDim S2048x1 ![0] bcast_S2048_S2048x1_0 (Host.reduceAdd (mulf a3 a3) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (Host.dotGeneral dot_S2048x5632_S1024x5632_S2048x1024_1_1_0_0_n_n none (extf .f32 (concatenate S2048x5632 1 [⟨S2048x2816, a0⟩, ⟨S2048x2816, a1⟩] concatenates_S2048x2816_S2048x2816_S2048x5632_d1) bitsLt_bf16_f32) (extf .f32 (transpose S1024x5632 [1, 0] a2 transposes_S5632x1024_S1024x5632_1_0) bitsLt_bf16_f32))) (constant S_ .f32 0x00000000#32) reducesTo_S2048x1024_S1024_d0 h_S_) shapeCasts_S1024_S1x1024) (constant S_ .f32 0x00000000#32) reducesTo_S1x1024_S1024_d0 h_S_) : FVec Ideal S1x1024 .f32) = wantGain (dh a0 a1 a2) a3 (roots a3) := by
  rw [reference_dh]
  exact reference_gain _ a3

end Reference

open Cert.Kernel16Ideal Cert.Kernel16Ideal.Gen

variable (m : (ℓ : Loc nD τ sig) → Buf (Elt Ideal) ℓ)

/-- Where the grid's points read and write. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![t.val, 0] ∧ win0_7.index t = ![t.val, 0] ∧ win0_8.index t = ![t.val, 0] ∧ win0_9.index t = ![0, 0] :=
  (by decide +kernel : ∀ t : Fin grid0.N, _)

/-- The rows' reciprocal root mean squares, as the launch finds them. -/
theorem root_read (c : Dev nD) : V m c main_v7 = roots (m ((c : Thread nD τ).loc main_arg3)) := by
  have e : V m c main_v7 = (fun x : FVec Ideal S2048x1024 .f32 => (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32))) : FVec Ideal S2048x1 .f32)) (m ((c : Thread nD τ).loc main_arg3)) := by
    unfold_abbrev_sides
    after_results
  rw [e]
  funext i
  show (Host.rsqrt _ : FVec Ideal S2048x1 .f32) i = _
  unfold roots root
  pointwise

/-- The gain's part of a block of rows: its column sums. -/
theorem pay5_at (v0 : Vec Ideal S2816x1024 .bf16) (v1 : Vec Ideal S256x2816 .bf16) (v3 : Vec Ideal S2816x1024 .bf16) (v4 : Vec Ideal S256x2816 .bf16) (v7 : Vec Ideal S256x1024 .f32) (v8 : Vec Ideal S256x1 .f32) (j : S1x1024.Idx) :
    k0_pay5 (F := Ideal) v0 v1 v3 v4 v7 v8 j = ∑ r : Fin 256, ((∑ k : Fin 2816, v1 (ix2 r k) * v0 (ix2 k (j 1))) + (∑ k : Fin 2816, v4 (ix2 r k) * v3 (ix2 k (j 1)))) * (v7 (ix2 r (j 1)) * v8 (ix2 r 0)) := by
  pointwise [k0_pay5, k0_pay2, k0_pay4, k0_pay3]

/-- The gain's gradient grows by a block's part. -/
theorem pay1_at (part : FVec Ideal S1x1024 .f32) (acc : Vec Ideal S1x1024 .f32) (j : S1x1024.Idx) :
    k0_pay1 (F := Ideal) part acc j = acc j + part j := by
  pointwise [k0_pay1]

/-- The kernel's result 0 after the run. -/
theorem final_rows (c : Dev nD) : (dats m 0 c).arrAt 7 (cfgs 0).N = wantRows (dh (m ((c : Thread nD τ).loc main_arg0)) (m ((c : Thread nD τ).loc main_arg1)) (m ((c : Thread nD τ).loc main_arg2))) (m ((c : Thread nD τ).loc main_arg3)) (roots (m ((c : Thread nD τ).loc main_arg3))) (m ((c : Thread nD τ).loc main_arg4)) (m ((c : Thread nD τ).loc main_arg5)) := by
  rw [← root_read m c]
  refine (dats m 0 c).arrAt_eq_of_covers 7 _ (by decide +kernel) fun t _ y => ?_
  blk_simp
  rw [after0_7]
  have hN := lt_of_lt_of_eq t.isLt N_0
  by_cases h : t.val % 8 = 0
  · rw [outsAt0_A m c t h (by omega)]; frame_out
    unfold wantRows entry dh grad
    pointwise [k0_pay6, k0_pay2, k0_pay3, k0_pay4]
    blk_point [iblk, V, idx t]
  · rw [outsAt0_B m c t h (by omega)]; frame_out
    unfold wantRows entry dh grad
    pointwise [k0_pay6, k0_pay2, k0_pay3, k0_pay4]
    blk_point [iblk, V, idx t]

/-- The kernel's result 1 after the run. -/
theorem final_rounded (c : Dev nD) : (dats m 0 c).arrAt 8 (cfgs 0).N = fun i => wantRows (dh (m ((c : Thread nD τ).loc main_arg0)) (m ((c : Thread nD τ).loc main_arg1)) (m ((c : Thread nD τ).loc main_arg2))) (m ((c : Thread nD τ).loc main_arg3)) (roots (m ((c : Thread nD τ).loc main_arg3))) (m ((c : Thread nD τ).loc main_arg4)) (m ((c : Thread nD τ).loc main_arg5)) i := by
  rw [← root_read m c]
  refine (dats m 0 c).arrAt_eq_of_covers 8 _ (by decide +kernel) fun t _ y => ?_
  blk_simp
  rw [after0_8]
  have hN := lt_of_lt_of_eq t.isLt N_0
  by_cases h : t.val % 8 = 0
  · rw [outsAt0_A m c t h (by omega)]; frame_out
    unfold wantRows entry dh grad
    pointwise [k0_pay7, k0_pay6, k0_pay2, k0_pay3, k0_pay4]
    blk_point [iblk, V, idx t]
  · rw [outsAt0_B m c t h (by omega)]; frame_out
    unfold wantRows entry dh grad
    pointwise [k0_pay7, k0_pay6, k0_pay2, k0_pay3, k0_pay4]
    blk_point [iblk, V, idx t]

/-- The kernel's result 2 after the run. -/
theorem final_gain (c : Dev nD) : (dats m 0 c).arrAt 9 (cfgs 0).N = wantGain (dh (m ((c : Thread nD τ).loc main_arg0)) (m ((c : Thread nD τ).loc main_arg1)) (m ((c : Thread nD τ).loc main_arg2))) (m ((c : Thread nD τ).loc main_arg3)) (roots (m ((c : Thread nD τ).loc main_arg3))) := by
  rw [← root_read m c]
  refine (dats m 0 c).arrAt_eq_of_after_last 9 t0_7 (by decide +kernel) _ fun j => ?_
  blk_simp
  rw [after0_9, Pipeline.eq_sum_fin_of_reset_step_apply_last (fun n h => (outsAt0 m c n h).2.2) 8 (fun _ => 0) _
    (fun t h j => by rw [outsAt0_A m c t h (by have := lt_of_lt_of_eq t.isLt N_0; omega)]; frame_out; rw [pay5_at, zero_add])
    (fun t h j => by rw [outsAt0_B m c t h (by omega)]; frame_out; rw [pay1_at, pay5_at])
    (le_of_eq N_0) t0_7 rfl j, zero_add]
  unfold wantGain dh grad
  refine Fin.sum_mul_add_congr fun s k hl => ?_
  blk_point [iblk, V, idx s]

/-- The kernel's results are the reference's. -/
theorem algebraic : Cert.algebraic_Kernel16Ideal_Reference16Ideal := by
  intro m g m' g' _ hm
  refine ⟨_, _, _, Cert.Kernel16Ideal.Value.run_blocks m g, (θ_run _ _ _).mono (fun r h c => ?_) (Cert.Reference16Ideal.Value.run (F := Ideal) m' g')⟩
  obtain ⟨e0, e1, e2, e3, e4, e5⟩ := hm c
  refine ⟨(h c).1.trans ?_, (h c).2.1.trans ?_, (h c).2.2.1.trans ?_, (h c).2.2.2⟩
  · unfold Cert.Reference16Ideal.Value.res_main_v43
    rw [e0, e1, e2, e3, e4, e5]
    exact (reference_result0 _ _ _ _ _ _).trans (final_rows m c).symm
  · unfold Cert.Reference16Ideal.Value.res_main_v44
    rw [e0, e1, e2, e3, e4, e5]
    refine Eq.trans ?_ (final_rounded m c).symm
    funext i
    exact congrFun (reference_result0 _ _ _ _ _ _) i
  · rw [e0, e1, e2, e3]
    exact (reference_result2 _ _ _ _).trans (final_gain m c).symm

/-- The reference's runs end with the arguments as they were. -/
theorem reference_frame : Cert.quiescent_Reference16Ideal := fun m g _ =>
  (θ_run _ _ _).mono (fun r h => ⟨fun c => (h c).2.2.2, sem_eq_zero_of_no_sems (by decide) r.2⟩) (Cert.Reference16Ideal.Value.run (F := Ideal) m g)

end Cert.Proof.Call16
end
-- ==== Proof.ProjInBwd.lean ====
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import proofs.«01_k».proof.Proof.RmsBwd

@[expose] public section

/-!
The backward of the input projection and of its RMS norm.
-/

set_option maxRecDepth 16384

noncomputable section

namespace Cert.Proof.Call17

open Idealize.ShloMosaic Idealize.ShloMosaic.TcCoe Idealize.SL.Sem

section Reference

open Cert.Reference17Ideal Cert.Reference17Ideal.Gen

/-- An entry of the gradient of the normed rows. -/
def grad (a0 : FVec Ideal S2048x768 .bf16) (a1 : FVec Ideal S2048x1024 .bf16) (a2 : FVec Ideal S2048x1024 .bf16) (a3 : FVec Ideal S2048x1024 .bf16) (a4 : FVec Ideal S3840x1024 .bf16) (r : Fin 2048) (j : Fin 1024) : EReal :=
  (∑ k : Fin 768, a0 (ix2 r k) * a4 (ix2 (⟨k.val, by omega⟩ : Fin 3840) j)) + (∑ k : Fin 1024, a1 (ix2 r k) * a4 (ix2 (⟨768 + k.val, by omega⟩ : Fin 3840) j)) + (∑ k : Fin 1024, a2 (ix2 r k) * a4 (ix2 (⟨1792 + k.val, by omega⟩ : Fin 3840) j)) + (∑ k : Fin 1024, a3 (ix2 r k) * a4 (ix2 (⟨2816 + k.val, by omega⟩ : Fin 3840) j))

/-- The same entry over the joined gradients. -/
def whole (a0 : FVec Ideal S2048x768 .bf16) (a1 : FVec Ideal S2048x1024 .bf16) (a2 : FVec Ideal S2048x1024 .bf16) (a3 : FVec Ideal S2048x1024 .bf16) (a4 : FVec Ideal S3840x1024 .bf16) (r : Fin 2048) (j : Fin 1024) : EReal :=
  ∑ k : Fin 3840, (if h : k.val < 768 then a0 (ix2 r (⟨k.val, h⟩ : Fin 768))
    else if h : k.val - 768 < 1024 then a1 (ix2 r (⟨k.val - 768, h⟩ : Fin 1024))
    else if h : k.val - 768 - 1024 < 1024 then a2 (ix2 r (⟨k.val - 768 - 1024, h⟩ : Fin 1024))
    else a3 (ix2 r (⟨k.val - 768 - 1024 - 1024, by omega⟩ : Fin 1024))) * a4 (ix2 k j)

/-- A sum over the joined columns is the sum over each part. -/
theorem sum_parts (f : Fin 3840 → EReal) : ∑ k, f k = (∑ k : Fin 768, f ⟨k.val, by omega⟩) + (∑ k : Fin 1024, f ⟨768 + k.val, by omega⟩)
    + (∑ k : Fin 1024, f ⟨1792 + k.val, by omega⟩) + (∑ k : Fin 1024, f ⟨2816 + k.val, by omega⟩) := by
  rw [Fin.sum_univ_add (a := 2816) (b := 1024) f, Fin.sum_univ_add (a := 1792) (b := 1024) fun k => f (Fin.castAdd 1024 k),
    Fin.sum_univ_add (a := 768) (b := 1024) fun k => f (Fin.castAdd 1024 (Fin.castAdd 1024 k))]
  rfl

/-- The joined gradients against the weights are the sum of each against its own rows of them. -/
theorem grad_concat (a0 : FVec Ideal S2048x768 .bf16) (a1 : FVec Ideal S2048x1024 .bf16) (a2 : FVec Ideal S2048x1024 .bf16) (a3 : FVec Ideal S2048x1024 .bf16) (a4 : FVec Ideal S3840x1024 .bf16) (r : Fin 2048) (j : Fin 1024) : whole a0 a1 a2 a3 a4 r j = grad a0 a1 a2 a3 a4 r j := by
  unfold whole grad
  rw [sum_parts]
  refine congrArg₂ (fun a b : EReal => a + b) (congrArg₂ (fun a b : EReal => a + b) (congrArg₂ (fun a b : EReal => a + b)
    (Finset.sum_congr rfl fun k _ => ?_) (Finset.sum_congr rfl fun k _ => ?_)) (Finset.sum_congr rfl fun k _ => ?_)) (Finset.sum_congr rfl fun k _ => ?_)
  · rw [dif_pos k.isLt]
  · have e : 768 + k.val - 768 = k.val := by omega
    rw [dif_neg (by simp), dif_pos (by simp)]
    simp only [e]
  · have e : 1792 + k.val - 768 - 1024 = k.val := by omega
    rw [dif_neg (by simp; omega), dif_neg (by simp; omega), dif_pos (by simp only [e]; exact k.isLt)]
    simp only [e]
  · have e : 2816 + k.val - 768 - 1024 - 1024 = k.val := by omega
    rw [dif_neg (by simp; omega), dif_neg (by simp; omega), dif_neg (by simp; omega)]
    simp only [e]

/-- The gradient of the normed rows: the gradients coming in, each against its rows of the weights. -/
def dh (a0 : FVec Ideal S2048x768 .bf16) (a1 : FVec Ideal S2048x1024 .bf16) (a2 : FVec Ideal S2048x1024 .bf16) (a3 : FVec Ideal S2048x1024 .bf16) (a4 : FVec Ideal S3840x1024 .bf16) : FVec Ideal S2048x1024 .f32 :=
  fun i => grad a0 a1 a2 a3 a4 (i 0) (i 1)

/-- The reciprocal root mean square of a row. -/
def root (x : FVec Ideal S2048x1024 .f32) (r : Fin 2048) : EReal :=
  Ideal.rsqrt (Ideal.div (∑ k : Fin 1024, x (ix2 r k) * x (ix2 r k)) (Ideal.ofBits .f32 0x44800000#32) + Ideal.ofBits .f32 0x3727C5AC#32)

/-- The reciprocal root mean squares. -/
def roots (x : FVec Ideal S2048x1024 .f32) : FVec Ideal S2048x1 .f32 :=
  fun i => root x (i 0)

/-- The gradient of the rows, from the gradient `D` of the normed rows and the reciprocal root mean squares `R`. -/
def entry (D x : FVec Ideal S2048x1024 .f32) (R : FVec Ideal S2048x1 .f32) (g : FVec Ideal S1x1024 .f32) (r : Fin 2048) (j : Fin 1024) : EReal :=
  R (ix2 r 0) * (D (ix2 r j) * g (ix2 0 j) - x (ix2 r j) * R (ix2 r 0)
    * Ideal.div (∑ k : Fin 1024, D (ix2 r k) * g (ix2 0 k) * (x (ix2 r k) * R (ix2 r 0))) (Ideal.ofBits .f32 0x44800000#32))

/-- The gradient of the rows with the gradient that passes the norm by. -/
def wantRows (D a5 : FVec Ideal S2048x1024 .f32) (R : FVec Ideal S2048x1 .f32) (a6 : FVec Ideal S1x1024 .f32) (a7 : FVec Ideal S2048x1024 .f32) : FVec Ideal S2048x1024 .f32 :=
  fun i => a7 i + entry D a5 R a6 (i 0) (i 1)

/-- The gradient of the gain: summed over the rows. -/
def wantGain (D a5 : FVec Ideal S2048x1024 .f32) (R : FVec Ideal S2048x1 .f32) : FVec Ideal S1x1024 .f32 :=
  fun i => ∑ r : Fin 2048, D (ix2 r (i 1)) * (a5 (ix2 r (i 1)) * R (ix2 r 0))

/-- The reference's gradient of the normed rows. -/
theorem reference_dh (a0 : FVec Ideal S2048x768 .bf16) (a1 : FVec Ideal S2048x1024 .bf16) (a2 : FVec Ideal S2048x1024 .bf16) (a3 : FVec Ideal S2048x1024 .bf16) (a4 : FVec Ideal S3840x1024 .bf16) :
    (Host.dotGeneral dot_S2048x3840_S1024x3840_S2048x1024_1_1_0_0_n_n none (extf .f32 ((concatenate S2048x3840 1 [⟨S2048x768, (a0)⟩, ⟨S2048x1024, (a1)⟩, ⟨S2048x1024, (a2)⟩, ⟨S2048x1024, (a3)⟩] concatenates_S2048x768_S2048x1024_S2048x1024_S2048x1024_S2048x3840_d1)) bitsLt_bf16_f32) (extf .f32 (transpose S1024x3840 [1, 0] a4 transposes_S3840x1024_S1024x3840_1_0) bitsLt_bf16_f32) : FVec Ideal S2048x1024 .f32) = dh a0 a1 a2 a3 a4 := by
  funext i
  obtain ⟨r, j, rfl⟩ : ∃ (r : Fin 2048) (j : Fin 1024), i = ix2 r j := ⟨i 0, i 1, eq_ix2 i⟩
  refine Eq.trans ?_ (grad_concat a0 a1 a2 a3 a4 r j)
  unfold whole
  pointwise

/-- The reference's gradient of the rows, from the gradient of the normed rows. -/
theorem reference_rows (D : FVec Ideal S2048x1024 .f32) (a5 : FVec Ideal S2048x1024 .f32) (a6 : FVec Ideal S1x1024 .f32) (a7 : FVec Ideal S2048x1024 .f32) :
    (addf (addf (addf a7 (mulf (mulf D (broadcastInDim S2048x1024 ![0, 1] bcast_S1x1024_S2048x1024_0_1 (broadcastInDim S1x1024 ![1] bcast_S1024_S1x1024_1 (shapeCast _ a6 shapeCasts_S1x1024_S1024)))) (broadcastInDim S2048x1024 ![0, 1] bcast_S2048x1_S2048x1024_0_1 (Host.rsqrt (addf (Host.divf (broadcastInDim S2048x1 ![0] bcast_S2048_S2048x1_0 (Host.reduceAdd (mulf a5 a5) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32))))))) (mulf a5 (broadcastInDim S2048x1024 ![0] bcast_S2048_S2048x1024_0 (Host.reduceAdd (Host.divf (mulf (shapeCast _ (Host.reduceAdd (mulf a5 (mulf D (broadcastInDim S2048x1024 ![0, 1] bcast_S1x1024_S2048x1024_0_1 (broadcastInDim S1x1024 ![1] bcast_S1024_S1x1024_1 (shapeCast _ a6 shapeCasts_S1x1024_S1024))))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf a5 a5) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))) (addf (Host.divf (broadcastInDim S2048x1 ![0] bcast_S2048_S2048x1_0 (Host.reduceAdd (mulf a5 a5) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf a5 (mulf D (broadcastInDim S2048x1024 ![0, 1] bcast_S1x1024_S2048x1024_0_1 (broadcastInDim S1x1024 ![1] bcast_S1024_S1x1024_1 (shapeCast _ a6 shapeCasts_S1x1024_S1024))))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf a5 a5) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))) (addf (Host.divf (broadcastInDim S2048x1 ![0] bcast_S2048_S2048x1_0 (Host.reduceAdd (mulf a5 a5) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1 ![] bcast_S_S2048x1 (constant S_ .f32 0x44800000#32))) (constant S_ .f32 0x00000000#32) reducesTo_S2048x1_S2048_d1 h_S_)) a5) : FVec Ideal S2048x1024 .f32) = wantRows D a5 (roots a5) a6 a7 := by
  funext i
  obtain ⟨r, j, rfl⟩ : ∃ (r : Fin 2048) (j : Fin 1024), i = ix2 r j := ⟨i 0, i 1, eq_ix2 i⟩
  unfold wantRows entry roots root
  pointwise
  exact rms_law (fun k => a5 (ix2 r k)) (fun k => D (ix2 r k) * a6 (ix2 0 k)) (a7 (ix2 r j)) j _ _ _ rfl rfl (Fin.sum_univ_one _)

/-- The reference's gradient of the gain, from the gradient of the normed rows. -/
theorem reference_gain (D a5 : FVec Ideal S2048x1024 .f32) :
    (broadcastInDim S1x1024 ![1] bcast_S1024_S1x1024_1 (Host.reduceAdd (shapeCast _ (Host.reduceAdd (mulf (mulf a5 (broadcastInDim S2048x1024 ![0, 1] bcast_S2048x1_S2048x1024_0_1 (Host.rsqrt (addf (Host.divf (broadcastInDim S2048x1 ![0] bcast_S2048_S2048x1_0 (Host.reduceAdd (mulf a5 a5) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) D) (constant S_ .f32 0x00000000#32) reducesTo_S2048x1024_S1024_d0 h_S_) shapeCasts_S1024_S1x1024) (constant S_ .f32 0x00000000#32) reducesTo_S1x1024_S1024_d0 h_S_) : FVec Ideal S1x1024 .f32) = wantGain D a5 (roots a5) := by
  funext i
  obtain ⟨z, j, rfl⟩ : ∃ (z : Fin 1) (j : Fin 1024), i = ix2 z j := ⟨i 0, i 1, eq_ix2 i⟩
  unfold wantGain roots root
  pointwise
  exact (Fin.sum_univ_one _).trans (Finset.sum_congr rfl fun r _ => mul_comm (_ : EReal) _)

/-- The reference's result 0. -/
theorem reference_result0 (a0 : FVec Ideal S2048x768 .bf16) (a1 : FVec Ideal S2048x1024 .bf16) (a2 : FVec Ideal S2048x1024 .bf16) (a3 : FVec Ideal S2048x1024 .bf16) (a4 : FVec Ideal S3840x1024 .bf16) (a5 : FVec Ideal S2048x1024 .f32) (a6 : FVec Ideal S1x1024 .f32) (a7 : FVec Ideal S2048x1024 .f32) :
    (addf (addf (addf a7 (mulf (mulf (Host.dotGeneral dot_S2048x3840_S1024x3840_S2048x1024_1_1_0_0_n_n none (extf .f32 ((concatenate S2048x3840 1 [⟨S2048x768, (a0)⟩, ⟨S2048x1024, (a1)⟩, ⟨S2048x1024, (a2)⟩, ⟨S2048x1024, (a3)⟩] concatenates_S2048x768_S2048x1024_S2048x1024_S2048x1024_S2048x3840_d1)) bitsLt_bf16_f32) (extf .f32 (transpose S1024x3840 [1, 0] a4 transposes_S3840x1024_S1024x3840_1_0) bitsLt_bf16_f32)) (broadcastInDim S2048x1024 ![0, 1] bcast_S1x1024_S2048x1024_0_1 (broadcastInDim S1x1024 ![1] bcast_S1024_S1x1024_1 (shapeCast _ a6 shapeCasts_S1x1024_S1024)))) (broadcastInDim S2048x1024 ![0, 1] bcast_S2048x1_S2048x1024_0_1 (Host.rsqrt (addf (Host.divf (broadcastInDim S2048x1 ![0] bcast_S2048_S2048x1_0 (Host.reduceAdd (mulf a5 a5) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32))))))) (mulf a5 (broadcastInDim S2048x1024 ![0] bcast_S2048_S2048x1024_0 (Host.reduceAdd (Host.divf (mulf (shapeCast _ (Host.reduceAdd (mulf a5 (mulf (Host.dotGeneral dot_S2048x3840_S1024x3840_S2048x1024_1_1_0_0_n_n none (extf .f32 ((concatenate S2048x3840 1 [⟨S2048x768, (a0)⟩, ⟨S2048x1024, (a1)⟩, ⟨S2048x1024, (a2)⟩, ⟨S2048x1024, (a3)⟩] concatenates_S2048x768_S2048x1024_S2048x1024_S2048x1024_S2048x3840_d1)) bitsLt_bf16_f32) (extf .f32 (transpose S1024x3840 [1, 0] a4 transposes_S3840x1024_S1024x3840_1_0) bitsLt_bf16_f32)) (broadcastInDim S2048x1024 ![0, 1] bcast_S1x1024_S2048x1024_0_1 (broadcastInDim S1x1024 ![1] bcast_S1024_S1x1024_1 (shapeCast _ a6 shapeCasts_S1x1024_S1024))))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf a5 a5) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))) (addf (Host.divf (broadcastInDim S2048x1 ![0] bcast_S2048_S2048x1_0 (Host.reduceAdd (mulf a5 a5) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf a5 (mulf (Host.dotGeneral dot_S2048x3840_S1024x3840_S2048x1024_1_1_0_0_n_n none (extf .f32 ((concatenate S2048x3840 1 [⟨S2048x768, (a0)⟩, ⟨S2048x1024, (a1)⟩, ⟨S2048x1024, (a2)⟩, ⟨S2048x1024, (a3)⟩] concatenates_S2048x768_S2048x1024_S2048x1024_S2048x1024_S2048x3840_d1)) bitsLt_bf16_f32) (extf .f32 (transpose S1024x3840 [1, 0] a4 transposes_S3840x1024_S1024x3840_1_0) bitsLt_bf16_f32)) (broadcastInDim S2048x1024 ![0, 1] bcast_S1x1024_S2048x1024_0_1 (broadcastInDim S1x1024 ![1] bcast_S1024_S1x1024_1 (shapeCast _ a6 shapeCasts_S1x1024_S1024))))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf a5 a5) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))) (addf (Host.divf (broadcastInDim S2048x1 ![0] bcast_S2048_S2048x1_0 (Host.reduceAdd (mulf a5 a5) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1 ![] bcast_S_S2048x1 (constant S_ .f32 0x44800000#32))) (constant S_ .f32 0x00000000#32) reducesTo_S2048x1_S2048_d1 h_S_)) a5) : FVec Ideal S2048x1024 .f32) = wantRows (dh a0 a1 a2 a3 a4) a5 (roots a5) a6 a7 := by
  rw [reference_dh]
  exact reference_rows _ a5 a6 a7

/-- The reference's result 2. -/
theorem reference_result2 (a0 : FVec Ideal S2048x768 .bf16) (a1 : FVec Ideal S2048x1024 .bf16) (a2 : FVec Ideal S2048x1024 .bf16) (a3 : FVec Ideal S2048x1024 .bf16) (a4 : FVec Ideal S3840x1024 .bf16) (a5 : FVec Ideal S2048x1024 .f32) :
    (broadcastInDim S1x1024 ![1] bcast_S1024_S1x1024_1 (Host.reduceAdd (shapeCast _ (Host.reduceAdd (mulf (mulf a5 (broadcastInDim S2048x1024 ![0, 1] bcast_S2048x1_S2048x1024_0_1 (Host.rsqrt (addf (Host.divf (broadcastInDim S2048x1 ![0] bcast_S2048_S2048x1_0 (Host.reduceAdd (mulf a5 a5) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (Host.dotGeneral dot_S2048x3840_S1024x3840_S2048x1024_1_1_0_0_n_n none (extf .f32 ((concatenate S2048x3840 1 [⟨S2048x768, (a0)⟩, ⟨S2048x1024, (a1)⟩, ⟨S2048x1024, (a2)⟩, ⟨S2048x1024, (a3)⟩] concatenates_S2048x768_S2048x1024_S2048x1024_S2048x1024_S2048x3840_d1)) bitsLt_bf16_f32) (extf .f32 (transpose S1024x3840 [1, 0] a4 transposes_S3840x1024_S1024x3840_1_0) bitsLt_bf16_f32))) (constant S_ .f32 0x00000000#32) reducesTo_S2048x1024_S1024_d0 h_S_) shapeCasts_S1024_S1x1024) (constant S_ .f32 0x00000000#32) reducesTo_S1x1024_S1024_d0 h_S_) : FVec Ideal S1x1024 .f32) = wantGain (dh a0 a1 a2 a3 a4) a5 (roots a5) := by
  rw [reference_dh]
  exact reference_gain _ a5

end Reference

open Cert.Kernel17Ideal Cert.Kernel17Ideal.Gen

variable (m : (ℓ : Loc nD τ sig) → Buf (Elt Ideal) ℓ)

/-- Where the grid's points read and write. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] ∧ win0_8.index t = ![t.val, 0] ∧ win0_9.index t = ![t.val, 0] ∧ win0_10.index t = ![t.val, 0] ∧ win0_11.index t = ![0, 0] :=
  (by decide +kernel : ∀ t : Fin grid0.N, _)

/-- The rows' reciprocal root mean squares, as the launch finds them. -/
theorem root_read (c : Dev nD) : V m c main_v7 = roots (m ((c : Thread nD τ).loc main_arg5)) := by
  have e : V m c main_v7 = (fun x : FVec Ideal S2048x1024 .f32 => (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32))) : FVec Ideal S2048x1 .f32)) (m ((c : Thread nD τ).loc main_arg5)) := by
    unfold_abbrev_sides
    after_results
  rw [e]
  funext i
  show (Host.rsqrt _ : FVec Ideal S2048x1 .f32) i = _
  unfold roots root
  pointwise

/-- The gain's part of a block of rows: its column sums. -/
theorem pay5_at (v0 : Vec Ideal S768x1024 .bf16) (v1 : Vec Ideal S256x768 .bf16) (v3 : Vec Ideal S1024x1024 .bf16) (v4 : Vec Ideal S256x1024 .bf16) (v7 : Vec Ideal S1024x1024 .bf16) (v8 : Vec Ideal S256x1024 .bf16) (v11 : Vec Ideal S1024x1024 .bf16) (v12 : Vec Ideal S256x1024 .bf16) (v15 : Vec Ideal S256x1024 .f32) (v16 : Vec Ideal S256x1 .f32) (j : S1x1024.Idx) :
    k0_pay1 (F := Ideal) (k0_pay5 v0 v1 v3 v4 v7 v8 v11 v12) (k0_pay7 v15 v16) j = ∑ r : Fin 256, ((∑ k : Fin 768, v1 (ix2 r k) * v0 (ix2 k (j 1))) + (∑ k : Fin 1024, v4 (ix2 r k) * v3 (ix2 k (j 1))) + (∑ k : Fin 1024, v8 (ix2 r k) * v7 (ix2 k (j 1))) + (∑ k : Fin 1024, v12 (ix2 r k) * v11 (ix2 k (j 1)))) * (v15 (ix2 r (j 1)) * v16 (ix2 r 0)) := by
  pointwise [k0_pay1, k0_pay5, k0_pay7, k0_pay6]

/-- The gain's gradient grows by a block's part. -/
theorem pay1_at (d x : FVec Ideal S256x1024 .f32) (acc : Vec Ideal S1x1024 .f32) (j : S1x1024.Idx) :
    k0_pay4 (F := Ideal) d x acc j = acc j + k0_pay1 (F := Ideal) d x j := by
  pointwise [k0_pay4]

/-- The kernel's result 0 after the run. -/
theorem final_rows (c : Dev nD) : (dats m 0 c).arrAt 9 (cfgs 0).N = wantRows (dh (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (roots (m ((c : Thread nD τ).loc main_arg5))) (m ((c : Thread nD τ).loc main_arg6)) (m ((c : Thread nD τ).loc main_arg7)) := by
  rw [← root_read m c]
  refine (dats m 0 c).arrAt_eq_of_covers 9 _ (by decide +kernel) fun t _ y => ?_
  blk_simp
  rw [after0_9]
  have hN := lt_of_lt_of_eq t.isLt N_0
  by_cases h : t.val % 8 = 0
  · rw [outsAt0_A m c t h (by omega)]; frame_out
    unfold wantRows entry dh grad
    pointwise [k0_pay2, k0_pay9, k0_pay8, k0_pay7, k0_pay6, k0_pay5]
    blk_point [iblk, V, idx t]
  · rw [outsAt0_B m c t h (by omega)]; frame_out
    unfold wantRows entry dh grad
    pointwise [k0_pay2, k0_pay9, k0_pay8, k0_pay7, k0_pay6, k0_pay5]
    blk_point [iblk, V, idx t]

/-- The kernel's result 1 after the run. -/
theorem final_rounded (c : Dev nD) : (dats m 0 c).arrAt 10 (cfgs 0).N = fun i => wantRows (dh (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (roots (m ((c : Thread nD τ).loc main_arg5))) (m ((c : Thread nD τ).loc main_arg6)) (m ((c : Thread nD τ).loc main_arg7)) i := by
  rw [← root_read m c]
  refine (dats m 0 c).arrAt_eq_of_covers 10 _ (by decide +kernel) fun t _ y => ?_
  blk_simp
  rw [after0_10]
  have hN := lt_of_lt_of_eq t.isLt N_0
  by_cases h : t.val % 8 = 0
  · rw [outsAt0_A m c t h (by omega)]; frame_out
    unfold wantRows entry dh grad
    pointwise [k0_pay3, k0_pay2, k0_pay9, k0_pay8, k0_pay7, k0_pay6, k0_pay5]
    blk_point [iblk, V, idx t]
  · rw [outsAt0_B m c t h (by omega)]; frame_out
    unfold wantRows entry dh grad
    pointwise [k0_pay3, k0_pay2, k0_pay9, k0_pay8, k0_pay7, k0_pay6, k0_pay5]
    blk_point [iblk, V, idx t]

/-- The kernel's result 2 after the run. -/
theorem final_gain (c : Dev nD) : (dats m 0 c).arrAt 11 (cfgs 0).N = wantGain (dh (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (roots (m ((c : Thread nD τ).loc main_arg5))) := by
  rw [← root_read m c]
  refine (dats m 0 c).arrAt_eq_of_after_last 11 t0_7 (by decide +kernel) _ fun j => ?_
  blk_simp
  rw [after0_11, Pipeline.eq_sum_fin_of_reset_step_apply_last (fun n h => (outsAt0 m c n h).2.2) 8 (fun _ => 0) _
    (fun t h j => by rw [outsAt0_A m c t h (by have := lt_of_lt_of_eq t.isLt N_0; omega)]; frame_out; rw [pay5_at, zero_add])
    (fun t h j => by rw [outsAt0_B m c t h (by omega)]; frame_out; rw [pay1_at, pay5_at])
    (le_of_eq N_0) t0_7 rfl j, zero_add]
  unfold wantGain dh grad
  refine Fin.sum_mul_add_congr fun s k hl => ?_
  blk_point [iblk, V, idx s]

/-- The kernel's results are the reference's. -/
theorem algebraic : Cert.algebraic_Kernel17Ideal_Reference17Ideal := by
  intro m g m' g' _ hm
  refine ⟨_, _, _, Cert.Kernel17Ideal.Value.run_blocks m g, (θ_run _ _ _).mono (fun r h c => ?_) (Cert.Reference17Ideal.Value.run (F := Ideal) m' g')⟩
  obtain ⟨e0, e1, e2, e3, e4, e5, e6, e7⟩ := hm c
  refine ⟨(h c).1.trans ?_, (h c).2.1.trans ?_, (h c).2.2.1.trans ?_, (h c).2.2.2⟩
  · unfold Cert.Reference17Ideal.Value.res_main_v43
    rw [e0, e1, e2, e3, e4, e5, e6, e7]
    exact (reference_result0 _ _ _ _ _ _ _ _).trans (final_rows m c).symm
  · unfold Cert.Reference17Ideal.Value.res_main_v44
    rw [e0, e1, e2, e3, e4, e5, e6, e7]
    refine Eq.trans ?_ (final_rounded m c).symm
    funext i
    exact congrFun (reference_result0 _ _ _ _ _ _ _ _) i
  · rw [e0, e1, e2, e3, e4, e5]
    exact (reference_result2 _ _ _ _ _ _).trans (final_gain m c).symm

/-- The reference's runs end with the arguments as they were. -/
theorem reference_frame : Cert.quiescent_Reference17Ideal := fun m g _ =>
  (θ_run _ _ _).mono (fun r h => ⟨fun c => (h c).2.2.2, sem_eq_zero_of_no_sems (by decide) r.2⟩) (Cert.Reference17Ideal.Value.run (F := Ideal) m g)

end Cert.Proof.Call17
end
-- ==== Proof.LossHead.lean ====
module

public import proofs.«01_k».proof.Proof.RmsBwd

@[expose] public section

/-!
The loss head on one row: the RMS norm, the error against the target, the row's part of the loss,
and the gradients of the row and of the gain.
-/

noncomputable section

namespace Cert.Proof

open Idealize.ShloMosaic

/-- One half. -/
theorem half_eq : Ideal.ofBits .f32 0x3F000000#32 = ((1 / 2 : ℝ) : EReal) := by
  simp [Ideal.ofBits, Ideal.ieee, -EReal.coe_mul]; norm_num

/-- Two. -/
theorem two_eq : Ideal.ofBits .f32 0x40000000#32 = ((2 : ℝ) : EReal) := by
  simp [Ideal.ofBits, Ideal.ieee, -EReal.coe_mul]; norm_num

/-- The reciprocal of the width of a row. -/
theorem inv_width_eq : Ideal.ofBits .f32 0x3A800000#32 = ((1 / 1024 : ℝ) : EReal) := by
  simp [Ideal.ofBits, Ideal.ieee, -EReal.coe_mul]; norm_num

/-- Half the mean's share of a square's derivative is the error over the width. -/
theorem grad_law (e : EReal) :
    Ideal.div (Ideal.ofBits .f32 0x3F000000#32) (Ideal.ofBits .f32 0x44800000#32) * (Ideal.ofBits .f32 0x40000000#32 * e)
      = e * Ideal.ofBits .f32 0x3A800000#32 := by
  rw [half_eq, two_eq, inv_width_eq, width_eq, Ideal.div_coe (by norm_num), ← EReal.coe_mul, ← mul_assoc, ← EReal.coe_mul, mul_comm]
  congr 2
  norm_num

/-- The halves of the blocks' sums are half of the sum. -/
theorem sum_of_halves {n : ℕ} (f : Fin n → EReal) : ∑ k, Ideal.ofBits .f32 0x3F000000#32 * f k = Ideal.ofBits .f32 0x3F000000#32 * ∑ k, f k := by
  rw [half_eq, mul_comm, ← sum_mul_real f _ (by norm_num)]
  exact Finset.sum_congr rfl fun k _ => mul_comm _ _

/-- The reciprocal root mean square of a row. -/
def rowRoot (x : Fin 1024 → EReal) : EReal :=
  Ideal.rsqrt (Ideal.div (∑ k, x k * x k) (Ideal.ofBits .f32 0x44800000#32) + Ideal.ofBits .f32 0x3727C5AC#32)

/-- The error of a row. -/
def rowErr (x g t : Fin 1024 → EReal) (j : Fin 1024) : EReal :=
  x j * rowRoot x * g j - t j

/-- The gradient of the normed row. -/
def rowGrad (x g t : Fin 1024 → EReal) (j : Fin 1024) : EReal :=
  rowErr x g t j * Ideal.ofBits .f32 0x3A800000#32

/-- The gradient of the row, from the gradient `h` of the normed row. -/
def rowBack (x h g : Fin 1024 → EReal) (j : Fin 1024) : EReal :=
  rowRoot x * (h j * g j - x j * rowRoot x * Ideal.div (∑ k, h k * g k * (x k * rowRoot x)) (Ideal.ofBits .f32 0x44800000#32))

/-- The gradient of the row. -/
def rowDx (x g t : Fin 1024 → EReal) (j : Fin 1024) : EReal :=
  rowBack x (rowGrad x g t) g j

/-- The row's part of the gain's gradient. -/
def rowGain (x g t : Fin 1024 → EReal) (j : Fin 1024) : EReal :=
  rowGrad x g t j * (x j * rowRoot x)

/-- The row's mean squared error. -/
def rowLoss (x g t : Fin 1024 → EReal) : EReal :=
  Ideal.div (∑ k, rowErr x g t k * rowErr x g t k) (Ideal.ofBits .f32 0x44800000#32)

/-- Equal rows have equal gradients. -/
theorem rowDx_congr {x x' g g' t t' : Fin 1024 → EReal} {j j' : Fin 1024} (hx : ∀ k, x k = x' k) (hg : ∀ k, g k = g' k)
    (ht : ∀ k, t k = t' k) (hj : j = j') : rowDx x g t j = rowDx x' g' t' j' := by
  rw [funext hx, funext hg, funext ht, hj]

/-- Equal rows have equal parts of the gain's gradient. -/
theorem rowGain_congr {x x' g g' t t' : Fin 1024 → EReal} {j j' : Fin 1024} (hx : ∀ k, x k = x' k) (hg : ∀ k, g k = g' k)
    (ht : ∀ k, t k = t' k) (hj : j = j') : rowGain x g t j = rowGain x' g' t' j' := by
  rw [funext hx, funext hg, funext ht, hj]

/-- Equal rows have equal errors. -/
theorem rowLoss_congr {x x' g g' t t' : Fin 1024 → EReal} (hx : ∀ k, x k = x' k) (hg : ∀ k, g k = g' k)
    (ht : ∀ k, t k = t' k) : rowLoss x g t = rowLoss x' g' t' := by
  rw [funext hx, funext hg, funext ht]

/-- The gradient of the row in the form in which the derivative of the root is a term of its own. -/
theorem back_law (x h g : Fin 1024 → EReal) (j : Fin 1024) (A r s : EReal)
    (hA : A = Ideal.div (∑ k, x k * x k) (Ideal.ofBits .f32 0x44800000#32) + Ideal.ofBits .f32 0x3727C5AC#32)
    (hr : r = Ideal.rsqrt A)
    (hs : s = Ideal.div ((∑ k, x k * (h k * g k)) * (Ideal.ofBits .f32 0xBF000000#32 * Ideal.div r A)) (Ideal.ofBits .f32 0x44800000#32)) :
    h j * g j * r + x j * s + s * x j = rowBack x h g j := by
  have e := rms_law x (fun k => h k * g k) 0 j A r s hA hr hs
  simp only [zero_add] at e
  rw [e, hr, hA]
  rfl

end Cert.Proof
end
-- ==== Proof.FfnDownLoss.lean ====
module

public import proofs.«01_k».proof.Defs
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise
public import proofs.«01_k».proof.Proof.LossHead

@[expose] public section

/-!
The second feed-forward product, the residual sum, and the loss head with its gradients.
-/

set_option maxRecDepth 16384

noncomputable section

namespace Cert.Proof.Call18

open Idealize.ShloMosaic Idealize.ShloMosaic.TcCoe Idealize.SL.Sem

section Reference

open Cert.Reference18Ideal Cert.Reference18Ideal.Gen

/-- The rows the loss is taken of: the feed-forward layer's output and the residual. -/
def rows (a0 : FVec Ideal S2048x2816 .bf16) (a1 : FVec Ideal S2816x1024 .bf16) (a2 : FVec Ideal S2048x1024 .f32) : FVec Ideal S2048x1024 .f32 :=
  fun i => (∑ k : Fin 2816, a0 (ix2 (i 0) k) * a1 (ix2 k (i 1))) + a2 (ix2 (i 0) (i 1))

/-- The errors. -/
def errors (x : FVec Ideal S2048x1024 .f32) (a3 : FVec Ideal S1x1024 .f32) (a4 : FVec Ideal S2048x1024 .f32) : FVec Ideal S2048x1024 .f32 :=
  fun i => rowErr (fun k => x (ix2 (i 0) k)) (fun k => a3 (ix2 0 k)) (fun k => a4 (ix2 (i 0) k)) (i 1)

/-- The gradient of the normed rows. -/
def grads (x : FVec Ideal S2048x1024 .f32) (a3 : FVec Ideal S1x1024 .f32) (a4 : FVec Ideal S2048x1024 .f32) : FVec Ideal S2048x1024 .f32 :=
  fun i => rowGrad (fun k => x (ix2 (i 0) k)) (fun k => a3 (ix2 0 k)) (fun k => a4 (ix2 (i 0) k)) (i 1)

/-- The gradient of the rows. -/
def wantRows (x : FVec Ideal S2048x1024 .f32) (a3 : FVec Ideal S1x1024 .f32) (a4 : FVec Ideal S2048x1024 .f32) : FVec Ideal S2048x1024 .f32 :=
  fun i => rowDx (fun k => x (ix2 (i 0) k)) (fun k => a3 (ix2 0 k)) (fun k => a4 (ix2 (i 0) k)) (i 1)

/-- The gradient of the gain: summed over the rows. -/
def wantGain (x : FVec Ideal S2048x1024 .f32) (a3 : FVec Ideal S1x1024 .f32) (a4 : FVec Ideal S2048x1024 .f32) : FVec Ideal S1x1024 .f32 :=
  fun i => ∑ r : Fin 2048, rowGain (fun k => x (ix2 r k)) (fun k => a3 (ix2 0 k)) (fun k => a4 (ix2 r k)) (i 1)

/-- The loss: half of the rows' mean squared errors, summed. -/
def wantLoss (x : FVec Ideal S2048x1024 .f32) (a3 : FVec Ideal S1x1024 .f32) (a4 : FVec Ideal S2048x1024 .f32) : FVec Ideal S1x1 .f32 :=
  fun i => Ideal.ofBits .f32 0x3F000000#32 * ∑ r : Fin 2048, rowLoss (fun k => x (ix2 r k)) (fun k => a3 (ix2 0 k)) (fun k => a4 (ix2 r k))

/-- The reference's rows. -/
theorem reference_x (a0 : FVec Ideal S2048x2816 .bf16) (a1 : FVec Ideal S2816x1024 .bf16) (a2 : FVec Ideal S2048x1024 .f32) : (addf a2 (Host.dotGeneral dot_S2048x2816_S2816x1024_S2048x1024_1_0_0_1_n_n none (extf .f32 a0 bitsLt_bf16_f32) (extf .f32 a1 bitsLt_bf16_f32)) : FVec Ideal S2048x1024 .f32) = rows a0 a1 a2 := by
  funext i
  obtain ⟨r, j, rfl⟩ : ∃ (r : Fin 2048) (j : Fin 1024), i = ix2 r j := ⟨i 0, i 1, eq_ix2 i⟩
  unfold rows
  pointwise
  exact add_comm _ _

/-- The reference's errors. -/
theorem reference_e (x : FVec Ideal S2048x1024 .f32) (a3 : FVec Ideal S1x1024 .f32) (a4 : FVec Ideal S2048x1024 .f32) : (subf (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1024 ![0, 1] bcast_S1x1024_S2048x1024_0_1 (broadcastInDim S1x1024 ![1] bcast_S1024_S1x1024_1 (shapeCast _ a3 shapeCasts_S1x1024_S1024)))) a4 : FVec Ideal S2048x1024 .f32) = errors x a3 a4 := by
  funext i
  obtain ⟨r, j, rfl⟩ : ∃ (r : Fin 2048) (j : Fin 1024), i = ix2 r j := ⟨i 0, i 1, eq_ix2 i⟩
  unfold errors rowErr rowRoot
  pointwise

/-- The reference's gradient of the normed rows, from the errors. -/
theorem reference_h (x : FVec Ideal S2048x1024 .f32) (a3 : FVec Ideal S1x1024 .f32) (a4 : FVec Ideal S2048x1024 .f32) :
    ((fun e : FVec Ideal S2048x1024 .f32 => (mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) e) : FVec Ideal S2048x1024 .f32)) (errors x a3 a4)) = grads x a3 a4 := by
  generalize he : errors x a3 a4 = e
  funext i
  obtain ⟨r, j, rfl⟩ : ∃ (r : Fin 2048) (j : Fin 1024), i = ix2 r j := ⟨i 0, i 1, eq_ix2 i⟩
  show (mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) e) : FVec Ideal S2048x1024 .f32) (ix2 r j) = _
  pointwise
  subst he
  exact grad_law _

/-- The reference's gradient of the rows, from the gradient of the normed rows. -/
theorem reference_rows (x h : FVec Ideal S2048x1024 .f32) (a3 : FVec Ideal S1x1024 .f32) :
    (addf (addf (mulf (mulf h (broadcastInDim S2048x1024 ![0, 1] bcast_S1x1024_S2048x1024_0_1 (broadcastInDim S1x1024 ![1] bcast_S1024_S1x1024_1 (shapeCast _ a3 shapeCasts_S1x1024_S1024)))) (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (mulf x (broadcastInDim S2048x1024 ![0] bcast_S2048_S2048x1024_0 (Host.reduceAdd (Host.divf (mulf (shapeCast _ (Host.reduceAdd (mulf x (mulf h (broadcastInDim S2048x1024 ![0, 1] bcast_S1x1024_S2048x1024_0_1 (broadcastInDim S1x1024 ![1] bcast_S1024_S1x1024_1 (shapeCast _ a3 shapeCasts_S1x1024_S1024))))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))) (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf x (mulf h (broadcastInDim S2048x1024 ![0, 1] bcast_S1x1024_S2048x1024_0_1 (broadcastInDim S1x1024 ![1] bcast_S1024_S1x1024_1 (shapeCast _ a3 shapeCasts_S1x1024_S1024))))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))) (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1 ![] bcast_S_S2048x1 (constant S_ .f32 0x44800000#32))) (constant S_ .f32 0x00000000#32) reducesTo_S2048x1_S2048_d1 h_S_)) x) : FVec Ideal S2048x1024 .f32) = fun i => rowBack (fun k => x (ix2 (i 0) k)) (fun k => h (ix2 (i 0) k)) (fun k => a3 (ix2 0 k)) (i 1) := by
  funext i
  obtain ⟨r, j, rfl⟩ : ∃ (r : Fin 2048) (j : Fin 1024), i = ix2 r j := ⟨i 0, i 1, eq_ix2 i⟩
  refine Eq.trans ?_ (back_law (fun k => x (ix2 r k)) (fun k => h (ix2 r k)) (fun k => a3 (ix2 0 k)) j _ _ _ rfl rfl rfl)
  pointwise
  simp only [Fin.sum_univ_one]

/-- The reference's gradient of the gain, from the gradient of the normed rows. -/
theorem reference_gain (x h : FVec Ideal S2048x1024 .f32) :
    (broadcastInDim S1x1024 ![1] bcast_S1024_S1x1024_1 (Host.reduceAdd (shapeCast _ (Host.reduceAdd (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) h) (constant S_ .f32 0x00000000#32) reducesTo_S2048x1024_S1024_d0 h_S_) shapeCasts_S1024_S1x1024) (constant S_ .f32 0x00000000#32) reducesTo_S1x1024_S1024_d0 h_S_) : FVec Ideal S1x1024 .f32) = fun i => ∑ r : Fin 2048, h (ix2 r (i 1)) * (x (ix2 r (i 1)) * rowRoot (fun k => x (ix2 r k))) := by
  funext i
  obtain ⟨z, j, rfl⟩ : ∃ (z : Fin 1) (j : Fin 1024), i = ix2 z j := ⟨i 0, i 1, eq_ix2 i⟩
  unfold rowRoot
  pointwise
  exact (Fin.sum_univ_one _).trans (Finset.sum_congr rfl fun r _ => mul_comm (_ : EReal) _)

/-- The reference's loss, from the errors. -/
theorem reference_loss (e : FVec Ideal S2048x1024 .f32) :
    (broadcastInDim S1x1 ![] bcast_S_S1x1 (mulf (constant S_ .f32 0x3F000000#32) (Host.reduceAdd (Host.divf (Host.reduceAdd (mulf e e) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_)) : FVec Ideal S1x1 .f32) = fun i => Ideal.ofBits .f32 0x3F000000#32 * ∑ r : Fin 2048, Ideal.div (∑ k : Fin 1024, e (ix2 r k) * e (ix2 r k)) (Ideal.ofBits .f32 0x44800000#32) := by
  funext i
  obtain ⟨y, z, rfl⟩ : ∃ (y z : Fin 1), i = ix2 y z := ⟨i 0, i 1, eq_ix2 i⟩
  pointwise

/-- The reference's result 0. -/
theorem reference_result0 (a0 : FVec Ideal S2048x2816 .bf16) (a1 : FVec Ideal S2816x1024 .bf16) (a2 : FVec Ideal S2048x1024 .f32) (a3 : FVec Ideal S1x1024 .f32) (a4 : FVec Ideal S2048x1024 .f32) :
    (addf (addf (mulf (mulf (mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (subf (mulf (mulf (addf a2 (Host.dotGeneral dot_S2048x2816_S2816x1024_S2048x1024_1_0_0_1_n_n none (extf .f32 a0 bitsLt_bf16_f32) (extf .f32 a1 bitsLt_bf16_f32))) (broadcastInDim S2048x1024 ![0, 1] bcast_S2048x1_S2048x1024_0_1 (Host.rsqrt (addf (Host.divf (broadcastInDim S2048x1 ![0] bcast_S2048_S2048x1_0 (Host.reduceAdd (mulf (addf a2 (Host.dotGeneral dot_S2048x2816_S2816x1024_S2048x1024_1_0_0_1_n_n none (extf .f32 a0 bitsLt_bf16_f32) (extf .f32 a1 bitsLt_bf16_f32))) (addf a2 (Host.dotGeneral dot_S2048x2816_S2816x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1024 ![0, 1] bcast_S1x1024_S2048x1024_0_1 (broadcastInDim S1x1024 ![1] bcast_S1024_S1x1024_1 (shapeCast _ a3 shapeCasts_S1x1024_S1024)))) a4))) (broadcastInDim S2048x1024 ![0, 1] bcast_S1x1024_S2048x1024_0_1 (broadcastInDim S1x1024 ![1] bcast_S1024_S1x1024_1 (shapeCast _ a3 shapeCasts_S1x1024_S1024)))) (broadcastInDim S2048x1024 ![0, 1] bcast_S2048x1_S2048x1024_0_1 (Host.rsqrt (addf (Host.divf (broadcastInDim S2048x1 ![0] bcast_S2048_S2048x1_0 (Host.reduceAdd (mulf (addf a2 (Host.dotGeneral dot_S2048x2816_S2816x1024_S2048x1024_1_0_0_1_n_n none (extf .f32 a0 bitsLt_bf16_f32) (extf .f32 a1 bitsLt_bf16_f32))) (addf a2 (Host.dotGeneral dot_S2048x2816_S2816x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (mulf (addf a2 (Host.dotGeneral dot_S2048x2816_S2816x1024_S2048x1024_1_0_0_1_n_n none (extf .f32 a0 bitsLt_bf16_f32) (extf .f32 a1 bitsLt_bf16_f32))) (broadcastInDim S2048x1024 ![0] bcast_S2048_S2048x1024_0 (Host.reduceAdd (Host.divf (mulf (shapeCast _ (Host.reduceAdd (mulf (addf a2 (Host.dotGeneral dot_S2048x2816_S2816x1024_S2048x1024_1_0_0_1_n_n none (extf .f32 a0 bitsLt_bf16_f32) (extf .f32 a1 bitsLt_bf16_f32))) (mulf (mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (subf (mulf (mulf (addf a2 (Host.dotGeneral dot_S2048x2816_S2816x1024_S2048x1024_1_0_0_1_n_n none (extf .f32 a0 bitsLt_bf16_f32) (extf .f32 a1 bitsLt_bf16_f32))) (broadcastInDim S2048x1024 ![0, 1] bcast_S2048x1_S2048x1024_0_1 (Host.rsqrt (addf (Host.divf (broadcastInDim S2048x1 ![0] bcast_S2048_S2048x1_0 (Host.reduceAdd (mulf (addf a2 (Host.dotGeneral dot_S2048x2816_S2816x1024_S2048x1024_1_0_0_1_n_n none (extf .f32 a0 bitsLt_bf16_f32) (extf .f32 a1 bitsLt_bf16_f32))) (addf a2 (Host.dotGeneral dot_S2048x2816_S2816x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1024 ![0, 1] bcast_S1x1024_S2048x1024_0_1 (broadcastInDim S1x1024 ![1] bcast_S1024_S1x1024_1 (shapeCast _ a3 shapeCasts_S1x1024_S1024)))) a4))) (broadcastInDim S2048x1024 ![0, 1] bcast_S1x1024_S2048x1024_0_1 (broadcastInDim S1x1024 ![1] bcast_S1024_S1x1024_1 (shapeCast _ a3 shapeCasts_S1x1024_S1024))))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (addf a2 (Host.dotGeneral dot_S2048x2816_S2816x1024_S2048x1024_1_0_0_1_n_n none (extf .f32 a0 bitsLt_bf16_f32) (extf .f32 a1 bitsLt_bf16_f32))) (addf a2 (Host.dotGeneral dot_S2048x2816_S2816x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))) (addf (Host.divf (broadcastInDim S2048x1 ![0] bcast_S2048_S2048x1_0 (Host.reduceAdd (mulf (addf a2 (Host.dotGeneral dot_S2048x2816_S2816x1024_S2048x1024_1_0_0_1_n_n none (extf .f32 a0 bitsLt_bf16_f32) (extf .f32 a1 bitsLt_bf16_f32))) (addf a2 (Host.dotGeneral dot_S2048x2816_S2816x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf (addf a2 (Host.dotGeneral dot_S2048x2816_S2816x1024_S2048x1024_1_0_0_1_n_n none (extf .f32 a0 bitsLt_bf16_f32) (extf .f32 a1 bitsLt_bf16_f32))) (mulf (mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (subf (mulf (mulf (addf a2 (Host.dotGeneral dot_S2048x2816_S2816x1024_S2048x1024_1_0_0_1_n_n none (extf .f32 a0 bitsLt_bf16_f32) (extf .f32 a1 bitsLt_bf16_f32))) (broadcastInDim S2048x1024 ![0, 1] bcast_S2048x1_S2048x1024_0_1 (Host.rsqrt (addf (Host.divf (broadcastInDim S2048x1 ![0] bcast_S2048_S2048x1_0 (Host.reduceAdd (mulf (addf a2 (Host.dotGeneral dot_S2048x2816_S2816x1024_S2048x1024_1_0_0_1_n_n none (extf .f32 a0 bitsLt_bf16_f32) (extf .f32 a1 bitsLt_bf16_f32))) (addf a2 (Host.dotGeneral dot_S2048x2816_S2816x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1024 ![0, 1] bcast_S1x1024_S2048x1024_0_1 (broadcastInDim S1x1024 ![1] bcast_S1024_S1x1024_1 (shapeCast _ a3 shapeCasts_S1x1024_S1024)))) a4))) (broadcastInDim S2048x1024 ![0, 1] bcast_S1x1024_S2048x1024_0_1 (broadcastInDim S1x1024 ![1] bcast_S1024_S1x1024_1 (shapeCast _ a3 shapeCasts_S1x1024_S1024))))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (addf a2 (Host.dotGeneral dot_S2048x2816_S2816x1024_S2048x1024_1_0_0_1_n_n none (extf .f32 a0 bitsLt_bf16_f32) (extf .f32 a1 bitsLt_bf16_f32))) (addf a2 (Host.dotGeneral dot_S2048x2816_S2816x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))) (addf (Host.divf (broadcastInDim S2048x1 ![0] bcast_S2048_S2048x1_0 (Host.reduceAdd (mulf (addf a2 (Host.dotGeneral dot_S2048x2816_S2816x1024_S2048x1024_1_0_0_1_n_n none (extf .f32 a0 bitsLt_bf16_f32) (extf .f32 a1 bitsLt_bf16_f32))) (addf a2 (Host.dotGeneral dot_S2048x2816_S2816x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1 ![] bcast_S_S2048x1 (constant S_ .f32 0x44800000#32))) (constant S_ .f32 0x00000000#32) reducesTo_S2048x1_S2048_d1 h_S_)) (addf a2 (Host.dotGeneral dot_S2048x2816_S2816x1024_S2048x1024_1_0_0_1_n_n none (extf .f32 a0 bitsLt_bf16_f32) (extf .f32 a1 bitsLt_bf16_f32)))) : FVec Ideal S2048x1024 .f32) = wantRows (rows a0 a1 a2) a3 a4 := by
  rw [reference_x, reference_e, show (mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (errors (rows a0 a1 a2) a3 a4)) : FVec Ideal S2048x1024 .f32) = _ from reference_h (rows a0 a1 a2) a3 a4]
  exact reference_rows _ _ a3

/-- The reference's result 2. -/
theorem reference_result2 (a0 : FVec Ideal S2048x2816 .bf16) (a1 : FVec Ideal S2816x1024 .bf16) (a2 : FVec Ideal S2048x1024 .f32) (a3 : FVec Ideal S1x1024 .f32) (a4 : FVec Ideal S2048x1024 .f32) :
    (broadcastInDim S1x1024 ![1] bcast_S1024_S1x1024_1 (Host.reduceAdd (shapeCast _ (Host.reduceAdd (mulf (mulf (addf a2 (Host.dotGeneral dot_S2048x2816_S2816x1024_S2048x1024_1_0_0_1_n_n none (extf .f32 a0 bitsLt_bf16_f32) (extf .f32 a1 bitsLt_bf16_f32))) (broadcastInDim S2048x1024 ![0, 1] bcast_S2048x1_S2048x1024_0_1 (Host.rsqrt (addf (Host.divf (broadcastInDim S2048x1 ![0] bcast_S2048_S2048x1_0 (Host.reduceAdd (mulf (addf a2 (Host.dotGeneral dot_S2048x2816_S2816x1024_S2048x1024_1_0_0_1_n_n none (extf .f32 a0 bitsLt_bf16_f32) (extf .f32 a1 bitsLt_bf16_f32))) (addf a2 (Host.dotGeneral dot_S2048x2816_S2816x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (subf (mulf (mulf (addf a2 (Host.dotGeneral dot_S2048x2816_S2816x1024_S2048x1024_1_0_0_1_n_n none (extf .f32 a0 bitsLt_bf16_f32) (extf .f32 a1 bitsLt_bf16_f32))) (broadcastInDim S2048x1024 ![0, 1] bcast_S2048x1_S2048x1024_0_1 (Host.rsqrt (addf (Host.divf (broadcastInDim S2048x1 ![0] bcast_S2048_S2048x1_0 (Host.reduceAdd (mulf (addf a2 (Host.dotGeneral dot_S2048x2816_S2816x1024_S2048x1024_1_0_0_1_n_n none (extf .f32 a0 bitsLt_bf16_f32) (extf .f32 a1 bitsLt_bf16_f32))) (addf a2 (Host.dotGeneral dot_S2048x2816_S2816x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1024 ![0, 1] bcast_S1x1024_S2048x1024_0_1 (broadcastInDim S1x1024 ![1] bcast_S1024_S1x1024_1 (shapeCast _ a3 shapeCasts_S1x1024_S1024)))) a4)))) (constant S_ .f32 0x00000000#32) reducesTo_S2048x1024_S1024_d0 h_S_) shapeCasts_S1024_S1x1024) (constant S_ .f32 0x00000000#32) reducesTo_S1x1024_S1024_d0 h_S_) : FVec Ideal S1x1024 .f32) = wantGain (rows a0 a1 a2) a3 a4 := by
  rw [reference_x, reference_e, show (mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (errors (rows a0 a1 a2) a3 a4)) : FVec Ideal S2048x1024 .f32) = _ from reference_h (rows a0 a1 a2) a3 a4]
  exact reference_gain _ _

/-- The reference's result 3. -/
theorem reference_result3 (a0 : FVec Ideal S2048x2816 .bf16) (a1 : FVec Ideal S2816x1024 .bf16) (a2 : FVec Ideal S2048x1024 .f32) (a3 : FVec Ideal S1x1024 .f32) (a4 : FVec Ideal S2048x1024 .f32) :
    (broadcastInDim S1x1 ![] bcast_S_S1x1 (mulf (constant S_ .f32 0x3F000000#32) (Host.reduceAdd (Host.divf (Host.reduceAdd (mulf (subf (mulf (mulf (addf a2 (Host.dotGeneral dot_S2048x2816_S2816x1024_S2048x1024_1_0_0_1_n_n none (extf .f32 a0 bitsLt_bf16_f32) (extf .f32 a1 bitsLt_bf16_f32))) (broadcastInDim S2048x1024 ![0, 1] bcast_S2048x1_S2048x1024_0_1 (Host.rsqrt (addf (Host.divf (broadcastInDim S2048x1 ![0] bcast_S2048_S2048x1_0 (Host.reduceAdd (mulf (addf a2 (Host.dotGeneral dot_S2048x2816_S2816x1024_S2048x1024_1_0_0_1_n_n none (extf .f32 a0 bitsLt_bf16_f32) (extf .f32 a1 bitsLt_bf16_f32))) (addf a2 (Host.dotGeneral dot_S2048x2816_S2816x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1024 ![0, 1] bcast_S1x1024_S2048x1024_0_1 (broadcastInDim S1x1024 ![1] bcast_S1024_S1x1024_1 (shapeCast _ a3 shapeCasts_S1x1024_S1024)))) a4) (subf (mulf (mulf (addf a2 (Host.dotGeneral dot_S2048x2816_S2816x1024_S2048x1024_1_0_0_1_n_n none (extf .f32 a0 bitsLt_bf16_f32) (extf .f32 a1 bitsLt_bf16_f32))) (broadcastInDim S2048x1024 ![0, 1] bcast_S2048x1_S2048x1024_0_1 (Host.rsqrt (addf (Host.divf (broadcastInDim S2048x1 ![0] bcast_S2048_S2048x1_0 (Host.reduceAdd (mulf (addf a2 (Host.dotGeneral dot_S2048x2816_S2816x1024_S2048x1024_1_0_0_1_n_n none (extf .f32 a0 bitsLt_bf16_f32) (extf .f32 a1 bitsLt_bf16_f32))) (addf a2 (Host.dotGeneral dot_S2048x2816_S2816x1024_S2048x1024_1_0_0_1_n_n none (extf .f32 a0 bitsLt_bf16_f32) (extf .f32 a1 bitsLt_bf16_f32)))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32)))))) (broadcastInDim S2048x1024 ![0, 1] bcast_S1x1024_S2048x1024_0_1 (broadcastInDim S1x1024 ![1] bcast_S1024_S1x1024_1 (shapeCast _ a3 shapeCasts_S1x1024_S1024)))) a4)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_)) : FVec Ideal S1x1 .f32) = wantLoss (rows a0 a1 a2) a3 a4 := by
  rw [reference_x, reference_e]
  exact reference_loss _

end Reference

open Cert.Kernel18Ideal Cert.Kernel18Ideal.Gen

variable (m : (ℓ : Loc nD τ sig) → Buf (Elt Ideal) ℓ)

/-- Where the grid's points read and write. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] ∧ win0_7.index t = ![0, 0] ∧ win0_8.index t = ![0, 0] :=
  (by decide +kernel : ∀ t : Fin grid0.N, _)

/-- A block's rows. -/
theorem x_at (v0 : Vec Ideal S2816x1024 .bf16) (v1 : Vec Ideal S256x2816 .bf16) (v3 : Vec Ideal S256x1024 .f32) (r : Fin 256) (j : Fin 1024) :
    k0_pay5 (F := Ideal) v0 v1 v3 (ix2 r j) = (∑ l : Fin 2816, v1 (ix2 r l) * v0 (ix2 l j)) + v3 (ix2 r j) := by
  pointwise [k0_pay5]

/-- A block's reciprocal root mean squares. -/
theorem root_at (v0 : Vec Ideal S2816x1024 .bf16) (v1 : Vec Ideal S256x2816 .bf16) (v3 : Vec Ideal S256x1024 .f32) (r : Fin 256) :
    k0_pay6 (F := Ideal) v0 v1 v3 (ix2 r 0) = rowRoot (fun k => k0_pay5 (F := Ideal) v0 v1 v3 (ix2 r k)) := by
  unfold rowRoot k0_pay6
  generalize k0_pay5 (F := Ideal) v0 v1 v3 = X
  pointwise

/-- A block's errors. -/
theorem err_at (v0 : Vec Ideal S2816x1024 .bf16) (v1 : Vec Ideal S256x2816 .bf16) (v3 : Vec Ideal S256x1024 .f32) (v5 : Vec Ideal S1x1024 .f32) (v6 : Vec Ideal S256x1024 .f32) (r : Fin 256) (j : Fin 1024) :
    k0_pay7 (F := Ideal) v0 v1 v3 v5 v6 (ix2 r j) = rowErr (fun k => k0_pay5 (F := Ideal) v0 v1 v3 (ix2 r k)) (fun k => v5 (ix2 0 k)) (fun k => v6 (ix2 r k)) j := by
  unfold rowErr
  rw [← root_at]
  unfold k0_pay7
  generalize k0_pay5 (F := Ideal) v0 v1 v3 = X
  generalize k0_pay6 (F := Ideal) v0 v1 v3 = R
  pointwise

/-- A block's gradient of the normed rows. -/
theorem grad_at (v0 : Vec Ideal S2816x1024 .bf16) (v1 : Vec Ideal S256x2816 .bf16) (v3 : Vec Ideal S256x1024 .f32) (v5 : Vec Ideal S1x1024 .f32) (v6 : Vec Ideal S256x1024 .f32) (r : Fin 256) (j : Fin 1024) :
    k0_pay8 (F := Ideal) v0 v1 v3 v5 v6 (ix2 r j) = rowGrad (fun k => k0_pay5 (F := Ideal) v0 v1 v3 (ix2 r k)) (fun k => v5 (ix2 0 k)) (fun k => v6 (ix2 r k)) j := by
  unfold rowGrad
  rw [← err_at]
  unfold k0_pay8
  generalize k0_pay7 (F := Ideal) v0 v1 v3 v5 v6 = E
  pointwise

/-- A block's normed rows. -/
theorem norm_at (v0 : Vec Ideal S2816x1024 .bf16) (v1 : Vec Ideal S256x2816 .bf16) (v3 : Vec Ideal S256x1024 .f32) (r : Fin 256) (j : Fin 1024) :
    k0_pay9 (F := Ideal) v0 v1 v3 (ix2 r j) = k0_pay5 (F := Ideal) v0 v1 v3 (ix2 r j) * rowRoot (fun k => k0_pay5 (F := Ideal) v0 v1 v3 (ix2 r k)) := by
  rw [← root_at]
  unfold k0_pay9
  generalize k0_pay5 (F := Ideal) v0 v1 v3 = X
  generalize k0_pay6 (F := Ideal) v0 v1 v3 = R
  pointwise

/-- A block's gradient of the rows. -/
theorem dx_at (v0 : Vec Ideal S2816x1024 .bf16) (v1 : Vec Ideal S256x2816 .bf16) (v3 : Vec Ideal S256x1024 .f32) (v5 : Vec Ideal S1x1024 .f32) (v6 : Vec Ideal S256x1024 .f32) (r : Fin 256) (j : Fin 1024) :
    k0_pay10 (F := Ideal) v0 v1 v3 v5 v6 (ix2 r j) = rowDx (fun k => k0_pay5 (F := Ideal) v0 v1 v3 (ix2 r k)) (fun k => v5 (ix2 0 k)) (fun k => v6 (ix2 r k)) j := by
  unfold rowDx rowBack
  simp only [← grad_at]
  simp only [← norm_at]
  simp only [← root_at]
  unfold k0_pay10
  generalize k0_pay8 (F := Ideal) v0 v1 v3 v5 v6 = G
  generalize k0_pay9 (F := Ideal) v0 v1 v3 = Y
  generalize k0_pay6 (F := Ideal) v0 v1 v3 = R
  pointwise

/-- A block's part of the gain's gradient. -/
theorem gain_at (v0 : Vec Ideal S2816x1024 .bf16) (v1 : Vec Ideal S256x2816 .bf16) (v3 : Vec Ideal S256x1024 .f32) (v5 : Vec Ideal S1x1024 .f32) (v6 : Vec Ideal S256x1024 .f32) (j : S1x1024.Idx) :
    k0_pay11 (F := Ideal) v0 v1 v3 v5 v6 j = ∑ r : Fin 256, rowGain (fun k => k0_pay5 (F := Ideal) v0 v1 v3 (ix2 r k)) (fun k => v5 (ix2 0 k)) (fun k => v6 (ix2 r k)) (j 1) := by
  obtain ⟨z, l, rfl⟩ : ∃ (z : Fin 1) (l : Fin 1024), j = ix2 z l := ⟨j 0, j 1, eq_ix2 j⟩
  show _ = ∑ r : Fin 256, rowGain (fun k => k0_pay5 (F := Ideal) v0 v1 v3 (ix2 r k)) (fun k => v5 (ix2 0 k)) (fun k => v6 (ix2 r k)) l
  unfold rowGain
  simp only [← grad_at]
  simp only [← norm_at]
  unfold k0_pay11
  generalize k0_pay8 (F := Ideal) v0 v1 v3 v5 v6 = G
  generalize k0_pay9 (F := Ideal) v0 v1 v3 = Y
  pointwise

/-- A block's part of the loss. -/
theorem loss_at (v0 : Vec Ideal S2816x1024 .bf16) (v1 : Vec Ideal S256x2816 .bf16) (v3 : Vec Ideal S256x1024 .f32) (v5 : Vec Ideal S1x1024 .f32) (v6 : Vec Ideal S256x1024 .f32) (j : S1x1.Idx) :
    k0_pay1 (F := Ideal) (k0_pay7 (F := Ideal) v0 v1 v3 v5 v6) j = Ideal.ofBits .f32 0x3F000000#32 * ∑ r : Fin 256, rowLoss (fun k => k0_pay5 (F := Ideal) v0 v1 v3 (ix2 r k)) (fun k => v5 (ix2 0 k)) (fun k => v6 (ix2 r k)) := by
  obtain ⟨y, z, rfl⟩ : ∃ (y z : Fin 1), j = ix2 y z := ⟨j 0, j 1, eq_ix2 j⟩
  unfold rowLoss
  simp only [← err_at]
  unfold k0_pay1
  generalize k0_pay7 (F := Ideal) v0 v1 v3 v5 v6 = E
  pointwise

/-- The gain's gradient grows by a block's part. -/
theorem gain_step (part : FVec Ideal S1x1024 .f32) (acc : Vec Ideal S1x1024 .f32) (j : S1x1024.Idx) :
    k0_pay3 (F := Ideal) part acc j = acc j + part j := by
  pointwise [k0_pay3]

/-- The loss grows by a block's part. -/
theorem loss_step (e : FVec Ideal S256x1024 .f32) (acc : Vec Ideal S1x1 .f32) (j : S1x1.Idx) :
    k0_pay4 (F := Ideal) e acc j = acc j + k0_pay1 (F := Ideal) e j := by
  unfold k0_pay4
  generalize k0_pay1 (F := Ideal) e = P
  pointwise

/-- The kernel's result 0 after the run. -/
theorem final_rows (c : Dev nD) : (dats m 0 c).arrAt 5 (cfgs 0).N = wantRows (rows (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_covers 5 _ (by decide +kernel) fun t _ y => ?_
  blk_simp
  rw [after0_5]
  have hN := lt_of_lt_of_eq t.isLt N_0
  by_cases h : t.val % 8 = 0
  · rw [outsAt0_A m c t h (by omega) h (by omega)]; frame_out
    obtain ⟨r, j, rfl⟩ : ∃ (r : Fin 256) (j : Fin 1024), y = ix2 r j := ⟨y 0, y 1, eq_ix2 y⟩
    rw [dx_at]
    refine rowDx_congr (fun l => ?_) (fun l => ?_) (fun l => ?_) (Fin.ext (Pipeline.Window.rect_emb_val_of_index_zero win0_5 t 1 (congrFun (idx t).2.2.2.2.2.1 1) (ix2 r j)).symm)
    · rw [x_at]; unfold rows; blk_point [iblk, V, idx t]
    · blk_point [iblk, V, idx t]
    · blk_point [iblk, V, idx t]
  · rw [outsAt0_B m c t h (by omega) h (by omega)]; frame_out
    obtain ⟨r, j, rfl⟩ : ∃ (r : Fin 256) (j : Fin 1024), y = ix2 r j := ⟨y 0, y 1, eq_ix2 y⟩
    rw [dx_at]
    refine rowDx_congr (fun l => ?_) (fun l => ?_) (fun l => ?_) (Fin.ext (Pipeline.Window.rect_emb_val_of_index_zero win0_5 t 1 (congrFun (idx t).2.2.2.2.2.1 1) (ix2 r j)).symm)
    · rw [x_at]; unfold rows; blk_point [iblk, V, idx t]
    · blk_point [iblk, V, idx t]
    · blk_point [iblk, V, idx t]

/-- The kernel's result 1 after the run. -/
theorem final_rounded (c : Dev nD) : (dats m 0 c).arrAt 6 (cfgs 0).N = fun i => wantRows (rows (m ((c : Thread nD τ).loc main_arg0)) (m ((c : Thread nD τ).loc main_arg1)) (m ((c : Thread nD τ).loc main_arg2))) (m ((c : Thread nD τ).loc main_arg3)) (m ((c : Thread nD τ).loc main_arg4)) i := by
  refine (dats m 0 c).arrAt_eq_of_covers 6 _ (by decide +kernel) fun t _ y => ?_
  blk_simp
  rw [after0_6]
  have hN := lt_of_lt_of_eq t.isLt N_0
  by_cases h : t.val % 8 = 0
  · rw [outsAt0_A m c t h (by omega) h (by omega)]; frame_out
    show k0_pay10 (F := Ideal) _ _ _ _ _ y = _
    obtain ⟨r, j, rfl⟩ : ∃ (r : Fin 256) (j : Fin 1024), y = ix2 r j := ⟨y 0, y 1, eq_ix2 y⟩
    rw [dx_at]
    refine rowDx_congr (fun l => ?_) (fun l => ?_) (fun l => ?_) (Fin.ext (Pipeline.Window.rect_emb_val_of_index_zero win0_6 t 1 (congrFun (idx t).2.2.2.2.2.2.1 1) (ix2 r j)).symm)
    · rw [x_at]; unfold rows; blk_point [iblk, V, idx t]
    · blk_point [iblk, V, idx t]
    · blk_point [iblk, V, idx t]
  · rw [outsAt0_B m c t h (by omega) h (by omega)]; frame_out
    show k0_pay10 (F := Ideal) _ _ _ _ _ y = _
    obtain ⟨r, j, rfl⟩ : ∃ (r : Fin 256) (j : Fin 1024), y = ix2 r j := ⟨y 0, y 1, eq_ix2 y⟩
    rw [dx_at]
    refine rowDx_congr (fun l => ?_) (fun l => ?_) (fun l => ?_) (Fin.ext (Pipeline.Window.rect_emb_val_of_index_zero win0_6 t 1 (congrFun (idx t).2.2.2.2.2.2.1 1) (ix2 r j)).symm)
    · rw [x_at]; unfold rows; blk_point [iblk, V, idx t]
    · blk_point [iblk, V, idx t]
    · blk_point [iblk, V, idx t]

/-- The kernel's result 2 after the run. -/
theorem final_gain (c : Dev nD) : (dats m 0 c).arrAt 7 (cfgs 0).N = wantGain (rows (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0) _
    (fun t h j => by have := lt_of_lt_of_eq t.isLt N_0; rw [outsAt0_A m c t h (by omega) h (by omega)]; frame_out; rw [gain_at, zero_add])
    (fun t h j => by rw [outsAt0_B m c t h (by omega) h (by omega)]; frame_out; rw [gain_step, gain_at])
    (le_of_eq N_0) t0_7 rfl j, zero_add]
  unfold wantGain
  refine Fin.sum_mul_add_congr fun s k hl => rowGain_congr (fun l => ?_) (fun l => ?_) (fun l => ?_) ?_
  · rw [x_at]; unfold rows; blk_point [iblk, V, idx s]
  · blk_point [iblk, V, idx s]
  · blk_point [iblk, V, idx s]
  · rfl

/-- The kernel's result 3 after the run. -/
theorem final_loss (c : Dev nD) : (dats m 0 c).arrAt 8 (cfgs 0).N = wantLoss (rows (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0) _
    (fun t h j => by have := lt_of_lt_of_eq t.isLt N_0; rw [outsAt0_A m c t h (by omega) h (by omega)]; frame_out; rw [loss_at, zero_add])
    (fun t h j => by rw [outsAt0_B m c t h (by omega) h (by omega)]; frame_out; rw [loss_step, loss_at])
    (le_of_eq N_0) t0_7 rfl j, zero_add, sum_of_halves]
  unfold wantLoss
  refine congrArg (fun s : EReal => Ideal.ofBits .f32 0x3F000000#32 * s) (Fin.sum_mul_add_congr fun s k hl => rowLoss_congr (fun l => ?_) (fun l => ?_) (fun l => ?_))
  · rw [x_at]; unfold rows; blk_point [iblk, V, idx s]
  · blk_point [iblk, V, idx s]
  · blk_point [iblk, V, idx s]

/-- The kernel's results are the reference's. -/
theorem algebraic : Cert.algebraic_Kernel18Ideal_Reference18Ideal := by
  intro m g m' g' _ hm
  refine ⟨_, _, _, _, Cert.Kernel18Ideal.Value.run_blocks m g, (θ_run _ _ _).mono (fun r h c => ?_) (Cert.Reference18Ideal.Value.run (F := Ideal) m' g')⟩
  obtain ⟨e0, e1, e2, e3, e4⟩ := hm c
  refine ⟨(h c).1.trans ?_, (h c).2.1.trans ?_, (h c).2.2.1.trans ?_, (h c).2.2.2.1.trans ?_, (h c).2.2.2.2⟩
  · unfold Cert.Reference18Ideal.Value.res_main_v55
    rw [e0, e1, e2, e3, e4]
    exact (reference_result0 _ _ _ _ _).trans (final_rows m c).symm
  · unfold Cert.Reference18Ideal.Value.res_main_v56
    rw [e0, e1, e2, e3, e4]
    refine Eq.trans ?_ (final_rounded m c).symm
    funext i
    exact congrFun (reference_result0 _ _ _ _ _) i
  · rw [e0, e1, e2, e3, e4]
    exact (reference_result2 _ _ _ _ _).trans (final_gain m c).symm
  · rw [e0, e1, e2, e3, e4]
    exact (reference_result3 _ _ _ _ _).trans (final_loss m c).symm

/-- The reference's runs end with the arguments as they were. -/
theorem reference_frame : Cert.quiescent_Reference18Ideal := fun m g _ =>
  (θ_run _ _ _).mono (fun r h => ⟨fun c => (h c).2.2.2.2, sem_eq_zero_of_no_sems (by decide) r.2⟩) (Cert.Reference18Ideal.Value.run (F := Ideal) m g)

end Cert.Proof.Call18
end
-- ==== Proof.ConvWAdamw.lean ====
module

public import proofs.«01_k».proof.Defs
public import proofs.«01_k».proof.Proof.Gen.Kernel19.Frame
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise

@[expose] public section

/-!
The optimizer's step of the convolution's weights: the kernel and the reference do the same operations at every entry.
-/

set_option maxRecDepth 16384

noncomputable section

namespace Cert.Proof.Call19

open Idealize.ShloMosaic Idealize.ShloMosaic.TcCoe Idealize.SL.Sem

/-- The kernel's results are the reference's. -/
theorem algebraic : Cert.algebraic_Kernel19Ideal_Reference19Ideal := by
  intro m g m' g' _ hm
  refine ⟨_, _, _, Cert.Kernel19Ideal.Value.run m g, (θ_run _ _ _).mono (fun r h c => ?_) (Cert.Reference19Ideal.Value.run (F := Ideal) m' g')⟩
  obtain ⟨e0, e1, e2, e3⟩ := hm c
  refine ⟨(h c).1.trans ?_, (h c).2.1.trans ?_, (h c).2.2.1.trans ?_, (h c).2.2.2⟩
  · rw [e0, e1, e2, e3]; rfl
  · rw [e1, e2]; rfl
  · rw [e1, e3]; rfl

/-- The reference's runs end with the arguments as they were. -/
theorem reference_frame : Cert.quiescent_Reference19Ideal := fun m g _ =>
  (θ_run _ _ _).mono (fun r h => ⟨fun c => (h c).2.2.2, sem_eq_zero_of_no_sems (by decide) r.2⟩) (Cert.Reference19Ideal.Value.run (F := Ideal) m g)

end Cert.Proof.Call19
end
-- ==== Proof.AttnProjRef.lean ====
module

public import proofs.«01_k».proof.Proof.Gen.Reference20Ideal
public import Idealize.ShloMosaic.Lib.StableHlo.Run
public import Idealize.ShloMosaic.Lib.Pointwise

@[expose] public section

/-!
The reference's run of the attention projection's weight: its operations in order, and what they leave.
-/

noncomputable section

namespace Cert.Proof.Ref20

open Cert.Reference20Ideal Cert.Reference20Ideal.Gen Idealize.ShloMosaic Idealize.ShloMosaic.TcCoe Idealize.SL.Sem Idealize.ShloMosaic.StableHlo

variable {F : FTy → Type} [FloatOps F]

/-- A buffer of the weight's shape. -/
abbrev M (F : FTy → Type) := (⟨S128x512, .f32⟩ : BufTy).Contents (Elt F)
/-- A buffer of one number. -/
abbrev M₀ (F : FTy → Type) := (⟨S_, .f32⟩ : BufTy).Contents (Elt F)

/-- @main's 52 operations, in order. -/
abbrev ops : List (HloOp τ sig (Elt F)) :=
  [ unary main_arg0 main_v0 ((extractStridedSlice S1 ![0] · slices_S2_S1_0) : (⟨S2, .i32⟩ : BufTy).Contents (Elt F) → (⟨S1, .i32⟩ : BufTy).Contents (Elt F)),
    reshape main_v0 main_v1 (rfl : (.i32 : EltTy) = .i32) shapeCasts_S1_S_,
    nullary main_c (constantI S_ 32 0#32),
    nullary main_c_0 (constantI S_ 32 0#32),
    unaryIndexed main_arg1 ![main_v1, main_c, main_c_0] ⟨S_, .i32⟩ main_v2 ((fun x i => Host.dynamicSlice S1x128x512 x (fun k => (i k (Shape.Idx.first h_S_)).toInt) sliceFits_S8x128x512_S1x128x512) : (⟨S8x128x512, .bf16⟩ : BufTy).Contents (Elt F) → (Fin 3 → (⟨S_, .i32⟩ : BufTy).Contents (Elt F)) → (⟨S1x128x512, .bf16⟩ : BufTy).Contents (Elt F)),
    reshape main_v2 main_v3 (rfl : (.bf16 : EltTy) = .bf16) shapeCasts_S1x128x512_S128x512,
    unary main_v3 main_v4 ((extf .f32 · bitsLt_bf16_f32) : (⟨S128x512, .bf16⟩ : BufTy).Contents (Elt F) → M F),
    unary main_arg0 main_v5 ((extractStridedSlice S1 ![1] · slices_S2_S1_1) : (⟨S2, .i32⟩ : BufTy).Contents (Elt F) → (⟨S1, .i32⟩ : BufTy).Contents (Elt F)),
    reshape main_v5 main_v6 (rfl : (.i32 : EltTy) = .i32) shapeCasts_S1_S_,
    nullary main_c_1 (constantI S_ 32 0#32),
    nullary main_c_2 (constantI S_ 32 0#32),
    unaryIndexed main_arg2 ![main_v6, main_c_1, main_c_2] ⟨S_, .i32⟩ main_v7 ((fun x i => Host.dynamicSlice S1x128x512 x (fun k => (i k (Shape.Idx.first h_S_)).toInt) sliceFits_S4x128x512_S1x128x512) : (⟨S4x128x512, .bf16⟩ : BufTy).Contents (Elt F) → (Fin 3 → (⟨S_, .i32⟩ : BufTy).Contents (Elt F)) → (⟨S1x128x512, .bf16⟩ : BufTy).Contents (Elt F)),
    reshape main_v7 main_v8 (rfl : (.bf16 : EltTy) = .bf16) shapeCasts_S1x128x512_S128x512,
    unary main_v8 main_v9 ((extf .f32 · bitsLt_bf16_f32) : (⟨S128x512, .bf16⟩ : BufTy).Contents (Elt F) → M F),
    binary main_v4 main_v9 main_v10 (addf : M F → M F → M F),
    unary main_arg3 main_v11 ((extf .f32 · bitsLt_bf16_f32) : (⟨S3x128x512, .bf16⟩ : BufTy).Contents (Elt F) → (⟨S3x128x512, .f32⟩ : BufTy).Contents (Elt F)),
    nullary main_cst (constant S_ .f32 0x00000000#32),
    binary main_v11 main_cst main_v12 ((fun x v => Host.reduceAdd x v reducesTo_S3x128x512_S128x512_d0 h_S_) : (⟨S3x128x512, .f32⟩ : BufTy).Contents (Elt F) → M₀ F → M F),
    binary main_v10 main_v12 main_v13 (addf : M F → M F → M F),
    nullary main_cst_3 (constant S_ .f32 0x3F666666#32),
    unary main_cst_3 main_v14 (broadcastInDim S128x512 ![] bcast_S_S128x512 : M₀ F → M F),
    binary main_v14 main_arg5 main_v15 (mulf : M F → M F → M F),
    nullary main_cst_4 (constant S_ .f32 0x3DCCCCCD#32),
    unary main_cst_4 main_v16 (broadcastInDim S128x512 ![] bcast_S_S128x512 : M₀ F → M F),
    binary main_v16 main_v13 main_v17 (mulf : M F → M F → M F),
    binary main_v15 main_v17 main_v18 (addf : M F → M F → M F),
    nullary main_cst_5 (constant S_ .f32 0x3F7FBE77#32),
    unary main_cst_5 main_v19 (broadcastInDim S128x512 ![] bcast_S_S128x512 : M₀ F → M F),
    binary main_v19 main_arg6 main_v20 (mulf : M F → M F → M F),
    binary main_v13 main_v13 main_v21 (mulf : M F → M F → M F),
    nullary main_cst_6 (constant S_ .f32 0x3A83126F#32),
    unary main_cst_6 main_v22 (broadcastInDim S128x512 ![] bcast_S_S128x512 : M₀ F → M F),
    binary main_v22 main_v21 main_v23 (mulf : M F → M F → M F),
    binary main_v20 main_v23 main_v24 (addf : M F → M F → M F),
    nullary main_cst_7 (constant S_ .f32 0x3F26BD02#32),
    unary main_cst_7 main_v25 (broadcastInDim S128x512 ![] bcast_S_S128x512 : M₀ F → M F),
    binary main_v18 main_v25 main_v26 (Host.divf : M F → M F → M F),
    nullary main_cst_8 (constant S_ .f32 0x3C231ACC#32),
    unary main_cst_8 main_v27 (broadcastInDim S128x512 ![] bcast_S_S128x512 : M₀ F → M F),
    binary main_v24 main_v27 main_v28 (Host.divf : M F → M F → M F),
    unary main_v28 main_v29 (Host.sqrt : M F → M F),
    nullary main_cst_9 (constant S_ .f32 0x322BCC77#32),
    unary main_cst_9 main_v30 (broadcastInDim S128x512 ![] bcast_S_S128x512 : M₀ F → M F),
    binary main_v29 main_v30 main_v31 (addf : M F → M F → M F),
    binary main_v26 main_v31 main_v32 (Host.divf : M F → M F → M F),
    nullary main_cst_10 (constant S_ .f32 0x3C23D70A#32),
    unary main_cst_10 main_v33 (broadcastInDim S128x512 ![] bcast_S_S128x512 : M₀ F → M F),
    binary main_v33 main_arg4 main_v34 (mulf : M F → M F → M F),
    binary main_v32 main_v34 main_v35 (addf : M F → M F → M F),
    nullary main_cst_11 (constant S_ .f32 0xBA83126F#32),
    unary main_cst_11 main_v36 (broadcastInDim S128x512 ![] bcast_S_S128x512 : M₀ F → M F),
    binary main_v36 main_v35 main_v37 (mulf : M F → M F → M F) ]

set_option maxRecDepth 8192 in
/-- The reference is its operations in order. -/
theorem main_eq (c : Dev nD) : main (F := F) c = seq ops := rfl
/-- The reference has no scoped buffer. -/
theorem scopedRefs_eq : (Finset.univ.filter fun b : Ref sig .tc => b.isScoped) = ∅ := by decide
/-- The reference has no scoped counter. -/
theorem scopedSems_eq : (Finset.univ.filter fun sm : SemLoc sig => sm.isScoped .tc) = ∅ := by decide
set_option maxRecDepth 8192 in
/-- Every operation reads and writes buffers of the reference alone. -/
theorem ops_sub : (ops : List (HloOp τ sig (Elt F))).Forall fun op => op.bufs ⊆ tcRefs τ sig :=
  ⟨unary_bufs_sub .., reshape_bufs_sub .., nullary_bufs_sub .., nullary_bufs_sub .., unaryIndexed_bufs_sub .., reshape_bufs_sub .., unary_bufs_sub .., unary_bufs_sub .., reshape_bufs_sub .., nullary_bufs_sub .., nullary_bufs_sub .., unaryIndexed_bufs_sub .., reshape_bufs_sub .., unary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- The gradient's sum over the devices: the part of this device's slot, the part received in the other slot and the
    three parts received from the other groups. -/
def total (a0 : IVec S2 32) (a1 : FVec F S8x128x512 .bf16) (a2 : FVec F S4x128x512 .bf16) (a3 : FVec F S3x128x512 .bf16) : FVec F S128x512 .f32 :=
  addf (addf (extf .f32 (shapeCast S128x512 (Host.dynamicSlice S1x128x512 a1 (fun k => (![(shapeCast S_ (extractStridedSlice S1 ![0] a0 slices_S2_S1_0) shapeCasts_S1_S_ (Shape.Idx.first h_S_)).toInt, 0, 0] : Fin 3 → Int) k) sliceFits_S8x128x512_S1x128x512) shapeCasts_S1x128x512_S128x512) bitsLt_bf16_f32) (extf .f32 (shapeCast S128x512 (Host.dynamicSlice S1x128x512 a2 (fun k => (![(shapeCast S_ (extractStridedSlice S1 ![1] a0 slices_S2_S1_1) shapeCasts_S1_S_ (Shape.Idx.first h_S_)).toInt, 0, 0] : Fin 3 → Int) k) sliceFits_S4x128x512_S1x128x512) shapeCasts_S1x128x512_S128x512) bitsLt_bf16_f32)) (Host.reduceAdd (extf .f32 a3 bitsLt_bf16_f32) (constant S_ .f32 0x00000000#32) reducesTo_S3x128x512_S128x512_d0 h_S_)

/-- The new first moment. -/
def newM (a5 x : FVec F S128x512 .f32) : FVec F S128x512 .f32 :=
  addf (mulf (broadcastInDim S128x512 ![] bcast_S_S128x512 (constant S_ .f32 0x3F666666#32)) a5) (mulf (broadcastInDim S128x512 ![] bcast_S_S128x512 (constant S_ .f32 0x3DCCCCCD#32)) x)

/-- The new second moment. -/
def newV (a6 x : FVec F S128x512 .f32) : FVec F S128x512 .f32 :=
  addf (mulf (broadcastInDim S128x512 ![] bcast_S_S128x512 (constant S_ .f32 0x3F7FBE77#32)) a6) (mulf (broadcastInDim S128x512 ![] bcast_S_S128x512 (constant S_ .f32 0x3A83126F#32)) (mulf x x))

/-- The step the weight takes. -/
def delta (a4 a5 a6 x : FVec F S128x512 .f32) : FVec F S128x512 .f32 :=
  mulf (broadcastInDim S128x512 ![] bcast_S_S128x512 (constant S_ .f32 0xBA83126F#32)) (addf (Host.divf (Host.divf (newM a5 x) (broadcastInDim S128x512 ![] bcast_S_S128x512 (constant S_ .f32 0x3F26BD02#32))) (addf (Host.sqrt (Host.divf (newV a6 x) (broadcastInDim S128x512 ![] bcast_S_S128x512 (constant S_ .f32 0x3C231ACC#32)))) (broadcastInDim S128x512 ![] bcast_S_S128x512 (constant S_ .f32 0x322BCC77#32)))) (mulf (broadcastInDim S128x512 ![] bcast_S_S128x512 (constant S_ .f32 0x3C23D70A#32)) a4))

/-- Slices whose starts are the slots sum to the total. -/
theorem total_of (a0 : IVec S2 32) (a1 : FVec F S8x128x512 .bf16) (a2 : FVec F S4x128x512 .bf16) (a3 : FVec F S3x128x512 .bf16) (u0 u1 : Fin 3 → Int) (h0 : ∀ k, u0 k = (![(shapeCast S_ (extractStridedSlice S1 ![0] a0 slices_S2_S1_0) shapeCasts_S1_S_ (Shape.Idx.first h_S_)).toInt, 0, 0] : Fin 3 → Int) k) (h1 : ∀ k, u1 k = (![(shapeCast S_ (extractStridedSlice S1 ![1] a0 slices_S2_S1_1) shapeCasts_S1_S_ (Shape.Idx.first h_S_)).toInt, 0, 0] : Fin 3 → Int) k) :
    addf (addf (extf .f32 (shapeCast S128x512 (Host.dynamicSlice S1x128x512 a1 u0 sliceFits_S8x128x512_S1x128x512) shapeCasts_S1x128x512_S128x512) bitsLt_bf16_f32) (extf .f32 (shapeCast S128x512 (Host.dynamicSlice S1x128x512 a2 u1 sliceFits_S4x128x512_S1x128x512) shapeCasts_S1x128x512_S128x512) bitsLt_bf16_f32)) (Host.reduceAdd (extf .f32 a3 bitsLt_bf16_f32) (constant S_ .f32 0x00000000#32) reducesTo_S3x128x512_S128x512_d0 h_S_) = total a0 a1 a2 a3 := by
  obtain rfl := funext h0
  obtain rfl := funext h1
  rfl

set_option maxRecDepth 8192 in
set_option maxHeartbeats 4000000 in
/-- Every run of the reference ends with the sum, the step and the new moments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = total (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v37) = delta (m ((c.tc : Thread nD τ).loc main_arg4)) (m ((c.tc : Thread nD τ).loc main_arg5)) (m ((c.tc : Thread nD τ).loc main_arg6)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v18) = newM (m ((c.tc : Thread nD τ).loc main_arg5)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v24) = newV (m ((c.tc : Thread nD τ).loc main_arg6)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run defs _ _).mono (fun _ h c => ⟨(h c main_v13).trans (by after_results_simp; refine total_of _ _ _ _ _ _ ?_ ?_ <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v37).trans (by after_results_simp; refine congrArg (delta (m ((c.tc : Thread nD τ).loc main_arg4)) (m ((c.tc : Thread nD τ).loc main_arg5)) (m ((c.tc : Thread nD τ).loc main_arg6))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v18).trans (by after_results_simp; refine congrArg (newM (m ((c.tc : Thread nD τ).loc main_arg5))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v24).trans (by after_results_simp; refine congrArg (newV (m ((c.tc : Thread nD τ).loc main_arg6))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.Proof.Ref20
end
-- ==== Proof.AttnProjAdamw.lean ====
module

public import proofs.«01_k».proof.Defs
public import proofs.«01_k».proof.Proof.Gen.Kernel20.Frame
public import proofs.«01_k».proof.Proof.Gen.Kernel20Ideal.Frame
public import proofs.«01_k».proof.Proof.AttnProjRef
public import Idealize.ShloMosaic.Lib.Pipeline.ValueKit
public import Idealize.ShloMosaic.Lib.Pipeline.Covers
public import Idealize.ShloMosaic.Lib.Pointwise
public import Idealize.ShloMosaic.Lib.DynamicIndex

@[expose] public section

/-!
The sum over the devices of the gradient of the attention projection's weight, and the weight's optimizer step.
-/

set_option maxRecDepth 16384

noncomputable section

namespace Cert.Proof.Call20

open Idealize.ShloMosaic Idealize.ShloMosaic.TcCoe Idealize.SL.Sem

/-- The side conditions of the predicate's operations. -/
instance finiteFacts : Cert.Pre_slots_w_attn_proj.Facts where
  slices_S2_S1_0 := by decide
  shapeCasts_S1_S_ := by decide
  slices_S2_S1_1 := by decide

section Slots

open Cert.Pre_slots_w_attn_proj

/-- Where the precondition holds, the first slot is one of 8 and the second one of 4. -/
theorem slots {F : FTy → Type} [FloatOps F] (a0 : IVec S2 32) (a1 : FVec F S8x128x512 .bf16) (a2 : FVec F S4x128x512 .bf16) (a3 : FVec F S3x128x512 .bf16) (a4 a5 a6 : FVec F S128x512 .f32)
    (h : Cert.Pre_slots_w_attn_proj.fn (F := F) a0 a1 a2 a3 a4 a5 a6 = fun _ => 1#1) : (a0 (ix1 0)).toNat < 8 ∧ (a0 (ix1 1)).toNat < 4 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have e := congrFun h (Shape.Idx.first (by decide))
  unfold Cert.Pre_slots_w_attn_proj.fn at e
  pointwise at e
  simp only [andi_one, IntOp.cmpi, ofBool_eq_one, BitVec.sle, BitVec.slt, decide_eq_true_eq, BitVec.toInt, BitVec.toNat_ofNat] at e
  omega

/-- The slots as indices. -/
theorem slots_fin {F : FTy → Type} [FloatOps F] (a0 : IVec S2 32) (a1 : FVec F S8x128x512 .bf16) (a2 : FVec F S4x128x512 .bf16) (a3 : FVec F S3x128x512 .bf16) (a4 a5 a6 : FVec F S128x512 .f32)
    (h : Cert.Pre_slots_w_attn_proj.fn (F := F) a0 a1 a2 a3 a4 a5 a6 = fun _ => 1#1) : ∃ (s : Fin 8) (s' : Fin 4), (a0 (ix1 0)).toNat = s.val ∧ (a0 (ix1 1)).toNat = s'.val :=
  ⟨⟨_, (slots a0 a1 a2 a3 a4 a5 a6 h).1⟩, ⟨_, (slots a0 a1 a2 a3 a4 a5 a6 h).2⟩, rfl, rfl⟩

end Slots

section Bits

open Cert.Kernel20 Cert.Kernel20.Gen

/-- The first word of the table the kernel reads is the first slot. -/
theorem word0 (m : (ℓ : Loc nD τ sig) → Buf (Elt Bits) ℓ) (h h') : (tbl m).at 0 (Rect.unit ![0] S1.size h) h' = m ((Dev.tc 0).loc main_arg0) (ix1 0) := by
  show m ((Dev.tc 0).loc main_arg0) _ = _
  exact congrArg (m ((Dev.tc 0).loc main_arg0)) (by funext a; fin_cases a; rfl)

/-- The second word of the table the kernel reads is the second slot. -/
theorem word1 (m : (ℓ : Loc nD τ sig) → Buf (Elt Bits) ℓ) (h h') : (tbl m).at 0 (Rect.unit ![1] S1.size h) h' = m ((Dev.tc 0).loc main_arg0) (ix1 1) := by
  show m ((Dev.tc 0).loc main_arg0) _ = _
  exact congrArg (m ((Dev.tc 0).loc main_arg0)) (by funext a; fin_cases a; rfl)

/-- A block of one part's rows is a whole number of words of its array. -/
theorem words0 (s : Nat) (i : grid0.Coords) (hs : s < 8) : ∃ h : (∀ a, ((![s, (BitVec.ofNat 32 (i 0).val).toNat, 0] : Fin 3 → Nat) a + 1) * S1x128x512.size a ≤ S8x128x512.size a), EltTy.bits .bf16 = 32 ∨ (Rect.block (s := S8x128x512) S1x128x512.size ![s, (BitVec.ofNat 32 (i 0).val).toNat, 0] h).WholeWords (EltTy.packing .bf16) := by
  revert i
  interval_cases s <;> decide +kernel

/-- A block of one received part's rows is a whole number of words of its array. -/
theorem words1 (s : Nat) (i : grid0.Coords) (hs : s < 4) : ∃ h : (∀ a, ((![s, (BitVec.ofNat 32 (i 0).val).toNat, 0] : Fin 3 → Nat) a + 1) * S1x128x512.size a ≤ S4x128x512.size a), EltTy.bits .bf16 = 32 ∨ (Rect.block (s := S4x128x512) S1x128x512.size ![s, (BitVec.ofNat 32 (i 0).val).toNat, 0] h).WholeWords (EltTy.packing .bf16) := by
  revert i
  interval_cases s <;> decide +kernel

/-- Where the slots are in range, every block the table names lies inside its array. -/
theorem ok (m : (ℓ : Loc nD τ sig) → Buf (Elt Bits) ℓ) (h : Cert.Pre_Kernel20 m) : Ok m := by
  obtain ⟨h0, h1⟩ := slots _ _ _ _ _ _ _ (h 0)
  exact ⟨fun i => words0 _ i ((congrArg BitVec.toNat (word0 m _ _)).trans_lt h0), fun i => words1 _ i ((congrArg BitVec.toNat (word1 m _ _)).trans_lt h1)⟩

end Bits

section Reference

open Cert.Reference20Ideal

/-- The sum over the devices: the part of slot `s`, the part received in slot `s'` and the three received from the other groups. -/
def sum (s : Fin 8) (s' : Fin 4) (a1 : FVec Ideal S8x128x512 .bf16) (a2 : FVec Ideal S4x128x512 .bf16) (a3 : FVec Ideal S3x128x512 .bf16) : FVec Ideal S128x512 .f32 :=
  fun i => a1 (ix3 s (i 0) (i 1)) + a2 (ix3 s' (i 0) (i 1)) + a3 (ix3 0 (i 0) (i 1)) + a3 (ix3 1 (i 0) (i 1)) + a3 (ix3 2 (i 0) (i 1))

/-- A word below 8 read as a signed number is itself. -/
theorem toInt_slot (w : BitVec 32) (n : Nat) (hn : n < 8) (h : w.toNat = n) : w.toInt = (n : Int) := by
  simp only [BitVec.toInt]; omega

/-- The reference's sum. -/
theorem reference_sum (s : Fin 8) (s' : Fin 4) (a0 : IVec S2 32) (a1 : FVec Ideal S8x128x512 .bf16) (a2 : FVec Ideal S4x128x512 .bf16) (a3 : FVec Ideal S3x128x512 .bf16)
    (h : (a0 (ix1 0)).toNat = s.val) (h' : (a0 (ix1 1)).toNat = s'.val) : Ref20.total (F := Ideal) a0 a1 a2 a3 = sum s s' a1 a2 a3 := by
  have e : (shapeCast S_ (extractStridedSlice S1 ![0] a0 Facts₀.slices_S2_S1_0) Facts₀.shapeCasts_S1_S_ (Shape.Idx.first Facts₀.h_S_)) = a0 (ix1 0) := by pointwise
  have e' : (shapeCast S_ (extractStridedSlice S1 ![1] a0 Facts₀.slices_S2_S1_1) Facts₀.shapeCasts_S1_S_ (Shape.Idx.first Facts₀.h_S_)) = a0 (ix1 1) := by pointwise
  unfold Ref20.total
  rw [e, e', toInt_slot _ _ s.isLt h, toInt_slot _ _ (by omega) h',
    Host.dynamicSlice_eq_extractStridedSlice _ _ _ ![s.val, 0, 0] _ (by clear h; revert s; decide) (by intro a; fin_cases a <;> rfl),
    Host.dynamicSlice_eq_extractStridedSlice _ _ _ ![s'.val, 0, 0] _ (by clear h'; revert s'; decide) (by intro a; fin_cases a <;> rfl)]
  funext i
  unfold sum
  pointwise
  simp only [Fin.sum_univ_three, add_assoc]

end Reference

section Value

open Cert.Kernel20Ideal Cert.Kernel20Ideal.Gen

variable (m : (ℓ : Loc nD τ sig) → Buf (Elt Ideal) ℓ)

/-- The first word of the table the kernel reads is the first slot. -/
theorem word0Ideal (h h') : (tbl m).at 0 (Rect.unit ![0] S1.size h) h' = m ((Dev.tc 0).loc main_arg0) (ix1 0) := by
  show m ((Dev.tc 0).loc main_arg0) _ = _
  exact congrArg (m ((Dev.tc 0).loc main_arg0)) (by funext a; fin_cases a; rfl)

/-- The second word of the table the kernel reads is the second slot. -/
theorem word1Ideal (h h') : (tbl m).at 0 (Rect.unit ![1] S1.size h) h' = m ((Dev.tc 0).loc main_arg0) (ix1 1) := by
  show m ((Dev.tc 0).loc main_arg0) _ = _
  exact congrArg (m ((Dev.tc 0).loc main_arg0)) (by funext a; fin_cases a; rfl)

/-- Where the slots are in range, every block the table names lies inside its array. -/
theorem okIdeal (h : Cert.Pre_Kernel20Ideal m) : Ok m := by
  obtain ⟨h0, h1⟩ := slots _ _ _ _ _ _ _ (h 0)
  exact ⟨fun i => words0 _ i ((congrArg BitVec.toNat (word0Ideal m _ _)).trans_lt h0), fun i => words1 _ i ((congrArg BitVec.toNat (word1Ideal m _ _)).trans_lt h1)⟩

variable (hO : Ok m) (s : Fin 8) (s' : Fin 4)

/-- Where the grid's points read and write. -/
theorem idx (h : (m ((Dev.tc 0).loc main_arg0) (ix1 0)).toNat = s.val) (h' : (m ((Dev.tc 0).loc main_arg0) (ix1 1)).toNat = s'.val) (t : Fin grid0.N) :
    ((cfgM m hO).win 0).index t = ![s.val, t.val, 0] ∧ ((cfgM m hO).win 1).index t = ![s'.val, t.val, 0] ∧ ((cfgM m hO).win 2).index t = ![0, t.val, 0] ∧ ((cfgM m hO).win 3).index t = ![t.val, 0] ∧ ((cfgM m hO).win 4).index t = ![t.val, 0] ∧ ((cfgM m hO).win 5).index t = ![t.val, 0]
      ∧ ((cfgM m hO).win 6).index t = ![t.val, 0] ∧ ((cfgM m hO).win 7).index t = ![t.val, 0] ∧ ((cfgM m hO).win 8).index t = ![t.val, 0] ∧ ((cfgM m hO).win 9).index t = ![t.val, 0] := by
  have e : ∀ t : Fin grid0.N, (BitVec.ofNat 32 (grid0.coords t 0).val).toNat = t.val := by decide +kernel
  have r : ∀ t : Fin grid0.N, cc0_transform_2 (grid0.coords t) = ![0, t.val, 0] ∧ cc0_transform_3 (grid0.coords t) = ![t.val, 0] ∧ cc0_transform_4 (grid0.coords t) = ![t.val, 0] ∧ cc0_transform_5 (grid0.coords t) = ![t.val, 0]
      ∧ cc0_transform_6 (grid0.coords t) = ![t.val, 0] ∧ cc0_transform_7 (grid0.coords t) = ![t.val, 0] ∧ cc0_transform_8 (grid0.coords t) = ![t.val, 0] ∧ cc0_transform_9 (grid0.coords t) = ![t.val, 0] := by decide +kernel
  have k {x x' y y' : Nat} (hx : x = x') (hy : y = y') : (![x, y, 0] : Fin 3 → Nat) = ![x', y', 0] := by rw [hx, hy]
  refine ⟨?_, ?_, r t⟩
  · exact k ((congrArg BitVec.toNat (word0Ideal m _ _)).trans h) (e t)
  · exact k ((congrArg BitVec.toNat (word1Ideal m _ _)).trans h') (e t)

/-- Every block written is some point's. -/
theorem surj : ∀ x : Fin 1, ∃ t : Fin grid0.N, t.val = x.val := by decide +kernel

/-- A block written is not empty. -/
theorem size_pos : ∀ a : Fin 2, 0 < (![128, 512] : Fin 2 → Nat) a := by decide

/-- The kernel's sum after the run. -/
theorem final_sum (h : (m ((Dev.tc 0).loc main_arg0) (ix1 0)).toNat = s.val) (h' : (m ((Dev.tc 0).loc main_arg0) (ix1 1)).toNat = s'.val) (c : Dev nD) :
    (dats m hO 0 c).arrAt 6 (cfgM m hO).N = sum s s' (m ((c : Thread nD τ).loc main_arg1)) (m ((c : Thread nD τ).loc main_arg2)) (m ((c : Thread nD τ).loc main_arg3)) := by
  refine (dats m hO 0 c).arrAt_eq_of_covers 6 _ (Pipeline.Window.covers_of_index_surj _ rfl (fun a => size_pos a) fun β => ?_) fun t _ y => ?_
  · have b0 : (β (0 : Fin 2)).val < 1 := (show _ < ((128 : Nat) + 128 - 1) / 128 from (β (0 : Fin 2)).isLt).trans_eq (by decide)
    have b1 : (β (1 : Fin 2)).val < 1 := (show _ < ((512 : Nat) + 512 - 1) / 512 from (β (1 : Fin 2)).isLt).trans_eq (by decide)
    obtain ⟨t, ht⟩ := surj ⟨_, b0⟩
    refine ⟨t, fun a => (congrFun ((idx m hO s s' h h' t).2.2.2.2.2.2.1) a).trans ?_⟩
    fin_cases a
    · exact ht
    · exact (Nat.lt_one_iff.mp b1).symm
  · blk_simp
    rw [after0_6]
    dsimp only [outsAt0]
    obtain ⟨x0, h0⟩ : ∃ x : Vec Ideal S1x128x512 .bf16, x = iblk m hO c 0 t := ⟨_, rfl⟩
    obtain ⟨x1, h1⟩ : ∃ x : Vec Ideal S1x128x512 .bf16, x = iblk m hO c 1 t := ⟨_, rfl⟩
    obtain ⟨x2, h2⟩ : ∃ x : Vec Ideal S3x128x512 .bf16, x = iblk m hO c 2 t := ⟨_, rfl⟩
    obtain ⟨x3, h3⟩ : ∃ x : Vec Ideal S128x512 .f32, x = iblk m hO c 3 t := ⟨_, rfl⟩
    obtain ⟨x4, h4⟩ : ∃ x : Vec Ideal S128x512 .f32, x = iblk m hO c 4 t := ⟨_, rfl⟩
    obtain ⟨x5, h5⟩ : ∃ x : Vec Ideal S128x512 .f32, x = iblk m hO c 5 t := ⟨_, rfl⟩
    rw [← h0, ← h1, ← h2, ← h3, ← h4, ← h5]
    frame_out
    unfold sum
    pointwise [k0_pay3]
    subst h0 h1 h2 h3 h4 h5
    blk_point [iblk, V, idx m hO s s' h h' t]

/-- The kernel's step after the run. -/
theorem final_delta (h : (m ((Dev.tc 0).loc main_arg0) (ix1 0)).toNat = s.val) (h' : (m ((Dev.tc 0).loc main_arg0) (ix1 1)).toNat = s'.val) (c : Dev nD) :
    (dats m hO 0 c).arrAt 7 (cfgM m hO).N = Ref20.delta (m ((c : Thread nD τ).loc main_arg4)) (m ((c : Thread nD τ).loc main_arg5)) (m ((c : Thread nD τ).loc main_arg6)) (sum s s' (m ((c : Thread nD τ).loc main_arg1)) (m ((c : Thread nD τ).loc main_arg2)) (m ((c : Thread nD τ).loc main_arg3))) := by
  refine (dats m hO 0 c).arrAt_eq_of_covers 7 _ (Pipeline.Window.covers_of_index_surj _ rfl (fun a => size_pos a) fun β => ?_) fun t _ y => ?_
  · have b0 : (β (0 : Fin 2)).val < 1 := (show _ < ((128 : Nat) + 128 - 1) / 128 from (β (0 : Fin 2)).isLt).trans_eq (by decide)
    have b1 : (β (1 : Fin 2)).val < 1 := (show _ < ((512 : Nat) + 512 - 1) / 512 from (β (1 : Fin 2)).isLt).trans_eq (by decide)
    obtain ⟨t, ht⟩ := surj ⟨_, b0⟩
    refine ⟨t, fun a => (congrFun ((idx m hO s s' h h' t).2.2.2.2.2.2.2.1) a).trans ?_⟩
    fin_cases a
    · exact ht
    · exact (Nat.lt_one_iff.mp b1).symm
  · blk_simp
    rw [after0_7]
    dsimp only [outsAt0]
    obtain ⟨x0, h0⟩ : ∃ x : Vec Ideal S1x128x512 .bf16, x = iblk m hO c 0 t := ⟨_, rfl⟩
    obtain ⟨x1, h1⟩ : ∃ x : Vec Ideal S1x128x512 .bf16, x = iblk m hO c 1 t := ⟨_, rfl⟩
    obtain ⟨x2, h2⟩ : ∃ x : Vec Ideal S3x128x512 .bf16, x = iblk m hO c 2 t := ⟨_, rfl⟩
    obtain ⟨x3, h3⟩ : ∃ x : Vec Ideal S128x512 .f32, x = iblk m hO c 3 t := ⟨_, rfl⟩
    obtain ⟨x4, h4⟩ : ∃ x : Vec Ideal S128x512 .f32, x = iblk m hO c 4 t := ⟨_, rfl⟩
    obtain ⟨x5, h5⟩ : ∃ x : Vec Ideal S128x512 .f32, x = iblk m hO c 5 t := ⟨_, rfl⟩
    rw [← h0, ← h1, ← h2, ← h3, ← h4, ← h5]
    frame_out
    unfold Ref20.delta Ref20.newM Ref20.newV sum
    pointwise [k0_pay1, k0_pay2, k0_pay3, k0_pay4, k0_pay5, k0_pay6]
    subst h0 h1 h2 h3 h4 h5
    blk_point [iblk, V, idx m hO s s' h h' t]

/-- The kernel's new first moment after the run. -/
theorem final_newM (h : (m ((Dev.tc 0).loc main_arg0) (ix1 0)).toNat = s.val) (h' : (m ((Dev.tc 0).loc main_arg0) (ix1 1)).toNat = s'.val) (c : Dev nD) :
    (dats m hO 0 c).arrAt 8 (cfgM m hO).N = Ref20.newM (m ((c : Thread nD τ).loc main_arg5)) (sum s s' (m ((c : Thread nD τ).loc main_arg1)) (m ((c : Thread nD τ).loc main_arg2)) (m ((c : Thread nD τ).loc main_arg3))) := by
  refine (dats m hO 0 c).arrAt_eq_of_covers 8 _ (Pipeline.Window.covers_of_index_surj _ rfl (fun a => size_pos a) fun β => ?_) fun t _ y => ?_
  · have b0 : (β (0 : Fin 2)).val < 1 := (show _ < ((128 : Nat) + 128 - 1) / 128 from (β (0 : Fin 2)).isLt).trans_eq (by decide)
    have b1 : (β (1 : Fin 2)).val < 1 := (show _ < ((512 : Nat) + 512 - 1) / 512 from (β (1 : Fin 2)).isLt).trans_eq (by decide)
    obtain ⟨t, ht⟩ := surj ⟨_, b0⟩
    refine ⟨t, fun a => (congrFun ((idx m hO s s' h h' t).2.2.2.2.2.2.2.2.1) a).trans ?_⟩
    fin_cases a
    · exact ht
    · exact (Nat.lt_one_iff.mp b1).symm
  · blk_simp
    rw [after0_8]
    dsimp only [outsAt0]
    obtain ⟨x0, h0⟩ : ∃ x : Vec Ideal S1x128x512 .bf16, x = iblk m hO c 0 t := ⟨_, rfl⟩
    obtain ⟨x1, h1⟩ : ∃ x : Vec Ideal S1x128x512 .bf16, x = iblk m hO c 1 t := ⟨_, rfl⟩
    obtain ⟨x2, h2⟩ : ∃ x : Vec Ideal S3x128x512 .bf16, x = iblk m hO c 2 t := ⟨_, rfl⟩
    obtain ⟨x3, h3⟩ : ∃ x : Vec Ideal S128x512 .f32, x = iblk m hO c 3 t := ⟨_, rfl⟩
    obtain ⟨x4, h4⟩ : ∃ x : Vec Ideal S128x512 .f32, x = iblk m hO c 4 t := ⟨_, rfl⟩
    obtain ⟨x5, h5⟩ : ∃ x : Vec Ideal S128x512 .f32, x = iblk m hO c 5 t := ⟨_, rfl⟩
    rw [← h0, ← h1, ← h2, ← h3, ← h4, ← h5]
    frame_out
    unfold Ref20.newM sum
    pointwise [k0_pay3, k0_pay4]
    subst h0 h1 h2 h3 h4 h5
    blk_point [iblk, V, idx m hO s s' h h' t]

/-- The kernel's new second moment after the run. -/
theorem final_newV (h : (m ((Dev.tc 0).loc main_arg0) (ix1 0)).toNat = s.val) (h' : (m ((Dev.tc 0).loc main_arg0) (ix1 1)).toNat = s'.val) (c : Dev nD) :
    (dats m hO 0 c).arrAt 9 (cfgM m hO).N = Ref20.newV (m ((c : Thread nD τ).loc main_arg6)) (sum s s' (m ((c : Thread nD τ).loc main_arg1)) (m ((c : Thread nD τ).loc main_arg2)) (m ((c : Thread nD τ).loc main_arg3))) := by
  refine (dats m hO 0 c).arrAt_eq_of_covers 9 _ (Pipeline.Window.covers_of_index_surj _ rfl (fun a => size_pos a) fun β => ?_) fun t _ y => ?_
  · have b0 : (β (0 : Fin 2)).val < 1 := (show _ < ((128 : Nat) + 128 - 1) / 128 from (β (0 : Fin 2)).isLt).trans_eq (by decide)
    have b1 : (β (1 : Fin 2)).val < 1 := (show _ < ((512 : Nat) + 512 - 1) / 512 from (β (1 : Fin 2)).isLt).trans_eq (by decide)
    obtain ⟨t, ht⟩ := surj ⟨_, b0⟩
    refine ⟨t, fun a => (congrFun ((idx m hO s s' h h' t).2.2.2.2.2.2.2.2.2) a).trans ?_⟩
    fin_cases a
    · exact ht
    · exact (Nat.lt_one_iff.mp b1).symm
  · blk_simp
    rw [after0_9]
    dsimp only [outsAt0]
    obtain ⟨x0, h0⟩ : ∃ x : Vec Ideal S1x128x512 .bf16, x = iblk m hO c 0 t := ⟨_, rfl⟩
    obtain ⟨x1, h1⟩ : ∃ x : Vec Ideal S1x128x512 .bf16, x = iblk m hO c 1 t := ⟨_, rfl⟩
    obtain ⟨x2, h2⟩ : ∃ x : Vec Ideal S3x128x512 .bf16, x = iblk m hO c 2 t := ⟨_, rfl⟩
    obtain ⟨x3, h3⟩ : ∃ x : Vec Ideal S128x512 .f32, x = iblk m hO c 3 t := ⟨_, rfl⟩
    obtain ⟨x4, h4⟩ : ∃ x : Vec Ideal S128x512 .f32, x = iblk m hO c 4 t := ⟨_, rfl⟩
    obtain ⟨x5, h5⟩ : ∃ x : Vec Ideal S128x512 .f32, x = iblk m hO c 5 t := ⟨_, rfl⟩
    rw [← h0, ← h1, ← h2, ← h3, ← h4, ← h5]
    frame_out
    unfold Ref20.newV sum
    pointwise [k0_pay1, k0_pay3, k0_pay5, k0_pay6]
    subst h0 h1 h2 h3 h4 h5
    blk_point [iblk, V, idx m hO s s' h h' t]

end Value

open Cert.Kernel20Ideal in
/-- The kernel's results are the reference's. -/
theorem algebraic : Cert.algebraic_Kernel20Ideal_Reference20Ideal := by
  intro m g m' g' hp hm
  have hO := okIdeal m hp
  obtain ⟨s, s', hs, hs'⟩ := slots_fin _ _ _ _ _ _ _ (hp 0)
  refine ⟨fun c => sum s s' (m ((c.tc : Thread nD τ).loc main_arg1)) (m ((c.tc : Thread nD τ).loc main_arg2)) (m ((c.tc : Thread nD τ).loc main_arg3)), fun c => Ref20.delta (m ((c.tc : Thread nD τ).loc main_arg4)) (m ((c.tc : Thread nD τ).loc main_arg5)) (m ((c.tc : Thread nD τ).loc main_arg6)) (sum s s' (m ((c.tc : Thread nD τ).loc main_arg1)) (m ((c.tc : Thread nD τ).loc main_arg2)) (m ((c.tc : Thread nD τ).loc main_arg3))), fun c => Ref20.newM (m ((c.tc : Thread nD τ).loc main_arg5)) (sum s s' (m ((c.tc : Thread nD τ).loc main_arg1)) (m ((c.tc : Thread nD τ).loc main_arg2)) (m ((c.tc : Thread nD τ).loc main_arg3))), fun c => Ref20.newV (m ((c.tc : Thread nD τ).loc main_arg6)) (sum s s' (m ((c.tc : Thread nD τ).loc main_arg1)) (m ((c.tc : Thread nD τ).loc main_arg2)) (m ((c.tc : Thread nD τ).loc main_arg3))),
    (θ_run _ _ _).mono (fun r h c => ⟨((h.1 c).1 6).trans (final_sum m hO s s' hs hs' c), ((h.1 c).1 7).trans (final_delta m hO s s' hs hs' c), ((h.1 c).1 8).trans (final_newM m hO s s' hs hs' c), ((h.1 c).1 9).trans (final_newV m hO s s' hs hs' c), h.2 c⟩)
      (θ_run_and (Gen.run_main m g hO) (Gen.unchanged m g hO)), (θ_run _ _ _).mono (fun r h c => ?_) (Cert.Proof.Ref20.run (F := Ideal) m' g')⟩
  obtain ⟨e0, e1, e2, e3, e4, e5, e6⟩ := hm c
  obtain rfl : c = 0 := Subsingleton.elim (α := Fin 1) _ _
  have t : Ref20.total (F := Ideal) (m' ((Dev.tc 0).loc Cert.Reference20Ideal.main_arg0)) (m' ((Dev.tc 0).loc Cert.Reference20Ideal.main_arg1)) (m' ((Dev.tc 0).loc Cert.Reference20Ideal.main_arg2)) (m' ((Dev.tc 0).loc Cert.Reference20Ideal.main_arg3)) = sum s s' (m ((Dev.tc 0).loc main_arg1)) (m ((Dev.tc 0).loc main_arg2)) (m ((Dev.tc 0).loc main_arg3)) :=
    (by rw [e0, e1, e2, e3]; exact reference_sum s s' _ _ _ _ hs hs')
  refine ⟨(h 0).1.trans t, (h 0).2.1.trans ?_, (h 0).2.2.1.trans ?_, (h 0).2.2.2.1.trans ?_, (h 0).2.2.2.2⟩
  · rw [t, e4, e5, e6]
  · rw [t, e5]
  · rw [t, e6]

/-- The reference's runs end with the arguments as they were. -/
theorem reference_frame : Cert.quiescent_Reference20Ideal := fun m g _ =>
  (θ_run _ _ _).mono (fun r h => ⟨fun c => (h c).2.2.2.2, sem_eq_zero_of_no_sems (by decide) r.2⟩) (Cert.Proof.Ref20.run (F := Ideal) m g)

end Cert.Proof.Call20
end
-- ==== Proof.OutProjRef.lean ====
module

public import proofs.«01_k».proof.Proof.Gen.Reference21Ideal
public import Idealize.ShloMosaic.Lib.StableHlo.Run
public import Idealize.ShloMosaic.Lib.Pointwise

@[expose] public section

/-!
The reference's run of the output projection's weight: its operations in order, and what they leave.
-/

noncomputable section

namespace Cert.Proof.Ref21

open Cert.Reference21Ideal Cert.Reference21Ideal.Gen Idealize.ShloMosaic Idealize.ShloMosaic.TcCoe Idealize.SL.Sem Idealize.ShloMosaic.StableHlo

variable {F : FTy → Type} [FloatOps F]

/-- A buffer of the weight's shape. -/
abbrev M (F : FTy → Type) := (⟨S128x1024, .f32⟩ : BufTy).Contents (Elt F)
/-- A buffer of one number. -/
abbrev M₀ (F : FTy → Type) := (⟨S_, .f32⟩ : BufTy).Contents (Elt F)

/-- @main's 52 operations, in order. -/
abbrev ops : List (HloOp τ sig (Elt F)) :=
  [ unary main_arg0 main_v0 ((extractStridedSlice S1 ![0] · slices_S2_S1_0) : (⟨S2, .i32⟩ : BufTy).Contents (Elt F) → (⟨S1, .i32⟩ : BufTy).Contents (Elt F)),
    reshape main_v0 main_v1 (rfl : (.i32 : EltTy) = .i32) shapeCasts_S1_S_,
    nullary main_c (constantI S_ 32 0#32),
    nullary main_c_0 (constantI S_ 32 0#32),
    unaryIndexed main_arg1 ![main_v1, main_c, main_c_0] ⟨S_, .i32⟩ main_v2 ((fun x i => Host.dynamicSlice S1x128x1024 x (fun k => (i k (Shape.Idx.first h_S_)).toInt) sliceFits_S8x128x1024_S1x128x1024) : (⟨S8x128x1024, .bf16⟩ : BufTy).Contents (Elt F) → (Fin 3 → (⟨S_, .i32⟩ : BufTy).Contents (Elt F)) → (⟨S1x128x1024, .bf16⟩ : BufTy).Contents (Elt F)),
    reshape main_v2 main_v3 (rfl : (.bf16 : EltTy) = .bf16) shapeCasts_S1x128x1024_S128x1024,
    unary main_v3 main_v4 ((extf .f32 · bitsLt_bf16_f32) : (⟨S128x1024, .bf16⟩ : BufTy).Contents (Elt F) → M F),
    unary main_arg0 main_v5 ((extractStridedSlice S1 ![1] · slices_S2_S1_1) : (⟨S2, .i32⟩ : BufTy).Contents (Elt F) → (⟨S1, .i32⟩ : BufTy).Contents (Elt F)),
    reshape main_v5 main_v6 (rfl : (.i32 : EltTy) = .i32) shapeCasts_S1_S_,
    nullary main_c_1 (constantI S_ 32 0#32),
    nullary main_c_2 (constantI S_ 32 0#32),
    unaryIndexed main_arg2 ![main_v6, main_c_1, main_c_2] ⟨S_, .i32⟩ main_v7 ((fun x i => Host.dynamicSlice S1x128x1024 x (fun k => (i k (Shape.Idx.first h_S_)).toInt) sliceFits_S4x128x1024_S1x128x1024) : (⟨S4x128x1024, .bf16⟩ : BufTy).Contents (Elt F) → (Fin 3 → (⟨S_, .i32⟩ : BufTy).Contents (Elt F)) → (⟨S1x128x1024, .bf16⟩ : BufTy).Contents (Elt F)),
    reshape main_v7 main_v8 (rfl : (.bf16 : EltTy) = .bf16) shapeCasts_S1x128x1024_S128x1024,
    unary main_v8 main_v9 ((extf .f32 · bitsLt_bf16_f32) : (⟨S128x1024, .bf16⟩ : BufTy).Contents (Elt F) → M F),
    binary main_v4 main_v9 main_v10 (addf : M F → M F → M F),
    unary main_arg3 main_v11 ((extf .f32 · bitsLt_bf16_f32) : (⟨S3x128x1024, .bf16⟩ : BufTy).Contents (Elt F) → (⟨S3x128x1024, .f32⟩ : BufTy).Contents (Elt F)),
    nullary main_cst (constant S_ .f32 0x00000000#32),
    binary main_v11 main_cst main_v12 ((fun x v => Host.reduceAdd x v reducesTo_S3x128x1024_S128x1024_d0 h_S_) : (⟨S3x128x1024, .f32⟩ : BufTy).Contents (Elt F) → M₀ F → M F),
    binary main_v10 main_v12 main_v13 (addf : M F → M F → M F),
    nullary main_cst_3 (constant S_ .f32 0x3F666666#32),
    unary main_cst_3 main_v14 (broadcastInDim S128x1024 ![] bcast_S_S128x1024 : M₀ F → M F),
    binary main_v14 main_arg5 main_v15 (mulf : M F → M F → M F),
    nullary main_cst_4 (constant S_ .f32 0x3DCCCCCD#32),
    unary main_cst_4 main_v16 (broadcastInDim S128x1024 ![] bcast_S_S128x1024 : M₀ F → M F),
    binary main_v16 main_v13 main_v17 (mulf : M F → M F → M F),
    binary main_v15 main_v17 main_v18 (addf : M F → M F → M F),
    nullary main_cst_5 (constant S_ .f32 0x3F7FBE77#32),
    unary main_cst_5 main_v19 (broadcastInDim S128x1024 ![] bcast_S_S128x1024 : M₀ F → M F),
    binary main_v19 main_arg6 main_v20 (mulf : M F → M F → M F),
    binary main_v13 main_v13 main_v21 (mulf : M F → M F → M F),
    nullary main_cst_6 (constant S_ .f32 0x3A83126F#32),
    unary main_cst_6 main_v22 (broadcastInDim S128x1024 ![] bcast_S_S128x1024 : M₀ F → M F),
    binary main_v22 main_v21 main_v23 (mulf : M F → M F → M F),
    binary main_v20 main_v23 main_v24 (addf : M F → M F → M F),
    nullary main_cst_7 (constant S_ .f32 0x3F26BD02#32),
    unary main_cst_7 main_v25 (broadcastInDim S128x1024 ![] bcast_S_S128x1024 : M₀ F → M F),
    binary main_v18 main_v25 main_v26 (Host.divf : M F → M F → M F),
    nullary main_cst_8 (constant S_ .f32 0x3C231ACC#32),
    unary main_cst_8 main_v27 (broadcastInDim S128x1024 ![] bcast_S_S128x1024 : M₀ F → M F),
    binary main_v24 main_v27 main_v28 (Host.divf : M F → M F → M F),
    unary main_v28 main_v29 (Host.sqrt : M F → M F),
    nullary main_cst_9 (constant S_ .f32 0x322BCC77#32),
    unary main_cst_9 main_v30 (broadcastInDim S128x1024 ![] bcast_S_S128x1024 : M₀ F → M F),
    binary main_v29 main_v30 main_v31 (addf : M F → M F → M F),
    binary main_v26 main_v31 main_v32 (Host.divf : M F → M F → M F),
    nullary main_cst_10 (constant S_ .f32 0x3C23D70A#32),
    unary main_cst_10 main_v33 (broadcastInDim S128x1024 ![] bcast_S_S128x1024 : M₀ F → M F),
    binary main_v33 main_arg4 main_v34 (mulf : M F → M F → M F),
    binary main_v32 main_v34 main_v35 (addf : M F → M F → M F),
    nullary main_cst_11 (constant S_ .f32 0xBA83126F#32),
    unary main_cst_11 main_v36 (broadcastInDim S128x1024 ![] bcast_S_S128x1024 : M₀ F → M F),
    binary main_v36 main_v35 main_v37 (mulf : M F → M F → M F) ]

set_option maxRecDepth 8192 in
/-- The reference is its operations in order. -/
theorem main_eq (c : Dev nD) : main (F := F) c = seq ops := rfl
/-- The reference has no scoped buffer. -/
theorem scopedRefs_eq : (Finset.univ.filter fun b : Ref sig .tc => b.isScoped) = ∅ := by decide
/-- The reference has no scoped counter. -/
theorem scopedSems_eq : (Finset.univ.filter fun sm : SemLoc sig => sm.isScoped .tc) = ∅ := by decide
set_option maxRecDepth 8192 in
/-- Every operation reads and writes buffers of the reference alone. -/
theorem ops_sub : (ops : List (HloOp τ sig (Elt F))).Forall fun op => op.bufs ⊆ tcRefs τ sig :=
  ⟨unary_bufs_sub .., reshape_bufs_sub .., nullary_bufs_sub .., nullary_bufs_sub .., unaryIndexed_bufs_sub .., reshape_bufs_sub .., unary_bufs_sub .., unary_bufs_sub .., reshape_bufs_sub .., nullary_bufs_sub .., nullary_bufs_sub .., unaryIndexed_bufs_sub .., reshape_bufs_sub .., unary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- The gradient's sum over the devices: the part of this device's slot, the part received in the other slot and the
    three parts received from the other groups. -/
def total (a0 : IVec S2 32) (a1 : FVec F S8x128x1024 .bf16) (a2 : FVec F S4x128x1024 .bf16) (a3 : FVec F S3x128x1024 .bf16) : FVec F S128x1024 .f32 :=
  addf (addf (extf .f32 (shapeCast S128x1024 (Host.dynamicSlice S1x128x1024 a1 (fun k => (![(shapeCast S_ (extractStridedSlice S1 ![0] a0 slices_S2_S1_0) shapeCasts_S1_S_ (Shape.Idx.first h_S_)).toInt, 0, 0] : Fin 3 → Int) k) sliceFits_S8x128x1024_S1x128x1024) shapeCasts_S1x128x1024_S128x1024) bitsLt_bf16_f32) (extf .f32 (shapeCast S128x1024 (Host.dynamicSlice S1x128x1024 a2 (fun k => (![(shapeCast S_ (extractStridedSlice S1 ![1] a0 slices_S2_S1_1) shapeCasts_S1_S_ (Shape.Idx.first h_S_)).toInt, 0, 0] : Fin 3 → Int) k) sliceFits_S4x128x1024_S1x128x1024) shapeCasts_S1x128x1024_S128x1024) bitsLt_bf16_f32)) (Host.reduceAdd (extf .f32 a3 bitsLt_bf16_f32) (constant S_ .f32 0x00000000#32) reducesTo_S3x128x1024_S128x1024_d0 h_S_)

/-- The new first moment. -/
def newM (a5 x : FVec F S128x1024 .f32) : FVec F S128x1024 .f32 :=
  addf (mulf (broadcastInDim S128x1024 ![] bcast_S_S128x1024 (constant S_ .f32 0x3F666666#32)) a5) (mulf (broadcastInDim S128x1024 ![] bcast_S_S128x1024 (constant S_ .f32 0x3DCCCCCD#32)) x)

/-- The new second moment. -/
def newV (a6 x : FVec F S128x1024 .f32) : FVec F S128x1024 .f32 :=
  addf (mulf (broadcastInDim S128x1024 ![] bcast_S_S128x1024 (constant S_ .f32 0x3F7FBE77#32)) a6) (mulf (broadcastInDim S128x1024 ![] bcast_S_S128x1024 (constant S_ .f32 0x3A83126F#32)) (mulf x x))

/-- The step the weight takes. -/
def delta (a4 a5 a6 x : FVec F S128x1024 .f32) : FVec F S128x1024 .f32 :=
  mulf (broadcastInDim S128x1024 ![] bcast_S_S128x1024 (constant S_ .f32 0xBA83126F#32)) (addf (Host.divf (Host.divf (newM a5 x) (broadcastInDim S128x1024 ![] bcast_S_S128x1024 (constant S_ .f32 0x3F26BD02#32))) (addf (Host.sqrt (Host.divf (newV a6 x) (broadcastInDim S128x1024 ![] bcast_S_S128x1024 (constant S_ .f32 0x3C231ACC#32)))) (broadcastInDim S128x1024 ![] bcast_S_S128x1024 (constant S_ .f32 0x322BCC77#32)))) (mulf (broadcastInDim S128x1024 ![] bcast_S_S128x1024 (constant S_ .f32 0x3C23D70A#32)) a4))

/-- Slices whose starts are the slots sum to the total. -/
theorem total_of (a0 : IVec S2 32) (a1 : FVec F S8x128x1024 .bf16) (a2 : FVec F S4x128x1024 .bf16) (a3 : FVec F S3x128x1024 .bf16) (u0 u1 : Fin 3 → Int) (h0 : ∀ k, u0 k = (![(shapeCast S_ (extractStridedSlice S1 ![0] a0 slices_S2_S1_0) shapeCasts_S1_S_ (Shape.Idx.first h_S_)).toInt, 0, 0] : Fin 3 → Int) k) (h1 : ∀ k, u1 k = (![(shapeCast S_ (extractStridedSlice S1 ![1] a0 slices_S2_S1_1) shapeCasts_S1_S_ (Shape.Idx.first h_S_)).toInt, 0, 0] : Fin 3 → Int) k) :
    addf (addf (extf .f32 (shapeCast S128x1024 (Host.dynamicSlice S1x128x1024 a1 u0 sliceFits_S8x128x1024_S1x128x1024) shapeCasts_S1x128x1024_S128x1024) bitsLt_bf16_f32) (extf .f32 (shapeCast S128x1024 (Host.dynamicSlice S1x128x1024 a2 u1 sliceFits_S4x128x1024_S1x128x1024) shapeCasts_S1x128x1024_S128x1024) bitsLt_bf16_f32)) (Host.reduceAdd (extf .f32 a3 bitsLt_bf16_f32) (constant S_ .f32 0x00000000#32) reducesTo_S3x128x1024_S128x1024_d0 h_S_) = total a0 a1 a2 a3 := by
  obtain rfl := funext h0
  obtain rfl := funext h1
  rfl

set_option maxRecDepth 8192 in
set_option maxHeartbeats 4000000 in
/-- Every run of the reference ends with the sum, the step and the new moments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = total (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v37) = delta (m ((c.tc : Thread nD τ).loc main_arg4)) (m ((c.tc : Thread nD τ).loc main_arg5)) (m ((c.tc : Thread nD τ).loc main_arg6)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v18) = newM (m ((c.tc : Thread nD τ).loc main_arg5)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v24) = newV (m ((c.tc : Thread nD τ).loc main_arg6)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run defs _ _).mono (fun _ h c => ⟨(h c main_v13).trans (by after_results_simp; refine total_of _ _ _ _ _ _ ?_ ?_ <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v37).trans (by after_results_simp; refine congrArg (delta (m ((c.tc : Thread nD τ).loc main_arg4)) (m ((c.tc : Thread nD τ).loc main_arg5)) (m ((c.tc : Thread nD τ).loc main_arg6))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v18).trans (by after_results_simp; refine congrArg (newM (m ((c.tc : Thread nD τ).loc main_arg5))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v24).trans (by after_results_simp; refine congrArg (newV (m ((c.tc : Thread nD τ).loc main_arg6))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.Proof.Ref21
end
-- ==== Proof.OutProjAdamw.lean ====
module

public import proofs.«01_k».proof.Defs
public import proofs.«01_k».proof.Proof.Gen.Kernel21.Frame
public import proofs.«01_k».proof.Proof.Gen.Kernel21Ideal.Frame
public import proofs.«01_k».proof.Proof.OutProjRef
public import Idealize.ShloMosaic.Lib.Pipeline.ValueKit
public import Idealize.ShloMosaic.Lib.Pipeline.Covers
public import Idealize.ShloMosaic.Lib.Pointwise
public import Idealize.ShloMosaic.Lib.DynamicIndex

@[expose] public section

/-!
The sum over the devices of the gradient of the output projection's weight, and the weight's optimizer step.
-/

set_option maxRecDepth 16384

noncomputable section

namespace Cert.Proof.Call21

open Idealize.ShloMosaic Idealize.ShloMosaic.TcCoe Idealize.SL.Sem

/-- The side conditions of the predicate's operations. -/
instance finiteFacts : Cert.Pre_slots_w_out.Facts where
  slices_S2_S1_0 := by decide
  shapeCasts_S1_S_ := by decide
  slices_S2_S1_1 := by decide

section Slots

open Cert.Pre_slots_w_out

/-- Where the precondition holds, the first slot is one of 8 and the second one of 4. -/
theorem slots {F : FTy → Type} [FloatOps F] (a0 : IVec S2 32) (a1 : FVec F S8x128x1024 .bf16) (a2 : FVec F S4x128x1024 .bf16) (a3 : FVec F S3x128x1024 .bf16) (a4 a5 a6 : FVec F S128x1024 .f32)
    (h : Cert.Pre_slots_w_out.fn (F := F) a0 a1 a2 a3 a4 a5 a6 = fun _ => 1#1) : (a0 (ix1 0)).toNat < 8 ∧ (a0 (ix1 1)).toNat < 4 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have e := congrFun h (Shape.Idx.first (by decide))
  unfold Cert.Pre_slots_w_out.fn at e
  pointwise at e
  simp only [andi_one, IntOp.cmpi, ofBool_eq_one, BitVec.sle, BitVec.slt, decide_eq_true_eq, BitVec.toInt, BitVec.toNat_ofNat] at e
  omega

/-- The slots as indices. -/
theorem slots_fin {F : FTy → Type} [FloatOps F] (a0 : IVec S2 32) (a1 : FVec F S8x128x1024 .bf16) (a2 : FVec F S4x128x1024 .bf16) (a3 : FVec F S3x128x1024 .bf16) (a4 a5 a6 : FVec F S128x1024 .f32)
    (h : Cert.Pre_slots_w_out.fn (F := F) a0 a1 a2 a3 a4 a5 a6 = fun _ => 1#1) : ∃ (s : Fin 8) (s' : Fin 4), (a0 (ix1 0)).toNat = s.val ∧ (a0 (ix1 1)).toNat = s'.val :=
  ⟨⟨_, (slots a0 a1 a2 a3 a4 a5 a6 h).1⟩, ⟨_, (slots a0 a1 a2 a3 a4 a5 a6 h).2⟩, rfl, rfl⟩

end Slots

section Bits

open Cert.Kernel21 Cert.Kernel21.Gen

/-- The first word of the table the kernel reads is the first slot. -/
theorem word0 (m : (ℓ : Loc nD τ sig) → Buf (Elt Bits) ℓ) (h h') : (tbl m).at 0 (Rect.unit ![0] S1.size h) h' = m ((Dev.tc 0).loc main_arg0) (ix1 0) := by
  show m ((Dev.tc 0).loc main_arg0) _ = _
  exact congrArg (m ((Dev.tc 0).loc main_arg0)) (by funext a; fin_cases a; rfl)

/-- The second word of the table the kernel reads is the second slot. -/
theorem word1 (m : (ℓ : Loc nD τ sig) → Buf (Elt Bits) ℓ) (h h') : (tbl m).at 0 (Rect.unit ![1] S1.size h) h' = m ((Dev.tc 0).loc main_arg0) (ix1 1) := by
  show m ((Dev.tc 0).loc main_arg0) _ = _
  exact congrArg (m ((Dev.tc 0).loc main_arg0)) (by funext a; fin_cases a; rfl)

/-- A block of one part's rows is a whole number of words of its array. -/
theorem words0 (s : Nat) (i : grid0.Coords) (hs : s < 8) : ∃ h : (∀ a, ((![s, (BitVec.ofNat 32 (i 0).val).toNat, 0] : Fin 3 → Nat) a + 1) * S1x128x1024.size a ≤ S8x128x1024.size a), EltTy.bits .bf16 = 32 ∨ (Rect.block (s := S8x128x1024) S1x128x1024.size ![s, (BitVec.ofNat 32 (i 0).val).toNat, 0] h).WholeWords (EltTy.packing .bf16) := by
  revert i
  interval_cases s <;> decide +kernel

/-- A block of one received part's rows is a whole number of words of its array. -/
theorem words1 (s : Nat) (i : grid0.Coords) (hs : s < 4) : ∃ h : (∀ a, ((![s, (BitVec.ofNat 32 (i 0).val).toNat, 0] : Fin 3 → Nat) a + 1) * S1x128x1024.size a ≤ S4x128x1024.size a), EltTy.bits .bf16 = 32 ∨ (Rect.block (s := S4x128x1024) S1x128x1024.size ![s, (BitVec.ofNat 32 (i 0).val).toNat, 0] h).WholeWords (EltTy.packing .bf16) := by
  revert i
  interval_cases s <;> decide +kernel

/-- Where the slots are in range, every block the table names lies inside its array. -/
theorem ok (m : (ℓ : Loc nD τ sig) → Buf (Elt Bits) ℓ) (h : Cert.Pre_Kernel21 m) : Ok m := by
  obtain ⟨h0, h1⟩ := slots _ _ _ _ _ _ _ (h 0)
  exact ⟨fun i => words0 _ i ((congrArg BitVec.toNat (word0 m _ _)).trans_lt h0), fun i => words1 _ i ((congrArg BitVec.toNat (word1 m _ _)).trans_lt h1)⟩

end Bits

section Reference

open Cert.Reference21Ideal

/-- The sum over the devices: the part of slot `s`, the part received in slot `s'` and the three received from the other groups. -/
def sum (s : Fin 8) (s' : Fin 4) (a1 : FVec Ideal S8x128x1024 .bf16) (a2 : FVec Ideal S4x128x1024 .bf16) (a3 : FVec Ideal S3x128x1024 .bf16) : FVec Ideal S128x1024 .f32 :=
  fun i => a1 (ix3 s (i 0) (i 1)) + a2 (ix3 s' (i 0) (i 1)) + a3 (ix3 0 (i 0) (i 1)) + a3 (ix3 1 (i 0) (i 1)) + a3 (ix3 2 (i 0) (i 1))

/-- A word below 8 read as a signed number is itself. -/
theorem toInt_slot (w : BitVec 32) (n : Nat) (hn : n < 8) (h : w.toNat = n) : w.toInt = (n : Int) := by
  simp only [BitVec.toInt]; omega

/-- The reference's sum. -/
theorem reference_sum (s : Fin 8) (s' : Fin 4) (a0 : IVec S2 32) (a1 : FVec Ideal S8x128x1024 .bf16) (a2 : FVec Ideal S4x128x1024 .bf16) (a3 : FVec Ideal S3x128x1024 .bf16)
    (h : (a0 (ix1 0)).toNat = s.val) (h' : (a0 (ix1 1)).toNat = s'.val) : Ref21.total (F := Ideal) a0 a1 a2 a3 = sum s s' a1 a2 a3 := by
  have e : (shapeCast S_ (extractStridedSlice S1 ![0] a0 Facts₀.slices_S2_S1_0) Facts₀.shapeCasts_S1_S_ (Shape.Idx.first Facts₀.h_S_)) = a0 (ix1 0) := by pointwise
  have e' : (shapeCast S_ (extractStridedSlice S1 ![1] a0 Facts₀.slices_S2_S1_1) Facts₀.shapeCasts_S1_S_ (Shape.Idx.first Facts₀.h_S_)) = a0 (ix1 1) := by pointwise
  unfold Ref21.total
  rw [e, e', toInt_slot _ _ s.isLt h, toInt_slot _ _ (by omega) h',
    Host.dynamicSlice_eq_extractStridedSlice _ _ _ ![s.val, 0, 0] _ (by clear h; revert s; decide) (by intro a; fin_cases a <;> rfl),
    Host.dynamicSlice_eq_extractStridedSlice _ _ _ ![s'.val, 0, 0] _ (by clear h'; revert s'; decide) (by intro a; fin_cases a <;> rfl)]
  funext i
  unfold sum
  pointwise
  simp only [Fin.sum_univ_three, add_assoc]

end Reference

section Value

open Cert.Kernel21Ideal Cert.Kernel21Ideal.Gen

variable (m : (ℓ : Loc nD τ sig) → Buf (Elt Ideal) ℓ)

/-- The first word of the table the kernel reads is the first slot. -/
theorem word0Ideal (h h') : (tbl m).at 0 (Rect.unit ![0] S1.size h) h' = m ((Dev.tc 0).loc main_arg0) (ix1 0) := by
  show m ((Dev.tc 0).loc main_arg0) _ = _
  exact congrArg (m ((Dev.tc 0).loc main_arg0)) (by funext a; fin_cases a; rfl)

/-- The second word of the table the kernel reads is the second slot. -/
theorem word1Ideal (h h') : (tbl m).at 0 (Rect.unit ![1] S1.size h) h' = m ((Dev.tc 0).loc main_arg0) (ix1 1) := by
  show m ((Dev.tc 0).loc main_arg0) _ = _
  exact congrArg (m ((Dev.tc 0).loc main_arg0)) (by funext a; fin_cases a; rfl)

/-- Where the slots are in range, every block the table names lies inside its array. -/
theorem okIdeal (h : Cert.Pre_Kernel21Ideal m) : Ok m := by
  obtain ⟨h0, h1⟩ := slots _ _ _ _ _ _ _ (h 0)
  exact ⟨fun i => words0 _ i ((congrArg BitVec.toNat (word0Ideal m _ _)).trans_lt h0), fun i => words1 _ i ((congrArg BitVec.toNat (word1Ideal m _ _)).trans_lt h1)⟩

variable (hO : Ok m) (s : Fin 8) (s' : Fin 4)

/-- Where the grid's points read and write. -/
theorem idx (h : (m ((Dev.tc 0).loc main_arg0) (ix1 0)).toNat = s.val) (h' : (m ((Dev.tc 0).loc main_arg0) (ix1 1)).toNat = s'.val) (t : Fin grid0.N) :
    ((cfgM m hO).win 0).index t = ![s.val, t.val, 0] ∧ ((cfgM m hO).win 1).index t = ![s'.val, t.val, 0] ∧ ((cfgM m hO).win 2).index t = ![0, t.val, 0] ∧ ((cfgM m hO).win 3).index t = ![t.val, 0] ∧ ((cfgM m hO).win 4).index t = ![t.val, 0] ∧ ((cfgM m hO).win 5).index t = ![t.val, 0]
      ∧ ((cfgM m hO).win 6).index t = ![t.val, 0] ∧ ((cfgM m hO).win 7).index t = ![t.val, 0] ∧ ((cfgM m hO).win 8).index t = ![t.val, 0] ∧ ((cfgM m hO).win 9).index t = ![t.val, 0] := by
  have e : ∀ t : Fin grid0.N, (BitVec.ofNat 32 (grid0.coords t 0).val).toNat = t.val := by decide +kernel
  have r : ∀ t : Fin grid0.N, cc0_transform_2 (grid0.coords t) = ![0, t.val, 0] ∧ cc0_transform_3 (grid0.coords t) = ![t.val, 0] ∧ cc0_transform_4 (grid0.coords t) = ![t.val, 0] ∧ cc0_transform_5 (grid0.coords t) = ![t.val, 0]
      ∧ cc0_transform_6 (grid0.coords t) = ![t.val, 0] ∧ cc0_transform_7 (grid0.coords t) = ![t.val, 0] ∧ cc0_transform_8 (grid0.coords t) = ![t.val, 0] ∧ cc0_transform_9 (grid0.coords t) = ![t.val, 0] := by decide +kernel
  have k {x x' y y' : Nat} (hx : x = x') (hy : y = y') : (![x, y, 0] : Fin 3 → Nat) = ![x', y', 0] := by rw [hx, hy]
  refine ⟨?_, ?_, r t⟩
  · exact k ((congrArg BitVec.toNat (word0Ideal m _ _)).trans h) (e t)
  · exact k ((congrArg BitVec.toNat (word1Ideal m _ _)).trans h') (e t)

/-- Every block written is some point's. -/
theorem surj : ∀ x : Fin 1, ∃ t : Fin grid0.N, t.val = x.val := by decide +kernel

/-- A block written is not empty. -/
theorem size_pos : ∀ a : Fin 2, 0 < (![128, 1024] : Fin 2 → Nat) a := by decide

/-- The kernel's sum after the run. -/
theorem final_sum (h : (m ((Dev.tc 0).loc main_arg0) (ix1 0)).toNat = s.val) (h' : (m ((Dev.tc 0).loc main_arg0) (ix1 1)).toNat = s'.val) (c : Dev nD) :
    (dats m hO 0 c).arrAt 6 (cfgM m hO).N = sum s s' (m ((c : Thread nD τ).loc main_arg1)) (m ((c : Thread nD τ).loc main_arg2)) (m ((c : Thread nD τ).loc main_arg3)) := by
  refine (dats m hO 0 c).arrAt_eq_of_covers 6 _ (Pipeline.Window.covers_of_index_surj _ rfl (fun a => size_pos a) fun β => ?_) fun t _ y => ?_
  · have b0 : (β (0 : Fin 2)).val < 1 := (show _ < ((128 : Nat) + 128 - 1) / 128 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.1) a).trans ?_⟩
    fin_cases a
    · exact ht
    · exact (Nat.lt_one_iff.mp b1).symm
  · blk_simp
    rw [after0_6]
    dsimp only [outsAt0]
    obtain ⟨x0, h0⟩ : ∃ x : Vec Ideal S1x128x1024 .bf16, x = iblk m hO c 0 t := ⟨_, rfl⟩
    obtain ⟨x1, h1⟩ : ∃ x : Vec Ideal S1x128x1024 .bf16, x = iblk m hO c 1 t := ⟨_, rfl⟩
    obtain ⟨x2, h2⟩ : ∃ x : Vec Ideal S3x128x1024 .bf16, x = iblk m hO c 2 t := ⟨_, rfl⟩
    obtain ⟨x3, h3⟩ : ∃ x : Vec Ideal S128x1024 .f32, x = iblk m hO c 3 t := ⟨_, rfl⟩
    obtain ⟨x4, h4⟩ : ∃ x : Vec Ideal S128x1024 .f32, x = iblk m hO c 4 t := ⟨_, rfl⟩
    obtain ⟨x5, h5⟩ : ∃ x : Vec Ideal S128x1024 .f32, x = iblk m hO c 5 t := ⟨_, rfl⟩
    rw [← h0, ← h1, ← h2, ← h3, ← h4, ← h5]
    frame_out
    unfold sum
    pointwise [k0_pay3]
    subst h0 h1 h2 h3 h4 h5
    blk_point [iblk, V, idx m hO s s' h h' t]

/-- The kernel's step after the run. -/
theorem final_delta (h : (m ((Dev.tc 0).loc main_arg0) (ix1 0)).toNat = s.val) (h' : (m ((Dev.tc 0).loc main_arg0) (ix1 1)).toNat = s'.val) (c : Dev nD) :
    (dats m hO 0 c).arrAt 7 (cfgM m hO).N = Ref21.delta (m ((c : Thread nD τ).loc main_arg4)) (m ((c : Thread nD τ).loc main_arg5)) (m ((c : Thread nD τ).loc main_arg6)) (sum s s' (m ((c : Thread nD τ).loc main_arg1)) (m ((c : Thread nD τ).loc main_arg2)) (m ((c : Thread nD τ).loc main_arg3))) := by
  refine (dats m hO 0 c).arrAt_eq_of_covers 7 _ (Pipeline.Window.covers_of_index_surj _ rfl (fun a => size_pos a) fun β => ?_) fun t _ y => ?_
  · have b0 : (β (0 : Fin 2)).val < 1 := (show _ < ((128 : Nat) + 128 - 1) / 128 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.2.1) a).trans ?_⟩
    fin_cases a
    · exact ht
    · exact (Nat.lt_one_iff.mp b1).symm
  · blk_simp
    rw [after0_7]
    dsimp only [outsAt0]
    obtain ⟨x0, h0⟩ : ∃ x : Vec Ideal S1x128x1024 .bf16, x = iblk m hO c 0 t := ⟨_, rfl⟩
    obtain ⟨x1, h1⟩ : ∃ x : Vec Ideal S1x128x1024 .bf16, x = iblk m hO c 1 t := ⟨_, rfl⟩
    obtain ⟨x2, h2⟩ : ∃ x : Vec Ideal S3x128x1024 .bf16, x = iblk m hO c 2 t := ⟨_, rfl⟩
    obtain ⟨x3, h3⟩ : ∃ x : Vec Ideal S128x1024 .f32, x = iblk m hO c 3 t := ⟨_, rfl⟩
    obtain ⟨x4, h4⟩ : ∃ x : Vec Ideal S128x1024 .f32, x = iblk m hO c 4 t := ⟨_, rfl⟩
    obtain ⟨x5, h5⟩ : ∃ x : Vec Ideal S128x1024 .f32, x = iblk m hO c 5 t := ⟨_, rfl⟩
    rw [← h0, ← h1, ← h2, ← h3, ← h4, ← h5]
    frame_out
    unfold Ref21.delta Ref21.newM Ref21.newV sum
    pointwise [k0_pay1, k0_pay2, k0_pay3, k0_pay4, k0_pay5, k0_pay6]
    subst h0 h1 h2 h3 h4 h5
    blk_point [iblk, V, idx m hO s s' h h' t]

/-- The kernel's new first moment after the run. -/
theorem final_newM (h : (m ((Dev.tc 0).loc main_arg0) (ix1 0)).toNat = s.val) (h' : (m ((Dev.tc 0).loc main_arg0) (ix1 1)).toNat = s'.val) (c : Dev nD) :
    (dats m hO 0 c).arrAt 8 (cfgM m hO).N = Ref21.newM (m ((c : Thread nD τ).loc main_arg5)) (sum s s' (m ((c : Thread nD τ).loc main_arg1)) (m ((c : Thread nD τ).loc main_arg2)) (m ((c : Thread nD τ).loc main_arg3))) := by
  refine (dats m hO 0 c).arrAt_eq_of_covers 8 _ (Pipeline.Window.covers_of_index_surj _ rfl (fun a => size_pos a) fun β => ?_) fun t _ y => ?_
  · have b0 : (β (0 : Fin 2)).val < 1 := (show _ < ((128 : Nat) + 128 - 1) / 128 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.2.2.1) a).trans ?_⟩
    fin_cases a
    · exact ht
    · exact (Nat.lt_one_iff.mp b1).symm
  · blk_simp
    rw [after0_8]
    dsimp only [outsAt0]
    obtain ⟨x0, h0⟩ : ∃ x : Vec Ideal S1x128x1024 .bf16, x = iblk m hO c 0 t := ⟨_, rfl⟩
    obtain ⟨x1, h1⟩ : ∃ x : Vec Ideal S1x128x1024 .bf16, x = iblk m hO c 1 t := ⟨_, rfl⟩
    obtain ⟨x2, h2⟩ : ∃ x : Vec Ideal S3x128x1024 .bf16, x = iblk m hO c 2 t := ⟨_, rfl⟩
    obtain ⟨x3, h3⟩ : ∃ x : Vec Ideal S128x1024 .f32, x = iblk m hO c 3 t := ⟨_, rfl⟩
    obtain ⟨x4, h4⟩ : ∃ x : Vec Ideal S128x1024 .f32, x = iblk m hO c 4 t := ⟨_, rfl⟩
    obtain ⟨x5, h5⟩ : ∃ x : Vec Ideal S128x1024 .f32, x = iblk m hO c 5 t := ⟨_, rfl⟩
    rw [← h0, ← h1, ← h2, ← h3, ← h4, ← h5]
    frame_out
    unfold Ref21.newM sum
    pointwise [k0_pay3, k0_pay4]
    subst h0 h1 h2 h3 h4 h5
    blk_point [iblk, V, idx m hO s s' h h' t]

/-- The kernel's new second moment after the run. -/
theorem final_newV (h : (m ((Dev.tc 0).loc main_arg0) (ix1 0)).toNat = s.val) (h' : (m ((Dev.tc 0).loc main_arg0) (ix1 1)).toNat = s'.val) (c : Dev nD) :
    (dats m hO 0 c).arrAt 9 (cfgM m hO).N = Ref21.newV (m ((c : Thread nD τ).loc main_arg6)) (sum s s' (m ((c : Thread nD τ).loc main_arg1)) (m ((c : Thread nD τ).loc main_arg2)) (m ((c : Thread nD τ).loc main_arg3))) := by
  refine (dats m hO 0 c).arrAt_eq_of_covers 9 _ (Pipeline.Window.covers_of_index_surj _ rfl (fun a => size_pos a) fun β => ?_) fun t _ y => ?_
  · have b0 : (β (0 : Fin 2)).val < 1 := (show _ < ((128 : Nat) + 128 - 1) / 128 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.2.2.2) a).trans ?_⟩
    fin_cases a
    · exact ht
    · exact (Nat.lt_one_iff.mp b1).symm
  · blk_simp
    rw [after0_9]
    dsimp only [outsAt0]
    obtain ⟨x0, h0⟩ : ∃ x : Vec Ideal S1x128x1024 .bf16, x = iblk m hO c 0 t := ⟨_, rfl⟩
    obtain ⟨x1, h1⟩ : ∃ x : Vec Ideal S1x128x1024 .bf16, x = iblk m hO c 1 t := ⟨_, rfl⟩
    obtain ⟨x2, h2⟩ : ∃ x : Vec Ideal S3x128x1024 .bf16, x = iblk m hO c 2 t := ⟨_, rfl⟩
    obtain ⟨x3, h3⟩ : ∃ x : Vec Ideal S128x1024 .f32, x = iblk m hO c 3 t := ⟨_, rfl⟩
    obtain ⟨x4, h4⟩ : ∃ x : Vec Ideal S128x1024 .f32, x = iblk m hO c 4 t := ⟨_, rfl⟩
    obtain ⟨x5, h5⟩ : ∃ x : Vec Ideal S128x1024 .f32, x = iblk m hO c 5 t := ⟨_, rfl⟩
    rw [← h0, ← h1, ← h2, ← h3, ← h4, ← h5]
    frame_out
    unfold Ref21.newV sum
    pointwise [k0_pay1, k0_pay3, k0_pay5, k0_pay6]
    subst h0 h1 h2 h3 h4 h5
    blk_point [iblk, V, idx m hO s s' h h' t]

end Value

open Cert.Kernel21Ideal in
/-- The kernel's results are the reference's. -/
theorem algebraic : Cert.algebraic_Kernel21Ideal_Reference21Ideal := by
  intro m g m' g' hp hm
  have hO := okIdeal m hp
  obtain ⟨s, s', hs, hs'⟩ := slots_fin _ _ _ _ _ _ _ (hp 0)
  refine ⟨fun c => sum s s' (m ((c.tc : Thread nD τ).loc main_arg1)) (m ((c.tc : Thread nD τ).loc main_arg2)) (m ((c.tc : Thread nD τ).loc main_arg3)), fun c => Ref21.delta (m ((c.tc : Thread nD τ).loc main_arg4)) (m ((c.tc : Thread nD τ).loc main_arg5)) (m ((c.tc : Thread nD τ).loc main_arg6)) (sum s s' (m ((c.tc : Thread nD τ).loc main_arg1)) (m ((c.tc : Thread nD τ).loc main_arg2)) (m ((c.tc : Thread nD τ).loc main_arg3))), fun c => Ref21.newM (m ((c.tc : Thread nD τ).loc main_arg5)) (sum s s' (m ((c.tc : Thread nD τ).loc main_arg1)) (m ((c.tc : Thread nD τ).loc main_arg2)) (m ((c.tc : Thread nD τ).loc main_arg3))), fun c => Ref21.newV (m ((c.tc : Thread nD τ).loc main_arg6)) (sum s s' (m ((c.tc : Thread nD τ).loc main_arg1)) (m ((c.tc : Thread nD τ).loc main_arg2)) (m ((c.tc : Thread nD τ).loc main_arg3))),
    (θ_run _ _ _).mono (fun r h c => ⟨((h.1 c).1 6).trans (final_sum m hO s s' hs hs' c), ((h.1 c).1 7).trans (final_delta m hO s s' hs hs' c), ((h.1 c).1 8).trans (final_newM m hO s s' hs hs' c), ((h.1 c).1 9).trans (final_newV m hO s s' hs hs' c), h.2 c⟩)
      (θ_run_and (Gen.run_main m g hO) (Gen.unchanged m g hO)), (θ_run _ _ _).mono (fun r h c => ?_) (Cert.Proof.Ref21.run (F := Ideal) m' g')⟩
  obtain ⟨e0, e1, e2, e3, e4, e5, e6⟩ := hm c
  obtain rfl : c = 0 := Subsingleton.elim (α := Fin 1) _ _
  have t : Ref21.total (F := Ideal) (m' ((Dev.tc 0).loc Cert.Reference21Ideal.main_arg0)) (m' ((Dev.tc 0).loc Cert.Reference21Ideal.main_arg1)) (m' ((Dev.tc 0).loc Cert.Reference21Ideal.main_arg2)) (m' ((Dev.tc 0).loc Cert.Reference21Ideal.main_arg3)) = sum s s' (m ((Dev.tc 0).loc main_arg1)) (m ((Dev.tc 0).loc main_arg2)) (m ((Dev.tc 0).loc main_arg3)) :=
    (by rw [e0, e1, e2, e3]; exact reference_sum s s' _ _ _ _ hs hs')
  refine ⟨(h 0).1.trans t, (h 0).2.1.trans ?_, (h 0).2.2.1.trans ?_, (h 0).2.2.2.1.trans ?_, (h 0).2.2.2.2⟩
  · rw [t, e4, e5, e6]
  · rw [t, e5]
  · rw [t, e6]

/-- The reference's runs end with the arguments as they were. -/
theorem reference_frame : Cert.quiescent_Reference21Ideal := fun m g _ =>
  (θ_run _ _ _).mono (fun r h => ⟨fun c => (h c).2.2.2.2, sem_eq_zero_of_no_sems (by decide) r.2⟩) (Cert.Proof.Ref21.run (F := Ideal) m g)

end Cert.Proof.Call21
end
-- ==== Proof.FfnDownRef.lean ====
module

public import proofs.«01_k».proof.Proof.Gen.Reference22Ideal
public import Idealize.ShloMosaic.Lib.StableHlo.Run
public import Idealize.ShloMosaic.Lib.Pointwise

@[expose] public section

/-!
The reference's run of the FFN's second matmul's weight: its operations in order, and what they leave.
-/

noncomputable section

namespace Cert.Proof.Ref22

open Cert.Reference22Ideal Cert.Reference22Ideal.Gen Idealize.ShloMosaic Idealize.ShloMosaic.TcCoe Idealize.SL.Sem Idealize.ShloMosaic.StableHlo

variable {F : FTy → Type} [FloatOps F]

/-- A buffer of the weight's shape. -/
abbrev M (F : FTy → Type) := (⟨S352x1024, .f32⟩ : BufTy).Contents (Elt F)
/-- A buffer of one number. -/
abbrev M₀ (F : FTy → Type) := (⟨S_, .f32⟩ : BufTy).Contents (Elt F)

/-- @main's 52 operations, in order. -/
abbrev ops : List (HloOp τ sig (Elt F)) :=
  [ unary main_arg0 main_v0 ((extractStridedSlice S1 ![0] · slices_S2_S1_0) : (⟨S2, .i32⟩ : BufTy).Contents (Elt F) → (⟨S1, .i32⟩ : BufTy).Contents (Elt F)),
    reshape main_v0 main_v1 (rfl : (.i32 : EltTy) = .i32) shapeCasts_S1_S_,
    nullary main_c (constantI S_ 32 0#32),
    nullary main_c_0 (constantI S_ 32 0#32),
    unaryIndexed main_arg1 ![main_v1, main_c, main_c_0] ⟨S_, .i32⟩ main_v2 ((fun x i => Host.dynamicSlice S1x352x1024 x (fun k => (i k (Shape.Idx.first h_S_)).toInt) sliceFits_S8x352x1024_S1x352x1024) : (⟨S8x352x1024, .bf16⟩ : BufTy).Contents (Elt F) → (Fin 3 → (⟨S_, .i32⟩ : BufTy).Contents (Elt F)) → (⟨S1x352x1024, .bf16⟩ : BufTy).Contents (Elt F)),
    reshape main_v2 main_v3 (rfl : (.bf16 : EltTy) = .bf16) shapeCasts_S1x352x1024_S352x1024,
    unary main_v3 main_v4 ((extf .f32 · bitsLt_bf16_f32) : (⟨S352x1024, .bf16⟩ : BufTy).Contents (Elt F) → M F),
    unary main_arg0 main_v5 ((extractStridedSlice S1 ![1] · slices_S2_S1_1) : (⟨S2, .i32⟩ : BufTy).Contents (Elt F) → (⟨S1, .i32⟩ : BufTy).Contents (Elt F)),
    reshape main_v5 main_v6 (rfl : (.i32 : EltTy) = .i32) shapeCasts_S1_S_,
    nullary main_c_1 (constantI S_ 32 0#32),
    nullary main_c_2 (constantI S_ 32 0#32),
    unaryIndexed main_arg2 ![main_v6, main_c_1, main_c_2] ⟨S_, .i32⟩ main_v7 ((fun x i => Host.dynamicSlice S1x352x1024 x (fun k => (i k (Shape.Idx.first h_S_)).toInt) sliceFits_S4x352x1024_S1x352x1024) : (⟨S4x352x1024, .bf16⟩ : BufTy).Contents (Elt F) → (Fin 3 → (⟨S_, .i32⟩ : BufTy).Contents (Elt F)) → (⟨S1x352x1024, .bf16⟩ : BufTy).Contents (Elt F)),
    reshape main_v7 main_v8 (rfl : (.bf16 : EltTy) = .bf16) shapeCasts_S1x352x1024_S352x1024,
    unary main_v8 main_v9 ((extf .f32 · bitsLt_bf16_f32) : (⟨S352x1024, .bf16⟩ : BufTy).Contents (Elt F) → M F),
    binary main_v4 main_v9 main_v10 (addf : M F → M F → M F),
    unary main_arg3 main_v11 ((extf .f32 · bitsLt_bf16_f32) : (⟨S3x352x1024, .bf16⟩ : BufTy).Contents (Elt F) → (⟨S3x352x1024, .f32⟩ : BufTy).Contents (Elt F)),
    nullary main_cst (constant S_ .f32 0x00000000#32),
    binary main_v11 main_cst main_v12 ((fun x v => Host.reduceAdd x v reducesTo_S3x352x1024_S352x1024_d0 h_S_) : (⟨S3x352x1024, .f32⟩ : BufTy).Contents (Elt F) → M₀ F → M F),
    binary main_v10 main_v12 main_v13 (addf : M F → M F → M F),
    nullary main_cst_3 (constant S_ .f32 0x3F666666#32),
    unary main_cst_3 main_v14 (broadcastInDim S352x1024 ![] bcast_S_S352x1024 : M₀ F → M F),
    binary main_v14 main_arg5 main_v15 (mulf : M F → M F → M F),
    nullary main_cst_4 (constant S_ .f32 0x3DCCCCCD#32),
    unary main_cst_4 main_v16 (broadcastInDim S352x1024 ![] bcast_S_S352x1024 : M₀ F → M F),
    binary main_v16 main_v13 main_v17 (mulf : M F → M F → M F),
    binary main_v15 main_v17 main_v18 (addf : M F → M F → M F),
    nullary main_cst_5 (constant S_ .f32 0x3F7FBE77#32),
    unary main_cst_5 main_v19 (broadcastInDim S352x1024 ![] bcast_S_S352x1024 : M₀ F → M F),
    binary main_v19 main_arg6 main_v20 (mulf : M F → M F → M F),
    binary main_v13 main_v13 main_v21 (mulf : M F → M F → M F),
    nullary main_cst_6 (constant S_ .f32 0x3A83126F#32),
    unary main_cst_6 main_v22 (broadcastInDim S352x1024 ![] bcast_S_S352x1024 : M₀ F → M F),
    binary main_v22 main_v21 main_v23 (mulf : M F → M F → M F),
    binary main_v20 main_v23 main_v24 (addf : M F → M F → M F),
    nullary main_cst_7 (constant S_ .f32 0x3F26BD02#32),
    unary main_cst_7 main_v25 (broadcastInDim S352x1024 ![] bcast_S_S352x1024 : M₀ F → M F),
    binary main_v18 main_v25 main_v26 (Host.divf : M F → M F → M F),
    nullary main_cst_8 (constant S_ .f32 0x3C231ACC#32),
    unary main_cst_8 main_v27 (broadcastInDim S352x1024 ![] bcast_S_S352x1024 : M₀ F → M F),
    binary main_v24 main_v27 main_v28 (Host.divf : M F → M F → M F),
    unary main_v28 main_v29 (Host.sqrt : M F → M F),
    nullary main_cst_9 (constant S_ .f32 0x322BCC77#32),
    unary main_cst_9 main_v30 (broadcastInDim S352x1024 ![] bcast_S_S352x1024 : M₀ F → M F),
    binary main_v29 main_v30 main_v31 (addf : M F → M F → M F),
    binary main_v26 main_v31 main_v32 (Host.divf : M F → M F → M F),
    nullary main_cst_10 (constant S_ .f32 0x3C23D70A#32),
    unary main_cst_10 main_v33 (broadcastInDim S352x1024 ![] bcast_S_S352x1024 : M₀ F → M F),
    binary main_v33 main_arg4 main_v34 (mulf : M F → M F → M F),
    binary main_v32 main_v34 main_v35 (addf : M F → M F → M F),
    nullary main_cst_11 (constant S_ .f32 0xBA83126F#32),
    unary main_cst_11 main_v36 (broadcastInDim S352x1024 ![] bcast_S_S352x1024 : M₀ F → M F),
    binary main_v36 main_v35 main_v37 (mulf : M F → M F → M F) ]

set_option maxRecDepth 8192 in
/-- The reference is its operations in order. -/
theorem main_eq (c : Dev nD) : main (F := F) c = seq ops := rfl
/-- The reference has no scoped buffer. -/
theorem scopedRefs_eq : (Finset.univ.filter fun b : Ref sig .tc => b.isScoped) = ∅ := by decide
/-- The reference has no scoped counter. -/
theorem scopedSems_eq : (Finset.univ.filter fun sm : SemLoc sig => sm.isScoped .tc) = ∅ := by decide
set_option maxRecDepth 8192 in
/-- Every operation reads and writes buffers of the reference alone. -/
theorem ops_sub : (ops : List (HloOp τ sig (Elt F))).Forall fun op => op.bufs ⊆ tcRefs τ sig :=
  ⟨unary_bufs_sub .., reshape_bufs_sub .., nullary_bufs_sub .., nullary_bufs_sub .., unaryIndexed_bufs_sub .., reshape_bufs_sub .., unary_bufs_sub .., unary_bufs_sub .., reshape_bufs_sub .., nullary_bufs_sub .., nullary_bufs_sub .., unaryIndexed_bufs_sub .., reshape_bufs_sub .., unary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- The gradient's sum over the devices: the part of this device's slot, the part received in the other slot and the
    three parts received from the other groups. -/
def total (a0 : IVec S2 32) (a1 : FVec F S8x352x1024 .bf16) (a2 : FVec F S4x352x1024 .bf16) (a3 : FVec F S3x352x1024 .bf16) : FVec F S352x1024 .f32 :=
  addf (addf (extf .f32 (shapeCast S352x1024 (Host.dynamicSlice S1x352x1024 a1 (fun k => (![(shapeCast S_ (extractStridedSlice S1 ![0] a0 slices_S2_S1_0) shapeCasts_S1_S_ (Shape.Idx.first h_S_)).toInt, 0, 0] : Fin 3 → Int) k) sliceFits_S8x352x1024_S1x352x1024) shapeCasts_S1x352x1024_S352x1024) bitsLt_bf16_f32) (extf .f32 (shapeCast S352x1024 (Host.dynamicSlice S1x352x1024 a2 (fun k => (![(shapeCast S_ (extractStridedSlice S1 ![1] a0 slices_S2_S1_1) shapeCasts_S1_S_ (Shape.Idx.first h_S_)).toInt, 0, 0] : Fin 3 → Int) k) sliceFits_S4x352x1024_S1x352x1024) shapeCasts_S1x352x1024_S352x1024) bitsLt_bf16_f32)) (Host.reduceAdd (extf .f32 a3 bitsLt_bf16_f32) (constant S_ .f32 0x00000000#32) reducesTo_S3x352x1024_S352x1024_d0 h_S_)

/-- The new first moment. -/
def newM (a5 x : FVec F S352x1024 .f32) : FVec F S352x1024 .f32 :=
  addf (mulf (broadcastInDim S352x1024 ![] bcast_S_S352x1024 (constant S_ .f32 0x3F666666#32)) a5) (mulf (broadcastInDim S352x1024 ![] bcast_S_S352x1024 (constant S_ .f32 0x3DCCCCCD#32)) x)

/-- The new second moment. -/
def newV (a6 x : FVec F S352x1024 .f32) : FVec F S352x1024 .f32 :=
  addf (mulf (broadcastInDim S352x1024 ![] bcast_S_S352x1024 (constant S_ .f32 0x3F7FBE77#32)) a6) (mulf (broadcastInDim S352x1024 ![] bcast_S_S352x1024 (constant S_ .f32 0x3A83126F#32)) (mulf x x))

/-- The step the weight takes. -/
def delta (a4 a5 a6 x : FVec F S352x1024 .f32) : FVec F S352x1024 .f32 :=
  mulf (broadcastInDim S352x1024 ![] bcast_S_S352x1024 (constant S_ .f32 0xBA83126F#32)) (addf (Host.divf (Host.divf (newM a5 x) (broadcastInDim S352x1024 ![] bcast_S_S352x1024 (constant S_ .f32 0x3F26BD02#32))) (addf (Host.sqrt (Host.divf (newV a6 x) (broadcastInDim S352x1024 ![] bcast_S_S352x1024 (constant S_ .f32 0x3C231ACC#32)))) (broadcastInDim S352x1024 ![] bcast_S_S352x1024 (constant S_ .f32 0x322BCC77#32)))) (mulf (broadcastInDim S352x1024 ![] bcast_S_S352x1024 (constant S_ .f32 0x3C23D70A#32)) a4))

/-- Slices whose starts are the slots sum to the total. -/
theorem total_of (a0 : IVec S2 32) (a1 : FVec F S8x352x1024 .bf16) (a2 : FVec F S4x352x1024 .bf16) (a3 : FVec F S3x352x1024 .bf16) (u0 u1 : Fin 3 → Int) (h0 : ∀ k, u0 k = (![(shapeCast S_ (extractStridedSlice S1 ![0] a0 slices_S2_S1_0) shapeCasts_S1_S_ (Shape.Idx.first h_S_)).toInt, 0, 0] : Fin 3 → Int) k) (h1 : ∀ k, u1 k = (![(shapeCast S_ (extractStridedSlice S1 ![1] a0 slices_S2_S1_1) shapeCasts_S1_S_ (Shape.Idx.first h_S_)).toInt, 0, 0] : Fin 3 → Int) k) :
    addf (addf (extf .f32 (shapeCast S352x1024 (Host.dynamicSlice S1x352x1024 a1 u0 sliceFits_S8x352x1024_S1x352x1024) shapeCasts_S1x352x1024_S352x1024) bitsLt_bf16_f32) (extf .f32 (shapeCast S352x1024 (Host.dynamicSlice S1x352x1024 a2 u1 sliceFits_S4x352x1024_S1x352x1024) shapeCasts_S1x352x1024_S352x1024) bitsLt_bf16_f32)) (Host.reduceAdd (extf .f32 a3 bitsLt_bf16_f32) (constant S_ .f32 0x00000000#32) reducesTo_S3x352x1024_S352x1024_d0 h_S_) = total a0 a1 a2 a3 := by
  obtain rfl := funext h0
  obtain rfl := funext h1
  rfl

set_option maxRecDepth 8192 in
set_option maxHeartbeats 4000000 in
/-- Every run of the reference ends with the sum, the step and the new moments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = total (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v37) = delta (m ((c.tc : Thread nD τ).loc main_arg4)) (m ((c.tc : Thread nD τ).loc main_arg5)) (m ((c.tc : Thread nD τ).loc main_arg6)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v18) = newM (m ((c.tc : Thread nD τ).loc main_arg5)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v24) = newV (m ((c.tc : Thread nD τ).loc main_arg6)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run defs _ _).mono (fun _ h c => ⟨(h c main_v13).trans (by after_results_simp; refine total_of _ _ _ _ _ _ ?_ ?_ <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v37).trans (by after_results_simp; refine congrArg (delta (m ((c.tc : Thread nD τ).loc main_arg4)) (m ((c.tc : Thread nD τ).loc main_arg5)) (m ((c.tc : Thread nD τ).loc main_arg6))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v18).trans (by after_results_simp; refine congrArg (newM (m ((c.tc : Thread nD τ).loc main_arg5))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v24).trans (by after_results_simp; refine congrArg (newV (m ((c.tc : Thread nD τ).loc main_arg6))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.Proof.Ref22
end
-- ==== Proof.FfnDownAdamw.lean ====
module

public import proofs.«01_k».proof.Defs
public import proofs.«01_k».proof.Proof.Gen.Kernel22.Frame
public import proofs.«01_k».proof.Proof.Gen.Kernel22Ideal.Frame
public import proofs.«01_k».proof.Proof.FfnDownRef
public import Idealize.ShloMosaic.Lib.Pipeline.ValueKit
public import Idealize.ShloMosaic.Lib.Pipeline.Covers
public import Idealize.ShloMosaic.Lib.Pointwise
public import Idealize.ShloMosaic.Lib.DynamicIndex

@[expose] public section

/-!
The sum over the devices of the gradient of the FFN's second matmul's weight, and the weight's optimizer step.
-/

set_option maxRecDepth 16384

noncomputable section

namespace Cert.Proof.Call22

open Idealize.ShloMosaic Idealize.ShloMosaic.TcCoe Idealize.SL.Sem

/-- The side conditions of the predicate's operations. -/
instance finiteFacts : Cert.Pre_slots_w_ffn_down.Facts where
  slices_S2_S1_0 := by decide
  shapeCasts_S1_S_ := by decide
  slices_S2_S1_1 := by decide

section Slots

open Cert.Pre_slots_w_ffn_down

/-- Where the precondition holds, the first slot is one of 8 and the second one of 4. -/
theorem slots {F : FTy → Type} [FloatOps F] (a0 : IVec S2 32) (a1 : FVec F S8x352x1024 .bf16) (a2 : FVec F S4x352x1024 .bf16) (a3 : FVec F S3x352x1024 .bf16) (a4 a5 a6 : FVec F S352x1024 .f32)
    (h : Cert.Pre_slots_w_ffn_down.fn (F := F) a0 a1 a2 a3 a4 a5 a6 = fun _ => 1#1) : (a0 (ix1 0)).toNat < 8 ∧ (a0 (ix1 1)).toNat < 4 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have e := congrFun h (Shape.Idx.first (by decide))
  unfold Cert.Pre_slots_w_ffn_down.fn at e
  pointwise at e
  simp only [andi_one, IntOp.cmpi, ofBool_eq_one, BitVec.sle, BitVec.slt, decide_eq_true_eq, BitVec.toInt, BitVec.toNat_ofNat] at e
  omega

/-- The slots as indices. -/
theorem slots_fin {F : FTy → Type} [FloatOps F] (a0 : IVec S2 32) (a1 : FVec F S8x352x1024 .bf16) (a2 : FVec F S4x352x1024 .bf16) (a3 : FVec F S3x352x1024 .bf16) (a4 a5 a6 : FVec F S352x1024 .f32)
    (h : Cert.Pre_slots_w_ffn_down.fn (F := F) a0 a1 a2 a3 a4 a5 a6 = fun _ => 1#1) : ∃ (s : Fin 8) (s' : Fin 4), (a0 (ix1 0)).toNat = s.val ∧ (a0 (ix1 1)).toNat = s'.val :=
  ⟨⟨_, (slots a0 a1 a2 a3 a4 a5 a6 h).1⟩, ⟨_, (slots a0 a1 a2 a3 a4 a5 a6 h).2⟩, rfl, rfl⟩

end Slots

section Bits

open Cert.Kernel22 Cert.Kernel22.Gen

/-- The first word of the table the kernel reads is the first slot. -/
theorem word0 (m : (ℓ : Loc nD τ sig) → Buf (Elt Bits) ℓ) (h h') : (tbl m).at 0 (Rect.unit ![0] S1.size h) h' = m ((Dev.tc 0).loc main_arg0) (ix1 0) := by
  show m ((Dev.tc 0).loc main_arg0) _ = _
  exact congrArg (m ((Dev.tc 0).loc main_arg0)) (by funext a; fin_cases a; rfl)

/-- The second word of the table the kernel reads is the second slot. -/
theorem word1 (m : (ℓ : Loc nD τ sig) → Buf (Elt Bits) ℓ) (h h') : (tbl m).at 0 (Rect.unit ![1] S1.size h) h' = m ((Dev.tc 0).loc main_arg0) (ix1 1) := by
  show m ((Dev.tc 0).loc main_arg0) _ = _
  exact congrArg (m ((Dev.tc 0).loc main_arg0)) (by funext a; fin_cases a; rfl)

/-- A block of one part's rows is a whole number of words of its array. -/
theorem words0 (s : Nat) (i : grid0.Coords) (hs : s < 8) : ∃ h : (∀ a, ((![s, (BitVec.ofNat 32 (i 0).val).toNat, 0] : Fin 3 → Nat) a + 1) * S1x176x1024.size a ≤ S8x352x1024.size a), EltTy.bits .bf16 = 32 ∨ (Rect.block (s := S8x352x1024) S1x176x1024.size ![s, (BitVec.ofNat 32 (i 0).val).toNat, 0] h).WholeWords (EltTy.packing .bf16) := by
  revert i
  interval_cases s <;> decide +kernel

/-- A block of one received part's rows is a whole number of words of its array. -/
theorem words1 (s : Nat) (i : grid0.Coords) (hs : s < 4) : ∃ h : (∀ a, ((![s, (BitVec.ofNat 32 (i 0).val).toNat, 0] : Fin 3 → Nat) a + 1) * S1x176x1024.size a ≤ S4x352x1024.size a), EltTy.bits .bf16 = 32 ∨ (Rect.block (s := S4x352x1024) S1x176x1024.size ![s, (BitVec.ofNat 32 (i 0).val).toNat, 0] h).WholeWords (EltTy.packing .bf16) := by
  revert i
  interval_cases s <;> decide +kernel

/-- Where the slots are in range, every block the table names lies inside its array. -/
theorem ok (m : (ℓ : Loc nD τ sig) → Buf (Elt Bits) ℓ) (h : Cert.Pre_Kernel22 m) : Ok m := by
  obtain ⟨h0, h1⟩ := slots _ _ _ _ _ _ _ (h 0)
  exact ⟨fun i => words0 _ i ((congrArg BitVec.toNat (word0 m _ _)).trans_lt h0), fun i => words1 _ i ((congrArg BitVec.toNat (word1 m _ _)).trans_lt h1)⟩

end Bits

section Reference

open Cert.Reference22Ideal

/-- The sum over the devices: the part of slot `s`, the part received in slot `s'` and the three received from the other groups. -/
def sum (s : Fin 8) (s' : Fin 4) (a1 : FVec Ideal S8x352x1024 .bf16) (a2 : FVec Ideal S4x352x1024 .bf16) (a3 : FVec Ideal S3x352x1024 .bf16) : FVec Ideal S352x1024 .f32 :=
  fun i => a1 (ix3 s (i 0) (i 1)) + a2 (ix3 s' (i 0) (i 1)) + a3 (ix3 0 (i 0) (i 1)) + a3 (ix3 1 (i 0) (i 1)) + a3 (ix3 2 (i 0) (i 1))

/-- A word below 8 read as a signed number is itself. -/
theorem toInt_slot (w : BitVec 32) (n : Nat) (hn : n < 8) (h : w.toNat = n) : w.toInt = (n : Int) := by
  simp only [BitVec.toInt]; omega

/-- The reference's sum. -/
theorem reference_sum (s : Fin 8) (s' : Fin 4) (a0 : IVec S2 32) (a1 : FVec Ideal S8x352x1024 .bf16) (a2 : FVec Ideal S4x352x1024 .bf16) (a3 : FVec Ideal S3x352x1024 .bf16)
    (h : (a0 (ix1 0)).toNat = s.val) (h' : (a0 (ix1 1)).toNat = s'.val) : Ref22.total (F := Ideal) a0 a1 a2 a3 = sum s s' a1 a2 a3 := by
  have e : (shapeCast S_ (extractStridedSlice S1 ![0] a0 Facts₀.slices_S2_S1_0) Facts₀.shapeCasts_S1_S_ (Shape.Idx.first Facts₀.h_S_)) = a0 (ix1 0) := by pointwise
  have e' : (shapeCast S_ (extractStridedSlice S1 ![1] a0 Facts₀.slices_S2_S1_1) Facts₀.shapeCasts_S1_S_ (Shape.Idx.first Facts₀.h_S_)) = a0 (ix1 1) := by pointwise
  unfold Ref22.total
  rw [e, e', toInt_slot _ _ s.isLt h, toInt_slot _ _ (by omega) h',
    Host.dynamicSlice_eq_extractStridedSlice _ _ _ ![s.val, 0, 0] _ (by clear h; revert s; decide) (by intro a; fin_cases a <;> rfl),
    Host.dynamicSlice_eq_extractStridedSlice _ _ _ ![s'.val, 0, 0] _ (by clear h'; revert s'; decide) (by intro a; fin_cases a <;> rfl)]
  funext i
  unfold sum
  pointwise
  simp only [Fin.sum_univ_three, add_assoc]

end Reference

section Value

open Cert.Kernel22Ideal Cert.Kernel22Ideal.Gen

variable (m : (ℓ : Loc nD τ sig) → Buf (Elt Ideal) ℓ)

/-- The first word of the table the kernel reads is the first slot. -/
theorem word0Ideal (h h') : (tbl m).at 0 (Rect.unit ![0] S1.size h) h' = m ((Dev.tc 0).loc main_arg0) (ix1 0) := by
  show m ((Dev.tc 0).loc main_arg0) _ = _
  exact congrArg (m ((Dev.tc 0).loc main_arg0)) (by funext a; fin_cases a; rfl)

/-- The second word of the table the kernel reads is the second slot. -/
theorem word1Ideal (h h') : (tbl m).at 0 (Rect.unit ![1] S1.size h) h' = m ((Dev.tc 0).loc main_arg0) (ix1 1) := by
  show m ((Dev.tc 0).loc main_arg0) _ = _
  exact congrArg (m ((Dev.tc 0).loc main_arg0)) (by funext a; fin_cases a; rfl)

/-- Where the slots are in range, every block the table names lies inside its array. -/
theorem okIdeal (h : Cert.Pre_Kernel22Ideal m) : Ok m := by
  obtain ⟨h0, h1⟩ := slots _ _ _ _ _ _ _ (h 0)
  exact ⟨fun i => words0 _ i ((congrArg BitVec.toNat (word0Ideal m _ _)).trans_lt h0), fun i => words1 _ i ((congrArg BitVec.toNat (word1Ideal m _ _)).trans_lt h1)⟩

variable (hO : Ok m) (s : Fin 8) (s' : Fin 4)

/-- Where the grid's points read and write. -/
theorem idx (h : (m ((Dev.tc 0).loc main_arg0) (ix1 0)).toNat = s.val) (h' : (m ((Dev.tc 0).loc main_arg0) (ix1 1)).toNat = s'.val) (t : Fin grid0.N) :
    ((cfgM m hO).win 0).index t = ![s.val, t.val, 0] ∧ ((cfgM m hO).win 1).index t = ![s'.val, t.val, 0] ∧ ((cfgM m hO).win 2).index t = ![0, t.val, 0] ∧ ((cfgM m hO).win 3).index t = ![t.val, 0] ∧ ((cfgM m hO).win 4).index t = ![t.val, 0] ∧ ((cfgM m hO).win 5).index t = ![t.val, 0]
      ∧ ((cfgM m hO).win 6).index t = ![t.val, 0] ∧ ((cfgM m hO).win 7).index t = ![t.val, 0] ∧ ((cfgM m hO).win 8).index t = ![t.val, 0] ∧ ((cfgM m hO).win 9).index t = ![t.val, 0] := by
  have e : ∀ t : Fin grid0.N, (BitVec.ofNat 32 (grid0.coords t 0).val).toNat = t.val := by decide +kernel
  have r : ∀ t : Fin grid0.N, cc0_transform_2 (grid0.coords t) = ![0, t.val, 0] ∧ cc0_transform_3 (grid0.coords t) = ![t.val, 0] ∧ cc0_transform_4 (grid0.coords t) = ![t.val, 0] ∧ cc0_transform_5 (grid0.coords t) = ![t.val, 0]
      ∧ cc0_transform_6 (grid0.coords t) = ![t.val, 0] ∧ cc0_transform_7 (grid0.coords t) = ![t.val, 0] ∧ cc0_transform_8 (grid0.coords t) = ![t.val, 0] ∧ cc0_transform_9 (grid0.coords t) = ![t.val, 0] := by decide +kernel
  have k {x x' y y' : Nat} (hx : x = x') (hy : y = y') : (![x, y, 0] : Fin 3 → Nat) = ![x', y', 0] := by rw [hx, hy]
  refine ⟨?_, ?_, r t⟩
  · exact k ((congrArg BitVec.toNat (word0Ideal m _ _)).trans h) (e t)
  · exact k ((congrArg BitVec.toNat (word1Ideal m _ _)).trans h') (e t)

/-- Every block written is some point's. -/
theorem surj : ∀ x : Fin 2, ∃ t : Fin grid0.N, t.val = x.val := by decide +kernel

/-- A block written is not empty. -/
theorem size_pos : ∀ a : Fin 2, 0 < (![176, 1024] : Fin 2 → Nat) a := by decide

/-- The kernel's sum after the run. -/
theorem final_sum (h : (m ((Dev.tc 0).loc main_arg0) (ix1 0)).toNat = s.val) (h' : (m ((Dev.tc 0).loc main_arg0) (ix1 1)).toNat = s'.val) (c : Dev nD) :
    (dats m hO 0 c).arrAt 6 (cfgM m hO).N = sum s s' (m ((c : Thread nD τ).loc main_arg1)) (m ((c : Thread nD τ).loc main_arg2)) (m ((c : Thread nD τ).loc main_arg3)) := by
  refine (dats m hO 0 c).arrAt_eq_of_covers 6 _ (Pipeline.Window.covers_of_index_surj _ rfl (fun a => size_pos a) fun β => ?_) fun t _ y => ?_
  · have b0 : (β (0 : Fin 2)).val < 2 := (show _ < ((352 : Nat) + 176 - 1) / 176 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.1) a).trans ?_⟩
    fin_cases a
    · exact ht
    · exact (Nat.lt_one_iff.mp b1).symm
  · blk_simp
    rw [after0_6]
    dsimp only [outsAt0]
    obtain ⟨x0, h0⟩ : ∃ x : Vec Ideal S1x176x1024 .bf16, x = iblk m hO c 0 t := ⟨_, rfl⟩
    obtain ⟨x1, h1⟩ : ∃ x : Vec Ideal S1x176x1024 .bf16, x = iblk m hO c 1 t := ⟨_, rfl⟩
    obtain ⟨x2, h2⟩ : ∃ x : Vec Ideal S3x176x1024 .bf16, x = iblk m hO c 2 t := ⟨_, rfl⟩
    obtain ⟨x3, h3⟩ : ∃ x : Vec Ideal S176x1024 .f32, x = iblk m hO c 3 t := ⟨_, rfl⟩
    obtain ⟨x4, h4⟩ : ∃ x : Vec Ideal S176x1024 .f32, x = iblk m hO c 4 t := ⟨_, rfl⟩
    obtain ⟨x5, h5⟩ : ∃ x : Vec Ideal S176x1024 .f32, x = iblk m hO c 5 t := ⟨_, rfl⟩
    rw [← h0, ← h1, ← h2, ← h3, ← h4, ← h5]
    frame_out
    unfold sum
    pointwise [k0_pay3]
    subst h0 h1 h2 h3 h4 h5
    blk_point [iblk, V, idx m hO s s' h h' t]

/-- The kernel's step after the run. -/
theorem final_delta (h : (m ((Dev.tc 0).loc main_arg0) (ix1 0)).toNat = s.val) (h' : (m ((Dev.tc 0).loc main_arg0) (ix1 1)).toNat = s'.val) (c : Dev nD) :
    (dats m hO 0 c).arrAt 7 (cfgM m hO).N = Ref22.delta (m ((c : Thread nD τ).loc main_arg4)) (m ((c : Thread nD τ).loc main_arg5)) (m ((c : Thread nD τ).loc main_arg6)) (sum s s' (m ((c : Thread nD τ).loc main_arg1)) (m ((c : Thread nD τ).loc main_arg2)) (m ((c : Thread nD τ).loc main_arg3))) := by
  refine (dats m hO 0 c).arrAt_eq_of_covers 7 _ (Pipeline.Window.covers_of_index_surj _ rfl (fun a => size_pos a) fun β => ?_) fun t _ y => ?_
  · have b0 : (β (0 : Fin 2)).val < 2 := (show _ < ((352 : Nat) + 176 - 1) / 176 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.2.1) a).trans ?_⟩
    fin_cases a
    · exact ht
    · exact (Nat.lt_one_iff.mp b1).symm
  · blk_simp
    rw [after0_7]
    dsimp only [outsAt0]
    obtain ⟨x0, h0⟩ : ∃ x : Vec Ideal S1x176x1024 .bf16, x = iblk m hO c 0 t := ⟨_, rfl⟩
    obtain ⟨x1, h1⟩ : ∃ x : Vec Ideal S1x176x1024 .bf16, x = iblk m hO c 1 t := ⟨_, rfl⟩
    obtain ⟨x2, h2⟩ : ∃ x : Vec Ideal S3x176x1024 .bf16, x = iblk m hO c 2 t := ⟨_, rfl⟩
    obtain ⟨x3, h3⟩ : ∃ x : Vec Ideal S176x1024 .f32, x = iblk m hO c 3 t := ⟨_, rfl⟩
    obtain ⟨x4, h4⟩ : ∃ x : Vec Ideal S176x1024 .f32, x = iblk m hO c 4 t := ⟨_, rfl⟩
    obtain ⟨x5, h5⟩ : ∃ x : Vec Ideal S176x1024 .f32, x = iblk m hO c 5 t := ⟨_, rfl⟩
    rw [← h0, ← h1, ← h2, ← h3, ← h4, ← h5]
    frame_out
    unfold Ref22.delta Ref22.newM Ref22.newV sum
    pointwise [k0_pay1, k0_pay2, k0_pay3, k0_pay4, k0_pay5, k0_pay6]
    subst h0 h1 h2 h3 h4 h5
    blk_point [iblk, V, idx m hO s s' h h' t]

/-- The kernel's new first moment after the run. -/
theorem final_newM (h : (m ((Dev.tc 0).loc main_arg0) (ix1 0)).toNat = s.val) (h' : (m ((Dev.tc 0).loc main_arg0) (ix1 1)).toNat = s'.val) (c : Dev nD) :
    (dats m hO 0 c).arrAt 8 (cfgM m hO).N = Ref22.newM (m ((c : Thread nD τ).loc main_arg5)) (sum s s' (m ((c : Thread nD τ).loc main_arg1)) (m ((c : Thread nD τ).loc main_arg2)) (m ((c : Thread nD τ).loc main_arg3))) := by
  refine (dats m hO 0 c).arrAt_eq_of_covers 8 _ (Pipeline.Window.covers_of_index_surj _ rfl (fun a => size_pos a) fun β => ?_) fun t _ y => ?_
  · have b0 : (β (0 : Fin 2)).val < 2 := (show _ < ((352 : Nat) + 176 - 1) / 176 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.2.2.1) a).trans ?_⟩
    fin_cases a
    · exact ht
    · exact (Nat.lt_one_iff.mp b1).symm
  · blk_simp
    rw [after0_8]
    dsimp only [outsAt0]
    obtain ⟨x0, h0⟩ : ∃ x : Vec Ideal S1x176x1024 .bf16, x = iblk m hO c 0 t := ⟨_, rfl⟩
    obtain ⟨x1, h1⟩ : ∃ x : Vec Ideal S1x176x1024 .bf16, x = iblk m hO c 1 t := ⟨_, rfl⟩
    obtain ⟨x2, h2⟩ : ∃ x : Vec Ideal S3x176x1024 .bf16, x = iblk m hO c 2 t := ⟨_, rfl⟩
    obtain ⟨x3, h3⟩ : ∃ x : Vec Ideal S176x1024 .f32, x = iblk m hO c 3 t := ⟨_, rfl⟩
    obtain ⟨x4, h4⟩ : ∃ x : Vec Ideal S176x1024 .f32, x = iblk m hO c 4 t := ⟨_, rfl⟩
    obtain ⟨x5, h5⟩ : ∃ x : Vec Ideal S176x1024 .f32, x = iblk m hO c 5 t := ⟨_, rfl⟩
    rw [← h0, ← h1, ← h2, ← h3, ← h4, ← h5]
    frame_out
    unfold Ref22.newM sum
    pointwise [k0_pay3, k0_pay4]
    subst h0 h1 h2 h3 h4 h5
    blk_point [iblk, V, idx m hO s s' h h' t]

/-- The kernel's new second moment after the run. -/
theorem final_newV (h : (m ((Dev.tc 0).loc main_arg0) (ix1 0)).toNat = s.val) (h' : (m ((Dev.tc 0).loc main_arg0) (ix1 1)).toNat = s'.val) (c : Dev nD) :
    (dats m hO 0 c).arrAt 9 (cfgM m hO).N = Ref22.newV (m ((c : Thread nD τ).loc main_arg6)) (sum s s' (m ((c : Thread nD τ).loc main_arg1)) (m ((c : Thread nD τ).loc main_arg2)) (m ((c : Thread nD τ).loc main_arg3))) := by
  refine (dats m hO 0 c).arrAt_eq_of_covers 9 _ (Pipeline.Window.covers_of_index_surj _ rfl (fun a => size_pos a) fun β => ?_) fun t _ y => ?_
  · have b0 : (β (0 : Fin 2)).val < 2 := (show _ < ((352 : Nat) + 176 - 1) / 176 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.2.2.2) a).trans ?_⟩
    fin_cases a
    · exact ht
    · exact (Nat.lt_one_iff.mp b1).symm
  · blk_simp
    rw [after0_9]
    dsimp only [outsAt0]
    obtain ⟨x0, h0⟩ : ∃ x : Vec Ideal S1x176x1024 .bf16, x = iblk m hO c 0 t := ⟨_, rfl⟩
    obtain ⟨x1, h1⟩ : ∃ x : Vec Ideal S1x176x1024 .bf16, x = iblk m hO c 1 t := ⟨_, rfl⟩
    obtain ⟨x2, h2⟩ : ∃ x : Vec Ideal S3x176x1024 .bf16, x = iblk m hO c 2 t := ⟨_, rfl⟩
    obtain ⟨x3, h3⟩ : ∃ x : Vec Ideal S176x1024 .f32, x = iblk m hO c 3 t := ⟨_, rfl⟩
    obtain ⟨x4, h4⟩ : ∃ x : Vec Ideal S176x1024 .f32, x = iblk m hO c 4 t := ⟨_, rfl⟩
    obtain ⟨x5, h5⟩ : ∃ x : Vec Ideal S176x1024 .f32, x = iblk m hO c 5 t := ⟨_, rfl⟩
    rw [← h0, ← h1, ← h2, ← h3, ← h4, ← h5]
    frame_out
    unfold Ref22.newV sum
    pointwise [k0_pay1, k0_pay3, k0_pay5, k0_pay6]
    subst h0 h1 h2 h3 h4 h5
    blk_point [iblk, V, idx m hO s s' h h' t]

end Value

open Cert.Kernel22Ideal in
/-- The kernel's results are the reference's. -/
theorem algebraic : Cert.algebraic_Kernel22Ideal_Reference22Ideal := by
  intro m g m' g' hp hm
  have hO := okIdeal m hp
  obtain ⟨s, s', hs, hs'⟩ := slots_fin _ _ _ _ _ _ _ (hp 0)
  refine ⟨fun c => sum s s' (m ((c.tc : Thread nD τ).loc main_arg1)) (m ((c.tc : Thread nD τ).loc main_arg2)) (m ((c.tc : Thread nD τ).loc main_arg3)), fun c => Ref22.delta (m ((c.tc : Thread nD τ).loc main_arg4)) (m ((c.tc : Thread nD τ).loc main_arg5)) (m ((c.tc : Thread nD τ).loc main_arg6)) (sum s s' (m ((c.tc : Thread nD τ).loc main_arg1)) (m ((c.tc : Thread nD τ).loc main_arg2)) (m ((c.tc : Thread nD τ).loc main_arg3))), fun c => Ref22.newM (m ((c.tc : Thread nD τ).loc main_arg5)) (sum s s' (m ((c.tc : Thread nD τ).loc main_arg1)) (m ((c.tc : Thread nD τ).loc main_arg2)) (m ((c.tc : Thread nD τ).loc main_arg3))), fun c => Ref22.newV (m ((c.tc : Thread nD τ).loc main_arg6)) (sum s s' (m ((c.tc : Thread nD τ).loc main_arg1)) (m ((c.tc : Thread nD τ).loc main_arg2)) (m ((c.tc : Thread nD τ).loc main_arg3))),
    (θ_run _ _ _).mono (fun r h c => ⟨((h.1 c).1 6).trans (final_sum m hO s s' hs hs' c), ((h.1 c).1 7).trans (final_delta m hO s s' hs hs' c), ((h.1 c).1 8).trans (final_newM m hO s s' hs hs' c), ((h.1 c).1 9).trans (final_newV m hO s s' hs hs' c), h.2 c⟩)
      (θ_run_and (Gen.run_main m g hO) (Gen.unchanged m g hO)), (θ_run _ _ _).mono (fun r h c => ?_) (Cert.Proof.Ref22.run (F := Ideal) m' g')⟩
  obtain ⟨e0, e1, e2, e3, e4, e5, e6⟩ := hm c
  obtain rfl : c = 0 := Subsingleton.elim (α := Fin 1) _ _
  have t : Ref22.total (F := Ideal) (m' ((Dev.tc 0).loc Cert.Reference22Ideal.main_arg0)) (m' ((Dev.tc 0).loc Cert.Reference22Ideal.main_arg1)) (m' ((Dev.tc 0).loc Cert.Reference22Ideal.main_arg2)) (m' ((Dev.tc 0).loc Cert.Reference22Ideal.main_arg3)) = sum s s' (m ((Dev.tc 0).loc main_arg1)) (m ((Dev.tc 0).loc main_arg2)) (m ((Dev.tc 0).loc main_arg3)) :=
    (by rw [e0, e1, e2, e3]; exact reference_sum s s' _ _ _ _ hs hs')
  refine ⟨(h 0).1.trans t, (h 0).2.1.trans ?_, (h 0).2.2.1.trans ?_, (h 0).2.2.2.1.trans ?_, (h 0).2.2.2.2⟩
  · rw [t, e4, e5, e6]
  · rw [t, e5]
  · rw [t, e6]

/-- The reference's runs end with the arguments as they were. -/
theorem reference_frame : Cert.quiescent_Reference22Ideal := fun m g _ =>
  (θ_run _ _ _).mono (fun r h => ⟨fun c => (h c).2.2.2.2, sem_eq_zero_of_no_sems (by decide) r.2⟩) (Cert.Proof.Ref22.run (F := Ideal) m g)

end Cert.Proof.Call22
end
-- ==== Proof.FfnInRef.lean ====
module

public import proofs.«01_k».proof.Proof.Gen.Reference23Ideal
public import Idealize.ShloMosaic.Lib.StableHlo.Run
public import Idealize.ShloMosaic.Lib.Pointwise

@[expose] public section

/-!
The reference's run of the FFN's first matmul's weight: its operations in order, and what they leave.
-/

noncomputable section

namespace Cert.Proof.Ref23

open Cert.Reference23Ideal Cert.Reference23Ideal.Gen Idealize.ShloMosaic Idealize.ShloMosaic.TcCoe Idealize.SL.Sem Idealize.ShloMosaic.StableHlo

variable {F : FTy → Type} [FloatOps F]

/-- A buffer of the weight's shape. -/
abbrev M (F : FTy → Type) := (⟨S704x1024, .f32⟩ : BufTy).Contents (Elt F)
/-- A buffer of one number. -/
abbrev M₀ (F : FTy → Type) := (⟨S_, .f32⟩ : BufTy).Contents (Elt F)

/-- @main's 52 operations, in order. -/
abbrev ops : List (HloOp τ sig (Elt F)) :=
  [ unary main_arg0 main_v0 ((extractStridedSlice S1 ![0] · slices_S2_S1_0) : (⟨S2, .i32⟩ : BufTy).Contents (Elt F) → (⟨S1, .i32⟩ : BufTy).Contents (Elt F)),
    reshape main_v0 main_v1 (rfl : (.i32 : EltTy) = .i32) shapeCasts_S1_S_,
    nullary main_c (constantI S_ 32 0#32),
    nullary main_c_0 (constantI S_ 32 0#32),
    unaryIndexed main_arg1 ![main_v1, main_c, main_c_0] ⟨S_, .i32⟩ main_v2 ((fun x i => Host.dynamicSlice S1x704x1024 x (fun k => (i k (Shape.Idx.first h_S_)).toInt) sliceFits_S8x704x1024_S1x704x1024) : (⟨S8x704x1024, .bf16⟩ : BufTy).Contents (Elt F) → (Fin 3 → (⟨S_, .i32⟩ : BufTy).Contents (Elt F)) → (⟨S1x704x1024, .bf16⟩ : BufTy).Contents (Elt F)),
    reshape main_v2 main_v3 (rfl : (.bf16 : EltTy) = .bf16) shapeCasts_S1x704x1024_S704x1024,
    unary main_v3 main_v4 ((extf .f32 · bitsLt_bf16_f32) : (⟨S704x1024, .bf16⟩ : BufTy).Contents (Elt F) → M F),
    unary main_arg0 main_v5 ((extractStridedSlice S1 ![1] · slices_S2_S1_1) : (⟨S2, .i32⟩ : BufTy).Contents (Elt F) → (⟨S1, .i32⟩ : BufTy).Contents (Elt F)),
    reshape main_v5 main_v6 (rfl : (.i32 : EltTy) = .i32) shapeCasts_S1_S_,
    nullary main_c_1 (constantI S_ 32 0#32),
    nullary main_c_2 (constantI S_ 32 0#32),
    unaryIndexed main_arg2 ![main_v6, main_c_1, main_c_2] ⟨S_, .i32⟩ main_v7 ((fun x i => Host.dynamicSlice S1x704x1024 x (fun k => (i k (Shape.Idx.first h_S_)).toInt) sliceFits_S4x704x1024_S1x704x1024) : (⟨S4x704x1024, .bf16⟩ : BufTy).Contents (Elt F) → (Fin 3 → (⟨S_, .i32⟩ : BufTy).Contents (Elt F)) → (⟨S1x704x1024, .bf16⟩ : BufTy).Contents (Elt F)),
    reshape main_v7 main_v8 (rfl : (.bf16 : EltTy) = .bf16) shapeCasts_S1x704x1024_S704x1024,
    unary main_v8 main_v9 ((extf .f32 · bitsLt_bf16_f32) : (⟨S704x1024, .bf16⟩ : BufTy).Contents (Elt F) → M F),
    binary main_v4 main_v9 main_v10 (addf : M F → M F → M F),
    unary main_arg3 main_v11 ((extf .f32 · bitsLt_bf16_f32) : (⟨S3x704x1024, .bf16⟩ : BufTy).Contents (Elt F) → (⟨S3x704x1024, .f32⟩ : BufTy).Contents (Elt F)),
    nullary main_cst (constant S_ .f32 0x00000000#32),
    binary main_v11 main_cst main_v12 ((fun x v => Host.reduceAdd x v reducesTo_S3x704x1024_S704x1024_d0 h_S_) : (⟨S3x704x1024, .f32⟩ : BufTy).Contents (Elt F) → M₀ F → M F),
    binary main_v10 main_v12 main_v13 (addf : M F → M F → M F),
    nullary main_cst_3 (constant S_ .f32 0x3F666666#32),
    unary main_cst_3 main_v14 (broadcastInDim S704x1024 ![] bcast_S_S704x1024 : M₀ F → M F),
    binary main_v14 main_arg5 main_v15 (mulf : M F → M F → M F),
    nullary main_cst_4 (constant S_ .f32 0x3DCCCCCD#32),
    unary main_cst_4 main_v16 (broadcastInDim S704x1024 ![] bcast_S_S704x1024 : M₀ F → M F),
    binary main_v16 main_v13 main_v17 (mulf : M F → M F → M F),
    binary main_v15 main_v17 main_v18 (addf : M F → M F → M F),
    nullary main_cst_5 (constant S_ .f32 0x3F7FBE77#32),
    unary main_cst_5 main_v19 (broadcastInDim S704x1024 ![] bcast_S_S704x1024 : M₀ F → M F),
    binary main_v19 main_arg6 main_v20 (mulf : M F → M F → M F),
    binary main_v13 main_v13 main_v21 (mulf : M F → M F → M F),
    nullary main_cst_6 (constant S_ .f32 0x3A83126F#32),
    unary main_cst_6 main_v22 (broadcastInDim S704x1024 ![] bcast_S_S704x1024 : M₀ F → M F),
    binary main_v22 main_v21 main_v23 (mulf : M F → M F → M F),
    binary main_v20 main_v23 main_v24 (addf : M F → M F → M F),
    nullary main_cst_7 (constant S_ .f32 0x3F26BD02#32),
    unary main_cst_7 main_v25 (broadcastInDim S704x1024 ![] bcast_S_S704x1024 : M₀ F → M F),
    binary main_v18 main_v25 main_v26 (Host.divf : M F → M F → M F),
    nullary main_cst_8 (constant S_ .f32 0x3C231ACC#32),
    unary main_cst_8 main_v27 (broadcastInDim S704x1024 ![] bcast_S_S704x1024 : M₀ F → M F),
    binary main_v24 main_v27 main_v28 (Host.divf : M F → M F → M F),
    unary main_v28 main_v29 (Host.sqrt : M F → M F),
    nullary main_cst_9 (constant S_ .f32 0x322BCC77#32),
    unary main_cst_9 main_v30 (broadcastInDim S704x1024 ![] bcast_S_S704x1024 : M₀ F → M F),
    binary main_v29 main_v30 main_v31 (addf : M F → M F → M F),
    binary main_v26 main_v31 main_v32 (Host.divf : M F → M F → M F),
    nullary main_cst_10 (constant S_ .f32 0x3C23D70A#32),
    unary main_cst_10 main_v33 (broadcastInDim S704x1024 ![] bcast_S_S704x1024 : M₀ F → M F),
    binary main_v33 main_arg4 main_v34 (mulf : M F → M F → M F),
    binary main_v32 main_v34 main_v35 (addf : M F → M F → M F),
    nullary main_cst_11 (constant S_ .f32 0xBA83126F#32),
    unary main_cst_11 main_v36 (broadcastInDim S704x1024 ![] bcast_S_S704x1024 : M₀ F → M F),
    binary main_v36 main_v35 main_v37 (mulf : M F → M F → M F) ]

set_option maxRecDepth 8192 in
/-- The reference is its operations in order. -/
theorem main_eq (c : Dev nD) : main (F := F) c = seq ops := rfl
/-- The reference has no scoped buffer. -/
theorem scopedRefs_eq : (Finset.univ.filter fun b : Ref sig .tc => b.isScoped) = ∅ := by decide
/-- The reference has no scoped counter. -/
theorem scopedSems_eq : (Finset.univ.filter fun sm : SemLoc sig => sm.isScoped .tc) = ∅ := by decide
set_option maxRecDepth 8192 in
/-- Every operation reads and writes buffers of the reference alone. -/
theorem ops_sub : (ops : List (HloOp τ sig (Elt F))).Forall fun op => op.bufs ⊆ tcRefs τ sig :=
  ⟨unary_bufs_sub .., reshape_bufs_sub .., nullary_bufs_sub .., nullary_bufs_sub .., unaryIndexed_bufs_sub .., reshape_bufs_sub .., unary_bufs_sub .., unary_bufs_sub .., reshape_bufs_sub .., nullary_bufs_sub .., nullary_bufs_sub .., unaryIndexed_bufs_sub .., reshape_bufs_sub .., unary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- The gradient's sum over the devices: the part of this device's slot, the part received in the other slot and the
    three parts received from the other groups. -/
def total (a0 : IVec S2 32) (a1 : FVec F S8x704x1024 .bf16) (a2 : FVec F S4x704x1024 .bf16) (a3 : FVec F S3x704x1024 .bf16) : FVec F S704x1024 .f32 :=
  addf (addf (extf .f32 (shapeCast S704x1024 (Host.dynamicSlice S1x704x1024 a1 (fun k => (![(shapeCast S_ (extractStridedSlice S1 ![0] a0 slices_S2_S1_0) shapeCasts_S1_S_ (Shape.Idx.first h_S_)).toInt, 0, 0] : Fin 3 → Int) k) sliceFits_S8x704x1024_S1x704x1024) shapeCasts_S1x704x1024_S704x1024) bitsLt_bf16_f32) (extf .f32 (shapeCast S704x1024 (Host.dynamicSlice S1x704x1024 a2 (fun k => (![(shapeCast S_ (extractStridedSlice S1 ![1] a0 slices_S2_S1_1) shapeCasts_S1_S_ (Shape.Idx.first h_S_)).toInt, 0, 0] : Fin 3 → Int) k) sliceFits_S4x704x1024_S1x704x1024) shapeCasts_S1x704x1024_S704x1024) bitsLt_bf16_f32)) (Host.reduceAdd (extf .f32 a3 bitsLt_bf16_f32) (constant S_ .f32 0x00000000#32) reducesTo_S3x704x1024_S704x1024_d0 h_S_)

/-- The new first moment. -/
def newM (a5 x : FVec F S704x1024 .f32) : FVec F S704x1024 .f32 :=
  addf (mulf (broadcastInDim S704x1024 ![] bcast_S_S704x1024 (constant S_ .f32 0x3F666666#32)) a5) (mulf (broadcastInDim S704x1024 ![] bcast_S_S704x1024 (constant S_ .f32 0x3DCCCCCD#32)) x)

/-- The new second moment. -/
def newV (a6 x : FVec F S704x1024 .f32) : FVec F S704x1024 .f32 :=
  addf (mulf (broadcastInDim S704x1024 ![] bcast_S_S704x1024 (constant S_ .f32 0x3F7FBE77#32)) a6) (mulf (broadcastInDim S704x1024 ![] bcast_S_S704x1024 (constant S_ .f32 0x3A83126F#32)) (mulf x x))

/-- The step the weight takes. -/
def delta (a4 a5 a6 x : FVec F S704x1024 .f32) : FVec F S704x1024 .f32 :=
  mulf (broadcastInDim S704x1024 ![] bcast_S_S704x1024 (constant S_ .f32 0xBA83126F#32)) (addf (Host.divf (Host.divf (newM a5 x) (broadcastInDim S704x1024 ![] bcast_S_S704x1024 (constant S_ .f32 0x3F26BD02#32))) (addf (Host.sqrt (Host.divf (newV a6 x) (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) a4))

/-- Slices whose starts are the slots sum to the total. -/
theorem total_of (a0 : IVec S2 32) (a1 : FVec F S8x704x1024 .bf16) (a2 : FVec F S4x704x1024 .bf16) (a3 : FVec F S3x704x1024 .bf16) (u0 u1 : Fin 3 → Int) (h0 : ∀ k, u0 k = (![(shapeCast S_ (extractStridedSlice S1 ![0] a0 slices_S2_S1_0) shapeCasts_S1_S_ (Shape.Idx.first h_S_)).toInt, 0, 0] : Fin 3 → Int) k) (h1 : ∀ k, u1 k = (![(shapeCast S_ (extractStridedSlice S1 ![1] a0 slices_S2_S1_1) shapeCasts_S1_S_ (Shape.Idx.first h_S_)).toInt, 0, 0] : Fin 3 → Int) k) :
    addf (addf (extf .f32 (shapeCast S704x1024 (Host.dynamicSlice S1x704x1024 a1 u0 sliceFits_S8x704x1024_S1x704x1024) shapeCasts_S1x704x1024_S704x1024) bitsLt_bf16_f32) (extf .f32 (shapeCast S704x1024 (Host.dynamicSlice S1x704x1024 a2 u1 sliceFits_S4x704x1024_S1x704x1024) shapeCasts_S1x704x1024_S704x1024) bitsLt_bf16_f32)) (Host.reduceAdd (extf .f32 a3 bitsLt_bf16_f32) (constant S_ .f32 0x00000000#32) reducesTo_S3x704x1024_S704x1024_d0 h_S_) = total a0 a1 a2 a3 := by
  obtain rfl := funext h0
  obtain rfl := funext h1
  rfl

set_option maxRecDepth 8192 in
set_option maxHeartbeats 4000000 in
/-- Every run of the reference ends with the sum, the step and the new moments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = total (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v37) = delta (m ((c.tc : Thread nD τ).loc main_arg4)) (m ((c.tc : Thread nD τ).loc main_arg5)) (m ((c.tc : Thread nD τ).loc main_arg6)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v18) = newM (m ((c.tc : Thread nD τ).loc main_arg5)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v24) = newV (m ((c.tc : Thread nD τ).loc main_arg6)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run defs _ _).mono (fun _ h c => ⟨(h c main_v13).trans (by after_results_simp; refine total_of _ _ _ _ _ _ ?_ ?_ <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v37).trans (by after_results_simp; refine congrArg (delta (m ((c.tc : Thread nD τ).loc main_arg4)) (m ((c.tc : Thread nD τ).loc main_arg5)) (m ((c.tc : Thread nD τ).loc main_arg6))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v18).trans (by after_results_simp; refine congrArg (newM (m ((c.tc : Thread nD τ).loc main_arg5))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v24).trans (by after_results_simp; refine congrArg (newV (m ((c.tc : Thread nD τ).loc main_arg6))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.Proof.Ref23
end
-- ==== Proof.FfnInAdamw.lean ====
module

public import proofs.«01_k».proof.Defs
public import proofs.«01_k».proof.Proof.Gen.Kernel23.Frame
public import proofs.«01_k».proof.Proof.Gen.Kernel23Ideal.Frame
public import proofs.«01_k».proof.Proof.FfnInRef
public import Idealize.ShloMosaic.Lib.Pipeline.ValueKit
public import Idealize.ShloMosaic.Lib.Pipeline.Covers
public import Idealize.ShloMosaic.Lib.Pointwise
public import Idealize.ShloMosaic.Lib.DynamicIndex

@[expose] public section

/-!
The sum over the devices of the gradient of the FFN's first matmul's weight, and the weight's optimizer step.
-/

set_option maxRecDepth 16384

noncomputable section

namespace Cert.Proof.Call23

open Idealize.ShloMosaic Idealize.ShloMosaic.TcCoe Idealize.SL.Sem

/-- The side conditions of the predicate's operations. -/
instance finiteFacts : Cert.Pre_slots_w_ffn_in.Facts where
  slices_S2_S1_0 := by decide
  shapeCasts_S1_S_ := by decide
  slices_S2_S1_1 := by decide

section Slots

open Cert.Pre_slots_w_ffn_in

/-- Where the precondition holds, the first slot is one of 8 and the second one of 4. -/
theorem slots {F : FTy → Type} [FloatOps F] (a0 : IVec S2 32) (a1 : FVec F S8x704x1024 .bf16) (a2 : FVec F S4x704x1024 .bf16) (a3 : FVec F S3x704x1024 .bf16) (a4 a5 a6 : FVec F S704x1024 .f32)
    (h : Cert.Pre_slots_w_ffn_in.fn (F := F) a0 a1 a2 a3 a4 a5 a6 = fun _ => 1#1) : (a0 (ix1 0)).toNat < 8 ∧ (a0 (ix1 1)).toNat < 4 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have e := congrFun h (Shape.Idx.first (by decide))
  unfold Cert.Pre_slots_w_ffn_in.fn at e
  pointwise at e
  simp only [andi_one, IntOp.cmpi, ofBool_eq_one, BitVec.sle, BitVec.slt, decide_eq_true_eq, BitVec.toInt, BitVec.toNat_ofNat] at e
  omega

/-- The slots as indices. -/
theorem slots_fin {F : FTy → Type} [FloatOps F] (a0 : IVec S2 32) (a1 : FVec F S8x704x1024 .bf16) (a2 : FVec F S4x704x1024 .bf16) (a3 : FVec F S3x704x1024 .bf16) (a4 a5 a6 : FVec F S704x1024 .f32)
    (h : Cert.Pre_slots_w_ffn_in.fn (F := F) a0 a1 a2 a3 a4 a5 a6 = fun _ => 1#1) : ∃ (s : Fin 8) (s' : Fin 4), (a0 (ix1 0)).toNat = s.val ∧ (a0 (ix1 1)).toNat = s'.val :=
  ⟨⟨_, (slots a0 a1 a2 a3 a4 a5 a6 h).1⟩, ⟨_, (slots a0 a1 a2 a3 a4 a5 a6 h).2⟩, rfl, rfl⟩

end Slots

section Bits

open Cert.Kernel23 Cert.Kernel23.Gen

/-- The first word of the table the kernel reads is the first slot. -/
theorem word0 (m : (ℓ : Loc nD τ sig) → Buf (Elt Bits) ℓ) (h h') : (tbl m).at 0 (Rect.unit ![0] S1.size h) h' = m ((Dev.tc 0).loc main_arg0) (ix1 0) := by
  show m ((Dev.tc 0).loc main_arg0) _ = _
  exact congrArg (m ((Dev.tc 0).loc main_arg0)) (by funext a; fin_cases a; rfl)

/-- The second word of the table the kernel reads is the second slot. -/
theorem word1 (m : (ℓ : Loc nD τ sig) → Buf (Elt Bits) ℓ) (h h') : (tbl m).at 0 (Rect.unit ![1] S1.size h) h' = m ((Dev.tc 0).loc main_arg0) (ix1 1) := by
  show m ((Dev.tc 0).loc main_arg0) _ = _
  exact congrArg (m ((Dev.tc 0).loc main_arg0)) (by funext a; fin_cases a; rfl)

/-- A block of one part's rows is a whole number of words of its array. -/
theorem words0 (s : Nat) (i : grid0.Coords) (hs : s < 8) : ∃ h : (∀ a, ((![s, (BitVec.ofNat 32 (i 0).val).toNat, 0] : Fin 3 → Nat) a + 1) * S1x352x1024.size a ≤ S8x704x1024.size a), EltTy.bits .bf16 = 32 ∨ (Rect.block (s := S8x704x1024) S1x352x1024.size ![s, (BitVec.ofNat 32 (i 0).val).toNat, 0] h).WholeWords (EltTy.packing .bf16) := by
  revert i
  interval_cases s <;> decide +kernel

/-- A block of one received part's rows is a whole number of words of its array. -/
theorem words1 (s : Nat) (i : grid0.Coords) (hs : s < 4) : ∃ h : (∀ a, ((![s, (BitVec.ofNat 32 (i 0).val).toNat, 0] : Fin 3 → Nat) a + 1) * S1x352x1024.size a ≤ S4x704x1024.size a), EltTy.bits .bf16 = 32 ∨ (Rect.block (s := S4x704x1024) S1x352x1024.size ![s, (BitVec.ofNat 32 (i 0).val).toNat, 0] h).WholeWords (EltTy.packing .bf16) := by
  revert i
  interval_cases s <;> decide +kernel

/-- Where the slots are in range, every block the table names lies inside its array. -/
theorem ok (m : (ℓ : Loc nD τ sig) → Buf (Elt Bits) ℓ) (h : Cert.Pre_Kernel23 m) : Ok m := by
  obtain ⟨h0, h1⟩ := slots _ _ _ _ _ _ _ (h 0)
  exact ⟨fun i => words0 _ i ((congrArg BitVec.toNat (word0 m _ _)).trans_lt h0), fun i => words1 _ i ((congrArg BitVec.toNat (word1 m _ _)).trans_lt h1)⟩

end Bits

section Reference

open Cert.Reference23Ideal

/-- The sum over the devices: the part of slot `s`, the part received in slot `s'` and the three received from the other groups. -/
def sum (s : Fin 8) (s' : Fin 4) (a1 : FVec Ideal S8x704x1024 .bf16) (a2 : FVec Ideal S4x704x1024 .bf16) (a3 : FVec Ideal S3x704x1024 .bf16) : FVec Ideal S704x1024 .f32 :=
  fun i => a1 (ix3 s (i 0) (i 1)) + a2 (ix3 s' (i 0) (i 1)) + a3 (ix3 0 (i 0) (i 1)) + a3 (ix3 1 (i 0) (i 1)) + a3 (ix3 2 (i 0) (i 1))

/-- A word below 8 read as a signed number is itself. -/
theorem toInt_slot (w : BitVec 32) (n : Nat) (hn : n < 8) (h : w.toNat = n) : w.toInt = (n : Int) := by
  simp only [BitVec.toInt]; omega

/-- The reference's sum. -/
theorem reference_sum (s : Fin 8) (s' : Fin 4) (a0 : IVec S2 32) (a1 : FVec Ideal S8x704x1024 .bf16) (a2 : FVec Ideal S4x704x1024 .bf16) (a3 : FVec Ideal S3x704x1024 .bf16)
    (h : (a0 (ix1 0)).toNat = s.val) (h' : (a0 (ix1 1)).toNat = s'.val) : Ref23.total (F := Ideal) a0 a1 a2 a3 = sum s s' a1 a2 a3 := by
  have e : (shapeCast S_ (extractStridedSlice S1 ![0] a0 Facts₀.slices_S2_S1_0) Facts₀.shapeCasts_S1_S_ (Shape.Idx.first Facts₀.h_S_)) = a0 (ix1 0) := by pointwise
  have e' : (shapeCast S_ (extractStridedSlice S1 ![1] a0 Facts₀.slices_S2_S1_1) Facts₀.shapeCasts_S1_S_ (Shape.Idx.first Facts₀.h_S_)) = a0 (ix1 1) := by pointwise
  unfold Ref23.total
  rw [e, e', toInt_slot _ _ s.isLt h, toInt_slot _ _ (by omega) h',
    Host.dynamicSlice_eq_extractStridedSlice _ _ _ ![s.val, 0, 0] _ (by clear h; revert s; decide) (by intro a; fin_cases a <;> rfl),
    Host.dynamicSlice_eq_extractStridedSlice _ _ _ ![s'.val, 0, 0] _ (by clear h'; revert s'; decide) (by intro a; fin_cases a <;> rfl)]
  funext i
  unfold sum
  pointwise
  simp only [Fin.sum_univ_three, add_assoc]

end Reference

section Value

open Cert.Kernel23Ideal Cert.Kernel23Ideal.Gen

variable (m : (ℓ : Loc nD τ sig) → Buf (Elt Ideal) ℓ)

/-- The first word of the table the kernel reads is the first slot. -/
theorem word0Ideal (h h') : (tbl m).at 0 (Rect.unit ![0] S1.size h) h' = m ((Dev.tc 0).loc main_arg0) (ix1 0) := by
  show m ((Dev.tc 0).loc main_arg0) _ = _
  exact congrArg (m ((Dev.tc 0).loc main_arg0)) (by funext a; fin_cases a; rfl)

/-- The second word of the table the kernel reads is the second slot. -/
theorem word1Ideal (h h') : (tbl m).at 0 (Rect.unit ![1] S1.size h) h' = m ((Dev.tc 0).loc main_arg0) (ix1 1) := by
  show m ((Dev.tc 0).loc main_arg0) _ = _
  exact congrArg (m ((Dev.tc 0).loc main_arg0)) (by funext a; fin_cases a; rfl)

/-- Where the slots are in range, every block the table names lies inside its array. -/
theorem okIdeal (h : Cert.Pre_Kernel23Ideal m) : Ok m := by
  obtain ⟨h0, h1⟩ := slots _ _ _ _ _ _ _ (h 0)
  exact ⟨fun i => words0 _ i ((congrArg BitVec.toNat (word0Ideal m _ _)).trans_lt h0), fun i => words1 _ i ((congrArg BitVec.toNat (word1Ideal m _ _)).trans_lt h1)⟩

variable (hO : Ok m) (s : Fin 8) (s' : Fin 4)

/-- Where the grid's points read and write. -/
theorem idx (h : (m ((Dev.tc 0).loc main_arg0) (ix1 0)).toNat = s.val) (h' : (m ((Dev.tc 0).loc main_arg0) (ix1 1)).toNat = s'.val) (t : Fin grid0.N) :
    ((cfgM m hO).win 0).index t = ![s.val, t.val, 0] ∧ ((cfgM m hO).win 1).index t = ![s'.val, t.val, 0] ∧ ((cfgM m hO).win 2).index t = ![0, t.val, 0] ∧ ((cfgM m hO).win 3).index t = ![t.val, 0] ∧ ((cfgM m hO).win 4).index t = ![t.val, 0] ∧ ((cfgM m hO).win 5).index t = ![t.val, 0]
      ∧ ((cfgM m hO).win 6).index t = ![t.val, 0] ∧ ((cfgM m hO).win 7).index t = ![t.val, 0] ∧ ((cfgM m hO).win 8).index t = ![t.val, 0] ∧ ((cfgM m hO).win 9).index t = ![t.val, 0] := by
  have e : ∀ t : Fin grid0.N, (BitVec.ofNat 32 (grid0.coords t 0).val).toNat = t.val := by decide +kernel
  have r : ∀ t : Fin grid0.N, cc0_transform_2 (grid0.coords t) = ![0, t.val, 0] ∧ cc0_transform_3 (grid0.coords t) = ![t.val, 0] ∧ cc0_transform_4 (grid0.coords t) = ![t.val, 0] ∧ cc0_transform_5 (grid0.coords t) = ![t.val, 0]
      ∧ cc0_transform_6 (grid0.coords t) = ![t.val, 0] ∧ cc0_transform_7 (grid0.coords t) = ![t.val, 0] ∧ cc0_transform_8 (grid0.coords t) = ![t.val, 0] ∧ cc0_transform_9 (grid0.coords t) = ![t.val, 0] := by decide +kernel
  have k {x x' y y' : Nat} (hx : x = x') (hy : y = y') : (![x, y, 0] : Fin 3 → Nat) = ![x', y', 0] := by rw [hx, hy]
  refine ⟨?_, ?_, r t⟩
  · exact k ((congrArg BitVec.toNat (word0Ideal m _ _)).trans h) (e t)
  · exact k ((congrArg BitVec.toNat (word1Ideal m _ _)).trans h') (e t)

/-- Every block written is some point's. -/
theorem surj : ∀ x : Fin 2, ∃ t : Fin grid0.N, t.val = x.val := by decide +kernel

/-- A block written is not empty. -/
theorem size_pos : ∀ a : Fin 2, 0 < (![352, 1024] : Fin 2 → Nat) a := by decide

/-- The kernel's sum after the run. -/
theorem final_sum (h : (m ((Dev.tc 0).loc main_arg0) (ix1 0)).toNat = s.val) (h' : (m ((Dev.tc 0).loc main_arg0) (ix1 1)).toNat = s'.val) (c : Dev nD) :
    (dats m hO 0 c).arrAt 6 (cfgM m hO).N = sum s s' (m ((c : Thread nD τ).loc main_arg1)) (m ((c : Thread nD τ).loc main_arg2)) (m ((c : Thread nD τ).loc main_arg3)) := by
  refine (dats m hO 0 c).arrAt_eq_of_covers 6 _ (Pipeline.Window.covers_of_index_surj _ rfl (fun a => size_pos a) fun β => ?_) fun t _ y => ?_
  · have b0 : (β (0 : Fin 2)).val < 2 := (show _ < ((704 : Nat) + 352 - 1) / 352 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.1) a).trans ?_⟩
    fin_cases a
    · exact ht
    · exact (Nat.lt_one_iff.mp b1).symm
  · blk_simp
    rw [after0_6]
    dsimp only [outsAt0]
    obtain ⟨x0, h0⟩ : ∃ x : Vec Ideal S1x352x1024 .bf16, x = iblk m hO c 0 t := ⟨_, rfl⟩
    obtain ⟨x1, h1⟩ : ∃ x : Vec Ideal S1x352x1024 .bf16, x = iblk m hO c 1 t := ⟨_, rfl⟩
    obtain ⟨x2, h2⟩ : ∃ x : Vec Ideal S3x352x1024 .bf16, x = iblk m hO c 2 t := ⟨_, rfl⟩
    obtain ⟨x3, h3⟩ : ∃ x : Vec Ideal S352x1024 .f32, x = iblk m hO c 3 t := ⟨_, rfl⟩
    obtain ⟨x4, h4⟩ : ∃ x : Vec Ideal S352x1024 .f32, x = iblk m hO c 4 t := ⟨_, rfl⟩
    obtain ⟨x5, h5⟩ : ∃ x : Vec Ideal S352x1024 .f32, x = iblk m hO c 5 t := ⟨_, rfl⟩
    rw [← h0, ← h1, ← h2, ← h3, ← h4, ← h5]
    frame_out
    unfold sum
    pointwise [k0_pay3]
    subst h0 h1 h2 h3 h4 h5
    blk_point [iblk, V, idx m hO s s' h h' t]

/-- The kernel's step after the run. -/
theorem final_delta (h : (m ((Dev.tc 0).loc main_arg0) (ix1 0)).toNat = s.val) (h' : (m ((Dev.tc 0).loc main_arg0) (ix1 1)).toNat = s'.val) (c : Dev nD) :
    (dats m hO 0 c).arrAt 7 (cfgM m hO).N = Ref23.delta (m ((c : Thread nD τ).loc main_arg4)) (m ((c : Thread nD τ).loc main_arg5)) (m ((c : Thread nD τ).loc main_arg6)) (sum s s' (m ((c : Thread nD τ).loc main_arg1)) (m ((c : Thread nD τ).loc main_arg2)) (m ((c : Thread nD τ).loc main_arg3))) := by
  refine (dats m hO 0 c).arrAt_eq_of_covers 7 _ (Pipeline.Window.covers_of_index_surj _ rfl (fun a => size_pos a) fun β => ?_) fun t _ y => ?_
  · have b0 : (β (0 : Fin 2)).val < 2 := (show _ < ((704 : Nat) + 352 - 1) / 352 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.2.1) a).trans ?_⟩
    fin_cases a
    · exact ht
    · exact (Nat.lt_one_iff.mp b1).symm
  · blk_simp
    rw [after0_7]
    dsimp only [outsAt0]
    obtain ⟨x0, h0⟩ : ∃ x : Vec Ideal S1x352x1024 .bf16, x = iblk m hO c 0 t := ⟨_, rfl⟩
    obtain ⟨x1, h1⟩ : ∃ x : Vec Ideal S1x352x1024 .bf16, x = iblk m hO c 1 t := ⟨_, rfl⟩
    obtain ⟨x2, h2⟩ : ∃ x : Vec Ideal S3x352x1024 .bf16, x = iblk m hO c 2 t := ⟨_, rfl⟩
    obtain ⟨x3, h3⟩ : ∃ x : Vec Ideal S352x1024 .f32, x = iblk m hO c 3 t := ⟨_, rfl⟩
    obtain ⟨x4, h4⟩ : ∃ x : Vec Ideal S352x1024 .f32, x = iblk m hO c 4 t := ⟨_, rfl⟩
    obtain ⟨x5, h5⟩ : ∃ x : Vec Ideal S352x1024 .f32, x = iblk m hO c 5 t := ⟨_, rfl⟩
    rw [← h0, ← h1, ← h2, ← h3, ← h4, ← h5]
    frame_out
    unfold Ref23.delta Ref23.newM Ref23.newV sum
    pointwise [k0_pay1, k0_pay2, k0_pay3, k0_pay4, k0_pay5, k0_pay6]
    subst h0 h1 h2 h3 h4 h5
    blk_point [iblk, V, idx m hO s s' h h' t]

/-- The kernel's new first moment after the run. -/
theorem final_newM (h : (m ((Dev.tc 0).loc main_arg0) (ix1 0)).toNat = s.val) (h' : (m ((Dev.tc 0).loc main_arg0) (ix1 1)).toNat = s'.val) (c : Dev nD) :
    (dats m hO 0 c).arrAt 8 (cfgM m hO).N = Ref23.newM (m ((c : Thread nD τ).loc main_arg5)) (sum s s' (m ((c : Thread nD τ).loc main_arg1)) (m ((c : Thread nD τ).loc main_arg2)) (m ((c : Thread nD τ).loc main_arg3))) := by
  refine (dats m hO 0 c).arrAt_eq_of_covers 8 _ (Pipeline.Window.covers_of_index_surj _ rfl (fun a => size_pos a) fun β => ?_) fun t _ y => ?_
  · have b0 : (β (0 : Fin 2)).val < 2 := (show _ < ((704 : Nat) + 352 - 1) / 352 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.2.2.1) a).trans ?_⟩
    fin_cases a
    · exact ht
    · exact (Nat.lt_one_iff.mp b1).symm
  · blk_simp
    rw [after0_8]
    dsimp only [outsAt0]
    obtain ⟨x0, h0⟩ : ∃ x : Vec Ideal S1x352x1024 .bf16, x = iblk m hO c 0 t := ⟨_, rfl⟩
    obtain ⟨x1, h1⟩ : ∃ x : Vec Ideal S1x352x1024 .bf16, x = iblk m hO c 1 t := ⟨_, rfl⟩
    obtain ⟨x2, h2⟩ : ∃ x : Vec Ideal S3x352x1024 .bf16, x = iblk m hO c 2 t := ⟨_, rfl⟩
    obtain ⟨x3, h3⟩ : ∃ x : Vec Ideal S352x1024 .f32, x = iblk m hO c 3 t := ⟨_, rfl⟩
    obtain ⟨x4, h4⟩ : ∃ x : Vec Ideal S352x1024 .f32, x = iblk m hO c 4 t := ⟨_, rfl⟩
    obtain ⟨x5, h5⟩ : ∃ x : Vec Ideal S352x1024 .f32, x = iblk m hO c 5 t := ⟨_, rfl⟩
    rw [← h0, ← h1, ← h2, ← h3, ← h4, ← h5]
    frame_out
    unfold Ref23.newM sum
    pointwise [k0_pay3, k0_pay4]
    subst h0 h1 h2 h3 h4 h5
    blk_point [iblk, V, idx m hO s s' h h' t]

/-- The kernel's new second moment after the run. -/
theorem final_newV (h : (m ((Dev.tc 0).loc main_arg0) (ix1 0)).toNat = s.val) (h' : (m ((Dev.tc 0).loc main_arg0) (ix1 1)).toNat = s'.val) (c : Dev nD) :
    (dats m hO 0 c).arrAt 9 (cfgM m hO).N = Ref23.newV (m ((c : Thread nD τ).loc main_arg6)) (sum s s' (m ((c : Thread nD τ).loc main_arg1)) (m ((c : Thread nD τ).loc main_arg2)) (m ((c : Thread nD τ).loc main_arg3))) := by
  refine (dats m hO 0 c).arrAt_eq_of_covers 9 _ (Pipeline.Window.covers_of_index_surj _ rfl (fun a => size_pos a) fun β => ?_) fun t _ y => ?_
  · have b0 : (β (0 : Fin 2)).val < 2 := (show _ < ((704 : Nat) + 352 - 1) / 352 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.2.2.2) a).trans ?_⟩
    fin_cases a
    · exact ht
    · exact (Nat.lt_one_iff.mp b1).symm
  · blk_simp
    rw [after0_9]
    dsimp only [outsAt0]
    obtain ⟨x0, h0⟩ : ∃ x : Vec Ideal S1x352x1024 .bf16, x = iblk m hO c 0 t := ⟨_, rfl⟩
    obtain ⟨x1, h1⟩ : ∃ x : Vec Ideal S1x352x1024 .bf16, x = iblk m hO c 1 t := ⟨_, rfl⟩
    obtain ⟨x2, h2⟩ : ∃ x : Vec Ideal S3x352x1024 .bf16, x = iblk m hO c 2 t := ⟨_, rfl⟩
    obtain ⟨x3, h3⟩ : ∃ x : Vec Ideal S352x1024 .f32, x = iblk m hO c 3 t := ⟨_, rfl⟩
    obtain ⟨x4, h4⟩ : ∃ x : Vec Ideal S352x1024 .f32, x = iblk m hO c 4 t := ⟨_, rfl⟩
    obtain ⟨x5, h5⟩ : ∃ x : Vec Ideal S352x1024 .f32, x = iblk m hO c 5 t := ⟨_, rfl⟩
    rw [← h0, ← h1, ← h2, ← h3, ← h4, ← h5]
    frame_out
    unfold Ref23.newV sum
    pointwise [k0_pay1, k0_pay3, k0_pay5, k0_pay6]
    subst h0 h1 h2 h3 h4 h5
    blk_point [iblk, V, idx m hO s s' h h' t]

end Value

open Cert.Kernel23Ideal in
/-- The kernel's results are the reference's. -/
theorem algebraic : Cert.algebraic_Kernel23Ideal_Reference23Ideal := by
  intro m g m' g' hp hm
  have hO := okIdeal m hp
  obtain ⟨s, s', hs, hs'⟩ := slots_fin _ _ _ _ _ _ _ (hp 0)
  refine ⟨fun c => sum s s' (m ((c.tc : Thread nD τ).loc main_arg1)) (m ((c.tc : Thread nD τ).loc main_arg2)) (m ((c.tc : Thread nD τ).loc main_arg3)), fun c => Ref23.delta (m ((c.tc : Thread nD τ).loc main_arg4)) (m ((c.tc : Thread nD τ).loc main_arg5)) (m ((c.tc : Thread nD τ).loc main_arg6)) (sum s s' (m ((c.tc : Thread nD τ).loc main_arg1)) (m ((c.tc : Thread nD τ).loc main_arg2)) (m ((c.tc : Thread nD τ).loc main_arg3))), fun c => Ref23.newM (m ((c.tc : Thread nD τ).loc main_arg5)) (sum s s' (m ((c.tc : Thread nD τ).loc main_arg1)) (m ((c.tc : Thread nD τ).loc main_arg2)) (m ((c.tc : Thread nD τ).loc main_arg3))), fun c => Ref23.newV (m ((c.tc : Thread nD τ).loc main_arg6)) (sum s s' (m ((c.tc : Thread nD τ).loc main_arg1)) (m ((c.tc : Thread nD τ).loc main_arg2)) (m ((c.tc : Thread nD τ).loc main_arg3))),
    (θ_run _ _ _).mono (fun r h c => ⟨((h.1 c).1 6).trans (final_sum m hO s s' hs hs' c), ((h.1 c).1 7).trans (final_delta m hO s s' hs hs' c), ((h.1 c).1 8).trans (final_newM m hO s s' hs hs' c), ((h.1 c).1 9).trans (final_newV m hO s s' hs hs' c), h.2 c⟩)
      (θ_run_and (Gen.run_main m g hO) (Gen.unchanged m g hO)), (θ_run _ _ _).mono (fun r h c => ?_) (Cert.Proof.Ref23.run (F := Ideal) m' g')⟩
  obtain ⟨e0, e1, e2, e3, e4, e5, e6⟩ := hm c
  obtain rfl : c = 0 := Subsingleton.elim (α := Fin 1) _ _
  have t : Ref23.total (F := Ideal) (m' ((Dev.tc 0).loc Cert.Reference23Ideal.main_arg0)) (m' ((Dev.tc 0).loc Cert.Reference23Ideal.main_arg1)) (m' ((Dev.tc 0).loc Cert.Reference23Ideal.main_arg2)) (m' ((Dev.tc 0).loc Cert.Reference23Ideal.main_arg3)) = sum s s' (m ((Dev.tc 0).loc main_arg1)) (m ((Dev.tc 0).loc main_arg2)) (m ((Dev.tc 0).loc main_arg3)) :=
    (by rw [e0, e1, e2, e3]; exact reference_sum s s' _ _ _ _ hs hs')
  refine ⟨(h 0).1.trans t, (h 0).2.1.trans ?_, (h 0).2.2.1.trans ?_, (h 0).2.2.2.1.trans ?_, (h 0).2.2.2.2⟩
  · rw [t, e4, e5, e6]
  · rw [t, e5]
  · rw [t, e6]

/-- The reference's runs end with the arguments as they were. -/
theorem reference_frame : Cert.quiescent_Reference23Ideal := fun m g _ =>
  (θ_run _ _ _).mono (fun r h => ⟨fun c => (h c).2.2.2.2, sem_eq_zero_of_no_sems (by decide) r.2⟩) (Cert.Proof.Ref23.run (F := Ideal) m g)

end Cert.Proof.Call23
end
-- ==== Proof.ProjInRef.lean ====
module

public import proofs.«01_k».proof.Proof.Gen.Reference24Ideal
public import Idealize.ShloMosaic.Lib.StableHlo.Run
public import Idealize.ShloMosaic.Lib.Pointwise

@[expose] public section

/-!
The reference's run of the input projection's weight: its operations in order, and what they leave.
-/

noncomputable section

namespace Cert.Proof.Ref24

open Cert.Reference24Ideal Cert.Reference24Ideal.Gen Idealize.ShloMosaic Idealize.ShloMosaic.TcCoe Idealize.SL.Sem Idealize.ShloMosaic.StableHlo

variable {F : FTy → Type} [FloatOps F]

/-- A buffer of the weight's shape. -/
abbrev M (F : FTy → Type) := (⟨S480x1024, .f32⟩ : BufTy).Contents (Elt F)
/-- A buffer of one number. -/
abbrev M₀ (F : FTy → Type) := (⟨S_, .f32⟩ : BufTy).Contents (Elt F)

/-- @main's 52 operations, in order. -/
abbrev ops : List (HloOp τ sig (Elt F)) :=
  [ unary main_arg0 main_v0 ((extractStridedSlice S1 ![0] · slices_S2_S1_0) : (⟨S2, .i32⟩ : BufTy).Contents (Elt F) → (⟨S1, .i32⟩ : BufTy).Contents (Elt F)),
    reshape main_v0 main_v1 (rfl : (.i32 : EltTy) = .i32) shapeCasts_S1_S_,
    nullary main_c (constantI S_ 32 0#32),
    nullary main_c_0 (constantI S_ 32 0#32),
    unaryIndexed main_arg1 ![main_v1, main_c, main_c_0] ⟨S_, .i32⟩ main_v2 ((fun x i => Host.dynamicSlice S1x480x1024 x (fun k => (i k (Shape.Idx.first h_S_)).toInt) sliceFits_S8x480x1024_S1x480x1024) : (⟨S8x480x1024, .bf16⟩ : BufTy).Contents (Elt F) → (Fin 3 → (⟨S_, .i32⟩ : BufTy).Contents (Elt F)) → (⟨S1x480x1024, .bf16⟩ : BufTy).Contents (Elt F)),
    reshape main_v2 main_v3 (rfl : (.bf16 : EltTy) = .bf16) shapeCasts_S1x480x1024_S480x1024,
    unary main_v3 main_v4 ((extf .f32 · bitsLt_bf16_f32) : (⟨S480x1024, .bf16⟩ : BufTy).Contents (Elt F) → M F),
    unary main_arg0 main_v5 ((extractStridedSlice S1 ![1] · slices_S2_S1_1) : (⟨S2, .i32⟩ : BufTy).Contents (Elt F) → (⟨S1, .i32⟩ : BufTy).Contents (Elt F)),
    reshape main_v5 main_v6 (rfl : (.i32 : EltTy) = .i32) shapeCasts_S1_S_,
    nullary main_c_1 (constantI S_ 32 0#32),
    nullary main_c_2 (constantI S_ 32 0#32),
    unaryIndexed main_arg2 ![main_v6, main_c_1, main_c_2] ⟨S_, .i32⟩ main_v7 ((fun x i => Host.dynamicSlice S1x480x1024 x (fun k => (i k (Shape.Idx.first h_S_)).toInt) sliceFits_S4x480x1024_S1x480x1024) : (⟨S4x480x1024, .bf16⟩ : BufTy).Contents (Elt F) → (Fin 3 → (⟨S_, .i32⟩ : BufTy).Contents (Elt F)) → (⟨S1x480x1024, .bf16⟩ : BufTy).Contents (Elt F)),
    reshape main_v7 main_v8 (rfl : (.bf16 : EltTy) = .bf16) shapeCasts_S1x480x1024_S480x1024,
    unary main_v8 main_v9 ((extf .f32 · bitsLt_bf16_f32) : (⟨S480x1024, .bf16⟩ : BufTy).Contents (Elt F) → M F),
    binary main_v4 main_v9 main_v10 (addf : M F → M F → M F),
    unary main_arg3 main_v11 ((extf .f32 · bitsLt_bf16_f32) : (⟨S3x480x1024, .bf16⟩ : BufTy).Contents (Elt F) → (⟨S3x480x1024, .f32⟩ : BufTy).Contents (Elt F)),
    nullary main_cst (constant S_ .f32 0x00000000#32),
    binary main_v11 main_cst main_v12 ((fun x v => Host.reduceAdd x v reducesTo_S3x480x1024_S480x1024_d0 h_S_) : (⟨S3x480x1024, .f32⟩ : BufTy).Contents (Elt F) → M₀ F → M F),
    binary main_v10 main_v12 main_v13 (addf : M F → M F → M F),
    nullary main_cst_3 (constant S_ .f32 0x3F666666#32),
    unary main_cst_3 main_v14 (broadcastInDim S480x1024 ![] bcast_S_S480x1024 : M₀ F → M F),
    binary main_v14 main_arg5 main_v15 (mulf : M F → M F → M F),
    nullary main_cst_4 (constant S_ .f32 0x3DCCCCCD#32),
    unary main_cst_4 main_v16 (broadcastInDim S480x1024 ![] bcast_S_S480x1024 : M₀ F → M F),
    binary main_v16 main_v13 main_v17 (mulf : M F → M F → M F),
    binary main_v15 main_v17 main_v18 (addf : M F → M F → M F),
    nullary main_cst_5 (constant S_ .f32 0x3F7FBE77#32),
    unary main_cst_5 main_v19 (broadcastInDim S480x1024 ![] bcast_S_S480x1024 : M₀ F → M F),
    binary main_v19 main_arg6 main_v20 (mulf : M F → M F → M F),
    binary main_v13 main_v13 main_v21 (mulf : M F → M F → M F),
    nullary main_cst_6 (constant S_ .f32 0x3A83126F#32),
    unary main_cst_6 main_v22 (broadcastInDim S480x1024 ![] bcast_S_S480x1024 : M₀ F → M F),
    binary main_v22 main_v21 main_v23 (mulf : M F → M F → M F),
    binary main_v20 main_v23 main_v24 (addf : M F → M F → M F),
    nullary main_cst_7 (constant S_ .f32 0x3F26BD02#32),
    unary main_cst_7 main_v25 (broadcastInDim S480x1024 ![] bcast_S_S480x1024 : M₀ F → M F),
    binary main_v18 main_v25 main_v26 (Host.divf : M F → M F → M F),
    nullary main_cst_8 (constant S_ .f32 0x3C231ACC#32),
    unary main_cst_8 main_v27 (broadcastInDim S480x1024 ![] bcast_S_S480x1024 : M₀ F → M F),
    binary main_v24 main_v27 main_v28 (Host.divf : M F → M F → M F),
    unary main_v28 main_v29 (Host.sqrt : M F → M F),
    nullary main_cst_9 (constant S_ .f32 0x322BCC77#32),
    unary main_cst_9 main_v30 (broadcastInDim S480x1024 ![] bcast_S_S480x1024 : M₀ F → M F),
    binary main_v29 main_v30 main_v31 (addf : M F → M F → M F),
    binary main_v26 main_v31 main_v32 (Host.divf : M F → M F → M F),
    nullary main_cst_10 (constant S_ .f32 0x3C23D70A#32),
    unary main_cst_10 main_v33 (broadcastInDim S480x1024 ![] bcast_S_S480x1024 : M₀ F → M F),
    binary main_v33 main_arg4 main_v34 (mulf : M F → M F → M F),
    binary main_v32 main_v34 main_v35 (addf : M F → M F → M F),
    nullary main_cst_11 (constant S_ .f32 0xBA83126F#32),
    unary main_cst_11 main_v36 (broadcastInDim S480x1024 ![] bcast_S_S480x1024 : M₀ F → M F),
    binary main_v36 main_v35 main_v37 (mulf : M F → M F → M F) ]

set_option maxRecDepth 8192 in
/-- The reference is its operations in order. -/
theorem main_eq (c : Dev nD) : main (F := F) c = seq ops := rfl
/-- The reference has no scoped buffer. -/
theorem scopedRefs_eq : (Finset.univ.filter fun b : Ref sig .tc => b.isScoped) = ∅ := by decide
/-- The reference has no scoped counter. -/
theorem scopedSems_eq : (Finset.univ.filter fun sm : SemLoc sig => sm.isScoped .tc) = ∅ := by decide
set_option maxRecDepth 8192 in
/-- Every operation reads and writes buffers of the reference alone. -/
theorem ops_sub : (ops : List (HloOp τ sig (Elt F))).Forall fun op => op.bufs ⊆ tcRefs τ sig :=
  ⟨unary_bufs_sub .., reshape_bufs_sub .., nullary_bufs_sub .., nullary_bufs_sub .., unaryIndexed_bufs_sub .., reshape_bufs_sub .., unary_bufs_sub .., unary_bufs_sub .., reshape_bufs_sub .., nullary_bufs_sub .., nullary_bufs_sub .., unaryIndexed_bufs_sub .., reshape_bufs_sub .., unary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- The gradient's sum over the devices: the part of this device's slot, the part received in the other slot and the
    three parts received from the other groups. -/
def total (a0 : IVec S2 32) (a1 : FVec F S8x480x1024 .bf16) (a2 : FVec F S4x480x1024 .bf16) (a3 : FVec F S3x480x1024 .bf16) : FVec F S480x1024 .f32 :=
  addf (addf (extf .f32 (shapeCast S480x1024 (Host.dynamicSlice S1x480x1024 a1 (fun k => (![(shapeCast S_ (extractStridedSlice S1 ![0] a0 slices_S2_S1_0) shapeCasts_S1_S_ (Shape.Idx.first h_S_)).toInt, 0, 0] : Fin 3 → Int) k) sliceFits_S8x480x1024_S1x480x1024) shapeCasts_S1x480x1024_S480x1024) bitsLt_bf16_f32) (extf .f32 (shapeCast S480x1024 (Host.dynamicSlice S1x480x1024 a2 (fun k => (![(shapeCast S_ (extractStridedSlice S1 ![1] a0 slices_S2_S1_1) shapeCasts_S1_S_ (Shape.Idx.first h_S_)).toInt, 0, 0] : Fin 3 → Int) k) sliceFits_S4x480x1024_S1x480x1024) shapeCasts_S1x480x1024_S480x1024) bitsLt_bf16_f32)) (Host.reduceAdd (extf .f32 a3 bitsLt_bf16_f32) (constant S_ .f32 0x00000000#32) reducesTo_S3x480x1024_S480x1024_d0 h_S_)

/-- The new first moment. -/
def newM (a5 x : FVec F S480x1024 .f32) : FVec F S480x1024 .f32 :=
  addf (mulf (broadcastInDim S480x1024 ![] bcast_S_S480x1024 (constant S_ .f32 0x3F666666#32)) a5) (mulf (broadcastInDim S480x1024 ![] bcast_S_S480x1024 (constant S_ .f32 0x3DCCCCCD#32)) x)

/-- The new second moment. -/
def newV (a6 x : FVec F S480x1024 .f32) : FVec F S480x1024 .f32 :=
  addf (mulf (broadcastInDim S480x1024 ![] bcast_S_S480x1024 (constant S_ .f32 0x3F7FBE77#32)) a6) (mulf (broadcastInDim S480x1024 ![] bcast_S_S480x1024 (constant S_ .f32 0x3A83126F#32)) (mulf x x))

/-- The step the weight takes. -/
def delta (a4 a5 a6 x : FVec F S480x1024 .f32) : FVec F S480x1024 .f32 :=
  mulf (broadcastInDim S480x1024 ![] bcast_S_S480x1024 (constant S_ .f32 0xBA83126F#32)) (addf (Host.divf (Host.divf (newM a5 x) (broadcastInDim S480x1024 ![] bcast_S_S480x1024 (constant S_ .f32 0x3F26BD02#32))) (addf (Host.sqrt (Host.divf (newV a6 x) (broadcastInDim S480x1024 ![] bcast_S_S480x1024 (constant S_ .f32 0x3C231ACC#32)))) (broadcastInDim S480x1024 ![] bcast_S_S480x1024 (constant S_ .f32 0x322BCC77#32)))) (mulf (broadcastInDim S480x1024 ![] bcast_S_S480x1024 (constant S_ .f32 0x3C23D70A#32)) a4))

/-- Slices whose starts are the slots sum to the total. -/
theorem total_of (a0 : IVec S2 32) (a1 : FVec F S8x480x1024 .bf16) (a2 : FVec F S4x480x1024 .bf16) (a3 : FVec F S3x480x1024 .bf16) (u0 u1 : Fin 3 → Int) (h0 : ∀ k, u0 k = (![(shapeCast S_ (extractStridedSlice S1 ![0] a0 slices_S2_S1_0) shapeCasts_S1_S_ (Shape.Idx.first h_S_)).toInt, 0, 0] : Fin 3 → Int) k) (h1 : ∀ k, u1 k = (![(shapeCast S_ (extractStridedSlice S1 ![1] a0 slices_S2_S1_1) shapeCasts_S1_S_ (Shape.Idx.first h_S_)).toInt, 0, 0] : Fin 3 → Int) k) :
    addf (addf (extf .f32 (shapeCast S480x1024 (Host.dynamicSlice S1x480x1024 a1 u0 sliceFits_S8x480x1024_S1x480x1024) shapeCasts_S1x480x1024_S480x1024) bitsLt_bf16_f32) (extf .f32 (shapeCast S480x1024 (Host.dynamicSlice S1x480x1024 a2 u1 sliceFits_S4x480x1024_S1x480x1024) shapeCasts_S1x480x1024_S480x1024) bitsLt_bf16_f32)) (Host.reduceAdd (extf .f32 a3 bitsLt_bf16_f32) (constant S_ .f32 0x00000000#32) reducesTo_S3x480x1024_S480x1024_d0 h_S_) = total a0 a1 a2 a3 := by
  obtain rfl := funext h0
  obtain rfl := funext h1
  rfl

set_option maxRecDepth 8192 in
set_option maxHeartbeats 4000000 in
/-- Every run of the reference ends with the sum, the step and the new moments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = total (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v37) = delta (m ((c.tc : Thread nD τ).loc main_arg4)) (m ((c.tc : Thread nD τ).loc main_arg5)) (m ((c.tc : Thread nD τ).loc main_arg6)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v18) = newM (m ((c.tc : Thread nD τ).loc main_arg5)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v24) = newV (m ((c.tc : Thread nD τ).loc main_arg6)) (total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run defs _ _).mono (fun _ h c => ⟨(h c main_v13).trans (by after_results_simp; refine total_of _ _ _ _ _ _ ?_ ?_ <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v37).trans (by after_results_simp; refine congrArg (delta (m ((c.tc : Thread nD τ).loc main_arg4)) (m ((c.tc : Thread nD τ).loc main_arg5)) (m ((c.tc : Thread nD τ).loc main_arg6))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v18).trans (by after_results_simp; refine congrArg (newM (m ((c.tc : Thread nD τ).loc main_arg5))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_v24).trans (by after_results_simp; refine congrArg (newV (m ((c.tc : Thread nD τ).loc main_arg6))) (total_of _ _ _ _ _ _ ?_ ?_) <;> (intro k; fin_cases k <;> (try simp only [Matrix.cons_val_zero', Matrix.cons_val_succ', Fin.zero_eta, Fin.mk_one, Matrix.cons_val_zero, Matrix.cons_val_one, Matrix.head_cons]) <;> (try after_results_simp) <;> rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.Proof.Ref24
end
-- ==== Proof.ProjInAdamw.lean ====
module

public import proofs.«01_k».proof.Defs
public import proofs.«01_k».proof.Proof.Gen.Kernel24.Frame
public import proofs.«01_k».proof.Proof.Gen.Kernel24Ideal.Frame
public import proofs.«01_k».proof.Proof.ProjInRef
public import Idealize.ShloMosaic.Lib.Pipeline.ValueKit
public import Idealize.ShloMosaic.Lib.Pipeline.Covers
public import Idealize.ShloMosaic.Lib.Pointwise
public import Idealize.ShloMosaic.Lib.DynamicIndex

@[expose] public section

/-!
The sum over the devices of the gradient of the input projection's weight, and the weight's optimizer step.
-/

set_option maxRecDepth 16384

noncomputable section

namespace Cert.Proof.Call24

open Idealize.ShloMosaic Idealize.ShloMosaic.TcCoe Idealize.SL.Sem

/-- The side conditions of the predicate's operations. -/
instance finiteFacts : Cert.Pre_slots_w_in.Facts where
  slices_S2_S1_0 := by decide
  shapeCasts_S1_S_ := by decide
  slices_S2_S1_1 := by decide

section Slots

open Cert.Pre_slots_w_in

/-- Where the precondition holds, the first slot is one of 8 and the second one of 4. -/
theorem slots {F : FTy → Type} [FloatOps F] (a0 : IVec S2 32) (a1 : FVec F S8x480x1024 .bf16) (a2 : FVec F S4x480x1024 .bf16) (a3 : FVec F S3x480x1024 .bf16) (a4 a5 a6 : FVec F S480x1024 .f32)
    (h : Cert.Pre_slots_w_in.fn (F := F) a0 a1 a2 a3 a4 a5 a6 = fun _ => 1#1) : (a0 (ix1 0)).toNat < 8 ∧ (a0 (ix1 1)).toNat < 4 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have e := congrFun h (Shape.Idx.first (by decide))
  unfold Cert.Pre_slots_w_in.fn at e
  pointwise at e
  simp only [andi_one, IntOp.cmpi, ofBool_eq_one, BitVec.sle, BitVec.slt, decide_eq_true_eq, BitVec.toInt, BitVec.toNat_ofNat] at e
  omega

/-- The slots as indices. -/
theorem slots_fin {F : FTy → Type} [FloatOps F] (a0 : IVec S2 32) (a1 : FVec F S8x480x1024 .bf16) (a2 : FVec F S4x480x1024 .bf16) (a3 : FVec F S3x480x1024 .bf16) (a4 a5 a6 : FVec F S480x1024 .f32)
    (h : Cert.Pre_slots_w_in.fn (F := F) a0 a1 a2 a3 a4 a5 a6 = fun _ => 1#1) : ∃ (s : Fin 8) (s' : Fin 4), (a0 (ix1 0)).toNat = s.val ∧ (a0 (ix1 1)).toNat = s'.val :=
  ⟨⟨_, (slots a0 a1 a2 a3 a4 a5 a6 h).1⟩, ⟨_, (slots a0 a1 a2 a3 a4 a5 a6 h).2⟩, rfl, rfl⟩

end Slots

section Bits

open Cert.Kernel24 Cert.Kernel24.Gen

/-- The first word of the table the kernel reads is the first slot. -/
theorem word0 (m : (ℓ : Loc nD τ sig) → Buf (Elt Bits) ℓ) (h h') : (tbl m).at 0 (Rect.unit ![0] S1.size h) h' = m ((Dev.tc 0).loc main_arg0) (ix1 0) := by
  show m ((Dev.tc 0).loc main_arg0) _ = _
  exact congrArg (m ((Dev.tc 0).loc main_arg0)) (by funext a; fin_cases a; rfl)

/-- The second word of the table the kernel reads is the second slot. -/
theorem word1 (m : (ℓ : Loc nD τ sig) → Buf (Elt Bits) ℓ) (h h') : (tbl m).at 0 (Rect.unit ![1] S1.size h) h' = m ((Dev.tc 0).loc main_arg0) (ix1 1) := by
  show m ((Dev.tc 0).loc main_arg0) _ = _
  exact congrArg (m ((Dev.tc 0).loc main_arg0)) (by funext a; fin_cases a; rfl)

/-- A block of one part's rows is a whole number of words of its array. -/
theorem words0 (s : Nat) (i : grid0.Coords) (hs : s < 8) : ∃ h : (∀ a, ((![s, (BitVec.ofNat 32 (i 0).val).toNat, 0] : Fin 3 → Nat) a + 1) * S1x240x1024.size a ≤ S8x480x1024.size a), EltTy.bits .bf16 = 32 ∨ (Rect.block (s := S8x480x1024) S1x240x1024.size ![s, (BitVec.ofNat 32 (i 0).val).toNat, 0] h).WholeWords (EltTy.packing .bf16) := by
  revert i
  interval_cases s <;> decide +kernel

/-- A block of one received part's rows is a whole number of words of its array. -/
theorem words1 (s : Nat) (i : grid0.Coords) (hs : s < 4) : ∃ h : (∀ a, ((![s, (BitVec.ofNat 32 (i 0).val).toNat, 0] : Fin 3 → Nat) a + 1) * S1x240x1024.size a ≤ S4x480x1024.size a), EltTy.bits .bf16 = 32 ∨ (Rect.block (s := S4x480x1024) S1x240x1024.size ![s, (BitVec.ofNat 32 (i 0).val).toNat, 0] h).WholeWords (EltTy.packing .bf16) := by
  revert i
  interval_cases s <;> decide +kernel

/-- Where the slots are in range, every block the table names lies inside its array. -/
theorem ok (m : (ℓ : Loc nD τ sig) → Buf (Elt Bits) ℓ) (h : Cert.Pre_Kernel24 m) : Ok m := by
  obtain ⟨h0, h1⟩ := slots _ _ _ _ _ _ _ (h 0)
  exact ⟨fun i => words0 _ i ((congrArg BitVec.toNat (word0 m _ _)).trans_lt h0), fun i => words1 _ i ((congrArg BitVec.toNat (word1 m _ _)).trans_lt h1)⟩

end Bits

section Reference

open Cert.Reference24Ideal

/-- The sum over the devices: the part of slot `s`, the part received in slot `s'` and the three received from the other groups. -/
def sum (s : Fin 8) (s' : Fin 4) (a1 : FVec Ideal S8x480x1024 .bf16) (a2 : FVec Ideal S4x480x1024 .bf16) (a3 : FVec Ideal S3x480x1024 .bf16) : FVec Ideal S480x1024 .f32 :=
  fun i => a1 (ix3 s (i 0) (i 1)) + a2 (ix3 s' (i 0) (i 1)) + a3 (ix3 0 (i 0) (i 1)) + a3 (ix3 1 (i 0) (i 1)) + a3 (ix3 2 (i 0) (i 1))

/-- A word below 8 read as a signed number is itself. -/
theorem toInt_slot (w : BitVec 32) (n : Nat) (hn : n < 8) (h : w.toNat = n) : w.toInt = (n : Int) := by
  simp only [BitVec.toInt]; omega

/-- The reference's sum. -/
theorem reference_sum (s : Fin 8) (s' : Fin 4) (a0 : IVec S2 32) (a1 : FVec Ideal S8x480x1024 .bf16) (a2 : FVec Ideal S4x480x1024 .bf16) (a3 : FVec Ideal S3x480x1024 .bf16)
    (h : (a0 (ix1 0)).toNat = s.val) (h' : (a0 (ix1 1)).toNat = s'.val) : Ref24.total (F := Ideal) a0 a1 a2 a3 = sum s s' a1 a2 a3 := by
  have e : (shapeCast S_ (extractStridedSlice S1 ![0] a0 Facts₀.slices_S2_S1_0) Facts₀.shapeCasts_S1_S_ (Shape.Idx.first Facts₀.h_S_)) = a0 (ix1 0) := by pointwise
  have e' : (shapeCast S_ (extractStridedSlice S1 ![1] a0 Facts₀.slices_S2_S1_1) Facts₀.shapeCasts_S1_S_ (Shape.Idx.first Facts₀.h_S_)) = a0 (ix1 1) := by pointwise
  unfold Ref24.total
  rw [e, e', toInt_slot _ _ s.isLt h, toInt_slot _ _ (by omega) h',
    Host.dynamicSlice_eq_extractStridedSlice _ _ _ ![s.val, 0, 0] _ (by clear h; revert s; decide) (by intro a; fin_cases a <;> rfl),
    Host.dynamicSlice_eq_extractStridedSlice _ _ _ ![s'.val, 0, 0] _ (by clear h'; revert s'; decide) (by intro a; fin_cases a <;> rfl)]
  funext i
  unfold sum
  pointwise
  simp only [Fin.sum_univ_three, add_assoc]

end Reference

section Value

open Cert.Kernel24Ideal Cert.Kernel24Ideal.Gen

variable (m : (ℓ : Loc nD τ sig) → Buf (Elt Ideal) ℓ)

/-- The first word of the table the kernel reads is the first slot. -/
theorem word0Ideal (h h') : (tbl m).at 0 (Rect.unit ![0] S1.size h) h' = m ((Dev.tc 0).loc main_arg0) (ix1 0) := by
  show m ((Dev.tc 0).loc main_arg0) _ = _
  exact congrArg (m ((Dev.tc 0).loc main_arg0)) (by funext a; fin_cases a; rfl)

/-- The second word of the table the kernel reads is the second slot. -/
theorem word1Ideal (h h') : (tbl m).at 0 (Rect.unit ![1] S1.size h) h' = m ((Dev.tc 0).loc main_arg0) (ix1 1) := by
  show m ((Dev.tc 0).loc main_arg0) _ = _
  exact congrArg (m ((Dev.tc 0).loc main_arg0)) (by funext a; fin_cases a; rfl)

/-- Where the slots are in range, every block the table names lies inside its array. -/
theorem okIdeal (h : Cert.Pre_Kernel24Ideal m) : Ok m := by
  obtain ⟨h0, h1⟩ := slots _ _ _ _ _ _ _ (h 0)
  exact ⟨fun i => words0 _ i ((congrArg BitVec.toNat (word0Ideal m _ _)).trans_lt h0), fun i => words1 _ i ((congrArg BitVec.toNat (word1Ideal m _ _)).trans_lt h1)⟩

variable (hO : Ok m) (s : Fin 8) (s' : Fin 4)

/-- Where the grid's points read and write. -/
theorem idx (h : (m ((Dev.tc 0).loc main_arg0) (ix1 0)).toNat = s.val) (h' : (m ((Dev.tc 0).loc main_arg0) (ix1 1)).toNat = s'.val) (t : Fin grid0.N) :
    ((cfgM m hO).win 0).index t = ![s.val, t.val, 0] ∧ ((cfgM m hO).win 1).index t = ![s'.val, t.val, 0] ∧ ((cfgM m hO).win 2).index t = ![0, t.val, 0] ∧ ((cfgM m hO).win 3).index t = ![t.val, 0] ∧ ((cfgM m hO).win 4).index t = ![t.val, 0] ∧ ((cfgM m hO).win 5).index t = ![t.val, 0]
      ∧ ((cfgM m hO).win 6).index t = ![t.val, 0] ∧ ((cfgM m hO).win 7).index t = ![t.val, 0] ∧ ((cfgM m hO).win 8).index t = ![t.val, 0] ∧ ((cfgM m hO).win 9).index t = ![t.val, 0] := by
  have e : ∀ t : Fin grid0.N, (BitVec.ofNat 32 (grid0.coords t 0).val).toNat = t.val := by decide +kernel
  have r : ∀ t : Fin grid0.N, cc0_transform_2 (grid0.coords t) = ![0, t.val, 0] ∧ cc0_transform_3 (grid0.coords t) = ![t.val, 0] ∧ cc0_transform_4 (grid0.coords t) = ![t.val, 0] ∧ cc0_transform_5 (grid0.coords t) = ![t.val, 0]
      ∧ cc0_transform_6 (grid0.coords t) = ![t.val, 0] ∧ cc0_transform_7 (grid0.coords t) = ![t.val, 0] ∧ cc0_transform_8 (grid0.coords t) = ![t.val, 0] ∧ cc0_transform_9 (grid0.coords t) = ![t.val, 0] := by decide +kernel
  have k {x x' y y' : Nat} (hx : x = x') (hy : y = y') : (![x, y, 0] : Fin 3 → Nat) = ![x', y', 0] := by rw [hx, hy]
  refine ⟨?_, ?_, r t⟩
  · exact k ((congrArg BitVec.toNat (word0Ideal m _ _)).trans h) (e t)
  · exact k ((congrArg BitVec.toNat (word1Ideal m _ _)).trans h') (e t)

/-- Every block written is some point's. -/
theorem surj : ∀ x : Fin 2, ∃ t : Fin grid0.N, t.val = x.val := by decide +kernel

/-- A block written is not empty. -/
theorem size_pos : ∀ a : Fin 2, 0 < (![240, 1024] : Fin 2 → Nat) a := by decide

/-- The kernel's sum after the run. -/
theorem final_sum (h : (m ((Dev.tc 0).loc main_arg0) (ix1 0)).toNat = s.val) (h' : (m ((Dev.tc 0).loc main_arg0) (ix1 1)).toNat = s'.val) (c : Dev nD) :
    (dats m hO 0 c).arrAt 6 (cfgM m hO).N = sum s s' (m ((c : Thread nD τ).loc main_arg1)) (m ((c : Thread nD τ).loc main_arg2)) (m ((c : Thread nD τ).loc main_arg3)) := by
  refine (dats m hO 0 c).arrAt_eq_of_covers 6 _ (Pipeline.Window.covers_of_index_surj _ rfl (fun a => size_pos a) fun β => ?_) fun t _ y => ?_
  · have b0 : (β (0 : Fin 2)).val < 2 := (show _ < ((480 : Nat) + 240 - 1) / 240 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.1) a).trans ?_⟩
    fin_cases a
    · exact ht
    · exact (Nat.lt_one_iff.mp b1).symm
  · blk_simp
    rw [after0_6]
    dsimp only [outsAt0]
    obtain ⟨x0, h0⟩ : ∃ x : Vec Ideal S1x240x1024 .bf16, x = iblk m hO c 0 t := ⟨_, rfl⟩
    obtain ⟨x1, h1⟩ : ∃ x : Vec Ideal S1x240x1024 .bf16, x = iblk m hO c 1 t := ⟨_, rfl⟩
    obtain ⟨x2, h2⟩ : ∃ x : Vec Ideal S3x240x1024 .bf16, x = iblk m hO c 2 t := ⟨_, rfl⟩
    obtain ⟨x3, h3⟩ : ∃ x : Vec Ideal S240x1024 .f32, x = iblk m hO c 3 t := ⟨_, rfl⟩
    obtain ⟨x4, h4⟩ : ∃ x : Vec Ideal S240x1024 .f32, x = iblk m hO c 4 t := ⟨_, rfl⟩
    obtain ⟨x5, h5⟩ : ∃ x : Vec Ideal S240x1024 .f32, x = iblk m hO c 5 t := ⟨_, rfl⟩
    rw [← h0, ← h1, ← h2, ← h3, ← h4, ← h5]
    frame_out
    unfold sum
    pointwise [k0_pay3]
    subst h0 h1 h2 h3 h4 h5
    blk_point [iblk, V, idx m hO s s' h h' t]

/-- The kernel's step after the run. -/
theorem final_delta (h : (m ((Dev.tc 0).loc main_arg0) (ix1 0)).toNat = s.val) (h' : (m ((Dev.tc 0).loc main_arg0) (ix1 1)).toNat = s'.val) (c : Dev nD) :
    (dats m hO 0 c).arrAt 7 (cfgM m hO).N = Ref24.delta (m ((c : Thread nD τ).loc main_arg4)) (m ((c : Thread nD τ).loc main_arg5)) (m ((c : Thread nD τ).loc main_arg6)) (sum s s' (m ((c : Thread nD τ).loc main_arg1)) (m ((c : Thread nD τ).loc main_arg2)) (m ((c : Thread nD τ).loc main_arg3))) := by
  refine (dats m hO 0 c).arrAt_eq_of_covers 7 _ (Pipeline.Window.covers_of_index_surj _ rfl (fun a => size_pos a) fun β => ?_) fun t _ y => ?_
  · have b0 : (β (0 : Fin 2)).val < 2 := (show _ < ((480 : Nat) + 240 - 1) / 240 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.2.1) a).trans ?_⟩
    fin_cases a
    · exact ht
    · exact (Nat.lt_one_iff.mp b1).symm
  · blk_simp
    rw [after0_7]
    dsimp only [outsAt0]
    obtain ⟨x0, h0⟩ : ∃ x : Vec Ideal S1x240x1024 .bf16, x = iblk m hO c 0 t := ⟨_, rfl⟩
    obtain ⟨x1, h1⟩ : ∃ x : Vec Ideal S1x240x1024 .bf16, x = iblk m hO c 1 t := ⟨_, rfl⟩
    obtain ⟨x2, h2⟩ : ∃ x : Vec Ideal S3x240x1024 .bf16, x = iblk m hO c 2 t := ⟨_, rfl⟩
    obtain ⟨x3, h3⟩ : ∃ x : Vec Ideal S240x1024 .f32, x = iblk m hO c 3 t := ⟨_, rfl⟩
    obtain ⟨x4, h4⟩ : ∃ x : Vec Ideal S240x1024 .f32, x = iblk m hO c 4 t := ⟨_, rfl⟩
    obtain ⟨x5, h5⟩ : ∃ x : Vec Ideal S240x1024 .f32, x = iblk m hO c 5 t := ⟨_, rfl⟩
    rw [← h0, ← h1, ← h2, ← h3, ← h4, ← h5]
    frame_out
    unfold Ref24.delta Ref24.newM Ref24.newV sum
    pointwise [k0_pay1, k0_pay2, k0_pay3, k0_pay4, k0_pay5, k0_pay6]
    subst h0 h1 h2 h3 h4 h5
    blk_point [iblk, V, idx m hO s s' h h' t]

/-- The kernel's new first moment after the run. -/
theorem final_newM (h : (m ((Dev.tc 0).loc main_arg0) (ix1 0)).toNat = s.val) (h' : (m ((Dev.tc 0).loc main_arg0) (ix1 1)).toNat = s'.val) (c : Dev nD) :
    (dats m hO 0 c).arrAt 8 (cfgM m hO).N = Ref24.newM (m ((c : Thread nD τ).loc main_arg5)) (sum s s' (m ((c : Thread nD τ).loc main_arg1)) (m ((c : Thread nD τ).loc main_arg2)) (m ((c : Thread nD τ).loc main_arg3))) := by
  refine (dats m hO 0 c).arrAt_eq_of_covers 8 _ (Pipeline.Window.covers_of_index_surj _ rfl (fun a => size_pos a) fun β => ?_) fun t _ y => ?_
  · have b0 : (β (0 : Fin 2)).val < 2 := (show _ < ((480 : Nat) + 240 - 1) / 240 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.2.2.1) a).trans ?_⟩
    fin_cases a
    · exact ht
    · exact (Nat.lt_one_iff.mp b1).symm
  · blk_simp
    rw [after0_8]
    dsimp only [outsAt0]
    obtain ⟨x0, h0⟩ : ∃ x : Vec Ideal S1x240x1024 .bf16, x = iblk m hO c 0 t := ⟨_, rfl⟩
    obtain ⟨x1, h1⟩ : ∃ x : Vec Ideal S1x240x1024 .bf16, x = iblk m hO c 1 t := ⟨_, rfl⟩
    obtain ⟨x2, h2⟩ : ∃ x : Vec Ideal S3x240x1024 .bf16, x = iblk m hO c 2 t := ⟨_, rfl⟩
    obtain ⟨x3, h3⟩ : ∃ x : Vec Ideal S240x1024 .f32, x = iblk m hO c 3 t := ⟨_, rfl⟩
    obtain ⟨x4, h4⟩ : ∃ x : Vec Ideal S240x1024 .f32, x = iblk m hO c 4 t := ⟨_, rfl⟩
    obtain ⟨x5, h5⟩ : ∃ x : Vec Ideal S240x1024 .f32, x = iblk m hO c 5 t := ⟨_, rfl⟩
    rw [← h0, ← h1, ← h2, ← h3, ← h4, ← h5]
    frame_out
    unfold Ref24.newM sum
    pointwise [k0_pay3, k0_pay4]
    subst h0 h1 h2 h3 h4 h5
    blk_point [iblk, V, idx m hO s s' h h' t]

/-- The kernel's new second moment after the run. -/
theorem final_newV (h : (m ((Dev.tc 0).loc main_arg0) (ix1 0)).toNat = s.val) (h' : (m ((Dev.tc 0).loc main_arg0) (ix1 1)).toNat = s'.val) (c : Dev nD) :
    (dats m hO 0 c).arrAt 9 (cfgM m hO).N = Ref24.newV (m ((c : Thread nD τ).loc main_arg6)) (sum s s' (m ((c : Thread nD τ).loc main_arg1)) (m ((c : Thread nD τ).loc main_arg2)) (m ((c : Thread nD τ).loc main_arg3))) := by
  refine (dats m hO 0 c).arrAt_eq_of_covers 9 _ (Pipeline.Window.covers_of_index_surj _ rfl (fun a => size_pos a) fun β => ?_) fun t _ y => ?_
  · have b0 : (β (0 : Fin 2)).val < 2 := (show _ < ((480 : Nat) + 240 - 1) / 240 from (β (0 : Fin 2)).isLt).trans_eq (by decide)
    have b1 : (β (1 : Fin 2)).val < 1 := (show _ < ((1024 : Nat) + 1024 - 1) / 1024 from (β (1 : Fin 2)).isLt).trans_eq (by decide)
    obtain ⟨t, ht⟩ := surj ⟨_, b0⟩
    refine ⟨t, fun a => (congrFun ((idx m hO s s' h h' t).2.2.2.2.2.2.2.2.2) a).trans ?_⟩
    fin_cases a
    · exact ht
    · exact (Nat.lt_one_iff.mp b1).symm
  · blk_simp
    rw [after0_9]
    dsimp only [outsAt0]
    obtain ⟨x0, h0⟩ : ∃ x : Vec Ideal S1x240x1024 .bf16, x = iblk m hO c 0 t := ⟨_, rfl⟩
    obtain ⟨x1, h1⟩ : ∃ x : Vec Ideal S1x240x1024 .bf16, x = iblk m hO c 1 t := ⟨_, rfl⟩
    obtain ⟨x2, h2⟩ : ∃ x : Vec Ideal S3x240x1024 .bf16, x = iblk m hO c 2 t := ⟨_, rfl⟩
    obtain ⟨x3, h3⟩ : ∃ x : Vec Ideal S240x1024 .f32, x = iblk m hO c 3 t := ⟨_, rfl⟩
    obtain ⟨x4, h4⟩ : ∃ x : Vec Ideal S240x1024 .f32, x = iblk m hO c 4 t := ⟨_, rfl⟩
    obtain ⟨x5, h5⟩ : ∃ x : Vec Ideal S240x1024 .f32, x = iblk m hO c 5 t := ⟨_, rfl⟩
    rw [← h0, ← h1, ← h2, ← h3, ← h4, ← h5]
    frame_out
    unfold Ref24.newV sum
    pointwise [k0_pay1, k0_pay3, k0_pay5, k0_pay6]
    subst h0 h1 h2 h3 h4 h5
    blk_point [iblk, V, idx m hO s s' h h' t]

end Value

open Cert.Kernel24Ideal in
/-- The kernel's results are the reference's. -/
theorem algebraic : Cert.algebraic_Kernel24Ideal_Reference24Ideal := by
  intro m g m' g' hp hm
  have hO := okIdeal m hp
  obtain ⟨s, s', hs, hs'⟩ := slots_fin _ _ _ _ _ _ _ (hp 0)
  refine ⟨fun c => sum s s' (m ((c.tc : Thread nD τ).loc main_arg1)) (m ((c.tc : Thread nD τ).loc main_arg2)) (m ((c.tc : Thread nD τ).loc main_arg3)), fun c => Ref24.delta (m ((c.tc : Thread nD τ).loc main_arg4)) (m ((c.tc : Thread nD τ).loc main_arg5)) (m ((c.tc : Thread nD τ).loc main_arg6)) (sum s s' (m ((c.tc : Thread nD τ).loc main_arg1)) (m ((c.tc : Thread nD τ).loc main_arg2)) (m ((c.tc : Thread nD τ).loc main_arg3))), fun c => Ref24.newM (m ((c.tc : Thread nD τ).loc main_arg5)) (sum s s' (m ((c.tc : Thread nD τ).loc main_arg1)) (m ((c.tc : Thread nD τ).loc main_arg2)) (m ((c.tc : Thread nD τ).loc main_arg3))), fun c => Ref24.newV (m ((c.tc : Thread nD τ).loc main_arg6)) (sum s s' (m ((c.tc : Thread nD τ).loc main_arg1)) (m ((c.tc : Thread nD τ).loc main_arg2)) (m ((c.tc : Thread nD τ).loc main_arg3))),
    (θ_run _ _ _).mono (fun r h c => ⟨((h.1 c).1 6).trans (final_sum m hO s s' hs hs' c), ((h.1 c).1 7).trans (final_delta m hO s s' hs hs' c), ((h.1 c).1 8).trans (final_newM m hO s s' hs hs' c), ((h.1 c).1 9).trans (final_newV m hO s s' hs hs' c), h.2 c⟩)
      (θ_run_and (Gen.run_main m g hO) (Gen.unchanged m g hO)), (θ_run _ _ _).mono (fun r h c => ?_) (Cert.Proof.Ref24.run (F := Ideal) m' g')⟩
  obtain ⟨e0, e1, e2, e3, e4, e5, e6⟩ := hm c
  obtain rfl : c = 0 := Subsingleton.elim (α := Fin 1) _ _
  have t : Ref24.total (F := Ideal) (m' ((Dev.tc 0).loc Cert.Reference24Ideal.main_arg0)) (m' ((Dev.tc 0).loc Cert.Reference24Ideal.main_arg1)) (m' ((Dev.tc 0).loc Cert.Reference24Ideal.main_arg2)) (m' ((Dev.tc 0).loc Cert.Reference24Ideal.main_arg3)) = sum s s' (m ((Dev.tc 0).loc main_arg1)) (m ((Dev.tc 0).loc main_arg2)) (m ((Dev.tc 0).loc main_arg3)) :=
    (by rw [e0, e1, e2, e3]; exact reference_sum s s' _ _ _ _ hs hs')
  refine ⟨(h 0).1.trans t, (h 0).2.1.trans ?_, (h 0).2.2.1.trans ?_, (h 0).2.2.2.1.trans ?_, (h 0).2.2.2.2⟩
  · rw [t, e4, e5, e6]
  · rw [t, e5]
  · rw [t, e6]

/-- The reference's runs end with the arguments as they were. -/
theorem reference_frame : Cert.quiescent_Reference24Ideal := fun m g _ =>
  (θ_run _ _ _).mono (fun r h => ⟨fun c => (h c).2.2.2.2, sem_eq_zero_of_no_sems (by decide) r.2⟩) (Cert.Proof.Ref24.run (F := Ideal) m g)

end Cert.Proof.Call24
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Kernel16Ideal.Value
public import proofs.«01_k».proof.Proof.Gen.Kernel17Ideal.Value
public import proofs.«01_k».proof.Proof.Gen.Kernel18Ideal.Value
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.SameText
public import proofs.«01_k».proof.Proof.Attn
public import proofs.«01_k».proof.Proof.FfnDownBwd
public import proofs.«01_k».proof.Proof.FfnInDw
public import proofs.«01_k».proof.Proof.ProjInDw
public import proofs.«01_k».proof.Proof.FfnDownDw
public import proofs.«01_k».proof.Proof.FfnInSwiglu
public import proofs.«01_k».proof.Proof.ProjIn
public import proofs.«01_k».proof.Proof.OutProjBwdMerge
public import proofs.«01_k».proof.Proof.OutProjDw
public import proofs.«01_k».proof.Proof.AttnProjBwd
public import proofs.«01_k».proof.Proof.ConvProjBwd
public import proofs.«01_k».proof.Proof.AttnProjDw
public import proofs.«01_k».proof.Proof.ConvProjDw
public import proofs.«01_k».proof.Proof.ProjMerge
public import proofs.«01_k».proof.Proof.OutProjRms
public import proofs.«01_k».proof.Proof.FfnInBwd
public import proofs.«01_k».proof.Proof.ProjInBwd
public import proofs.«01_k».proof.Proof.FfnDownLoss
public import proofs.«01_k».proof.Proof.ConvWAdamw
public import proofs.«01_k».proof.Proof.AttnProjAdamw
public import proofs.«01_k».proof.Proof.OutProjAdamw
public import proofs.«01_k».proof.Proof.FfnDownAdamw
public import proofs.«01_k».proof.Proof.FfnInAdamw
public import proofs.«01_k».proof.Proof.ProjInAdamw

@[expose] public section

noncomputable section

namespace Cert.Proof

open Idealize.ShloMosaic

/-- The reference's runs end with the arguments as they were; it has no counters. -/
theorem reference_frame : Cert.quiescent_ReferenceIdeal := fun m g _ =>
  (θ_run _ _ _).mono (fun r h => ⟨fun c => ⟨(h c).2.2.1, (h c).2.2.2.1, (h c).2.2.2.2⟩, sem_eq_zero_of_no_sems (by decide) r.2⟩)
    (Cert.ReferenceIdeal.Value.run (F := Ideal) m g)

/-- Everything the statement certifies. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, finiteFacts, Call2.finiteFacts, Call20.finiteFacts, Call21.finiteFacts, Call22.finiteFacts, Call23.finiteFacts, Call24.finiteFacts,
  fun m g _ => kernel_frame m g,
  fun m g _ => KernelIdeal.frame_run (F := Ideal) m g,
  fun m g _ => KernelIdeal.frame_run (F := Ideal) m g,
  reference_frame,
  fun m g _ => reference_frame m g trivial,
  fun m ρ _ => Cert.Kernel2.Gen.frame m ρ,
  fun m ρ _ => Cert.Kernel2Ideal.Gen.frame (F := Ideal) m ρ,
  fun m ρ _ => Cert.Kernel2Ideal.Gen.frame (F := Ideal) m ρ,
  Call2.reference_frame,
  fun m g _ => Call2.reference_frame m g trivial,
  fun m ρ _ => Cert.Kernel3.Gen.frame m ρ,
  fun m ρ _ => Cert.Kernel3Ideal.Gen.frame (F := Ideal) m ρ,
  Call3.reference_frame,
  fun m ρ _ => Cert.Kernel4.Gen.frame m ρ,
  fun m ρ _ => Cert.Kernel4Ideal.Gen.frame (F := Ideal) m ρ,
  Call4.reference_frame,
  fun m ρ _ => Cert.Kernel5.Gen.frame m ρ,
  fun m ρ _ => Cert.Kernel5Ideal.Gen.frame (F := Ideal) m ρ,
  Call5.reference_frame,
  fun m ρ _ => Cert.Kernel6.Gen.frame m ρ,
  fun m ρ _ => Cert.Kernel6Ideal.Gen.frame (F := Ideal) m ρ,
  Call6.reference_frame,
  fun m ρ _ => Cert.Kernel7.Gen.frame m ρ,
  fun m ρ _ => Cert.Kernel7Ideal.Gen.frame (F := Ideal) m ρ,
  Call7.reference_frame,
  fun m ρ _ => Cert.Kernel8.Gen.frame m ρ,
  fun m ρ _ => Cert.Kernel8Ideal.Gen.frame (F := Ideal) m ρ,
  Call8.reference_frame,
  fun m ρ _ => Cert.Kernel9.Gen.frame m ρ,
  fun m ρ _ => Cert.Kernel9Ideal.Gen.frame (F := Ideal) m ρ,
  Call9.reference_frame,
  fun m ρ _ => Cert.Kernel10.Gen.frame m ρ,
  fun m ρ _ => Cert.Kernel10Ideal.Gen.frame (F := Ideal) m ρ,
  Call10.reference_frame,
  fun m ρ _ => Cert.Kernel11.Gen.frame m ρ,
  fun m ρ _ => Cert.Kernel11Ideal.Gen.frame (F := Ideal) m ρ,
  Call11.reference_frame,
  fun m ρ _ => Cert.Kernel12.Gen.frame m ρ,
  fun m ρ _ => Cert.Kernel12Ideal.Gen.frame (F := Ideal) m ρ,
  Call12.reference_frame,
  fun m ρ _ => Cert.Kernel13.Gen.frame m ρ,
  fun m ρ _ => Cert.Kernel13Ideal.Gen.frame (F := Ideal) m ρ,
  Call13.reference_frame,
  fun m ρ _ => Cert.Kernel14.Gen.frame m ρ,
  fun m ρ _ => Cert.Kernel14Ideal.Gen.frame (F := Ideal) m ρ,
  Call14.reference_frame,
  fun m ρ _ => Cert.Kernel15.Gen.frame m ρ,
  fun m ρ _ => Cert.Kernel15Ideal.Gen.frame (F := Ideal) m ρ,
  Call15.reference_frame,
  fun m ρ _ => Cert.Kernel16.Gen.frame m ρ,
  fun m ρ _ => Cert.Kernel16Ideal.Gen.frame (F := Ideal) m ρ,
  Call16.reference_frame,
  fun m ρ _ => Cert.Kernel17.Gen.frame m ρ,
  fun m ρ _ => Cert.Kernel17Ideal.Gen.frame (F := Ideal) m ρ,
  Call17.reference_frame,
  fun m ρ _ => Cert.Kernel18.Gen.frame m ρ,
  fun m ρ _ => Cert.Kernel18Ideal.Gen.frame (F := Ideal) m ρ,
  Call18.reference_frame,
  fun m ρ _ => Cert.Kernel19.Gen.frame m ρ,
  fun m ρ _ => Cert.Kernel19Ideal.Gen.frame (F := Ideal) m ρ,
  Call19.reference_frame,
  fun m ρ h => Cert.Kernel20.Gen.frame m ρ (Call20.ok m h),
  fun m ρ h => Cert.Kernel20Ideal.Gen.frame (F := Ideal) m ρ (Call20.okIdeal m h),
  Call20.reference_frame,
  fun m g _ => Call20.reference_frame m g trivial,
  fun m ρ h => Cert.Kernel21.Gen.frame m ρ (Call21.ok m h),
  fun m ρ h => Cert.Kernel21Ideal.Gen.frame (F := Ideal) m ρ (Call21.okIdeal m h),
  Call21.reference_frame,
  fun m g _ => Call21.reference_frame m g trivial,
  fun m ρ h => Cert.Kernel22.Gen.frame m ρ (Call22.ok m h),
  fun m ρ h => Cert.Kernel22Ideal.Gen.frame (F := Ideal) m ρ (Call22.okIdeal m h),
  Call22.reference_frame,
  fun m g _ => Call22.reference_frame m g trivial,
  fun m ρ h => Cert.Kernel23.Gen.frame m ρ (Call23.ok m h),
  fun m ρ h => Cert.Kernel23Ideal.Gen.frame (F := Ideal) m ρ (Call23.okIdeal m h),
  Call23.reference_frame,
  fun m g _ => Call23.reference_frame m g trivial,
  fun m ρ h => Cert.Kernel24.Gen.frame m ρ (Call24.ok m h),
  fun m ρ h => Cert.Kernel24Ideal.Gen.frame (F := Ideal) m ρ (Call24.okIdeal m h),
  Call24.reference_frame,
  fun m g _ => Call24.reference_frame m g trivial,
  IdealRules.named_const.statement Cert.KernelIdeal.κ "mask" .f32 0xF149F2CA#32 ⊥ rfl,
  attn_algebraic,
  trivial,
  Call2.algebraic,
  trivial,
  Call3.algebraic,
  trivial,
  Call4.algebraic,
  trivial,
  Call5.algebraic,
  trivial,
  Call6.algebraic,
  trivial,
  Call7.algebraic,
  trivial,
  Call8.algebraic,
  trivial,
  Call9.algebraic,
  trivial,
  Call10.algebraic,
  trivial,
  Call11.algebraic,
  trivial,
  Call12.algebraic,
  trivial,
  Call13.algebraic,
  trivial,
  Call14.algebraic,
  trivial,
  Call15.algebraic,
  trivial,
  Call16.algebraic,
  trivial,
  Call17.algebraic,
  trivial,
  Call18.algebraic,
  trivial,
  Call19.algebraic,
  trivial,
  Call20.algebraic,
  trivial,
  Call21.algebraic,
  trivial,
  Call22.algebraic,
  trivial,
  Call23.algebraic,
  trivial,
  Call24.algebraic⟩

end Cert.Proof

end
